-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_up_dx_finite [hPre_up_dx_finite : Cert.Pre_up_dx_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_up_dx_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_up_dx_finite [hPre_up_dx_finite : Cert.Pre_up_dx_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_up_dx_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_in_dx_finite [hPre_in_dx_finite : Cert.Pre_in_dx_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_in_dx_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_in_dx_finite [hPre_in_dx_finite : Cert.Pre_in_dx_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_in_dx_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_sc_dx_finite [hPre_sc_dx_finite : Cert.Pre_sc_dx_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_sc_dx_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_sc_dx_finite [hPre_sc_dx_finite : Cert.Pre_sc_dx_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_sc_dx_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_act_bwd_finite [hPre_act_bwd_finite : Cert.Pre_act_bwd_finite.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_act_bwd_finite.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5)) (m ((c.tc : Thread Cert.Kernel22Ideal.nD Cert.Kernel22Ideal.τ).loc Cert.Kernel22Ideal.main_arg6))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_act_bwd_finite [hPre_act_bwd_finite : Cert.Pre_act_bwd_finite.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_act_bwd_finite.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5)) (m ((c.tc : Thread Cert.Reference22Ideal.nD Cert.Reference22Ideal.τ).loc Cert.Reference22Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_up_dx_finite [hKernel3Ideal : Cert.Kernel3Ideal.Facts] [hPre_up_dx_finite : Cert.Pre_up_dx_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_up_dx_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_up_dx_finite [hReference3Ideal : Cert.Reference3Ideal.Facts] [hPre_up_dx_finite : Cert.Pre_up_dx_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_up_dx_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_in_dx_finite [hKernel6Ideal : Cert.Kernel6Ideal.Facts] [hPre_in_dx_finite : Cert.Pre_in_dx_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_in_dx_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_in_dx_finite [hReference6Ideal : Cert.Reference6Ideal.Facts] [hPre_in_dx_finite : Cert.Pre_in_dx_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_in_dx_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_sc_dx_finite [hKernel7Ideal : Cert.Kernel7Ideal.Facts] [hPre_sc_dx_finite : Cert.Pre_sc_dx_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_sc_dx_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_sc_dx_finite [hReference7Ideal : Cert.Reference7Ideal.Facts] [hPre_sc_dx_finite : Cert.Pre_sc_dx_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_sc_dx_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Kernel22Ideal_pre_act_bwd_finite [hKernel22Ideal : Cert.Kernel22Ideal.Facts] [hPre_act_bwd_finite : Cert.Pre_act_bwd_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_act_bwd_finite m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Reference22Ideal_pre_act_bwd_finite [hReference22Ideal : Cert.Reference22Ideal.Facts] [hPre_act_bwd_finite : Cert.Pre_act_bwd_finite.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_act_bwd_finite m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_up_dx_finite [hKernel3Ideal : Cert.Kernel3Ideal.Facts] [hReference3Ideal : Cert.Reference3Ideal.Facts] [hPre_up_dx_finite : Cert.Pre_up_dx_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_up_dx_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v81) = v0 c
          ∧ r.2.mem ((c.tc : Thread Cert.Reference3Ideal.nD Cert.Reference3Ideal.τ).loc Cert.Reference3Ideal.main_v82) = v1 c
          ∧ r.2.mem ((c.tc : Thread Cert.Reference3Ideal.nD Cert.Reference3Ideal.τ).loc Cert.Reference3Ideal.main_v83) = v2 c
          ∧ r.2.mem ((c.tc : Thread Cert.Reference3Ideal.nD Cert.Reference3Ideal.τ).loc Cert.Reference3Ideal.main_v84) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_in_dx_finite [hKernel6Ideal : Cert.Kernel6Ideal.Facts] [hReference6Ideal : Cert.Reference6Ideal.Facts] [hPre_in_dx_finite : Cert.Pre_in_dx_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_in_dx_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v74) = v0 c
          ∧ r.2.mem ((c.tc : Thread Cert.Reference6Ideal.nD Cert.Reference6Ideal.τ).loc Cert.Reference6Ideal.main_v75) = v1 c
          ∧ r.2.mem ((c.tc : Thread Cert.Reference6Ideal.nD Cert.Reference6Ideal.τ).loc Cert.Reference6Ideal.main_v76) = v2 c
          ∧ r.2.mem ((c.tc : Thread Cert.Reference6Ideal.nD Cert.Reference6Ideal.τ).loc Cert.Reference6Ideal.main_v77) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_sc_dx_finite [hKernel7Ideal : Cert.Kernel7Ideal.Facts] [hReference7Ideal : Cert.Reference7Ideal.Facts] [hPre_sc_dx_finite : Cert.Pre_sc_dx_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_sc_dx_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v73) = v0 c
          ∧ r.2.mem ((c.tc : Thread Cert.Reference7Ideal.nD Cert.Reference7Ideal.τ).loc Cert.Reference7Ideal.main_v74) = v1 c
          ∧ r.2.mem ((c.tc : Thread Cert.Reference7Ideal.nD Cert.Reference7Ideal.τ).loc Cert.Reference7Ideal.main_v75) = v2 c
          ∧ r.2.mem ((c.tc : Thread Cert.Reference7Ideal.nD Cert.Reference7Ideal.τ).loc Cert.Reference7Ideal.main_v76) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_v33) = v1 c
          ∧ r.2.mem ((c.tc : Thread Cert.Reference8Ideal.nD Cert.Reference8Ideal.τ).loc Cert.Reference8Ideal.main_v30) = v2 c
          ∧ r.2.mem ((c.tc : Thread Cert.Reference8Ideal.nD Cert.Reference8Ideal.τ).loc Cert.Reference8Ideal.main_v31) = v3 c
          ∧ r.2.mem ((c.tc : Thread Cert.Reference8Ideal.nD Cert.Reference8Ideal.τ).loc Cert.Reference8Ideal.main_v36) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_v58) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v31) = v0 c
          ∧ r.2.mem ((c.tc : Thread Cert.Reference19Ideal.nD Cert.Reference19Ideal.τ).loc Cert.Reference19Ideal.main_v58) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v31) = v0 c
          ∧ r.2.mem ((c.tc : Thread Cert.Reference20Ideal.nD Cert.Reference20Ideal.τ).loc Cert.Reference20Ideal.main_v58) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_v32) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal_pre_act_bwd_finite [hKernel22Ideal : Cert.Kernel22Ideal.Facts] [hReference22Ideal : Cert.Reference22Ideal.Facts] [hPre_act_bwd_finite : Cert.Pre_act_bwd_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_act_bwd_finite m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v91) = v0 c
          ∧ r.2.mem ((c.tc : Thread Cert.Reference22Ideal.nD Cert.Reference22Ideal.τ).loc Cert.Reference22Ideal.main_v92) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_up_dx_finite : Cert.Pre_up_dx_finite.Facts) (hPre_in_dx_finite : Cert.Pre_in_dx_finite.Facts) (hPre_sc_dx_finite : Cert.Pre_sc_dx_finite.Facts) (hPre_act_bwd_finite : Cert.Pre_act_bwd_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_up_dx_finite (hKernel3Ideal := hKernel3Ideal) (hPre_up_dx_finite := hPre_up_dx_finite)
    ∧ quiescent_Reference3Ideal (hReference3Ideal := hReference3Ideal)
    ∧ quiescent_Reference3Ideal_pre_up_dx_finite (hReference3Ideal := hReference3Ideal) (hPre_up_dx_finite := hPre_up_dx_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_in_dx_finite (hKernel6Ideal := hKernel6Ideal) (hPre_in_dx_finite := hPre_in_dx_finite)
    ∧ quiescent_Reference6Ideal (hReference6Ideal := hReference6Ideal)
    ∧ quiescent_Reference6Ideal_pre_in_dx_finite (hReference6Ideal := hReference6Ideal) (hPre_in_dx_finite := hPre_in_dx_finite)
    ∧ quiescent_Kernel7 (hKernel7 := hKernel7)
    ∧ quiescent_Kernel7Ideal (hKernel7Ideal := hKernel7Ideal)
    ∧ quiescent_Kernel7Ideal_pre_sc_dx_finite (hKernel7Ideal := hKernel7Ideal) (hPre_sc_dx_finite := hPre_sc_dx_finite)
    ∧ quiescent_Reference7Ideal (hReference7Ideal := hReference7Ideal)
    ∧ quiescent_Reference7Ideal_pre_sc_dx_finite (hReference7Ideal := hReference7Ideal) (hPre_sc_dx_finite := hPre_sc_dx_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_act_bwd_finite (hKernel22Ideal := hKernel22Ideal) (hPre_act_bwd_finite := hPre_act_bwd_finite)
    ∧ quiescent_Reference22Ideal (hReference22Ideal := hReference22Ideal)
    ∧ quiescent_Reference22Ideal_pre_act_bwd_finite (hReference22Ideal := hReference22Ideal) (hPre_act_bwd_finite := hPre_act_bwd_finite)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_up_dx_finite (hKernel3Ideal := hKernel3Ideal) (hReference3Ideal := hReference3Ideal) (hPre_up_dx_finite := hPre_up_dx_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_in_dx_finite (hKernel6Ideal := hKernel6Ideal) (hReference6Ideal := hReference6Ideal) (hPre_in_dx_finite := hPre_in_dx_finite)
    ∧ preserves_Kernel7_Kernel7Ideal
    ∧ algebraic_Kernel7Ideal_Reference7Ideal_pre_sc_dx_finite (hKernel7Ideal := hKernel7Ideal) (hReference7Ideal := hReference7Ideal) (hPre_sc_dx_finite := hPre_sc_dx_finite)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_act_bwd_finite (hKernel22Ideal := hKernel22Ideal) (hReference22Ideal := hReference22Ideal) (hPre_act_bwd_finite := hPre_act_bwd_finite)
-- ==== Pre_act_bwd_finite.lean ====
abbrev S4x2048x2816 : Shape := ⟨3, ![4, 2048, 2816]⟩
abbrev S4x2048x1024 : Shape := ⟨3, ![4, 2048, 1024]⟩
abbrev S2816x1024 : Shape := ⟨2, ![2816, 1024]⟩
abbrev S3x5632 : Shape := ⟨2, ![3, 5632]⟩
abbrev S_ : Shape := ⟨0, ![]⟩

class Facts : Prop where
  bcast_S_S4x2048x2816 : S_.BroadcastsInDim S4x2048x2816 (![] : Fin 0 → Fin S4x2048x2816.rank)
  reducesTo_S4x2048x2816_S_d0_1_2 : S4x2048x2816.ReducesTo [0, 1, 2] S_
  h_S_ : 0 < S_.numel
  bitsLt_bf16_f32 : FTy.bits .bf16 < FTy.bits .f32
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S4x2048x2816 .f32) (main_arg1 : FVec F S4x2048x2816 .f32) (main_arg2 : FVec F S4x2048x2816 .f32) (main_arg3 : FVec F S4x2048x2816 .f32) (main_arg4 : FVec F S4x2048x1024 .bf16) (main_arg5 : FVec F S2816x1024 .bf16) (main_arg6 : FVec F S3x5632 .f32) : IVec S_ 1 :=
  let main_v0 : FVec F S4x2048x2816 .f32 := Host.absf main_arg3
  let main_cst : FVec F S_ .f32 := constant S_ .f32 0x7F800000#32
  let main_v1 : FVec F S4x2048x2816 .f32 := broadcastInDim S4x2048x2816 ![] bcast_S_S4x2048x2816 main_cst
  let main_v2 : IVec S4x2048x2816 1 := cmpf .olt main_v0 main_v1
  let main_c : IVec S_ 1 := constantI S_ 1 1#1
  let main_v3 : IVec S_ 1 := (fun x v => Host.reduce IntOp.andi x v reducesTo_S4x2048x2816_S_d0_1_2 h_S_) main_v2 main_c
  let main_v4 : FVec F S4x2048x1024 .f32 := (extf .f32 · bitsLt_bf16_f32) main_arg4
  let main_v5 : FVec F S4x2048x1024 .f32 := Host.absf main_v4
  let main_cst_0 : FVec F S_ .f32 := constant S_ .f32 0x7F800000#32
  let main_v6 : FVec F S4x2048x1024 .f32 := broadcastInDim S4x2048x1024 ![] bcast_S_S4x2048x1024 main_cst_0
  let main_v7 : IVec S4x2048x1024 1 := cmpf .olt main_v5 main_v6
  let main_c_1 : IVec S_ 1 := constantI S_ 1 1#1
  let main_v8 : IVec S_ 1 := (fun x v => Host.reduce IntOp.andi x v reducesTo_S4x2048x1024_S_d0_1_2 h_S_) main_v7 main_c_1
  let main_v9 : IVec S_ 1 := andi main_v3 main_v8
  let main_v10 : FVec F S2816x1024 .f32 := (extf .f32 · bitsLt_bf16_f32) main_arg5
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v9 main_v14
  main_v15
-- ==== Pre_in_dx_finite.lean ====
abbrev S8192x2560 : Shape := ⟨2, ![8192, 2560]⟩
abbrev S2560x1024 : Shape := ⟨2, ![2560, 1024]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S2560x1024 : S_.BroadcastsInDim S2560x1024 (![] : Fin 0 → Fin S2560x1024.rank)
  reducesTo_S2560x1024_S_d0_1 : S2560x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S8192x2560 .bf16) (main_arg1 : FVec F S2560x1024 .bf16) (main_arg2 : FVec F S8192x1024 .f32) (main_arg3 : FVec F S8192x1024 .f32) (main_arg4 : FVec F S1x1024 .f32) : IVec S_ 1 :=
  let main_v0 : FVec F S8192x2560 .f32 := (extf .f32 · bitsLt_bf16_f32) main_arg0
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  let main_c : IVec S_ 1 := constantI S_ 1 1#1
  let main_v4 : IVec S_ 1 := (fun x v => Host.reduce IntOp.andi x v reducesTo_S8192x2560_S_d0_1 h_S_) main_v3 main_c
  let main_v5 : FVec F S2560x1024 .f32 := (extf .f32 · bitsLt_bf16_f32) main_arg1
  let main_v6 : FVec F S2560x1024 .f32 := Host.absf main_v5
  let main_cst_0 : FVec F S_ .f32 := constant S_ .f32 0x7F800000#32
  let main_v7 : FVec F S2560x1024 .f32 := broadcastInDim S2560x1024 ![] bcast_S_S2560x1024 main_cst_0
  let main_v8 : IVec S2560x1024 1 := cmpf .olt main_v6 main_v7
  let main_c_1 : IVec S_ 1 := constantI S_ 1 1#1
  let main_v9 : IVec S_ 1 := (fun x v => Host.reduce IntOp.andi x v reducesTo_S2560x1024_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1x1024 .f32 := Host.absf main_arg4
  let main_cst_4 : FVec F S_ .f32 := constant S_ .f32 0x7F800000#32
  fn_part1 (F := F) main_v15 main_v16 main_cst_4
-- ==== Pre_sc_dx_finite.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S8192x3072 .bf16) (main_arg1 : FVec F S1024x3072 .bf16) (main_arg2 : FVec F S8192x1024 .f32) (main_arg3 : FVec F S8192x1024 .f32) (main_arg4 : FVec F S1x1024 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S1024x3072 .f32 := (extf .f32 · bitsLt_bf16_f32) main_arg1
  let main_v6 : FVec F S1024x3072 .f32 := Host.absf main_v5
  let main_cst_0 : FVec F S_ .f32 := constant S_ .f32 0x7F800000#32
  let main_v7 : FVec F S1024x3072 .f32 := broadcastInDim S1024x3072 ![] bcast_S_S1024x3072 main_cst_0
  let main_v8 : IVec S1024x3072 1 := cmpf .olt main_v6 main_v7
  let main_c_1 : IVec S_ 1 := constantI S_ 1 1#1
  let main_v9 : IVec S_ 1 := (fun x v => Host.reduce IntOp.andi x v reducesTo_S1024x3072_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1x1024 .f32 := Host.absf main_arg4
  let main_cst_4 : FVec F S_ .f32 := constant S_ .f32 0x7F800000#32
  fn_part1 (F := F) main_v15 main_v16 main_cst_4
-- ==== Pre_up_dx_finite.lean ====
abbrev S8192x2816 : Shape := ⟨2, ![8192, 2816]⟩
abbrev S5632x1024 : Shape := ⟨2, ![5632, 1024]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S5632x1024 : S_.BroadcastsInDim S5632x1024 (![] : Fin 0 → Fin S5632x1024.rank)
  reducesTo_S5632x1024_S_d0_1 : S5632x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v16 : IVec S_ 1) (main_v17 : FVec F S8192x1024 .f32) : IVec S_ 1 :=
  let main_cst_4 : FVec F S_ .f32 := constant S_ .f32 0x7F800000#32
  let main_v18 : FVec F S8192x1024 .f32 := broadcastInDim S8192x1024 ![] bcast_S_S8192x1024 main_cst_4
  let main_v19 : IVec S8192x1024 1 := cmpf .olt main_v17 main_v18
  let main_c_5 : IVec S_ 1 := constantI S_ 1 1#1
  let main_v20 : IVec S_ 1 := (fun x v => Host.reduce IntOp.andi x v reducesTo_S8192x1024_S_d0_1 h_S_) main_v19 main_c_5
  let main_v21 : IVec S_ 1 := andi main_v16 main_v20
  let main_v22 : FVec F S1x1024 .f32 := Host.absf main_arg5
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  main_v26

def fn {F : FTy → Type} [FloatOps F] (main_arg0 : FVec F S8192x2816 .bf16) (main_arg1 : FVec F S8192x2816 .bf16) (main_arg2 : FVec F S5632x1024 .bf16) (main_arg3 : FVec F S8192x1024 .f32) (main_arg4 : FVec F S8192x1024 .f32) (main_arg5 : FVec F S1x1024 .f32) : IVec S_ 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_v5 : FVec F S8192x2816 .f32 := (extf .f32 · bitsLt_bf16_f32) main_arg1
  let main_v6 : FVec F S8192x2816 .f32 := Host.absf main_v5
  let main_cst_0 : FVec F S_ .f32 := constant S_ .f32 0x7F800000#32
  let main_v7 : FVec F S8192x2816 .f32 := broadcastInDim S8192x2816 ![] bcast_S_S8192x2816 main_cst_0
  let main_v8 : IVec S8192x2816 1 := cmpf .olt main_v6 main_v7
  let main_c_1 : IVec S_ 1 := constantI S_ 1 1#1
  let main_v9 : IVec S_ 1 := (fun x v => Host.reduce IntOp.andi x v reducesTo_S8192x2816_S_d0_1 h_S_) main_v8 main_c_1
  let main_v10 : IVec S_ 1 := andi main_v4 main_v9
  let main_v11 : FVec F S5632x1024 .f32 := (extf .f32 · bitsLt_bf16_f32) main_arg2
  let main_v12 : FVec F S5632x1024 .f32 := Host.absf main_v11
  let main_cst_2 : FVec F S_ .f32 := constant S_ .f32 0x7F800000#32
  let main_v13 : FVec F S5632x1024 .f32 := broadcastInDim S5632x1024 ![] bcast_S_S5632x1024 main_cst_2
  let main_v14 : IVec S5632x1024 1 := cmpf .olt main_v12 main_v13
  let main_c_3 : IVec S_ 1 := constantI S_ 1 1#1
  let main_v15 : IVec S_ 1 := (fun x v => Host.reduce IntOp.andi x v reducesTo_S5632x1024_S_d0_1 h_S_) main_v14 main_c_3
  let main_v16 : IVec S_ 1 := andi main_v10 main_v15
  let main_v17 : FVec F S8192x1024 .f32 := Host.absf main_arg3
  fn_part1 (F := F) main_arg5 main_v16 main_v17
-- ==== Kernel.lean ====
abbrev S4x2048x2560 : Shape := ⟨3, ![4, 2048, 2560]⟩
abbrev S2560 : Shape := ⟨1, ![2560]⟩
abbrev S4x1280 : Shape := ⟨2, ![4, 1280]⟩
abbrev S1280 : Shape := ⟨1, ![1280]⟩
abbrev S10x128x256 : Shape := ⟨3, ![10, 128, 256]⟩
abbrev S10x256 : Shape := ⟨2, ![10, 256]⟩
abbrev S4x2048x1280 : Shape := ⟨3, ![4, 2048, 1280]⟩
abbrev S1x1x2560 : Shape := ⟨3, ![1, 1, 2560]⟩
abbrev S_ : Shape := ⟨0, ![]⟩
abbrev S4x3x1280 : Shape := ⟨3, ![4, 3, 1280]⟩
abbrev S4x2051x1280 : Shape := ⟨3, ![4, 2051, 1280]⟩
abbrev S1x1280 : Shape := ⟨2, ![1, 1280]⟩
abbrev S1x1x1280 : Shape := ⟨3, ![1, 1, 1280]⟩
abbrev S4x2048x10x128 : Shape := ⟨4, ![4, 2048, 10, 128]⟩
abbrev S10x256x4x2048 : Shape := ⟨4, ![10, 256, 4, 2048]⟩
abbrev S4x2048x10x256 : Shape := ⟨4, ![4, 2048, 10, 256]⟩
abbrev S1x1x10x256 : Shape := ⟨4, ![1, 1, 10, 256]⟩
abbrev S4x1024x1280 : Shape := ⟨3, ![4, 1024, 1280]⟩
abbrev S4x512x1280 : Shape := ⟨3, ![4, 512, 1280]⟩
abbrev S4x256x1280 : Shape := ⟨3, ![4, 256, 1280]⟩
abbrev S4x128x1280 : Shape := ⟨3, ![4, 128, 1280]⟩
abbrev S4x64x1280 : Shape := ⟨3, ![4, 64, 1280]⟩
abbrev S4x32x1280 : Shape := ⟨3, ![4, 32, 1280]⟩
abbrev S4x16x1280 : Shape := ⟨3, ![4, 16, 1280]⟩
abbrev S4x8x1280 : Shape := ⟨3, ![4, 8, 1280]⟩
abbrev S4x4x1280 : Shape := ⟨3, ![4, 4, 1280]⟩
abbrev S4x2x1280 : Shape := ⟨3, ![4, 2, 1280]⟩
abbrev S4x1x1280 : Shape := ⟨3, ![4, 1, 1280]⟩
abbrev S4x0x1280 : Shape := ⟨3, ![4, 0, 1280]⟩
abbrev S4x7x1280 : Shape := ⟨3, ![4, 7, 1280]⟩
abbrev S4x15x1280 : Shape := ⟨3, ![4, 15, 1280]⟩
abbrev S4x31x1280 : Shape := ⟨3, ![4, 31, 1280]⟩
abbrev S4x63x1280 : Shape := ⟨3, ![4, 63, 1280]⟩
abbrev S4x127x1280 : Shape := ⟨3, ![4, 127, 1280]⟩
abbrev S4x255x1280 : Shape := ⟨3, ![4, 255, 1280]⟩
abbrev S4x511x1280 : Shape := ⟨3, ![4, 511, 1280]⟩
abbrev S4x1023x1280 : Shape := ⟨3, ![4, 1023, 1280]⟩
abbrev S1x4x2048x1280 : Shape := ⟨4, ![1, 4, 2048, 1280]⟩
abbrev S6x4x2048x1280 : Shape := ⟨4, ![6, 4, 2048, 1280]⟩
abbrev S10x1x256 : Shape := ⟨3, ![10, 1, 256]⟩
abbrev S1x2048x128 : Shape := ⟨3, ![1, 2048, 128]⟩
abbrev S4x128 : Shape := ⟨2, ![4, 128]⟩
abbrev S1x128x256 : Shape := ⟨3, ![1, 128, 256]⟩
abbrev S1x128 : Shape := ⟨2, ![1, 128]⟩
abbrev S6x1x2048x128 : Shape := ⟨4, ![6, 1, 2048, 128]⟩
abbrev S1x1x256 : Shape := ⟨3, ![1, 1, 256]⟩
abbrev S2x2048x128 : Shape := ⟨3, ![2, 2048, 128]⟩
abbrev S2048x128 : Shape := ⟨2, ![2048, 128]⟩
abbrev S128x256 : Shape := ⟨2, ![128, 256]⟩
abbrev S1x1x2048x128 : Shape := ⟨4, ![1, 1, 2048, 128]⟩
abbrev S2040x128 : Shape := ⟨2, ![2040, 128]⟩
abbrev S8x128 : Shape := ⟨2, ![8, 128]⟩
abbrev S2032x128 : Shape := ⟨2, ![2032, 128]⟩
abbrev S16x128 : Shape := ⟨2, ![16, 128]⟩
abbrev S2016x128 : Shape := ⟨2, ![2016, 128]⟩
abbrev S32x128 : Shape := ⟨2, ![32, 128]⟩
abbrev S1984x128 : Shape := ⟨2, ![1984, 128]⟩
abbrev S64x128 : Shape := ⟨2, ![64, 128]⟩
abbrev S1920x128 : Shape := ⟨2, ![1920, 128]⟩
abbrev S128x128 : Shape := ⟨2, ![128, 128]⟩
abbrev S1792x128 : Shape := ⟨2, ![1792, 128]⟩
abbrev S256x128 : Shape := ⟨2, ![256, 128]⟩
abbrev S1536x128 : Shape := ⟨2, ![1536, 128]⟩
abbrev S512x128 : Shape := ⟨2, ![512, 128]⟩
abbrev S1024x128 : Shape := ⟨2, ![1024, 128]⟩
abbrev S128 : Shape := ⟨1, ![128]⟩
abbrev S2048x256 : Shape := ⟨2, ![2048, 256]⟩
abbrev S256 : Shape := ⟨1, ![256]⟩
abbrev S1x256 : Shape := ⟨2, ![1, 256]⟩

abbrev nBuf : Space → Nat
  | .hbm => 427
  | .vmem => 31
  | .smem => 0
  | _ => 0

abbrev hbmTy0_0 (i : Nat) : BufTy := match i % 128 with
  | 0 => ⟨S4x2048x2560, .f32⟩
  | 1 => ⟨S2560, .f32⟩
  | 2 => ⟨S4x1280, .f32⟩
  | 3 => ⟨S1280, .f32⟩
  | 4 => ⟨S10x128x256, .f32⟩
  | 5 => ⟨S10x256, .f32⟩
  | 6 => ⟨S1280, .f32⟩
  | 7 => ⟨S4x2048x1280, .f32⟩
  | 8 => ⟨S1x1x2560, .f32⟩
  | 9 => ⟨S4x2048x2560, .f32⟩
  | 10 => ⟨S4x2048x2560, .f32⟩
  | 11 => ⟨S4x2048x1280, .f32⟩
  | 12 => ⟨S4x2048x1280, .f32⟩
  | 13 => ⟨S_, .f32⟩
  | 14 => ⟨S4x3x1280, .f32⟩
  | 15 => ⟨S4x2051x1280, .f32⟩
  | 16 => ⟨S4x2048x1280, .f32⟩
  | 17 => ⟨S1x1280, .f32⟩
  | 18 => ⟨S1280, .f32⟩
  | 19 => ⟨S1x1x1280, .f32⟩
  | 20 => ⟨S4x2048x1280, .f32⟩
  | 21 => ⟨S4x2048x1280, .f32⟩
  | 22 => ⟨S1x1x1280, .f32⟩
  | 23 => ⟨S4x2048x1280, .f32⟩
  | 24 => ⟨S4x2048x1280, .f32⟩
  | 25 => ⟨S4x2048x1280, .f32⟩
  | 26 => ⟨S1x1280, .f32⟩
  | 27 => ⟨S1280, .f32⟩
  | 28 => ⟨S1x1x1280, .f32⟩
  | 29 => ⟨S4x2048x1280, .f32⟩
  | 30 => ⟨S4x2048x1280, .f32⟩
  | 31 => ⟨S4x2048x1280, .f32⟩
  | 32 => ⟨S4x2048x1280, .f32⟩
  | 33 => ⟨S1x1280, .f32⟩
  | 34 => ⟨S1280, .f32⟩
  | 35 => ⟨S1x1x1280, .f32⟩
  | 36 => ⟨S4x2048x1280, .f32⟩
  | 37 => ⟨S4x2048x1280, .f32⟩
  | 38 => ⟨S4x2048x1280, .f32⟩
  | 39 => ⟨S4x2048x1280, .f32⟩
  | 40 => ⟨S1x1280, .f32⟩
  | 41 => ⟨S1280, .f32⟩
  | 42 => ⟨S1x1x1280, .f32⟩
  | 43 => ⟨S4x2048x1280, .f32⟩
  | 44 => ⟨S4x2048x1280, .f32⟩
  | 45 => ⟨S4x2048x1280, .f32⟩
  | 46 => ⟨S4x2048x10x128, .f32⟩
  | 47 => ⟨S10x256x4x2048, .f32⟩
  | 48 => ⟨S4x2048x10x256, .f32⟩
  | 49 => ⟨S1x1x10x256, .f32⟩
  | 50 => ⟨S4x2048x10x256, .f32⟩
  | 51 => ⟨S4x2048x10x256, .f32⟩
  | 52 => ⟨S4x2048x10x128, .f32⟩
  | 53 => ⟨S4x2048x10x128, .f32⟩
  | 54 => ⟨S4x2048x10x128, .f32⟩
  | 55 => ⟨S4x2048x10x128, .f32⟩
  | 56 => ⟨S_, .f32⟩
  | 57 => ⟨S4x2048x10x128, .f32⟩
  | 58 => ⟨S4x2048x10x128, .f32⟩
  | 59 => ⟨S_, .f32⟩
  | 60 => ⟨S4x2048x10x128, .f32⟩
  | 61 => ⟨S4x2048x10x128, .f32⟩
  | 62 => ⟨S4x2048x1280, .f32⟩
  | 63 => ⟨S4x2048x10x128, .f32⟩
  | 64 => ⟨S4x2048x10x128, .f32⟩
  | 65 => ⟨S_, .f32⟩
  | 66 => ⟨S4x2048x10x128, .f32⟩
  | 67 => ⟨S4x2048x10x128, .f32⟩
  | 68 => ⟨S_, .f32⟩
  | 69 => ⟨S4x2048x10x128, .f32⟩
  | 70 => ⟨S4x2048x10x128, .f32⟩
  | 71 => ⟨S4x2048x1280, .f32⟩
  | 72 => ⟨S_, .f32⟩
  | 73 => ⟨S4x2048x1280, .f32⟩
  | 74 => ⟨S4x2048x1280, .f32⟩
  | 75 => ⟨S1280, .f32⟩
  | 76 => ⟨S_, .f32⟩
  | 77 => ⟨S1280, .f32⟩
  | 78 => ⟨S1280, .f32⟩
  | 79 => ⟨S1280, .f32⟩
  | 80 => ⟨S1280, .f32⟩
  | 81 => ⟨S1280, .i1⟩
  | 82 => ⟨S1280, .f32⟩
  | 83 => ⟨S1280, .f32⟩
  | 84 => ⟨S1280, .f32⟩
  | 85 => ⟨S1280, .f32⟩
  | 86 => ⟨S1280, .f32⟩
  | 87 => ⟨S1280, .f32⟩
  | 88 => ⟨S1280, .f32⟩
  | 89 => ⟨S1280, .f32⟩
  | 90 => ⟨S1x1x1280, .f32⟩
  | 91 => ⟨S4x2048x1280, .f32⟩
  | 92 => ⟨S4x2048x1280, .f32⟩
  | 93 => ⟨S4x2048x1280, .f32⟩
  | 94 => ⟨S_, .f32⟩
  | 95 => ⟨S4x2048x1280, .f32⟩
  | 96 => ⟨S4x2048x1280, .f32⟩
  | 97 => ⟨S4x2048x1280, .f32⟩
  | 98 => ⟨S4x2048x1280, .f32⟩
  | 99 => ⟨S4x2048x1280, .f32⟩
  | 100 => ⟨S4x2048x1280, .f32⟩
  | 101 => ⟨S4x2048x1280, .f32⟩
  | 102 => ⟨S4x1024x1280, .f32⟩
  | 103 => ⟨S4x1024x1280, .f32⟩
  | 104 => ⟨S4x1024x1280, .f32⟩
  | 105 => ⟨S4x1024x1280, .f32⟩
  | 106 => ⟨S4x1024x1280, .f32⟩
  | 107 => ⟨S4x1024x1280, .f32⟩
  | 108 => ⟨S4x1024x1280, .f32⟩
  | 109 => ⟨S4x512x1280, .f32⟩
  | 110 => ⟨S4x512x1280, .f32⟩
  | 111 => ⟨S4x512x1280, .f32⟩
  | 112 => ⟨S4x512x1280, .f32⟩
  | 113 => ⟨S4x512x1280, .f32⟩
  | 114 => ⟨S4x512x1280, .f32⟩
  | 115 => ⟨S4x512x1280, .f32⟩
  | 116 => ⟨S4x256x1280, .f32⟩
  | 117 => ⟨S4x256x1280, .f32⟩
  | 118 => ⟨S4x256x1280, .f32⟩
  | 119 => ⟨S4x256x1280, .f32⟩
  | 120 => ⟨S4x256x1280, .f32⟩
  | 121 => ⟨S4x256x1280, .f32⟩
  | 122 => ⟨S4x256x1280, .f32⟩
  | 123 => ⟨S4x128x1280, .f32⟩
  | 124 => ⟨S4x128x1280, .f32⟩
  | 125 => ⟨S4x128x1280, .f32⟩
  | 126 => ⟨S4x128x1280, .f32⟩
  | 127 => ⟨S4x128x1280, .f32⟩
  | _ => ⟨S4x2048x2560, .f32⟩

abbrev hbmTy0_1 (i : Nat) : BufTy := match i % 128 with
  | 0 => ⟨S4x128x1280, .f32⟩
  | 1 => ⟨S4x128x1280, .f32⟩
  | 2 => ⟨S4x64x1280, .f32⟩
  | 3 => ⟨S4x64x1280, .f32⟩
  | 4 => ⟨S4x64x1280, .f32⟩
  | 5 => ⟨S4x64x1280, .f32⟩
  | 6 => ⟨S4x64x1280, .f32⟩
  | 7 => ⟨S4x64x1280, .f32⟩
  | 8 => ⟨S4x64x1280, .f32⟩
  | 9 => ⟨S4x32x1280, .f32⟩
  | 10 => ⟨S4x32x1280, .f32⟩
  | 11 => ⟨S4x32x1280, .f32⟩
  | 12 => ⟨S4x32x1280, .f32⟩
  | 13 => ⟨S4x32x1280, .f32⟩
  | 14 => ⟨S4x32x1280, .f32⟩
  | 15 => ⟨S4x32x1280, .f32⟩
  | 16 => ⟨S4x16x1280, .f32⟩
  | 17 => ⟨S4x16x1280, .f32⟩
  | 18 => ⟨S4x16x1280, .f32⟩
  | 19 => ⟨S4x16x1280, .f32⟩
  | 20 => ⟨S4x16x1280, .f32⟩
  | 21 => ⟨S4x16x1280, .f32⟩
  | 22 => ⟨S4x16x1280, .f32⟩
  | 23 => ⟨S4x8x1280, .f32⟩
  | 24 => ⟨S4x8x1280, .f32⟩
  | 25 => ⟨S4x8x1280, .f32⟩
  | 26 => ⟨S4x8x1280, .f32⟩
  | 27 => ⟨S4x8x1280, .f32⟩
  | 28 => ⟨S4x8x1280, .f32⟩
  | 29 => ⟨S4x8x1280, .f32⟩
  | 30 => ⟨S4x4x1280, .f32⟩
  | 31 => ⟨S4x4x1280, .f32⟩
  | 32 => ⟨S4x4x1280, .f32⟩
  | 33 => ⟨S4x4x1280, .f32⟩
  | 34 => ⟨S4x4x1280, .f32⟩
  | 35 => ⟨S4x4x1280, .f32⟩
  | 36 => ⟨S4x4x1280, .f32⟩
  | 37 => ⟨S4x2x1280, .f32⟩
  | 38 => ⟨S4x2x1280, .f32⟩
  | 39 => ⟨S4x2x1280, .f32⟩
  | 40 => ⟨S4x2x1280, .f32⟩
  | 41 => ⟨S4x2x1280, .f32⟩
  | 42 => ⟨S4x2x1280, .f32⟩
  | 43 => ⟨S4x2x1280, .f32⟩
  | 44 => ⟨S4x1x1280, .f32⟩
  | 45 => ⟨S4x1x1280, .f32⟩
  | 46 => ⟨S4x1x1280, .f32⟩
  | 47 => ⟨S4x1x1280, .f32⟩
  | 48 => ⟨S4x1x1280, .f32⟩
  | 49 => ⟨S4x1x1280, .f32⟩
  | 50 => ⟨S4x1x1280, .f32⟩
  | 51 => ⟨S4x0x1280, .f32⟩
  | 52 => ⟨S4x0x1280, .f32⟩
  | 53 => ⟨S4x0x1280, .f32⟩
  | 54 => ⟨S4x0x1280, .f32⟩
  | 55 => ⟨S4x0x1280, .f32⟩
  | 56 => ⟨S4x0x1280, .f32⟩
  | 57 => ⟨S4x0x1280, .f32⟩
  | 58 => ⟨S4x1x1280, .f32⟩
  | 59 => ⟨S4x1x1280, .f32⟩
  | 60 => ⟨S4x1x1280, .f32⟩
  | 61 => ⟨S4x1x1280, .f32⟩
  | 62 => ⟨S_, .f32⟩
  | 63 => ⟨S4x2x1280, .f32⟩
  | 64 => ⟨S_, .f32⟩
  | 65 => ⟨S4x2x1280, .f32⟩
  | 66 => ⟨S4x2x1280, .f32⟩
  | 67 => ⟨S_, .f32⟩
  | 68 => ⟨S4x2x1280, .f32⟩
  | 69 => ⟨S_, .f32⟩
  | 70 => ⟨S4x2x1280, .f32⟩
  | 71 => ⟨S4x2x1280, .f32⟩
  | 72 => ⟨S4x1x1280, .f32⟩
  | 73 => ⟨S4x1x1280, .f32⟩
  | 74 => ⟨S4x1x1280, .f32⟩
  | 75 => ⟨S4x1x1280, .f32⟩
  | 76 => ⟨S4x1x1280, .f32⟩
  | 77 => ⟨S4x1x1280, .f32⟩
  | 78 => ⟨S4x1x1280, .f32⟩
  | 79 => ⟨S4x1x1280, .f32⟩
  | 80 => ⟨S4x2x1280, .f32⟩
  | 81 => ⟨S4x1x1280, .f32⟩
  | 82 => ⟨S4x2x1280, .f32⟩
  | 83 => ⟨S_, .f32⟩
  | 84 => ⟨S4x4x1280, .f32⟩
  | 85 => ⟨S_, .f32⟩
  | 86 => ⟨S4x4x1280, .f32⟩
  | 87 => ⟨S4x4x1280, .f32⟩
  | 88 => ⟨S_, .f32⟩
  | 89 => ⟨S4x4x1280, .f32⟩
  | 90 => ⟨S_, .f32⟩
  | 91 => ⟨S4x4x1280, .f32⟩
  | 92 => ⟨S4x4x1280, .f32⟩
  | 93 => ⟨S4x3x1280, .f32⟩
  | 94 => ⟨S4x3x1280, .f32⟩
  | 95 => ⟨S4x3x1280, .f32⟩
  | 96 => ⟨S4x3x1280, .f32⟩
  | 97 => ⟨S4x3x1280, .f32⟩
  | 98 => ⟨S4x3x1280, .f32⟩
  | 99 => ⟨S4x3x1280, .f32⟩
  | 100 => ⟨S4x1x1280, .f32⟩
  | 101 => ⟨S4x4x1280, .f32⟩
  | 102 => ⟨S4x1x1280, .f32⟩
  | 103 => ⟨S4x4x1280, .f32⟩
  | 104 => ⟨S_, .f32⟩
  | 105 => ⟨S4x8x1280, .f32⟩
  | 106 => ⟨S_, .f32⟩
  | 107 => ⟨S4x8x1280, .f32⟩
  | 108 => ⟨S4x8x1280, .f32⟩
  | 109 => ⟨S_, .f32⟩
  | 110 => ⟨S4x8x1280, .f32⟩
  | 111 => ⟨S_, .f32⟩
  | 112 => ⟨S4x8x1280, .f32⟩
  | 113 => ⟨S4x8x1280, .f32⟩
  | 114 => ⟨S4x7x1280, .f32⟩
  | 115 => ⟨S4x7x1280, .f32⟩
  | 116 => ⟨S4x7x1280, .f32⟩
  | 117 => ⟨S4x7x1280, .f32⟩
  | 118 => ⟨S4x7x1280, .f32⟩
  | 119 => ⟨S4x7x1280, .f32⟩
  | 120 => ⟨S4x7x1280, .f32⟩
  | 121 => ⟨S4x1x1280, .f32⟩
  | 122 => ⟨S4x8x1280, .f32⟩
  | 123 => ⟨S4x1x1280, .f32⟩
  | 124 => ⟨S4x8x1280, .f32⟩
  | 125 => ⟨S_, .f32⟩
  | 126 => ⟨S4x16x1280, .f32⟩
  | 127 => ⟨S_, .f32⟩
  | _ => ⟨S4x2048x2560, .f32⟩

abbrev hbmTy0_2 (i : Nat) : BufTy := match i % 128 with
  | 0 => ⟨S4x16x1280, .f32⟩
  | 1 => ⟨S4x16x1280, .f32⟩
  | 2 => ⟨S_, .f32⟩
  | 3 => ⟨S4x16x1280, .f32⟩
  | 4 => ⟨S_, .f32⟩
  | 5 => ⟨S4x16x1280, .f32⟩
  | 6 => ⟨S4x16x1280, .f32⟩
  | 7 => ⟨S4x15x1280, .f32⟩
  | 8 => ⟨S4x15x1280, .f32⟩
  | 9 => ⟨S4x15x1280, .f32⟩
  | 10 => ⟨S4x15x1280, .f32⟩
  | 11 => ⟨S4x15x1280, .f32⟩
  | 12 => ⟨S4x15x1280, .f32⟩
  | 13 => ⟨S4x15x1280, .f32⟩
  | 14 => ⟨S4x1x1280, .f32⟩
  | 15 => ⟨S4x16x1280, .f32⟩
  | 16 => ⟨S4x1x1280, .f32⟩
  | 17 => ⟨S4x16x1280, .f32⟩
  | 18 => ⟨S_, .f32⟩
  | 19 => ⟨S4x32x1280, .f32⟩
  | 20 => ⟨S_, .f32⟩
  | 21 => ⟨S4x32x1280, .f32⟩
  | 22 => ⟨S4x32x1280, .f32⟩
  | 23 => ⟨S_, .f32⟩
  | 24 => ⟨S4x32x1280, .f32⟩
  | 25 => ⟨S_, .f32⟩
  | 26 => ⟨S4x32x1280, .f32⟩
  | 27 => ⟨S4x32x1280, .f32⟩
  | 28 => ⟨S4x31x1280, .f32⟩
  | 29 => ⟨S4x31x1280, .f32⟩
  | 30 => ⟨S4x31x1280, .f32⟩
  | 31 => ⟨S4x31x1280, .f32⟩
  | 32 => ⟨S4x31x1280, .f32⟩
  | 33 => ⟨S4x31x1280, .f32⟩
  | 34 => ⟨S4x31x1280, .f32⟩
  | 35 => ⟨S4x1x1280, .f32⟩
  | 36 => ⟨S4x32x1280, .f32⟩
  | 37 => ⟨S4x1x1280, .f32⟩
  | 38 => ⟨S4x32x1280, .f32⟩
  | 39 => ⟨S_, .f32⟩
  | 40 => ⟨S4x64x1280, .f32⟩
  | 41 => ⟨S_, .f32⟩
  | 42 => ⟨S4x64x1280, .f32⟩
  | 43 => ⟨S4x64x1280, .f32⟩
  | 44 => ⟨S_, .f32⟩
  | 45 => ⟨S4x64x1280, .f32⟩
  | 46 => ⟨S_, .f32⟩
  | 47 => ⟨S4x64x1280, .f32⟩
  | 48 => ⟨S4x64x1280, .f32⟩
  | 49 => ⟨S4x63x1280, .f32⟩
  | 50 => ⟨S4x63x1280, .f32⟩
  | 51 => ⟨S4x63x1280, .f32⟩
  | 52 => ⟨S4x63x1280, .f32⟩
  | 53 => ⟨S4x63x1280, .f32⟩
  | 54 => ⟨S4x63x1280, .f32⟩
  | 55 => ⟨S4x63x1280, .f32⟩
  | 56 => ⟨S4x1x1280, .f32⟩
  | 57 => ⟨S4x64x1280, .f32⟩
  | 58 => ⟨S4x1x1280, .f32⟩
  | 59 => ⟨S4x64x1280, .f32⟩
  | 60 => ⟨S_, .f32⟩
  | 61 => ⟨S4x128x1280, .f32⟩
  | 62 => ⟨S_, .f32⟩
  | 63 => ⟨S4x128x1280, .f32⟩
  | 64 => ⟨S4x128x1280, .f32⟩
  | 65 => ⟨S_, .f32⟩
  | 66 => ⟨S4x128x1280, .f32⟩
  | 67 => ⟨S_, .f32⟩
  | 68 => ⟨S4x128x1280, .f32⟩
  | 69 => ⟨S4x128x1280, .f32⟩
  | 70 => ⟨S4x127x1280, .f32⟩
  | 71 => ⟨S4x127x1280, .f32⟩
  | 72 => ⟨S4x127x1280, .f32⟩
  | 73 => ⟨S4x127x1280, .f32⟩
  | 74 => ⟨S4x127x1280, .f32⟩
  | 75 => ⟨S4x127x1280, .f32⟩
  | 76 => ⟨S4x127x1280, .f32⟩
  | 77 => ⟨S4x1x1280, .f32⟩
  | 78 => ⟨S4x128x1280, .f32⟩
  | 79 => ⟨S4x1x1280, .f32⟩
  | 80 => ⟨S4x128x1280, .f32⟩
  | 81 => ⟨S_, .f32⟩
  | 82 => ⟨S4x256x1280, .f32⟩
  | 83 => ⟨S_, .f32⟩
  | 84 => ⟨S4x256x1280, .f32⟩
  | 85 => ⟨S4x256x1280, .f32⟩
  | 86 => ⟨S_, .f32⟩
  | 87 => ⟨S4x256x1280, .f32⟩
  | 88 => ⟨S_, .f32⟩
  | 89 => ⟨S4x256x1280, .f32⟩
  | 90 => ⟨S4x256x1280, .f32⟩
  | 91 => ⟨S4x255x1280, .f32⟩
  | 92 => ⟨S4x255x1280, .f32⟩
  | 93 => ⟨S4x255x1280, .f32⟩
  | 94 => ⟨S4x255x1280, .f32⟩
  | 95 => ⟨S4x255x1280, .f32⟩
  | 96 => ⟨S4x255x1280, .f32⟩
  | 97 => ⟨S4x255x1280, .f32⟩
  | 98 => ⟨S4x1x1280, .f32⟩
  | 99 => ⟨S4x256x1280, .f32⟩
  | 100 => ⟨S4x1x1280, .f32⟩
  | 101 => ⟨S4x256x1280, .f32⟩
  | 102 => ⟨S_, .f32⟩
  | 103 => ⟨S4x512x1280, .f32⟩
  | 104 => ⟨S_, .f32⟩
  | 105 => ⟨S4x512x1280, .f32⟩
  | 106 => ⟨S4x512x1280, .f32⟩
  | 107 => ⟨S_, .f32⟩
  | 108 => ⟨S4x512x1280, .f32⟩
  | 109 => ⟨S_, .f32⟩
  | 110 => ⟨S4x512x1280, .f32⟩
  | 111 => ⟨S4x512x1280, .f32⟩
  | 112 => ⟨S4x511x1280, .f32⟩
  | 113 => ⟨S4x511x1280, .f32⟩
  | 114 => ⟨S4x511x1280, .f32⟩
  | 115 => ⟨S4x511x1280, .f32⟩
  | 116 => ⟨S4x511x1280, .f32⟩
  | 117 => ⟨S4x511x1280, .f32⟩
  | 118 => ⟨S4x511x1280, .f32⟩
  | 119 => ⟨S4x1x1280, .f32⟩
  | 120 => ⟨S4x512x1280, .f32⟩
  | 121 => ⟨S4x1x1280, .f32⟩
  | 122 => ⟨S4x512x1280, .f32⟩
  | 123 => ⟨S_, .f32⟩
  | 124 => ⟨S4x1024x1280, .f32⟩
  | 125 => ⟨S_, .f32⟩
  | 126 => ⟨S4x1024x1280, .f32⟩
  | 127 => ⟨S4x1024x1280, .f32⟩
  | _ => ⟨S4x2048x2560, .f32⟩

abbrev hbmTy0_3 (i : Nat) : BufTy := match i % 128 with
  | 0 => ⟨S_, .f32⟩
  | 1 => ⟨S4x1024x1280, .f32⟩
  | 2 => ⟨S_, .f32⟩
  | 3 => ⟨S4x1024x1280, .f32⟩
  | 4 => ⟨S4x1024x1280, .f32⟩
  | 5 => ⟨S4x1023x1280, .f32⟩
  | 6 => ⟨S4x1023x1280, .f32⟩
  | 7 => ⟨S4x1023x1280, .f32⟩
  | 8 => ⟨S4x1023x1280, .f32⟩
  | 9 => ⟨S4x1023x1280, .f32⟩
  | 10 => ⟨S4x1023x1280, .f32⟩
  | 11 => ⟨S4x1023x1280, .f32⟩
  | 12 => ⟨S4x1x1280, .f32⟩
  | 13 => ⟨S4x1024x1280, .f32⟩
  | 14 => ⟨S4x1x1280, .f32⟩
  | 15 => ⟨S4x1024x1280, .f32⟩
  | 16 => ⟨S_, .f32⟩
  | 17 => ⟨S4x2048x1280, .f32⟩
  | 18 => ⟨S_, .f32⟩
  | 19 => ⟨S4x2048x1280, .f32⟩
  | 20 => ⟨S4x2048x1280, .f32⟩
  | 21 => ⟨S_, .f32⟩
  | 22 => ⟨S4x2048x1280, .f32⟩
  | 23 => ⟨S_, .f32⟩
  | 24 => ⟨S4x2048x1280, .f32⟩
  | 25 => ⟨S4x2048x1280, .f32⟩
  | 26 => ⟨S1x4x2048x1280, .f32⟩
  | 27 => ⟨S1x4x2048x1280, .f32⟩
  | 28 => ⟨S1x4x2048x1280, .f32⟩
  | 29 => ⟨S1x4x2048x1280, .f32⟩
  | 30 => ⟨S1x4x2048x1280, .f32⟩
  | 31 => ⟨S1x4x2048x1280, .f32⟩
  | 32 => ⟨S6x4x2048x1280, .f32⟩
  | 33 => ⟨S10x128x256, .bf16⟩
  | 34 => ⟨S1x1280, .f32⟩
  | 35 => ⟨S4x2048x2560, .bf16⟩
  | 36 => ⟨S4x1280, .f32⟩
  | 37 => ⟨S1x1280, .f32⟩
  | 38 => ⟨S10x128x256, .f32⟩
  | 39 => ⟨S10x1x256, .f32⟩
  | 40 => ⟨S1x1280, .f32⟩
  | 41 => ⟨S1x1280, .f32⟩
  | 42 => ⟨S1x1280, .f32⟩
  | _ => ⟨S4x2048x2560, .f32⟩

abbrev hbmTy (i : Nat) : BufTy := match i / 128 with
  | 0 => hbmTy0_0 i
  | 1 => hbmTy0_1 i
  | 2 => hbmTy0_2 i
  | 3 => hbmTy0_3 i
  | _ => ⟨S4x2048x2560, .f32⟩

abbrev bufTy : (tb : Table) → Fin (tcTables nBuf tb) → BufTy
  | .hbm, ⟨i, _⟩ => hbmTy i
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S4x128, .f32⟩
  | .local _ .vmem, ⟨5, _⟩ => ⟨S4x128, .f32⟩
  | .local _ .vmem, ⟨6, _⟩ => ⟨S1x128x256, .bf16⟩
  | .local _ .vmem, ⟨7, _⟩ => ⟨S1x128x256, .bf16⟩
  | .local _ .vmem, ⟨8, _⟩ => ⟨S1x128, .f32⟩
  | .local _ .vmem, ⟨9, _⟩ => ⟨S1x128, .f32⟩
  | .local _ .vmem, ⟨10, _⟩ => ⟨S6x1x2048x128, .f32⟩
  | .local _ .vmem, ⟨11, _⟩ => ⟨S6x1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .bf16⟩
  | .local _ .vmem, ⟨15, _⟩ => ⟨S1x2048x128, .bf16⟩
  | .local _ .vmem, ⟨16, _⟩ => ⟨S4x128, .f32⟩
  | .local _ .vmem, ⟨17, _⟩ => ⟨S4x128, .f32⟩
  | .local _ .vmem, ⟨18, _⟩ => ⟨S1x128, .f32⟩
  | .local _ .vmem, ⟨19, _⟩ => ⟨S1x128, .f32⟩
  | .local _ .vmem, ⟨20, _⟩ => ⟨S1x128x256, .f32⟩
  | .local _ .vmem, ⟨21, _⟩ => ⟨S1x128x256, .f32⟩
  | .local _ .vmem, ⟨22, _⟩ => ⟨S1x1x256, .f32⟩
  | .local _ .vmem, ⟨23, _⟩ => ⟨S1x1x256, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S2x2048x128, .bf16⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_0 : Ref sig .tc := ⟨.hbm, 56, rfl⟩
abbrev main_v47 : Ref sig .tc := ⟨.hbm, 57, rfl⟩
abbrev main_v48 : Ref sig .tc := ⟨.hbm, 58, rfl⟩
abbrev main_cst_1 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_2 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_5 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_cst_6 : Ref sig .tc := ⟨.hbm, 190, rfl⟩
abbrev main_v162 : Ref sig .tc := ⟨.hbm, 191, rfl⟩
abbrev main_cst_7 : Ref sig .tc := ⟨.hbm, 192, rfl⟩
abbrev main_v163 : Ref sig .tc := ⟨.hbm, 193, rfl⟩
abbrev main_v164 : Ref sig .tc := ⟨.hbm, 194, rfl⟩
abbrev main_cst_8 : Ref sig .tc := ⟨.hbm, 195, rfl⟩
abbrev main_v165 : Ref sig .tc := ⟨.hbm, 196, rfl⟩
abbrev main_cst_9 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_cst_10 : Ref sig .tc := ⟨.hbm, 211, rfl⟩
abbrev main_v179 : Ref sig .tc := ⟨.hbm, 212, rfl⟩
abbrev main_cst_11 : Ref sig .tc := ⟨.hbm, 213, rfl⟩
abbrev main_v180 : Ref sig .tc := ⟨.hbm, 214, rfl⟩
abbrev main_v181 : Ref sig .tc := ⟨.hbm, 215, rfl⟩
abbrev main_cst_12 : Ref sig .tc := ⟨.hbm, 216, rfl⟩
abbrev main_v182 : Ref sig .tc := ⟨.hbm, 217, rfl⟩
abbrev main_cst_13 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_cst_14 : Ref sig .tc := ⟨.hbm, 232, rfl⟩
abbrev main_v196 : Ref sig .tc := ⟨.hbm, 233, rfl⟩
abbrev main_cst_15 : Ref sig .tc := ⟨.hbm, 234, rfl⟩
abbrev main_v197 : Ref sig .tc := ⟨.hbm, 235, rfl⟩
abbrev main_v198 : Ref sig .tc := ⟨.hbm, 236, rfl⟩
abbrev main_cst_16 : Ref sig .tc := ⟨.hbm, 237, rfl⟩
abbrev main_v199 : Ref sig .tc := ⟨.hbm, 238, rfl⟩
abbrev main_cst_17 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_cst_18 : Ref sig .tc := ⟨.hbm, 253, rfl⟩
abbrev main_v213 : Ref sig .tc := ⟨.hbm, 254, rfl⟩
abbrev main_cst_19 : Ref sig .tc := ⟨.hbm, 255, rfl⟩
abbrev main_v214 : Ref sig .tc := ⟨.hbm, 256, rfl⟩
abbrev main_v215 : Ref sig .tc := ⟨.hbm, 257, rfl⟩
abbrev main_cst_20 : Ref sig .tc := ⟨.hbm, 258, rfl⟩
abbrev main_v216 : Ref sig .tc := ⟨.hbm, 259, rfl⟩
abbrev main_cst_21 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_cst_22 : Ref sig .tc := ⟨.hbm, 274, rfl⟩
abbrev main_v230 : Ref sig .tc := ⟨.hbm, 275, rfl⟩
abbrev main_cst_23 : Ref sig .tc := ⟨.hbm, 276, rfl⟩
abbrev main_v231 : Ref sig .tc := ⟨.hbm, 277, rfl⟩
abbrev main_v232 : Ref sig .tc := ⟨.hbm, 278, rfl⟩
abbrev main_cst_24 : Ref sig .tc := ⟨.hbm, 279, rfl⟩
abbrev main_v233 : Ref sig .tc := ⟨.hbm, 280, rfl⟩
abbrev main_cst_25 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_cst_26 : Ref sig .tc := ⟨.hbm, 295, rfl⟩
abbrev main_v247 : Ref sig .tc := ⟨.hbm, 296, rfl⟩
abbrev main_cst_27 : Ref sig .tc := ⟨.hbm, 297, rfl⟩
abbrev main_v248 : Ref sig .tc := ⟨.hbm, 298, rfl⟩
abbrev main_v249 : Ref sig .tc := ⟨.hbm, 299, rfl⟩
abbrev main_cst_28 : Ref sig .tc := ⟨.hbm, 300, rfl⟩
abbrev main_v250 : Ref sig .tc := ⟨.hbm, 301, rfl⟩
abbrev main_cst_29 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩
abbrev main_v263 : Ref sig .tc := ⟨.hbm, 315, rfl⟩
abbrev main_cst_30 : Ref sig .tc := ⟨.hbm, 316, rfl⟩
abbrev main_v264 : Ref sig .tc := ⟨.hbm, 317, rfl⟩
abbrev main_cst_31 : Ref sig .tc := ⟨.hbm, 318, rfl⟩
abbrev main_v265 : Ref sig .tc := ⟨.hbm, 319, rfl⟩
abbrev main_v266 : Ref sig .tc := ⟨.hbm, 320, rfl⟩
abbrev main_cst_32 : Ref sig .tc := ⟨.hbm, 321, rfl⟩
abbrev main_v267 : Ref sig .tc := ⟨.hbm, 322, rfl⟩
abbrev main_cst_33 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_cst_34 : Ref sig .tc := ⟨.hbm, 337, rfl⟩
abbrev main_v281 : Ref sig .tc := ⟨.hbm, 338, rfl⟩
abbrev main_cst_35 : Ref sig .tc := ⟨.hbm, 339, rfl⟩
abbrev main_v282 : Ref sig .tc := ⟨.hbm, 340, rfl⟩
abbrev main_v283 : Ref sig .tc := ⟨.hbm, 341, rfl⟩
abbrev main_cst_36 : Ref sig .tc := ⟨.hbm, 342, rfl⟩
abbrev main_v284 : Ref sig .tc := ⟨.hbm, 343, rfl⟩
abbrev main_cst_37 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_cst_38 : Ref sig .tc := ⟨.hbm, 358, rfl⟩
abbrev main_v298 : Ref sig .tc := ⟨.hbm, 359, rfl⟩
abbrev main_cst_39 : Ref sig .tc := ⟨.hbm, 360, rfl⟩
abbrev main_v299 : Ref sig .tc := ⟨.hbm, 361, rfl⟩
abbrev main_v300 : Ref sig .tc := ⟨.hbm, 362, rfl⟩
abbrev main_cst_40 : Ref sig .tc := ⟨.hbm, 363, rfl⟩
abbrev main_v301 : Ref sig .tc := ⟨.hbm, 364, rfl⟩
abbrev main_cst_41 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_v312 : Ref sig .tc := ⟨.hbm, 376, rfl⟩
abbrev main_v313 : Ref sig .tc := ⟨.hbm, 377, rfl⟩
abbrev main_v314 : Ref sig .tc := ⟨.hbm, 378, rfl⟩
abbrev main_cst_42 : Ref sig .tc := ⟨.hbm, 379, rfl⟩
abbrev main_v315 : Ref sig .tc := ⟨.hbm, 380, rfl⟩
abbrev main_cst_43 : Ref sig .tc := ⟨.hbm, 381, rfl⟩
abbrev main_v316 : Ref sig .tc := ⟨.hbm, 382, rfl⟩
abbrev main_v317 : Ref sig .tc := ⟨.hbm, 383, rfl⟩
abbrev main_cst_44 : Ref sig .tc := ⟨.hbm, 384, rfl⟩
abbrev main_v318 : Ref sig .tc := ⟨.hbm, 385, rfl⟩
abbrev main_cst_45 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_v322 : Ref sig .tc := ⟨.hbm, 390, rfl⟩
abbrev main_v323 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_cst_46 : Ref sig .tc := ⟨.hbm, 400, rfl⟩
abbrev main_v332 : Ref sig .tc := ⟨.hbm, 401, rfl⟩
abbrev main_cst_47 : Ref sig .tc := ⟨.hbm, 402, rfl⟩
abbrev main_v333 : Ref sig .tc := ⟨.hbm, 403, rfl⟩
abbrev main_v334 : Ref sig .tc := ⟨.hbm, 404, rfl⟩
abbrev main_cst_48 : Ref sig .tc := ⟨.hbm, 405, rfl⟩
abbrev main_v335 : Ref sig .tc := ⟨.hbm, 406, rfl⟩
abbrev main_cst_49 : Ref sig .tc := ⟨.hbm, 407, rfl⟩
abbrev main_v336 : Ref sig .tc := ⟨.hbm, 408, rfl⟩
abbrev main_v337 : Ref sig .tc := ⟨.hbm, 409, rfl⟩
abbrev main_v338 : Ref sig .tc := ⟨.hbm, 410, rfl⟩
abbrev main_v339 : Ref sig .tc := ⟨.hbm, 411, rfl⟩
abbrev main_v340 : Ref sig .tc := ⟨.hbm, 412, rfl⟩
abbrev main_v341 : Ref sig .tc := ⟨.hbm, 413, rfl⟩
abbrev main_v342 : Ref sig .tc := ⟨.hbm, 414, rfl⟩
abbrev main_v343 : Ref sig .tc := ⟨.hbm, 415, rfl⟩
abbrev main_v344 : Ref sig .tc := ⟨.hbm, 416, rfl⟩
abbrev main_v345 : Ref sig .tc := ⟨.hbm, 417, rfl⟩
abbrev main_v346 : Ref sig .tc := ⟨.hbm, 418, rfl⟩
abbrev main_v347_0 : Ref sig .tc := ⟨.hbm, 419, rfl⟩
abbrev main_v347_1 : Ref sig .tc := ⟨.hbm, 420, rfl⟩
abbrev main_v347_2 : Ref sig .tc := ⟨.hbm, 421, rfl⟩
abbrev main_v347_3 : Ref sig .tc := ⟨.hbm, 422, rfl⟩
abbrev main_v347_4 : Ref sig .tc := ⟨.hbm, 423, rfl⟩
abbrev main_v347_5 : Ref sig .tc := ⟨.hbm, 424, rfl⟩
abbrev main_v347_6 : Ref sig .tc := ⟨.hbm, 425, rfl⟩
abbrev main_v347_7 : Ref sig .tc := ⟨.hbm, 426, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![10, 4, 2], ![false, false, false]⟩

def k0_off1 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_106 : BitVec 32 := 0#32
  let v333 : BitVec 1 := Scalar.cmpi .eq arg1 c0_i32_106
  let v342 : BitVec 32 := Scalar.extui v333
  let c0_i32_111 : BitVec 32 := 0#32
  let v343 : BitVec 1 := Scalar.cmpi .ne v342 c0_i32_111
  v343

def k0_cond3 (i : grid0.Coords) : BitVec 1 :=
  let arg1 : BitVec 32 := BitVec.ofNat 32 (i 1).val
  let c0_i32_106 : BitVec 32 := 0#32
  let v333 : BitVec 1 := Scalar.cmpi .eq arg1 c0_i32_106
  let v_true : BitVec 1 := 1#1
  let v344 : BitVec 1 := Scalar.xori v333 v_true
  let v345 : BitVec 32 := Scalar.extui v344
  let c0_i32_112 : BitVec 32 := 0#32
  let v346 : BitVec 1 := Scalar.cmpi .ne v345 c0_i32_112
  v346

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![v30.toNat, c0_i32_12.toNat, v31.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c10_i32 : BitVec 32 := 10#32
  let v31 : BitVec 32 := Scalar.addi c10_i32 v20
  let c0_i32_11 : BitVec 32 := 0#32
  let c0_i32_12 : BitVec 32 := 0#32
  ![v30.toNat, c0_i32_11.toNat, v31.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![c0_i32_12.toNat, v31.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v20.toNat, c0_i32_11.toNat, c0_i32_12.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![c0_i32_12.toNat, v31.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![c0_i32_11.toNat, v30.toNat, c0_i32_12.toNat, v20.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let v1 : BitVec 32 := Scalar.addi arg1 v0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.addi arg0 v18
  let c9_i32 : BitVec 32 := 9#32
  let v20 : BitVec 32 := Scalar.minsi v19 c9_i32
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v20
  let c0_i32_12 : BitVec 32 := 0#32
  let c0_i32_13 : BitVec 32 := 0#32
  ![v30.toNat, c0_i32_12.toNat, v31.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.muli arg2 c10_i32
  let v1 : BitVec 32 := Scalar.addi v0 arg0
  let c0_i32 : BitVec 32 := 0#32
  let c0_i32_0 : BitVec 32 := 0#32
  ![arg1.toNat, c0_i32.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S6x1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]
-- ==== ReferenceIdeal.lean ====
abbrev S4x2048x2560 : Shape := ⟨3, ![4, 2048, 2560]⟩
abbrev S2560 : Shape := ⟨1, ![2560]⟩
abbrev S4x1280 : Shape := ⟨2, ![4, 1280]⟩
abbrev S1280 : Shape := ⟨1, ![1280]⟩
abbrev S10x128x256 : Shape := ⟨3, ![10, 128, 256]⟩
abbrev S10x256 : Shape := ⟨2, ![10, 256]⟩
abbrev S4x2048x1280 : Shape := ⟨3, ![4, 2048, 1280]⟩
abbrev S1x1x2560 : Shape := ⟨3, ![1, 1, 2560]⟩
abbrev S_ : Shape := ⟨0, ![]⟩
abbrev S4x3x1280 : Shape := ⟨3, ![4, 3, 1280]⟩
abbrev S4x2051x1280 : Shape := ⟨3, ![4, 2051, 1280]⟩
abbrev S1x1280 : Shape := ⟨2, ![1, 1280]⟩
abbrev S1x1x1280 : Shape := ⟨3, ![1, 1, 1280]⟩
abbrev S4x2048x10x128 : Shape := ⟨4, ![4, 2048, 10, 128]⟩
abbrev S10x256x4x2048 : Shape := ⟨4, ![10, 256, 4, 2048]⟩
abbrev S4x2048x10x256 : Shape := ⟨4, ![4, 2048, 10, 256]⟩
abbrev S1x1x10x256 : Shape := ⟨4, ![1, 1, 10, 256]⟩
abbrev S4x1024x1280 : Shape := ⟨3, ![4, 1024, 1280]⟩
abbrev S4x512x1280 : Shape := ⟨3, ![4, 512, 1280]⟩
abbrev S4x256x1280 : Shape := ⟨3, ![4, 256, 1280]⟩
abbrev S4x128x1280 : Shape := ⟨3, ![4, 128, 1280]⟩
abbrev S4x64x1280 : Shape := ⟨3, ![4, 64, 1280]⟩
abbrev S4x32x1280 : Shape := ⟨3, ![4, 32, 1280]⟩
abbrev S4x16x1280 : Shape := ⟨3, ![4, 16, 1280]⟩
abbrev S4x8x1280 : Shape := ⟨3, ![4, 8, 1280]⟩
abbrev S4x4x1280 : Shape := ⟨3, ![4, 4, 1280]⟩
abbrev S4x2x1280 : Shape := ⟨3, ![4, 2, 1280]⟩
abbrev S4x1x1280 : Shape := ⟨3, ![4, 1, 1280]⟩
abbrev S4x0x1280 : Shape := ⟨3, ![4, 0, 1280]⟩
abbrev S4x7x1280 : Shape := ⟨3, ![4, 7, 1280]⟩
abbrev S4x15x1280 : Shape := ⟨3, ![4, 15, 1280]⟩
abbrev S4x31x1280 : Shape := ⟨3, ![4, 31, 1280]⟩
abbrev S4x63x1280 : Shape := ⟨3, ![4, 63, 1280]⟩
abbrev S4x127x1280 : Shape := ⟨3, ![4, 127, 1280]⟩
abbrev S4x255x1280 : Shape := ⟨3, ![4, 255, 1280]⟩
abbrev S4x511x1280 : Shape := ⟨3, ![4, 511, 1280]⟩
abbrev S4x1023x1280 : Shape := ⟨3, ![4, 1023, 1280]⟩
abbrev S4x2047x1280 : Shape := ⟨3, ![4, 2047, 1280]⟩
abbrev S2048x4x1280 : Shape := ⟨3, ![2048, 4, 1280]⟩
abbrev S1x4x1280 : Shape := ⟨3, ![1, 4, 1280]⟩
abbrev S10x4x2048x128 : Shape := ⟨4, ![10, 4, 2048, 128]⟩
abbrev S10x256x128 : Shape := ⟨3, ![10, 256, 128]⟩
abbrev S10x1x256 : Shape := ⟨3, ![10, 1, 256]⟩

abbrev nBuf : Space → Nat
  | .hbm => 666
  | .vmem => 0
  | .smem => 0
  | _ => 0

abbrev hbmTy0_0 (i : Nat) : BufTy := match i % 128 with
  | 0 => ⟨S4x2048x2560, .f32⟩
  | 1 => ⟨S2560, .f32⟩
  | 2 => ⟨S4x1280, .f32⟩
  | 3 => ⟨S1280, .f32⟩
  | 4 => ⟨S10x128x256, .f32⟩
  | 5 => ⟨S10x256, .f32⟩
  | 6 => ⟨S1280, .f32⟩
  | 7 => ⟨S4x2048x1280, .f32⟩
  | 8 => ⟨S1x1x2560, .f32⟩
  | 9 => ⟨S4x2048x2560, .f32⟩
  | 10 => ⟨S4x2048x2560, .f32⟩
  | 11 => ⟨S4x2048x1280, .f32⟩
  | 12 => ⟨S4x2048x1280, .f32⟩
  | 13 => ⟨S_, .f32⟩
  | 14 => ⟨S4x3x1280, .f32⟩
  | 15 => ⟨S4x2051x1280, .f32⟩
  | 16 => ⟨S_, .f32⟩
  | 17 => ⟨S4x3x1280, .f32⟩
  | 18 => ⟨S4x2048x1280, .f32⟩
  | 19 => ⟨S1x1280, .f32⟩
  | 20 => ⟨S1280, .f32⟩
  | 21 => ⟨S1x1x1280, .f32⟩
  | 22 => ⟨S4x2048x1280, .f32⟩
  | 23 => ⟨S4x2048x1280, .f32⟩
  | 24 => ⟨S1x1x1280, .f32⟩
  | 25 => ⟨S4x2048x1280, .f32⟩
  | 26 => ⟨S4x2048x1280, .f32⟩
  | 27 => ⟨S4x2048x1280, .f32⟩
  | 28 => ⟨S1x1280, .f32⟩
  | 29 => ⟨S1280, .f32⟩
  | 30 => ⟨S1x1x1280, .f32⟩
  | 31 => ⟨S4x2048x1280, .f32⟩
  | 32 => ⟨S4x2048x1280, .f32⟩
  | 33 => ⟨S4x2048x1280, .f32⟩
  | 34 => ⟨S4x2048x1280, .f32⟩
  | 35 => ⟨S1x1280, .f32⟩
  | 36 => ⟨S1280, .f32⟩
  | 37 => ⟨S1x1x1280, .f32⟩
  | 38 => ⟨S4x2048x1280, .f32⟩
  | 39 => ⟨S4x2048x1280, .f32⟩
  | 40 => ⟨S4x2048x1280, .f32⟩
  | 41 => ⟨S4x2048x1280, .f32⟩
  | 42 => ⟨S1x1280, .f32⟩
  | 43 => ⟨S1280, .f32⟩
  | 44 => ⟨S1x1x1280, .f32⟩
  | 45 => ⟨S4x2048x1280, .f32⟩
  | 46 => ⟨S4x2048x1280, .f32⟩
  | 47 => ⟨S4x2048x1280, .f32⟩
  | 48 => ⟨S4x2048x10x128, .f32⟩
  | 49 => ⟨S10x256x4x2048, .f32⟩
  | 50 => ⟨S4x2048x10x256, .f32⟩
  | 51 => ⟨S1x1x10x256, .f32⟩
  | 52 => ⟨S4x2048x10x256, .f32⟩
  | 53 => ⟨S4x2048x10x256, .f32⟩
  | 54 => ⟨S4x2048x10x128, .f32⟩
  | 55 => ⟨S4x2048x10x128, .f32⟩
  | 56 => ⟨S4x2048x10x128, .f32⟩
  | 57 => ⟨S4x2048x10x128, .f32⟩
  | 58 => ⟨S_, .f32⟩
  | 59 => ⟨S4x2048x10x128, .f32⟩
  | 60 => ⟨S4x2048x10x128, .f32⟩
  | 61 => ⟨S_, .f32⟩
  | 62 => ⟨S4x2048x10x128, .f32⟩
  | 63 => ⟨S4x2048x10x128, .f32⟩
  | 64 => ⟨S_, .f32⟩
  | 65 => ⟨S4x2048x10x128, .f32⟩
  | 66 => ⟨S4x2048x10x128, .f32⟩
  | 67 => ⟨S4x2048x10x128, .f32⟩
  | 68 => ⟨S4x2048x1280, .f32⟩
  | 69 => ⟨S4x2048x10x128, .f32⟩
  | 70 => ⟨S4x2048x10x128, .f32⟩
  | 71 => ⟨S_, .f32⟩
  | 72 => ⟨S4x2048x10x128, .f32⟩
  | 73 => ⟨S4x2048x10x128, .f32⟩
  | 74 => ⟨S_, .f32⟩
  | 75 => ⟨S4x2048x10x128, .f32⟩
  | 76 => ⟨S4x2048x10x128, .f32⟩
  | 77 => ⟨S_, .f32⟩
  | 78 => ⟨S4x2048x10x128, .f32⟩
  | 79 => ⟨S4x2048x10x128, .f32⟩
  | 80 => ⟨S4x2048x10x128, .f32⟩
  | 81 => ⟨S4x2048x1280, .f32⟩
  | 82 => ⟨S_, .f32⟩
  | 83 => ⟨S4x2048x1280, .f32⟩
  | 84 => ⟨S4x2048x1280, .f32⟩
  | 85 => ⟨S1280, .f32⟩
  | 86 => ⟨S_, .f32⟩
  | 87 => ⟨S1280, .f32⟩
  | 88 => ⟨S1280, .f32⟩
  | 89 => ⟨S1280, .f32⟩
  | 90 => ⟨S1280, .f32⟩
  | 91 => ⟨S1280, .i1⟩
  | 92 => ⟨S1280, .f32⟩
  | 93 => ⟨S1280, .f32⟩
  | 94 => ⟨S1280, .f32⟩
  | 95 => ⟨S1280, .f32⟩
  | 96 => ⟨S1280, .f32⟩
  | 97 => ⟨S1280, .f32⟩
  | 98 => ⟨S1280, .f32⟩
  | 99 => ⟨S1280, .f32⟩
  | 100 => ⟨S_, .f32⟩
  | 101 => ⟨S1280, .f32⟩
  | 102 => ⟨S1280, .i1⟩
  | 103 => ⟨S_, .f32⟩
  | 104 => ⟨S1280, .f32⟩
  | 105 => ⟨S1280, .f32⟩
  | 106 => ⟨S_, .f32⟩
  | 107 => ⟨S1280, .f32⟩
  | 108 => ⟨S1280, .i1⟩
  | 109 => ⟨S_, .f32⟩
  | 110 => ⟨S1280, .f32⟩
  | 111 => ⟨S1280, .f32⟩
  | 112 => ⟨S1280, .f32⟩
  | 113 => ⟨S1280, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S1280, .f32⟩
  | 122 => ⟨S1280, .i1⟩
  | 123 => ⟨S_, .f32⟩
  | 124 => ⟨S1280, .f32⟩
  | 125 => ⟨S1280, .f32⟩
  | 126 => ⟨S1280, .f32⟩
  | 127 => ⟨S1280, .f32⟩
  | _ => ⟨S4x2048x2560, .f32⟩

abbrev hbmTy0_1 (i : Nat) : BufTy := match i % 128 with
  | 0 => ⟨S1280, .f32⟩
  | 1 => ⟨S_, .f32⟩
  | 2 => ⟨S1280, .f32⟩
  | 3 => ⟨S1280, .f32⟩
  | 4 => ⟨S1x1x1280, .f32⟩
  | 5 => ⟨S4x2048x1280, .f32⟩
  | 6 => ⟨S4x2048x1280, .f32⟩
  | 7 => ⟨S4x2048x1280, .f32⟩
  | 8 => ⟨S_, .f32⟩
  | 9 => ⟨S4x2048x1280, .f32⟩
  | 10 => ⟨S4x2048x1280, .f32⟩
  | 11 => ⟨S4x2048x1280, .f32⟩
  | 12 => ⟨S4x2048x1280, .f32⟩
  | 13 => ⟨S4x2048x1280, .f32⟩
  | 14 => ⟨S4x2048x1280, .f32⟩
  | 15 => ⟨S_, .f32⟩
  | 16 => ⟨S4x2048x1280, .f32⟩
  | 17 => ⟨S4x2048x1280, .f32⟩
  | 18 => ⟨S4x2048x1280, .f32⟩
  | 19 => ⟨S4x2048x1280, .f32⟩
  | 20 => ⟨S4x1024x1280, .f32⟩
  | 21 => ⟨S4x1024x1280, .f32⟩
  | 22 => ⟨S4x1024x1280, .f32⟩
  | 23 => ⟨S4x1024x1280, .f32⟩
  | 24 => ⟨S4x1024x1280, .f32⟩
  | 25 => ⟨S4x1024x1280, .f32⟩
  | 26 => ⟨S4x1024x1280, .f32⟩
  | 27 => ⟨S4x512x1280, .f32⟩
  | 28 => ⟨S4x512x1280, .f32⟩
  | 29 => ⟨S4x512x1280, .f32⟩
  | 30 => ⟨S4x512x1280, .f32⟩
  | 31 => ⟨S4x512x1280, .f32⟩
  | 32 => ⟨S4x512x1280, .f32⟩
  | 33 => ⟨S4x512x1280, .f32⟩
  | 34 => ⟨S4x256x1280, .f32⟩
  | 35 => ⟨S4x256x1280, .f32⟩
  | 36 => ⟨S4x256x1280, .f32⟩
  | 37 => ⟨S4x256x1280, .f32⟩
  | 38 => ⟨S4x256x1280, .f32⟩
  | 39 => ⟨S4x256x1280, .f32⟩
  | 40 => ⟨S4x256x1280, .f32⟩
  | 41 => ⟨S4x128x1280, .f32⟩
  | 42 => ⟨S4x128x1280, .f32⟩
  | 43 => ⟨S4x128x1280, .f32⟩
  | 44 => ⟨S4x128x1280, .f32⟩
  | 45 => ⟨S4x128x1280, .f32⟩
  | 46 => ⟨S4x128x1280, .f32⟩
  | 47 => ⟨S4x128x1280, .f32⟩
  | 48 => ⟨S4x64x1280, .f32⟩
  | 49 => ⟨S4x64x1280, .f32⟩
  | 50 => ⟨S4x64x1280, .f32⟩
  | 51 => ⟨S4x64x1280, .f32⟩
  | 52 => ⟨S4x64x1280, .f32⟩
  | 53 => ⟨S4x64x1280, .f32⟩
  | 54 => ⟨S4x64x1280, .f32⟩
  | 55 => ⟨S4x32x1280, .f32⟩
  | 56 => ⟨S4x32x1280, .f32⟩
  | 57 => ⟨S4x32x1280, .f32⟩
  | 58 => ⟨S4x32x1280, .f32⟩
  | 59 => ⟨S4x32x1280, .f32⟩
  | 60 => ⟨S4x32x1280, .f32⟩
  | 61 => ⟨S4x32x1280, .f32⟩
  | 62 => ⟨S4x16x1280, .f32⟩
  | 63 => ⟨S4x16x1280, .f32⟩
  | 64 => ⟨S4x16x1280, .f32⟩
  | 65 => ⟨S4x16x1280, .f32⟩
  | 66 => ⟨S4x16x1280, .f32⟩
  | 67 => ⟨S4x16x1280, .f32⟩
  | 68 => ⟨S4x16x1280, .f32⟩
  | 69 => ⟨S4x8x1280, .f32⟩
  | 70 => ⟨S4x8x1280, .f32⟩
  | 71 => ⟨S4x8x1280, .f32⟩
  | 72 => ⟨S4x8x1280, .f32⟩
  | 73 => ⟨S4x8x1280, .f32⟩
  | 74 => ⟨S4x8x1280, .f32⟩
  | 75 => ⟨S4x8x1280, .f32⟩
  | 76 => ⟨S4x4x1280, .f32⟩
  | 77 => ⟨S4x4x1280, .f32⟩
  | 78 => ⟨S4x4x1280, .f32⟩
  | 79 => ⟨S4x4x1280, .f32⟩
  | 80 => ⟨S4x4x1280, .f32⟩
  | 81 => ⟨S4x4x1280, .f32⟩
  | 82 => ⟨S4x4x1280, .f32⟩
  | 83 => ⟨S4x2x1280, .f32⟩
  | 84 => ⟨S4x2x1280, .f32⟩
  | 85 => ⟨S4x2x1280, .f32⟩
  | 86 => ⟨S4x2x1280, .f32⟩
  | 87 => ⟨S4x2x1280, .f32⟩
  | 88 => ⟨S4x2x1280, .f32⟩
  | 89 => ⟨S4x2x1280, .f32⟩
  | 90 => ⟨S4x1x1280, .f32⟩
  | 91 => ⟨S4x1x1280, .f32⟩
  | 92 => ⟨S4x1x1280, .f32⟩
  | 93 => ⟨S4x1x1280, .f32⟩
  | 94 => ⟨S4x1x1280, .f32⟩
  | 95 => ⟨S4x1x1280, .f32⟩
  | 96 => ⟨S4x1x1280, .f32⟩
  | 97 => ⟨S4x0x1280, .f32⟩
  | 98 => ⟨S4x0x1280, .f32⟩
  | 99 => ⟨S4x0x1280, .f32⟩
  | 100 => ⟨S4x0x1280, .f32⟩
  | 101 => ⟨S4x0x1280, .f32⟩
  | 102 => ⟨S4x0x1280, .f32⟩
  | 103 => ⟨S4x0x1280, .f32⟩
  | 104 => ⟨S4x1x1280, .f32⟩
  | 105 => ⟨S4x1x1280, .f32⟩
  | 106 => ⟨S4x1x1280, .f32⟩
  | 107 => ⟨S4x1x1280, .f32⟩
  | 108 => ⟨S_, .f32⟩
  | 109 => ⟨S4x2x1280, .f32⟩
  | 110 => ⟨S_, .f32⟩
  | 111 => ⟨S4x2x1280, .f32⟩
  | 112 => ⟨S4x2x1280, .f32⟩
  | 113 => ⟨S_, .f32⟩
  | 114 => ⟨S4x2x1280, .f32⟩
  | 115 => ⟨S_, .f32⟩
  | 116 => ⟨S4x2x1280, .f32⟩
  | 117 => ⟨S4x2x1280, .f32⟩
  | 118 => ⟨S4x1x1280, .f32⟩
  | 119 => ⟨S4x1x1280, .f32⟩
  | 120 => ⟨S4x1x1280, .f32⟩
  | 121 => ⟨S4x1x1280, .f32⟩
  | 122 => ⟨S4x1x1280, .f32⟩
  | 123 => ⟨S4x1x1280, .f32⟩
  | 124 => ⟨S4x1x1280, .f32⟩
  | 125 => ⟨S4x1x1280, .f32⟩
  | 126 => ⟨S4x2x1280, .f32⟩
  | 127 => ⟨S4x1x1280, .f32⟩
  | _ => ⟨S4x2048x2560, .f32⟩

abbrev hbmTy0_2 (i : Nat) : BufTy := match i % 128 with
  | 0 => ⟨S4x2x1280, .f32⟩
  | 1 => ⟨S_, .f32⟩
  | 2 => ⟨S4x4x1280, .f32⟩
  | 3 => ⟨S_, .f32⟩
  | 4 => ⟨S4x4x1280, .f32⟩
  | 5 => ⟨S4x4x1280, .f32⟩
  | 6 => ⟨S_, .f32⟩
  | 7 => ⟨S4x4x1280, .f32⟩
  | 8 => ⟨S_, .f32⟩
  | 9 => ⟨S4x4x1280, .f32⟩
  | 10 => ⟨S4x4x1280, .f32⟩
  | 11 => ⟨S4x3x1280, .f32⟩
  | 12 => ⟨S4x3x1280, .f32⟩
  | 13 => ⟨S4x3x1280, .f32⟩
  | 14 => ⟨S4x3x1280, .f32⟩
  | 15 => ⟨S4x3x1280, .f32⟩
  | 16 => ⟨S4x3x1280, .f32⟩
  | 17 => ⟨S4x3x1280, .f32⟩
  | 18 => ⟨S4x1x1280, .f32⟩
  | 19 => ⟨S4x4x1280, .f32⟩
  | 20 => ⟨S4x1x1280, .f32⟩
  | 21 => ⟨S4x4x1280, .f32⟩
  | 22 => ⟨S_, .f32⟩
  | 23 => ⟨S4x8x1280, .f32⟩
  | 24 => ⟨S_, .f32⟩
  | 25 => ⟨S4x8x1280, .f32⟩
  | 26 => ⟨S4x8x1280, .f32⟩
  | 27 => ⟨S_, .f32⟩
  | 28 => ⟨S4x8x1280, .f32⟩
  | 29 => ⟨S_, .f32⟩
  | 30 => ⟨S4x8x1280, .f32⟩
  | 31 => ⟨S4x8x1280, .f32⟩
  | 32 => ⟨S4x7x1280, .f32⟩
  | 33 => ⟨S4x7x1280, .f32⟩
  | 34 => ⟨S4x7x1280, .f32⟩
  | 35 => ⟨S4x7x1280, .f32⟩
  | 36 => ⟨S4x7x1280, .f32⟩
  | 37 => ⟨S4x7x1280, .f32⟩
  | 38 => ⟨S4x7x1280, .f32⟩
  | 39 => ⟨S4x1x1280, .f32⟩
  | 40 => ⟨S4x8x1280, .f32⟩
  | 41 => ⟨S4x1x1280, .f32⟩
  | 42 => ⟨S4x8x1280, .f32⟩
  | 43 => ⟨S_, .f32⟩
  | 44 => ⟨S4x16x1280, .f32⟩
  | 45 => ⟨S_, .f32⟩
  | 46 => ⟨S4x16x1280, .f32⟩
  | 47 => ⟨S4x16x1280, .f32⟩
  | 48 => ⟨S_, .f32⟩
  | 49 => ⟨S4x16x1280, .f32⟩
  | 50 => ⟨S_, .f32⟩
  | 51 => ⟨S4x16x1280, .f32⟩
  | 52 => ⟨S4x16x1280, .f32⟩
  | 53 => ⟨S4x15x1280, .f32⟩
  | 54 => ⟨S4x15x1280, .f32⟩
  | 55 => ⟨S4x15x1280, .f32⟩
  | 56 => ⟨S4x15x1280, .f32⟩
  | 57 => ⟨S4x15x1280, .f32⟩
  | 58 => ⟨S4x15x1280, .f32⟩
  | 59 => ⟨S4x15x1280, .f32⟩
  | 60 => ⟨S4x1x1280, .f32⟩
  | 61 => ⟨S4x16x1280, .f32⟩
  | 62 => ⟨S4x1x1280, .f32⟩
  | 63 => ⟨S4x16x1280, .f32⟩
  | 64 => ⟨S_, .f32⟩
  | 65 => ⟨S4x32x1280, .f32⟩
  | 66 => ⟨S_, .f32⟩
  | 67 => ⟨S4x32x1280, .f32⟩
  | 68 => ⟨S4x32x1280, .f32⟩
  | 69 => ⟨S_, .f32⟩
  | 70 => ⟨S4x32x1280, .f32⟩
  | 71 => ⟨S_, .f32⟩
  | 72 => ⟨S4x32x1280, .f32⟩
  | 73 => ⟨S4x32x1280, .f32⟩
  | 74 => ⟨S4x31x1280, .f32⟩
  | 75 => ⟨S4x31x1280, .f32⟩
  | 76 => ⟨S4x31x1280, .f32⟩
  | 77 => ⟨S4x31x1280, .f32⟩
  | 78 => ⟨S4x31x1280, .f32⟩
  | 79 => ⟨S4x31x1280, .f32⟩
  | 80 => ⟨S4x31x1280, .f32⟩
  | 81 => ⟨S4x1x1280, .f32⟩
  | 82 => ⟨S4x32x1280, .f32⟩
  | 83 => ⟨S4x1x1280, .f32⟩
  | 84 => ⟨S4x32x1280, .f32⟩
  | 85 => ⟨S_, .f32⟩
  | 86 => ⟨S4x64x1280, .f32⟩
  | 87 => ⟨S_, .f32⟩
  | 88 => ⟨S4x64x1280, .f32⟩
  | 89 => ⟨S4x64x1280, .f32⟩
  | 90 => ⟨S_, .f32⟩
  | 91 => ⟨S4x64x1280, .f32⟩
  | 92 => ⟨S_, .f32⟩
  | 93 => ⟨S4x64x1280, .f32⟩
  | 94 => ⟨S4x64x1280, .f32⟩
  | 95 => ⟨S4x63x1280, .f32⟩
  | 96 => ⟨S4x63x1280, .f32⟩
  | 97 => ⟨S4x63x1280, .f32⟩
  | 98 => ⟨S4x63x1280, .f32⟩
  | 99 => ⟨S4x63x1280, .f32⟩
  | 100 => ⟨S4x63x1280, .f32⟩
  | 101 => ⟨S4x63x1280, .f32⟩
  | 102 => ⟨S4x1x1280, .f32⟩
  | 103 => ⟨S4x64x1280, .f32⟩
  | 104 => ⟨S4x1x1280, .f32⟩
  | 105 => ⟨S4x64x1280, .f32⟩
  | 106 => ⟨S_, .f32⟩
  | 107 => ⟨S4x128x1280, .f32⟩
  | 108 => ⟨S_, .f32⟩
  | 109 => ⟨S4x128x1280, .f32⟩
  | 110 => ⟨S4x128x1280, .f32⟩
  | 111 => ⟨S_, .f32⟩
  | 112 => ⟨S4x128x1280, .f32⟩
  | 113 => ⟨S_, .f32⟩
  | 114 => ⟨S4x128x1280, .f32⟩
  | 115 => ⟨S4x128x1280, .f32⟩
  | 116 => ⟨S4x127x1280, .f32⟩
  | 117 => ⟨S4x127x1280, .f32⟩
  | 118 => ⟨S4x127x1280, .f32⟩
  | 119 => ⟨S4x127x1280, .f32⟩
  | 120 => ⟨S4x127x1280, .f32⟩
  | 121 => ⟨S4x127x1280, .f32⟩
  | 122 => ⟨S4x127x1280, .f32⟩
  | 123 => ⟨S4x1x1280, .f32⟩
  | 124 => ⟨S4x128x1280, .f32⟩
  | 125 => ⟨S4x1x1280, .f32⟩
  | 126 => ⟨S4x128x1280, .f32⟩
  | 127 => ⟨S_, .f32⟩
  | _ => ⟨S4x2048x2560, .f32⟩

abbrev hbmTy0_3 (i : Nat) : BufTy := match i % 128 with
  | 0 => ⟨S4x256x1280, .f32⟩
  | 1 => ⟨S_, .f32⟩
  | 2 => ⟨S4x256x1280, .f32⟩
  | 3 => ⟨S4x256x1280, .f32⟩
  | 4 => ⟨S_, .f32⟩
  | 5 => ⟨S4x256x1280, .f32⟩
  | 6 => ⟨S_, .f32⟩
  | 7 => ⟨S4x256x1280, .f32⟩
  | 8 => ⟨S4x256x1280, .f32⟩
  | 9 => ⟨S4x255x1280, .f32⟩
  | 10 => ⟨S4x255x1280, .f32⟩
  | 11 => ⟨S4x255x1280, .f32⟩
  | 12 => ⟨S4x255x1280, .f32⟩
  | 13 => ⟨S4x255x1280, .f32⟩
  | 14 => ⟨S4x255x1280, .f32⟩
  | 15 => ⟨S4x255x1280, .f32⟩
  | 16 => ⟨S4x1x1280, .f32⟩
  | 17 => ⟨S4x256x1280, .f32⟩
  | 18 => ⟨S4x1x1280, .f32⟩
  | 19 => ⟨S4x256x1280, .f32⟩
  | 20 => ⟨S_, .f32⟩
  | 21 => ⟨S4x512x1280, .f32⟩
  | 22 => ⟨S_, .f32⟩
  | 23 => ⟨S4x512x1280, .f32⟩
  | 24 => ⟨S4x512x1280, .f32⟩
  | 25 => ⟨S_, .f32⟩
  | 26 => ⟨S4x512x1280, .f32⟩
  | 27 => ⟨S_, .f32⟩
  | 28 => ⟨S4x512x1280, .f32⟩
  | 29 => ⟨S4x512x1280, .f32⟩
  | 30 => ⟨S4x511x1280, .f32⟩
  | 31 => ⟨S4x511x1280, .f32⟩
  | 32 => ⟨S4x511x1280, .f32⟩
  | 33 => ⟨S4x511x1280, .f32⟩
  | 34 => ⟨S4x511x1280, .f32⟩
  | 35 => ⟨S4x511x1280, .f32⟩
  | 36 => ⟨S4x511x1280, .f32⟩
  | 37 => ⟨S4x1x1280, .f32⟩
  | 38 => ⟨S4x512x1280, .f32⟩
  | 39 => ⟨S4x1x1280, .f32⟩
  | 40 => ⟨S4x512x1280, .f32⟩
  | 41 => ⟨S_, .f32⟩
  | 42 => ⟨S4x1024x1280, .f32⟩
  | 43 => ⟨S_, .f32⟩
  | 44 => ⟨S4x1024x1280, .f32⟩
  | 45 => ⟨S4x1024x1280, .f32⟩
  | 46 => ⟨S_, .f32⟩
  | 47 => ⟨S4x1024x1280, .f32⟩
  | 48 => ⟨S_, .f32⟩
  | 49 => ⟨S4x1024x1280, .f32⟩
  | 50 => ⟨S4x1024x1280, .f32⟩
  | 51 => ⟨S4x1023x1280, .f32⟩
  | 52 => ⟨S4x1023x1280, .f32⟩
  | 53 => ⟨S4x1023x1280, .f32⟩
  | 54 => ⟨S4x1023x1280, .f32⟩
  | 55 => ⟨S4x1023x1280, .f32⟩
  | 56 => ⟨S4x1023x1280, .f32⟩
  | 57 => ⟨S4x1023x1280, .f32⟩
  | 58 => ⟨S4x1x1280, .f32⟩
  | 59 => ⟨S4x1024x1280, .f32⟩
  | 60 => ⟨S4x1x1280, .f32⟩
  | 61 => ⟨S4x1024x1280, .f32⟩
  | 62 => ⟨S_, .f32⟩
  | 63 => ⟨S4x2048x1280, .f32⟩
  | 64 => ⟨S_, .f32⟩
  | 65 => ⟨S4x2048x1280, .f32⟩
  | 66 => ⟨S4x2048x1280, .f32⟩
  | 67 => ⟨S_, .f32⟩
  | 68 => ⟨S4x2048x1280, .f32⟩
  | 69 => ⟨S_, .f32⟩
  | 70 => ⟨S4x2048x1280, .f32⟩
  | 71 => ⟨S4x2048x1280, .f32⟩
  | 72 => ⟨S4x1x1280, .f32⟩
  | 73 => ⟨S_, .f32⟩
  | 74 => ⟨S4x1x1280, .f32⟩
  | 75 => ⟨S4x2047x1280, .f32⟩
  | 76 => ⟨S4x2048x1280, .f32⟩
  | 77 => ⟨S2048x4x1280, .f32⟩
  | 78 => ⟨S_, .f32⟩
  | 79 => ⟨S4x1280, .f32⟩
  | 80 => ⟨S4x2048x1280, .f32⟩
  | 81 => ⟨S4x2048x1280, .f32⟩
  | 82 => ⟨S4x2048x1280, .f32⟩
  | 83 => ⟨S_, .f32⟩
  | 84 => ⟨S4x2048x1280, .f32⟩
  | 85 => ⟨S4x2048x1280, .f32⟩
  | 86 => ⟨S_, .f32⟩
  | 87 => ⟨S4x2048x1280, .f32⟩
  | 88 => ⟨S4x2048x1280, .f32⟩
  | 89 => ⟨S4x2048x1280, .f32⟩
  | 90 => ⟨S_, .f32⟩
  | 91 => ⟨S4x2048x1280, .f32⟩
  | 92 => ⟨S4x2048x1280, .f32⟩
  | 93 => ⟨S4x2048x1280, .f32⟩
  | 94 => ⟨S_, .f32⟩
  | 95 => ⟨S4x2048x1280, .f32⟩
  | 96 => ⟨S4x2048x1280, .f32⟩
  | 97 => ⟨S_, .f32⟩
  | 98 => ⟨S4x2048x1280, .f32⟩
  | 99 => ⟨S4x2048x1280, .f32⟩
  | 100 => ⟨S4x2048x1280, .f32⟩
  | 101 => ⟨S_, .f32⟩
  | 102 => ⟨S4x2048x1280, .f32⟩
  | 103 => ⟨S4x2048x1280, .f32⟩
  | 104 => ⟨S_, .f32⟩
  | 105 => ⟨S4x2048x1280, .f32⟩
  | 106 => ⟨S4x2048x1280, .f32⟩
  | 107 => ⟨S4x2048x1280, .f32⟩
  | 108 => ⟨S4x2048x1280, .f32⟩
  | 109 => ⟨S4x2048x1280, .f32⟩
  | 110 => ⟨S4x2048x1280, .f32⟩
  | 111 => ⟨S4x2048x1280, .f32⟩
  | 112 => ⟨S4x2048x1280, .f32⟩
  | 113 => ⟨S_, .f32⟩
  | 114 => ⟨S4x2048x1280, .f32⟩
  | 115 => ⟨S4x2048x1280, .f32⟩
  | 116 => ⟨S4x2048x1280, .f32⟩
  | 117 => ⟨S_, .f32⟩
  | 118 => ⟨S4x2048x1280, .f32⟩
  | 119 => ⟨S4x2048x1280, .f32⟩
  | 120 => ⟨S4x2048x1280, .f32⟩
  | 121 => ⟨S_, .f32⟩
  | 122 => ⟨S4x2048x1280, .f32⟩
  | 123 => ⟨S4x2048x1280, .f32⟩
  | 124 => ⟨S4x2048x1280, .f32⟩
  | 125 => ⟨S4x2048x1280, .f32⟩
  | 126 => ⟨S2048x4x1280, .f32⟩
  | 127 => ⟨S_, .f32⟩
  | _ => ⟨S4x2048x2560, .f32⟩

abbrev hbmTy0_4 (i : Nat) : BufTy := match i % 128 with
  | 0 => ⟨S4x1280, .f32⟩
  | 1 => ⟨S_, .f32⟩
  | 2 => ⟨S2048x4x1280, .f32⟩
  | 3 => ⟨S_, .i32⟩
  | 4 => ⟨S2048x4x1280, .f32⟩
  | 5 => ⟨S2048x4x1280, .f32⟩
  | 6 => ⟨S_, .i32⟩
  | 7 => ⟨S4x1280, .f32⟩
  | 8 => ⟨S2048x4x1280, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S1x4x1280, .f32⟩
  | 18 => ⟨S4x1280, .f32⟩
  | 19 => ⟨S_, .i32⟩
  | 20 => ⟨S_, .i32⟩
  | 21 => ⟨S1x4x1280, .f32⟩
  | 22 => ⟨S4x1280, .f32⟩
  | 23 => ⟨S4x1280, .f32⟩
  | 24 => ⟨S4x1280, .f32⟩
  | 25 => ⟨S1x4x1280, .f32⟩
  | 26 => ⟨S_, .i32⟩
  | 27 => ⟨S_, .i32⟩
  | 28 => ⟨S2048x4x1280, .f32⟩
  | 29 => ⟨S_, .i32⟩
  | 30 => ⟨S_, .i32⟩
  | 31 => ⟨S4x2048x1280, .f32⟩
  | 32 => ⟨S4x2048x1280, .f32⟩
  | 33 => ⟨S4x2048x1280, .f32⟩
  | 34 => ⟨S4x2048x1280, .f32⟩
  | 35 => ⟨S4x2048x1280, .f32⟩
  | 36 => ⟨S4x2048x1280, .f32⟩
  | 37 => ⟨S4x2048x1280, .f32⟩
  | 38 => ⟨S4x2048x1280, .f32⟩
  | 39 => ⟨S4x2048x1280, .f32⟩
  | 40 => ⟨S_, .f32⟩
  | 41 => ⟨S4x2048x1280, .f32⟩
  | 42 => ⟨S4x2048x1280, .f32⟩
  | 43 => ⟨S4x2048x1280, .f32⟩
  | 44 => ⟨S4x2048x1280, .f32⟩
  | 45 => ⟨S4x2048x1280, .f32⟩
  | 46 => ⟨S_, .f32⟩
  | 47 => ⟨S1280, .f32⟩
  | 48 => ⟨S1x1x1280, .f32⟩
  | 49 => ⟨S4x2048x1280, .f32⟩
  | 50 => ⟨S4x2048x1280, .f32⟩
  | 51 => ⟨S_, .f32⟩
  | 52 => ⟨S1280, .f32⟩
  | 53 => ⟨S1280, .f32⟩
  | 54 => ⟨S1280, .f32⟩
  | 55 => ⟨S_, .f32⟩
  | 56 => ⟨S4x2048x1280, .f32⟩
  | 57 => ⟨S4x2048x1280, .f32⟩
  | 58 => ⟨S4x2048x10x128, .f32⟩
  | 59 => ⟨S4x2048x10x128, .f32⟩
  | 60 => ⟨S4x2048x10x128, .f32⟩
  | 61 => ⟨S4x2048x10x128, .f32⟩
  | 62 => ⟨S4x2048x10x256, .f32⟩
  | 63 => ⟨S_, .f32⟩
  | 64 => ⟨S10x256, .f32⟩
  | 65 => ⟨S1x1x10x256, .f32⟩
  | 66 => ⟨S_, .f32⟩
  | 67 => ⟨S10x256, .f32⟩
  | 68 => ⟨S10x256x4x2048, .f32⟩
  | 69 => ⟨S10x4x2048x128, .f32⟩
  | 70 => ⟨S4x2048x10x128, .f32⟩
  | 71 => ⟨S10x256x128, .f32⟩
  | 72 => ⟨S10x128x256, .f32⟩
  | 73 => ⟨S4x2048x1280, .f32⟩
  | 74 => ⟨S4x2048x1280, .f32⟩
  | 75 => ⟨S4x2048x1280, .f32⟩
  | 76 => ⟨S_, .f32⟩
  | 77 => ⟨S1280, .f32⟩
  | 78 => ⟨S1x1x1280, .f32⟩
  | 79 => ⟨S4x2048x1280, .f32⟩
  | 80 => ⟨S4x2048x1280, .f32⟩
  | 81 => ⟨S_, .f32⟩
  | 82 => ⟨S1280, .f32⟩
  | 83 => ⟨S1x1280, .f32⟩
  | 84 => ⟨S_, .f32⟩
  | 85 => ⟨S4x1280, .f32⟩
  | 86 => ⟨S_, .f32⟩
  | 87 => ⟨S4x2051x1280, .f32⟩
  | 88 => ⟨S4x2048x1280, .f32⟩
  | 89 => ⟨S_, .f32⟩
  | 90 => ⟨S1280, .f32⟩
  | 91 => ⟨S1x1x1280, .f32⟩
  | 92 => ⟨S4x2048x1280, .f32⟩
  | 93 => ⟨S4x2048x1280, .f32⟩
  | 94 => ⟨S_, .f32⟩
  | 95 => ⟨S1280, .f32⟩
  | 96 => ⟨S1x1280, .f32⟩
  | 97 => ⟨S_, .f32⟩
  | 98 => ⟨S4x1280, .f32⟩
  | 99 => ⟨S4x1280, .f32⟩
  | 100 => ⟨S_, .f32⟩
  | 101 => ⟨S4x2051x1280, .f32⟩
  | 102 => ⟨S4x2051x1280, .f32⟩
  | 103 => ⟨S4x2048x1280, .f32⟩
  | 104 => ⟨S_, .f32⟩
  | 105 => ⟨S1280, .f32⟩
  | 106 => ⟨S1x1x1280, .f32⟩
  | 107 => ⟨S4x2048x1280, .f32⟩
  | 108 => ⟨S4x2048x1280, .f32⟩
  | 109 => ⟨S_, .f32⟩
  | 110 => ⟨S1280, .f32⟩
  | 111 => ⟨S1x1280, .f32⟩
  | 112 => ⟨S_, .f32⟩
  | 113 => ⟨S4x1280, .f32⟩
  | 114 => ⟨S4x1280, .f32⟩
  | 115 => ⟨S_, .f32⟩
  | 116 => ⟨S4x2051x1280, .f32⟩
  | 117 => ⟨S4x2051x1280, .f32⟩
  | 118 => ⟨S_, .f32⟩
  | 119 => ⟨S1280, .f32⟩
  | 120 => ⟨S1x1x1280, .f32⟩
  | 121 => ⟨S_, .f32⟩
  | 122 => ⟨S1280, .f32⟩
  | 123 => ⟨S4x2048x1280, .f32⟩
  | 124 => ⟨S_, .f32⟩
  | 125 => ⟨S1280, .f32⟩
  | 126 => ⟨S1x1x1280, .f32⟩
  | 127 => ⟨S4x2048x1280, .f32⟩
  | _ => ⟨S4x2048x2560, .f32⟩

abbrev hbmTy0_5 (i : Nat) : BufTy := match i % 128 with
  | 0 => ⟨S4x2048x1280, .f32⟩
  | 1 => ⟨S_, .f32⟩
  | 2 => ⟨S1280, .f32⟩
  | 3 => ⟨S1x1280, .f32⟩
  | 4 => ⟨S_, .f32⟩
  | 5 => ⟨S4x1280, .f32⟩
  | 6 => ⟨S4x1280, .f32⟩
  | 7 => ⟨S_, .f32⟩
  | 8 => ⟨S4x2051x1280, .f32⟩
  | 9 => ⟨S4x2051x1280, .f32⟩
  | 10 => ⟨S4x3x1280, .f32⟩
  | 11 => ⟨S4x2048x1280, .f32⟩
  | 12 => ⟨S4x2048x2560, .f32⟩
  | 13 => ⟨S_, .f32⟩
  | 14 => ⟨S2560, .f32⟩
  | 15 => ⟨S1x1x2560, .f32⟩
  | 16 => ⟨S_, .f32⟩
  | 17 => ⟨S2560, .f32⟩
  | 18 => ⟨S4x2048x2560, .bf16⟩
  | 19 => ⟨S1x1280, .f32⟩
  | 20 => ⟨S10x1x256, .f32⟩
  | 21 => ⟨S1x1280, .f32⟩
  | 22 => ⟨S1280, .f32⟩
  | 23 => ⟨S1x1280, .f32⟩
  | 24 => ⟨S1280, .f32⟩
  | 25 => ⟨S1x1280, .f32⟩
  | _ => ⟨S4x2048x2560, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x2048x2560, .f32⟩

abbrev bufTy : (tb : Table) → Fin (tcTables nBuf tb) → BufTy
  | .hbm, ⟨i, _⟩ => hbmTy i
  | _, _ => ⟨S4x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_1 : Ref sig .tc := ⟨.hbm, 58, rfl⟩
abbrev main_v48 : Ref sig .tc := ⟨.hbm, 59, rfl⟩
abbrev main_v49 : Ref sig .tc := ⟨.hbm, 60, rfl⟩
abbrev main_cst_2 : Ref sig .tc := ⟨.hbm, 61, rfl⟩
abbrev main_v50 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_v69_0 : Ref sig .tc := ⟨.hbm, 99, rfl⟩
abbrev main_call0_cst_0 : Ref sig .tc := ⟨.hbm, 100, rfl⟩
abbrev main_call0_v13 : Ref sig .tc := ⟨.hbm, 101, rfl⟩
abbrev main_call0_v14 : Ref sig .tc := ⟨.hbm, 102, rfl⟩
abbrev main_call0_cst_1 : Ref sig .tc := ⟨.hbm, 103, rfl⟩
abbrev main_call0_v15 : Ref sig .tc := ⟨.hbm, 104, rfl⟩
abbrev main_call0_v16 : Ref sig .tc := ⟨.hbm, 105, rfl⟩
abbrev main_call0_cst_2 : Ref sig .tc := ⟨.hbm, 106, rfl⟩
abbrev main_call0_v17 : Ref sig .tc := ⟨.hbm, 107, rfl⟩
abbrev main_call0_v18 : Ref sig .tc := ⟨.hbm, 108, rfl⟩
abbrev main_call0_cst_3 : Ref sig .tc := ⟨.hbm, 109, rfl⟩
abbrev main_call0_v19 : Ref sig .tc := ⟨.hbm, 110, rfl⟩
abbrev main_call0_v20 : Ref sig .tc := ⟨.hbm, 111, rfl⟩
abbrev main_call0_v21 : Ref sig .tc := ⟨.hbm, 112, rfl⟩
abbrev main_v69_1 : Ref sig .tc := ⟨.hbm, 113, rfl⟩
abbrev main_call0_cst_4 : Ref sig .tc := ⟨.hbm, 114, rfl⟩
abbrev main_call0_cst_5 : Ref sig .tc := ⟨.hbm, 115, rfl⟩
abbrev main_call0_v23 : Ref sig .tc := ⟨.hbm, 116, rfl⟩
abbrev main_call0_cst_6 : Ref sig .tc := ⟨.hbm, 117, rfl⟩
abbrev main_call0_cst_7 : Ref sig .tc := ⟨.hbm, 118, rfl⟩
abbrev main_call0_v24 : Ref sig .tc := ⟨.hbm, 119, rfl⟩
abbrev main_call0_cst_8 : Ref sig .tc := ⟨.hbm, 120, rfl⟩
abbrev main_call0_v25 : Ref sig .tc := ⟨.hbm, 121, rfl⟩
abbrev main_call0_v26 : Ref sig .tc := ⟨.hbm, 122, rfl⟩
abbrev main_call0_cst_9 : Ref sig .tc := ⟨.hbm, 123, rfl⟩
abbrev main_call0_v27 : Ref sig .tc := ⟨.hbm, 124, rfl⟩
abbrev main_call0_v28 : Ref sig .tc := ⟨.hbm, 125, rfl⟩
abbrev main_call0_v29 : Ref sig .tc := ⟨.hbm, 126, rfl⟩
abbrev main_call0_v30 : Ref sig .tc := ⟨.hbm, 127, rfl⟩
abbrev main_call0_v31 : Ref sig .tc := ⟨.hbm, 128, rfl⟩
abbrev main_call0_cst_10 : Ref sig .tc := ⟨.hbm, 129, rfl⟩
abbrev main_call0_v32 : Ref sig .tc := ⟨.hbm, 130, rfl⟩
abbrev main_v69_2 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_8 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_9 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_cst_10 : Ref sig .tc := ⟨.hbm, 236, rfl⟩
abbrev main_v172 : Ref sig .tc := ⟨.hbm, 237, rfl⟩
abbrev main_cst_11 : Ref sig .tc := ⟨.hbm, 238, rfl⟩
abbrev main_v173 : Ref sig .tc := ⟨.hbm, 239, rfl⟩
abbrev main_v174 : Ref sig .tc := ⟨.hbm, 240, rfl⟩
abbrev main_cst_12 : Ref sig .tc := ⟨.hbm, 241, rfl⟩
abbrev main_v175 : Ref sig .tc := ⟨.hbm, 242, rfl⟩
abbrev main_cst_13 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_14 : Ref sig .tc := ⟨.hbm, 257, rfl⟩
abbrev main_v189 : Ref sig .tc := ⟨.hbm, 258, rfl⟩
abbrev main_cst_15 : Ref sig .tc := ⟨.hbm, 259, rfl⟩
abbrev main_v190 : Ref sig .tc := ⟨.hbm, 260, rfl⟩
abbrev main_v191 : Ref sig .tc := ⟨.hbm, 261, rfl⟩
abbrev main_cst_16 : Ref sig .tc := ⟨.hbm, 262, rfl⟩
abbrev main_v192 : Ref sig .tc := ⟨.hbm, 263, rfl⟩
abbrev main_cst_17 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_cst_18 : Ref sig .tc := ⟨.hbm, 278, rfl⟩
abbrev main_v206 : Ref sig .tc := ⟨.hbm, 279, rfl⟩
abbrev main_cst_19 : Ref sig .tc := ⟨.hbm, 280, rfl⟩
abbrev main_v207 : Ref sig .tc := ⟨.hbm, 281, rfl⟩
abbrev main_v208 : Ref sig .tc := ⟨.hbm, 282, rfl⟩
abbrev main_cst_20 : Ref sig .tc := ⟨.hbm, 283, rfl⟩
abbrev main_v209 : Ref sig .tc := ⟨.hbm, 284, rfl⟩
abbrev main_cst_21 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_cst_22 : Ref sig .tc := ⟨.hbm, 299, rfl⟩
abbrev main_v223 : Ref sig .tc := ⟨.hbm, 300, rfl⟩
abbrev main_cst_23 : Ref sig .tc := ⟨.hbm, 301, rfl⟩
abbrev main_v224 : Ref sig .tc := ⟨.hbm, 302, rfl⟩
abbrev main_v225 : Ref sig .tc := ⟨.hbm, 303, rfl⟩
abbrev main_cst_24 : Ref sig .tc := ⟨.hbm, 304, rfl⟩
abbrev main_v226 : Ref sig .tc := ⟨.hbm, 305, rfl⟩
abbrev main_cst_25 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_cst_26 : Ref sig .tc := ⟨.hbm, 320, rfl⟩
abbrev main_v240 : Ref sig .tc := ⟨.hbm, 321, rfl⟩
abbrev main_cst_27 : Ref sig .tc := ⟨.hbm, 322, rfl⟩
abbrev main_v241 : Ref sig .tc := ⟨.hbm, 323, rfl⟩
abbrev main_v242 : Ref sig .tc := ⟨.hbm, 324, rfl⟩
abbrev main_cst_28 : Ref sig .tc := ⟨.hbm, 325, rfl⟩
abbrev main_v243 : Ref sig .tc := ⟨.hbm, 326, rfl⟩
abbrev main_cst_29 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_cst_30 : Ref sig .tc := ⟨.hbm, 341, rfl⟩
abbrev main_v257 : Ref sig .tc := ⟨.hbm, 342, rfl⟩
abbrev main_cst_31 : Ref sig .tc := ⟨.hbm, 343, rfl⟩
abbrev main_v258 : Ref sig .tc := ⟨.hbm, 344, rfl⟩
abbrev main_v259 : Ref sig .tc := ⟨.hbm, 345, rfl⟩
abbrev main_cst_32 : Ref sig .tc := ⟨.hbm, 346, rfl⟩
abbrev main_v260 : Ref sig .tc := ⟨.hbm, 347, rfl⟩
abbrev main_cst_33 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_cst_34 : Ref sig .tc := ⟨.hbm, 362, rfl⟩
abbrev main_v274 : Ref sig .tc := ⟨.hbm, 363, rfl⟩
abbrev main_cst_35 : Ref sig .tc := ⟨.hbm, 364, rfl⟩
abbrev main_v275 : Ref sig .tc := ⟨.hbm, 365, rfl⟩
abbrev main_v276 : Ref sig .tc := ⟨.hbm, 366, rfl⟩
abbrev main_cst_36 : Ref sig .tc := ⟨.hbm, 367, rfl⟩
abbrev main_v277 : Ref sig .tc := ⟨.hbm, 368, rfl⟩
abbrev main_cst_37 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_cst_38 : Ref sig .tc := ⟨.hbm, 383, rfl⟩
abbrev main_v291 : Ref sig .tc := ⟨.hbm, 384, rfl⟩
abbrev main_cst_39 : Ref sig .tc := ⟨.hbm, 385, rfl⟩
abbrev main_v292 : Ref sig .tc := ⟨.hbm, 386, rfl⟩
abbrev main_v293 : Ref sig .tc := ⟨.hbm, 387, rfl⟩
abbrev main_cst_40 : Ref sig .tc := ⟨.hbm, 388, rfl⟩
abbrev main_v294 : Ref sig .tc := ⟨.hbm, 389, rfl⟩
abbrev main_cst_41 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_v307 : Ref sig .tc := ⟨.hbm, 403, rfl⟩
abbrev main_cst_42 : Ref sig .tc := ⟨.hbm, 404, rfl⟩
abbrev main_v308 : Ref sig .tc := ⟨.hbm, 405, rfl⟩
abbrev main_cst_43 : Ref sig .tc := ⟨.hbm, 406, rfl⟩
abbrev main_v309 : Ref sig .tc := ⟨.hbm, 407, rfl⟩
abbrev main_v310 : Ref sig .tc := ⟨.hbm, 408, rfl⟩
abbrev main_cst_44 : Ref sig .tc := ⟨.hbm, 409, rfl⟩
abbrev main_v311 : Ref sig .tc := ⟨.hbm, 410, rfl⟩
abbrev main_cst_45 : Ref sig .tc := ⟨.hbm, 411, rfl⟩
abbrev main_v312 : Ref sig .tc := ⟨.hbm, 412, rfl⟩
abbrev main_v313 : Ref sig .tc := ⟨.hbm, 413, rfl⟩
abbrev main_v314 : Ref sig .tc := ⟨.hbm, 414, rfl⟩
abbrev main_v315 : Ref sig .tc := ⟨.hbm, 415, rfl⟩
abbrev main_v316 : Ref sig .tc := ⟨.hbm, 416, rfl⟩
abbrev main_v317 : Ref sig .tc := ⟨.hbm, 417, rfl⟩
abbrev main_v318 : Ref sig .tc := ⟨.hbm, 418, rfl⟩
abbrev main_v319 : Ref sig .tc := ⟨.hbm, 419, rfl⟩
abbrev main_v320 : Ref sig .tc := ⟨.hbm, 420, rfl⟩
abbrev main_v321 : Ref sig .tc := ⟨.hbm, 421, rfl⟩
abbrev main_v322 : Ref sig .tc := ⟨.hbm, 422, rfl⟩
abbrev main_v323 : Ref sig .tc := ⟨.hbm, 423, rfl⟩
abbrev main_v324 : Ref sig .tc := ⟨.hbm, 424, rfl⟩
abbrev main_cst_46 : Ref sig .tc := ⟨.hbm, 425, rfl⟩
abbrev main_v325 : Ref sig .tc := ⟨.hbm, 426, rfl⟩
abbrev main_cst_47 : Ref sig .tc := ⟨.hbm, 427, rfl⟩
abbrev main_v326 : Ref sig .tc := ⟨.hbm, 428, rfl⟩
abbrev main_v327 : Ref sig .tc := ⟨.hbm, 429, rfl⟩
abbrev main_cst_48 : Ref sig .tc := ⟨.hbm, 430, rfl⟩
abbrev main_v328 : Ref sig .tc := ⟨.hbm, 431, rfl⟩
abbrev main_cst_49 : Ref sig .tc := ⟨.hbm, 432, rfl⟩
abbrev main_v329 : Ref sig .tc := ⟨.hbm, 433, rfl⟩
abbrev main_v330 : Ref sig .tc := ⟨.hbm, 434, rfl⟩
abbrev main_v331 : Ref sig .tc := ⟨.hbm, 435, rfl⟩
abbrev main_v332 : Ref sig .tc := ⟨.hbm, 436, rfl⟩
abbrev main_v333 : Ref sig .tc := ⟨.hbm, 437, rfl⟩
abbrev main_v334 : Ref sig .tc := ⟨.hbm, 438, rfl⟩
abbrev main_v335 : Ref sig .tc := ⟨.hbm, 439, rfl⟩
abbrev main_v336 : Ref sig .tc := ⟨.hbm, 440, rfl⟩
abbrev main_v337 : Ref sig .tc := ⟨.hbm, 441, rfl⟩
abbrev main_v338 : Ref sig .tc := ⟨.hbm, 442, rfl⟩
abbrev main_v339 : Ref sig .tc := ⟨.hbm, 443, rfl⟩
abbrev main_v340 : Ref sig .tc := ⟨.hbm, 444, rfl⟩
abbrev main_v341 : Ref sig .tc := ⟨.hbm, 445, rfl⟩
abbrev main_cst_50 : Ref sig .tc := ⟨.hbm, 446, rfl⟩
abbrev main_v342 : Ref sig .tc := ⟨.hbm, 447, rfl⟩
abbrev main_cst_51 : Ref sig .tc := ⟨.hbm, 448, rfl⟩
abbrev main_v343 : Ref sig .tc := ⟨.hbm, 449, rfl⟩
abbrev main_v344 : Ref sig .tc := ⟨.hbm, 450, rfl⟩
abbrev main_cst_52 : Ref sig .tc := ⟨.hbm, 451, rfl⟩
abbrev main_v345 : Ref sig .tc := ⟨.hbm, 452, rfl⟩
abbrev main_cst_53 : Ref sig .tc := ⟨.hbm, 453, rfl⟩
abbrev main_v346 : Ref sig .tc := ⟨.hbm, 454, rfl⟩
abbrev main_v347 : Ref sig .tc := ⟨.hbm, 455, rfl⟩
abbrev main_v348 : Ref sig .tc := ⟨.hbm, 456, rfl⟩
abbrev main_cst_54 : Ref sig .tc := ⟨.hbm, 457, rfl⟩
abbrev main_v349 : Ref sig .tc := ⟨.hbm, 458, rfl⟩
abbrev main_v350 : Ref sig .tc := ⟨.hbm, 459, rfl⟩
abbrev main_v351 : Ref sig .tc := ⟨.hbm, 460, rfl⟩
abbrev main_v352 : Ref sig .tc := ⟨.hbm, 461, rfl⟩
abbrev main_cst_55 : Ref sig .tc := ⟨.hbm, 462, rfl⟩
abbrev main_v353 : Ref sig .tc := ⟨.hbm, 463, rfl⟩
abbrev main_v354 : Ref sig .tc := ⟨.hbm, 464, rfl⟩
abbrev main_v355 : Ref sig .tc := ⟨.hbm, 465, rfl⟩
abbrev main_v356 : Ref sig .tc := ⟨.hbm, 466, rfl⟩
abbrev main_cst_56 : Ref sig .tc := ⟨.hbm, 467, rfl⟩
abbrev main_v357 : Ref sig .tc := ⟨.hbm, 468, rfl⟩
abbrev main_v358 : Ref sig .tc := ⟨.hbm, 469, rfl⟩
abbrev main_cst_57 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_cst_58 : Ref sig .tc := ⟨.hbm, 474, rfl⟩
abbrev main_v362 : Ref sig .tc := ⟨.hbm, 475, rfl⟩
abbrev main_v363 : Ref sig .tc := ⟨.hbm, 476, rfl⟩
abbrev main_v364 : Ref sig .tc := ⟨.hbm, 477, rfl⟩
abbrev main_cst_59 : Ref sig .tc := ⟨.hbm, 478, rfl⟩
abbrev main_v365 : Ref sig .tc := ⟨.hbm, 479, rfl⟩
abbrev main_v366 : Ref sig .tc := ⟨.hbm, 480, rfl⟩
abbrev main_cst_60 : Ref sig .tc := ⟨.hbm, 481, rfl⟩
abbrev main_v367 : Ref sig .tc := ⟨.hbm, 482, rfl⟩
abbrev main_v368 : Ref sig .tc := ⟨.hbm, 483, rfl⟩
abbrev main_v369 : Ref sig .tc := ⟨.hbm, 484, rfl⟩
abbrev main_cst_61 : Ref sig .tc := ⟨.hbm, 485, rfl⟩
abbrev main_v370 : Ref sig .tc := ⟨.hbm, 486, rfl⟩
abbrev main_v371 : Ref sig .tc := ⟨.hbm, 487, rfl⟩
abbrev main_cst_62 : Ref sig .tc := ⟨.hbm, 488, rfl⟩
abbrev main_v372 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_v376 : Ref sig .tc := ⟨.hbm, 493, rfl⟩
abbrev main_v377 : Ref sig .tc := ⟨.hbm, 494, rfl⟩
abbrev main_v378 : Ref sig .tc := ⟨.hbm, 495, rfl⟩
abbrev main_v379 : Ref sig .tc := ⟨.hbm, 496, rfl⟩
abbrev main_cst_63 : Ref sig .tc := ⟨.hbm, 497, rfl⟩
abbrev main_v380 : Ref sig .tc := ⟨.hbm, 498, rfl⟩
abbrev main_v381 : Ref sig .tc := ⟨.hbm, 499, rfl⟩
abbrev main_v382 : Ref sig .tc := ⟨.hbm, 500, rfl⟩
abbrev main_cst_64 : Ref sig .tc := ⟨.hbm, 501, rfl⟩
abbrev main_v383 : Ref sig .tc := ⟨.hbm, 502, rfl⟩
abbrev main_v384 : Ref sig .tc := ⟨.hbm, 503, rfl⟩
abbrev main_v385 : Ref sig .tc := ⟨.hbm, 504, rfl⟩
abbrev main_cst_65 : Ref sig .tc := ⟨.hbm, 505, rfl⟩
abbrev main_v386 : Ref sig .tc := ⟨.hbm, 506, rfl⟩
abbrev main_v387 : Ref sig .tc := ⟨.hbm, 507, rfl⟩
abbrev main_v388 : Ref sig .tc := ⟨.hbm, 508, rfl⟩
abbrev main_v389 : Ref sig .tc := ⟨.hbm, 509, rfl⟩
abbrev main_v390 : Ref sig .tc := ⟨.hbm, 510, rfl⟩
abbrev main_cst_66 : Ref sig .tc := ⟨.hbm, 511, rfl⟩
abbrev main_v391 : Ref sig .tc := ⟨.hbm, 512, rfl⟩
abbrev main_cst_67 : Ref sig .tc := ⟨.hbm, 513, rfl⟩
abbrev main_v392 : Ref sig .tc := ⟨.hbm, 514, rfl⟩
abbrev main_c : Ref sig .tc := ⟨.hbm, 515, rfl⟩
abbrev main_v393_0 : Ref sig .tc := ⟨.hbm, 516, rfl⟩
abbrev main_v393_1 : Ref sig .tc := ⟨.hbm, 517, rfl⟩
abbrev main_v393_2 : Ref sig .tc := ⟨.hbm, 518, rfl⟩
abbrev main_v393_3 : Ref sig .tc := ⟨.hbm, 519, rfl⟩
abbrev main_v393_4 : Ref sig .tc := ⟨.hbm, 520, rfl⟩
abbrev main_while0c_c_98 : Ref sig .tc := ⟨.hbm, 521, rfl⟩
abbrev main_while0c_v491 : Ref sig .tc := ⟨.hbm, 522, rfl⟩
abbrev main_while0b_c_98 : Ref sig .tc := ⟨.hbm, 523, rfl⟩
abbrev main_while0b_v491 : Ref sig .tc := ⟨.hbm, 524, rfl⟩
abbrev main_while0b_c_99 : Ref sig .tc := ⟨.hbm, 525, rfl⟩
abbrev main_while0b_v492 : Ref sig .tc := ⟨.hbm, 526, rfl⟩
abbrev main_while0b_call1_c : Ref sig .tc := ⟨.hbm, 527, rfl⟩
abbrev main_while0b_call1_c_0 : Ref sig .tc := ⟨.hbm, 528, rfl⟩
abbrev main_while0b_call1_v0 : Ref sig .tc := ⟨.hbm, 529, rfl⟩
abbrev main_while0b_v493 : Ref sig .tc := ⟨.hbm, 530, rfl⟩
abbrev main_while0b_call2_c : Ref sig .tc := ⟨.hbm, 531, rfl⟩
abbrev main_while0b_call2_c_0 : Ref sig .tc := ⟨.hbm, 532, rfl⟩
abbrev main_while0b_call2_v0 : Ref sig .tc := ⟨.hbm, 533, rfl⟩
abbrev main_while0b_v494 : Ref sig .tc := ⟨.hbm, 534, rfl⟩
abbrev main_while0b_v495 : Ref sig .tc := ⟨.hbm, 535, rfl⟩
abbrev main_while0b_v496 : Ref sig .tc := ⟨.hbm, 536, rfl⟩
abbrev main_while0b_call3_v0 : Ref sig .tc := ⟨.hbm, 537, rfl⟩
abbrev main_while0b_call3_c : Ref sig .tc := ⟨.hbm, 538, rfl⟩
abbrev main_while0b_call3_c_0 : Ref sig .tc := ⟨.hbm, 539, rfl⟩
abbrev main_while0b_v497 : Ref sig .tc := ⟨.hbm, 540, rfl⟩
abbrev main_while0b_c_100 : Ref sig .tc := ⟨.hbm, 541, rfl⟩
abbrev main_while0b_v498 : Ref sig .tc := ⟨.hbm, 542, rfl⟩
abbrev main_v394 : Ref sig .tc := ⟨.hbm, 543, rfl⟩
abbrev main_v395 : Ref sig .tc := ⟨.hbm, 544, rfl⟩
abbrev main_v396 : Ref sig .tc := ⟨.hbm, 545, rfl⟩
abbrev main_v397 : Ref sig .tc := ⟨.hbm, 546, rfl⟩
abbrev main_v398 : Ref sig .tc := ⟨.hbm, 547, rfl⟩
abbrev main_v399 : Ref sig .tc := ⟨.hbm, 548, rfl⟩
abbrev main_v400 : Ref sig .tc := ⟨.hbm, 549, rfl⟩
abbrev main_v401 : Ref sig .tc := ⟨.hbm, 550, rfl⟩
abbrev main_v402 : Ref sig .tc := ⟨.hbm, 551, rfl⟩
abbrev main_cst_68 : Ref sig .tc := ⟨.hbm, 552, rfl⟩
abbrev main_v403 : Ref sig .tc := ⟨.hbm, 553, rfl⟩
abbrev main_v404 : Ref sig .tc := ⟨.hbm, 554, rfl⟩
abbrev main_v405 : Ref sig .tc := ⟨.hbm, 555, rfl⟩
abbrev main_v406 : Ref sig .tc := ⟨.hbm, 556, rfl⟩
abbrev main_v407 : Ref sig .tc := ⟨.hbm, 557, rfl⟩
abbrev main_cst_69 : Ref sig .tc := ⟨.hbm, 558, rfl⟩
abbrev main_v408 : Ref sig .tc := ⟨.hbm, 559, rfl⟩
abbrev main_v409 : Ref sig .tc := ⟨.hbm, 560, rfl⟩
abbrev main_v410 : Ref sig .tc := ⟨.hbm, 561, rfl⟩
abbrev main_v411 : Ref sig .tc := ⟨.hbm, 562, rfl⟩
abbrev main_cst_70 : Ref sig .tc := ⟨.hbm, 563, rfl⟩
abbrev main_v412 : Ref sig .tc := ⟨.hbm, 564, rfl⟩
abbrev main_v413 : Ref sig .tc := ⟨.hbm, 565, rfl⟩
abbrev main_v414 : Ref sig .tc := ⟨.hbm, 566, rfl⟩
abbrev main_cst_71 : Ref sig .tc := ⟨.hbm, 567, rfl⟩
abbrev main_v415 : Ref sig .tc := ⟨.hbm, 568, rfl⟩
abbrev main_v416 : Ref sig .tc := ⟨.hbm, 569, rfl⟩
abbrev main_v417 : Ref sig .tc := ⟨.hbm, 570, rfl⟩
abbrev main_v418 : Ref sig .tc := ⟨.hbm, 571, rfl⟩
abbrev main_v419 : Ref sig .tc := ⟨.hbm, 572, rfl⟩
abbrev main_v420 : Ref sig .tc := ⟨.hbm, 573, rfl⟩
abbrev main_v421 : Ref sig .tc := ⟨.hbm, 574, rfl⟩
abbrev main_cst_72 : Ref sig .tc := ⟨.hbm, 575, rfl⟩
abbrev main_v422 : Ref sig .tc := ⟨.hbm, 576, rfl⟩
abbrev main_v423 : Ref sig .tc := ⟨.hbm, 577, rfl⟩
abbrev main_cst_73 : Ref sig .tc := ⟨.hbm, 578, rfl⟩
abbrev main_v424 : Ref sig .tc := ⟨.hbm, 579, rfl⟩
abbrev main_v425 : Ref sig .tc := ⟨.hbm, 580, rfl⟩
abbrev main_v426 : Ref sig .tc := ⟨.hbm, 581, rfl⟩
abbrev main_v427 : Ref sig .tc := ⟨.hbm, 582, rfl⟩
abbrev main_v428 : Ref sig .tc := ⟨.hbm, 583, rfl⟩
abbrev main_v429 : Ref sig .tc := ⟨.hbm, 584, rfl⟩
abbrev main_v430 : Ref sig .tc := ⟨.hbm, 585, rfl⟩
abbrev main_v431 : Ref sig .tc := ⟨.hbm, 586, rfl⟩
abbrev main_v432 : Ref sig .tc := ⟨.hbm, 587, rfl⟩
abbrev main_cst_74 : Ref sig .tc := ⟨.hbm, 588, rfl⟩
abbrev main_v433 : Ref sig .tc := ⟨.hbm, 589, rfl⟩
abbrev main_v434 : Ref sig .tc := ⟨.hbm, 590, rfl⟩
abbrev main_v435 : Ref sig .tc := ⟨.hbm, 591, rfl⟩
abbrev main_v436 : Ref sig .tc := ⟨.hbm, 592, rfl⟩
abbrev main_cst_75 : Ref sig .tc := ⟨.hbm, 593, rfl⟩
abbrev main_v437 : Ref sig .tc := ⟨.hbm, 594, rfl⟩
abbrev main_v438 : Ref sig .tc := ⟨.hbm, 595, rfl⟩
abbrev main_cst_76 : Ref sig .tc := ⟨.hbm, 596, rfl⟩
abbrev main_v439 : Ref sig .tc := ⟨.hbm, 597, rfl⟩
abbrev main_cst_77 : Ref sig .tc := ⟨.hbm, 598, rfl⟩
abbrev main_v440 : Ref sig .tc := ⟨.hbm, 599, rfl⟩
abbrev main_v441 : Ref sig .tc := ⟨.hbm, 600, rfl⟩
abbrev main_cst_78 : Ref sig .tc := ⟨.hbm, 601, rfl⟩
abbrev main_v442 : Ref sig .tc := ⟨.hbm, 602, rfl⟩
abbrev main_v443 : Ref sig .tc := ⟨.hbm, 603, rfl⟩
abbrev main_v444 : Ref sig .tc := ⟨.hbm, 604, rfl⟩
abbrev main_v445 : Ref sig .tc := ⟨.hbm, 605, rfl⟩
abbrev main_cst_79 : Ref sig .tc := ⟨.hbm, 606, rfl⟩
abbrev main_v446 : Ref sig .tc := ⟨.hbm, 607, rfl⟩
abbrev main_v447 : Ref sig .tc := ⟨.hbm, 608, rfl⟩
abbrev main_cst_80 : Ref sig .tc := ⟨.hbm, 609, rfl⟩
abbrev main_v448 : Ref sig .tc := ⟨.hbm, 610, rfl⟩
abbrev main_v449 : Ref sig .tc := ⟨.hbm, 611, rfl⟩
abbrev main_cst_81 : Ref sig .tc := ⟨.hbm, 612, rfl⟩
abbrev main_v450 : Ref sig .tc := ⟨.hbm, 613, rfl⟩
abbrev main_v451 : Ref sig .tc := ⟨.hbm, 614, rfl⟩
abbrev main_v452 : Ref sig .tc := ⟨.hbm, 615, rfl⟩
abbrev main_cst_82 : Ref sig .tc := ⟨.hbm, 616, rfl⟩
abbrev main_v453 : Ref sig .tc := ⟨.hbm, 617, rfl⟩
abbrev main_v454 : Ref sig .tc := ⟨.hbm, 618, rfl⟩
abbrev main_v455 : Ref sig .tc := ⟨.hbm, 619, rfl⟩
abbrev main_v456 : Ref sig .tc := ⟨.hbm, 620, rfl⟩
abbrev main_cst_83 : Ref sig .tc := ⟨.hbm, 621, rfl⟩
abbrev main_v457 : Ref sig .tc := ⟨.hbm, 622, rfl⟩
abbrev main_v458 : Ref sig .tc := ⟨.hbm, 623, rfl⟩
abbrev main_cst_84 : Ref sig .tc := ⟨.hbm, 624, rfl⟩
abbrev main_v459 : Ref sig .tc := ⟨.hbm, 625, rfl⟩
abbrev main_v460 : Ref sig .tc := ⟨.hbm, 626, rfl⟩
abbrev main_cst_85 : Ref sig .tc := ⟨.hbm, 627, rfl⟩
abbrev main_v461 : Ref sig .tc := ⟨.hbm, 628, rfl⟩
abbrev main_v462 : Ref sig .tc := ⟨.hbm, 629, rfl⟩
abbrev main_cst_86 : Ref sig .tc := ⟨.hbm, 630, rfl⟩
abbrev main_v463 : Ref sig .tc := ⟨.hbm, 631, rfl⟩
abbrev main_v464 : Ref sig .tc := ⟨.hbm, 632, rfl⟩
abbrev main_cst_87 : Ref sig .tc := ⟨.hbm, 633, rfl⟩
abbrev main_v465 : Ref sig .tc := ⟨.hbm, 634, rfl⟩
abbrev main_v466 : Ref sig .tc := ⟨.hbm, 635, rfl⟩
abbrev main_cst_88 : Ref sig .tc := ⟨.hbm, 636, rfl⟩
abbrev main_v467 : Ref sig .tc := ⟨.hbm, 637, rfl⟩
abbrev main_v468 : Ref sig .tc := ⟨.hbm, 638, rfl⟩
abbrev main_v469 : Ref sig .tc := ⟨.hbm, 639, rfl⟩
abbrev main_v470 : Ref sig .tc := ⟨.hbm, 640, rfl⟩
abbrev main_cst_89 : Ref sig .tc := ⟨.hbm, 641, rfl⟩
abbrev main_v471 : Ref sig .tc := ⟨.hbm, 642, rfl⟩
abbrev main_v472 : Ref sig .tc := ⟨.hbm, 643, rfl⟩
abbrev main_cst_90 : Ref sig .tc := ⟨.hbm, 644, rfl⟩
abbrev main_v473 : Ref sig .tc := ⟨.hbm, 645, rfl⟩
abbrev main_v474 : Ref sig .tc := ⟨.hbm, 646, rfl⟩
abbrev main_cst_91 : Ref sig .tc := ⟨.hbm, 647, rfl⟩
abbrev main_v475 : Ref sig .tc := ⟨.hbm, 648, rfl⟩
abbrev main_v476 : Ref sig .tc := ⟨.hbm, 649, rfl⟩
abbrev main_v477 : Ref sig .tc := ⟨.hbm, 650, rfl⟩
abbrev main_v478 : Ref sig .tc := ⟨.hbm, 651, rfl⟩
abbrev main_v479 : Ref sig .tc := ⟨.hbm, 652, rfl⟩
abbrev main_cst_92 : Ref sig .tc := ⟨.hbm, 653, rfl⟩
abbrev main_v480 : Ref sig .tc := ⟨.hbm, 654, rfl⟩
abbrev main_v481 : Ref sig .tc := ⟨.hbm, 655, rfl⟩
abbrev main_cst_93 : Ref sig .tc := ⟨.hbm, 656, rfl⟩
abbrev main_v482 : Ref sig .tc := ⟨.hbm, 657, rfl⟩
abbrev main_v483 : Ref sig .tc := ⟨.hbm, 658, rfl⟩
abbrev main_v484 : Ref sig .tc := ⟨.hbm, 659, rfl⟩
abbrev main_v485 : Ref sig .tc := ⟨.hbm, 660, rfl⟩
abbrev main_v486 : Ref sig .tc := ⟨.hbm, 661, rfl⟩
abbrev main_v487 : Ref sig .tc := ⟨.hbm, 662, rfl⟩
abbrev main_v488 : Ref sig .tc := ⟨.hbm, 663, rfl⟩
abbrev main_v489 : Ref sig .tc := ⟨.hbm, 664, rfl⟩
abbrev main_v490 : Ref sig .tc := ⟨.hbm, 665, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x2816 : Shape := ⟨2, ![8192, 2816]⟩
abbrev S5632x1024 : Shape := ⟨2, ![5632, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x2816 : Shape := ⟨2, ![8192, 2816]⟩
abbrev S5632x1024 : Shape := ⟨2, ![5632, 1024]⟩
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 112
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S5632x1024, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S8192x2816, .f32⟩
  | .hbm, ⟨12, _⟩ => ⟨S8192x2816, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S8192x1, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192, .f32⟩
  | .hbm, ⟨99, _⟩ => ⟨S8192x1, .f32⟩
  | .hbm, ⟨100, _⟩ => ⟨S8192x1024, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192, .f32⟩
  | .hbm, ⟨107, _⟩ => ⟨S8192x1024, .f32⟩
  | .hbm, ⟨108, _⟩ => ⟨S8192x1024, .f32⟩
  | .hbm, ⟨109, _⟩ => ⟨S8192x1024, .bf16⟩
  | .hbm, ⟨110, _⟩ => ⟨S1x1024, .f32⟩
  | .hbm, ⟨111, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_cst_19 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S5632x1024 : Shape := ⟨2, ![5632, 1024]⟩
abbrev S2816x1024 : Shape := ⟨2, ![2816, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .bf16⟩
  | .hbm, ⟨3, _⟩ => ⟨S2816x1024, .bf16⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S1024x2816, .f32⟩
  | .hbm, ⟨8, _⟩ => ⟨S8192x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S5632x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel6.lean ====
abbrev S8192x2560 : Shape := ⟨2, ![8192, 2560]⟩
abbrev S2560x1024 : Shape := ⟨2, ![2560, 1024]⟩
abbrev S8192x1024 : Shape := ⟨2, ![8192, 1024]⟩
abbrev S1x1024 : Shape := ⟨2, ![1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S8192x2560 : Shape := ⟨2, ![8192, 2560]⟩
abbrev S2560x1024 : Shape := ⟨2, ![2560, 1024]⟩
abbrev S8192x1024 : Shape := ⟨2, ![8192, 1024]⟩
abbrev S1x1024 : Shape := ⟨2, ![1, 1024]⟩
abbrev S1024x2560 : Shape := ⟨2, ![1024, 2560]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 104
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S2560x1024, .f32⟩
  | .hbm, ⟨6, _⟩ => ⟨S1024x2560, .f32⟩
  | .hbm, ⟨7, _⟩ => ⟨S8192x2560, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x2560, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S8192x1024, .bf16⟩
  | .hbm, ⟨102, _⟩ => ⟨S1x1024, .f32⟩
  | .hbm, ⟨103, _⟩ => ⟨S1x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_14 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_18 : Ref sig .tc := ⟨.hbm, 94, rfl⟩
abbrev main_v70 : Ref sig .tc := ⟨.hbm, 95, rfl⟩
abbrev main_v71 : Ref sig .tc := ⟨.hbm, 96, rfl⟩
abbrev main_cst_19 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Kernel7.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 103
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x3072, .f32⟩
  | .hbm, ⟨6, _⟩ => ⟨S8192x3072, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x3072, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192, .f32⟩
  | .hbm, ⟨98, _⟩ => ⟨S8192x1024, .f32⟩
  | .hbm, ⟨99, _⟩ => ⟨S8192x1024, .f32⟩
  | .hbm, ⟨100, _⟩ => ⟨S8192x1024, .bf16⟩
  | .hbm, ⟨101, _⟩ => ⟨S1x1024, .f32⟩
  | .hbm, ⟨102, _⟩ => ⟨S1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_18 : Ref sig .tc := ⟨.hbm, 93, rfl⟩
abbrev main_v69 : Ref sig .tc := ⟨.hbm, 94, rfl⟩
abbrev main_v70 : Ref sig .tc := ⟨.hbm, 95, rfl⟩
abbrev main_cst_19 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== Kernel8.lean ====
abbrev S4x2048x1024 : Shape := ⟨3, ![4, 2048, 1024]⟩
abbrev S5632x1024 : Shape := ⟨2, ![5632, 1024]⟩
abbrev S3x5632 : Shape := ⟨2, ![3, 5632]⟩
abbrev S1x5632 : Shape := ⟨2, ![1, 5632]⟩
abbrev S4x2048x2816 : Shape := ⟨3, ![4, 2048, 2816]⟩
abbrev S1x2048x1024 : Shape := ⟨3, ![1, 2048, 1024]⟩
abbrev S3x256 : Shape := ⟨2, ![3, 256]⟩
abbrev S1x256 : Shape := ⟨2, ![1, 256]⟩
abbrev S1x2048x256 : Shape := ⟨3, ![1, 2048, 256]⟩
abbrev S2048x1024 : Shape := ⟨2, ![2048, 1024]⟩
abbrev S256x1024 : Shape := ⟨2, ![256, 1024]⟩
abbrev S2048x256 : Shape := ⟨2, ![2048, 256]⟩
abbrev S2048x128 : Shape := ⟨2, ![2048, 128]⟩
abbrev S3x128 : Shape := ⟨2, ![3, 128]⟩
abbrev S1x128 : Shape := ⟨2, ![1, 128]⟩
abbrev S1x2048x128 : Shape := ⟨3, ![1, 2048, 128]⟩

abbrev nBuf : Space → Nat
  | .hbm => 9
  | .vmem => 21
  | .smem => 0
  | _ => 0

abbrev bufTy : (tb : Table) → Fin (tcTables nBuf tb) → BufTy
  | .hbm, ⟨0, _⟩ => ⟨S4x2048x1024, .bf16⟩
  | .hbm, ⟨1, _⟩ => ⟨S5632x1024, .bf16⟩
  | .hbm, ⟨2, _⟩ => ⟨S3x5632, .f32⟩
  | .hbm, ⟨3, _⟩ => ⟨S1x5632, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .hbm, ⟨8, _⟩ => ⟨S4x2048x2816, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S5632x1024, .bf16⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x2048x256, .f32⟩
  | .local _ .vmem, ⟨19, _⟩ => ⟨S1x2048x256, .bf16⟩
  | .local _ .vmem, ⟨20, _⟩ => ⟨S1x2048x256, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v4 : Index := Scalar.indexCast v1
  let c0_2 : Index := 0#32
  ![v4.toNat, 0]
def k0_off2 (i : grid0.Coords) : Fin 2 → Nat :=
  let c2816_i32 : BitVec 32 := 2816#32
  let arg1 : BitVec 32 := BitVec.ofNat 32 (i 1).val
  let c256_i32 : BitVec 32 := 256#32
  let v0 : BitVec 32 := Scalar.muli arg1 c256_i32
  let v1 : BitVec 32 := v0
  let v7 : BitVec 32 := Scalar.addi c2816_i32 v1
  let v8 : Index := Scalar.indexCast v7
  let c0_3 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S4x2048x1024 : Shape := ⟨3, ![4, 2048, 1024]⟩
abbrev S5632x1024 : Shape := ⟨2, ![5632, 1024]⟩
abbrev S3x5632 : Shape := ⟨2, ![3, 5632]⟩
abbrev S1x5632 : Shape := ⟨2, ![1, 5632]⟩
abbrev S1024x5632 : Shape := ⟨2, ![1024, 5632]⟩
abbrev S4x2048x5632 : Shape := ⟨3, ![4, 2048, 5632]⟩
abbrev S5632 : Shape := ⟨1, ![5632]⟩
abbrev S_ : Shape := ⟨0, ![]⟩
abbrev S4x2x5632 : Shape := ⟨3, ![4, 2, 5632]⟩
abbrev S4x2050x5632 : Shape := ⟨3, ![4, 2050, 5632]⟩
abbrev S1x1x5632 : Shape := ⟨3, ![1, 1, 5632]⟩
abbrev S4x2048x2816 : Shape := ⟨3, ![4, 2048, 2816]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S5632x1024, .bf16⟩
  | .hbm, ⟨2, _⟩ => ⟨S3x5632, .f32⟩
  | .hbm, ⟨3, _⟩ => ⟨S1x5632, .f32⟩
  | .hbm, ⟨4, _⟩ => ⟨S4x2048x1024, .f32⟩
  | .hbm, ⟨5, _⟩ => ⟨S5632x1024, .f32⟩
  | .hbm, ⟨6, _⟩ => ⟨S1024x5632, .f32⟩
  | .hbm, ⟨7, _⟩ => ⟨S4x2048x5632, .f32⟩
  | .hbm, ⟨8, _⟩ => ⟨S5632, .f32⟩
  | .hbm, ⟨9, _⟩ => ⟨S_, .f32⟩
  | .hbm, ⟨10, _⟩ => ⟨S4x2x5632, .f32⟩
  | .hbm, ⟨11, _⟩ => ⟨S4x2050x5632, .f32⟩
  | .hbm, ⟨12, _⟩ => ⟨S4x2048x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S4x2048x5632, .f32⟩
  | .hbm, ⟨17, _⟩ => ⟨S4x2048x5632, .f32⟩
  | .hbm, ⟨18, _⟩ => ⟨S1x1x5632, .f32⟩
  | .hbm, ⟨19, _⟩ => ⟨S4x2048x5632, .f32⟩
  | .hbm, ⟨20, _⟩ => ⟨S4x2048x5632, .f32⟩
  | .hbm, ⟨21, _⟩ => ⟨S4x2048x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S4x2048x5632, .f32⟩
  | .hbm, ⟨26, _⟩ => ⟨S4x2048x5632, .f32⟩
  | .hbm, ⟨27, _⟩ => ⟨S4x2048x5632, .f32⟩
  | .hbm, ⟨28, _⟩ => ⟨S4x2048x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S4x2048x5632, .f32⟩
  | .hbm, ⟨33, _⟩ => ⟨S4x2048x5632, .f32⟩
  | .hbm, ⟨34, _⟩ => ⟨S4x2048x5632, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S4x2048x2816, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S_, .f32⟩
  | .hbm, ⟨45, _⟩ => ⟨S4x2048x2816, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S4x2048x2816, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel9.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x2816, .f32⟩
  | .hbm, ⟨42, _⟩ => ⟨S2816x1024, .f32⟩
  | .hbm, ⟨43, _⟩ => ⟨S8192x1024, .f32⟩
  | .hbm, ⟨44, _⟩ => ⟨S8192x1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel10.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x2560 : Shape := ⟨2, ![8192, 2560]⟩
abbrev S8192x1024 : Shape := ⟨2, ![8192, 1024]⟩
abbrev S2560x1024 : Shape := ⟨2, ![2560, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S2560x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2560 : Shape := ⟨2, ![8192, 2560]⟩
abbrev S8192x1024 : Shape := ⟨2, ![8192, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S8192x2560, .f32⟩
  | .hbm, ⟨3, _⟩ => ⟨S8192x1024, .f32⟩
  | .hbm, ⟨4, _⟩ => ⟨S_, .f32⟩
  | .hbm, ⟨5, _⟩ => ⟨S1024x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S2560x1024, .f32⟩
  | .hbm, ⟨10, _⟩ => ⟨S2560x1024, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x1280 : Shape := ⟨2, ![8192, 1280]⟩
abbrev S8192x1024 : Shape := ⟨2, ![8192, 1024]⟩
abbrev S1280x1024 : Shape := ⟨2, ![1280, 1024]⟩
abbrev S2048x1280 : Shape := ⟨2, ![2048, 1280]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S1280x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .bf16⟩
  | .local _ .vmem, ⟨5, _⟩ => ⟨S1280x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1280 : Shape := ⟨2, ![8192, 1280]⟩
abbrev S8192x1024 : Shape := ⟨2, ![8192, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 10
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S8192x1280, .f32⟩
  | .hbm, ⟨3, _⟩ => ⟨S8192x1024, .f32⟩
  | .hbm, ⟨4, _⟩ => ⟨S_, .f32⟩
  | .hbm, ⟨5, _⟩ => ⟨S1280x1024, .f32⟩
  | .hbm, ⟨6, _⟩ => ⟨S8192x1024, .f32⟩
  | .hbm, ⟨7, _⟩ => ⟨S1024x1280, .f32⟩
  | .hbm, ⟨8, _⟩ => ⟨S1280x1024, .f32⟩
  | .hbm, ⟨9, _⟩ => ⟨S1280x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8192x1024 : Shape := ⟨2, ![8192, 1024]⟩
abbrev S1280x1024 : Shape := ⟨2, ![1280, 1024]⟩
abbrev S8192x1280 : Shape := ⟨2, ![8192, 1280]⟩
abbrev S1024x1024 : Shape := ⟨2, ![1024, 1024]⟩
abbrev S1024x1280 : Shape := ⟨2, ![1024, 1280]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S8192x1280, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1024x1280, .f32⟩
  | .local _ .vmem, ⟨4, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c1280_i32 : BitVec 32 := 1280#32
  let v0 : BitVec 32 := Scalar.muli arg1 c1280_i32
  v0
def k0_off1 (i : grid0.Coords) : Fin 2 → Nat :=
  let arg1 : BitVec 32 := BitVec.ofNat 32 (i 1).val
  let c1280_i32 : BitVec 32 := 1280#32
  let v0 : BitVec 32 := Scalar.muli arg1 c1280_i32
  let v1 : BitVec 32 := v0
  let v3 : Index := Scalar.indexCast v1
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x1024 : Shape := ⟨2, ![8192, 1024]⟩
abbrev S1280x1024 : Shape := ⟨2, ![1280, 1024]⟩
abbrev S_ : Shape := ⟨0, ![]⟩
abbrev S8192x1280 : Shape := ⟨2, ![8192, 1280]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S8192x1024, .f32⟩
  | .hbm, ⟨3, _⟩ => ⟨S1280x1024, .f32⟩
  | .hbm, ⟨4, _⟩ => ⟨S_, .f32⟩
  | .hbm, ⟨5, _⟩ => ⟨S8192x1280, .f32⟩
  | .hbm, ⟨6, _⟩ => ⟨S8192x1024, .f32⟩
  | .hbm, ⟨7, _⟩ => ⟨S8192x1280, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v3 : Index := Scalar.indexCast v1
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v3 : Index := Scalar.indexCast v1
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S_, .f32⟩
  | .hbm, ⟨5, _⟩ => ⟨S8192x1024, .f32⟩
  | .hbm, ⟨6, _⟩ => ⟨S8192x3072, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x3072, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel17.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x1536, .f32⟩
  | .local _ .vmem, ⟨4, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1536_i32 : BitVec 32 := 1536#32
  let v0 : BitVec 32 := Scalar.muli arg1 c1536_i32
  v0
def k0_off1 (i : grid0.Coords) : Fin 2 → Nat :=
  let c0_1 : Index := 0#32
  let arg1 : BitVec 32 := BitVec.ofNat 32 (i 1).val
  let c1536_i32 : BitVec 32 := 1536#32
  let v0 : BitVec 32 := Scalar.muli arg1 c1536_i32
  let v1 : BitVec 32 := v0
  let v3 : Index := Scalar.indexCast v1
  ![0, v3.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8192x1024 : Shape := ⟨2, ![8192, 1024]⟩
abbrev S2560x1024 : Shape := ⟨2, ![2560, 1024]⟩
abbrev S1x2560 : Shape := ⟨2, ![1, 2560]⟩
abbrev S8192x2560 : Shape := ⟨2, ![8192, 2560]⟩
abbrev S1024x1024 : Shape := ⟨2, ![1024, 1024]⟩
abbrev S1x1280 : Shape := ⟨2, ![1, 1280]⟩
abbrev S1024x1280 : Shape := ⟨2, ![1024, 1280]⟩
abbrev S1280x1024 : Shape := ⟨2, ![1280, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2560x1024, .bf16⟩
  | .hbm, ⟨2, _⟩ => ⟨S1x2560, .f32⟩
  | .hbm, ⟨3, _⟩ => ⟨S8192x2560, .f32⟩
  | .local _ .vmem, ⟨0, _⟩ => ⟨S1024x1024, .bf16⟩
  | .local _ .vmem, ⟨1, _⟩ => ⟨S1024x1024, .bf16⟩
  | .local _ .vmem, ⟨2, _⟩ => ⟨S2560x1024, .bf16⟩
  | .local _ .vmem, ⟨3, _⟩ => ⟨S1x1280, .f32⟩
  | .local _ .vmem, ⟨4, _⟩ => ⟨S1x1280, .f32⟩
  | .local _ .vmem, ⟨5, _⟩ => ⟨S1024x1280, .f32⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1280_i32 : BitVec 32 := 1280#32
  let v0 : BitVec 32 := Scalar.muli arg1 c1280_i32
  v0
def k0_off1 (i : grid0.Coords) : Fin 2 → Nat :=
  let arg1 : BitVec 32 := BitVec.ofNat 32 (i 1).val
  let c1280_i32 : BitVec 32 := 1280#32
  let v0 : BitVec 32 := Scalar.muli arg1 c1280_i32
  let v1 : BitVec 32 := v0
  let v3 : Index := Scalar.indexCast v1
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference18Ideal.lean ====
abbrev S8192x1024 : Shape := ⟨2, ![8192, 1024]⟩
abbrev S2560x1024 : Shape := ⟨2, ![2560, 1024]⟩
abbrev S1x2560 : Shape := ⟨2, ![1, 2560]⟩
abbrev S1024x2560 : Shape := ⟨2, ![1024, 2560]⟩
abbrev S8192x2560 : Shape := ⟨2, ![8192, 2560]⟩
abbrev S2560 : Shape := ⟨1, ![2560]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2560x1024, .bf16⟩
  | .hbm, ⟨2, _⟩ => ⟨S1x2560, .f32⟩
  | .hbm, ⟨3, _⟩ => ⟨S8192x1024, .f32⟩
  | .hbm, ⟨4, _⟩ => ⟨S2560x1024, .f32⟩
  | .hbm, ⟨5, _⟩ => ⟨S1024x2560, .f32⟩
  | .hbm, ⟨6, _⟩ => ⟨S8192x2560, .f32⟩
  | .hbm, ⟨7, _⟩ => ⟨S2560, .f32⟩
  | .hbm, ⟨8, _⟩ => ⟨S1x2560, .f32⟩
  | .hbm, ⟨9, _⟩ => ⟨S8192x2560, .f32⟩
  | .hbm, ⟨10, _⟩ => ⟨S8192x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S8192x1280 : Shape := ⟨2, ![8192, 1280]⟩
abbrev S1280x1024 : Shape := ⟨2, ![1280, 1024]⟩
abbrev S8192x1024 : Shape := ⟨2, ![8192, 1024]⟩
abbrev S1x1024 : Shape := ⟨2, ![1, 1024]⟩
abbrev S1024x1280 : Shape := ⟨2, ![1024, 1280]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S8192x1280 : Shape := ⟨2, ![8192, 1280]⟩
abbrev S1280x1024 : Shape := ⟨2, ![1280, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1280, .f32⟩
  | .hbm, ⟨42, _⟩ => ⟨S1280x1024, .f32⟩
  | .hbm, ⟨43, _⟩ => ⟨S8192x1024, .f32⟩
  | .hbm, ⟨44, _⟩ => ⟨S8192x1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1024x1024, .f32⟩
  | .hbm, ⟨43, _⟩ => ⟨S8192x1024, .f32⟩
  | .hbm, ⟨44, _⟩ => ⟨S8192x1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel21.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel22.lean ====
abbrev S4x2048x2816 : Shape := ⟨3, ![4, 2048, 2816]⟩
abbrev S4x2048x1024 : Shape := ⟨3, ![4, 2048, 1024]⟩
abbrev S2816x1024 : Shape := ⟨2, ![2816, 1024]⟩
abbrev S3x5632 : Shape := ⟨2, ![3, 5632]⟩
abbrev S3x2816 : Shape := ⟨2, ![3, 2816]⟩
abbrev S1x2816 : Shape := ⟨2, ![1, 2816]⟩
abbrev S1x2048x256 : Shape := ⟨3, ![1, 2048, 256]⟩
abbrev S1x2048x1024 : Shape := ⟨3, ![1, 2048, 1024]⟩
abbrev S3x256 : Shape := ⟨2, ![3, 256]⟩
abbrev S2048x1024 : Shape := ⟨2, ![2048, 1024]⟩
abbrev S256x1024 : Shape := ⟨2, ![256, 1024]⟩
abbrev S2048x256 : Shape := ⟨2, ![2048, 256]⟩
abbrev S1x2048x128 : Shape := ⟨3, ![1, 2048, 128]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 13
  | .vmem => 23
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S4x2048x1024, .bf16⟩
  | .hbm, ⟨5, _⟩ => ⟨S2816x1024, .bf16⟩
  | .hbm, ⟨6, _⟩ => ⟨S3x5632, .f32⟩
  | .hbm, ⟨7, _⟩ => ⟨S4x2048x2816, .bf16⟩
  | .hbm, ⟨8, _⟩ => ⟨S4x2048x2816, .bf16⟩
  | .hbm, ⟨9, _⟩ => ⟨S3x2816, .f32⟩
  | .hbm, ⟨10, _⟩ => ⟨S3x2816, .f32⟩
  | .hbm, ⟨11, _⟩ => ⟨S1x2816, .f32⟩
  | .hbm, ⟨12, _⟩ => ⟨S1x2816, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x1024, .bf16⟩
  | .local _ .vmem, ⟨9, _⟩ => ⟨S1x2048x1024, .bf16⟩
  | .local _ .vmem, ⟨10, _⟩ => ⟨S2816x1024, .bf16⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S1x2048x256, .bf16⟩
  | .local _ .vmem, ⟨16, _⟩ => ⟨S1x2048x256, .bf16⟩
  | .local _ .vmem, ⟨17, _⟩ => ⟨S1x2048x256, .bf16⟩
  | .local _ .vmem, ⟨18, _⟩ => ⟨S1x2048x256, .bf16⟩
  | .local _ .vmem, ⟨19, _⟩ => ⟨S3x2816, .f32⟩
  | .local _ .vmem, ⟨20, _⟩ => ⟨S3x2816, .f32⟩
  | .local _ .vmem, ⟨21, _⟩ => ⟨S1x2816, .f32⟩
  | .local _ .vmem, ⟨22, _⟩ => ⟨S1x2816, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v4 : Index := Scalar.indexCast v1
  let c0_2 : Index := 0#32
  ![v4.toNat, 0]
def k0_mult2 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v112 : BitVec 32 := Scalar.addi v1 c0_i32_48
  v112
def k0_cond1 (i : grid0.Coords) : BitVec 1 :=
  let arg0 : BitVec 32 := BitVec.ofNat 32 (i 0).val
  let c0_i32 : BitVec 32 := 0#32
  let v107 : BitVec 1 := Scalar.cmpi .eq arg0 c0_i32
  let v114 : BitVec 32 := Scalar.extui v107
  let c0_i32_49 : BitVec 32 := 0#32
  let v115 : BitVec 1 := Scalar.cmpi .ne v114 c0_i32_49
  v115

def k0_off2 (i : grid0.Coords) : Fin 2 → Nat :=
  let c0_101 : Index := 0#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v112 : BitVec 32 := Scalar.addi v1 c0_i32_48
  let v113 : BitVec 32 := v112
  let v231 : Index := Scalar.indexCast v113
  ![0, v231.toNat]
def k0_off3 (i : grid0.Coords) : Fin 2 → Nat :=
  let c1 : Index := 1#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v112 : BitVec 32 := Scalar.addi v1 c0_i32_48
  let v113 : BitVec 32 := v112
  let v233 : Index := Scalar.indexCast v113
  ![1, v233.toNat]
def k0_off4 (i : grid0.Coords) : Fin 2 → Nat :=
  let c2 : Index := 2#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v112 : BitVec 32 := Scalar.addi v1 c0_i32_48
  let v113 : BitVec 32 := v112
  let v235 : Index := Scalar.indexCast v113
  ![2, v235.toNat]
def k0_off5 (i : grid0.Coords) : Fin 2 → Nat :=
  let c0_105 : Index := 0#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v112 : BitVec 32 := Scalar.addi v1 c0_i32_48
  let v113 : BitVec 32 := v112
  let v243 : Index := Scalar.indexCast v113
  ![0, v243.toNat]
def k0_cond2 (i : grid0.Coords) : BitVec 1 :=
  let arg0 : BitVec 32 := BitVec.ofNat 32 (i 0).val
  let c0_i32 : BitVec 32 := 0#32
  let v107 : BitVec 1 := Scalar.cmpi .eq arg0 c0_i32
  let v_true : BitVec 1 := 1#1
  let v116 : BitVec 1 := Scalar.xori v107 v_true
  let v117 : BitVec 32 := Scalar.extui v116
  let c0_i32_50 : BitVec 32 := 0#32
  let v118 : BitVec 1 := Scalar.cmpi .ne v117 c0_i32_50
  v118

def k0_off6 (i : grid0.Coords) : Fin 2 → Nat :=
  let c0_101 : Index := 0#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v112 : BitVec 32 := Scalar.addi v1 c0_i32_48
  let v113 : BitVec 32 := v112
  let v231 : Index := Scalar.indexCast v113
  ![0, v231.toNat]
def k0_off7 (i : grid0.Coords) : Fin 2 → Nat :=
  let c1 : Index := 1#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v112 : BitVec 32 := Scalar.addi v1 c0_i32_48
  let v113 : BitVec 32 := v112
  let v237 : Index := Scalar.indexCast v113
  ![1, v237.toNat]
def k0_off8 (i : grid0.Coords) : Fin 2 → Nat :=
  let c2 : Index := 2#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v112 : BitVec 32 := Scalar.addi v1 c0_i32_48
  let v113 : BitVec 32 := v112
  let v243 : Index := Scalar.indexCast v113
  ![2, v243.toNat]
def k0_off9 (i : grid0.Coords) : Fin 2 → Nat :=
  let c0_111 : Index := 0#32
  let arg1 : BitVec 32 := BitVec.ofNat 32 (i 1).val
  let c256_i32 : BitVec 32 := 256#32
  let v0 : BitVec 32 := Scalar.muli arg1 c256_i32
  let v1 : BitVec 32 := v0
  let c0_i32_48 : BitVec 32 := 0#32
  let v112 : BitVec 32 := Scalar.addi v1 c0_i32_48
  let v113 : BitVec 32 := v112
  let v267 : Index := Scalar.indexCast v113
  ![0, v267.toNat]
def k0_mult3 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v224 : BitVec 32 := Scalar.addi v1 c128_i32
  v224
def k0_cond3 (i : grid0.Coords) : BitVec 1 :=
  let arg0 : BitVec 32 := BitVec.ofNat 32 (i 0).val
  let c0_i32_95 : BitVec 32 := 0#32
  let v219 : BitVec 1 := Scalar.cmpi .eq arg0 c0_i32_95
  let v226 : BitVec 32 := Scalar.extui v219
  let c0_i32_98 : BitVec 32 := 0#32
  let v227 : BitVec 1 := Scalar.cmpi .ne v226 c0_i32_98
  v227

def k0_off10 (i : grid0.Coords) : Fin 2 → Nat :=
  let c0_101 : Index := 0#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v224 : BitVec 32 := Scalar.addi v1 c128_i32
  let v225 : BitVec 32 := v224
  let v231 : Index := Scalar.indexCast v225
  ![0, v231.toNat]
def k0_off11 (i : grid0.Coords) : Fin 2 → Nat :=
  let c1 : Index := 1#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v224 : BitVec 32 := Scalar.addi v1 c128_i32
  let v225 : BitVec 32 := v224
  let v233 : Index := Scalar.indexCast v225
  ![1, v233.toNat]
def k0_off12 (i : grid0.Coords) : Fin 2 → Nat :=
  let c2 : Index := 2#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v224 : BitVec 32 := Scalar.addi v1 c128_i32
  let v225 : BitVec 32 := v224
  let v235 : Index := Scalar.indexCast v225
  ![2, v235.toNat]
def k0_off13 (i : grid0.Coords) : Fin 2 → Nat :=
  let c0_105 : Index := 0#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v224 : BitVec 32 := Scalar.addi v1 c128_i32
  let v225 : BitVec 32 := v224
  let v243 : Index := Scalar.indexCast v225
  ![0, v243.toNat]
def k0_cond4 (i : grid0.Coords) : BitVec 1 :=
  let arg0 : BitVec 32 := BitVec.ofNat 32 (i 0).val
  let c0_i32_95 : BitVec 32 := 0#32
  let v219 : BitVec 1 := Scalar.cmpi .eq arg0 c0_i32_95
  let true_99 : BitVec 1 := 1#1
  let v228 : BitVec 1 := Scalar.xori v219 true_99
  let v229 : BitVec 32 := Scalar.extui v228
  let c0_i32_100 : BitVec 32 := 0#32
  let v230 : BitVec 1 := Scalar.cmpi .ne v229 c0_i32_100
  v230

def k0_off14 (i : grid0.Coords) : Fin 2 → Nat :=
  let c0_101 : Index := 0#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v224 : BitVec 32 := Scalar.addi v1 c128_i32
  let v225 : BitVec 32 := v224
  let v231 : Index := Scalar.indexCast v225
  ![0, v231.toNat]
def k0_off15 (i : grid0.Coords) : Fin 2 → Nat :=
  let c1 : Index := 1#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v224 : BitVec 32 := Scalar.addi v1 c128_i32
  let v225 : BitVec 32 := v224
  let v237 : Index := Scalar.indexCast v225
  ![1, v237.toNat]
def k0_off16 (i : grid0.Coords) : Fin 2 → Nat :=
  let c2 : Index := 2#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v224 : BitVec 32 := Scalar.addi v1 c128_i32
  let v225 : BitVec 32 := v224
  let v243 : Index := Scalar.indexCast v225
  ![2, v243.toNat]
def k0_off17 (i : grid0.Coords) : Fin 2 → Nat :=
  let c0_111 : Index := 0#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v224 : BitVec 32 := Scalar.addi v1 c128_i32
  let v225 : BitVec 32 := v224
  let v267 : Index := Scalar.indexCast v225
  ![0, v267.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference22Ideal.lean ====
abbrev S4x2048x2816 : Shape := ⟨3, ![4, 2048, 2816]⟩
abbrev S4x2048x1024 : Shape := ⟨3, ![4, 2048, 1024]⟩
abbrev S2816x1024 : Shape := ⟨2, ![2816, 1024]⟩
abbrev S3x5632 : Shape := ⟨2, ![3, 5632]⟩
abbrev S_ : Shape := ⟨0, ![]⟩
abbrev S3x2816 : Shape := ⟨2, ![3, 2816]⟩
abbrev S2816 : Shape := ⟨1, ![2816]⟩
abbrev S4x2x2816 : Shape := ⟨3, ![4, 2, 2816]⟩
abbrev S4x2050x2816 : Shape := ⟨3, ![4, 2050, 2816]⟩
abbrev S1x2816 : Shape := ⟨2, ![1, 2816]⟩
abbrev S1x1x2816 : Shape := ⟨3, ![1, 1, 2816]⟩

abbrev nBuf : Space → Nat
  | .hbm => 127
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S4x2048x1024, .bf16⟩
  | .hbm, ⟨5, _⟩ => ⟨S2816x1024, .bf16⟩
  | .hbm, ⟨6, _⟩ => ⟨S3x5632, .f32⟩
  | .hbm, ⟨7, _⟩ => ⟨S4x2048x1024, .f32⟩
  | .hbm, ⟨8, _⟩ => ⟨S2816x1024, .f32⟩
  | .hbm, ⟨9, _⟩ => ⟨S4x2048x2816, .f32⟩
  | .hbm, ⟨10, _⟩ => ⟨S4x2048x2816, .f32⟩
  | .hbm, ⟨11, _⟩ => ⟨S_, .f32⟩
  | .hbm, ⟨12, _⟩ => ⟨S4x2048x2816, .f32⟩
  | .hbm, ⟨13, _⟩ => ⟨S4x2048x2816, .f32⟩
  | .hbm, ⟨14, _⟩ => ⟨S_, .f32⟩
  | .hbm, ⟨15, _⟩ => ⟨S4x2048x2816, .f32⟩
  | .hbm, ⟨16, _⟩ => ⟨S4x2048x2816, .f32⟩
  | .hbm, ⟨17, _⟩ => ⟨S_, .f32⟩
  | .hbm, ⟨18, _⟩ => ⟨S4x2048x2816, .f32⟩
  | .hbm, ⟨19, _⟩ => ⟨S4x2048x2816, .f32⟩
  | .hbm, ⟨20, _⟩ => ⟨S4x2048x2816, .f32⟩
  | .hbm, ⟨21, _⟩ => ⟨S4x2048x2816, .f32⟩
  | .hbm, ⟨22, _⟩ => ⟨S4x2048x2816, .f32⟩
  | .hbm, ⟨23, _⟩ => ⟨S4x2048x1024, .f32⟩
  | .hbm, ⟨24, _⟩ => ⟨S4x2048x2816, .f32⟩
  | .hbm, ⟨25, _⟩ => ⟨S4x2048x2816, .f32⟩
  | .hbm, ⟨26, _⟩ => ⟨S4x2048x2816, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S4x2048x2816, .f32⟩
  | .hbm, ⟨31, _⟩ => ⟨S3x2816, .f32⟩
  | .hbm, ⟨32, _⟩ => ⟨S_, .f32⟩
  | .hbm, ⟨33, _⟩ => ⟨S2816, .f32⟩
  | .hbm, ⟨34, _⟩ => ⟨S_, .f32⟩
  | .hbm, ⟨35, _⟩ => ⟨S4x2x2816, .f32⟩
  | .hbm, ⟨36, _⟩ => ⟨S4x2050x2816, .f32⟩
  | .hbm, ⟨37, _⟩ => ⟨S_, .f32⟩
  | .hbm, ⟨38, _⟩ => ⟨S4x2x2816, .f32⟩
  | .hbm, ⟨39, _⟩ => ⟨S4x2048x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S4x2048x2816, .f32⟩
  | .hbm, ⟨44, _⟩ => ⟨S4x2048x2816, .f32⟩
  | .hbm, ⟨45, _⟩ => ⟨S1x1x2816, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S1x2816, .f32⟩
  | .hbm, ⟨50, _⟩ => ⟨S2816, .f32⟩
  | .hbm, ⟨51, _⟩ => ⟨S1x1x2816, .f32⟩
  | .hbm, ⟨52, _⟩ => ⟨S4x2048x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S1x2816, .f32⟩
  | .hbm, ⟨57, _⟩ => ⟨S2816, .f32⟩
  | .hbm, ⟨58, _⟩ => ⟨S1x1x2816, .f32⟩
  | .hbm, ⟨59, _⟩ => ⟨S4x2048x2816, .f32⟩
  | .hbm, ⟨60, _⟩ => ⟨S4x2048x2816, .f32⟩
  | .hbm, ⟨61, _⟩ => ⟨S4x2048x2816, .f32⟩
  | .hbm, ⟨62, _⟩ => ⟨S4x2048x2816, .f32⟩
  | .hbm, ⟨63, _⟩ => ⟨S4x2048x2816, .f32⟩
  | .hbm, ⟨64, _⟩ => ⟨S_, .f32⟩
  | .hbm, ⟨65, _⟩ => ⟨S4x2050x2816, .f32⟩
  | .hbm, ⟨66, _⟩ => ⟨S4x2048x2816, .f32⟩
  | .hbm, ⟨67, _⟩ => ⟨S4x2048x2816, .f32⟩
  | .hbm, ⟨68, _⟩ => ⟨S_, .f32⟩
  | .hbm, ⟨69, _⟩ => ⟨S4x2050x2816, .f32⟩
  | .hbm, ⟨70, _⟩ => ⟨S4x2050x2816, .f32⟩
  | .hbm, ⟨71, _⟩ => ⟨S4x2048x2816, .f32⟩
  | .hbm, ⟨72, _⟩ => ⟨S4x2048x2816, .f32⟩
  | .hbm, ⟨73, _⟩ => ⟨S_, .f32⟩
  | .hbm, ⟨74, _⟩ => ⟨S4x2050x2816, .f32⟩
  | .hbm, ⟨75, _⟩ => ⟨S4x2050x2816, .f32⟩
  | .hbm, ⟨76, _⟩ => ⟨S4x2x2816, .f32⟩
  | .hbm, ⟨77, _⟩ => ⟨S4x2048x2816, .f32⟩
  | .hbm, ⟨78, _⟩ => ⟨S3x2816, .f32⟩
  | .hbm, ⟨79, _⟩ => ⟨S_, .f32⟩
  | .hbm, ⟨80, _⟩ => ⟨S2816, .f32⟩
  | .hbm, ⟨81, _⟩ => ⟨S_, .f32⟩
  | .hbm, ⟨82, _⟩ => ⟨S4x2x2816, .f32⟩
  | .hbm, ⟨83, _⟩ => ⟨S4x2050x2816, .f32⟩
  | .hbm, ⟨84, _⟩ => ⟨S_, .f32⟩
  | .hbm, ⟨85, _⟩ => ⟨S4x2x2816, .f32⟩
  | .hbm, ⟨86, _⟩ => ⟨S4x2048x2816, .f32⟩
  | .hbm, ⟨87, _⟩ => ⟨S1x2816, .f32⟩
  | .hbm, ⟨88, _⟩ => ⟨S2816, .f32⟩
  | .hbm, ⟨89, _⟩ => ⟨S1x1x2816, .f32⟩
  | .hbm, ⟨90, _⟩ => ⟨S4x2048x2816, .f32⟩
  | .hbm, ⟨91, _⟩ => ⟨S4x2048x2816, .f32⟩
  | .hbm, ⟨92, _⟩ => ⟨S1x1x2816, .f32⟩
  | .hbm, ⟨93, _⟩ => ⟨S4x2048x2816, .f32⟩
  | .hbm, ⟨94, _⟩ => ⟨S4x2048x2816, .f32⟩
  | .hbm, ⟨95, _⟩ => ⟨S4x2048x2816, .f32⟩
  | .hbm, ⟨96, _⟩ => ⟨S1x2816, .f32⟩
  | .hbm, ⟨97, _⟩ => ⟨S2816, .f32⟩
  | .hbm, ⟨98, _⟩ => ⟨S1x1x2816, .f32⟩
  | .hbm, ⟨99, _⟩ => ⟨S4x2048x2816, .f32⟩
  | .hbm, ⟨100, _⟩ => ⟨S4x2048x2816, .f32⟩
  | .hbm, ⟨101, _⟩ => ⟨S4x2048x2816, .f32⟩
  | .hbm, ⟨102, _⟩ => ⟨S4x2048x2816, .f32⟩
  | .hbm, ⟨103, _⟩ => ⟨S1x2816, .f32⟩
  | .hbm, ⟨104, _⟩ => ⟨S2816, .f32⟩
  | .hbm, ⟨105, _⟩ => ⟨S1x1x2816, .f32⟩
  | .hbm, ⟨106, _⟩ => ⟨S4x2048x2816, .f32⟩
  | .hbm, ⟨107, _⟩ => ⟨S4x2048x2816, .f32⟩
  | .hbm, ⟨108, _⟩ => ⟨S4x2048x2816, .f32⟩
  | .hbm, ⟨109, _⟩ => ⟨S4x2048x2816, .f32⟩
  | .hbm, ⟨110, _⟩ => ⟨S4x2048x2816, .f32⟩
  | .hbm, ⟨111, _⟩ => ⟨S_, .f32⟩
  | .hbm, ⟨112, _⟩ => ⟨S4x2050x2816, .f32⟩
  | .hbm, ⟨113, _⟩ => ⟨S4x2048x2816, .f32⟩
  | .hbm, ⟨114, _⟩ => ⟨S4x2048x2816, .f32⟩
  | .hbm, ⟨115, _⟩ => ⟨S_, .f32⟩
  | .hbm, ⟨116, _⟩ => ⟨S4x2050x2816, .f32⟩
  | .hbm, ⟨117, _⟩ => ⟨S4x2050x2816, .f32⟩
  | .hbm, ⟨118, _⟩ => ⟨S4x2048x2816, .f32⟩
  | .hbm, ⟨119, _⟩ => ⟨S4x2048x2816, .f32⟩
  | .hbm, ⟨120, _⟩ => ⟨S_, .f32⟩
  | .hbm, ⟨121, _⟩ => ⟨S4x2050x2816, .f32⟩
  | .hbm, ⟨122, _⟩ => ⟨S4x2050x2816, .f32⟩
  | .hbm, ⟨123, _⟩ => ⟨S4x2x2816, .f32⟩
  | .hbm, ⟨124, _⟩ => ⟨S4x2048x2816, .f32⟩
  | .hbm, ⟨125, _⟩ => ⟨S4x2048x2816, .bf16⟩
  | .hbm, ⟨126, _⟩ => ⟨S4x2048x2816, .bf16⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v2_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v2_1 : Ref sig .tc := ⟨.hbm, 20, rfl⟩
abbrev main_v2_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_2 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_3 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_cst_6 : Ref sig .tc := ⟨.hbm, 81, rfl⟩
abbrev main_v52 : Ref sig .tc := ⟨.hbm, 82, rfl⟩
abbrev main_v53 : Ref sig .tc := ⟨.hbm, 83, rfl⟩
abbrev main_cst_7 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_8 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_9 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_10 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]
-- ==== Proof.Reals.Runs.lean ====
/- What the runs of the body share: the values before the launch, the blocks, the conditions. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Reals

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 6 rfl).trans ((hA c 6).trans (V_main_arg7 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 2) — by arithmetic of the point. -/
theorem hcond0_0 : ∀ t : Fin cfg0.N, cond0_0 (grid0.coords t) ↔ t.val % 2 = 0 :=
  (fun t => by
    have ht : t.val < 80 := Nat.lt_of_lt_of_eq t.isLt N_0
    have e0 : (grid0.coords t 0).val = t.val / 8 % 10 := Pipeline.Grid.coords_val t 0 (by decide) rfl
    have e1 : (grid0.coords t 1).val = t.val / 2 % 4 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points whose coordinates have i1 = 0 — by arithmetic of the point. -/
theorem hcond0_1 : ∀ t : Fin cfg0.N, cond0_1 (grid0.coords t) ↔ t.val / 2 % 4 = 0 :=
  (fun t => by
    have ht : t.val < 80 := Nat.lt_of_lt_of_eq t.isLt N_0
    have e0 : (grid0.coords t 0).val = t.val / 8 % 10 := Pipeline.Grid.coords_val t 0 (by decide) rfl
    have e1 : (grid0.coords t 1).val = t.val / 2 % 4 := Pipeline.Grid.coords_val t 1 (by decide) rfl
    have e2 : (grid0.coords t 2).val = t.val / 1 % 2 := Pipeline.Grid.coords_val t 2 (by decide) rfl
    simp only [cond0_1, k0_cond2, e0, e1, e2]
    word_cmp
   : ∀ t : Fin grid0.N, cond0_1 (grid0.coords t) ↔ t.val / 2 % 4 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i1 — decided over the grid. -/
theorem hcond0_2 : ∀ t : Fin cfg0.N, cond0_2 (grid0.coords t) ↔ 1 ≤ t.val / 2 % 4 :=
  (by decide +kernel : ∀ t : Fin grid0.N, cond0_2 (grid0.coords t) ↔ 1 ≤ t.val / 2 % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x1x2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S2x2048x128 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Reals

end
-- ==== Proof.Reals.RunA.lean ====
/- The body at the first point of a group. -/
module

public import proofs.«01_k».proof.Proof.Reals.Runs

@[expose] public section

-- membership in a rectangle of production extents (`View.cover_of_tiled`): the elaborator's structural look
-- recurses once per coordinate of the long axes
set_option maxRecDepth 16384

noncomputable section

namespace Cert.KernelIdeal.Reals

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken, `scf.if` 2 not taken: points 0, 8, … 72: 10 of 80): on whole staging memrefs — the inputs' at their contents,
    the FORGOTTEN outputs' (7, 8, 9, 10, 11, 12, 13, 14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S4x128 .f32) (harg5 : arg5.IsWhole) (arg6 : Memref sig .tc .vmem S1x128x256 .bf16) (harg6 : arg6.IsWhole) (arg7 : Memref sig .tc .vmem S1x128 .f32) (harg7 : arg7.IsWhole) (arg8 : Memref sig .tc .vmem S6x1x2048x128 .f32) (harg8 : arg8.IsWhole) (arg9 : Memref sig .tc .vmem S1x2048x128 .f32) (harg9 : arg9.IsWhole) (arg10 : Memref sig .tc .vmem S1x2048x128 .bf16) (harg10 : arg10.IsWhole) (arg11 : Memref sig .tc .vmem S4x128 .f32) (harg11 : arg11.IsWhole) (arg12 : Memref sig .tc .vmem S1x128 .f32) (harg12 : arg12.IsWhole) (arg13 : Memref sig .tc .vmem S1x128x256 .f32) (harg13 : arg13.IsWhole) (arg14 : Memref sig .tc .vmem S1x1x256 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S2x2048x128 .bf16) (harg18 : arg18.IsWhole) (hc0 : cond0_0 i) (hc1 : cond0_1 i) (hc2 : ¬cond0_2 i)
    (x0 : Vec F S1x2048x128 .f32) (x1 : Vec F S1x2048x128 .f32) (x2 : Vec F S4x128 .f32) (x3 : Vec F S1x128x256 .bf16) (x4 : Vec F S1x128 .f32) (x5 : Vec F S6x1x2048x128 .f32) (x6 : Vec F S1x2048x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_lru_mix_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_lru_mix_bwd_eq_skeleton]; unfold cc0_lru_mix_bwd_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact HS0
    ipureintro; rfl

end Cert.KernelIdeal.Reals

end
-- ==== Proof.Reals.RunB.lean ====
/- The body at the second kind of point. -/
module

public import proofs.«01_k».proof.Proof.Reals.RunA

@[expose] public section

-- membership in a rectangle of production extents (`View.cover_of_tiled`): the elaborator's structural look
-- recurses once per coordinate of the long axes
set_option maxRecDepth 16384

noncomputable section

namespace Cert.KernelIdeal.Reals

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 3, … 79: 40 of 80): on whole staging memrefs — the inputs' at their contents,
    the FORGOTTEN outputs' (7, 8, 9, 10, 11, 12, 13, 14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S4x128 .f32) (harg5 : arg5.IsWhole) (arg6 : Memref sig .tc .vmem S1x128x256 .bf16) (harg6 : arg6.IsWhole) (arg7 : Memref sig .tc .vmem S1x128 .f32) (harg7 : arg7.IsWhole) (arg8 : Memref sig .tc .vmem S6x1x2048x128 .f32) (harg8 : arg8.IsWhole) (arg9 : Memref sig .tc .vmem S1x2048x128 .f32) (harg9 : arg9.IsWhole) (arg10 : Memref sig .tc .vmem S1x2048x128 .bf16) (harg10 : arg10.IsWhole) (arg11 : Memref sig .tc .vmem S4x128 .f32) (harg11 : arg11.IsWhole) (arg12 : Memref sig .tc .vmem S1x128 .f32) (harg12 : arg12.IsWhole) (arg13 : Memref sig .tc .vmem S1x128x256 .f32) (harg13 : arg13.IsWhole) (arg14 : Memref sig .tc .vmem S1x1x256 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S2x2048x128 .bf16) (harg18 : arg18.IsWhole) (hc0 : ¬cond0_0 i)
    (x0 : Vec F S1x2048x128 .f32) (x1 : Vec F S1x2048x128 .f32) (x2 : Vec F S4x128 .f32) (x3 : Vec F S1x128x256 .bf16) (x4 : Vec F S1x128 .f32) (x5 : Vec F S6x1x2048x128 .f32) (x6 : Vec F S1x2048x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_lru_mix_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_lru_mix_bwd_eq_skeleton]; unfold cc0_lru_mix_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact HS0
    ipureintro; rfl

end Cert.KernelIdeal.Reals

end
-- ==== Proof.Reals.RunC.lean ====
/- The body at the third kind of point. -/
module

public import proofs.«01_k».proof.Proof.Reals.RunB

@[expose] public section

-- membership in a rectangle of production extents (`View.cover_of_tiled`): the elaborator's structural look
-- recurses once per coordinate of the long axes
set_option maxRecDepth 16384

noncomputable section

namespace Cert.KernelIdeal.Reals

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 taken, `scf.if` 1 not taken, `scf.if` 2 taken: points 2, 4, … 78: 30 of 80): on whole staging memrefs — the inputs' at their contents,
    the FORGOTTEN outputs' (7, 8, 9, 10, 11, 12, 13, 14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S4x128 .f32) (harg5 : arg5.IsWhole) (arg6 : Memref sig .tc .vmem S1x128x256 .bf16) (harg6 : arg6.IsWhole) (arg7 : Memref sig .tc .vmem S1x128 .f32) (harg7 : arg7.IsWhole) (arg8 : Memref sig .tc .vmem S6x1x2048x128 .f32) (harg8 : arg8.IsWhole) (arg9 : Memref sig .tc .vmem S1x2048x128 .f32) (harg9 : arg9.IsWhole) (arg10 : Memref sig .tc .vmem S1x2048x128 .bf16) (harg10 : arg10.IsWhole) (arg11 : Memref sig .tc .vmem S4x128 .f32) (harg11 : arg11.IsWhole) (arg12 : Memref sig .tc .vmem S1x128 .f32) (harg12 : arg12.IsWhole) (arg13 : Memref sig .tc .vmem S1x128x256 .f32) (harg13 : arg13.IsWhole) (arg14 : Memref sig .tc .vmem S1x1x256 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S2x2048x128 .bf16) (harg18 : arg18.IsWhole) (hc0 : cond0_0 i) (hc1 : ¬cond0_1 i) (hc2 : cond0_2 i)
    (x0 : Vec F S1x2048x128 .f32) (x1 : Vec F S1x2048x128 .f32) (x2 : Vec F S4x128 .f32) (x3 : Vec F S1x128x256 .bf16) (x4 : Vec F S1x128 .f32) (x5 : Vec F S6x1x2048x128 .f32) (x6 : Vec F S1x2048x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_lru_mix_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_lru_mix_bwd_eq_skeleton]; unfold cc0_lru_mix_bwd_skel
    simp only [k0_part2_eq_skeleton, k0_part3_eq_skeleton, k0_part4_eq_skeleton, k0_part5_eq_skeleton, k0_part6_eq_skeleton, k0_part7_eq_skeleton, k0_part8_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact HS0
    ipureintro; rfl

end Cert.KernelIdeal.Reals

end
-- ==== Proof.Reals.Frame.lean ====
/- The launch as a whole: it leaves the arguments unchanged and the semaphores at zero. -/
module

public import proofs.«01_k».proof.Proof.Reals.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Reals

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9, 10, 11, 12, 13, 14): nothing reads what the kernel leaves in them, so nothing
    of it is named (Lib/Pipeline/Dat.lean `Dat.toRForget`). -/
def forgets0 : Fin 15 → Bool := fun w => w.val == 7 || w.val == 8 || w.val == 9 || w.val == 10 || w.val == 11 || w.val == 12 || w.val == 13 || w.val == 14

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 80 := lt_of_lt_of_eq t.isLt (show cfg0.N = 80 from N_0)
  by_cases h0 : t.val % 2 = 0
  · by_cases h1 : t.val / 2 % 4 = 0
    · by_cases h2 : 1 ≤ t.val / 2 % 4
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_A c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        iintro ⟨H0, H1, H2, H3, H4, H5, H6, H7, H8, H9, H10, H11, H12, H13, H14, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
    · by_cases h2 : 1 ≤ t.val / 2 % 4
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_C c (grid0.coords t) _ _ _ _ _ _ _ _ _ _ _ _ _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        iintro ⟨H0, H1, H2, H3, H4, H5, H6, H7, H8, H9, H10, H11, H12, H13, H14, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · exfalso; omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    iintro ⟨H0, H1, H2, H3, H4, H5, H6, H7, H8, H9, H10, H11, H12, H13, H14, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9, 10, 11, 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_KernelIdeal`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Reals

end
-- ==== Proof.ActBwd.Run.lean ====
/- The gradient of the feed-forward activation: one run of the body at any grid point, over any float values, and what it leaves in the
   blocks of its first two results. -/
module

public import proofs.«01_k».proof.Proof.Gen.Kernel22Ideal.Launch
public import proofs.«01_k».proof.Proof.Gen.Kernel22Ideal.Skeleton
public import proofs.«01_k».proof.Proof.Gen.Kernel22Ideal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel22Ideal.ActBwd

open Cert.Kernel22Ideal Cert.Kernel22Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Which of the body's four conditions hold: at the first sequence the sums are begun, … -/
def Begins (i : grid0.Coords) : Prop := k0_cond1 i = 1#1 ∧ ¬ k0_cond2 i = 1#1 ∧ k0_cond3 i = 1#1 ∧ ¬ k0_cond4 i = 1#1
/-- … and at the later ones continued. -/
def Continues (i : grid0.Coords) : Prop := ¬ k0_cond1 i = 1#1 ∧ k0_cond2 i = 1#1 ∧ ¬ k0_cond3 i = 1#1 ∧ k0_cond4 i = 1#1

theorem begins_or_continues : ∀ t : Fin cfg0.N, Begins (grid0.coords t) ∨ Continues (grid0.coords t) := by
  have h : ∀ t : Fin grid0.N, (k0_cond1 (grid0.coords t) = 1#1 ∧ ¬ k0_cond2 (grid0.coords t) = 1#1 ∧ k0_cond3 (grid0.coords t) = 1#1
      ∧ ¬ k0_cond4 (grid0.coords t) = 1#1) ∨ (¬ k0_cond1 (grid0.coords t) = 1#1 ∧ k0_cond2 (grid0.coords t) = 1#1
      ∧ ¬ k0_cond3 (grid0.coords t) = 1#1 ∧ k0_cond4 (grid0.coords t) = 1#1) := by decide +kernel
  exact h

/-! The blocks of the first two results, as the body computes them from the blocks of the arguments. -/

abbrev Rlo : Rect S1x2048x256 := Rect.unit (s := S1x2048x256) ![0, 0, 0] S1x2048x128.size inb_S1x2048x256_S1x2048x128_0_0_0
abbrev Rhi : Rect S1x2048x256 := Rect.unit (s := S1x2048x256) ![0, 0, 128] S1x2048x128.size inb_S1x2048x256_S1x2048x128_0_0_128
abbrev R3lo : Rect S3x256 := Rect.unit (s := S3x256) ![0, 0] S3x128.size inb_S3x256_S3x128_0_0
abbrev R3hi : Rect S3x256 := Rect.unit (s := S3x256) ![0, 128] S3x128.size inb_S3x256_S3x128_0_128

/-- The rows of the weight that this point's columns come from. -/
def rows (i : grid0.Coords) (w : Vec F S2816x1024 .bf16) : Vec F S256x1024 .bf16 :=
  View.ld w (Rect.unit (s := S2816x1024) (k0_off1 i) S256x1024.size (k0_off1_inb i))

section pieces

variable (g v : Vec F S1x2048x256 .f32) (z : Vec F S1x2048x1024 .bf16) (w : Vec F S256x1024 .bf16) (k : Vec F S3x256 .f32)

/-- The gate's block: its left half and its right half. -/
def gateLo : FVec F S1x2048x128 .bf16 := k0_pay45 (k0_pay33 (k0_pay28 z w (View.ld g Rlo) (View.ld v Rlo)) (View.ld k R3lo) k0_pay30)
def gateHi : FVec F S1x2048x128 .bf16 :=
  k0_pay4 (k0_pay60 (k0_pay54 (k0_pay23 z w) (View.ld g Rhi) (View.ld v Rhi)) (View.ld k R3hi) (k0_pay56 (k0_pay23 z w) (View.ld g Rhi) (View.ld v Rhi))
    k0_pay57 (k0_pay58 (k0_pay23 z w) (View.ld g Rhi) (View.ld v Rhi)) (Scalar.ofBits .f32 0x00000000#32))
/-- The value's block: its left half and its right half. -/
def valueLo : FVec F S1x2048x128 .bf16 :=
  k0_pay46 (k0_pay27 z w (View.ld g Rlo)) (View.ld k R3lo) (k0_pay38 (k0_pay27 z w (View.ld g Rlo))) k0_pay39 (k0_pay40 (k0_pay27 z w (View.ld g Rlo)))
def valueHi : FVec F S1x2048x128 .bf16 :=
  k0_pay5 (k0_pay53 (k0_pay23 z w) (View.ld g Rhi)) (k0_pay67 (k0_pay53 (k0_pay23 z w) (View.ld g Rhi)) (View.ld k R3hi)) (k0_pay68 (View.ld k R3hi))

def gatePieces : List (View.Piece (Elt F) S1x2048x256 .bf16) := [⟨Rhi, gateHi g v z w k⟩, ⟨Rlo, gateLo g v z w k⟩]
def valuePieces : List (View.Piece (Elt F) S1x2048x256 .bf16) := [⟨Rhi, valueHi g z w k⟩, ⟨Rlo, valueLo g z w k⟩]

theorem gate_covers (y : S1x2048x256.Idx) : ∃ pc ∈ gatePieces g v z w k, y ∈ pc.1.set :=
  View.cover_of_tiledL (gatePieces g v z w k) S1x2048x128.size (by sl_kernel_rfl) y
theorem value_covers (y : S1x2048x256.Idx) : ∃ pc ∈ valuePieces g z w k, y ∈ pc.1.set :=
  View.cover_of_tiledL (valuePieces g z w k) S1x2048x128.size (by sl_kernel_rfl) y

/-- The staging buffers through which the two blocks are read back. -/
abbrev gateView : View sig .tc .vmem S1x2048x256 .bf16 := (Memref.whole cc0_stg8_0 : Memref sig .tc .vmem S1x2048x256 .bf16).view
abbrev valueView : View sig .tc .vmem S1x2048x256 .bf16 := (Memref.whole cc0_stg9_0 : Memref sig .tc .vmem S1x2048x256 .bf16).view

def gateBlock : Vec F S1x2048x256 .bf16 := gateView.read (Elt F) (gateView.writes (Elt F) gateView.junk (gatePieces g v z w k))
def valueBlock : Vec F S1x2048x256 .bf16 := valueView.read (Elt F) (valueView.writes (Elt F) valueView.junk (valuePieces g z w k))

end pieces

set_option maxHeartbeats 4000000 in
/-- One run of the body: on staging buffers that hold the arguments' blocks, the results' holding anything, it ends with the arguments' blocks
    as they were, the first two results' buffers with the found pieces written, the four sums' buffers at some contents. -/
def bodyRun (c : Dev nD) (i : grid0.Coords) (hb : Begins i ∨ Continues i) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x2048x1024 .bf16) (harg6 : arg6.IsWhole) (arg7 : Memref sig .tc .vmem S2816x1024 .bf16) (harg7 : arg7.IsWhole) (arg8 : Memref sig .tc .vmem S3x256 .f32) (harg8 : arg8.IsWhole) (arg9 : Memref sig .tc .vmem S3x256 .f32) (harg9 : arg9.IsWhole) (arg10 : Memref sig .tc .vmem S1x2048x256 .bf16) (harg10 : arg10.IsWhole) (arg11 : Memref sig .tc .vmem S1x2048x256 .bf16) (harg11 : arg11.IsWhole) (arg12 : Memref sig .tc .vmem S3x2816 .f32) (harg12 : arg12.IsWhole) (arg13 : Memref sig .tc .vmem S3x2816 .f32) (harg13 : arg13.IsWhole) (arg14 : Memref sig .tc .vmem S1x2816 .f32) (harg14 : arg14.IsWhole) (arg15 : Memref sig .tc .vmem S1x2816 .f32) (harg15 : arg15.IsWhole)
    (x0 : Vec F S1x2048x256 .f32) (x1 : Vec F S1x2048x256 .f32) (x2 : Vec F S1x2048x256 .f32) (x3 : Vec F S1x2048x256 .f32) (x4 : Vec F S1x2048x1024 .bf16) (x5 : Vec F S2816x1024 .bf16) (x6 : Vec F S3x256 .f32) (x7 : Vec F S3x256 .f32) :
    Σ' (L8 : List (View.Piece (Elt F) S1x2048x256 .bf16)), { L9 : List (View.Piece (Elt F) S1x2048x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_ffn_act_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_ffn_act_bwd_eq_skeleton]; unfold cc0_ffn_act_bwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain ⟨hc1, hc2, hc3, hc4⟩ | ⟨hc1, hc2, hc3, hc4⟩ := hb
    · sl_exec (disch := first | sl_exact hc1 | sl_exact hc2 | sl_exact hc3 | sl_exact hc4)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]; · iexists _; iexact H8
      isplitl [H9]; · iexists _; iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      iexists _, _; isplitr; swap; · iexact H13
      ipureintro; rfl
    · sl_exec (disch := first | sl_exact hc1 | sl_exact hc2 | sl_exact hc3 | sl_exact hc4)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]; · iexists _; iexact H8
      isplitl [H9]; · iexists _; iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      iexists _, _; isplitr; swap; · iexact H13
      ipureintro; rfl

theorem zero3 : (![0, 0, 0] : Fin 3 → Nat) = fun _ => 0 := funext fun a => by fin_cases a <;> rfl

theorem ld_whole (x : Vec F S1x2048x1024 .bf16) :
    View.ld x (Rect.unit ![0, 0, 0] ![1, 2048, 1024] inb_S1x2048x1024_S1x2048x1024_0_0_0) = x := View.ld_unit_zero zero3 _ _

section found

variable (c : Dev nD) (i : grid0.Coords) (hb : Begins i ∨ Continues i) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x2048x1024 .bf16) (harg6 : arg6.IsWhole) (arg7 : Memref sig .tc .vmem S2816x1024 .bf16) (harg7 : arg7.IsWhole) (arg8 : Memref sig .tc .vmem S3x256 .f32) (harg8 : arg8.IsWhole) (arg9 : Memref sig .tc .vmem S3x256 .f32) (harg9 : arg9.IsWhole) (arg10 : Memref sig .tc .vmem S1x2048x256 .bf16) (harg10 : arg10.IsWhole) (arg11 : Memref sig .tc .vmem S1x2048x256 .bf16) (harg11 : arg11.IsWhole) (arg12 : Memref sig .tc .vmem S3x2816 .f32) (harg12 : arg12.IsWhole) (arg13 : Memref sig .tc .vmem S3x2816 .f32) (harg13 : arg13.IsWhole) (arg14 : Memref sig .tc .vmem S1x2816 .f32) (harg14 : arg14.IsWhole) (arg15 : Memref sig .tc .vmem S1x2816 .f32) (harg15 : arg15.IsWhole)
    (x0 : Vec F S1x2048x256 .f32) (x1 : Vec F S1x2048x256 .f32) (x2 : Vec F S1x2048x256 .f32) (x3 : Vec F S1x2048x256 .f32) (x4 : Vec F S1x2048x1024 .bf16) (x5 : Vec F S2816x1024 .bf16) (x6 : Vec F S3x256 .f32) (x7 : Vec F S3x256 .f32)

/-- The pieces that the run finds are the blocks' halves. -/
theorem found_gate : (bodyRun c i hb arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1 = gatePieces x2 x3 x4 (rows i x5) x6 := by
  unfold bodyRun
  dsimp only
  sl_unfold_words
  simp only [View.readAt_eq_ld, harg2.read_unread, harg3.read_unread, harg4.read_unread, harg5.read_unread, harg6.read_unread, harg7.read_unread, harg8.read_unread, harg9.read_unread, ld_whole]
  rfl
theorem found_value : (bodyRun c i hb arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1 = valuePieces x2 x4 (rows i x5) x7 := by
  unfold bodyRun
  dsimp only
  sl_unfold_words
  simp only [View.readAt_eq_ld, harg2.read_unread, harg3.read_unread, harg4.read_unread, harg5.read_unread, harg6.read_unread, harg7.read_unread, harg8.read_unread, harg9.read_unread, ld_whole]
  rfl

include hb in
set_option maxHeartbeats 1000000 in
/-- The run with the found pieces named. -/
theorem bodyRun_pieces (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f (gatePieces x2 x3 x4 (rows i x5) x6)) ∗ (∃ f, arg11.view.loc (c : Thread nD τ) ↦[arg11.view.set]{fullShare} arg11.view.writes (Elt F) f (valuePieces x2 x4 (rows i x5) x7)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_ffn_act_bwd i arg2 harg2 arg3 harg3 arg4 harg4 arg5 harg5 arg6 harg6 arg7 harg7 arg8 harg8 arg9 harg9 arg10 harg10 arg11 harg11 arg12 harg12 arg13 harg13 arg14 harg14 arg15 harg15) K := by
  have h := (bodyRun c i hb arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2 E K
  rw [found_value, found_gate] at h
  exact h

end found

end Cert.Kernel22Ideal.ActBwd

end
-- ==== Proof.ActBwd.Frame.lean ====
/- The gradient of the feed-forward activation: the run of the whole grid. The first two results are named block by block; of the four
   sums nothing is said. -/
module

public import proofs.«01_k».proof.Proof.ActBwd.Run
public import Idealize.ShloMosaic.Lib.Claim

@[expose] public section

set_option maxRecDepth 16384

noncomputable section

namespace Cert.Kernel22Ideal.ActBwd

open Cert.Kernel22Ideal Cert.Kernel22Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the run of the grid finds them: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1x2048x256 .f32 := win0_0.stage (cfg0.slots t 0)
abbrev ms1 (t : Fin cfg0.N) : Memref sig .tc .vmem S1x2048x256 .f32 := win0_1.stage (cfg0.slots t 1)
abbrev ms2 (t : Fin cfg0.N) : Memref sig .tc .vmem S1x2048x256 .f32 := win0_2.stage (cfg0.slots t 2)
abbrev ms3 (t : Fin cfg0.N) : Memref sig .tc .vmem S1x2048x256 .f32 := win0_3.stage (cfg0.slots t 3)
abbrev ms4 (t : Fin cfg0.N) : Memref sig .tc .vmem S1x2048x1024 .bf16 := win0_4.stage (cfg0.slots t 4)
abbrev ms5 (t : Fin cfg0.N) : Memref sig .tc .vmem S2816x1024 .bf16 := win0_5.stage (cfg0.slots t 5)
abbrev ms6 (t : Fin cfg0.N) : Memref sig .tc .vmem S3x256 .f32 := win0_6.stage (cfg0.slots t 6)
abbrev ms7 (t : Fin cfg0.N) : Memref sig .tc .vmem S3x256 .f32 := win0_7.stage (cfg0.slots t 7)
abbrev ms8 (t : Fin cfg0.N) : Memref sig .tc .vmem S1x2048x256 .bf16 := win0_8.stage (cfg0.slots t 8)
abbrev ms9 (t : Fin cfg0.N) : Memref sig .tc .vmem S1x2048x256 .bf16 := win0_9.stage (cfg0.slots t 9)
abbrev ms10 (t : Fin cfg0.N) : Memref sig .tc .vmem S3x2816 .f32 := win0_10.stage (cfg0.slots t 10)
abbrev ms11 (t : Fin cfg0.N) : Memref sig .tc .vmem S3x2816 .f32 := win0_11.stage (cfg0.slots t 11)
abbrev ms12 (t : Fin cfg0.N) : Memref sig .tc .vmem S1x2816 .f32 := win0_12.stage (cfg0.slots t 12)
abbrev ms13 (t : Fin cfg0.N) : Memref sig .tc .vmem S1x2816 .f32 := win0_13.stage (cfg0.slots t 13)

/-- The two results' blocks at point `t`. -/
def gateAt (c : Dev nD) (t : Fin cfg0.N) : Vec F S1x2048x256 .bf16 :=
  gateBlock (iblk m c 2 t) (iblk m c 3 t) (iblk m c 4 t) (rows (grid0.coords t) (iblk m c 5 t)) (iblk m c 6 t)
def valueAt (c : Dev nD) (t : Fin cfg0.N) : Vec F S1x2048x256 .bf16 :=
  valueBlock (iblk m c 2 t) (iblk m c 4 t) (rows (grid0.coords t) (iblk m c 5 t)) (iblk m c 7 t)

/-- The windows of which nothing is said: the four sums. -/
def forgets0 : Fin 14 → Bool := fun w => w.val == 10 || w.val == 11 || w.val == 12 || w.val == 13

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => gateAt m c t
    | ⟨9, _⟩ => valueAt m c t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = gateAt m c t := by dsimp only [dats]
theorem after_9 (c : Dev nD) (t : Fin cfg0.N) : (dats m 0 c).after 9 t = valueAt m c t := by dsimp only [dats]

/-! Each argument's staging buffer holds its block at every point, fetched there or not. -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-- What the body is called with at point `t`, … -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare d)
    ∗ (∃ d, owns (c : Thread nD τ) (ms11 t) fullShare d)
    ∗ (∃ d, owns (c : Thread nD τ) (ms12 t) fullShare d)
    ∗ (∃ d, owns (c : Thread nD τ) (ms13 t) fullShare d))

/-- … and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms10 t) fullShare d)
    ∗ (∃ d, owns (c : Thread nD τ) (ms11 t) fullShare d)
    ∗ (∃ d, owns (c : Thread nD τ) (ms12 t) fullShare d)
    ∗ (∃ d, owns (c : Thread nD τ) (ms13 t) fullShare d))

set_option maxHeartbeats 400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [show cfg0.idle 0 (grid0.coords t) = false from rfl], after_0]
  rw [show (dats m 0 c).leavesExact 1 t = owns (c : Thread nD τ) (ms1 t) fullShare ((dats m 0 c).after 1 t) from by
    unfold Dat.leavesExact; rw [show cfg0.idle 1 (grid0.coords t) = false from rfl], after_1]
  rw [show (dats m 0 c).leavesExact 2 t = owns (c : Thread nD τ) (ms2 t) fullShare ((dats m 0 c).after 2 t) from by
    unfold Dat.leavesExact; rw [show cfg0.idle 2 (grid0.coords t) = false from rfl], after_2]
  rw [show (dats m 0 c).leavesExact 3 t = owns (c : Thread nD τ) (ms3 t) fullShare ((dats m 0 c).after 3 t) from by
    unfold Dat.leavesExact; rw [show cfg0.idle 3 (grid0.coords t) = false from rfl], after_3]
  rw [show (dats m 0 c).leavesExact 4 t = owns (c : Thread nD τ) (ms4 t) fullShare ((dats m 0 c).after 4 t) from by
    unfold Dat.leavesExact; rw [show cfg0.idle 4 (grid0.coords t) = false from rfl], after_4]
  rw [show (dats m 0 c).leavesExact 5 t = owns (c : Thread nD τ) (ms5 t) fullShare ((dats m 0 c).after 5 t) from by
    unfold Dat.leavesExact; rw [show cfg0.idle 5 (grid0.coords t) = false from rfl], after_5]
  rw [show (dats m 0 c).leavesExact 6 t = owns (c : Thread nD τ) (ms6 t) fullShare ((dats m 0 c).after 6 t) from by
    unfold Dat.leavesExact; rw [show cfg0.idle 6 (grid0.coords t) = false from rfl], after_6]
  rw [show (dats m 0 c).leavesExact 7 t = owns (c : Thread nD τ) (ms7 t) fullShare ((dats m 0 c).after 7 t) from by
    unfold Dat.leavesExact; rw [show cfg0.idle 7 (grid0.coords t) = false from rfl], after_7]
  rw [show (dats m 0 c).leavesExact 8 t = owns (c : Thread nD τ) (ms8 t) fullShare ((dats m 0 c).after 8 t) from by
    unfold Dat.leavesExact; rw [show cfg0.idle 8 (grid0.coords t) = false from rfl], after_8]
  rw [show (dats m 0 c).leavesExact 9 t = owns (c : Thread nD τ) (ms9 t) fullShare ((dats m 0 c).after 9 t) from by
    unfold Dat.leavesExact; rw [show cfg0.idle 9 (grid0.coords t) = false from rfl], after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (bodyRun_pieces c (grid0.coords t) (begins_or_continues t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, ⟨%e8, H8⟩, ⟨%e9, H9⟩, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; unfold gateAt gateBlock
    exact View.read_writes_of_cover _ _ _ _ _ (gate_covers (iblk m c 2 t) (iblk m c 3 t) (iblk m c 4 t) (rows (grid0.coords t) (iblk m c 5 t)) (iblk m c 6 t))
  isplitl [H9]
  · unfold owns; iexists _; isplitr
    swap; · iexact H9
    ipureintro; unfold valueAt valueBlock
    exact View.read_writes_of_cover _ _ _ _ _ (value_covers (iblk m c 2 t) (iblk m c 4 t) (rows (grid0.coords t) (iblk m c 5 t)) (iblk m c 7 t))
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run from any memory with the semaphores at zero: it ends, with the arrays as the blocks say and the semaphores at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The run with the first two results named and the arguments as launched. -/
theorem run_blocks : θ_run defs (onTc (τ := τ) (main (F := F))) ⟨m, fun _ => 0, ρ⟩ fun r => (∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0 :=
  (θ_run defs _ _).mono (fun _ h => ⟨fun c =>
    ⟨((dats m 0 c).toRForget_arrAt_iff (fgt := forgets0) (w := 8) rfl _ _).mp ((h.1 c).1 8),
      ((dats m 0 c).toRForget_arrAt_iff (fgt := forgets0) (w := 9) rfl _ _).mp ((h.1 c).1 9),
      (Pipeline.RDat.FramePost.arr_in h.1 c 0 rfl).trans (A_eq m c 0),
      (Pipeline.RDat.FramePost.arr_in h.1 c 1 rfl).trans (A_eq m c 1),
      (Pipeline.RDat.FramePost.arr_in h.1 c 2 rfl).trans (A_eq m c 2),
      (Pipeline.RDat.FramePost.arr_in h.1 c 3 rfl).trans (A_eq m c 3),
      (Pipeline.RDat.FramePost.arr_in h.1 c 4 rfl).trans (A_eq m c 4),
      (Pipeline.RDat.FramePost.arr_in h.1 c 5 rfl).trans (A_eq m c 5),
      (Pipeline.RDat.FramePost.arr_in h.1 c 6 rfl).trans (A_eq m c 6)⟩, h.2⟩) (run_main m ρ)

end Cert.Kernel22Ideal.ActBwd

end
-- ==== Proof.ActBwd.Cases.lean ====
/- The gradient of the feed-forward activation: the blocks of the first two results as values, read at an index. -/
module

public import proofs.«01_k».proof.Proof.ActBwd.Run
public import Idealize.ShloMosaic.Lib.Pipeline.Value
public import Idealize.ShloMosaic.Lib.Tactic
public import Idealize.ShloMosaic.Lib.Pointwise

@[expose] public section

set_option maxRecDepth 16384

noncomputable section

namespace Cert.Kernel22Ideal.ActBwd

open Cert.Kernel22Ideal Cert.Kernel22Ideal.Gen Idealize.ShloMosaic Idealize.ShloMosaic.TcCoe Idealize.SL.Sem

/-- A column moved up by `d` rows, zeros below. -/
def ahead (u : Fin 2048 → EReal) (d : ℕ) (p : Fin 2048) : EReal := if h : p.val + d < 2048 then u ⟨p.val + d, h⟩ else 0

/-- The gradient of a column's convolution with its three taps. -/
def convT (u : Fin 2048 → EReal) (k0 k1 k2 : EReal) (p : Fin 2048) : EReal := ahead u 2 p * k0 + ahead u 1 p * k1 + u p * k2

/-- The logistic function, … -/
def sg (g : EReal) : EReal := Ideal.div 1 (1 + Ideal.exp (-g))
/-- … and the gradients of the gated activation: of its value, and of its gate. -/
def dV (a g : EReal) : EReal := a * (g * sg g)
def dG (a g v : EReal) : EReal := a * v * (sg g * (1 + g * (1 - sg g)))

theorem below_last : ∀ p : Fin 2048, IntOp.cmpi .slt (BitVec.ofNat 32 p.val) 2047#32 = if p.val + 1 < 2048 then 1#1 else 0#1 := by
  decide +kernel
theorem below_two : ∀ p : Fin 2048, IntOp.cmpi .slt (BitVec.ofNat 32 p.val) 2046#32 = if p.val + 2 < 2048 then 1#1 else 0#1 := by
  decide +kernel

theorem ahead_one (x : FVec Ideal S2048x128 .f32) (p : Fin 2048) (j : Fin 128) :
    select (cmpi .slt (iota .tc S2048x128 32 [0] iota_S2048x128_d0_w32) (broadcast S2048x128 2047#32))
      (dynamicRotate 0 2047#32 none x rotates_S2048x128_d0) (broadcast S2048x128 (Scalar.ofBits .f32 0x00000000#32 : Ideal .f32)) (ix2 p j)
    = ahead (fun q => x (ix2 q j)) 1 p := by
  unfold ahead
  pointwise
  rw [below_last]
  by_cases h : p.val + 1 < 2048
  · have e : (p.val + 2048 - 2047) % 2048 = p.val + 1 := by omega
    simp only [if_pos h, dif_pos h, e]
    rfl
  · simp only [if_neg h, dif_neg h]
    rfl

theorem ahead_two (x : FVec Ideal S2048x128 .f32) (p : Fin 2048) (j : Fin 128) :
    select (cmpi .slt (iota .tc S2048x128 32 [0] iota_S2048x128_d0_w32) (broadcast S2048x128 2046#32))
      (dynamicRotate 0 2046#32 none x rotates_S2048x128_d0) (broadcast S2048x128 (Scalar.ofBits .f32 0x00000000#32 : Ideal .f32)) (ix2 p j)
    = ahead (fun q => x (ix2 q j)) 2 p := by
  unfold ahead
  pointwise
  rw [below_two]
  by_cases h : p.val + 2 < 2048
  · have e : (p.val + 2048 - 2046) % 2048 = p.val + 2 := by omega
    simp only [if_pos h, dif_pos h, e]
    rfl
  · simp only [if_neg h, dif_neg h]
    rfl

/-! The values at an index, as extended reals. -/

section values

variable (z : Vec Ideal S1x2048x1024 .bf16) (w : Vec Ideal S256x1024 .bf16) (h : FVec Ideal S2048x256 .f32) (g v : Vec Ideal S1x2048x128 .f32)
  (u : FVec Ideal S2048x128 .f32) (k : Vec Ideal S3x128 .f32) (q : Fin 1) (p : Fin 2048) (j : Fin 128)

theorem pay23_apply (j : Fin 256) : k0_pay23 z w (ix2 p j) = ∑ k : Fin 1024, z (ix3 0 p k) * w (ix2 j k) := by
  unfold k0_pay23
  pointwise

theorem pay27_apply : k0_pay27 z w g (ix2 p j) = dV (k0_pay23 z w (ix2 p ⟨j.val, by omega⟩)) (g (ix3 0 p j)) := by
  unfold dV sg
  rw [← zero_sub]
  unfold k0_pay27 k0_pay26 k0_pay25 k0_pay24
  pointwise

theorem pay28_apply : k0_pay28 z w g v (ix2 p j) = dG (k0_pay23 z w (ix2 p ⟨j.val, by omega⟩)) (g (ix3 0 p j)) (v (ix3 0 p j)) := by
  unfold dG sg
  rw [← zero_sub]
  unfold k0_pay28 k0_pay26 k0_pay25 k0_pay24
  pointwise

theorem pay53_apply : k0_pay53 h g (ix2 p j) = dV (h (ix2 p ⟨128 + j.val, by omega⟩)) (g (ix3 0 p j)) := by
  unfold dV sg
  rw [← zero_sub]
  unfold k0_pay53 k0_pay52 k0_pay51 k0_pay50
  pointwise

theorem pay54_apply : k0_pay54 h g v (ix2 p j) = dG (h (ix2 p ⟨128 + j.val, by omega⟩)) (g (ix3 0 p j)) (v (ix3 0 p j)) := by
  unfold dG sg
  rw [← zero_sub]
  unfold k0_pay54 k0_pay52 k0_pay51 k0_pay50
  pointwise

theorem pay45_apply : (k0_pay45 (k0_pay33 u k k0_pay30) : FVec Ideal S1x2048x128 .bf16) (ix3 q p j)
    = convT (fun q => u (ix2 q j)) (k (ix2 0 j)) (k (ix2 1 j)) (k (ix2 2 j)) p := by
  unfold convT
  rw [← ahead_one, ← ahead_two]
  unfold k0_pay45 k0_pay33 k0_pay32 k0_pay31 k0_pay30
  pointwise

theorem pay46_apply : (k0_pay46 u k (k0_pay38 u) k0_pay39 (k0_pay40 u) : FVec Ideal S1x2048x128 .bf16) (ix3 q p j)
    = convT (fun q => u (ix2 q j)) (k (ix2 0 j)) (k (ix2 1 j)) (k (ix2 2 j)) p := by
  unfold convT
  rw [← ahead_one, ← ahead_two]
  unfold k0_pay46 k0_pay41 k0_pay40 k0_pay39 k0_pay38
  pointwise

theorem pay4_apply : (k0_pay4 (k0_pay60 (k0_pay54 h g v) k (k0_pay56 h g v) k0_pay57 (k0_pay58 h g v) (Scalar.ofBits .f32 0x00000000#32)) : FVec Ideal S1x2048x128 .bf16) (ix3 q p j)
    = convT (fun q => k0_pay54 h g v (ix2 q j)) (k (ix2 0 j)) (k (ix2 1 j)) (k (ix2 2 j)) p := by
  unfold k0_pay4 k0_pay60 k0_pay59 k0_pay58 k0_pay57 k0_pay56
  generalize k0_pay54 h g v = u
  unfold convT
  rw [← ahead_one, ← ahead_two]
  pointwise

theorem pay5_apply : (k0_pay5 u (k0_pay67 u k) (k0_pay68 k) : FVec Ideal S1x2048x128 .bf16) (ix3 q p j)
    = convT (fun q => u (ix2 q j)) (k (ix2 0 j)) (k (ix2 1 j)) (k (ix2 2 j)) p := by
  unfold convT
  rw [← ahead_one, ← ahead_two]
  unfold k0_pay5 k0_pay68 k0_pay67 k0_pay66 k0_pay65
  pointwise

end values

/-! The two halves of a block's columns, each stored on its own. -/

/-- A column of the left half, and a column of the right half, in the block. -/
abbrev lo (j : Fin 128) : Fin 256 := ⟨j.val, by omega⟩
abbrev hi (j : Fin 128) : Fin 256 := ⟨128 + j.val, by omega⟩

theorem emb_lo (q : Fin 1) (p : Fin 2048) (j : Fin 128) : Rlo.emb (ix3 q p j) = ix3 q p (lo j) := by
  funext a; fin_cases a
  · exact Fin.ext (show 0 + 1 * q.val = q.val by omega)
  · exact Fin.ext (show 0 + 1 * p.val = p.val by omega)
  · exact Fin.ext (show 0 + 1 * j.val = j.val by omega)
theorem emb_hi (q : Fin 1) (p : Fin 2048) (j : Fin 128) : Rhi.emb (ix3 q p j) = ix3 q p (hi j) := by
  funext a; fin_cases a
  · exact Fin.ext (show 0 + 1 * q.val = q.val by omega)
  · exact Fin.ext (show 0 + 1 * p.val = p.val by omega)
  · exact Fin.ext (show 128 + 1 * j.val = 128 + j.val by omega)

theorem x_lo (x : Vec Ideal S1x2048x256 .f32) (q : Fin 1) (p : Fin 2048) (j : Fin 128) : View.ld x Rlo (ix3 q p j) = x (ix3 q p (lo j)) :=
  congrArg x (emb_lo q p j)
theorem x_hi (x : Vec Ideal S1x2048x256 .f32) (q : Fin 1) (p : Fin 2048) (j : Fin 128) : View.ld x Rhi (ix3 q p j) = x (ix3 q p (hi j)) :=
  congrArg x (emb_hi q p j)

theorem k_lo (k : Vec Ideal S3x256 .f32) (r : Fin 3) (j : Fin 128) : View.ld k R3lo (ix2 r j) = k (ix2 r (lo j)) :=
  congrArg k (funext fun a => by
    fin_cases a
    · exact Fin.ext (show 0 + 1 * r.val = r.val by omega)
    · exact Fin.ext (show 0 + 1 * j.val = j.val by omega))
theorem k_hi (k : Vec Ideal S3x256 .f32) (r : Fin 3) (j : Fin 128) : View.ld k R3hi (ix2 r j) = k (ix2 r (hi j)) :=
  congrArg k (funext fun a => by
    fin_cases a
    · exact Fin.ext (show 0 + 1 * r.val = r.val by omega)
    · exact Fin.ext (show 128 + 1 * j.val = 128 + j.val by omega))

section blocks

variable (g v : Vec Ideal S1x2048x256 .f32) (z : Vec Ideal S1x2048x1024 .bf16) (w : Vec Ideal S256x1024 .bf16) (k : Vec Ideal S3x256 .f32)

/-- The blocks of the two results, each column with its own taps. -/
def gateB : Vec Ideal S1x2048x256 .bf16 := fun y =>
  convT (fun q => dG (k0_pay23 z w (ix2 q (y 2))) (g (ix3 0 q (y 2))) (v (ix3 0 q (y 2)))) (k (ix2 0 (y 2))) (k (ix2 1 (y 2))) (k (ix2 2 (y 2))) (y 1)
def valueB : Vec Ideal S1x2048x256 .bf16 := fun y =>
  convT (fun q => dV (k0_pay23 z w (ix2 q (y 2))) (g (ix3 0 q (y 2)))) (k (ix2 0 (y 2))) (k (ix2 1 (y 2))) (k (ix2 2 (y 2))) (y 1)

theorem gateLo_eq (y : S1x2048x128.Idx) : gateLo g v z w k y = gateB g v z w k (Rlo.emb y) := by
  obtain ⟨q, p, j, rfl⟩ : ∃ (q : Fin 1) (p : Fin 2048) (j : Fin 128), y = ix3 q p j := ⟨y 0, y 1, y 2, eq_ix3 y⟩
  rw [emb_lo]
  have e : ∀ (gg vv : Vec Ideal S1x2048x128 .f32) (kk : Vec Ideal S3x128 .f32) (hg : ∀ r, gg (ix3 0 r j) = g (ix3 0 r (lo j)))
      (hv : ∀ r, vv (ix3 0 r j) = v (ix3 0 r (lo j))) (hk : ∀ r, kk (ix2 r j) = k (ix2 r (lo j))),
      (k0_pay45 (k0_pay33 (k0_pay28 z w gg vv) kk k0_pay30) : FVec Ideal S1x2048x128 .bf16) (ix3 q p j) = gateB g v z w k (ix3 q p (lo j)) := by
    intro gg vv kk hg hv hk
    rw [pay45_apply]
    simp only [pay28_apply, hg, hv, hk]
    rfl
  exact e _ _ _ (fun r => x_lo g 0 r j) (fun r => x_lo v 0 r j) (fun r => k_lo k r j)
theorem gateHi_eq (y : S1x2048x128.Idx) : gateHi g v z w k y = gateB g v z w k (Rhi.emb y) := by
  obtain ⟨q, p, j, rfl⟩ : ∃ (q : Fin 1) (p : Fin 2048) (j : Fin 128), y = ix3 q p j := ⟨y 0, y 1, y 2, eq_ix3 y⟩
  rw [emb_hi]
  have e : ∀ (gg vv : Vec Ideal S1x2048x128 .f32) (kk : Vec Ideal S3x128 .f32) (hg : ∀ r, gg (ix3 0 r j) = g (ix3 0 r (hi j)))
      (hv : ∀ r, vv (ix3 0 r j) = v (ix3 0 r (hi j))) (hk : ∀ r, kk (ix2 r j) = k (ix2 r (hi j))),
      (k0_pay4 (k0_pay60 (k0_pay54 (k0_pay23 z w) gg vv) kk (k0_pay56 (k0_pay23 z w) gg vv) k0_pay57 (k0_pay58 (k0_pay23 z w) gg vv) (Scalar.ofBits .f32 0x00000000#32)) : FVec Ideal S1x2048x128 .bf16) (ix3 q p j) = gateB g v z w k (ix3 q p (hi j)) := by
    intro gg vv kk hg hv hk
    rw [pay4_apply]
    simp only [pay54_apply, hg, hv, hk]
    rfl
  exact e _ _ _ (fun r => x_hi g 0 r j) (fun r => x_hi v 0 r j) (fun r => k_hi k r j)
theorem valueLo_eq (y : S1x2048x128.Idx) : valueLo g z w k y = valueB g z w k (Rlo.emb y) := by
  obtain ⟨q, p, j, rfl⟩ : ∃ (q : Fin 1) (p : Fin 2048) (j : Fin 128), y = ix3 q p j := ⟨y 0, y 1, y 2, eq_ix3 y⟩
  rw [emb_lo]
  have e : ∀ (gg : Vec Ideal S1x2048x128 .f32) (kk : Vec Ideal S3x128 .f32) (hg : ∀ r, gg (ix3 0 r j) = g (ix3 0 r (lo j)))
      (hk : ∀ r, kk (ix2 r j) = k (ix2 r (lo j))),
      (k0_pay46 (k0_pay27 z w gg) kk (k0_pay38 (k0_pay27 z w gg)) k0_pay39 (k0_pay40 (k0_pay27 z w gg)) : FVec Ideal S1x2048x128 .bf16) (ix3 q p j) = valueB g z w k (ix3 q p (lo j)) := by
    intro gg kk hg hk
    rw [pay46_apply]
    simp only [pay27_apply, hg, hk]
    rfl
  exact e _ _ (fun r => x_lo g 0 r j) (fun r => k_lo k r j)
theorem valueHi_eq (y : S1x2048x128.Idx) : valueHi g z w k y = valueB g z w k (Rhi.emb y) := by
  obtain ⟨q, p, j, rfl⟩ : ∃ (q : Fin 1) (p : Fin 2048) (j : Fin 128), y = ix3 q p j := ⟨y 0, y 1, y 2, eq_ix3 y⟩
  rw [emb_hi]
  have e : ∀ (gg : Vec Ideal S1x2048x128 .f32) (kk : Vec Ideal S3x128 .f32) (hg : ∀ r, gg (ix3 0 r j) = g (ix3 0 r (hi j)))
      (hk : ∀ r, kk (ix2 r j) = k (ix2 r (hi j))),
      (k0_pay5 (k0_pay53 (k0_pay23 z w) gg) (k0_pay67 (k0_pay53 (k0_pay23 z w) gg) kk) (k0_pay68 kk) : FVec Ideal S1x2048x128 .bf16) (ix3 q p j) = valueB g z w k (ix3 q p (hi j)) := by
    intro gg kk hg hk
    rw [pay5_apply]
    simp only [pay53_apply, hg, hk]
    rfl
  exact e _ _ (fun r => x_hi g 0 r j) (fun r => k_hi k r j)

theorem gateBlock_eq : gateBlock g v z w k = gateB g v z w k := by
  unfold gateBlock
  rw [View.read_writes_eq_canon _ _ _ (gate_covers g v z w k)]
  funext y
  refine View.canon_apply_of_pieces _ _ ?_ y (gate_covers g v z w k y)
  intro p hp y'
  unfold gatePieces at hp
  simp only [List.mem_cons, List.not_mem_nil, or_false] at hp
  rcases hp with rfl | rfl
  · exact gateHi_eq g v z w k y'
  · exact gateLo_eq g v z w k y'
theorem valueBlock_eq : valueBlock g z w k = valueB g z w k := by
  unfold valueBlock
  rw [View.read_writes_eq_canon _ _ _ (value_covers g z w k)]
  funext y
  refine View.canon_apply_of_pieces _ _ ?_ y (value_covers g z w k y)
  intro p hp y'
  unfold valuePieces at hp
  simp only [List.mem_cons, List.not_mem_nil, or_false] at hp
  rcases hp with rfl | rfl
  · exact valueHi_eq g z w k y'
  · exact valueLo_eq g z w k y'

end blocks

end Cert.Kernel22Ideal.ActBwd

end
-- ==== Proof.ActBwd.Value.lean ====
/- The gradient of the feed-forward activation: the two arrays the run leaves, as functions of the arguments. -/
module

public import proofs.«01_k».proof.Proof.ActBwd.Frame
public import proofs.«01_k».proof.Proof.ActBwd.Cases
public import Idealize.ShloMosaic.Lib.Pipeline.ValueKit.Tiles

@[expose] public section

set_option maxRecDepth 16384

noncomputable section

namespace Cert.Kernel22Ideal.ActBwd

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments that the two results depend on: the gate, the value, the incoming gradient, the weight and the taps. -/
abbrev fg (c : Dev nD) : Vec Ideal S4x2048x2816 .f32 := m ((c : Thread nD τ).loc main_arg2)
abbrev fv (c : Dev nD) : Vec Ideal S4x2048x2816 .f32 := m ((c : Thread nD τ).loc main_arg3)
abbrev fz (c : Dev nD) : Vec Ideal S4x2048x1024 .bf16 := m ((c : Thread nD τ).loc main_arg4)
abbrev fw (c : Dev nD) : Vec Ideal S2816x1024 .bf16 := m ((c : Thread nD τ).loc main_arg5)
abbrev fk (c : Dev nD) : Vec Ideal S3x5632 .f32 := m ((c : Thread nD τ).loc main_arg6)

/-- The gradient of the activation at a sequence, a token and a column. -/
def da (c : Dev nD) (b : Fin 4) (p : Fin 2048) (j : Fin 2816) : EReal := ∑ k : Fin 1024, fz m c (ix3 b p k) * fw m c (ix2 j k)

/-- A gate column and a value column among the columns of the taps. -/
def gc (j : Fin 2816) : Fin 5632 := ⟨j.val, by omega⟩
def vc (j : Fin 2816) : Fin 5632 := ⟨2816 + j.val, by omega⟩

/-- Where the blocks of point `t` lie. -/
theorem index_in : ∀ t : Fin cfg0.N, win0_2.index t (0 : Fin 3) = t.val / 11 ∧ win0_2.index t (1 : Fin 3) = 0 ∧ win0_2.index t (2 : Fin 3) = t.val % 11
    ∧ win0_3.index t (0 : Fin 3) = t.val / 11 ∧ win0_3.index t (1 : Fin 3) = 0 ∧ win0_3.index t (2 : Fin 3) = t.val % 11
    ∧ win0_4.index t (0 : Fin 3) = t.val / 11 ∧ win0_4.index t (1 : Fin 3) = 0 ∧ win0_4.index t (2 : Fin 3) = 0 := by
  have h : ∀ t : Fin grid0.N, win0_2.index t (0 : Fin 3) = t.val / 11 ∧ win0_2.index t (1 : Fin 3) = 0 ∧ win0_2.index t (2 : Fin 3) = t.val % 11
    ∧ win0_3.index t (0 : Fin 3) = t.val / 11 ∧ win0_3.index t (1 : Fin 3) = 0 ∧ win0_3.index t (2 : Fin 3) = t.val % 11
    ∧ win0_4.index t (0 : Fin 3) = t.val / 11 ∧ win0_4.index t (1 : Fin 3) = 0 ∧ win0_4.index t (2 : Fin 3) = 0 := by decide +kernel
  exact h
theorem index_w : ∀ t : Fin cfg0.N, win0_5.index t (0 : Fin 2) = 0 ∧ win0_5.index t (1 : Fin 2) = 0
    ∧ k0_off1 (grid0.coords t) (0 : Fin 2) = t.val % 11 * 256 ∧ k0_off1 (grid0.coords t) (1 : Fin 2) = 0 :=
  (by decide +kernel : ∀ t : Fin grid0.N, _)
theorem index_taps : ∀ t : Fin cfg0.N, win0_6.index t (0 : Fin 2) = 0 ∧ win0_6.index t (1 : Fin 2) = t.val % 11
    ∧ win0_7.index t (0 : Fin 2) = 0 ∧ win0_7.index t (1 : Fin 2) = 11 + t.val % 11 :=
  (by decide +kernel : ∀ t : Fin grid0.N, _)
theorem index_8 : ∀ t : Fin cfg0.N, win0_8.index t (0 : Fin 3) = t.val / 11 ∧ win0_8.index t (1 : Fin 3) = 0 ∧ win0_8.index t (2 : Fin 3) = t.val % 11 :=
  (by decide +kernel : ∀ t : Fin grid0.N, _)
theorem index_9 : ∀ t : Fin cfg0.N, win0_9.index t (0 : Fin 3) = t.val / 11 ∧ win0_9.index t (1 : Fin 3) = 0 ∧ win0_9.index t (2 : Fin 3) = t.val % 11 :=
  (by decide +kernel : ∀ t : Fin grid0.N, _)

/-- The sequence of point `t`, and the column of the arrays that column `j` of its block is. -/
def bat (t : Fin cfg0.N) : Fin 4 := ⟨t.val / 11, by have h : t.val < 44 := lt_of_lt_of_eq t.isLt N_0; omega⟩
def col (t : Fin cfg0.N) (j : Fin 256) : Fin 2816 := ⟨t.val % 11 * 256 + j.val, by have := j.isLt; omega⟩

theorem block_g (c : Dev nD) (t : Fin cfg0.N) (q : Fin 1) (p : Fin 2048) (j : Fin 256) :
    (iblk m c 2 t : Vec Ideal S1x2048x256 .f32) (ix3 q p j) = fg m c (ix3 (bat t) p (col t j)) := by
  obtain ⟨e0, e1, e2, -⟩ := index_in t
  show fg m c (((cfg0.win 2).blk t).view.emb (ix3 q p j)) = _
  congr 1
  funext a
  match a with
  | ⟨0, _⟩ => exact Fin.ext (by show win0_2.index t (0 : Fin 3) * 1 + 1 * q.val = t.val / 11; rw [e0]; omega)
  | ⟨1, _⟩ => exact Fin.ext (by show win0_2.index t (1 : Fin 3) * 2048 + 1 * p.val = p.val; rw [e1]; omega)
  | ⟨2, _⟩ => exact Fin.ext (by show win0_2.index t (2 : Fin 3) * 256 + 1 * j.val = t.val % 11 * 256 + j.val; rw [e2]; omega)

theorem block_v (c : Dev nD) (t : Fin cfg0.N) (q : Fin 1) (p : Fin 2048) (j : Fin 256) :
    (iblk m c 3 t : Vec Ideal S1x2048x256 .f32) (ix3 q p j) = fv m c (ix3 (bat t) p (col t j)) := by
  obtain ⟨-, -, -, e0, e1, e2, -⟩ := index_in t
  show fv m c (((cfg0.win 3).blk t).view.emb (ix3 q p j)) = _
  congr 1
  funext a
  match a with
  | ⟨0, _⟩ => exact Fin.ext (by show win0_3.index t (0 : Fin 3) * 1 + 1 * q.val = t.val / 11; rw [e0]; omega)
  | ⟨1, _⟩ => exact Fin.ext (by show win0_3.index t (1 : Fin 3) * 2048 + 1 * p.val = p.val; rw [e1]; omega)
  | ⟨2, _⟩ => exact Fin.ext (by show win0_3.index t (2 : Fin 3) * 256 + 1 * j.val = t.val % 11 * 256 + j.val; rw [e2]; omega)

theorem block_z (c : Dev nD) (t : Fin cfg0.N) (q : Fin 1) (p : Fin 2048) (k : Fin 1024) :
    (iblk m c 4 t : Vec Ideal S1x2048x1024 .bf16) (ix3 q p k) = fz m c (ix3 (bat t) p k) := by
  obtain ⟨-, -, -, -, -, -, e0, e1, e2⟩ := index_in t
  show fz m c (((cfg0.win 4).blk t).view.emb (ix3 q p k)) = _
  congr 1
  funext a
  match a with
  | ⟨0, _⟩ => exact Fin.ext (by show win0_4.index t (0 : Fin 3) * 1 + 1 * q.val = t.val / 11; rw [e0]; omega)
  | ⟨1, _⟩ => exact Fin.ext (by show win0_4.index t (1 : Fin 3) * 2048 + 1 * p.val = p.val; rw [e1]; omega)
  | ⟨2, _⟩ => exact Fin.ext (by show win0_4.index t (2 : Fin 3) * 1024 + 1 * k.val = k.val; rw [e2]; omega)

theorem block_w (c : Dev nD) (t : Fin cfg0.N) (o : Fin 2816) (k : Fin 1024) :
    (iblk m c 5 t : Vec Ideal S2816x1024 .bf16) (ix2 o k) = fw m c (ix2 o k) := by
  obtain ⟨e0, e1, -⟩ := index_w t
  show fw m c (((cfg0.win 5).blk t).view.emb (ix2 o k)) = _
  congr 1
  funext a
  match a with
  | ⟨0, _⟩ => exact Fin.ext (by show win0_5.index t (0 : Fin 2) * 2816 + 1 * o.val = o.val; rw [e0]; omega)
  | ⟨1, _⟩ => exact Fin.ext (by show win0_5.index t (1 : Fin 2) * 1024 + 1 * k.val = k.val; rw [e1]; omega)

theorem rows_apply (c : Dev nD) (t : Fin cfg0.N) (j : Fin 256) (k : Fin 1024) :
    rows (grid0.coords t) (iblk m c 5 t) (ix2 j k) = fw m c (ix2 (col t j) k) := by
  obtain ⟨-, -, e0, e1⟩ := index_w t
  refine (View.ld_unit_apply_of _ _ _ _ _ (ix2 (col t j) k) fun a => ?_).trans (block_w m c t _ k)
  match a with
  | ⟨0, _⟩ => show t.val % 11 * 256 + j.val = k0_off1 (grid0.coords t) (0 : Fin 2) + j.val; rw [e0]
  | ⟨1, _⟩ => show k.val = k0_off1 (grid0.coords t) (1 : Fin 2) + k.val; rw [e1]; omega

theorem block_kg (c : Dev nD) (t : Fin cfg0.N) (r : Fin 3) (j : Fin 256) :
    (iblk m c 6 t : Vec Ideal S3x256 .f32) (ix2 r j) = fk m c (ix2 r (gc (col t j))) := by
  obtain ⟨e0, e1, -⟩ := index_taps t
  show fk m c (((cfg0.win 6).blk t).view.emb (ix2 r j)) = _
  congr 1
  funext a
  match a with
  | ⟨0, _⟩ => exact Fin.ext (by show win0_6.index t (0 : Fin 2) * 3 + 1 * r.val = r.val; rw [e0]; omega)
  | ⟨1, _⟩ => exact Fin.ext (by show win0_6.index t (1 : Fin 2) * 256 + 1 * j.val = t.val % 11 * 256 + j.val; rw [e1]; omega)

theorem block_kv (c : Dev nD) (t : Fin cfg0.N) (r : Fin 3) (j : Fin 256) :
    (iblk m c 7 t : Vec Ideal S3x256 .f32) (ix2 r j) = fk m c (ix2 r (vc (col t j))) := by
  obtain ⟨-, -, e0, e1⟩ := index_taps t
  show fk m c (((cfg0.win 7).blk t).view.emb (ix2 r j)) = _
  congr 1
  funext a
  match a with
  | ⟨0, _⟩ => exact Fin.ext (by show win0_7.index t (0 : Fin 2) * 3 + 1 * r.val = r.val; rw [e0]; omega)
  | ⟨1, _⟩ => exact Fin.ext (by show win0_7.index t (1 : Fin 2) * 256 + 1 * j.val = 2816 + (t.val % 11 * 256 + j.val); rw [e1]; omega)

theorem da_block (c : Dev nD) (t : Fin cfg0.N) (p : Fin 2048) (j : Fin 256) :
    k0_pay23 (iblk m c 4 t) (rows (grid0.coords t) (iblk m c 5 t)) (ix2 p j) = da m c (bat t) p (col t j) := by
  unfold da
  refine (pay23_apply _ _ p j).trans ?_
  simp only [block_z, rows_apply]

/-! The arrays the run leaves. -/

def Ghg (c : Dev nD) : Vec Ideal S4x2048x2816 .bf16 := fun i =>
  convT (fun q => dG (da m c (i 0) q (i 2)) (fg m c (ix3 (i 0) q (i 2))) (fv m c (ix3 (i 0) q (i 2))))
    (fk m c (ix2 0 (gc (i 2)))) (fk m c (ix2 1 (gc (i 2)))) (fk m c (ix2 2 (gc (i 2)))) (i 1)
def Ghv (c : Dev nD) : Vec Ideal S4x2048x2816 .bf16 := fun i =>
  convT (fun q => dV (da m c (i 0) q (i 2)) (fg m c (ix3 (i 0) q (i 2))))
    (fk m c (ix2 0 (vc (i 2)))) (fk m c (ix2 1 (vc (i 2)))) (fk m c (ix2 2 (vc (i 2)))) (i 1)

theorem gate_block (c : Dev nD) (t : Fin cfg0.N) (q : Fin 1) (p : Fin 2048) (j : Fin 256) :
    gateAt m c t (ix3 q p j) = Ghg m c (ix3 (bat t) p (col t j)) := by
  unfold gateAt
  rw [gateBlock_eq]
  show convT (fun q => dG (k0_pay23 (iblk m c 4 t) (rows (grid0.coords t) (iblk m c 5 t)) (ix2 q j)) ((iblk m c 2 t : Vec Ideal S1x2048x256 .f32) (ix3 0 q j))
      ((iblk m c 3 t : Vec Ideal S1x2048x256 .f32) (ix3 0 q j))) ((iblk m c 6 t : Vec Ideal S3x256 .f32) (ix2 0 j)) ((iblk m c 6 t : Vec Ideal S3x256 .f32) (ix2 1 j))
      ((iblk m c 6 t : Vec Ideal S3x256 .f32) (ix2 2 j)) p = _
  rw [block_kg, block_kg, block_kg]
  simp only [da_block, block_g, block_v]
  rfl
theorem value_block (c : Dev nD) (t : Fin cfg0.N) (q : Fin 1) (p : Fin 2048) (j : Fin 256) :
    valueAt m c t (ix3 q p j) = Ghv m c (ix3 (bat t) p (col t j)) := by
  unfold valueAt
  rw [valueBlock_eq]
  show convT (fun q => dV (k0_pay23 (iblk m c 4 t) (rows (grid0.coords t) (iblk m c 5 t)) (ix2 q j)) ((iblk m c 2 t : Vec Ideal S1x2048x256 .f32) (ix3 0 q j)))
      ((iblk m c 7 t : Vec Ideal S3x256 .f32) (ix2 0 j)) ((iblk m c 7 t : Vec Ideal S3x256 .f32) (ix2 1 j))
      ((iblk m c 7 t : Vec Ideal S3x256 .f32) (ix2 2 j)) p = _
  rw [block_kv, block_kv, block_kv]
  simp only [da_block, block_g]
  rfl

theorem flushed_8 (c : Dev nD) (t : Fin cfg0.N) :
    (dats m 0 c).flushed 8 t = ((cfg0.win 8).blk t).view.read (Elt Ideal) (Ghg m c) := by
  obtain ⟨e0, e1, e2⟩ := index_8 t
  rw [show (dats m 0 c).flushed 8 t = (dats m 0 c).after 8 t from rfl, after_8]
  funext y
  obtain ⟨q, p, j, rfl⟩ : ∃ (q : Fin 1) (p : Fin 2048) (j : Fin 256), y = ix3 q p j := ⟨y 0, y 1, y 2, by funext a; fin_cases a <;> rfl⟩
  refine (gate_block m c t q p j).trans ?_
  show _ = Ghg m c (((cfg0.win 8).blk t).view.emb (ix3 q p j))
  have e : ((cfg0.win 8).blk t).view.emb (ix3 q p j) = ix3 (bat t) p (col t j) := by
    funext a
    match a with
    | ⟨0, _⟩ => exact Fin.ext (by show win0_8.index t (0 : Fin 3) * 1 + 1 * q.val = t.val / 11; rw [e0]; omega)
    | ⟨1, _⟩ => exact Fin.ext (by show win0_8.index t (1 : Fin 3) * 2048 + 1 * p.val = p.val; rw [e1]; omega)
    | ⟨2, _⟩ => exact Fin.ext (by show win0_8.index t (2 : Fin 3) * 256 + 1 * j.val = t.val % 11 * 256 + j.val; rw [e2]; omega)
  rw [e]

theorem covered_8 (i : S4x2048x2816.Idx) : ∃ t : Fin cfg0.N, (cfg0.win 8).flush t = true ∧ i ∈ ((cfg0.win 8).blk t).view.set := by
  have h0 : (i 0).val < 4 := (i 0).isLt
  have h1 : (i 1).val < 2048 := (i 1).isLt
  have h2 : (i 2).val < 2816 := (i 2).isLt
  obtain ⟨t, ht⟩ : ∃ t : Fin cfg0.N, t.val = (i 0).val * 11 + (i 2).val / 256 := ⟨⟨(i 0).val * 11 + (i 2).val / 256, lt_of_lt_of_eq (by omega) N_0.symm⟩, rfl⟩
  obtain ⟨e0, e1, e2⟩ := index_8 t
  refine ⟨t, flush0_8 t, ?_⟩
  have e : ((cfg0.win 8).blk t).view.emb (ix3 (0 : Fin 1) (⟨(i 1).val, h1⟩ : Fin 2048) (⟨(i 2).val % 256, by omega⟩ : Fin 256)) = i := by
    funext a
    match a with
    | ⟨0, _⟩ => exact Fin.ext (by show win0_8.index t (0 : Fin 3) * 1 + 1 * 0 = (i 0).val; rw [e0, ht]; omega)
    | ⟨1, _⟩ => exact Fin.ext (by show win0_8.index t (1 : Fin 3) * 2048 + 1 * (i 1).val = (i 1).val; rw [e1]; omega)
    | ⟨2, _⟩ => exact Fin.ext (by show win0_8.index t (2 : Fin 3) * 256 + 1 * ((i 2).val % 256) = (i 2).val; rw [e2, ht]; omega)
  rw [← e]
  exact View.emb_mem_set _ _

theorem flushed_9 (c : Dev nD) (t : Fin cfg0.N) :
    (dats m 0 c).flushed 9 t = ((cfg0.win 9).blk t).view.read (Elt Ideal) (Ghv m c) := by
  obtain ⟨e0, e1, e2⟩ := index_9 t
  rw [show (dats m 0 c).flushed 9 t = (dats m 0 c).after 9 t from rfl, after_9]
  funext y
  obtain ⟨q, p, j, rfl⟩ : ∃ (q : Fin 1) (p : Fin 2048) (j : Fin 256), y = ix3 q p j := ⟨y 0, y 1, y 2, by funext a; fin_cases a <;> rfl⟩
  refine (value_block m c t q p j).trans ?_
  show _ = Ghv m c (((cfg0.win 9).blk t).view.emb (ix3 q p j))
  have e : ((cfg0.win 9).blk t).view.emb (ix3 q p j) = ix3 (bat t) p (col t j) := by
    funext a
    match a with
    | ⟨0, _⟩ => exact Fin.ext (by show win0_9.index t (0 : Fin 3) * 1 + 1 * q.val = t.val / 11; rw [e0]; omega)
    | ⟨1, _⟩ => exact Fin.ext (by show win0_9.index t (1 : Fin 3) * 2048 + 1 * p.val = p.val; rw [e1]; omega)
    | ⟨2, _⟩ => exact Fin.ext (by show win0_9.index t (2 : Fin 3) * 256 + 1 * j.val = t.val % 11 * 256 + j.val; rw [e2]; omega)
  rw [e]

theorem covered_9 (i : S4x2048x2816.Idx) : ∃ t : Fin cfg0.N, (cfg0.win 9).flush t = true ∧ i ∈ ((cfg0.win 9).blk t).view.set := by
  have h0 : (i 0).val < 4 := (i 0).isLt
  have h1 : (i 1).val < 2048 := (i 1).isLt
  have h2 : (i 2).val < 2816 := (i 2).isLt
  obtain ⟨t, ht⟩ : ∃ t : Fin cfg0.N, t.val = (i 0).val * 11 + (i 2).val / 256 := ⟨⟨(i 0).val * 11 + (i 2).val / 256, lt_of_lt_of_eq (by omega) N_0.symm⟩, rfl⟩
  obtain ⟨e0, e1, e2⟩ := index_9 t
  refine ⟨t, flush0_9 t, ?_⟩
  have e : ((cfg0.win 9).blk t).view.emb (ix3 (0 : Fin 1) (⟨(i 1).val, h1⟩ : Fin 2048) (⟨(i 2).val % 256, by omega⟩ : Fin 256)) = i := by
    funext a
    match a with
    | ⟨0, _⟩ => exact Fin.ext (by show win0_9.index t (0 : Fin 3) * 1 + 1 * 0 = (i 0).val; rw [e0, ht]; omega)
    | ⟨1, _⟩ => exact Fin.ext (by show win0_9.index t (1 : Fin 3) * 2048 + 1 * (i 1).val = (i 1).val; rw [e1]; omega)
    | ⟨2, _⟩ => exact Fin.ext (by show win0_9.index t (2 : Fin 3) * 256 + 1 * ((i 2).val % 256) = (i 2).val; rw [e2, ht]; omega)
  rw [← e]
  exact View.emb_mem_set _ _

/-- The kernel's run: the first two results, the arguments as launched. -/
theorem run : θ_run defs (onTc (τ := τ) (main (F := Ideal))) ⟨m, fun _ => 0, ρ⟩ fun r => ∀ c : Dev nD,
      r.2.mem ((c : Thread nD τ).loc main_v0_0) = Ghg m c
      ∧ r.2.mem ((c : Thread nD τ).loc main_v0_1) = Ghv m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨(h.1 c).1.trans ((dats m 0 c).arrAt_eq_of_cover 8 _ (fun t _ => flushed_8 m c t) covered_8),
      (h.1 c).2.1.trans ((dats m 0 c).arrAt_eq_of_cover 9 _ (fun t _ => flushed_9 m c t) covered_9),
      (h.1 c).2.2⟩)
    (run_blocks m ρ)

end Cert.Kernel22Ideal.ActBwd

end
-- ==== Proof.ActBwd.Reference.lean ====
/- The reference's two results read at an index. -/
module

public import proofs.«01_k».proof.Proof.Gen.Reference22Ideal.Read
public import Idealize.ShloMosaic.Lib.Pointwise
public import Idealize.ShloMosaic.Lib.KernelVsHost
public import Idealize.ShloMosaic.Lib.Pipeline.Value

@[expose] public section

set_option maxRecDepth 16384

noncomputable section

namespace Cert.Reference22Ideal.Steps

open Cert.Reference22Ideal Cert.Reference22Ideal.Read Idealize.ShloMosaic Idealize.ShloMosaic.TcCoe Idealize.SL.Sem

/-! The three paddings, cut where the first two rows are left out: the array itself, moved up by one row, moved up by two. -/

section pads

theorem ofBits_zero : Ideal.ofBits .f32 0x00000000#32 = 0 := by simp [Ideal.ofBits, Ideal.ieee]

variable (D : FVec Ideal S4x2048x2816 .f32) (b : Fin 4) (p : Fin 2048) (j : Fin 2816)

/-- The row two below, in the padded array. -/
def down (p : Fin 2048) : Fin 2050 := ⟨2 + p.val, by omega⟩

theorem pad_two : pad S4x2050x2816 ![0, 2, 0] ![0, 0, 0] ![0, 0, 0] D (constant (F := Ideal) S_ .f32 0x00000000#32) Gen.pads_S4x2048x2816_S4x2050x2816_000_200_000 Gen.h_S_
    (ix3 b (down p) j) = D (ix3 b p j) := by
  refine pad_apply_of_inside _ _ _ _ _ _ _ _ (ix3 b p j) fun a => ?_
  match a with
  | ⟨0, _⟩ => exact (show b.val = 0 + b.val * (0 + 1) by omega)
  | ⟨1, _⟩ => exact (show 2 + p.val = 2 + p.val * (0 + 1) by omega)
  | ⟨2, _⟩ => exact (show j.val = 0 + j.val * (0 + 1) by omega)

theorem pad_one : pad S4x2050x2816 ![0, 1, 0] ![0, 1, 0] ![0, 0, 0] D (constant (F := Ideal) S_ .f32 0x00000000#32) Gen.pads_S4x2048x2816_S4x2050x2816_000_110_000 Gen.h_S_
    (ix3 b (down p) j) = if h : p.val + 1 < 2048 then D (ix3 b ⟨p.val + 1, h⟩ j) else 0 := by
  by_cases h : p.val + 1 < 2048
  · rw [dif_pos h]
    refine pad_apply_of_inside _ _ _ _ _ _ _ _ (ix3 b ⟨p.val + 1, h⟩ j) fun a => ?_
    match a with
    | ⟨0, _⟩ => exact (show b.val = 0 + b.val * (0 + 1) by omega)
    | ⟨1, _⟩ => exact (show 2 + p.val = 1 + (p.val + 1) * (0 + 1) by omega)
    | ⟨2, _⟩ => exact (show j.val = 0 + j.val * (0 + 1) by omega)
  · rw [dif_neg h]
    refine (pad_apply_of_not_inside _ _ _ _ _ _ _ _ (1 : Fin 3) ?_).trans ofBits_zero
    rintro ⟨-, -, e⟩
    have e : (2 + p.val - 1) / (0 + 1) < 2048 := e
    omega

theorem pad_none : pad S4x2050x2816 ![0, 0, 0] ![0, 2, 0] ![0, 0, 0] D (constant (F := Ideal) S_ .f32 0x00000000#32) Gen.pads_S4x2048x2816_S4x2050x2816_000_020_000 Gen.h_S_
    (ix3 b (down p) j) = if h : p.val + 2 < 2048 then D (ix3 b ⟨p.val + 2, h⟩ j) else 0 := by
  by_cases h : p.val + 2 < 2048
  · rw [dif_pos h]
    refine pad_apply_of_inside _ _ _ _ _ _ _ _ (ix3 b ⟨p.val + 2, h⟩ j) fun a => ?_
    match a with
    | ⟨0, _⟩ => exact (show b.val = 0 + b.val * (0 + 1) by omega)
    | ⟨1, _⟩ => exact (show 2 + p.val = 0 + (p.val + 2) * (0 + 1) by omega)
    | ⟨2, _⟩ => exact (show j.val = 0 + j.val * (0 + 1) by omega)
  · rw [dif_neg h]
    refine (pad_apply_of_not_inside _ _ _ _ _ _ _ _ (1 : Fin 3) ?_).trans ofBits_zero
    rintro ⟨-, -, e⟩
    have e : (2 + p.val - 0) / (0 + 1) < 2048 := e
    omega

end pads

section steps

variable (x2 x3 : FVec Ideal S4x2048x2816 .f32) (x4 : FVec Ideal S4x2048x1024 .bf16) (x5 : FVec Ideal S2816x1024 .bf16) (x6 : FVec Ideal S3x5632 .f32)
  (b : Fin 4) (p : Fin 2048) (j : Fin 2816)

/-- The gradient of the activation, the logistic function, … -/
def da : EReal := ∑ k : Fin 1024, x4 (ix3 b p k) * x5 (ix2 j k)
def sg (g : EReal) : EReal := Ideal.div 1 (1 + Ideal.exp (-g))

theorem da_eq : val_main_v5 (F := Ideal) x4 x5 (ix3 b p j) = da x4 x5 b p j := by
  refine (val_main_v5_apply x4 x5 (ix3 b p j)).trans (Finset.sum_congr rfl fun k _ => ?_)
  have el : lidx_main_v5 (ix3 b p j) k = ix3 b p k := by
    funext a
    match a with
    | ⟨0, _⟩ => rfl
    | ⟨1, _⟩ => rfl
    | ⟨2, _⟩ => rfl
  have er : ridx_main_v5 (ix3 b p j) k = ix2 j k := by
    funext a
    match a with
    | ⟨0, _⟩ => rfl
    | ⟨1, _⟩ => rfl
  rw [el, er]
  rfl

theorem sg_eq (i : S4x2048x2816.Idx) : val_main_v2_2 (F := Ideal) x2 i = sg (x2 i) := by
  unfold sg
  obtain ⟨b, p, j, rfl⟩ : ∃ (b : Fin 4) (p : Fin 2048) (j : Fin 2816), i = ix3 b p j := ⟨i 0, i 1, i 2, eq_ix3 i⟩
  unfold val_main_v2_2 val_main_call0_v4 val_main_call0_cst_0 val_main_call0_v3 val_main_call0_v2 val_main_call0_cst val_main_call0_v1 val_main_call0_v0
  pointwise

theorem csg_eq (i : S4x2048x2816.Idx) : val_main_call0_v7 (F := Ideal) x2 i = 1 - sg (x2 i) := by
  rw [← sg_eq]
  obtain ⟨b, p, j, rfl⟩ : ∃ (b : Fin 4) (p : Fin 2048) (j : Fin 2816), i = ix3 b p j := ⟨i 0, i 1, i 2, eq_ix3 i⟩
  unfold val_main_call0_v7 val_main_call0_v6 val_main_call0_cst_1
  pointwise

/-- … and the gradients of the gate and of the value, before the convolution's. -/
def dg : EReal := da x4 x5 b p j * x3 (ix3 b p j) * sg (x2 (ix3 b p j))
  + x2 (ix3 b p j) * (da x4 x5 b p j * x3 (ix3 b p j)) * (sg (x2 (ix3 b p j)) * (1 - sg (x2 (ix3 b p j))))
def dv : EReal := x2 (ix3 b p j) * sg (x2 (ix3 b p j)) * da x4 x5 b p j

theorem dg_eq : val_main_v8 (F := Ideal) x2 x3 x4 x5 (ix3 b p j) = dg x2 x3 x4 x5 b p j := by
  unfold dg
  rw [← csg_eq, ← sg_eq, ← da_eq]
  rfl
theorem dv_eq : val_main_v6 (F := Ideal) x2 x4 x5 (ix3 b p j) = dv x2 x4 x5 b p j := by
  unfold dv
  rw [← sg_eq, ← da_eq]
  rfl

/-- A gate column and a value column among the columns of the taps. -/
def gc (j : Fin 2816) : Fin 5632 := ⟨j.val, by omega⟩
def vc (j : Fin 2816) : Fin 5632 := ⟨2816 + j.val, by omega⟩

theorem tap37 : val_main_v37 (F := Ideal) x6 (ix3 b p j) = x6 (ix2 2 (gc j)) := by
  unfold val_main_v37 val_main_v33 val_main_v32 val_main_v31 val_main_v9 gc
  pointwise
theorem tap40 : val_main_v40 (F := Ideal) x6 (ix3 b p j) = x6 (ix2 1 (gc j)) := by
  unfold val_main_v40 val_main_v26 val_main_v25 val_main_v24 val_main_v9 gc
  pointwise
theorem tap44 : val_main_v44 (F := Ideal) x6 (ix3 b p j) = x6 (ix2 0 (gc j)) := by
  unfold val_main_v44 val_main_v17 val_main_v16 val_main_v15 val_main_v9 gc
  pointwise
theorem tap78 : val_main_v78 (F := Ideal) x6 (ix3 b p j) = x6 (ix2 2 (vc j)) := by
  unfold val_main_v78 val_main_v74 val_main_v73 val_main_v72 val_main_v50 vc
  pointwise
theorem tap81 : val_main_v81 (F := Ideal) x6 (ix3 b p j) = x6 (ix2 1 (vc j)) := by
  unfold val_main_v81 val_main_v67 val_main_v66 val_main_v65 val_main_v50 vc
  pointwise
theorem tap85 : val_main_v85 (F := Ideal) x6 (ix3 b p j) = x6 (ix2 0 (vc j)) := by
  unfold val_main_v85 val_main_v58 val_main_v57 val_main_v56 val_main_v50 vc
  pointwise

/-- A column's gradient through its convolution, as the reference adds it up. -/
def conv (u : Fin 2048 → EReal) (k0 k1 k2 : EReal) (p : Fin 2048) : EReal :=
  u p * k2 + (if h : p.val + 1 < 2048 then u ⟨p.val + 1, h⟩ * k1 else 0) + (if h : p.val + 2 < 2048 then u ⟨p.val + 2, h⟩ * k0 else 0)

theorem dhg_eq : val_main_v91 (F := Ideal) x2 x3 x4 x5 x6 (ix3 b p j)
    = conv (fun q => dg x2 x3 x4 x5 b q j) (x6 (ix2 0 (gc j))) (x6 (ix2 1 (gc j))) (x6 (ix2 2 (gc j))) p := by
  have s : val_main_v91 (F := Ideal) x2 x3 x4 x5 x6 (ix3 b p j) = val_main_v47 (F := Ideal) x2 x3 x4 x5 x6 (ix3 b (down p) j) := by
    unfold val_main_v91 val_main_v49 down
    generalize val_main_v47 (F := Ideal) x2 x3 x4 x5 x6 = y
    pointwise
  have s2 : val_main_v47 (F := Ideal) x2 x3 x4 x5 x6 (ix3 b (down p) j)
      = val_main_v39 (F := Ideal) x2 x3 x4 x5 x6 (ix3 b (down p) j) + val_main_v42 (F := Ideal) x2 x3 x4 x5 x6 (ix3 b (down p) j)
        + val_main_v46 (F := Ideal) x2 x3 x4 x5 x6 (ix3 b (down p) j) := rfl
  rw [s, s2]
  unfold val_main_v39 val_main_v42 val_main_v46
  refine (congrArg₂ (· + ·) (congrArg₂ (· + ·) (pad_two _ b p j) (pad_one _ b p j)) (pad_none _ b p j)).trans ?_
  have e38 : ∀ q, val_main_v38 (F := Ideal) x2 x3 x4 x5 x6 (ix3 b q j) = dg x2 x3 x4 x5 b q j * x6 (ix2 2 (gc j)) := fun q => by
    rw [← dg_eq, ← tap37 x6 b q j]; rfl
  have e41 : ∀ q, val_main_v41 (F := Ideal) x2 x3 x4 x5 x6 (ix3 b q j) = dg x2 x3 x4 x5 b q j * x6 (ix2 1 (gc j)) := fun q => by
    rw [← dg_eq, ← tap40 x6 b q j]; rfl
  have e45 : ∀ q, val_main_v45 (F := Ideal) x2 x3 x4 x5 x6 (ix3 b q j) = dg x2 x3 x4 x5 b q j * x6 (ix2 0 (gc j)) := fun q => by
    rw [← dg_eq, ← tap44 x6 b q j]; rfl
  simp only [e38, e41, e45]
  rfl

theorem dhv_eq : val_main_v92 (F := Ideal) x2 x4 x5 x6 (ix3 b p j)
    = conv (fun q => dv x2 x4 x5 b q j) (x6 (ix2 0 (vc j))) (x6 (ix2 1 (vc j))) (x6 (ix2 2 (vc j))) p := by
  have s : val_main_v92 (F := Ideal) x2 x4 x5 x6 (ix3 b p j) = val_main_v88 (F := Ideal) x2 x4 x5 x6 (ix3 b (down p) j) := by
    unfold val_main_v92 val_main_v90 down
    generalize val_main_v88 (F := Ideal) x2 x4 x5 x6 = y
    pointwise
  have s2 : val_main_v88 (F := Ideal) x2 x4 x5 x6 (ix3 b (down p) j)
      = val_main_v80 (F := Ideal) x2 x4 x5 x6 (ix3 b (down p) j) + val_main_v83 (F := Ideal) x2 x4 x5 x6 (ix3 b (down p) j)
        + val_main_v87 (F := Ideal) x2 x4 x5 x6 (ix3 b (down p) j) := rfl
  rw [s, s2]
  unfold val_main_v80 val_main_v83 val_main_v87
  refine (congrArg₂ (· + ·) (congrArg₂ (· + ·) (pad_two _ b p j) (pad_one _ b p j)) (pad_none _ b p j)).trans ?_
  have e79 : ∀ q, val_main_v79 (F := Ideal) x2 x4 x5 x6 (ix3 b q j) = dv x2 x4 x5 b q j * x6 (ix2 2 (vc j)) := fun q => by
    rw [← dv_eq, ← tap78 x6 b q j]; rfl
  have e82 : ∀ q, val_main_v82 (F := Ideal) x2 x4 x5 x6 (ix3 b q j) = dv x2 x4 x5 b q j * x6 (ix2 1 (vc j)) := fun q => by
    rw [← dv_eq, ← tap81 x6 b q j]; rfl
  have e86 : ∀ q, val_main_v86 (F := Ideal) x2 x4 x5 x6 (ix3 b q j) = dv x2 x4 x5 b q j * x6 (ix2 0 (vc j)) := fun q => by
    rw [← dv_eq, ← tap85 x6 b q j]; rfl
  simp only [e79, e82, e86]
  rfl

end steps

end Cert.Reference22Ideal.Steps

end
-- ==== Proof.Up.Finite.lean ====
/- The condition on the arguments, read: every entry of the five arrays it names is a real number; and that sums, products and differences of real numbers
   are real numbers. -/
module

public import Idealize.ShloMosaic.Lib.Pointwise
public import Idealize.ShloMosaic.Lib.ReduceAll
public import proofs.«01_k».proof.Pre_up_dx_finite

@[expose] public section

set_option maxRecDepth 16384

noncomputable section

namespace Cert.Kernel3Ideal.Up

open Idealize.ShloMosaic Cert.Pre_up_dx_finite

/-- An extended real that is a real number. -/
def IsReal (x : EReal) : Prop := ∃ r : ℝ, x = (r : EReal)

theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.sum {ι : Type} (s : Finset ι) (f : ι → EReal) (h : ∀ k, IsReal (f k)) : IsReal (∑ k ∈ s, f k) := by
  classical
  induction s using Finset.induction_on with
  | empty => exact ⟨0, by simp⟩
  | insert a s ha ih => rw [Finset.sum_insert ha]; exact (h a).add ih

theorem IsReal.of_add {x y : EReal} : IsReal (x + y) → IsReal x ∧ IsReal y := by
  rintro ⟨r, h⟩
  induction x using EReal.rec with
  | bot => rw [EReal.bot_add] at h; exact absurd h (EReal.bot_ne_coe _)
  | top => induction y using EReal.rec with
    | bot => rw [EReal.add_bot] at h; exact absurd h (EReal.bot_ne_coe _)
    | top => exact absurd h (EReal.top_ne_coe _)
    | coe b => rw [EReal.top_add_coe] at h; exact absurd h (EReal.top_ne_coe _)
  | coe a => induction y using EReal.rec with
    | bot => rw [EReal.add_bot] at h; exact absurd h (EReal.bot_ne_coe _)
    | top => rw [EReal.coe_add_top] at h; exact absurd h (EReal.top_ne_coe _)
    | coe b => exact ⟨⟨a, rfl⟩, ⟨b, rfl⟩⟩
theorem IsReal.of_sum {ι : Type} (s : Finset ι) (f : ι → EReal) (h : IsReal (∑ k ∈ s, f k)) : ∀ k ∈ s, IsReal (f k) := by
  classical
  induction s using Finset.induction_on with
  | empty => exact fun k hk => absurd hk (Finset.notMem_empty k)
  | insert a s ha ih =>
    rw [Finset.sum_insert ha] at h
    intro k hk
    rcases Finset.mem_insert.1 hk with rfl | hk
    · exact h.of_add.1
    · exact ih h.of_add.2 k hk

theorem ofBits_inf : Ideal.ofBits .f32 0x7F800000#32 = ⊤ := by simp [Ideal.ofBits, Ideal.ieee]

/-- An entry whose size is below infinity is a real number. -/
theorem isReal_of_lt (x : EReal) (h : Ideal.cmp .olt (max x (-x)) (Ideal.ofBits .f32 0x7F800000#32) = 1#1) : IsReal x := by
  rw [ofBits_inf] at h
  induction x using EReal.rec with
  | coe r => exact ⟨r, rfl⟩
  | bot => simp [Ideal.cmp] at h
  | top => simp [Ideal.cmp] at h

variable [Facts]

theorem entries (x0 x1 : FVec Ideal S8192x2816 .bf16) (x2 : FVec Ideal S5632x1024 .bf16) (x3 x4 : FVec Ideal S8192x1024 .f32) (x5 : FVec Ideal S1x1024 .f32)
    (j : S_.Idx) (h : fn (F := Ideal) x0 x1 x2 x3 x4 x5 j = 1#1) :
    (∀ i, IsReal (x0 i)) ∧ (∀ i, IsReal (x1 i)) ∧ (∀ i, IsReal (x2 i)) ∧ (∀ i, IsReal (x3 i)) ∧ (∀ i, IsReal (x5 i)) := by
  have : Subsingleton S_.Idx := ⟨fun a b => funext fun k => k.elim0⟩
  unfold fn fn_part1 at h
  dsimp only at h
  simp only [andi_apply] at h
  obtain ⟨h, h5⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  refine ⟨fun i => ?_, fun i => ?_, fun i => ?_, fun i => ?_, fun i => ?_⟩
  · exact isReal_of_lt _ (Host.reduce_andi_all _ _ _ _ j h0 i)
  · exact isReal_of_lt _ (Host.reduce_andi_all _ _ _ _ j h1 i)
  · exact isReal_of_lt _ (Host.reduce_andi_all _ _ _ _ j h2 i)
  · exact isReal_of_lt _ (Host.reduce_andi_all _ _ _ _ j h3 i)
  · exact isReal_of_lt _ (Host.reduce_andi_all _ _ _ _ j h5 i)

omit [Cert.Pre_up_dx_finite.Facts] in
/-- The shapes of that condition. -/
theorem facts : Cert.Pre_up_dx_finite.Facts := by
  constructor <;> decide

end Cert.Kernel3Ideal.Up

end
-- ==== Proof.ActBwd.Finite.lean ====
/- The condition on the arguments, read: every entry of the value, the incoming gradient and the weight is a real number. -/
module

public import proofs.«01_k».proof.Proof.Up.Finite
public import proofs.«01_k».proof.Pre_act_bwd_finite

@[expose] public section

set_option maxRecDepth 16384

noncomputable section

namespace Cert.Kernel22Ideal.ActBwd

open Idealize.ShloMosaic Cert.Pre_act_bwd_finite
open Cert.Kernel3Ideal.Up (IsReal isReal_of_lt)

variable [Facts]

theorem entries (x0 x1 x2 x3 : FVec Ideal S4x2048x2816 .f32) (x4 : FVec Ideal S4x2048x1024 .bf16) (x5 : FVec Ideal S2816x1024 .bf16) (x6 : FVec Ideal S3x5632 .f32)
    (j : S_.Idx) (h : fn (F := Ideal) x0 x1 x2 x3 x4 x5 x6 j = 1#1) :
    (∀ i, IsReal (x3 i)) ∧ (∀ i, IsReal (x4 i)) ∧ (∀ i, IsReal (x5 i)) := by
  have : Subsingleton S_.Idx := ⟨fun a b => funext fun k => k.elim0⟩
  unfold fn at h
  dsimp only at h
  simp only [andi_apply] at h
  obtain ⟨h, h5⟩ := IntOp.andi_eq_one.1 h
  obtain ⟨h3, h4⟩ := IntOp.andi_eq_one.1 h
  refine ⟨fun i => ?_, fun i => ?_, fun i => ?_⟩
  · exact isReal_of_lt _ (Host.reduce_andi_all _ _ _ _ j h3 i)
  · exact isReal_of_lt _ (Host.reduce_andi_all _ _ _ _ j h4 i)
  · exact isReal_of_lt _ (Host.reduce_andi_all _ _ _ _ j h5 i)

omit [Cert.Pre_act_bwd_finite.Facts] in
/-- The shapes of that condition. -/
theorem facts : Cert.Pre_act_bwd_finite.Facts := by
  constructor <;> decide

end Cert.Kernel22Ideal.ActBwd

end
-- ==== Proof.ActBwd.Equation.lean ====
/- The gradient of the feed-forward activation: when the value, the incoming gradient and the weight are real numbers, the reference's two results are the
   arrays the kernel's run leaves. -/
module

public import proofs.«01_k».proof.Proof.ActBwd.Value
public import proofs.«01_k».proof.Proof.ActBwd.Reference
public import proofs.«01_k».proof.Proof.ActBwd.Finite

@[expose] public section

set_option maxRecDepth 16384

noncomputable section

namespace Cert.Kernel22Ideal.ActBwd

open Cert.Kernel22Ideal Cert.Kernel22Ideal.Gen Idealize.ShloMosaic Idealize.ShloMosaic.TcCoe Idealize.SL.Sem
open Cert.Reference22Ideal.Read
open Cert.Kernel3Ideal.Up (IsReal)

variable (m : (ℓ : Loc nD τ sig) → Buf (Elt Ideal) ℓ)

/-- The entries of the value, the incoming gradient and the weight are real numbers. -/
def AllReal (c : Dev nD) : Prop :=
  (∀ i, IsReal (fv m c i)) ∧ (∀ i, IsReal (fz m c i)) ∧ (∀ i, IsReal (fw m c i))

/-- The two forms of the convolution's gradient: a tap times zero is zero, and the terms are added in the other order. -/
theorem conv_ref (u : Fin 2048 → EReal) (k0 k1 k2 : EReal) (p : Fin 2048) :
    Cert.Reference22Ideal.Steps.conv u k0 k1 k2 p = convT u k0 k1 k2 p := by
  have h : ∀ (d : ℕ) (k : EReal), ahead u d p * k = if h : p.val + d < 2048 then u ⟨p.val + d, h⟩ * k else 0 := fun d k => by
    unfold ahead
    by_cases h : p.val + d < 2048
    · rw [dif_pos h, dif_pos h]
    · rw [dif_neg h, dif_neg h, zero_mul]
  unfold Cert.Reference22Ideal.Steps.conv convT
  rw [h, h, add_assoc, add_comm, add_comm (dite _ _ _) (dite _ _ _)]

theorem one_coe : (1 : EReal) = ((1 : ℝ) : EReal) := rfl

/-- The two forms of the activation's gradient. At an infinite gate the logistic function is one or zero; at a finite one everything is a real number. -/
theorem gate_ref (x g : EReal) (hx : IsReal x) : x * sg g + g * x * (sg g * (1 - sg g)) = x * (sg g * (1 + g * (1 - sg g))) := by
  induction g using EReal.rec with
  | bot =>
    have e : sg ⊥ = 0 := by
      unfold sg
      rw [EReal.neg_bot, Ideal.exp_top, one_coe, EReal.coe_add_top]
      unfold Ideal.div
      rw [if_neg EReal.top_ne_zero, EReal.inv_top, mul_zero]
    rw [e, zero_mul, zero_mul, mul_zero, mul_zero, add_zero]
  | top =>
    have e : sg ⊤ = 1 := by
      unfold sg
      rw [EReal.neg_top, Ideal.exp_bot, add_zero, one_coe, Ideal.div_coe one_ne_zero, ← EReal.coe_mul, one_mul, div_one]
    have z : (1 : EReal) - 1 = 0 := by rw [one_coe, ← EReal.coe_sub, sub_self]; rfl
    rw [e, z, mul_zero, mul_zero, mul_zero, add_zero, add_zero, one_mul]
  | coe g =>
    obtain ⟨x, rfl⟩ := hx
    have n : (1 + Real.exp (-g)) ≠ 0 := by positivity
    obtain ⟨s, e⟩ : ∃ s : ℝ, sg (g : EReal) = (s : EReal) := ⟨1 * (1 / (1 + Real.exp (-g))), by
      unfold sg
      rw [← EReal.coe_neg, Ideal.exp_coe, one_coe, ← EReal.coe_add, Ideal.div_coe n, ← EReal.coe_mul]⟩
    rw [e, one_coe]
    simp only [← EReal.coe_mul, ← EReal.coe_add, ← EReal.coe_sub]
    congr 1
    ring

theorem da_real (c : Dev nD) (h : AllReal m c) (b : Fin 4) (p : Fin 2048) (j : Fin 2816) : IsReal (da m c b p j) := by
  unfold da
  exact IsReal.sum _ _ fun k => (h.2.1 _).mul (h.2.2 _)

theorem reference_dhg (c : Dev nD) (h : AllReal m c) :
    val_main_v91 (F := Ideal) (fg m c) (fv m c) (fz m c) (fw m c) (fk m c) = Ghg m c := by
  funext i
  obtain ⟨b, p, j, rfl⟩ : ∃ (b : Fin 4) (p : Fin 2048) (j : Fin 2816), i = ix3 b p j := ⟨i 0, i 1, i 2, by funext a; fin_cases a <;> rfl⟩
  refine (Cert.Reference22Ideal.Steps.dhg_eq _ _ _ _ _ b p j).trans ((conv_ref _ _ _ _ p).trans ?_)
  have e : (fun q => Cert.Reference22Ideal.Steps.dg (fg m c) (fv m c) (fz m c) (fw m c) b q j)
      = fun q => dG (da m c b q j) (fg m c (ix3 b q j)) (fv m c (ix3 b q j)) := funext fun q =>
    gate_ref (da m c b q j * fv m c (ix3 b q j)) (fg m c (ix3 b q j)) ((da_real m c h b q j).mul (h.1 _))
  rw [e]
  rfl

theorem reference_dhv (c : Dev nD) :
    val_main_v92 (F := Ideal) (fg m c) (fz m c) (fw m c) (fk m c) = Ghv m c := by
  funext i
  obtain ⟨b, p, j, rfl⟩ : ∃ (b : Fin 4) (p : Fin 2048) (j : Fin 2816), i = ix3 b p j := ⟨i 0, i 1, i 2, by funext a; fin_cases a <;> rfl⟩
  refine (Cert.Reference22Ideal.Steps.dhv_eq _ _ _ _ b p j).trans ((conv_ref _ _ _ _ p).trans ?_)
  have e : (fun q => Cert.Reference22Ideal.Steps.dv (fg m c) (fz m c) (fw m c) b q j)
      = fun q => dV (da m c b q j) (fg m c (ix3 b q j)) := funext fun q => mul_comm _ _
  rw [e]
  rfl

end Cert.Kernel22Ideal.ActBwd

end
-- ==== Proof.Same.Frames.lean ====
/- Two kernels' frames over bits. Each kernel's two programs have one text, so their labels mean the same, and the run, written once
   over any float values, is both programs'. -/
module

public import proofs.«01_k».proof.Proof.ActBwd.Frame
public import proofs.«01_k».proof.Proof.Gen.Kernel22
public import proofs.«01_k».proof.Proof.Gen.Kernel22Ideal
public import proofs.«01_k».proof.Proof.Reals.Frame
public import proofs.«01_k».proof.Proof.Gen.Kernel
public import proofs.«01_k».proof.Defs

@[expose] public section

set_option maxRecDepth 100000
set_option maxHeartbeats 4000000

noncomputable section

namespace Cert.Proof

open Idealize.ShloMosaic Idealize.SL.Sem

/-- The body of the recurrence's backward pass is the same in both programs, … -/
theorem body_same : Cert.Kernel.defs₀ (F := Bits) = Cert.KernelIdeal.defs₀ (F := Bits) := by
  unfold Cert.Kernel.defs₀ Cert.KernelIdeal.defs₀
  refine congrArg Defs.onTc ?_
  funext l a
  match l with
  | 0 => obtain ⟨t, s⟩ := a; rfl

/-- … and so is every label around it. -/
theorem labels_same : Cert.Kernel.defs (F := Bits) = Cert.KernelIdeal.defs (F := Bits) :=
  congrArg (Pipeline.defs (Cert.KernelIdeal.pcfgs (F := Bits))) body_same

/-- The recurrence's backward pass over bits runs and leaves its arguments unchanged. -/
theorem kernel_frame : Cert.quiescent_Kernel := fun m ρ _ =>
  (congrArg (fun d => θ_run d (onTc (τ := Cert.KernelIdeal.τ) (Cert.KernelIdeal.main (F := Bits))) ⟨m, fun _ => 0, ρ⟩ _) labels_same).mpr
    (Cert.KernelIdeal.Reals.frame (F := Bits) m ρ)

/-- The body of the activation's gradient is the same in both programs, … -/
theorem act_bwd_body_same : Cert.Kernel22.defs₀ (F := Bits) = Cert.Kernel22Ideal.defs₀ (F := Bits) := by
  unfold Cert.Kernel22.defs₀ Cert.Kernel22Ideal.defs₀
  refine congrArg Defs.onTc ?_
  funext l a
  match l with
  | 0 => obtain ⟨t, s⟩ := a; rfl

/-- … and so is every label around it. -/
theorem act_bwd_labels_same : Cert.Kernel22.defs (F := Bits) = Cert.Kernel22Ideal.defs (F := Bits) :=
  congrArg (Pipeline.defs (Cert.Kernel22Ideal.pcfgs (F := Bits))) act_bwd_body_same

/-- The activation's gradient over bits runs and leaves its arguments unchanged, … -/
theorem act_bwd_kernel_frame : Cert.quiescent_Kernel22 := fun m ρ _ =>
  (congrArg (fun d => θ_run d (onTc (τ := Cert.Kernel22Ideal.τ) (Cert.Kernel22Ideal.main (F := Bits))) ⟨m, fun _ => 0, ρ⟩ _) act_bwd_labels_same).mpr
    ((θ_run Cert.Kernel22Ideal.defs _ _).mono (fun _ h => ⟨fun c => (h.1 c).2.2, h.2⟩) (Cert.Kernel22Ideal.ActBwd.run_blocks (F := Bits) m ρ))

/-- … and so does it over the extended reals. -/
theorem act_bwd_frame : Cert.quiescent_Kernel22Ideal := fun m ρ _ =>
  (θ_run Cert.Kernel22Ideal.defs _ _).mono (fun _ h => ⟨fun c => (h.1 c).2.2, h.2⟩) (Cert.Kernel22Ideal.ActBwd.run_blocks (F := Ideal) m ρ)

end Cert.Proof

end
-- ==== Proof.Down.Cases.lean ====
/- The gradient of a product by its right factor, `aᵀ·dz`, summed block by block along the tokens: what each case of the body
   leaves in the accumulator and in the output, as values. -/
module

public import proofs.«01_k».proof.Proof.Gen.Kernel2Ideal.Value
public import Idealize.ShloMosaic.Lib.Pipeline.Value
public import Idealize.ShloMosaic.Lib.Tactic
public import Idealize.ShloMosaic.Lib.Pointwise

@[expose] public section

set_option maxRecDepth 16384

noncomputable section

namespace Cert.Kernel2Ideal.Down

open Cert.Kernel2Ideal Cert.Kernel2Ideal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

section cases

variable (c : Dev nD) (i : grid0.Coords)
  (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x0 : Vec F S2048x1408 .bf16) (x1 : Vec F S2048x1024 .bf16) (acc : Vec F S1408x1024 .f32)

/-- The first block of a sweep: the accumulator is cleared, then the block's product is added. -/
theorem acc_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) zero2, View.readCov_unit_zero (S := S1408x1024) _ zero2]
  simp only [View.readAt_eq_ld, h3.read_unread, h4.read_unread, View.ld_unit_zero (S := S2048x1408) zero2, View.ld_unit_zero (S := S2048x1024) zero2]

/-- A block in the middle of a sweep: its product is added to the accumulator. -/
theorem acc_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero zero2]
  simp only [View.readAt_eq_ld, h3.read_unread, h4.read_unread, h6.read_unread, View.ld_unit_zero (S := S2048x1408) zero2, View.ld_unit_zero (S := S2048x1024) zero2, View.ld_unit_zero (S := S1408x1024) zero2]

/-- The last block of a sweep: its product is added to the accumulator … -/
theorem acc_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero zero2]
  simp only [View.readAt_eq_ld, h3.read_unread, h4.read_unread, h6.read_unread, View.ld_unit_zero (S := S2048x1408) zero2, View.ld_unit_zero (S := S2048x1024) zero2, View.ld_unit_zero (S := S1408x1024) zero2]

/-- … and the sum is what the output takes. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero zero2, View.readCov_unit_zero (S := S1408x1024) _ zero2]
  simp only [View.readAt_eq_ld, h3.read_unread, h4.read_unread, h6.read_unread, View.ld_unit_zero (S := S2048x1408) zero2, View.ld_unit_zero (S := S2048x1024) zero2, View.ld_unit_zero (S := S1408x1024) zero2]

end cases

/-- One block's product at an index: the sum over the block's tokens. -/
theorem pay2_apply (acc : Vec Ideal S1408x1024 .f32) (x0 : Vec Ideal S2048x1408 .bf16) (x1 : Vec Ideal S2048x1024 .bf16) (y : S1408x1024.Idx) :
    k0_pay2 acc x0 x1 y = acc y + ∑ k : Fin 2048, x0 (ix2 k (y 0)) * x1 (ix2 k (y 1)) := by
  unfold k0_pay2
  pointwise

theorem pay1_apply (y : S1408x1024.Idx) : (k0_pay1 : FVec Ideal S1408x1024 .f32) y = 0 := by
  unfold k0_pay1
  pointwise

theorem pay3_apply (acc : Vec Ideal S1408x1024 .f32) (y : S1408x1024.Idx) : k0_pay3 acc y = acc y := by
  unfold k0_pay3
  pointwise

end Cert.Kernel2Ideal.Down

end
-- ==== Proof.Down.Value.lean ====
/- The gradient of a product by its right factor: the accumulator is the running sum over the tokens seen so far, so the
   array ends holding the whole sum, which is the reference's product. -/
module

public import proofs.«01_k».proof.Proof.Down.Cases
public import proofs.«01_k».proof.Proof.Gen.Reference2Ideal.Read

@[expose] public section

set_option maxRecDepth 16384

noncomputable section

namespace Cert.Kernel2Ideal.Down

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The two factors: `a`, one row per token, and `dz`, one row per token. -/
abbrev fa (c : Dev nD) : Vec Ideal S8192x2816 .bf16 := m ((c : Thread nD τ).loc main_arg0)
abbrev fz (c : Dev nD) : Vec Ideal S8192x1024 .bf16 := m ((c : Thread nD τ).loc main_arg1)

/-- The product at a row of the result and a column, over one token (nothing beyond the last token). -/
def term (c : Dev nD) (p q : ℕ) (k : ℕ) : EReal :=
  if h : k < 8192 ∧ p < 2816 ∧ q < 1024 then fa m c (ix2 ⟨k, h.1⟩ ⟨p, h.2.1⟩) * fz m c (ix2 ⟨k, h.1⟩ ⟨q, h.2.2⟩) else 0

/-- Where the blocks of point `t` lie. -/
theorem index_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

theorem block_a (c : Dev nD) (t : Fin cfg0.N) (k : Fin 2048) (p : Fin 1408) (h0 : t.val % 4 * 2048 + k.val < 8192)
    (h1 : t.val / 4 * 1408 + p.val < 2816) :
    (iblk m c 0 t : Vec Ideal S2048x1408 .bf16) (ix2 k p) = fa m c (ix2 ⟨t.val % 4 * 2048 + k.val, h0⟩ ⟨t.val / 4 * 1408 + p.val, h1⟩) := by
  obtain ⟨e0, e1, -⟩ := index_facts t
  show fa m c (((cfg0.win 0).blk t).view.emb (ix2 k p)) = _
  congr 1
  funext a
  match a with
  | ⟨0, _⟩ => exact Fin.ext (by show win0_0.index t (0 : Fin 2) * 2048 + 1 * k.val = _; rw [e0, one_mul]; rfl)
  | ⟨1, _⟩ => exact Fin.ext (by show win0_0.index t (1 : Fin 2) * 1408 + 1 * p.val = _; rw [e1, one_mul]; rfl)

theorem block_z (c : Dev nD) (t : Fin cfg0.N) (k : Fin 2048) (q : Fin 1024) (h0 : t.val % 4 * 2048 + k.val < 8192) :
    (iblk m c 1 t : Vec Ideal S2048x1024 .bf16) (ix2 k q) = fz m c (ix2 ⟨t.val % 4 * 2048 + k.val, h0⟩ q) := by
  obtain ⟨-, -, e0, e1, -⟩ := index_facts t
  show fz m c (((cfg0.win 1).blk t).view.emb (ix2 k q)) = _
  congr 1
  funext a
  match a with
  | ⟨0, _⟩ => exact Fin.ext (by show win0_1.index t (0 : Fin 2) * 2048 + 1 * k.val = _; rw [e0, one_mul]; rfl)
  | ⟨1, _⟩ => exact Fin.ext (by show win0_1.index t (1 : Fin 2) * 1024 + 1 * q.val = _; rw [e1, one_mul, Nat.zero_mul, Nat.zero_add]; rfl)

/-- One point's product, as the sum over the tokens of its block. -/
theorem point_sum (c : Dev nD) (t : Fin cfg0.N) (acc : Vec Ideal S1408x1024 .f32) (y : S1408x1024.Idx) :
    k0_pay2 acc (iblk m c 0 t) (iblk m c 1 t) y
      = acc y + ∑ k ∈ Finset.range 2048, term m c (t.val / 4 * 1408 + (y 0).val) (y 1).val (t.val % 4 * 2048 + k) := by
  have hN : t.val < 8 := lt_of_lt_of_eq t.isLt N_0
  have hy0 : (y 0).val < 1408 := (y 0).isLt
  have hy1 : (y 1).val < 1024 := (y 1).isLt
  rw [pay2_apply, Finset.sum_range]
  congr 1
  refine Finset.sum_congr rfl fun k _ => ?_
  have hk := k.isLt
  rw [block_a m c t k (y 0) (by omega) (by omega), block_z m c t k (y 1) (by omega)]
  unfold term
  rw [dif_pos ⟨by omega, by omega, hy1⟩]
  rfl

/-- After point `n` the accumulator is the sum over the tokens its sweep has seen. -/
theorem acc_eq (c : Dev nD) : ∀ (n : ℕ) (hn : n < cfg0.N) (y : S1408x1024.Idx),
    (outsAt0 m c n hn).2 y = ∑ k ∈ Finset.range ((n % 4 + 1) * 2048), term m c (n / 4 * 1408 + (y 0).val) (y 1).val k := by
  intro n
  induction n with
  | zero =>
    intro hn y
    have e := outsAt0_A m c ⟨0, hn⟩ (Nat.zero_mod 4) (by show ¬(0 % 4 = 3); omega)
    rw [show outsAt0 m c 0 hn = _ from e]
    dsimp only
    rw [acc_A, point_sum, pay1_apply, zero_add]
    simp only [Nat.zero_mod, Nat.zero_mul, Nat.zero_add, Nat.one_mul]
  | succ n ih =>
    intro hn y
    have hN : n + 1 < 8 := lt_of_lt_of_eq hn N_0
    by_cases h0 : (n + 1) % 4 = 0
    · have h1 : ¬(n + 1) % 4 = 3 := by omega
      have e := outsAt0_A m c ⟨n + 1, hn⟩ h0 h1
      rw [show outsAt0 m c (n + 1) hn = _ from e]
      dsimp only
      rw [acc_A, point_sum, pay1_apply, zero_add]
      simp only [h0, Nat.zero_mul, Nat.zero_add, Nat.one_mul]
    · have step : (outsAt0 m c (n + 1) hn).2 = k0_pay2 (outsAt0 m c n (Nat.lt_of_succ_lt hn)).2 (iblk m c 0 ⟨n + 1, hn⟩) (iblk m c 1 ⟨n + 1, hn⟩) := by
        by_cases h1 : (n + 1) % 4 = 3
        · have e := outsAt0_C m c ⟨n + 1, hn⟩ h0 h1
          rw [show outsAt0 m c (n + 1) hn = _ from e]
          dsimp only
          rw [acc_C]
          rfl
        · have e := outsAt0_B m c ⟨n + 1, hn⟩ h0 h1
          rw [show outsAt0 m c (n + 1) hn = _ from e]
          dsimp only
          rw [acc_B]
          rfl
      rw [step, point_sum, ih]
      dsimp only
      have d : (n + 1) / 4 = n / 4 := by omega
      have r : (n + 1) % 4 = n % 4 + 1 := by omega
      rw [d, r, show (n % 4 + 1 + 1) * 2048 = (n % 4 + 1) * 2048 + 2048 by omega, Finset.sum_range_add]

/-- The array the run leaves: the whole sum over the tokens. -/
def G (c : Dev nD) : Vec Ideal S2816x1024 .bf16 := fun i => ∑ k ∈ Finset.range 8192, term m c (i 0).val (i 1).val k

theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  have h0 : ¬t.val % 4 = 0 := by omega
  have hN : t.val < 8 := lt_of_lt_of_eq t.isLt N_0
  obtain ⟨-, -, -, -, e0, e1⟩ := index_facts t
  rw [Value.flushed2_C m c t h0 h3, out_C]
  funext y
  show (k0_pay3 (F := Ideal) _ : Vec Ideal S1408x1024 .bf16) y = G m c (((cfg0.win 2).blk t).view.emb y)
  rw [pay3_apply, point_sum, acc_eq]
  have q0 : (((cfg0.win 2).blk t).view.emb y 0).val = t.val / 4 * 1408 + (y 0).val := by
    show win0_2.index t (0 : Fin 2) * 1408 + 1 * (y 0).val = _
    rw [e0, one_mul]
  have q1 : (((cfg0.win 2).blk t).view.emb y 1).val = (y 1).val := by
    show win0_2.index t (1 : Fin 2) * 1024 + 1 * (y 1).val = _
    rw [e1, one_mul, Nat.zero_mul, Nat.zero_add]
  have d : (t.val - 1) / 4 = t.val / 4 := by omega
  have r : (t.val - 1) % 4 + 1 = 3 := by omega
  unfold G
  rw [q0, q1, d, r, h3]
  exact (Finset.sum_range_add _ 6144 2048).symm

theorem final_eq (c : Dev nD) : (dats m 0 c).arrAt 2 cfg0.N = G m c :=
  (dats m 0 c).arrAt_eq_of_cover 2 _ (fun t hf => flushed_eq m c t hf) (fun i => (Value.covered_iff2 i).2 (by
    have h0 : (i 0).val < 2816 := (i 0).isLt
    have h1 : (i 1).val < 1024 := (i 1).isLt
    omega))

/-- The kernel's run: the result is the sum over all tokens, the arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq m c), (h c).2⟩) (Value.run_blocks m ρ)

/-- The reference's product at an index: the same sum. -/
theorem reference_eq (c : Dev nD) :
    Cert.Reference2Ideal.Read.val_main_v6 (F := Ideal) (fa m c) (fz m c) = G m c := by
  funext i
  have h0 : (i 0).val < 2816 := (i 0).isLt
  have h1 : (i 1).val < 1024 := (i 1).isLt
  unfold G
  rw [Finset.sum_range]
  unfold Cert.Reference2Ideal.Read.val_main_v6 Cert.Reference2Ideal.Read.val_main_v5 Cert.Reference2Ideal.Read.val_main_v4 Cert.Reference2Ideal.Read.val_main_v1 Cert.Reference2Ideal.Read.val_main_v0
  pointwise
  refine Finset.sum_congr rfl fun k _ => ?_
  unfold term
  rw [dif_pos ⟨k.isLt, h0, h1⟩]
  exact mul_comm _ _

end Cert.Kernel2Ideal.Down

end
-- ==== Proof.Ref.Frame.lean ====
/- The references' runs leave their arguments unchanged. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import Idealize.ShloMosaic.Lib.Claim
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference6Ideal
public import proofs.«01_k».proof.Proof.Gen.Reference6Ideal.Run
public import proofs.«01_k».proof.Proof.Gen.Reference7Ideal
public import proofs.«01_k».proof.Proof.Gen.Reference7Ideal.Run
public import proofs.«01_k».proof.Proof.Gen.Reference8Ideal
public import proofs.«01_k».proof.Proof.Gen.Reference8Ideal.Run
public import proofs.«01_k».proof.Proof.Gen.Reference9Ideal
public import proofs.«01_k».proof.Proof.Gen.Reference9Ideal.Run
public import proofs.«01_k».proof.Proof.Gen.Reference10Ideal
public import proofs.«01_k».proof.Proof.Gen.Reference10Ideal.Run
public import proofs.«01_k».proof.Proof.Gen.Reference11Ideal
public import proofs.«01_k».proof.Proof.Gen.Reference11Ideal.Run
public import proofs.«01_k».proof.Proof.Gen.Reference12Ideal
public import proofs.«01_k».proof.Proof.Gen.Reference12Ideal.Run
public import proofs.«01_k».proof.Proof.Gen.Reference13Ideal
public import proofs.«01_k».proof.Proof.Gen.Reference13Ideal.Run
public import proofs.«01_k».proof.Proof.Gen.Reference14Ideal
public import proofs.«01_k».proof.Proof.Gen.Reference14Ideal.Run
public import proofs.«01_k».proof.Proof.Gen.Reference15Ideal
public import proofs.«01_k».proof.Proof.Gen.Reference15Ideal.Run
public import proofs.«01_k».proof.Proof.Gen.Reference16Ideal
public import proofs.«01_k».proof.Proof.Gen.Reference16Ideal.Run
public import proofs.«01_k».proof.Proof.Gen.Reference17Ideal
public import proofs.«01_k».proof.Proof.Gen.Reference17Ideal.Run
public import proofs.«01_k».proof.Proof.Gen.Reference18Ideal
public import proofs.«01_k».proof.Proof.Gen.Reference18Ideal.Run
public import proofs.«01_k».proof.Proof.Gen.Reference19Ideal
public import proofs.«01_k».proof.Proof.Gen.Reference19Ideal.Run
public import proofs.«01_k».proof.Proof.Gen.Reference20Ideal
public import proofs.«01_k».proof.Proof.Gen.Reference20Ideal.Run
public import proofs.«01_k».proof.Proof.Gen.Reference21Ideal
public import proofs.«01_k».proof.Proof.Gen.Reference21Ideal.Run
public import proofs.«01_k».proof.Proof.Gen.Reference22Ideal
public import proofs.«01_k».proof.Proof.Gen.Reference22Ideal.Run

@[expose] public section

noncomputable section

namespace Cert.ReferenceIdeal.Unchanged

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- The results written by stretch 3, in order. -/
abbrev hostOps0_3_W : List (Ref sig .tc) := [main_v394, main_v395, main_v396, main_v397, main_v398, main_v399, main_v400, main_v401, main_v402, main_cst_68, main_v403, main_v404, main_v405, main_v406, main_v407, main_cst_69, main_v408, main_v409, main_v410, main_v411, main_cst_70, main_v412]
set_option maxRecDepth 100000 in
theorem hostOps0_3_writes : (hostOps0_3 : List (HloOp τ sig (Elt F))).Forall fun op => op.writes ⊆ (hostOps0_3_W.map (Proc.devRef (τ := τ) .tc)).toFinset :=
  forall_writes_sub_of_map rfl

/-- The results written by stretch 4, in order. -/
abbrev hostOps0_4_W : List (Ref sig .tc) := [main_v413]
set_option maxRecDepth 100000 in
theorem hostOps0_4_writes : (hostOps0_4 : List (HloOp τ sig (Elt F))).Forall fun op => op.writes ⊆ (hostOps0_4_W.map (Proc.devRef (τ := τ) .tc)).toFinset :=
  forall_writes_sub_of_map rfl

/-- The results written by stretch 5, in order. -/
abbrev hostOps0_5_W : List (Ref sig .tc) := [main_v414, main_cst_71, main_v415, main_v416, main_v417, main_v418, main_v419, main_v420, main_v421, main_cst_72, main_v422, main_v423, main_cst_73, main_v424, main_v425, main_v426, main_v427, main_v428, main_v429, main_v430, main_v431, main_v432, main_cst_74, main_v433, main_v434, main_v435, main_v436, main_cst_75, main_v437, main_v438, main_cst_76, main_v439, main_cst_77, main_v440, main_v441, main_cst_78, main_v442, main_v443, main_v444, main_v445, main_cst_79, main_v446, main_v447, main_cst_80, main_v448, main_v449, main_cst_81, main_v450, main_v451, main_v452, main_cst_82, main_v453, main_v454, main_v455, main_v456, main_cst_83, main_v457, main_v458, main_cst_84, main_v459, main_v460, main_cst_85, main_v461, main_v462, main_cst_86, main_v463, main_v464, main_cst_87, main_v465, main_v466, main_cst_88, main_v467, main_v468, main_v469, main_v470, main_cst_89, main_v471, main_v472, main_cst_90, main_v473, main_v474, main_cst_91, main_v475, main_v476, main_v477, main_v478, main_v479, main_cst_92, main_v480, main_v481, main_cst_93, main_v482, main_v483, main_v484, main_v485, main_v486, main_v487, main_v488, main_v489, main_v490]
set_option maxRecDepth 100000 in
theorem hostOps0_5_writes : (hostOps0_5 : List (HloOp τ sig (Elt F))).Forall fun op => op.writes ⊆ (hostOps0_5_W.map (Proc.devRef (τ := τ) .tc)).toFinset :=
  forall_writes_sub_of_map rfl

/-- A reference that nothing before the loop writes. -/
abbrev KeptBefore (r : Ref sig .tc) : Prop := r ∉ hostOps0_W ∧ r ∉ hostOps0_1_W ∧ r ∉ hostOps0_2_W

/-- A reference that no trip of the loop writes. -/
abbrev KeptTrip (r : Ref sig .tc) : Prop :=
  r ∉ condOps_W ∧ r ∉ while0Ops0_W ∧ r ∉ while0Ops0_1_W ∧ r ∉ while0Ops0_2_W ∧ r ∉ while0Ops0_3_W ∧ r ∉ while0Ops0_4_W
    ∧ r ∉ while0Ops0_5_W

/-- A reference that nothing after the loop writes. -/
abbrev KeptAfter (r : Ref sig .tc) : Prop := r ∉ hostOps0_3_W ∧ r ∉ hostOps0_4_W ∧ r ∉ hostOps0_5_W

theorem entry_keep (c : Dev nD) {r : Ref sig .tc} (h : KeptBefore r) :
    entryContents preI m c (Proc.devRef .tc r) = m ((c.tc : Thread nD τ).loc r) := by
  simp only [entryContents, afterL_cons, afterL_nil]
  rw [after_of_writes_sub _ _ hostOps0_2_writes h.2.2, after_of_writes_sub _ _ hostOps0_1_writes h.2.1,
    after_of_writes_sub _ _ hostOps0_writes h.1]

/-- Any number of trips leaves such a reference as it was at the loop's entry. -/
theorem atK_keep (c : Dev nD) {r : Ref sig .tc} (h : KeptTrip r) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub _ _ while0Ops0_5_writes h.2.2.2.2.2.2, after_of_writes_sub _ _ while0Ops0_4_writes h.2.2.2.2.2.1,
      after_of_writes_sub _ _ while0Ops0_3_writes h.2.2.2.2.1, after_of_writes_sub _ _ while0Ops0_2_writes h.2.2.2.1,
      after_of_writes_sub _ _ while0Ops0_1_writes h.2.2.1, after_of_writes_sub _ _ while0Ops0_writes h.2.1,
      after_of_writes_sub _ _ condOps_writes h.1]
    exact atK_keep c h k

/-- An argument ends as it was launched. -/
theorem final_keep (c : Dev nD) {r : Ref sig .tc} (h₀ : KeptBefore r) (h₁ : KeptTrip r) (h₂ : KeptAfter r) :
    finalContents condOps preI bodyI postI 2048 m c (Proc.devRef .tc r) = m ((c.tc : Thread nD τ).loc r) := by
  rw [show finalContents condOps preI bodyI postI 2048 m c = afterL postI (after condOps (atK m 2048 c)) from rfl]
  simp only [afterL_cons, afterL_nil]
  rw [after_of_writes_sub _ _ hostOps0_5_writes h₂.2.2, after_of_writes_sub _ _ hostOps0_4_writes h₂.2.1,
    after_of_writes_sub _ _ hostOps0_3_writes h₂.1, after_of_writes_sub _ _ condOps_writes h₁.1, atK_keep m c h₁]
  exact entry_keep m c h₀

set_option maxRecDepth 100000 in
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    ⟨(h c main_arg0 rfl).trans (final_keep m c (by decide +kernel) (by decide +kernel) (by decide +kernel)),
      (h c main_arg1 rfl).trans (final_keep m c (by decide +kernel) (by decide +kernel) (by decide +kernel)),
      (h c main_arg2 rfl).trans (final_keep m c (by decide +kernel) (by decide +kernel) (by decide +kernel)),
      (h c main_arg3 rfl).trans (final_keep m c (by decide +kernel) (by decide +kernel) (by decide +kernel)),
      (h c main_arg4 rfl).trans (final_keep m c (by decide +kernel) (by decide +kernel) (by decide +kernel)),
      (h c main_arg5 rfl).trans (final_keep m c (by decide +kernel) (by decide +kernel) (by decide +kernel)),
      (h c main_arg6 rfl).trans (final_keep m c (by decide +kernel) (by decide +kernel) (by decide +kernel)),
      (h c main_arg7 rfl).trans (final_keep m c (by decide +kernel) (by decide +kernel) (by decide +kernel))⟩,
    sem_eq_zero_of_no_sems (by decide) r.2⟩) (run_fold m ρ)

end Cert.ReferenceIdeal.Unchanged

namespace Cert

open Idealize.ShloMosaic Idealize.ShloMosaic.TcCoe Idealize.SL.Sem

/-! The other references: one run each, whose statement says what every result and every argument ends as. -/

theorem Reference2Ideal.Unchanged.frame : quiescent_Reference2Ideal := fun m ρ _ =>
  (θ_run _ _ _).mono (fun r h => ⟨fun c => (h c).2, sem_eq_zero_of_no_sems (by decide) r.2⟩) (Reference2Ideal.Value.run m ρ)
theorem Reference3Ideal.Unchanged.frame : quiescent_Reference3Ideal := fun m ρ _ =>
  (θ_run _ _ _).mono (fun r h => ⟨fun c => (h c).2.2.2.2, sem_eq_zero_of_no_sems (by decide) r.2⟩) (Reference3Ideal.Value.run m ρ)
theorem Reference4Ideal.Unchanged.frame : quiescent_Reference4Ideal := fun m ρ _ =>
  (θ_run _ _ _).mono (fun r h => ⟨fun c => (h c).2, sem_eq_zero_of_no_sems (by decide) r.2⟩) (Reference4Ideal.Value.run m ρ)
theorem Reference5Ideal.Unchanged.frame : quiescent_Reference5Ideal := fun m ρ _ =>
  (θ_run _ _ _).mono (fun r h => ⟨fun c => (h c).2, sem_eq_zero_of_no_sems (by decide) r.2⟩) (Reference5Ideal.Value.run m ρ)
theorem Reference6Ideal.Unchanged.frame : quiescent_Reference6Ideal := fun m ρ _ =>
  (θ_run _ _ _).mono (fun r h => ⟨fun c => (h c).2.2.2.2, sem_eq_zero_of_no_sems (by decide) r.2⟩) (Reference6Ideal.Value.run m ρ)
theorem Reference7Ideal.Unchanged.frame : quiescent_Reference7Ideal := fun m ρ _ =>
  (θ_run _ _ _).mono (fun r h => ⟨fun c => (h c).2.2.2.2, sem_eq_zero_of_no_sems (by decide) r.2⟩) (Reference7Ideal.Value.run m ρ)
theorem Reference8Ideal.Unchanged.frame : quiescent_Reference8Ideal := fun m ρ _ =>
  (θ_run _ _ _).mono (fun r h => ⟨fun c => (h c).2.2.2.2.2, sem_eq_zero_of_no_sems (by decide) r.2⟩) (Reference8Ideal.Value.run m ρ)
theorem Reference9Ideal.Unchanged.frame : quiescent_Reference9Ideal := fun m ρ _ =>
  (θ_run _ _ _).mono (fun r h => ⟨fun c => (h c).2.2, sem_eq_zero_of_no_sems (by decide) r.2⟩) (Reference9Ideal.Value.run m ρ)
theorem Reference10Ideal.Unchanged.frame : quiescent_Reference10Ideal := fun m ρ _ =>
  (θ_run _ _ _).mono (fun r h => ⟨fun c => (h c).2, sem_eq_zero_of_no_sems (by decide) r.2⟩) (Reference10Ideal.Value.run m ρ)
theorem Reference11Ideal.Unchanged.frame : quiescent_Reference11Ideal := fun m ρ _ =>
  (θ_run _ _ _).mono (fun r h => ⟨fun c => (h c).2, sem_eq_zero_of_no_sems (by decide) r.2⟩) (Reference11Ideal.Value.run m ρ)
theorem Reference12Ideal.Unchanged.frame : quiescent_Reference12Ideal := fun m ρ _ =>
  (θ_run _ _ _).mono (fun r h => ⟨fun c => (h c).2, sem_eq_zero_of_no_sems (by decide) r.2⟩) (Reference12Ideal.Value.run m ρ)
theorem Reference13Ideal.Unchanged.frame : quiescent_Reference13Ideal := fun m ρ _ =>
  (θ_run _ _ _).mono (fun r h => ⟨fun c => (h c).2, sem_eq_zero_of_no_sems (by decide) r.2⟩) (Reference13Ideal.Value.run m ρ)
theorem Reference14Ideal.Unchanged.frame : quiescent_Reference14Ideal := fun m ρ _ =>
  (θ_run _ _ _).mono (fun r h => ⟨fun c => (h c).2, sem_eq_zero_of_no_sems (by decide) r.2⟩) (Reference14Ideal.Value.run m ρ)
theorem Reference15Ideal.Unchanged.frame : quiescent_Reference15Ideal := fun m ρ _ =>
  (θ_run _ _ _).mono (fun r h => ⟨fun c => (h c).2, sem_eq_zero_of_no_sems (by decide) r.2⟩) (Reference15Ideal.Value.run m ρ)
theorem Reference16Ideal.Unchanged.frame : quiescent_Reference16Ideal := fun m ρ _ =>
  (θ_run _ _ _).mono (fun r h => ⟨fun c => (h c).2, sem_eq_zero_of_no_sems (by decide) r.2⟩) (Reference16Ideal.Value.run m ρ)
theorem Reference17Ideal.Unchanged.frame : quiescent_Reference17Ideal := fun m ρ _ =>
  (θ_run _ _ _).mono (fun r h => ⟨fun c => (h c).2, sem_eq_zero_of_no_sems (by decide) r.2⟩) (Reference17Ideal.Value.run m ρ)
theorem Reference18Ideal.Unchanged.frame : quiescent_Reference18Ideal := fun m ρ _ =>
  (θ_run _ _ _).mono (fun r h => ⟨fun c => (h c).2, sem_eq_zero_of_no_sems (by decide) r.2⟩) (Reference18Ideal.Value.run m ρ)
theorem Reference19Ideal.Unchanged.frame : quiescent_Reference19Ideal := fun m ρ _ =>
  (θ_run _ _ _).mono (fun r h => ⟨fun c => (h c).2.2, sem_eq_zero_of_no_sems (by decide) r.2⟩) (Reference19Ideal.Value.run m ρ)
theorem Reference20Ideal.Unchanged.frame : quiescent_Reference20Ideal := fun m ρ _ =>
  (θ_run _ _ _).mono (fun r h => ⟨fun c => (h c).2.2, sem_eq_zero_of_no_sems (by decide) r.2⟩) (Reference20Ideal.Value.run m ρ)
theorem Reference21Ideal.Unchanged.frame : quiescent_Reference21Ideal := fun m ρ _ =>
  (θ_run _ _ _).mono (fun r h => ⟨fun c => (h c).2.2, sem_eq_zero_of_no_sems (by decide) r.2⟩) (Reference21Ideal.Value.run m ρ)
theorem Reference22Ideal.Unchanged.frame : quiescent_Reference22Ideal := fun m ρ _ =>
  (θ_run _ _ _).mono (fun r h => ⟨fun c => (h c).2.2, sem_eq_zero_of_no_sems (by decide) r.2⟩) (Reference22Ideal.Value.run m ρ)

end Cert

end
-- ==== Proof.Up.Row.lean ====
/- The gradient of the layer norm along one row, as extended reals: the two forms in which it is computed, and that on rows of
   real numbers they are the same. -/
module

public import Idealize.ShloMosaic.Lib.Pointwise

@[expose] public section

noncomputable section

namespace Cert.Kernel3Ideal.Up

open Idealize.ShloMosaic

/-- The three constants of the norm: the row's length, the offset under the root, and the two factors of the derivatives. -/
theorem ofBits_1024 : Ideal.ofBits .f32 0x44800000#32 = ((1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_eps : ∃ e : ℝ, 0 < e ∧ Ideal.ofBits .f32 0x3727C5AC#32 = (e : EReal) :=
  ⟨10995116 * (2 : ℝ) ^ (-40 : ℤ), by positivity, by simp [Ideal.ofBits, Ideal.ieee, -EReal.coe_mul]⟩
theorem ofBits_alpha : ∃ e : ℝ, Ideal.ofBits .f32 0x3FD744FD#32 = (e : EReal) :=
  ⟨_, by simp [Ideal.ofBits, Ideal.ieee, -EReal.coe_mul]; rfl⟩

variable (z d : Fin 1024 → EReal)

/-- A row less its mean, … -/
def ctr (j : Fin 1024) : EReal := z j - Ideal.div (∑ k, z k) (Ideal.ofBits .f32 0x44800000#32)
/-- … its variance, with the offset, … -/
def vare : EReal := Ideal.div (∑ k, ctr z k * ctr z k) (Ideal.ofBits .f32 0x44800000#32) + Ideal.ofBits .f32 0x3727C5AC#32
/-- … the reciprocal of the root of that, and the normalized row. -/
def rstd : EReal := Ideal.rsqrt (vare z)
def nrm (j : Fin 1024) : EReal := ctr z j * rstd z

/-- The gradient in the closed form: what is left of `d` once its mean and its part along the normalized row are taken away. -/
def grad (j : Fin 1024) : EReal :=
  rstd z * (d j - Ideal.div (∑ k, d k) (Ideal.ofBits .f32 0x44800000#32)
    - nrm z j * Ideal.div (∑ k, d k * nrm z k) (Ideal.ofBits .f32 0x44800000#32))

/-- The gradient as the derivatives of the steps of the norm: through the variance, … -/
def through (j : Fin 1024) : EReal :=
  Ideal.div ((∑ k, ctr z k * d k) * (Ideal.ofBits .f32 0xBF000000#32 * Ideal.div (rstd z) (vare z))) (Ideal.ofBits .f32 0x44800000#32)
    * (Ideal.ofBits .f32 0x40000000#32 * ctr z j)
/-- … and in all. -/
def gradSteps (j : Fin 1024) : EReal :=
  d j * rstd z + through z d j
    + Ideal.div ((∑ k, -(d k * rstd z)) + ∑ k, -through z d k) (Ideal.ofBits .f32 0x44800000#32)

/-- A finite sum of real numbers is that sum of them as extended reals. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, mul_one_div]

/-- On rows of real numbers the two forms agree. -/
theorem gradSteps_eq (z d : Fin 1024 → ℝ) (j : Fin 1024) :
    gradSteps (fun k => (z k : EReal)) (fun k => (d k : EReal)) j = grad (fun k => (z k : EReal)) (fun k => (d k : EReal)) j := by
  obtain ⟨e, he, eE⟩ := ofBits_eps
  have n0 : (1024 : ℝ) ≠ 0 := by norm_num
  obtain ⟨c, hc⟩ : ∃ c : Fin 1024 → ℝ, c = fun k => z k - (∑ l, z l) / 1024 := ⟨_, rfl⟩
  have hctr : ∀ k, ctr (fun k => (z k : EReal)) k = (c k : EReal) := fun k => by
    unfold ctr
    rw [ofBits_1024, coe_sum, div_real _ n0, ← EReal.coe_sub, hc]
  have hsum : ∑ k, c k = 0 := by
    rw [hc, Finset.sum_sub_distrib, Finset.sum_const, Finset.card_univ, Fintype.card_fin, nsmul_eq_mul]
    push_cast
    ring
  obtain ⟨v, hv⟩ : ∃ v : ℝ, v = (∑ k, c k * c k) / 1024 + e := ⟨_, rfl⟩
  have v0 : 0 < v := by
    rw [hv]
    have : 0 ≤ ∑ k, c k * c k := Finset.sum_nonneg fun k _ => mul_self_nonneg _
    positivity
  have hvar : vare (fun k => (z k : EReal)) = (v : EReal) := by
    unfold vare
    simp only [hctr, ← EReal.coe_mul]
    rw [ofBits_1024, coe_sum, div_real _ n0, eE, ← EReal.coe_add, hv]
  obtain ⟨s, hs⟩ : ∃ s : ℝ, s = (Real.sqrt v)⁻¹ := ⟨_, rfl⟩
  have hstd : rstd (fun k => (z k : EReal)) = (s : EReal) := by
    unfold rstd
    rw [hvar, Ideal.rsqrt_coe, if_neg (not_lt.mpr v0.le), if_neg v0.ne', hs]
  have hsv : s / v = s * s * s := by
    have : s * s = v⁻¹ := by rw [hs, ← mul_inv, Real.mul_self_sqrt v0.le]
    rw [this, div_eq_mul_inv, mul_comm]
  have hthrough : ∀ k, through (fun k => (z k : EReal)) (fun k => (d k : EReal)) k
      = (((∑ l, c l * d l) * (-(1 / 2) * (s / v)) / 1024 * (2 * c k) : ℝ) : EReal) := fun k => by
    unfold through
    simp only [hctr, hvar, hstd, ← EReal.coe_mul]
    rw [coe_sum, ofBits_neg_half, ofBits_two, ofBits_1024, div_real _ v0.ne', ← EReal.coe_mul, ← EReal.coe_mul, div_real _ n0, ← EReal.coe_mul, ← EReal.coe_mul]
  unfold gradSteps grad nrm
  simp only [hthrough, hctr, hstd, ← EReal.coe_mul, ← EReal.coe_neg]
  rw [coe_sum, coe_sum, coe_sum, coe_sum, ofBits_1024]
  simp only [← EReal.coe_add]
  rw [div_real _ n0, div_real _ n0, div_real _ n0]
  simp only [← EReal.coe_mul, ← EReal.coe_add, ← EReal.coe_sub]
  congr 1
  have e1 : ∑ k, -(d k * s) = -((∑ k, d k) * s) := by rw [Finset.sum_neg_distrib, Finset.sum_mul]
  have e2 : ∑ k, -((∑ l, c l * d l) * (-(1 / 2) * (s / v)) / 1024 * (2 * c k)) = 0 := by
    rw [Finset.sum_neg_distrib, ← Finset.mul_sum, ← Finset.mul_sum, hsum]
    ring
  have e3 : ∑ k, d k * (c k * s) = (∑ l, c l * d l) * s := by
    rw [Finset.sum_mul]
    exact Finset.sum_congr rfl fun k _ => by ring
  rw [e1, e2, e3, hsv]
  ring

end Cert.Kernel3Ideal.Up

end
-- ==== Proof.Up.Cases.lean ====
/- The gradient through the two up-projections and the layer norm before them: what each case of the body leaves in its four
   outputs, as values, and those values read at an index. -/
module

public import proofs.«01_k».proof.Proof.Gen.Kernel3Ideal.Value
public import Idealize.ShloMosaic.Lib.Pipeline.Value
public import Idealize.ShloMosaic.Lib.Tactic
public import Idealize.ShloMosaic.Lib.Pointwise
public import proofs.«01_k».proof.Proof.Up.Row

@[expose] public section

set_option maxRecDepth 16384

noncomputable section

namespace Cert.Kernel3Ideal.Up

open Cert.Kernel3Ideal Cert.Kernel3Ideal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

/-- The upper half of the weight, the gate's rows, … -/
def wGate (w : Vec F S5632x1024 .bf16) : Vec F S2816x1024 .bf16 :=
  View.ld w (Rect.unit (s := S5632x1024) ![0, 0] S2816x1024.size inb_S5632x1024_S2816x1024_0_0)
/-- … and the lower half, the value's rows. -/
def wValue (w : Vec F S5632x1024 .bf16) : Vec F S2816x1024 .bf16 :=
  View.ld w (Rect.unit (s := S5632x1024) ![2816, 0] S2816x1024.size inb_S5632x1024_S2816x1024_2816_0)

section cases

variable (c : Dev nD) (i : grid0.Coords)
  (a1 : Memref sig .tc .vmem S512x2816 .bf16) (h1 : a1.IsWhole)
  (a2 : Memref sig .tc .vmem S512x2816 .bf16) (h2 : a2.IsWhole)
  (a3 : Memref sig .tc .vmem S5632x1024 .bf16) (h3 : a3.IsWhole)
  (a4 : Memref sig .tc .vmem S512x1024 .f32) (h4 : a4.IsWhole)
  (a5 : Memref sig .tc .vmem S512x1024 .f32) (h5 : a5.IsWhole)
  (a6 : Memref sig .tc .vmem S1x1024 .f32) (h6 : a6.IsWhole)
  (a7 : Memref sig .tc .vmem S512x1024 .f32) (h7 : a7.IsWhole)
  (a8 : Memref sig .tc .vmem S512x1024 .bf16) (h8 : a8.IsWhole)
  (a9 : Memref sig .tc .vmem S1x1024 .f32) (h9 : a9.IsWhole)
  (a10 : Memref sig .tc .vmem S1x1024 .f32) (h10 : a10.IsWhole)
  (x0 : Vec F S512x2816 .bf16)  (x1 : Vec F S512x2816 .bf16)  (x2 : Vec F S5632x1024 .bf16)  (x3 : Vec F S512x1024 .f32)  (x4 : Vec F S512x1024 .f32)  (x5 : Vec F S1x1024 .f32)
  (xs : Vec F S1x1024 .f32) (xb : Vec F S1x1024 .f32)

/-- The first block: the gradient of the normalized input, … -/
theorem out_A_6 (hc0 : cond0_0 i) :
    out0_A_6 c i a1 h1 a2 h2 a3 h3 a4 h4 a5 h5 a6 h6 a7 h7 a8 h8 a9 h9 a10 h10 hc0 x0 x1 x2 x3 x4 x5 = k0_pay1 (k0_pay9 x4) (k0_pay10 x4) (k0_pay11 x3 x0 (wGate x2) x1 (wValue x2) x5) := by
  unfold out0_A_6
  rw [View.read_writes_eq_canon _ _ _ (cover0_A_6 c i a1 h1 a2 h2 a3 h3 a4 h4 a5 h5 a6 h6 a7 h7 a8 h8 a9 h9 a10 h10 hc0 x0 x1 x2 x3 x4 x5)]
  unfold kernelRun0_A
  dsimp only
  sl_unfold_words
  rw [View.canon_unit_zero zero2]
  simp only [View.readAt_eq_ld, h1.read_unread, h2.read_unread, h3.read_unread, h4.read_unread, h5.read_unread, h6.read_unread, View.ld_unit_zero (S := S512x2816) zero2, View.ld_unit_zero (S := S512x1024) zero2, View.ld_unit_zero (S := S1x1024) zero2]
  rfl

/-- … the same gradient rounded, … -/
theorem out_A_7 (hc0 : cond0_0 i) :
    out0_A_7 c i a1 h1 a2 h2 a3 h3 a4 h4 a5 h5 a6 h6 a7 h7 a8 h8 a9 h9 a10 h10 hc0 x0 x1 x2 x3 x4 x5 = k0_pay2 (k0_pay9 x4) (k0_pay10 x4) (k0_pay11 x3 x0 (wGate x2) x1 (wValue x2) x5) := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5)]
  unfold kernelRun0_A
  dsimp only
  sl_unfold_words
  rw [View.canon_unit_zero zero2]
  simp only [View.readAt_eq_ld, h1.read_unread, h2.read_unread, h3.read_unread, h4.read_unread, h5.read_unread, h6.read_unread, View.ld_unit_zero (S := S512x2816) zero2, View.ld_unit_zero (S := S512x1024) zero2, View.ld_unit_zero (S := S1x1024) zero2]
  rfl

/-- … the scale's gradient, begun at zero, … -/
theorem out_A_8 (hc0 : cond0_0 i) :
    out0_A_8 c i a1 h1 a2 h2 a3 h3 a4 h4 a5 h5 a6 h6 a7 h7 a8 h8 a9 h9 a10 h10 hc0 x0 x1 x2 x3 x4 x5 = k0_pay3 (k0_pay7 x3 x0 (wGate x2) x1 (wValue x2)) (k0_pay10 x4) k0_pay5 := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4 x5)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, h4.read_unread, h5.read_unread, h6.read_unread, View.ld_unit_zero (S := S512x2816) zero2, View.ld_unit_zero (S := S512x1024) zero2, View.ld_unit_zero (S := S1x1024) zero2]
  rfl

/-- … and the shift's, begun at zero. -/
theorem out_A_9 (hc0 : cond0_0 i) :
    out0_A_9 c i a1 h1 a2 h2 a3 h3 a4 h4 a5 h5 a6 h6 a7 h7 a8 h8 a9 h9 a10 h10 hc0 x0 x1 x2 x3 x4 x5 = k0_pay4 (k0_pay7 x3 x0 (wGate x2) x1 (wValue x2)) k0_pay6 := by
  unfold out0_A_9
  rw [View.read_writes_eq_canon _ _ _ (cover0_A_9 c i a1 h1 a2 h2 a3 h3 a4 h4 a5 h5 a6 h6 a7 h7 a8 h8 a9 h9 a10 h10 hc0 x0 x1 x2 x3 x4 x5)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, h4.read_unread, h5.read_unread, h6.read_unread, View.ld_unit_zero (S := S512x2816) zero2, View.ld_unit_zero (S := S512x1024) zero2, View.ld_unit_zero (S := S1x1024) zero2]
  rfl

/-- A later block: the same two gradients, … -/
theorem out_B_6 (hc0 : ¬cond0_0 i) :
    out0_B_6 c i a1 h1 a2 h2 a3 h3 a4 h4 a5 h5 a6 h6 a7 h7 a8 h8 a9 h9 a10 h10 hc0 x0 x1 x2 x3 x4 x5 xs xb = k0_pay1 (k0_pay9 x4) (k0_pay10 x4) (k0_pay11 x3 x0 (wGate x2) x1 (wValue x2) x5) := by
  unfold out0_B_6
  rw [View.read_writes_eq_canon _ _ _ (cover0_B_6 c i a1 h1 a2 h2 a3 h3 a4 h4 a5 h5 a6 h6 a7 h7 a8 h8 a9 h9 a10 h10 hc0 x0 x1 x2 x3 x4 x5 xs xb)]
  unfold kernelRun0_B
  dsimp only
  sl_unfold_words
  rw [View.canon_unit_zero zero2]
  simp only [View.readAt_eq_ld, h1.read_unread, h2.read_unread, h3.read_unread, h4.read_unread, h5.read_unread, h6.read_unread, h9.read_unread, h10.read_unread, View.ld_unit_zero (S := S512x2816) zero2, View.ld_unit_zero (S := S512x1024) zero2, View.ld_unit_zero (S := S1x1024) zero2]
  rfl

/-- … the rounded one, … -/
theorem out_B_7 (hc0 : ¬cond0_0 i) :
    out0_B_7 c i a1 h1 a2 h2 a3 h3 a4 h4 a5 h5 a6 h6 a7 h7 a8 h8 a9 h9 a10 h10 hc0 x0 x1 x2 x3 x4 x5 xs xb = k0_pay2 (k0_pay9 x4) (k0_pay10 x4) (k0_pay11 x3 x0 (wGate x2) x1 (wValue x2) x5) := by
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 xs xb)]
  unfold kernelRun0_B
  dsimp only
  sl_unfold_words
  rw [View.canon_unit_zero zero2]
  simp only [View.readAt_eq_ld, h1.read_unread, h2.read_unread, h3.read_unread, h4.read_unread, h5.read_unread, h6.read_unread, h9.read_unread, h10.read_unread, View.ld_unit_zero (S := S512x2816) zero2, View.ld_unit_zero (S := S512x1024) zero2, View.ld_unit_zero (S := S1x1024) zero2]
  rfl

/-- … the scale's gradient, added to what the blocks before left, … -/
theorem out_B_8 (hc0 : ¬cond0_0 i) :
    out0_B_8 c i a1 h1 a2 h2 a3 h3 a4 h4 a5 h5 a6 h6 a7 h7 a8 h8 a9 h9 a10 h10 hc0 x0 x1 x2 x3 x4 x5 xs xb = k0_pay3 (k0_pay7 x3 x0 (wGate x2) x1 (wValue x2)) (k0_pay10 x4) xs := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 xs xb)]
  unfold kernelRun0_B
  dsimp only
  sl_unfold_words
  rw [View.canon_unit_zero zero2]
  simp only [View.readAt_eq_ld, h1.read_unread, h2.read_unread, h3.read_unread, h4.read_unread, h5.read_unread, h6.read_unread, h9.read_unread, h10.read_unread, View.ld_unit_zero (S := S512x2816) zero2, View.ld_unit_zero (S := S512x1024) zero2, View.ld_unit_zero (S := S1x1024) zero2]
  rfl

/-- … and the shift's. -/
theorem out_B_9 (hc0 : ¬cond0_0 i) :
    out0_B_9 c i a1 h1 a2 h2 a3 h3 a4 h4 a5 h5 a6 h6 a7 h7 a8 h8 a9 h9 a10 h10 hc0 x0 x1 x2 x3 x4 x5 xs xb = k0_pay4 (k0_pay7 x3 x0 (wGate x2) x1 (wValue x2)) xb := by
  unfold out0_B_9
  rw [View.read_writes_eq_canon _ _ _ (cover0_B_9 c i a1 h1 a2 h2 a3 h3 a4 h4 a5 h5 a6 h6 a7 h7 a8 h8 a9 h9 a10 h10 hc0 x0 x1 x2 x3 x4 x5 xs xb)]
  unfold kernelRun0_B
  dsimp only
  sl_unfold_words
  rw [View.canon_unit_zero zero2]
  simp only [View.readAt_eq_ld, h1.read_unread, h2.read_unread, h3.read_unread, h4.read_unread, h5.read_unread, h6.read_unread, h9.read_unread, h10.read_unread, View.ld_unit_zero (S := S512x2816) zero2, View.ld_unit_zero (S := S512x1024) zero2, View.ld_unit_zero (S := S1x1024) zero2]
  rfl

end cases

/-! The values at an index, as extended reals. -/

theorem wGate_apply (w : Vec Ideal S5632x1024 .bf16) (k : Fin 2816) (j : Fin 1024) :
    wGate w (ix2 k j) = w (ix2 ⟨k.val, by omega⟩ j) := by
  unfold wGate
  pointwise

theorem wValue_apply (w : Vec Ideal S5632x1024 .bf16) (k : Fin 2816) (j : Fin 1024) :
    wValue w (ix2 k j) = w (ix2 ⟨2816 + k.val, by omega⟩ j) := by
  unfold wValue
  pointwise

theorem pay7_apply (r : Vec Ideal S512x1024 .f32) (x0 x1 : Vec Ideal S512x2816 .bf16) (wg wv : Vec Ideal S2816x1024 .bf16) (p : Fin 512) (j : Fin 1024) :
    k0_pay7 r x0 wg x1 wv (ix2 p j) = Ideal.ofBits .f32 0x3FD744FD#32 * r (ix2 p j) + ∑ k : Fin 2816, x0 (ix2 p k) * wg (ix2 k j)
      + ∑ k : Fin 2816, x1 (ix2 p k) * wv (ix2 k j) := by
  unfold k0_pay7
  pointwise

theorem pay8_apply (z : Vec Ideal S512x1024 .f32) (p : Fin 512) (j : Fin 1024) :
    k0_pay8 z (ix2 p j) = ctr (fun k => z (ix2 p k)) j := by
  unfold k0_pay8 ctr
  pointwise

theorem pay9_apply (z : Vec Ideal S512x1024 .f32) (p : Fin 512) (j : Fin 1) :
    k0_pay9 z (ix2 p j) = rstd (fun k => z (ix2 p k)) := by
  unfold k0_pay9 rstd vare
  pointwise
  simp only [pay8_apply]

theorem pay10_apply (z : Vec Ideal S512x1024 .f32) (p : Fin 512) (j : Fin 1024) :
    k0_pay10 z (ix2 p j) = nrm (fun k => z (ix2 p k)) j := by
  unfold k0_pay10 nrm
  pointwise
  rw [pay8_apply, pay9_apply]

theorem pay11_apply (r : Vec Ideal S512x1024 .f32) (x0 x1 : Vec Ideal S512x2816 .bf16) (wg wv : Vec Ideal S2816x1024 .bf16) (g : Vec Ideal S1x1024 .f32) (p : Fin 512) (j : Fin 1024) :
    k0_pay11 r x0 wg x1 wv g (ix2 p j) = k0_pay7 r x0 wg x1 wv (ix2 p j) * g (ix2 0 j) := by
  unfold k0_pay11
  pointwise

theorem pay1_apply (s : FVec Ideal S512x1 .f32) (h d : FVec Ideal S512x1024 .f32) (p : Fin 512) (j : Fin 1024) :
    k0_pay1 s h d (ix2 p j) = s (ix2 p 0) * (d (ix2 p j) - Ideal.div (∑ k, d (ix2 p k)) (Ideal.ofBits .f32 0x44800000#32)
      - h (ix2 p j) * Ideal.div (∑ k, d (ix2 p k) * h (ix2 p k)) (Ideal.ofBits .f32 0x44800000#32)) := by
  unfold k0_pay1
  pointwise

theorem pay2_apply (s : FVec Ideal S512x1 .f32) (h d : FVec Ideal S512x1024 .f32) (y : S512x1024.Idx) :
    (k0_pay2 s h d : FVec Ideal S512x1024 .bf16) y = (k0_pay1 s h d : FVec Ideal S512x1024 .f32) y := by
  unfold k0_pay2
  pointwise

theorem pay3_apply (d h : FVec Ideal S512x1024 .f32) (acc : Vec Ideal S1x1024 .f32) (q : Fin 1) (j : Fin 1024) :
    k0_pay3 d h acc (ix2 q j) = acc (ix2 q j) + ∑ p : Fin 512, d (ix2 p j) * h (ix2 p j) := by
  unfold k0_pay3
  pointwise

theorem pay4_apply (d : FVec Ideal S512x1024 .f32) (acc : Vec Ideal S1x1024 .f32) (q : Fin 1) (j : Fin 1024) :
    k0_pay4 d acc (ix2 q j) = acc (ix2 q j) + ∑ p : Fin 512, d (ix2 p j) := by
  unfold k0_pay4
  pointwise

theorem pay5_apply (j : S1x1024.Idx) : (k0_pay5 : FVec Ideal S1x1024 .f32) j = 0 := by
  unfold k0_pay5
  pointwise

theorem pay6_apply (j : S1x1024.Idx) : (k0_pay6 : FVec Ideal S1x1024 .f32) j = 0 := by
  unfold k0_pay6
  pointwise

end Cert.Kernel3Ideal.Up

end
-- ==== Proof.Up.Value.lean ====
/- The gradient through the up-projections and the norm: the four arrays the run leaves, as functions of the arguments. -/
module

public import proofs.«01_k».proof.Proof.Up.Cases

@[expose] public section

set_option maxRecDepth 16384

noncomputable section

namespace Cert.Kernel3Ideal.Up

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments: the gradients of the two projections, the weight, the rest of the gradient, the norm's input and its scale. -/
abbrev fhg (c : Dev nD) : Vec Ideal S8192x2816 .bf16 := m ((c : Thread nD τ).loc main_arg0)
abbrev fhv (c : Dev nD) : Vec Ideal S8192x2816 .bf16 := m ((c : Thread nD τ).loc main_arg1)
abbrev fw (c : Dev nD) : Vec Ideal S5632x1024 .bf16 := m ((c : Thread nD τ).loc main_arg2)
abbrev fr (c : Dev nD) : Vec Ideal S8192x1024 .f32 := m ((c : Thread nD τ).loc main_arg3)
abbrev fz (c : Dev nD) : Vec Ideal S8192x1024 .f32 := m ((c : Thread nD τ).loc main_arg4)
abbrev fg (c : Dev nD) : Vec Ideal S1x1024 .f32 := m ((c : Thread nD τ).loc main_arg5)

/-- The gradient that reaches the norm, at a row and a column. -/
def dx (c : Dev nD) (r : Fin 8192) (j : Fin 1024) : EReal :=
  Ideal.ofBits .f32 0x3FD744FD#32 * fr m c (ix2 r j) + ∑ k : Fin 2816, fhg m c (ix2 r k) * fw m c (ix2 ⟨k.val, by omega⟩ j)
    + ∑ k : Fin 2816, fhv m c (ix2 r k) * fw m c (ix2 ⟨2816 + k.val, by omega⟩ j)

/-- The norm's input along a row, and the gradient that reaches the normalized row. -/
def row (c : Dev nD) (r : Fin 8192) : Fin 1024 → EReal := fun k => fz m c (ix2 r k)
def dxh (c : Dev nD) (r : Fin 8192) : Fin 1024 → EReal := fun k => dx m c r k * fg m c (ix2 0 k)

/-- Where the blocks of point `t` lie. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

theorem index_out : ∀ t : Fin cfg0.N, win0_6.index t (0 : Fin 2) = t.val ∧ win0_6.index t (1 : Fin 2) = 0
    ∧ win0_7.index t (0 : Fin 2) = t.val ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The row of the arrays that row `p` of point `t`'s block is. -/
def at_ (t : Fin cfg0.N) (p : Fin 512) : Fin 8192 :=
  ⟨t.val * 512 + p.val, by have h : t.val < 16 := lt_of_lt_of_eq t.isLt N_0; have := p.isLt; omega⟩

theorem block_hg (c : Dev nD) (t : Fin cfg0.N) (p : Fin 512) (k : Fin 2816) :
    (iblk m c 0 t : Vec Ideal S512x2816 .bf16) (ix2 p k) = fhg m c (ix2 (at_ t p) k) := by
  obtain ⟨e0, e1, -⟩ := index_facts t
  show fhg m c (((cfg0.win 0).blk t).view.emb (ix2 p k)) = _
  congr 1
  funext a
  match a with
  | ⟨0, _⟩ => exact Fin.ext (by show win0_0.index t (0 : Fin 2) * 512 + 1 * p.val = _; rw [e0, one_mul]; rfl)
  | ⟨1, _⟩ => exact Fin.ext (by show win0_0.index t (1 : Fin 2) * 2816 + 1 * k.val = _; rw [e1, one_mul, Nat.zero_mul, Nat.zero_add]; rfl)

theorem block_hv (c : Dev nD) (t : Fin cfg0.N) (p : Fin 512) (k : Fin 2816) :
    (iblk m c 1 t : Vec Ideal S512x2816 .bf16) (ix2 p k) = fhv m c (ix2 (at_ t p) k) := by
  obtain ⟨-, -, e0, e1, -⟩ := index_facts t
  show fhv m c (((cfg0.win 1).blk t).view.emb (ix2 p k)) = _
  congr 1
  funext a
  match a with
  | ⟨0, _⟩ => exact Fin.ext (by show win0_1.index t (0 : Fin 2) * 512 + 1 * p.val = _; rw [e0, one_mul]; rfl)
  | ⟨1, _⟩ => exact Fin.ext (by show win0_1.index t (1 : Fin 2) * 2816 + 1 * k.val = _; rw [e1, one_mul, Nat.zero_mul, Nat.zero_add]; rfl)

theorem block_w (c : Dev nD) (t : Fin cfg0.N) (p : Fin 5632) (k : Fin 1024) :
    (iblk m c 2 t : Vec Ideal S5632x1024 .bf16) (ix2 p k) = fw m c (ix2 p k) := by
  obtain ⟨-, -, -, -, e0, e1, -⟩ := index_facts t
  show fw m c (((cfg0.win 2).blk t).view.emb (ix2 p k)) = _
  congr 1
  funext a
  match a with
  | ⟨0, _⟩ => exact Fin.ext (by show win0_2.index t (0 : Fin 2) * 5632 + 1 * p.val = _; rw [e0, one_mul, Nat.zero_mul, Nat.zero_add]; rfl)
  | ⟨1, _⟩ => exact Fin.ext (by show win0_2.index t (1 : Fin 2) * 1024 + 1 * k.val = _; rw [e1, one_mul, Nat.zero_mul, Nat.zero_add]; rfl)

theorem block_r (c : Dev nD) (t : Fin cfg0.N) (p : Fin 512) (k : Fin 1024) :
    (iblk m c 3 t : Vec Ideal S512x1024 .f32) (ix2 p k) = fr m c (ix2 (at_ t p) k) := by
  obtain ⟨-, -, -, -, -, -, e0, e1, -⟩ := index_facts t
  show fr m c (((cfg0.win 3).blk t).view.emb (ix2 p k)) = _
  congr 1
  funext a
  match a with
  | ⟨0, _⟩ => exact Fin.ext (by show win0_3.index t (0 : Fin 2) * 512 + 1 * p.val = _; rw [e0, one_mul]; rfl)
  | ⟨1, _⟩ => exact Fin.ext (by show win0_3.index t (1 : Fin 2) * 1024 + 1 * k.val = _; rw [e1, one_mul, Nat.zero_mul, Nat.zero_add]; rfl)

theorem block_z (c : Dev nD) (t : Fin cfg0.N) (p : Fin 512) (k : Fin 1024) :
    (iblk m c 4 t : Vec Ideal S512x1024 .f32) (ix2 p k) = fz m c (ix2 (at_ t p) k) := by
  obtain ⟨-, -, -, -, -, -, -, -, e0, e1, -⟩ := index_facts t
  show fz m c (((cfg0.win 4).blk t).view.emb (ix2 p k)) = _
  congr 1
  funext a
  match a with
  | ⟨0, _⟩ => exact Fin.ext (by show win0_4.index t (0 : Fin 2) * 512 + 1 * p.val = _; rw [e0, one_mul]; rfl)
  | ⟨1, _⟩ => exact Fin.ext (by show win0_4.index t (1 : Fin 2) * 1024 + 1 * k.val = _; rw [e1, one_mul, Nat.zero_mul, Nat.zero_add]; rfl)

theorem block_g (c : Dev nD) (t : Fin cfg0.N) (p : Fin 1) (k : Fin 1024) :
    (iblk m c 5 t : Vec Ideal S1x1024 .f32) (ix2 p k) = fg m c (ix2 p k) := by
  obtain ⟨-, -, -, -, -, -, -, -, -, -, e0, e1⟩ := index_facts t
  show fg m c (((cfg0.win 5).blk t).view.emb (ix2 p k)) = _
  congr 1
  funext a
  match a with
  | ⟨0, _⟩ => exact Fin.ext (by show win0_5.index t (0 : Fin 2) * 1 + 1 * p.val = _; rw [e0, one_mul, Nat.zero_mul, Nat.zero_add]; rfl)
  | ⟨1, _⟩ => exact Fin.ext (by show win0_5.index t (1 : Fin 2) * 1024 + 1 * k.val = _; rw [e1, one_mul, Nat.zero_mul, Nat.zero_add]; rfl)

/-! What one point computes, at an index. -/

abbrev pdx (c : Dev nD) (t : Fin cfg0.N) : FVec Ideal S512x1024 .f32 :=
  k0_pay7 (iblk m c 3 t) (iblk m c 0 t) (wGate (iblk m c 2 t)) (iblk m c 1 t) (wValue (iblk m c 2 t))
abbrev pdxh (c : Dev nD) (t : Fin cfg0.N) : FVec Ideal S512x1024 .f32 :=
  k0_pay11 (iblk m c 3 t) (iblk m c 0 t) (wGate (iblk m c 2 t)) (iblk m c 1 t) (wValue (iblk m c 2 t)) (iblk m c 5 t)

theorem point_dx (c : Dev nD) (t : Fin cfg0.N) (p : Fin 512) (j : Fin 1024) : pdx m c t (ix2 p j) = dx m c (at_ t p) j := by
  unfold dx
  refine (pay7_apply _ _ _ _ _ p j).trans ?_
  simp only [wGate_apply, wValue_apply, block_hg, block_hv, block_w, block_r]

theorem point_dxh (c : Dev nD) (t : Fin cfg0.N) (p : Fin 512) (j : Fin 1024) : pdxh m c t (ix2 p j) = dxh m c (at_ t p) j := by
  unfold dxh
  refine (pay11_apply _ _ _ _ _ _ p j).trans ?_
  rw [block_g]
  exact congrArg (· * _) (point_dx m c t p j)

theorem point_rstd (c : Dev nD) (t : Fin cfg0.N) (p : Fin 512) (j : Fin 1) :
    (k0_pay9 (iblk m c 4 t) : FVec Ideal S512x1 .f32) (ix2 p j) = rstd (row m c (at_ t p)) := by
  rw [pay9_apply]
  simp only [block_z]
  rfl

theorem point_nrm (c : Dev nD) (t : Fin cfg0.N) (p : Fin 512) (j : Fin 1024) :
    (k0_pay10 (iblk m c 4 t) : FVec Ideal S512x1024 .f32) (ix2 p j) = nrm (row m c (at_ t p)) j := by
  rw [pay10_apply]
  simp only [block_z]
  rfl

theorem point_dz (c : Dev nD) (t : Fin cfg0.N) (p : Fin 512) (j : Fin 1024) :
    (k0_pay1 (k0_pay9 (iblk m c 4 t)) (k0_pay10 (iblk m c 4 t)) (pdxh m c t) : FVec Ideal S512x1024 .f32) (ix2 p j)
      = grad (row m c (at_ t p)) (dxh m c (at_ t p)) j := by
  rw [pay1_apply]
  simp only [point_rstd, point_nrm, point_dxh]
  rfl

/-- The terms of the two sums over the rows (nothing beyond the last row). -/
def termG (c : Dev nD) (j : Fin 1024) (r : ℕ) : EReal := if h : r < 8192 then dx m c ⟨r, h⟩ j * nrm (row m c ⟨r, h⟩) j else 0
def termB (c : Dev nD) (j : Fin 1024) (r : ℕ) : EReal := if h : r < 8192 then dx m c ⟨r, h⟩ j else 0

theorem point_dg (c : Dev nD) (t : Fin cfg0.N) (acc : Vec Ideal S1x1024 .f32) (q : Fin 1) (j : Fin 1024) :
    (k0_pay3 (pdx m c t) (k0_pay10 (iblk m c 4 t)) acc : FVec Ideal S1x1024 .f32) (ix2 q j)
      = acc (ix2 q j) + ∑ p ∈ Finset.range 512, termG m c j (t.val * 512 + p) := by
  rw [pay3_apply, Finset.sum_range]
  congr 1
  refine Finset.sum_congr rfl fun p _ => ?_
  rw [point_dx, point_nrm]
  unfold termG
  have h : t.val * 512 + p.val < 8192 := (at_ t p).isLt
  rw [dif_pos h]
  rfl

theorem point_db (c : Dev nD) (t : Fin cfg0.N) (acc : Vec Ideal S1x1024 .f32) (q : Fin 1) (j : Fin 1024) :
    (k0_pay4 (pdx m c t) acc : FVec Ideal S1x1024 .f32) (ix2 q j)
      = acc (ix2 q j) + ∑ p ∈ Finset.range 512, termB m c j (t.val * 512 + p) := by
  rw [pay4_apply, Finset.sum_range]
  congr 1
  refine Finset.sum_congr rfl fun p _ => ?_
  rw [point_dx]
  unfold termB
  have h : t.val * 512 + p.val < 8192 := (at_ t p).isLt
  rw [dif_pos h]
  rfl

/-! The arrays the run leaves. -/

def Gz (c : Dev nD) : Vec Ideal S8192x1024 .f32 := fun i => grad (row m c (i 0)) (dxh m c (i 0)) (i 1)
def Gh (c : Dev nD) : Vec Ideal S8192x1024 .bf16 := fun i => grad (row m c (i 0)) (dxh m c (i 0)) (i 1)
def Gg (c : Dev nD) : Vec Ideal S1x1024 .f32 := fun i => ∑ r ∈ Finset.range 8192, termG m c (i 1) r
def Gb (c : Dev nD) : Vec Ideal S1x1024 .f32 := fun i => ∑ r ∈ Finset.range 8192, termB m c (i 1) r

/-- What point `t` leaves in the outputs, at an index: the norm's gradient of its rows, … -/
theorem outs_dz (c : Dev nD) (t : Fin cfg0.N) :
    (outsAt0 m c t.val t.isLt).1 = k0_pay1 (k0_pay9 (iblk m c 4 t)) (k0_pay10 (iblk m c 4 t)) (pdxh m c t) := by
  by_cases h0 : t.val % 16 = 0
  · rw [outsAt0_A m c t h0]
    dsimp only
    rw [out_A_6]
  · rw [outsAt0_B m c t h0]
    dsimp only
    rw [out_B_6]

theorem outs_dz_half (c : Dev nD) (t : Fin cfg0.N) :
    (outsAt0 m c t.val t.isLt).2.1 = k0_pay2 (k0_pay9 (iblk m c 4 t)) (k0_pay10 (iblk m c 4 t)) (pdxh m c t) := by
  by_cases h0 : t.val % 16 = 0
  · rw [outsAt0_A m c t h0]
    dsimp only
    rw [out_A_7]
  · rw [outsAt0_B m c t h0]
    dsimp only
    rw [out_B_7]

/-- … and the two sums over the rows seen so far. -/
theorem sums_eq (c : Dev nD) : ∀ (n : ℕ) (hn : n < cfg0.N) (q : Fin 1) (j : Fin 1024),
    (outsAt0 m c n hn).2.2.1 (ix2 q j) = ∑ r ∈ Finset.range ((n + 1) * 512), termG m c j r
    ∧ (outsAt0 m c n hn).2.2.2 (ix2 q j) = ∑ r ∈ Finset.range ((n + 1) * 512), termB m c j r := by
  intro n
  induction n with
  | zero =>
    intro hn q j
    have e := outsAt0_A m c ⟨0, hn⟩ (Nat.zero_mod 16)
    rw [show outsAt0 m c 0 hn = _ from e]
    dsimp only
    rw [out_A_8, out_A_9, point_dg, point_db, pay5_apply, pay6_apply, zero_add]
    simp only [Nat.zero_mul, Nat.zero_add, Nat.one_mul, zero_add]
    exact ⟨trivial, trivial⟩
  | succ n ih =>
    intro hn q j
    have hN : n + 1 < 16 := lt_of_lt_of_eq hn N_0
    have h0 : ¬(n + 1) % 16 = 0 := by omega
    obtain ⟨i1, i2⟩ := ih (Nat.lt_of_succ_lt hn) q j
    have e := outsAt0_B m c ⟨n + 1, hn⟩ h0
    rw [show outsAt0 m c (n + 1) hn = _ from e]
    dsimp only
    rw [out_B_8, out_B_9, point_dg, point_db]
    rw [show (n + 1 + 1) * 512 = (n + 1) * 512 + 512 by omega, Finset.sum_range_add, Finset.sum_range_add, ← i1, ← i2]
    exact ⟨rfl, rfl⟩

theorem flushed_dz (c : Dev nD) (t : Fin cfg0.N) :
    (dats m 0 c).flushed 6 t = ((cfg0.win 6).blk t).view.read (Elt Ideal) (Gz m c) := by
  obtain ⟨e0, e1, -⟩ := index_out t
  rw [Value.flushed6 m c t, outs_dz]
  funext y
  obtain ⟨p, j, rfl⟩ : ∃ (p : Fin 512) (j : Fin 1024), y = ix2 p j := ⟨y 0, y 1, by funext a; fin_cases a <;> rfl⟩
  refine (point_dz m c t p j).trans ?_
  show _ = Gz m c (((cfg0.win 6).blk t).view.emb (ix2 p j))
  have q : ((cfg0.win 6).blk t).view.emb (ix2 p j) = ix2 (at_ t p) j := by
    funext a
    match a with
    | ⟨0, _⟩ => exact Fin.ext (by show win0_6.index t (0 : Fin 2) * 512 + 1 * p.val = _; rw [e0, one_mul]; rfl)
    | ⟨1, _⟩ => exact Fin.ext (by show win0_6.index t (1 : Fin 2) * 1024 + 1 * j.val = _; rw [e1, one_mul, Nat.zero_mul, Nat.zero_add]; rfl)
  rw [q]
  rfl

theorem flushed_dz_half (c : Dev nD) (t : Fin cfg0.N) :
    (dats m 0 c).flushed 7 t = ((cfg0.win 7).blk t).view.read (Elt Ideal) (Gh m c) := by
  obtain ⟨-, -, e0, e1, -⟩ := index_out t
  rw [Value.flushed7 m c t, outs_dz_half]
  funext y
  obtain ⟨p, j, rfl⟩ : ∃ (p : Fin 512) (j : Fin 1024), y = ix2 p j := ⟨y 0, y 1, by funext a; fin_cases a <;> rfl⟩
  refine (pay2_apply _ _ _ _).trans ((point_dz m c t p j).trans ?_)
  show _ = Gh m c (((cfg0.win 7).blk t).view.emb (ix2 p j))
  have q : ((cfg0.win 7).blk t).view.emb (ix2 p j) = ix2 (at_ t p) j := by
    funext a
    match a with
    | ⟨0, _⟩ => exact Fin.ext (by show win0_7.index t (0 : Fin 2) * 512 + 1 * p.val = _; rw [e0, one_mul]; rfl)
    | ⟨1, _⟩ => exact Fin.ext (by show win0_7.index t (1 : Fin 2) * 1024 + 1 * j.val = _; rw [e1, one_mul, Nat.zero_mul, Nat.zero_add]; rfl)
  rw [q]
  rfl

theorem flushed_dg (c : Dev nD) (t : Fin cfg0.N) (hf : (cfg0.win 8).flush t = true) :
    (dats m 0 c).flushed 8 t = ((cfg0.win 8).blk t).view.read (Elt Ideal) (Gg m c) := by
  have h15 : t.val % 16 = 15 := (flush0_8 t).mp hf
  have hN : t.val < 16 := lt_of_lt_of_eq t.isLt N_0
  obtain ⟨-, -, -, -, e0, e1, -⟩ := index_out t
  rw [Value.flushed8 m c t]
  funext y
  obtain ⟨q, j, rfl⟩ : ∃ (q : Fin 1) (j : Fin 1024), y = ix2 q j := ⟨y 0, y 1, by funext a; fin_cases a <;> rfl⟩
  refine ((sums_eq m c t.val t.isLt q j).1).trans ?_
  show _ = Gg m c (((cfg0.win 8).blk t).view.emb (ix2 q j))
  have e : ((cfg0.win 8).blk t).view.emb (ix2 q j) = ix2 q j := by
    funext a
    match a with
    | ⟨0, _⟩ => exact Fin.ext (by show win0_8.index t (0 : Fin 2) * 1 + 1 * q.val = _; rw [e0, one_mul, Nat.zero_mul, Nat.zero_add]; rfl)
    | ⟨1, _⟩ => exact Fin.ext (by show win0_8.index t (1 : Fin 2) * 1024 + 1 * j.val = _; rw [e1, one_mul, Nat.zero_mul, Nat.zero_add]; rfl)
  rw [e]
  unfold Gg
  rw [show (t.val + 1) * 512 = 8192 by omega]
  rfl

theorem flushed_db (c : Dev nD) (t : Fin cfg0.N) (hf : (cfg0.win 9).flush t = true) :
    (dats m 0 c).flushed 9 t = ((cfg0.win 9).blk t).view.read (Elt Ideal) (Gb m c) := by
  have h15 : t.val % 16 = 15 := (flush0_9 t).mp hf
  have hN : t.val < 16 := lt_of_lt_of_eq t.isLt N_0
  obtain ⟨-, -, -, -, -, -, e0, e1⟩ := index_out t
  rw [Value.flushed9 m c t]
  funext y
  obtain ⟨q, j, rfl⟩ : ∃ (q : Fin 1) (j : Fin 1024), y = ix2 q j := ⟨y 0, y 1, by funext a; fin_cases a <;> rfl⟩
  refine ((sums_eq m c t.val t.isLt q j).2).trans ?_
  show _ = Gb m c (((cfg0.win 9).blk t).view.emb (ix2 q j))
  have e : ((cfg0.win 9).blk t).view.emb (ix2 q j) = ix2 q j := by
    funext a
    match a with
    | ⟨0, _⟩ => exact Fin.ext (by show win0_9.index t (0 : Fin 2) * 1 + 1 * q.val = _; rw [e0, one_mul, Nat.zero_mul, Nat.zero_add]; rfl)
    | ⟨1, _⟩ => exact Fin.ext (by show win0_9.index t (1 : Fin 2) * 1024 + 1 * j.val = _; rw [e1, one_mul, Nat.zero_mul, Nat.zero_add]; rfl)
  rw [e]
  unfold Gb
  rw [show (t.val + 1) * 512 = 8192 by omega]
  rfl

/-! Every index lies in a block that is written back. -/

theorem covered6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  obtain ⟨t, ht⟩ : ∃ t : Fin cfg0.N, t.val = (i 0).val / 512 := ⟨⟨(i 0).val / 512, lt_of_lt_of_eq (by omega) N_0.symm⟩, rfl⟩
  obtain ⟨e0, e1, -⟩ := index_out t
  refine ⟨t, flush0_6 t, ?_⟩
  have e : ((cfg0.win 6).blk t).view.emb (ix2 (⟨(i 0).val % 512, by omega⟩ : Fin 512) (⟨(i 1).val, h1⟩ : Fin 1024)) = i := by
    funext a
    match a with
    | ⟨0, _⟩ => exact Fin.ext (by show win0_6.index t (0 : Fin 2) * 512 + 1 * ((i 0).val % 512) = (i 0).val; rw [e0, ht]; omega)
    | ⟨1, _⟩ => exact Fin.ext (by show win0_6.index t (1 : Fin 2) * 1024 + 1 * (i 1).val = (i 1).val; rw [e1]; omega)
  rw [← e]
  exact View.emb_mem_set _ _

theorem covered7 (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  obtain ⟨t, ht⟩ : ∃ t : Fin cfg0.N, t.val = (i 0).val / 512 := ⟨⟨(i 0).val / 512, lt_of_lt_of_eq (by omega) N_0.symm⟩, rfl⟩
  obtain ⟨-, -, e0, e1, -⟩ := index_out t
  refine ⟨t, flush0_7 t, ?_⟩
  have e : ((cfg0.win 7).blk t).view.emb (ix2 (⟨(i 0).val % 512, by omega⟩ : Fin 512) (⟨(i 1).val, h1⟩ : Fin 1024)) = i := by
    funext a
    match a with
    | ⟨0, _⟩ => exact Fin.ext (by show win0_7.index t (0 : Fin 2) * 512 + 1 * ((i 0).val % 512) = (i 0).val; rw [e0, ht]; omega)
    | ⟨1, _⟩ => exact Fin.ext (by show win0_7.index t (1 : Fin 2) * 1024 + 1 * (i 1).val = (i 1).val; rw [e1]; omega)
  rw [← e]
  exact View.emb_mem_set _ _

theorem covered8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  obtain ⟨t, ht⟩ : ∃ t : Fin cfg0.N, t.val = 15 := ⟨⟨15, lt_of_lt_of_eq (by omega) N_0.symm⟩, rfl⟩
  obtain ⟨-, -, -, -, e0, e1, -⟩ := index_out t
  refine ⟨t, (flush0_8 t).mpr (by omega), ?_⟩
  have e : ((cfg0.win 8).blk t).view.emb (ix2 (⟨(i 0).val, h0⟩ : Fin 1) (⟨(i 1).val, h1⟩ : Fin 1024)) = i := by
    funext a
    match a with
    | ⟨0, _⟩ => exact Fin.ext (by show win0_8.index t (0 : Fin 2) * 1 + 1 * (i 0).val = (i 0).val; rw [e0]; omega)
    | ⟨1, _⟩ => exact Fin.ext (by show win0_8.index t (1 : Fin 2) * 1024 + 1 * (i 1).val = (i 1).val; rw [e1]; omega)
  rw [← e]
  exact View.emb_mem_set _ _

theorem covered9 (i : S1x1024.Idx) : ∃ t : Fin cfg0.N, (cfg0.win 9).flush t = true ∧ i ∈ ((cfg0.win 9).blk t).view.set := by
  have h0 : (i 0).val < 1 := (i 0).isLt
  have h1 : (i 1).val < 1024 := (i 1).isLt
  obtain ⟨t, ht⟩ : ∃ t : Fin cfg0.N, t.val = 15 := ⟨⟨15, lt_of_lt_of_eq (by omega) N_0.symm⟩, rfl⟩
  obtain ⟨-, -, -, -, -, -, e0, e1⟩ := index_out t
  refine ⟨t, (flush0_9 t).mpr (by omega), ?_⟩
  have e : ((cfg0.win 9).blk t).view.emb (ix2 (⟨(i 0).val, h0⟩ : Fin 1) (⟨(i 1).val, h1⟩ : Fin 1024)) = i := by
    funext a
    match a with
    | ⟨0, _⟩ => exact Fin.ext (by show win0_9.index t (0 : Fin 2) * 1 + 1 * (i 0).val = (i 0).val; rw [e0]; omega)
    | ⟨1, _⟩ => exact Fin.ext (by show win0_9.index t (1 : Fin 2) * 1024 + 1 * (i 1).val = (i 1).val; rw [e1]; omega)
  rw [← e]
  exact View.emb_mem_set _ _

/-- The kernel's run: the four results, the arguments as launched. -/
theorem run : θ_run defs (onTc (τ := τ) (main (F := Ideal))) ⟨m, fun _ => 0, ρ⟩ fun r => ∀ c : Dev nD,
      r.2.mem ((c : Thread nD τ).loc main_v0_0) = Gz m c
      ∧ r.2.mem ((c : Thread nD τ).loc main_v0_1) = Gh m c
      ∧ r.2.mem ((c : Thread nD τ).loc main_v0_2) = Gg m c
      ∧ r.2.mem ((c : Thread nD τ).loc main_v0_3) = Gb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨(h c).1.trans ((dats m 0 c).arrAt_eq_of_cover 6 _ (fun t _ => flushed_dz m c t) covered6),
      (h c).2.1.trans ((dats m 0 c).arrAt_eq_of_cover 7 _ (fun t _ => flushed_dz_half m c t) covered7),
      (h c).2.2.1.trans ((dats m 0 c).arrAt_eq_of_cover 8 _ (fun t hf => flushed_dg m c t hf) covered8),
      (h c).2.2.2.1.trans ((dats m 0 c).arrAt_eq_of_cover 9 _ (fun t hf => flushed_db m c t hf) covered9),
      (h c).2.2.2.2⟩)
    (Value.run_blocks m ρ)

end Cert.Kernel3Ideal.Up

end
-- ==== Proof.Up.Reference.lean ====
/- The reference's four results at an index: the norm's gradient as the derivatives of its steps, and the two sums over the
   rows. -/
module

public import proofs.«01_k».proof.Proof.Up.Row
public import proofs.«01_k».proof.Proof.Gen.Reference3Ideal.Read

@[expose] public section

set_option maxRecDepth 16384

noncomputable section

namespace Cert.Reference3Ideal.Steps

open Cert.Reference3Ideal Cert.Reference3Ideal.Read Idealize.ShloMosaic
open Cert.Kernel3Ideal.Up (ctr vare rstd nrm through gradSteps)

variable (x0 x1 : (⟨S8192x2816, .bf16⟩ : BufTy).Contents (Elt Ideal)) (x2 : (⟨S5632x1024, .bf16⟩ : BufTy).Contents (Elt Ideal)) (x3 x4 : (⟨S8192x1024, .f32⟩ : BufTy).Contents (Elt Ideal)) (x5 : (⟨S1x1024, .f32⟩ : BufTy).Contents (Elt Ideal))

/-- The gradient that reaches the norm, at a row and a column. -/
def dx (r : Fin 8192) (j : Fin 1024) : EReal :=
  Ideal.ofBits .f32 0x3FD744FD#32 * x3 (ix2 r j) + ∑ k : Fin 2816, x1 (ix2 r k) * x2 (ix2 ⟨2816 + k.val, by omega⟩ j)
    + ∑ k : Fin 2816, x0 (ix2 r k) * x2 (ix2 ⟨k.val, by omega⟩ j)

theorem dx_eq (r : Fin 8192) (j : Fin 1024) : val_main_v48 (F := Ideal) x0 x1 x2 x3 (ix2 r j) = dx x0 x1 x2 x3 r j := by
  unfold dx
  unfold val_main_v48 val_main_v46 val_main_v47 val_main_v45 val_main_v44 val_main_v43 val_main_v6 val_main_v5 val_main_v4 val_main_v3 val_main_v2 val_main_v1 val_main_v0
  pointwise [val_main_cst_8]

theorem ctr_eq (r : Fin 8192) (j : Fin 1024) : val_main_v15 (F := Ideal) x4 (ix2 r j) = ctr (fun k => x4 (ix2 r k)) j := by
  unfold ctr
  unfold val_main_v15 val_main_v14 val_main_v13 val_main_v12 val_main_v11 val_main_v10
  pointwise [val_main_cst_0, val_main_cst_1]

theorem ctr_eq' (r : Fin 8192) (j : Fin 1024) : val_main_v24 (F := Ideal) x4 (ix2 r j) = ctr (fun k => x4 (ix2 r k)) j := ctr_eq x4 r j

theorem vare_eq (r : Fin 8192) (j : Fin 1) : val_main_v26 (F := Ideal) x4 (ix2 r j) = vare (fun k => x4 (ix2 r k)) := by
  unfold vare
  unfold val_main_v26 val_main_v25 val_main_v22 val_main_v21 val_main_v20 val_main_v19 val_main_v16
  pointwise [val_main_cst_3, val_main_cst_4, val_main_cst_5]
  simp only [ctr_eq]

theorem rstd_eq (r : Fin 8192) (j : Fin 1) : val_main_v27 (F := Ideal) x4 (ix2 r j) = rstd (fun k => x4 (ix2 r k)) := by
  unfold rstd
  unfold val_main_v27
  pointwise
  rw [vare_eq]

theorem nrm_eq (r : Fin 8192) (j : Fin 1024) : val_main_v32 (F := Ideal) x4 (ix2 r j) = nrm (fun k => x4 (ix2 r k)) j := by
  unfold nrm
  unfold val_main_v32 val_main_v31
  pointwise
  rw [ctr_eq', rstd_eq]

/-- The gradient that reaches the normalized row. -/
theorem dxh_eq (r : Fin 8192) (j : Fin 1024) :
    val_main_v56 (F := Ideal) x0 x1 x2 x3 x5 (ix2 r j) = dx x0 x1 x2 x3 r j * x5 (ix2 0 j) := by
  unfold val_main_v56 val_main_v55 val_main_v33 val_main_v7
  pointwise
  rw [dx_eq]

theorem through_eq (r : Fin 8192) (j : Fin 1024) :
    val_main_v71 (F := Ideal) x0 x1 x2 x3 x4 x5 (ix2 r j) = through (fun k => x4 (ix2 r k)) (fun k => dx x0 x1 x2 x3 r k * x5 (ix2 0 k)) j := by
  unfold through
  unfold val_main_v71 val_main_v70 val_main_v69 val_main_v68 val_main_v67 val_main_v63 val_main_v60 val_main_v59 val_main_v58 val_main_v30 val_main_v29 val_main_v28 val_main_v18 val_main_v17
  pointwise [val_main_cst_2, val_main_cst_6, val_main_cst_13, val_main_cst_15, val_main_cst_16]
  simp only [ctr_eq, ctr_eq', vare_eq, rstd_eq, dxh_eq, Fin.sum_univ_one]

/-- The gradient of the norm's input, … -/
theorem dz_eq (r : Fin 8192) (j : Fin 1024) :
    val_main_v81 (F := Ideal) x0 x1 x2 x3 x4 x5 (ix2 r j) = gradSteps (fun k => x4 (ix2 r k)) (fun k => dx x0 x1 x2 x3 r k * x5 (ix2 0 k)) j := by
  unfold gradSteps
  unfold val_main_v81 val_main_v80 val_main_v79 val_main_v78 val_main_v77 val_main_v76 val_main_v75 val_main_v74 val_main_v73 val_main_v72 val_main_v66 val_main_v65 val_main_v64 val_main_v62 val_main_v61
  pointwise [val_main_cst_14, val_main_cst_17, val_main_cst_18, val_main_cst_19]
  simp only [through_eq, rstd_eq, dxh_eq, Fin.sum_univ_one]

/-- … the same rounded, … -/
theorem dz_half_eq (y : S8192x1024.Idx) :
    (val_main_v82 (F := Ideal) x0 x1 x2 x3 x4 x5 : FVec Ideal S8192x1024 .bf16) y = (val_main_v81 (F := Ideal) x0 x1 x2 x3 x4 x5 : FVec Ideal S8192x1024 .f32) y := by
  unfold val_main_v82
  pointwise

/-- … the scale's gradient, … -/
theorem dg_eq (q : Fin 1) (j : Fin 1024) :
    val_main_v83 (F := Ideal) x0 x1 x2 x3 x4 (ix2 q j) = ∑ r : Fin 8192, nrm (fun k => x4 (ix2 r k)) j * dx x0 x1 x2 x3 r j := by
  unfold val_main_v83 val_main_v57 val_main_v54 val_main_v53 val_main_v52
  pointwise [val_main_cst_11, val_main_cst_12]
  simp only [nrm_eq, dx_eq, Fin.sum_univ_one]

/-- … and the shift's. -/
theorem db_eq (q : Fin 1) (j : Fin 1024) :
    val_main_v84 (F := Ideal) x0 x1 x2 x3 (ix2 q j) = ∑ r : Fin 8192, dx x0 x1 x2 x3 r j := by
  unfold val_main_v84 val_main_v51 val_main_v50 val_main_v49
  pointwise [val_main_cst_9, val_main_cst_10]
  simp only [dx_eq, Fin.sum_univ_one]

end Cert.Reference3Ideal.Steps

end
-- ==== Proof.Up.Equation.lean ====
/- The gradient through the up-projections and the norm: when the arguments but the norm's input are real numbers the reference's four results are the
   arrays the kernel's run leaves. -/
module

public import proofs.«01_k».proof.Proof.Up.Value
public import proofs.«01_k».proof.Proof.Up.Reference
public import proofs.«01_k».proof.Proof.Up.Finite

@[expose] public section

set_option maxRecDepth 16384

noncomputable section

namespace Cert.Kernel3Ideal.Up

open Cert.Kernel3Ideal Cert.Kernel3Ideal.Gen Idealize.ShloMosaic Idealize.ShloMosaic.TcCoe Idealize.SL.Sem
open Cert.Reference3Ideal.Read

variable (m : (ℓ : Loc nD τ sig) → Buf (Elt Ideal) ℓ)

/-- The entries of every argument but the norm's input are real numbers. -/
def AllReal (c : Dev nD) : Prop :=
  (∀ i, IsReal (fhg m c i)) ∧ (∀ i, IsReal (fhv m c i)) ∧ (∀ i, IsReal (fw m c i)) ∧ (∀ i, IsReal (fr m c i)) ∧ (∀ i, IsReal (fg m c i))

/-- The two orders in which the products are added to the rest of the gradient. -/
theorem dx_ref (c : Dev nD) (r : Fin 8192) (j : Fin 1024) :
    Cert.Reference3Ideal.Steps.dx (fhg m c) (fhv m c) (fw m c) (fr m c) r j = dx m c r j := by
  unfold Cert.Reference3Ideal.Steps.dx dx
  exact add_right_comm _ _ _

theorem dx_real (c : Dev nD) (h : AllReal m c) (r : Fin 8192) (j : Fin 1024) : IsReal (dx m c r j) := by
  obtain ⟨h0, h1, h2, h3, -⟩ := h
  unfold dx
  exact ((IsReal.mul ofBits_alpha (h3 _)).add (IsReal.sum _ _ fun k => (h0 _).mul (h2 _))).add (IsReal.sum _ _ fun k => (h1 _).mul (h2 _))

/-- A row with an infinite entry has an infinite variance, … -/
theorem vare_top (z : Fin 1024 → EReal) (k : Fin 1024) (hk : ¬IsReal (z k)) : vare z = ⊤ := by
  obtain ⟨e, -, eE⟩ := ofBits_eps
  have n0 : (1024 : ℝ) ≠ 0 := by norm_num
  have hs : ¬IsReal (∑ l, z l) := fun h => hk (IsReal.of_sum _ _ h k (Finset.mem_univ k))
  have hd : ¬IsReal (-Ideal.div (∑ l, z l) (Ideal.ofBits .f32 0x44800000#32)) := by
    rw [ofBits_1024, Ideal.div_coe n0]
    have p : (0 : ℝ) < 1 / 1024 := by norm_num
    generalize (∑ l, z l) = x at hs ⊢
    induction x using EReal.rec with
    | coe r => exact absurd ⟨r, rfl⟩ hs
    | bot => rw [EReal.bot_mul_coe_of_pos p]; rintro ⟨r, h⟩; exact absurd h (EReal.top_ne_coe _)
    | top => rw [EReal.top_mul_coe_of_pos p]; rintro ⟨r, h⟩; exact absurd h (EReal.bot_ne_coe _)
  have hc : ctr z k * ctr z k = ⊤ := by
    have : ¬IsReal (ctr z k) := fun h => hd (IsReal.of_add (x := z k) (by unfold ctr at h; rwa [sub_eq_add_neg] at h)).2
    generalize ctr z k = x at this ⊢
    induction x using EReal.rec with
    | coe r => exact absurd ⟨r, rfl⟩ this
    | bot => rfl
    | top => rfl
  have ht : (∑ l, ctr z l * ctr z l) = ⊤ := by
    refine top_le_iff.1 (hc ▸ Finset.single_le_sum (f := fun l => ctr z l * ctr z l) (fun l _ => ?_) (Finset.mem_univ k))
    show (0 : EReal) ≤ ctr z l * ctr z l
    generalize ctr z l = x
    induction x using EReal.rec with
    | coe r => rw [← EReal.coe_mul]; exact EReal.coe_nonneg.2 (mul_self_nonneg r)
    | bot => exact le_top
    | top => exact le_top
  unfold vare
  rw [ht, ofBits_1024, Ideal.div_coe n0, EReal.top_mul_coe_of_pos (by norm_num), eE, EReal.top_add_coe]

/-- … so both forms of its gradient are zero. -/
theorem grad_zero (z d : Fin 1024 → EReal) (k : Fin 1024) (hk : ¬IsReal (z k)) (j : Fin 1024) :
    gradSteps z d j = grad z d j := by
  have hv := vare_top z k hk
  have hs : rstd z = 0 := by unfold rstd; rw [hv, Ideal.rsqrt_top]
  have h0 : Ideal.div 0 ⊤ = 0 := by unfold Ideal.div; rw [if_neg EReal.top_ne_zero, zero_mul]
  have n0 : (1024 : ℝ) ≠ 0 := by norm_num
  have ht : ∀ l, through z d l = 0 := fun l => by
    unfold through
    rw [hs, hv, h0, mul_zero, mul_zero, ofBits_1024, Ideal.div_coe n0, zero_mul, zero_mul]
  unfold gradSteps grad
  simp only [ht, hs, mul_zero, neg_zero, Finset.sum_const_zero, zero_mul, add_zero]
  rw [ofBits_1024, Ideal.div_coe n0, zero_mul, add_zero]

/-- Whatever the norm's input, the steps' gradient is the closed form. -/
theorem grad_ref (c : Dev nD) (h : AllReal m c) (r : Fin 8192) (j : Fin 1024) :
    gradSteps (row m c r) (dxh m c r) j = grad (row m c r) (dxh m c r) j := by
  obtain ⟨d, hd⟩ : ∃ d : Fin 1024 → ℝ, ∀ k, dxh m c r k = (d k : EReal) :=
    Classical.axiom_of_choice fun k => (dx_real m c h r k).mul (h.2.2.2.2 (ix2 0 k))
  by_cases hz : ∀ k, IsReal (row m c r k)
  · obtain ⟨z, hz⟩ : ∃ z : Fin 1024 → ℝ, ∀ k, row m c r k = (z k : EReal) := Classical.axiom_of_choice hz
    rw [funext hz, funext hd]
    exact gradSteps_eq z d j
  · obtain ⟨k, hk⟩ := not_forall.1 hz
    exact grad_zero _ _ k hk j

theorem reference_dz (c : Dev nD) (h : AllReal m c) :
    val_main_v81 (F := Ideal) (fhg m c) (fhv m c) (fw m c) (fr m c) (fz m c) (fg m c) = Gz m c := by
  funext i
  obtain ⟨r, j, rfl⟩ : ∃ (r : Fin 8192) (j : Fin 1024), i = ix2 r j := ⟨i 0, i 1, by funext a; fin_cases a <;> rfl⟩
  refine (Cert.Reference3Ideal.Steps.dz_eq _ _ _ _ _ _ r j).trans ?_
  simp only [dx_ref]
  exact grad_ref m c h r j

theorem reference_dz_half (c : Dev nD) (h : AllReal m c) :
    val_main_v82 (F := Ideal) (fhg m c) (fhv m c) (fw m c) (fr m c) (fz m c) (fg m c) = Gh m c := by
  funext i
  exact (Cert.Reference3Ideal.Steps.dz_half_eq _ _ _ _ _ _ i).trans (congrFun (reference_dz m c h) i)

theorem reference_dg (c : Dev nD) :
    val_main_v83 (F := Ideal) (fhg m c) (fhv m c) (fw m c) (fr m c) (fz m c) = Gg m c := by
  funext i
  obtain ⟨q, j, rfl⟩ : ∃ (q : Fin 1) (j : Fin 1024), i = ix2 q j := ⟨i 0, i 1, by funext a; fin_cases a <;> rfl⟩
  refine (Cert.Reference3Ideal.Steps.dg_eq _ _ _ _ _ q j).trans ?_
  unfold Gg
  rw [Finset.sum_range]
  refine Finset.sum_congr rfl fun r _ => ?_
  unfold termG
  rw [dif_pos r.isLt, dx_ref]
  exact mul_comm _ _

theorem reference_db (c : Dev nD) :
    val_main_v84 (F := Ideal) (fhg m c) (fhv m c) (fw m c) (fr m c) = Gb m c := by
  funext i
  obtain ⟨q, j, rfl⟩ : ∃ (q : Fin 1) (j : Fin 1024), i = ix2 q j := ⟨i 0, i 1, by funext a; fin_cases a <;> rfl⟩
  refine (Cert.Reference3Ideal.Steps.db_eq _ _ _ _ q j).trans ?_
  unfold Gb
  rw [Finset.sum_range]
  refine Finset.sum_congr rfl fun r _ => ?_
  unfold termB
  rw [dif_pos r.isLt, dx_ref]
  rfl

end Cert.Kernel3Ideal.Up

end
-- ==== Proof.GateDw.Cases.lean ====
/- The gradient of a product by its right factor, `aᵀ·dz`, summed block by block along the tokens: what each case of the body
   leaves in the accumulator and in the output, as values. -/
module

public import proofs.«01_k».proof.Proof.Gen.Kernel4Ideal.Frame
public import Idealize.ShloMosaic.Lib.Pipeline.Value
public import Idealize.ShloMosaic.Lib.Tactic
public import Idealize.ShloMosaic.Lib.Pointwise

@[expose] public section

set_option maxRecDepth 16384

noncomputable section

namespace Cert.Kernel4Ideal.GateDw

open Cert.Kernel4Ideal Cert.Kernel4Ideal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

section cases

variable (c : Dev nD) (i : grid0.Coords)
  (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x0 : Vec F S2048x1408 .bf16) (x1 : Vec F S2048x1024 .bf16) (acc : Vec F S1408x1024 .f32)

/-- The first block of a sweep: the accumulator is cleared, then the block's product is added. -/
theorem acc_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) zero2, View.readCov_unit_zero (S := S1408x1024) _ zero2]
  simp only [View.readAt_eq_ld, h3.read_unread, h4.read_unread, View.ld_unit_zero (S := S2048x1408) zero2, View.ld_unit_zero (S := S2048x1024) zero2]

/-- A block in the middle of a sweep: its product is added to the accumulator. -/
theorem acc_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero zero2]
  simp only [View.readAt_eq_ld, h3.read_unread, h4.read_unread, h6.read_unread, View.ld_unit_zero (S := S2048x1408) zero2, View.ld_unit_zero (S := S2048x1024) zero2, View.ld_unit_zero (S := S1408x1024) zero2]

/-- The last block of a sweep: its product is added to the accumulator … -/
theorem acc_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero zero2]
  simp only [View.readAt_eq_ld, h3.read_unread, h4.read_unread, h6.read_unread, View.ld_unit_zero (S := S2048x1408) zero2, View.ld_unit_zero (S := S2048x1024) zero2, View.ld_unit_zero (S := S1408x1024) zero2]

/-- … and the sum is what the output takes. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero zero2, View.readCov_unit_zero (S := S1408x1024) _ zero2]
  simp only [View.readAt_eq_ld, h3.read_unread, h4.read_unread, h6.read_unread, View.ld_unit_zero (S := S2048x1408) zero2, View.ld_unit_zero (S := S2048x1024) zero2, View.ld_unit_zero (S := S1408x1024) zero2]

end cases

/-- One block's product at an index: the sum over the block's tokens. -/
theorem pay2_apply (acc : Vec Ideal S1408x1024 .f32) (x0 : Vec Ideal S2048x1408 .bf16) (x1 : Vec Ideal S2048x1024 .bf16) (y : S1408x1024.Idx) :
    k0_pay2 acc x0 x1 y = acc y + ∑ k : Fin 2048, x0 (ix2 k (y 0)) * x1 (ix2 k (y 1)) := by
  unfold k0_pay2
  pointwise

theorem pay1_apply (y : S1408x1024.Idx) : (k0_pay1 : FVec Ideal S1408x1024 .f32) y = 0 := by
  unfold k0_pay1
  pointwise

theorem pay3_apply (acc : Vec Ideal S1408x1024 .f32) (y : S1408x1024.Idx) : k0_pay3 acc y = acc y := by
  unfold k0_pay3
  pointwise

end Cert.Kernel4Ideal.GateDw

end
-- ==== Proof.GateDw.Value.lean ====
/- The gradient of the gate half of the FFN's first weight: the accumulator is the running sum over the tokens seen so far, so
   the first half of the array's rows ends holding the whole sum, and those rows are what the program returns. -/
module

public import proofs.«01_k».proof.Proof.GateDw.Cases
public import proofs.«01_k».proof.Proof.Gen.Reference4Ideal.Read

@[expose] public section

set_option maxRecDepth 16384

noncomputable section

namespace Cert.Kernel4Ideal.GateDw

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The two factors: `a`, one row per token, and `dz`, one row per token. -/
abbrev fa (c : Dev nD) : Vec Ideal S8192x2816 .bf16 := m ((c : Thread nD τ).loc main_arg0)
abbrev fz (c : Dev nD) : Vec Ideal S8192x1024 .bf16 := m ((c : Thread nD τ).loc main_arg1)

/-- The product at a row of the result and a column, over one token (nothing beyond the last token). -/
def term (c : Dev nD) (p q : ℕ) (k : ℕ) : EReal :=
  if h : k < 8192 ∧ p < 2816 ∧ q < 1024 then fa m c (ix2 ⟨k, h.1⟩ ⟨p, h.2.1⟩) * fz m c (ix2 ⟨k, h.1⟩ ⟨q, h.2.2⟩) else 0

/-- Where the blocks of point `t` lie. -/
theorem index_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

theorem block_a (c : Dev nD) (t : Fin cfg0.N) (k : Fin 2048) (p : Fin 1408) (h0 : t.val % 4 * 2048 + k.val < 8192)
    (h1 : t.val / 4 * 1408 + p.val < 2816) :
    (iblk m c 0 t : Vec Ideal S2048x1408 .bf16) (ix2 k p) = fa m c (ix2 ⟨t.val % 4 * 2048 + k.val, h0⟩ ⟨t.val / 4 * 1408 + p.val, h1⟩) := by
  obtain ⟨e0, e1, -⟩ := index_facts t
  show fa m c (((cfg0.win 0).blk t).view.emb (ix2 k p)) = _
  congr 1
  funext a
  match a with
  | ⟨0, _⟩ => exact Fin.ext (by show win0_0.index t (0 : Fin 2) * 2048 + 1 * k.val = _; rw [e0, one_mul]; rfl)
  | ⟨1, _⟩ => exact Fin.ext (by show win0_0.index t (1 : Fin 2) * 1408 + 1 * p.val = _; rw [e1, one_mul]; rfl)

theorem block_z (c : Dev nD) (t : Fin cfg0.N) (k : Fin 2048) (q : Fin 1024) (h0 : t.val % 4 * 2048 + k.val < 8192) :
    (iblk m c 1 t : Vec Ideal S2048x1024 .bf16) (ix2 k q) = fz m c (ix2 ⟨t.val % 4 * 2048 + k.val, h0⟩ q) := by
  obtain ⟨-, -, e0, e1, -⟩ := index_facts t
  show fz m c (((cfg0.win 1).blk t).view.emb (ix2 k q)) = _
  congr 1
  funext a
  match a with
  | ⟨0, _⟩ => exact Fin.ext (by show win0_1.index t (0 : Fin 2) * 2048 + 1 * k.val = _; rw [e0, one_mul]; rfl)
  | ⟨1, _⟩ => exact Fin.ext (by show win0_1.index t (1 : Fin 2) * 1024 + 1 * q.val = _; rw [e1, one_mul, Nat.zero_mul, Nat.zero_add]; rfl)

/-- One point's product, as the sum over the tokens of its block. -/
theorem point_sum (c : Dev nD) (t : Fin cfg0.N) (acc : Vec Ideal S1408x1024 .f32) (y : S1408x1024.Idx) :
    k0_pay2 acc (iblk m c 0 t) (iblk m c 1 t) y
      = acc y + ∑ k ∈ Finset.range 2048, term m c (t.val / 4 * 1408 + (y 0).val) (y 1).val (t.val % 4 * 2048 + k) := by
  have hN : t.val < 8 := lt_of_lt_of_eq t.isLt N_0
  have hy0 : (y 0).val < 1408 := (y 0).isLt
  have hy1 : (y 1).val < 1024 := (y 1).isLt
  rw [pay2_apply, Finset.sum_range]
  congr 1
  refine Finset.sum_congr rfl fun k _ => ?_
  have hk := k.isLt
  rw [block_a m c t k (y 0) (by omega) (by omega), block_z m c t k (y 1) (by omega)]
  unfold term
  rw [dif_pos ⟨by omega, by omega, hy1⟩]
  rfl

/-- After point `n` the accumulator is the sum over the tokens its sweep has seen. -/
theorem acc_eq (c : Dev nD) : ∀ (n : ℕ) (hn : n < cfg0.N) (y : S1408x1024.Idx),
    (outsAt0 m c n hn).2 y = ∑ k ∈ Finset.range ((n % 4 + 1) * 2048), term m c (n / 4 * 1408 + (y 0).val) (y 1).val k := by
  intro n
  induction n with
  | zero =>
    intro hn y
    have e := outsAt0_A m c ⟨0, hn⟩ (Nat.zero_mod 4) (by show ¬(0 % 4 = 3); omega)
    rw [show outsAt0 m c 0 hn = _ from e]
    dsimp only
    rw [acc_A, point_sum, pay1_apply, zero_add]
    simp only [Nat.zero_mod, Nat.zero_mul, Nat.zero_add, Nat.one_mul]
  | succ n ih =>
    intro hn y
    have hN : n + 1 < 8 := lt_of_lt_of_eq hn N_0
    by_cases h0 : (n + 1) % 4 = 0
    · have h1 : ¬(n + 1) % 4 = 3 := by omega
      have e := outsAt0_A m c ⟨n + 1, hn⟩ h0 h1
      rw [show outsAt0 m c (n + 1) hn = _ from e]
      dsimp only
      rw [acc_A, point_sum, pay1_apply, zero_add]
      simp only [h0, Nat.zero_mul, Nat.zero_add, Nat.one_mul]
    · have step : (outsAt0 m c (n + 1) hn).2 = k0_pay2 (outsAt0 m c n (Nat.lt_of_succ_lt hn)).2 (iblk m c 0 ⟨n + 1, hn⟩) (iblk m c 1 ⟨n + 1, hn⟩) := by
        by_cases h1 : (n + 1) % 4 = 3
        · have e := outsAt0_C m c ⟨n + 1, hn⟩ h0 h1
          rw [show outsAt0 m c (n + 1) hn = _ from e]
          dsimp only
          rw [acc_C]
          rfl
        · have e := outsAt0_B m c ⟨n + 1, hn⟩ h0 h1
          rw [show outsAt0 m c (n + 1) hn = _ from e]
          dsimp only
          rw [acc_B]
          rfl
      rw [step, point_sum, ih]
      dsimp only
      have d : (n + 1) / 4 = n / 4 := by omega
      have r : (n + 1) % 4 = n % 4 + 1 := by omega
      rw [d, r, show (n % 4 + 1 + 1) * 2048 = (n % 4 + 1) * 2048 + 2048 by omega, Finset.sum_range_add]

/-- What the run leaves in the rows it writes: the whole sum over the tokens. -/
def full (c : Dev nD) : Vec Ideal S5632x1024 .bf16 := fun i => ∑ k ∈ Finset.range 8192, term m c (i 0).val (i 1).val k

/-- The result: the first 2816 of those rows. -/
def G (c : Dev nD) : Vec Ideal S2816x1024 .bf16 := fun i => ∑ k ∈ Finset.range 8192, term m c (i 0).val (i 1).val k

theorem flushed_eq (c : Dev nD) (t : Fin cfg0.N) (hf : (cfg0.win 2).flush t = true) :
    (dats m 0 c).flushed 2 t = ((cfg0.win 2).blk t).view.read (Elt Ideal) (full m c) := by
  have h3 : t.val % 4 = 3 := (flush0_2 t).mp hf
  have h0 : ¬t.val % 4 = 0 := by omega
  have hN : t.val < 8 := lt_of_lt_of_eq t.isLt N_0
  obtain ⟨-, -, -, -, e0, e1⟩ := index_facts t
  have e := outsAt0_C m c t h0 h3
  rw [show (dats m 0 c).flushed 2 t = (cfg0.win 2).cut (grid0.coords t) (outsAt0 m c t.val t.isLt).1 from rfl, e]
  dsimp only
  rw [out_C]
  funext y
  show (k0_pay3 (F := Ideal) _ : Vec Ideal S1408x1024 .bf16) y = full m c (((cfg0.win 2).blk t).view.emb y)
  rw [pay3_apply, point_sum, acc_eq]
  have q0 : (((cfg0.win 2).blk t).view.emb y 0).val = t.val / 4 * 1408 + (y 0).val := by
    show win0_2.index t (0 : Fin 2) * 1408 + 1 * (y 0).val = _
    rw [e0, one_mul]
  have q1 : (((cfg0.win 2).blk t).view.emb y 1).val = (y 1).val := by
    show win0_2.index t (1 : Fin 2) * 1024 + 1 * (y 1).val = _
    rw [e1, one_mul, Nat.zero_mul, Nat.zero_add]
  have d : (t.val - 1) / 4 = t.val / 4 := by omega
  have r : (t.val - 1) % 4 + 1 = 3 := by omega
  unfold full
  rw [q0, q1, d, r, h3]
  exact (Finset.sum_range_add _ 6144 2048).symm

/-- An index in the first half of the rows lies in a block that is written back. -/
theorem written (i : S5632x1024.Idx) (h : (i 0).val < 2816) :
    ∃ t : Fin cfg0.N, (cfg0.win 2).flush t = true ∧ i ∈ ((cfg0.win 2).blk t).view.set := by
  have h1 : (i 1).val < 1024 := (i 1).isLt
  obtain ⟨t, ht⟩ : ∃ t : Fin cfg0.N, t.val = (i 0).val / 1408 * 4 + 3 :=
    ⟨⟨(i 0).val / 1408 * 4 + 3, lt_of_lt_of_eq (by omega) N_0.symm⟩, rfl⟩
  obtain ⟨-, -, -, -, e0, e1⟩ := index_facts t
  refine ⟨t, (flush0_2 t).mpr (by omega), ?_⟩
  have e : ((cfg0.win 2).blk t).view.emb (ix2 (⟨(i 0).val % 1408, by omega⟩ : Fin 1408) (⟨(i 1).val, h1⟩ : Fin 1024)) = i := by
    funext a
    match a with
    | ⟨0, _⟩ => exact Fin.ext (by show win0_2.index t (0 : Fin 2) * 1408 + 1 * ((i 0).val % 1408) = (i 0).val; rw [e0, ht]; omega)
    | ⟨1, _⟩ => exact Fin.ext (by show win0_2.index t (1 : Fin 2) * 1024 + 1 * (i 1).val = (i 1).val; rw [e1]; omega)
  rw [← e]
  exact View.emb_mem_set _ _

/-- The first half of the rows, after the run. -/
theorem final_at (c : Dev nD) (i : S5632x1024.Idx) (h : (i 0).val < 2816) : (dats m 0 c).arrAt 2 cfg0.N i = full m c i := by
  obtain ⟨t, hf, hi⟩ := written i h
  exact (dats m 0 c).arrAt_apply_of_mem 2 (full m c) (fun t hf => flushed_eq m c t hf) cfg0.N t i t.isLt hf hi

/-- The rows the program returns. -/
theorem sliced (c : Dev nD) :
    Pipeline.afterTail₀ cfgs (dats m) 0 (V0 m) [hostOps1] c main_v1 = G m c := by
  have e : Pipeline.afterTail₀ cfgs (dats m) 0 (V0 m) [hostOps1] c main_v1
      = extractStridedSlice S2816x1024 ![0, 0] ((dats m 0 c).arrAt 2 cfg0.N : Vec Ideal S5632x1024 .bf16) slices_S5632x1024_S2816x1024_0_0 := by
    unfold Pipeline.afterTail₀
    show StableHlo.after hostOps1 _ (Proc.devRef .tc main_v1) = _
    rw [StableHlo.after_cons, StableHlo.after_nil, StableHlo.unary_result main_v0 main_v1 _ _ _ _]
    exact congrArg (extractStridedSlice S2816x1024 ![0, 0] · slices_S5632x1024_S2816x1024_0_0)
      (Pipeline.withArrays_arr (cfgs 0).spec (launch0.win.arr_inj) c (V0 m c) (fun w => (dats m 0 c).arrAt w (cfgs 0).N) 2)
  rw [e]
  funext i
  have h0 : (i 0).val < 2816 := (i 0).isLt
  have h1 : (i 1).val < 1024 := (i 1).isLt
  rw [extractStridedSlice_apply ![0, 0] _ slices_S5632x1024_S2816x1024_0_0 i (ix2 ⟨(i 0).val, by omega⟩ ⟨(i 1).val, h1⟩)
    (fun a => match a with | ⟨0, _⟩ => (Nat.zero_add _).symm | ⟨1, _⟩ => (Nat.zero_add _).symm)]
  exact final_at m c _ h0

/-- The kernel's run: the result is the sum over all tokens, the arguments are as launched. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v1 (Pipeline.mem_restRefs_of main_v1 (by decide) (by decide))).trans (sliced m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The reference's product at an index: the same sum. -/
theorem reference_eq (c : Dev nD) :
    Cert.Reference4Ideal.Read.val_main_v7 (F := Ideal) (fa m c) (fz m c) = G m c := by
  funext i
  have h0 : (i 0).val < 2816 := (i 0).isLt
  have h1 : (i 1).val < 1024 := (i 1).isLt
  unfold G
  rw [Finset.sum_range]
  unfold Cert.Reference4Ideal.Read.val_main_v7 Cert.Reference4Ideal.Read.val_main_v6 Cert.Reference4Ideal.Read.val_main_v5 Cert.Reference4Ideal.Read.val_main_v4 Cert.Reference4Ideal.Read.val_main_v1 Cert.Reference4Ideal.Read.val_main_v0
  pointwise
  refine Finset.sum_congr rfl fun k _ => ?_
  unfold term
  rw [dif_pos ⟨k.isLt, h0, h1⟩]
  rfl

end Cert.Kernel4Ideal.GateDw

end
-- ==== Proof.ValueDw.Cases.lean ====
/- The gradient of a product by its right factor, `aᵀ·dz`, summed block by block along the tokens: what each case of the body
   leaves in the accumulator and in the output, as values. -/
module

public import proofs.«01_k».proof.Proof.Gen.Kernel5Ideal.Value
public import Idealize.ShloMosaic.Lib.Pipeline.Value
public import Idealize.ShloMosaic.Lib.Tactic
public import Idealize.ShloMosaic.Lib.Pointwise

@[expose] public section

set_option maxRecDepth 16384

noncomputable section

namespace Cert.Kernel5Ideal.ValueDw

open Cert.Kernel5Ideal Cert.Kernel5Ideal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

section cases

variable (c : Dev nD) (i : grid0.Coords)
  (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x0 : Vec F S2048x1408 .bf16) (x1 : Vec F S2048x1024 .bf16) (acc : Vec F S1408x1024 .f32)

/-- The first block of a sweep: the accumulator is cleared, then the block's product is added. -/
theorem acc_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) zero2, View.readCov_unit_zero (S := S1408x1024) _ zero2]
  simp only [View.readAt_eq_ld, h3.read_unread, h4.read_unread, View.ld_unit_zero (S := S2048x1408) zero2, View.ld_unit_zero (S := S2048x1024) zero2]

/-- A block in the middle of a sweep: its product is added to the accumulator. -/
theorem acc_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero zero2]
  simp only [View.readAt_eq_ld, h3.read_unread, h4.read_unread, h6.read_unread, View.ld_unit_zero (S := S2048x1408) zero2, View.ld_unit_zero (S := S2048x1024) zero2, View.ld_unit_zero (S := S1408x1024) zero2]

/-- The last block of a sweep: its product is added to the accumulator … -/
theorem acc_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero zero2]
  simp only [View.readAt_eq_ld, h3.read_unread, h4.read_unread, h6.read_unread, View.ld_unit_zero (S := S2048x1408) zero2, View.ld_unit_zero (S := S2048x1024) zero2, View.ld_unit_zero (S := S1408x1024) zero2]

/-- … and the sum is what the output takes. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero zero2, View.readCov_unit_zero (S := S1408x1024) _ zero2]
  simp only [View.readAt_eq_ld, h3.read_unread, h4.read_unread, h6.read_unread, View.ld_unit_zero (S := S2048x1408) zero2, View.ld_unit_zero (S := S2048x1024) zero2, View.ld_unit_zero (S := S1408x1024) zero2]

end cases

/-- One block's product at an index: the sum over the block's tokens. -/
theorem pay2_apply (acc : Vec Ideal S1408x1024 .f32) (x0 : Vec Ideal S2048x1408 .bf16) (x1 : Vec Ideal S2048x1024 .bf16) (y : S1408x1024.Idx) :
    k0_pay2 acc x0 x1 y = acc y + ∑ k : Fin 2048, x0 (ix2 k (y 0)) * x1 (ix2 k (y 1)) := by
  unfold k0_pay2
  pointwise

theorem pay1_apply (y : S1408x1024.Idx) : (k0_pay1 : FVec Ideal S1408x1024 .f32) y = 0 := by
  unfold k0_pay1
  pointwise

theorem pay3_apply (acc : Vec Ideal S1408x1024 .f32) (y : S1408x1024.Idx) : k0_pay3 acc y = acc y := by
  unfold k0_pay3
  pointwise

end Cert.Kernel5Ideal.ValueDw

end
-- ==== Proof.ValueDw.Value.lean ====
/- The gradient of the value half of the FFN's first weight: the accumulator is the running sum over the tokens seen so far, so
   the second half of the array's rows ends holding the whole sum, and the first half keeps what the array held before. -/
module

public import proofs.«01_k».proof.Proof.ValueDw.Cases
public import proofs.«01_k».proof.Proof.Gen.Reference5Ideal.Read

@[expose] public section

set_option maxRecDepth 16384

noncomputable section

namespace Cert.Kernel5Ideal.ValueDw

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The two factors: `a`, one row per token, and `dz`, one row per token. -/
abbrev fa (c : Dev nD) : Vec Ideal S8192x2816 .bf16 := m ((c : Thread nD τ).loc main_arg0)
abbrev fz (c : Dev nD) : Vec Ideal S8192x1024 .bf16 := m ((c : Thread nD τ).loc main_arg1)

/-- The array the run starts from: the gate half of the weight's gradient in its first 2816 rows. -/
abbrev fo (c : Dev nD) : Vec Ideal S5632x1024 .bf16 := m ((c : Thread nD τ).loc main_arg2)

/-- The product at a row of the result and a column, over one token (nothing beyond the last token). -/
def term (c : Dev nD) (p q : ℕ) (k : ℕ) : EReal :=
  if h : k < 8192 ∧ p < 2816 ∧ q < 1024 then fa m c (ix2 ⟨k, h.1⟩ ⟨p, h.2.1⟩) * fz m c (ix2 ⟨k, h.1⟩ ⟨q, h.2.2⟩) else 0

/-- Where the blocks of point `t` lie. -/
theorem index_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 + 2 ∧ win0_2.index t (1 : Fin 2) = 0 :=
  (by decide +kernel : ∀ t : Fin grid0.N, _)

theorem block_a (c : Dev nD) (t : Fin cfg0.N) (k : Fin 2048) (p : Fin 1408) (h0 : t.val % 4 * 2048 + k.val < 8192)
    (h1 : t.val / 4 * 1408 + p.val < 2816) :
    (iblk m c 0 t : Vec Ideal S2048x1408 .bf16) (ix2 k p) = fa m c (ix2 ⟨t.val % 4 * 2048 + k.val, h0⟩ ⟨t.val / 4 * 1408 + p.val, h1⟩) := by
  obtain ⟨e0, e1, -⟩ := index_facts t
  show fa m c (((cfg0.win 0).blk t).view.emb (ix2 k p)) = _
  congr 1
  funext a
  match a with
  | ⟨0, _⟩ => exact Fin.ext (by show win0_0.index t (0 : Fin 2) * 2048 + 1 * k.val = _; rw [e0, one_mul]; rfl)
  | ⟨1, _⟩ => exact Fin.ext (by show win0_0.index t (1 : Fin 2) * 1408 + 1 * p.val = _; rw [e1, one_mul]; rfl)

theorem block_z (c : Dev nD) (t : Fin cfg0.N) (k : Fin 2048) (q : Fin 1024) (h0 : t.val % 4 * 2048 + k.val < 8192) :
    (iblk m c 1 t : Vec Ideal S2048x1024 .bf16) (ix2 k q) = fz m c (ix2 ⟨t.val % 4 * 2048 + k.val, h0⟩ q) := by
  obtain ⟨-, -, e0, e1, -⟩ := index_facts t
  show fz m c (((cfg0.win 1).blk t).view.emb (ix2 k q)) = _
  congr 1
  funext a
  match a with
  | ⟨0, _⟩ => exact Fin.ext (by show win0_1.index t (0 : Fin 2) * 2048 + 1 * k.val = _; rw [e0, one_mul]; rfl)
  | ⟨1, _⟩ => exact Fin.ext (by show win0_1.index t (1 : Fin 2) * 1024 + 1 * q.val = _; rw [e1, one_mul, Nat.zero_mul, Nat.zero_add]; rfl)

/-- One point's product, as the sum over the tokens of its block. -/
theorem point_sum (c : Dev nD) (t : Fin cfg0.N) (acc : Vec Ideal S1408x1024 .f32) (y : S1408x1024.Idx) :
    k0_pay2 acc (iblk m c 0 t) (iblk m c 1 t) y
      = acc y + ∑ k ∈ Finset.range 2048, term m c (t.val / 4 * 1408 + (y 0).val) (y 1).val (t.val % 4 * 2048 + k) := by
  have hN : t.val < 8 := lt_of_lt_of_eq t.isLt N_0
  have hy0 : (y 0).val < 1408 := (y 0).isLt
  have hy1 : (y 1).val < 1024 := (y 1).isLt
  rw [pay2_apply, Finset.sum_range]
  congr 1
  refine Finset.sum_congr rfl fun k _ => ?_
  have hk := k.isLt
  rw [block_a m c t k (y 0) (by omega) (by omega), block_z m c t k (y 1) (by omega)]
  unfold term
  rw [dif_pos ⟨by omega, by omega, hy1⟩]
  rfl

/-- After point `n` the accumulator is the sum over the tokens its sweep has seen. -/
theorem acc_eq (c : Dev nD) : ∀ (n : ℕ) (hn : n < cfg0.N) (y : S1408x1024.Idx),
    (outsAt0 m c n hn).2 y = ∑ k ∈ Finset.range ((n % 4 + 1) * 2048), term m c (n / 4 * 1408 + (y 0).val) (y 1).val k := by
  intro n
  induction n with
  | zero =>
    intro hn y
    have e := outsAt0_A m c ⟨0, hn⟩ (Nat.zero_mod 4) (by show ¬(0 % 4 = 3); omega)
    rw [show outsAt0 m c 0 hn = _ from e]
    dsimp only
    rw [acc_A, point_sum, pay1_apply, zero_add]
    simp only [Nat.zero_mod, Nat.zero_mul, Nat.zero_add, Nat.one_mul]
  | succ n ih =>
    intro hn y
    have hN : n + 1 < 8 := lt_of_lt_of_eq hn N_0
    by_cases h0 : (n + 1) % 4 = 0
    · have h1 : ¬(n + 1) % 4 = 3 := by omega
      have e := outsAt0_A m c ⟨n + 1, hn⟩ h0 h1
      rw [show outsAt0 m c (n + 1) hn = _ from e]
      dsimp only
      rw [acc_A, point_sum, pay1_apply, zero_add]
      simp only [h0, Nat.zero_mul, Nat.zero_add, Nat.one_mul]
    · have step : (outsAt0 m c (n + 1) hn).2 = k0_pay2 (outsAt0 m c n (Nat.lt_of_succ_lt hn)).2 (iblk m c 0 ⟨n + 1, hn⟩) (iblk m c 1 ⟨n + 1, hn⟩) := by
        by_cases h1 : (n + 1) % 4 = 3
        · have e := outsAt0_C m c ⟨n + 1, hn⟩ h0 h1
          rw [show outsAt0 m c (n + 1) hn = _ from e]
          dsimp only
          rw [acc_C]
          rfl
        · have e := outsAt0_B m c ⟨n + 1, hn⟩ h0 h1
          rw [show outsAt0 m c (n + 1) hn = _ from e]
          dsimp only
          rw [acc_B]
          rfl
      rw [step, point_sum, ih]
      dsimp only
      have d : (n + 1) / 4 = n / 4 := by omega
      have r : (n + 1) % 4 = n % 4 + 1 := by omega
      rw [d, r, show (n % 4 + 1 + 1) * 2048 = (n % 4 + 1) * 2048 + 2048 by omega, Finset.sum_range_add]

/-- The sum over all tokens, one row of the second half of the array per row of the product. -/
def full (c : Dev nD) : Vec Ideal S5632x1024 .bf16 := fun i => ∑ k ∈ Finset.range 8192, term m c ((i 0).val - 2816) (i 1).val k

/-- The array the run leaves: the first 2816 rows are those it started from, the rest is the whole sum over the tokens. -/
def G (c : Dev nD) : Vec Ideal S5632x1024 .bf16 := fun i => if (i 0).val < 2816 then fo m c i else full m c i

theorem row_eq (t : Fin cfg0.N) (y : S1408x1024.Idx) :
    (((cfg0.win 2).blk t).view.emb y 0).val = t.val / 4 * 1408 + 2816 + (y 0).val := by
  obtain ⟨-, -, -, -, e0, -⟩ := index_facts t
  show win0_2.index t (0 : Fin 2) * 1408 + 1 * (y 0).val = _
  rw [e0, one_mul]
  omega

theorem col_eq (t : Fin cfg0.N) (y : S1408x1024.Idx) : (((cfg0.win 2).blk t).view.emb y 1).val = (y 1).val := by
  obtain ⟨-, -, -, -, -, e1⟩ := index_facts t
  show win0_2.index t (1 : Fin 2) * 1024 + 1 * (y 1).val = _
  rw [e1, one_mul, Nat.zero_mul, Nat.zero_add]

theorem flushed_eq (c : Dev nD) (t : Fin cfg0.N) (hf : (cfg0.win 2).flush t = true) :
    (dats m 0 c).flushed 2 t = ((cfg0.win 2).blk t).view.read (Elt Ideal) (full m c) := by
  have h3 : t.val % 4 = 3 := (flush0_2 t).mp hf
  have h0 : ¬t.val % 4 = 0 := by omega
  have hN : t.val < 8 := lt_of_lt_of_eq t.isLt N_0
  rw [Value.flushed2_C m c t h0 h3, out_C]
  funext y
  show (k0_pay3 (F := Ideal) _ : Vec Ideal S1408x1024 .bf16) y = full m c (((cfg0.win 2).blk t).view.emb y)
  rw [pay3_apply, point_sum, acc_eq]
  have d : (t.val - 1) / 4 = t.val / 4 := by omega
  have r : (t.val - 1) % 4 + 1 = 3 := by omega
  unfold full
  rw [row_eq, col_eq, d, r, h3, show t.val / 4 * 1408 + 2816 + (y 0).val - 2816 = t.val / 4 * 1408 + (y 0).val by omega]
  exact (Finset.sum_range_add _ 6144 2048).symm

/-- An index in the second half of the rows lies in a block that is written back. -/
theorem written (i : S5632x1024.Idx) (h : ¬(i 0).val < 2816) :
    ∃ t : Fin cfg0.N, (cfg0.win 2).flush t = true ∧ i ∈ ((cfg0.win 2).blk t).view.set := by
  have h0 : (i 0).val < 5632 := (i 0).isLt
  have h1 : (i 1).val < 1024 := (i 1).isLt
  obtain ⟨t, ht⟩ : ∃ t : Fin cfg0.N, t.val = ((i 0).val / 1408 - 2) * 4 + 3 :=
    ⟨⟨((i 0).val / 1408 - 2) * 4 + 3, lt_of_lt_of_eq (by omega) N_0.symm⟩, rfl⟩
  refine ⟨t, (flush0_2 t).mpr (by omega), ?_⟩
  have e : ((cfg0.win 2).blk t).view.emb (ix2 (⟨(i 0).val % 1408, by omega⟩ : Fin 1408) (⟨(i 1).val, h1⟩ : Fin 1024)) = i := by
    funext a
    match a with
    | ⟨0, _⟩ => exact Fin.ext ((row_eq t _).trans (by show t.val / 4 * 1408 + 2816 + (i 0).val % 1408 = (i 0).val; rw [ht]; omega))
    | ⟨1, _⟩ => exact Fin.ext (col_eq t _)
  rw [← e]
  exact View.emb_mem_set _ _

/-- What the result's buffer holds when the grid starts: the array given. -/
theorem entry_eq (c : Dev nD) : V m c main_v0 = fo m c := by
  show StableHlo.after [StableHlo.unary main_arg2 main_v0 id] _ (Proc.devRef .tc main_v0) = _
  rw [StableHlo.after_cons, StableHlo.after_nil, StableHlo.unary_result main_arg2 main_v0 _ _ _ _]
  rfl

theorem final_eq (c : Dev nD) : (dats m 0 c).arrAt 2 cfg0.N = G m c := by
  funext i
  unfold G
  by_cases h : (i 0).val < 2816
  · rw [if_pos h]
    refine (Value.entry2 m c i fun t _ hi => ?_).trans (congrFun (entry_eq m c) i)
    obtain ⟨y, -, rfl⟩ := Finset.mem_map.mp hi
    have e := row_eq t y
    have h' : (((cfg0.win 2).blk t).view.emb y 0).val < 2816 := h
    omega
  · rw [if_neg h]
    obtain ⟨t, hf, hi⟩ := written i h
    exact (dats m 0 c).arrAt_apply_of_mem 2 (full m c) (fun t hf => flushed_eq m c t hf) cfg0.N t i t.isLt hf hi

/-- The kernel's run: the result is the gate half kept and the sum over all tokens, the arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c), (h c).2⟩) (Value.run_blocks m ρ)

/-- The reference's product at an index: the same sum. -/
theorem reference_sum (c : Dev nD) (i : Cert.Reference5Ideal.S2816x1024.Idx) :
    Cert.Reference5Ideal.Read.val_main_v8 (F := Ideal) (fa m c) (fz m c) i = ∑ k ∈ Finset.range 8192, term m c (i 0).val (i 1).val k := by
  have h0 : (i 0).val < 2816 := (i 0).isLt
  have h1 : (i 1).val < 1024 := (i 1).isLt
  rw [Finset.sum_range]
  unfold Cert.Reference5Ideal.Read.val_main_v8 Cert.Reference5Ideal.Read.val_main_v7 Cert.Reference5Ideal.Read.val_main_v6 Cert.Reference5Ideal.Read.val_main_v5 Cert.Reference5Ideal.Read.val_main_v2 Cert.Reference5Ideal.Read.val_main_v1
  pointwise
  refine Finset.sum_congr rfl fun k _ => ?_
  unfold term
  rw [dif_pos ⟨k.isLt, h0, h1⟩]
  rfl

/-- The reference's array, the gate half kept above the product: the same array. -/
theorem reference_eq (c : Dev nD) :
    Cert.Reference5Ideal.Read.val_main_v9 (F := Ideal) (fa m c) (fz m c) (fo m c) = G m c := by
  funext i
  have h0 : (i 0).val < 5632 := (i 0).isLt
  have h1 : (i 1).val < 1024 := (i 1).isLt
  unfold Cert.Reference5Ideal.Read.val_main_v9 G
  by_cases h : (i 0).val < 2816
  · rw [if_pos h]
    refine (concatenate_pair_apply_left (s₁ := Cert.Reference5Ideal.S2816x1024) (s₂ := Cert.Reference5Ideal.S2816x1024) (0 : Fin 2) _ _ _ i rfl (ix2 ⟨(i 0).val, h⟩ ⟨(i 1).val, h1⟩ : Cert.Reference5Ideal.S2816x1024.Idx)
      (fun b => match b with | ⟨0, _⟩ => rfl | ⟨1, _⟩ => rfl)).trans ?_
    refine (Cert.Reference5Ideal.Read.val_main_v0_apply _ _).trans (congrArg (fo m c) ?_)
    funext a
    match a with
    | ⟨0, _⟩ => exact Fin.ext rfl
    | ⟨1, _⟩ => exact Fin.ext rfl
  · rw [if_neg h]
    refine (concatenate_pair_apply_right (s₁ := Cert.Reference5Ideal.S2816x1024) (s₂ := Cert.Reference5Ideal.S2816x1024) (0 : Fin 2) _ _ _ i rfl rfl (ix2 ⟨(i 0).val - 2816, (by show (i 0).val - 2816 < 2816; omega)⟩ ⟨(i 1).val, h1⟩ : Cert.Reference5Ideal.S2816x1024.Idx)
      (fun b hb => match b, hb with | ⟨0, _⟩, hb => absurd rfl hb | ⟨1, _⟩, _ => rfl) ?_).trans ?_
    · show (i 0).val - 2816 + 2816 = (i 0).val
      omega
    · exact reference_sum m c _

end Cert.Kernel5Ideal.ValueDw

end
-- ==== Proof.LruDx.Cases.lean ====
/- The gradient through the recurrent mixer's input projection and the layer norm before it: what each case of the body leaves in its four
   outputs, as values, and those values read at an index. -/
module

public import proofs.«01_k».proof.Proof.Gen.Kernel6Ideal.Value
public import Idealize.ShloMosaic.Lib.Pipeline.Value
public import Idealize.ShloMosaic.Lib.Tactic
public import Idealize.ShloMosaic.Lib.Pointwise
public import proofs.«01_k».proof.Proof.Up.Row

@[expose] public section

set_option maxRecDepth 16384

noncomputable section

namespace Cert.Kernel6Ideal.InDx

open Cert.Kernel6Ideal Cert.Kernel6Ideal.Gen Idealize.ShloMosaic Idealize.ShloMosaic.TcCoe Idealize.SL.Sem
open Idealize.ShloMosaic.Pipeline (Dat)
open Cert.Kernel3Ideal.Up (ctr vare rstd nrm)

variable {F : FTy → Type} [FloatOps F]

theorem zero2 : (![0, 0] : Fin 2 → Nat) = fun _ => 0 := funext fun a => by fin_cases a <;> rfl

section cases

variable (c : Dev nD) (i : grid0.Coords)
  (a1 : Memref sig .tc .vmem S512x2560 .bf16) (h1 : a1.IsWhole)
  (a2 : Memref sig .tc .vmem S2560x1024 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S512x1024 .f32) (h6 : a6.IsWhole)
  (a7 : Memref sig .tc .vmem S512x1024 .bf16) (h7 : a7.IsWhole)
  (a8 : Memref sig .tc .vmem S1x1024 .f32) (h8 : a8.IsWhole)
  (a9 : Memref sig .tc .vmem S1x1024 .f32) (h9 : a9.IsWhole)
  (x0 : Vec F S512x2560 .bf16) (x1 : Vec F S2560x1024 .bf16) (x2 : Vec F S512x1024 .f32) (x3 : Vec F S512x1024 .f32) (x4 : Vec F S1x1024 .f32)
  (xs : Vec F S1x1024 .f32) (xb : Vec F S1x1024 .f32)

/-- The gradient of the normalized input, of one block. -/
abbrev blockDz : FVec F S512x1024 .f32 :=
  k0_pay1 (k0_pay9 x3) (k0_pay10 x3) (k0_pay11 x2 x0 x1 x4) (k0_pay12 x2 x0 x1 x4) (k0_pay13 x2 x0 x1 x3 x4)
/-- The same, rounded. -/
abbrev blockDzHalf : FVec F S512x1024 .bf16 :=
  k0_pay2 (k0_pay9 x3) (k0_pay10 x3) (k0_pay11 x2 x0 x1 x4) (k0_pay12 x2 x0 x1 x4) (k0_pay13 x2 x0 x1 x3 x4)

/-- The first block: the gradient of the normalized input, … -/
theorem out_A_5 (hc0 : cond0_0 i) :
    out0_A_5 c i a1 h1 a2 h2 a3 h3 a4 h4 a5 h5 a6 h6 a7 h7 a8 h8 a9 h9 hc0 x0 x1 x2 x3 x4 = blockDz x0 x1 x2 x3 x4 := by
  unfold out0_A_5
  rw [View.read_writes_eq_canon _ _ _ (cover0_A_5 c i a1 h1 a2 h2 a3 h3 a4 h4 a5 h5 a6 h6 a7 h7 a8 h8 a9 h9 hc0 x0 x1 x2 x3 x4)]
  unfold kernelRun0_A
  dsimp only
  sl_unfold_words
  rw [View.canon_unit_zero zero2]
  simp only [View.readAt_eq_ld, h1.read_unread, h2.read_unread, h3.read_unread, h4.read_unread, h5.read_unread, View.ld_unit_zero (S := S512x2560) zero2, View.ld_unit_zero (S := S2560x1024) zero2, View.ld_unit_zero (S := S512x1024) zero2, View.ld_unit_zero (S := S1x1024) zero2]

/-- … the same gradient rounded, … -/
theorem out_A_6 (hc0 : cond0_0 i) :
    out0_A_6 c i a1 h1 a2 h2 a3 h3 a4 h4 a5 h5 a6 h6 a7 h7 a8 h8 a9 h9 hc0 x0 x1 x2 x3 x4 = blockDzHalf x0 x1 x2 x3 x4 := by
  unfold out0_A_6
  rw [View.read_writes_eq_canon _ _ _ (cover0_A_6 c i a1 h1 a2 h2 a3 h3 a4 h4 a5 h5 a6 h6 a7 h7 a8 h8 a9 h9 hc0 x0 x1 x2 x3 x4)]
  unfold kernelRun0_A
  dsimp only
  sl_unfold_words
  rw [View.canon_unit_zero zero2]
  simp only [View.readAt_eq_ld, h1.read_unread, h2.read_unread, h3.read_unread, h4.read_unread, h5.read_unread, View.ld_unit_zero (S := S512x2560) zero2, View.ld_unit_zero (S := S2560x1024) zero2, View.ld_unit_zero (S := S512x1024) zero2, View.ld_unit_zero (S := S1x1024) zero2]

/-- … the scale's gradient, begun at zero, … -/
theorem out_A_7 (hc0 : cond0_0 i) :
    out0_A_7 c i a1 h1 a2 h2 a3 h3 a4 h4 a5 h5 a6 h6 a7 h7 a8 h8 a9 h9 hc0 x0 x1 x2 x3 x4 = k0_pay3 (k0_pay7 x2 x0 x1) (k0_pay10 x3) k0_pay5 := by
  unfold out0_A_7
  rw [View.read_writes_eq_canon _ _ _ (cover0_A_7 c i a1 h1 a2 h2 a3 h3 a4 h4 a5 h5 a6 h6 a7 h7 a8 h8 a9 h9 hc0 x0 x1 x2 x3 x4)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, h4.read_unread, h5.read_unread, View.ld_unit_zero (S := S512x2560) zero2, View.ld_unit_zero (S := S2560x1024) zero2, View.ld_unit_zero (S := S512x1024) zero2, View.ld_unit_zero (S := S1x1024) zero2]

/-- … and the shift's, begun at zero. -/
theorem out_A_8 (hc0 : cond0_0 i) :
    out0_A_8 c i a1 h1 a2 h2 a3 h3 a4 h4 a5 h5 a6 h6 a7 h7 a8 h8 a9 h9 hc0 x0 x1 x2 x3 x4 = k0_pay4 (k0_pay7 x2 x0 x1) k0_pay6 := by
  unfold out0_A_8
  rw [View.read_writes_eq_canon _ _ _ (cover0_A_8 c i a1 h1 a2 h2 a3 h3 a4 h4 a5 h5 a6 h6 a7 h7 a8 h8 a9 h9 hc0 x0 x1 x2 x3 x4)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, h4.read_unread, h5.read_unread, View.ld_unit_zero (S := S512x2560) zero2, View.ld_unit_zero (S := S2560x1024) zero2, View.ld_unit_zero (S := S512x1024) zero2, View.ld_unit_zero (S := S1x1024) zero2]

/-- A later block: the same two gradients, … -/
theorem out_B_5 (hc0 : ¬cond0_0 i) :
    out0_B_5 c i a1 h1 a2 h2 a3 h3 a4 h4 a5 h5 a6 h6 a7 h7 a8 h8 a9 h9 hc0 x0 x1 x2 x3 x4 xs xb = blockDz x0 x1 x2 x3 x4 := by
  unfold out0_B_5
  rw [View.read_writes_eq_canon _ _ _ (cover0_B_5 c i a1 h1 a2 h2 a3 h3 a4 h4 a5 h5 a6 h6 a7 h7 a8 h8 a9 h9 hc0 x0 x1 x2 x3 x4 xs xb)]
  unfold kernelRun0_B
  dsimp only
  sl_unfold_words
  rw [View.canon_unit_zero zero2]
  simp only [View.readAt_eq_ld, h1.read_unread, h2.read_unread, h3.read_unread, h4.read_unread, h5.read_unread, h8.read_unread, h9.read_unread, View.ld_unit_zero (S := S512x2560) zero2, View.ld_unit_zero (S := S2560x1024) zero2, View.ld_unit_zero (S := S512x1024) zero2, View.ld_unit_zero (S := S1x1024) zero2]

/-- … the rounded one, … -/
theorem out_B_6 (hc0 : ¬cond0_0 i) :
    out0_B_6 c i a1 h1 a2 h2 a3 h3 a4 h4 a5 h5 a6 h6 a7 h7 a8 h8 a9 h9 hc0 x0 x1 x2 x3 x4 xs xb = blockDzHalf x0 x1 x2 x3 x4 := by
  unfold out0_B_6
  rw [View.read_writes_eq_canon _ _ _ (cover0_B_6 c i a1 h1 a2 h2 a3 h3 a4 h4 a5 h5 a6 h6 a7 h7 a8 h8 a9 h9 hc0 x0 x1 x2 x3 x4 xs xb)]
  unfold kernelRun0_B
  dsimp only
  sl_unfold_words
  rw [View.canon_unit_zero zero2]
  simp only [View.readAt_eq_ld, h1.read_unread, h2.read_unread, h3.read_unread, h4.read_unread, h5.read_unread, h8.read_unread, h9.read_unread, View.ld_unit_zero (S := S512x2560) zero2, View.ld_unit_zero (S := S2560x1024) zero2, View.ld_unit_zero (S := S512x1024) zero2, View.ld_unit_zero (S := S1x1024) zero2]

/-- … the scale's gradient, added to what the blocks before left, … -/
theorem out_B_7 (hc0 : ¬cond0_0 i) :
    out0_B_7 c i a1 h1 a2 h2 a3 h3 a4 h4 a5 h5 a6 h6 a7 h7 a8 h8 a9 h9 hc0 x0 x1 x2 x3 x4 xs xb = k0_pay3 (k0_pay7 x2 x0 x1) (k0_pay10 x3) xs := by
  unfold out0_B_7
  rw [View.read_writes_eq_canon _ _ _ (cover0_B_7 c i a1 h1 a2 h2 a3 h3 a4 h4 a5 h5 a6 h6 a7 h7 a8 h8 a9 h9 hc0 x0 x1 x2 x3 x4 xs xb)]
  unfold kernelRun0_B
  dsimp only
  sl_unfold_words
  rw [View.canon_unit_zero zero2]
  simp only [View.readAt_eq_ld, h1.read_unread, h2.read_unread, h3.read_unread, h4.read_unread, h5.read_unread, h8.read_unread, h9.read_unread, View.ld_unit_zero (S := S512x2560) zero2, View.ld_unit_zero (S := S2560x1024) zero2, View.ld_unit_zero (S := S512x1024) zero2, View.ld_unit_zero (S := S1x1024) zero2]

/-- … and the shift's. -/
theorem out_B_8 (hc0 : ¬cond0_0 i) :
    out0_B_8 c i a1 h1 a2 h2 a3 h3 a4 h4 a5 h5 a6 h6 a7 h7 a8 h8 a9 h9 hc0 x0 x1 x2 x3 x4 xs xb = k0_pay4 (k0_pay7 x2 x0 x1) xb := by
  unfold out0_B_8
  rw [View.read_writes_eq_canon _ _ _ (cover0_B_8 c i a1 h1 a2 h2 a3 h3 a4 h4 a5 h5 a6 h6 a7 h7 a8 h8 a9 h9 hc0 x0 x1 x2 x3 x4 xs xb)]
  unfold kernelRun0_B
  dsimp only
  sl_unfold_words
  rw [View.canon_unit_zero zero2]
  simp only [View.readAt_eq_ld, h1.read_unread, h2.read_unread, h3.read_unread, h4.read_unread, h5.read_unread, h8.read_unread, h9.read_unread, View.ld_unit_zero (S := S512x2560) zero2, View.ld_unit_zero (S := S2560x1024) zero2, View.ld_unit_zero (S := S512x1024) zero2, View.ld_unit_zero (S := S1x1024) zero2]

end cases

/-! The values at an index, as extended reals. -/

theorem pay7_apply (r : Vec Ideal S512x1024 .f32) (x : Vec Ideal S512x2560 .bf16) (w : Vec Ideal S2560x1024 .bf16) (p : Fin 512) (j : Fin 1024) :
    k0_pay7 r x w (ix2 p j) = Ideal.ofBits .f32 0x3FD744FD#32 * r (ix2 p j) + ∑ k : Fin 2560, x (ix2 p k) * w (ix2 k j) := by
  unfold k0_pay7
  pointwise

theorem pay8_apply (z : Vec Ideal S512x1024 .f32) (p : Fin 512) (j : Fin 1024) :
    k0_pay8 z (ix2 p j) = ctr (fun k => z (ix2 p k)) j := by
  unfold k0_pay8 ctr
  pointwise

theorem pay9_apply (z : Vec Ideal S512x1024 .f32) (p : Fin 512) (j : Fin 1) :
    k0_pay9 z (ix2 p j) = rstd (fun k => z (ix2 p k)) := by
  unfold k0_pay9 rstd vare
  pointwise
  simp only [pay8_apply]

theorem pay10_apply (z : Vec Ideal S512x1024 .f32) (p : Fin 512) (j : Fin 1024) :
    k0_pay10 z (ix2 p j) = nrm (fun k => z (ix2 p k)) j := by
  unfold k0_pay10 nrm
  pointwise
  rw [pay8_apply, pay9_apply]

section products

variable (r : Vec Ideal S512x1024 .f32) (x : Vec Ideal S512x2560 .bf16) (w : Vec Ideal S2560x1024 .bf16) (z : Vec Ideal S512x1024 .f32) (g : Vec Ideal S1x1024 .f32) (p : Fin 512)

theorem pay11_apply (j : Fin 1024) : k0_pay11 r x w g (ix2 p j) = k0_pay7 r x w (ix2 p j) * g (ix2 0 j) := by
  unfold k0_pay11
  pointwise

theorem pay12_apply (j : Fin 1) :
    k0_pay12 r x w g (ix2 p j) = Ideal.div (∑ k, k0_pay11 r x w g (ix2 p k)) (Ideal.ofBits .f32 0x44800000#32) := by
  unfold k0_pay12
  pointwise

theorem pay13_apply :
    k0_pay13 r x w z g (ix1 p) = ∑ k, k0_pay11 r x w g (ix2 p k) * k0_pay10 z (ix2 p k) := by
  unfold k0_pay13
  pointwise

end products

theorem pay1_apply (s : FVec Ideal S512x1 .f32) (h d : FVec Ideal S512x1024 .f32) (mean : FVec Ideal S512x1 .f32) (part : FVec Ideal S512 .f32) (p : Fin 512) (j : Fin 1024) :
    k0_pay1 s h d mean part (ix2 p j) = s (ix2 p 0) * (d (ix2 p j) - mean (ix2 p 0)
      - h (ix2 p j) * Ideal.div (part (ix1 p)) (Ideal.ofBits .f32 0x44800000#32)) := by
  unfold k0_pay1
  pointwise

theorem pay2_apply (s : FVec Ideal S512x1 .f32) (h d : FVec Ideal S512x1024 .f32) (mean : FVec Ideal S512x1 .f32) (part : FVec Ideal S512 .f32) (y : S512x1024.Idx) :
    (k0_pay2 s h d mean part : FVec Ideal S512x1024 .bf16) y = (k0_pay1 s h d mean part : FVec Ideal S512x1024 .f32) y := by
  unfold k0_pay2
  pointwise

theorem pay3_apply (d h : FVec Ideal S512x1024 .f32) (acc : Vec Ideal S1x1024 .f32) (q : Fin 1) (j : Fin 1024) :
    k0_pay3 d h acc (ix2 q j) = acc (ix2 q j) + ∑ p : Fin 512, d (ix2 p j) * h (ix2 p j) := by
  unfold k0_pay3
  pointwise

theorem pay4_apply (d : FVec Ideal S512x1024 .f32) (acc : Vec Ideal S1x1024 .f32) (q : Fin 1) (j : Fin 1024) :
    k0_pay4 d acc (ix2 q j) = acc (ix2 q j) + ∑ p : Fin 512, d (ix2 p j) := by
  unfold k0_pay4
  pointwise

theorem pay5_apply (j : S1x1024.Idx) : (k0_pay5 : FVec Ideal S1x1024 .f32) j = 0 := by
  unfold k0_pay5
  pointwise

theorem pay6_apply (j : S1x1024.Idx) : (k0_pay6 : FVec Ideal S1x1024 .f32) j = 0 := by
  unfold k0_pay6
  pointwise

end Cert.Kernel6Ideal.InDx

end
-- ==== Proof.LruDx.Value.lean ====
/- The gradient through the recurrent mixer's input projection and the layer norm before it: the four arrays the run leaves, as functions of the arguments. -/
module

public import proofs.«01_k».proof.Proof.LruDx.Cases

@[expose] public section

set_option maxRecDepth 16384

noncomputable section

namespace Cert.Kernel6Ideal.InDx

open Cert.Kernel6Ideal Cert.Kernel6Ideal.Gen Idealize.ShloMosaic Idealize.ShloMosaic.TcCoe Idealize.SL.Sem
open Idealize.ShloMosaic.Pipeline (Dat)
open Cert.Kernel3Ideal.Up (ctr vare rstd nrm grad)

variable (m : (ℓ : Loc nD τ sig) → Buf (Elt Ideal) ℓ) (ρ : Dev nD → PrngReg)

/-- The arguments: the gradient of the projection, the weight, the rest of the gradient, the norm's input and its scale. -/
abbrev fh (c : Dev nD) : Vec Ideal S8192x2560 .bf16 := m ((c : Thread nD τ).loc main_arg0)
abbrev fw (c : Dev nD) : Vec Ideal S2560x1024 .bf16 := m ((c : Thread nD τ).loc main_arg1)
abbrev fr (c : Dev nD) : Vec Ideal S8192x1024 .f32 := m ((c : Thread nD τ).loc main_arg2)
abbrev fz (c : Dev nD) : Vec Ideal S8192x1024 .f32 := m ((c : Thread nD τ).loc main_arg3)
abbrev fg (c : Dev nD) : Vec Ideal S1x1024 .f32 := m ((c : Thread nD τ).loc main_arg4)

/-- The gradient that reaches the norm, at a row and a column. -/
def dx (c : Dev nD) (r : Fin 8192) (j : Fin 1024) : EReal :=
  Ideal.ofBits .f32 0x3FD744FD#32 * fr m c (ix2 r j) + ∑ k : Fin 2560, fh m c (ix2 r k) * fw m c (ix2 k j)

/-- The norm's input along a row, and the gradient that reaches the normalized row. -/
def row (c : Dev nD) (r : Fin 8192) : Fin 1024 → EReal := fun k => fz m c (ix2 r k)
def dxh (c : Dev nD) (r : Fin 8192) : Fin 1024 → EReal := fun k => dx m c r k * fg m c (ix2 0 k)

/-- Where the blocks of point `t` lie. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

theorem index_out : ∀ t : Fin cfg0.N, win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The row of the arrays that row `p` of point `t`'s block is. -/
def at_ (t : Fin cfg0.N) (p : Fin 512) : Fin 8192 :=
  ⟨t.val * 512 + p.val, by have h : t.val < 16 := lt_of_lt_of_eq t.isLt N_0; have := p.isLt; omega⟩

theorem block_h (c : Dev nD) (t : Fin cfg0.N) (p : Fin 512) (k : Fin 2560) :
    (iblk m c 0 t : Vec Ideal S512x2560 .bf16) (ix2 p k) = fh m c (ix2 (at_ t p) k) := by
  obtain ⟨e0, e1, -⟩ := index_facts t
  show fh m c (((cfg0.win 0).blk t).view.emb (ix2 p k)) = _
  congr 1
  funext a
  match a with
  | ⟨0, _⟩ => exact Fin.ext (by show win0_0.index t (0 : Fin 2) * 512 + 1 * p.val = _; rw [e0, one_mul]; rfl)
  | ⟨1, _⟩ => exact Fin.ext (by show win0_0.index t (1 : Fin 2) * 2560 + 1 * k.val = _; rw [e1, one_mul, Nat.zero_mul, Nat.zero_add]; rfl)

theorem block_w (c : Dev nD) (t : Fin cfg0.N) (p : Fin 2560) (k : Fin 1024) :
    (iblk m c 1 t : Vec Ideal S2560x1024 .bf16) (ix2 p k) = fw m c (ix2 p k) := by
  obtain ⟨-, -, e0, e1, -⟩ := index_facts t
  show fw m c (((cfg0.win 1).blk t).view.emb (ix2 p k)) = _
  congr 1
  funext a
  match a with
  | ⟨0, _⟩ => exact Fin.ext (by show win0_1.index t (0 : Fin 2) * 2560 + 1 * p.val = _; rw [e0, one_mul, Nat.zero_mul, Nat.zero_add]; rfl)
  | ⟨1, _⟩ => exact Fin.ext (by show win0_1.index t (1 : Fin 2) * 1024 + 1 * k.val = _; rw [e1, one_mul, Nat.zero_mul, Nat.zero_add]; rfl)

theorem block_r (c : Dev nD) (t : Fin cfg0.N) (p : Fin 512) (k : Fin 1024) :
    (iblk m c 2 t : Vec Ideal S512x1024 .f32) (ix2 p k) = fr m c (ix2 (at_ t p) k) := by
  obtain ⟨-, -, -, -, e0, e1, -⟩ := index_facts t
  show fr m c (((cfg0.win 2).blk t).view.emb (ix2 p k)) = _
  congr 1
  funext a
  match a with
  | ⟨0, _⟩ => exact Fin.ext (by show win0_2.index t (0 : Fin 2) * 512 + 1 * p.val = _; rw [e0, one_mul]; rfl)
  | ⟨1, _⟩ => exact Fin.ext (by show win0_2.index t (1 : Fin 2) * 1024 + 1 * k.val = _; rw [e1, one_mul, Nat.zero_mul, Nat.zero_add]; rfl)

theorem block_z (c : Dev nD) (t : Fin cfg0.N) (p : Fin 512) (k : Fin 1024) :
    (iblk m c 3 t : Vec Ideal S512x1024 .f32) (ix2 p k) = fz m c (ix2 (at_ t p) k) := by
  obtain ⟨-, -, -, -, -, -, e0, e1, -⟩ := index_facts t
  show fz m c (((cfg0.win 3).blk t).view.emb (ix2 p k)) = _
  congr 1
  funext a
  match a with
  | ⟨0, _⟩ => exact Fin.ext (by show win0_3.index t (0 : Fin 2) * 512 + 1 * p.val = _; rw [e0, one_mul]; rfl)
  | ⟨1, _⟩ => exact Fin.ext (by show win0_3.index t (1 : Fin 2) * 1024 + 1 * k.val = _; rw [e1, one_mul, Nat.zero_mul, Nat.zero_add]; rfl)

theorem block_g (c : Dev nD) (t : Fin cfg0.N) (p : Fin 1) (k : Fin 1024) :
    (iblk m c 4 t : Vec Ideal S1x1024 .f32) (ix2 p k) = fg m c (ix2 p k) := by
  obtain ⟨-, -, -, -, -, -, -, -, e0, e1⟩ := index_facts t
  show fg m c (((cfg0.win 4).blk t).view.emb (ix2 p k)) = _
  congr 1
  funext a
  match a with
  | ⟨0, _⟩ => exact Fin.ext (by show win0_4.index t (0 : Fin 2) * 1 + 1 * p.val = _; rw [e0, one_mul, Nat.zero_mul, Nat.zero_add]; rfl)
  | ⟨1, _⟩ => exact Fin.ext (by show win0_4.index t (1 : Fin 2) * 1024 + 1 * k.val = _; rw [e1, one_mul, Nat.zero_mul, Nat.zero_add]; rfl)

/-! What one point computes, at an index. -/

abbrev pdx (c : Dev nD) (t : Fin cfg0.N) : FVec Ideal S512x1024 .f32 :=
  k0_pay7 (iblk m c 2 t) (iblk m c 0 t) (iblk m c 1 t)
abbrev pdxh (c : Dev nD) (t : Fin cfg0.N) : FVec Ideal S512x1024 .f32 :=
  k0_pay11 (iblk m c 2 t) (iblk m c 0 t) (iblk m c 1 t) (iblk m c 4 t)
abbrev pdz (c : Dev nD) (t : Fin cfg0.N) : FVec Ideal S512x1024 .f32 :=
  blockDz (iblk m c 0 t) (iblk m c 1 t) (iblk m c 2 t) (iblk m c 3 t) (iblk m c 4 t)

theorem point_dx (c : Dev nD) (t : Fin cfg0.N) (p : Fin 512) (j : Fin 1024) : pdx m c t (ix2 p j) = dx m c (at_ t p) j := by
  unfold dx
  refine (pay7_apply _ _ _ p j).trans ?_
  simp only [block_h, block_w, block_r]

theorem point_dxh (c : Dev nD) (t : Fin cfg0.N) (p : Fin 512) (j : Fin 1024) : pdxh m c t (ix2 p j) = dxh m c (at_ t p) j := by
  unfold dxh
  refine (pay11_apply _ _ _ _ p j).trans ?_
  rw [block_g]
  exact congrArg (· * _) (point_dx m c t p j)

theorem point_rstd (c : Dev nD) (t : Fin cfg0.N) (p : Fin 512) (j : Fin 1) :
    (k0_pay9 (iblk m c 3 t) : FVec Ideal S512x1 .f32) (ix2 p j) = rstd (row m c (at_ t p)) := by
  rw [pay9_apply]
  simp only [block_z]
  rfl

theorem point_nrm (c : Dev nD) (t : Fin cfg0.N) (p : Fin 512) (j : Fin 1024) :
    (k0_pay10 (iblk m c 3 t) : FVec Ideal S512x1024 .f32) (ix2 p j) = nrm (row m c (at_ t p)) j := by
  rw [pay10_apply]
  simp only [block_z]
  rfl

theorem point_dz (c : Dev nD) (t : Fin cfg0.N) (p : Fin 512) (j : Fin 1024) :
    pdz m c t (ix2 p j) = grad (row m c (at_ t p)) (dxh m c (at_ t p)) j := by
  refine (pay1_apply _ _ _ _ _ p j).trans ?_
  rw [pay12_apply, pay13_apply]
  simp only [point_rstd, point_nrm, point_dxh]
  rfl

/-- The terms of the two sums over the rows (nothing beyond the last row). -/
def termG (c : Dev nD) (j : Fin 1024) (r : ℕ) : EReal := if h : r < 8192 then dx m c ⟨r, h⟩ j * nrm (row m c ⟨r, h⟩) j else 0
def termB (c : Dev nD) (j : Fin 1024) (r : ℕ) : EReal := if h : r < 8192 then dx m c ⟨r, h⟩ j else 0

theorem point_dg (c : Dev nD) (t : Fin cfg0.N) (acc : Vec Ideal S1x1024 .f32) (q : Fin 1) (j : Fin 1024) :
    (k0_pay3 (pdx m c t) (k0_pay10 (iblk m c 3 t)) acc : FVec Ideal S1x1024 .f32) (ix2 q j)
      = acc (ix2 q j) + ∑ p ∈ Finset.range 512, termG m c j (t.val * 512 + p) := by
  rw [pay3_apply, Finset.sum_range]
  congr 1
  refine Finset.sum_congr rfl fun p _ => ?_
  rw [point_dx, point_nrm]
  unfold termG
  have h : t.val * 512 + p.val < 8192 := (at_ t p).isLt
  rw [dif_pos h]
  rfl

theorem point_db (c : Dev nD) (t : Fin cfg0.N) (acc : Vec Ideal S1x1024 .f32) (q : Fin 1) (j : Fin 1024) :
    (k0_pay4 (pdx m c t) acc : FVec Ideal S1x1024 .f32) (ix2 q j)
      = acc (ix2 q j) + ∑ p ∈ Finset.range 512, termB m c j (t.val * 512 + p) := by
  rw [pay4_apply, Finset.sum_range]
  congr 1
  refine Finset.sum_congr rfl fun p _ => ?_
  rw [point_dx]
  unfold termB
  have h : t.val * 512 + p.val < 8192 := (at_ t p).isLt
  rw [dif_pos h]
  rfl

/-! The arrays the run leaves. -/

def Gz (c : Dev nD) : Vec Ideal S8192x1024 .f32 := fun i => grad (row m c (i 0)) (dxh m c (i 0)) (i 1)
def Gh (c : Dev nD) : Vec Ideal S8192x1024 .bf16 := fun i => grad (row m c (i 0)) (dxh m c (i 0)) (i 1)
def Gg (c : Dev nD) : Vec Ideal S1x1024 .f32 := fun i => ∑ r ∈ Finset.range 8192, termG m c (i 1) r
def Gb (c : Dev nD) : Vec Ideal S1x1024 .f32 := fun i => ∑ r ∈ Finset.range 8192, termB m c (i 1) r

/-- What point `t` leaves in the outputs, at an index: the norm's gradient of its rows, … -/
theorem outs_dz (c : Dev nD) (t : Fin cfg0.N) :
    (outsAt0 m c t.val t.isLt).1 = pdz m c t := by
  by_cases h0 : t.val % 16 = 0
  · rw [outsAt0_A m c t h0]
    dsimp only
    rw [out_A_5]
  · rw [outsAt0_B m c t h0]
    dsimp only
    rw [out_B_5]

theorem outs_dz_half (c : Dev nD) (t : Fin cfg0.N) :
    (outsAt0 m c t.val t.isLt).2.1 = blockDzHalf (iblk m c 0 t) (iblk m c 1 t) (iblk m c 2 t) (iblk m c 3 t) (iblk m c 4 t) := by
  by_cases h0 : t.val % 16 = 0
  · rw [outsAt0_A m c t h0]
    dsimp only
    rw [out_A_6]
  · rw [outsAt0_B m c t h0]
    dsimp only
    rw [out_B_6]

/-- … and the two sums over the rows seen so far. -/
theorem sums_eq (c : Dev nD) : ∀ (n : ℕ) (hn : n < cfg0.N) (q : Fin 1) (j : Fin 1024),
    (outsAt0 m c n hn).2.2.1 (ix2 q j) = ∑ r ∈ Finset.range ((n + 1) * 512), termG m c j r
    ∧ (outsAt0 m c n hn).2.2.2 (ix2 q j) = ∑ r ∈ Finset.range ((n + 1) * 512), termB m c j r := by
  intro n
  induction n with
  | zero =>
    intro hn q j
    have e := outsAt0_A m c ⟨0, hn⟩ (Nat.zero_mod 16)
    rw [show outsAt0 m c 0 hn = _ from e]
    dsimp only
    rw [out_A_7, out_A_8, point_dg, point_db, pay5_apply, pay6_apply, zero_add]
    simp only [Nat.zero_mul, Nat.zero_add, Nat.one_mul, zero_add]
    exact ⟨trivial, trivial⟩
  | succ n ih =>
    intro hn q j
    have hN : n + 1 < 16 := lt_of_lt_of_eq hn N_0
    have h0 : ¬(n + 1) % 16 = 0 := by omega
    obtain ⟨i1, i2⟩ := ih (Nat.lt_of_succ_lt hn) q j
    have e := outsAt0_B m c ⟨n + 1, hn⟩ h0
    rw [show outsAt0 m c (n + 1) hn = _ from e]
    dsimp only
    rw [out_B_7, out_B_8, point_dg, point_db]
    rw [show (n + 1 + 1) * 512 = (n + 1) * 512 + 512 by omega, Finset.sum_range_add, Finset.sum_range_add, ← i1, ← i2]
    exact ⟨rfl, rfl⟩

theorem flushed_dz (c : Dev nD) (t : Fin cfg0.N) :
    (dats m 0 c).flushed 5 t = ((cfg0.win 5).blk t).view.read (Elt Ideal) (Gz m c) := by
  obtain ⟨e0, e1, -⟩ := index_out t
  rw [Value.flushed5 m c t, outs_dz]
  funext y
  obtain ⟨p, j, rfl⟩ : ∃ (p : Fin 512) (j : Fin 1024), y = ix2 p j := ⟨y 0, y 1, by funext a; fin_cases a <;> rfl⟩
  refine (point_dz m c t p j).trans ?_
  show _ = Gz m c (((cfg0.win 5).blk t).view.emb (ix2 p j))
  have q : ((cfg0.win 5).blk t).view.emb (ix2 p j) = ix2 (at_ t p) j := by
    funext a
    match a with
    | ⟨0, _⟩ => exact Fin.ext (by show win0_5.index t (0 : Fin 2) * 512 + 1 * p.val = _; rw [e0, one_mul]; rfl)
    | ⟨1, _⟩ => exact Fin.ext (by show win0_5.index t (1 : Fin 2) * 1024 + 1 * j.val = _; rw [e1, one_mul, Nat.zero_mul, Nat.zero_add]; rfl)
  rw [q]
  rfl

theorem flushed_dz_half (c : Dev nD) (t : Fin cfg0.N) :
    (dats m 0 c).flushed 6 t = ((cfg0.win 6).blk t).view.read (Elt Ideal) (Gh m c) := by
  obtain ⟨-, -, e0, e1, -⟩ := index_out t
  rw [Value.flushed6 m c t, outs_dz_half]
  funext y
  obtain ⟨p, j, rfl⟩ : ∃ (p : Fin 512) (j : Fin 1024), y = ix2 p j := ⟨y 0, y 1, by funext a; fin_cases a <;> rfl⟩
  refine (pay2_apply _ _ _ _ _ _).trans ((point_dz m c t p j).trans ?_)
  show _ = Gh m c (((cfg0.win 6).blk t).view.emb (ix2 p j))
  have q : ((cfg0.win 6).blk t).view.emb (ix2 p j) = ix2 (at_ t p) j := by
    funext a
    match a with
    | ⟨0, _⟩ => exact Fin.ext (by show win0_6.index t (0 : Fin 2) * 512 + 1 * p.val = _; rw [e0, one_mul]; rfl)
    | ⟨1, _⟩ => exact Fin.ext (by show win0_6.index t (1 : Fin 2) * 1024 + 1 * j.val = _; rw [e1, one_mul, Nat.zero_mul, Nat.zero_add]; rfl)
  rw [q]
  rfl

theorem flushed_dg (c : Dev nD) (t : Fin cfg0.N) (hf : (cfg0.win 7).flush t = true) :
    (dats m 0 c).flushed 7 t = ((cfg0.win 7).blk t).view.read (Elt Ideal) (Gg m c) := by
  have h15 : t.val % 16 = 15 := (flush0_7 t).mp hf
  have hN : t.val < 16 := lt_of_lt_of_eq t.isLt N_0
  obtain ⟨-, -, -, -, e0, e1, -⟩ := index_out t
  rw [Value.flushed7 m c t]
  funext y
  obtain ⟨q, j, rfl⟩ : ∃ (q : Fin 1) (j : Fin 1024), y = ix2 q j := ⟨y 0, y 1, by funext a; fin_cases a <;> rfl⟩
  refine ((sums_eq m c t.val t.isLt q j).1).trans ?_
  show _ = Gg m c (((cfg0.win 7).blk t).view.emb (ix2 q j))
  have e : ((cfg0.win 7).blk t).view.emb (ix2 q j) = ix2 q j := by
    funext a
    match a with
    | ⟨0, _⟩ => exact Fin.ext (by show win0_7.index t (0 : Fin 2) * 1 + 1 * q.val = _; rw [e0, one_mul, Nat.zero_mul, Nat.zero_add]; rfl)
    | ⟨1, _⟩ => exact Fin.ext (by show win0_7.index t (1 : Fin 2) * 1024 + 1 * j.val = _; rw [e1, one_mul, Nat.zero_mul, Nat.zero_add]; rfl)
  rw [e]
  unfold Gg
  rw [show (t.val + 1) * 512 = 8192 by omega]
  rfl

theorem flushed_db (c : Dev nD) (t : Fin cfg0.N) (hf : (cfg0.win 8).flush t = true) :
    (dats m 0 c).flushed 8 t = ((cfg0.win 8).blk t).view.read (Elt Ideal) (Gb m c) := by
  have h15 : t.val % 16 = 15 := (flush0_8 t).mp hf
  have hN : t.val < 16 := lt_of_lt_of_eq t.isLt N_0
  obtain ⟨-, -, -, -, -, -, e0, e1⟩ := index_out t
  rw [Value.flushed8 m c t]
  funext y
  obtain ⟨q, j, rfl⟩ : ∃ (q : Fin 1) (j : Fin 1024), y = ix2 q j := ⟨y 0, y 1, by funext a; fin_cases a <;> rfl⟩
  refine ((sums_eq m c t.val t.isLt q j).2).trans ?_
  show _ = Gb m c (((cfg0.win 8).blk t).view.emb (ix2 q j))
  have e : ((cfg0.win 8).blk t).view.emb (ix2 q j) = ix2 q j := by
    funext a
    match a with
    | ⟨0, _⟩ => exact Fin.ext (by show win0_8.index t (0 : Fin 2) * 1 + 1 * q.val = _; rw [e0, one_mul, Nat.zero_mul, Nat.zero_add]; rfl)
    | ⟨1, _⟩ => exact Fin.ext (by show win0_8.index t (1 : Fin 2) * 1024 + 1 * j.val = _; rw [e1, one_mul, Nat.zero_mul, Nat.zero_add]; rfl)
  rw [e]
  unfold Gb
  rw [show (t.val + 1) * 512 = 8192 by omega]
  rfl

/-! Every index lies in a block that is written back. -/

theorem covered5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  obtain ⟨t, ht⟩ : ∃ t : Fin cfg0.N, t.val = (i 0).val / 512 := ⟨⟨(i 0).val / 512, lt_of_lt_of_eq (by omega) N_0.symm⟩, rfl⟩
  obtain ⟨e0, e1, -⟩ := index_out t
  refine ⟨t, flush0_5 t, ?_⟩
  have e : ((cfg0.win 5).blk t).view.emb (ix2 (⟨(i 0).val % 512, by omega⟩ : Fin 512) (⟨(i 1).val, h1⟩ : Fin 1024)) = i := by
    funext a
    match a with
    | ⟨0, _⟩ => exact Fin.ext (by show win0_5.index t (0 : Fin 2) * 512 + 1 * ((i 0).val % 512) = (i 0).val; rw [e0, ht]; omega)
    | ⟨1, _⟩ => exact Fin.ext (by show win0_5.index t (1 : Fin 2) * 1024 + 1 * (i 1).val = (i 1).val; rw [e1]; omega)
  rw [← e]
  exact View.emb_mem_set _ _

theorem covered6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  obtain ⟨t, ht⟩ : ∃ t : Fin cfg0.N, t.val = (i 0).val / 512 := ⟨⟨(i 0).val / 512, lt_of_lt_of_eq (by omega) N_0.symm⟩, rfl⟩
  obtain ⟨-, -, e0, e1, -⟩ := index_out t
  refine ⟨t, flush0_6 t, ?_⟩
  have e : ((cfg0.win 6).blk t).view.emb (ix2 (⟨(i 0).val % 512, by omega⟩ : Fin 512) (⟨(i 1).val, h1⟩ : Fin 1024)) = i := by
    funext a
    match a with
    | ⟨0, _⟩ => exact Fin.ext (by show win0_6.index t (0 : Fin 2) * 512 + 1 * ((i 0).val % 512) = (i 0).val; rw [e0, ht]; omega)
    | ⟨1, _⟩ => exact Fin.ext (by show win0_6.index t (1 : Fin 2) * 1024 + 1 * (i 1).val = (i 1).val; rw [e1]; omega)
  rw [← e]
  exact View.emb_mem_set _ _

theorem covered7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  obtain ⟨t, ht⟩ : ∃ t : Fin cfg0.N, t.val = 15 := ⟨⟨15, lt_of_lt_of_eq (by omega) N_0.symm⟩, rfl⟩
  obtain ⟨-, -, -, -, e0, e1, -⟩ := index_out t
  refine ⟨t, (flush0_7 t).mpr (by omega), ?_⟩
  have e : ((cfg0.win 7).blk t).view.emb (ix2 (⟨(i 0).val, h0⟩ : Fin 1) (⟨(i 1).val, h1⟩ : Fin 1024)) = i := by
    funext a
    match a with
    | ⟨0, _⟩ => exact Fin.ext (by show win0_7.index t (0 : Fin 2) * 1 + 1 * (i 0).val = (i 0).val; rw [e0]; omega)
    | ⟨1, _⟩ => exact Fin.ext (by show win0_7.index t (1 : Fin 2) * 1024 + 1 * (i 1).val = (i 1).val; rw [e1]; omega)
  rw [← e]
  exact View.emb_mem_set _ _

theorem covered8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  obtain ⟨t, ht⟩ : ∃ t : Fin cfg0.N, t.val = 15 := ⟨⟨15, lt_of_lt_of_eq (by omega) N_0.symm⟩, rfl⟩
  obtain ⟨-, -, -, -, -, -, e0, e1⟩ := index_out t
  refine ⟨t, (flush0_8 t).mpr (by omega), ?_⟩
  have e : ((cfg0.win 8).blk t).view.emb (ix2 (⟨(i 0).val, h0⟩ : Fin 1) (⟨(i 1).val, h1⟩ : Fin 1024)) = i := by
    funext a
    match a with
    | ⟨0, _⟩ => exact Fin.ext (by show win0_8.index t (0 : Fin 2) * 1 + 1 * (i 0).val = (i 0).val; rw [e0]; omega)
    | ⟨1, _⟩ => exact Fin.ext (by show win0_8.index t (1 : Fin 2) * 1024 + 1 * (i 1).val = (i 1).val; rw [e1]; omega)
  rw [← e]
  exact View.emb_mem_set _ _

/-- The kernel's run: the four results, the arguments as launched. -/
theorem run : θ_run defs (onTc (τ := τ) (main (F := Ideal))) ⟨m, fun _ => 0, ρ⟩ fun r => ∀ c : Dev nD,
      r.2.mem ((c : Thread nD τ).loc main_v0_0) = Gz m c
      ∧ r.2.mem ((c : Thread nD τ).loc main_v0_1) = Gh m c
      ∧ r.2.mem ((c : Thread nD τ).loc main_v0_2) = Gg m c
      ∧ r.2.mem ((c : Thread nD τ).loc main_v0_3) = Gb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans ((dats m 0 c).arrAt_eq_of_cover 5 _ (fun t _ => flushed_dz m c t) covered5),
      (h c).2.1.trans ((dats m 0 c).arrAt_eq_of_cover 6 _ (fun t _ => flushed_dz_half m c t) covered6),
      (h c).2.2.1.trans ((dats m 0 c).arrAt_eq_of_cover 7 _ (fun t hf => flushed_dg m c t hf) covered7),
      (h c).2.2.2.1.trans ((dats m 0 c).arrAt_eq_of_cover 8 _ (fun t hf => flushed_db m c t hf) covered8),
      (h c).2.2.2.2⟩)
    (Value.run_blocks m ρ)

end Cert.Kernel6Ideal.InDx

end
-- ==== Proof.LruDx.Reference.lean ====
/- The gradient through the recurrent mixer's input projection and the layer norm before it: the reference's four results at an index: the norm's gradient as the derivatives of its steps, and the two sums over the
   rows. -/
module

public import proofs.«01_k».proof.Proof.Up.Row
public import proofs.«01_k».proof.Proof.Gen.Reference6Ideal.Read

@[expose] public section

set_option maxRecDepth 16384

noncomputable section

namespace Cert.Reference6Ideal.Steps

open Cert.Reference6Ideal Cert.Reference6Ideal.Read Idealize.ShloMosaic
open Cert.Kernel3Ideal.Up (ctr vare rstd nrm through gradSteps)

variable (x0 : (⟨S8192x2560, .bf16⟩ : BufTy).Contents (Elt Ideal)) (x1 : (⟨S2560x1024, .bf16⟩ : BufTy).Contents (Elt Ideal)) (x2 x3 : (⟨S8192x1024, .f32⟩ : BufTy).Contents (Elt Ideal)) (x4 : (⟨S1x1024, .f32⟩ : BufTy).Contents (Elt Ideal))

/-- The gradient that reaches the norm, at a row and a column. -/
def dx (r : Fin 8192) (j : Fin 1024) : EReal :=
  Ideal.ofBits .f32 0x3FD744FD#32 * x2 (ix2 r j) + ∑ k : Fin 2560, x0 (ix2 r k) * x1 (ix2 k j)

theorem dx_eq (r : Fin 8192) (j : Fin 1024) : val_main_v41 (F := Ideal) x0 x1 x2 (ix2 r j) = dx x0 x1 x2 r j := by
  unfold dx
  unfold val_main_v41 val_main_v40 val_main_v39 val_main_v38 val_main_v2 val_main_v1 val_main_v0
  pointwise [val_main_cst_8]

theorem ctr_eq (r : Fin 8192) (j : Fin 1024) : val_main_v11 (F := Ideal) x3 (ix2 r j) = ctr (fun k => x3 (ix2 r k)) j := by
  unfold ctr
  unfold val_main_v11 val_main_v10 val_main_v9 val_main_v8 val_main_v7 val_main_v6
  pointwise [val_main_cst_0, val_main_cst_1]

theorem ctr_eq' (r : Fin 8192) (j : Fin 1024) : val_main_v20 (F := Ideal) x3 (ix2 r j) = ctr (fun k => x3 (ix2 r k)) j := ctr_eq x3 r j

theorem vare_eq (r : Fin 8192) (j : Fin 1) : val_main_v22 (F := Ideal) x3 (ix2 r j) = vare (fun k => x3 (ix2 r k)) := by
  unfold vare
  unfold val_main_v22 val_main_v21 val_main_v18 val_main_v17 val_main_v16 val_main_v15 val_main_v12
  pointwise [val_main_cst_3, val_main_cst_4, val_main_cst_5]
  simp only [ctr_eq]

theorem rstd_eq (r : Fin 8192) (j : Fin 1) : val_main_v23 (F := Ideal) x3 (ix2 r j) = rstd (fun k => x3 (ix2 r k)) := by
  unfold rstd
  unfold val_main_v23
  pointwise
  rw [vare_eq]

theorem nrm_eq (r : Fin 8192) (j : Fin 1024) : val_main_v28 (F := Ideal) x3 (ix2 r j) = nrm (fun k => x3 (ix2 r k)) j := by
  unfold nrm
  unfold val_main_v28 val_main_v27
  pointwise
  rw [ctr_eq', rstd_eq]

/-- The gradient that reaches the normalized row. -/
theorem dxh_eq (r : Fin 8192) (j : Fin 1024) :
    val_main_v49 (F := Ideal) x0 x1 x2 x4 (ix2 r j) = dx x0 x1 x2 r j * x4 (ix2 0 j) := by
  unfold val_main_v49 val_main_v48 val_main_v29 val_main_v3
  pointwise
  rw [dx_eq]

theorem through_eq (r : Fin 8192) (j : Fin 1024) :
    val_main_v64 (F := Ideal) x0 x1 x2 x3 x4 (ix2 r j) = through (fun k => x3 (ix2 r k)) (fun k => dx x0 x1 x2 r k * x4 (ix2 0 k)) j := by
  unfold through
  unfold val_main_v64 val_main_v63 val_main_v62 val_main_v61 val_main_v60 val_main_v56 val_main_v53 val_main_v52 val_main_v51 val_main_v26 val_main_v25 val_main_v24 val_main_v14 val_main_v13
  pointwise [val_main_cst_2, val_main_cst_6, val_main_cst_13, val_main_cst_15, val_main_cst_16]
  simp only [ctr_eq, ctr_eq', vare_eq, rstd_eq, dxh_eq, Fin.sum_univ_one]

/-- The gradient of the norm's input, … -/
theorem dz_eq (r : Fin 8192) (j : Fin 1024) :
    val_main_v74 (F := Ideal) x0 x1 x2 x3 x4 (ix2 r j) = gradSteps (fun k => x3 (ix2 r k)) (fun k => dx x0 x1 x2 r k * x4 (ix2 0 k)) j := by
  unfold gradSteps
  unfold val_main_v74 val_main_v73 val_main_v72 val_main_v71 val_main_v70 val_main_v69 val_main_v68 val_main_v67 val_main_v66 val_main_v65 val_main_v59 val_main_v58 val_main_v57 val_main_v55 val_main_v54
  pointwise [val_main_cst_14, val_main_cst_17, val_main_cst_18, val_main_cst_19]
  simp only [through_eq, rstd_eq, dxh_eq, Fin.sum_univ_one]

/-- … the same rounded, … -/
theorem dz_half_eq (y : S8192x1024.Idx) :
    (val_main_v75 (F := Ideal) x0 x1 x2 x3 x4 : FVec Ideal S8192x1024 .bf16) y = (val_main_v74 (F := Ideal) x0 x1 x2 x3 x4 : FVec Ideal S8192x1024 .f32) y := by
  unfold val_main_v75
  pointwise

/-- … the scale's gradient, … -/
theorem dg_eq (q : Fin 1) (j : Fin 1024) :
    val_main_v76 (F := Ideal) x0 x1 x2 x3 (ix2 q j) = ∑ r : Fin 8192, nrm (fun k => x3 (ix2 r k)) j * dx x0 x1 x2 r j := by
  unfold val_main_v76 val_main_v50 val_main_v47 val_main_v46 val_main_v45
  pointwise [val_main_cst_11, val_main_cst_12]
  simp only [nrm_eq, dx_eq, Fin.sum_univ_one]

/-- … and the shift's. -/
theorem db_eq (q : Fin 1) (j : Fin 1024) :
    val_main_v77 (F := Ideal) x0 x1 x2 (ix2 q j) = ∑ r : Fin 8192, dx x0 x1 x2 r j := by
  unfold val_main_v77 val_main_v44 val_main_v43 val_main_v42
  pointwise [val_main_cst_9, val_main_cst_10]
  simp only [dx_eq, Fin.sum_univ_one]

end Cert.Reference6Ideal.Steps

end
-- ==== Proof.LruDx.Equation.lean ====
/- The gradient through the recurrent mixer's input projection and the layer norm before it: when the arguments but the norm's input are real numbers the reference's
   four results are the arrays the kernel's run leaves. -/
module

public import proofs.«01_k».proof.Proof.LruDx.Value
public import proofs.«01_k».proof.Proof.LruDx.Reference
public import proofs.«01_k».proof.Proof.Up.Equation
public import proofs.«01_k».proof.Pre_in_dx_finite

@[expose] public section

set_option maxRecDepth 16384

noncomputable section

namespace Cert.Kernel6Ideal.InDx

open Cert.Kernel6Ideal Cert.Kernel6Ideal.Gen Idealize.ShloMosaic Idealize.ShloMosaic.TcCoe Idealize.SL.Sem
open Cert.Kernel3Ideal.Up (ctr vare rstd nrm grad through gradSteps gradSteps_eq grad_zero IsReal IsReal.mul IsReal.add IsReal.sum isReal_of_lt ofBits_alpha)
open Cert.Reference6Ideal.Read

/-- The condition on the arguments, read: every entry of the four arrays it names is a real number. -/
theorem entries [Cert.Pre_in_dx_finite.Facts] (x0 : FVec Ideal Cert.Pre_in_dx_finite.S8192x2560 .bf16) (x1 : FVec Ideal Cert.Pre_in_dx_finite.S2560x1024 .bf16) (x2 x3 : FVec Ideal Cert.Pre_in_dx_finite.S8192x1024 .f32) (x4 : FVec Ideal Cert.Pre_in_dx_finite.S1x1024 .f32)
    (j : Cert.Pre_in_dx_finite.S_.Idx) (h : Cert.Pre_in_dx_finite.fn (F := Ideal) x0 x1 x2 x3 x4 j = 1#1) :
    (∀ i, IsReal (x0 i)) ∧ (∀ i, IsReal (x1 i)) ∧ (∀ i, IsReal (x2 i)) ∧ (∀ i, IsReal (x4 i)) := by
  have : Subsingleton Cert.Pre_in_dx_finite.S_.Idx := ⟨fun a b => funext fun k => k.elim0⟩
  unfold Cert.Pre_in_dx_finite.fn Cert.Pre_in_dx_finite.fn_part1 at h
  dsimp only at h
  simp only [andi_apply] at h
  obtain ⟨h, h4⟩ := IntOp.andi_eq_one.1 h
  obtain ⟨h, h2⟩ := IntOp.andi_eq_one.1 h
  obtain ⟨h0, h1⟩ := IntOp.andi_eq_one.1 h
  refine ⟨fun i => ?_, fun i => ?_, fun i => ?_, fun i => ?_⟩
  · exact isReal_of_lt _ (Host.reduce_andi_all _ _ _ _ j h0 i)
  · exact isReal_of_lt _ (Host.reduce_andi_all _ _ _ _ j h1 i)
  · exact isReal_of_lt _ (Host.reduce_andi_all _ _ _ _ j h2 i)
  · exact isReal_of_lt _ (Host.reduce_andi_all _ _ _ _ j h4 i)

/-- The shapes of that condition. -/
theorem facts : Cert.Pre_in_dx_finite.Facts := by
  constructor <;> decide

variable (m : (ℓ : Loc nD τ sig) → Buf (Elt Ideal) ℓ)

/-- The entries of every argument but the norm's input are real numbers. -/
def AllReal (c : Dev nD) : Prop :=
  (∀ i, IsReal (fh m c i)) ∧ (∀ i, IsReal (fw m c i)) ∧ (∀ i, IsReal (fr m c i)) ∧ (∀ i, IsReal (fg m c i))

theorem dx_ref (c : Dev nD) (r : Fin 8192) (j : Fin 1024) :
    Cert.Reference6Ideal.Steps.dx (fh m c) (fw m c) (fr m c) r j = dx m c r j := rfl

theorem dx_real (c : Dev nD) (h : AllReal m c) (r : Fin 8192) (j : Fin 1024) : IsReal (dx m c r j) := by
  obtain ⟨h0, h1, h2, -⟩ := h
  unfold dx
  exact (IsReal.mul ofBits_alpha (h2 _)).add (IsReal.sum _ _ fun k => (h0 _).mul (h1 _))

/-- Whatever the norm's input, the steps' gradient is the closed form. -/
theorem grad_ref (c : Dev nD) (h : AllReal m c) (r : Fin 8192) (j : Fin 1024) :
    gradSteps (row m c r) (dxh m c r) j = grad (row m c r) (dxh m c r) j := by
  obtain ⟨d, hd⟩ : ∃ d : Fin 1024 → ℝ, ∀ k, dxh m c r k = (d k : EReal) :=
    Classical.axiom_of_choice fun k => (dx_real m c h r k).mul (h.2.2.2 (ix2 0 k))
  by_cases hz : ∀ k, IsReal (row m c r k)
  · obtain ⟨z, hz⟩ : ∃ z : Fin 1024 → ℝ, ∀ k, row m c r k = (z k : EReal) := Classical.axiom_of_choice hz
    rw [funext hz, funext hd]
    exact gradSteps_eq z d j
  · obtain ⟨k, hk⟩ := not_forall.1 hz
    exact grad_zero _ _ k hk j

theorem reference_dz (c : Dev nD) (h : AllReal m c) :
    val_main_v74 (F := Ideal) (fh m c) (fw m c) (fr m c) (fz m c) (fg m c) = Gz m c := by
  funext i
  obtain ⟨r, j, rfl⟩ : ∃ (r : Fin 8192) (j : Fin 1024), i = ix2 r j := ⟨i 0, i 1, by funext a; fin_cases a <;> rfl⟩
  refine (Cert.Reference6Ideal.Steps.dz_eq _ _ _ _ _ r j).trans ?_
  simp only [dx_ref]
  exact grad_ref m c h r j

theorem reference_dz_half (c : Dev nD) (h : AllReal m c) :
    val_main_v75 (F := Ideal) (fh m c) (fw m c) (fr m c) (fz m c) (fg m c) = Gh m c := by
  funext i
  exact (Cert.Reference6Ideal.Steps.dz_half_eq _ _ _ _ _ i).trans (congrFun (reference_dz m c h) i)

theorem reference_dg (c : Dev nD) :
    val_main_v76 (F := Ideal) (fh m c) (fw m c) (fr m c) (fz m c) = Gg m c := by
  funext i
  obtain ⟨q, j, rfl⟩ : ∃ (q : Fin 1) (j : Fin 1024), i = ix2 q j := ⟨i 0, i 1, by funext a; fin_cases a <;> rfl⟩
  refine (Cert.Reference6Ideal.Steps.dg_eq _ _ _ _ q j).trans ?_
  unfold Gg
  rw [Finset.sum_range]
  refine Finset.sum_congr rfl fun r _ => ?_
  unfold termG
  rw [dif_pos r.isLt, dx_ref]
  exact mul_comm _ _

theorem reference_db (c : Dev nD) :
    val_main_v77 (F := Ideal) (fh m c) (fw m c) (fr m c) = Gb m c := by
  funext i
  obtain ⟨q, j, rfl⟩ : ∃ (q : Fin 1) (j : Fin 1024), i = ix2 q j := ⟨i 0, i 1, by funext a; fin_cases a <;> rfl⟩
  refine (Cert.Reference6Ideal.Steps.db_eq _ _ _ q j).trans ?_
  unfold Gb
  rw [Finset.sum_range]
  refine Finset.sum_congr rfl fun r _ => ?_
  unfold termB
  rw [dif_pos r.isLt, dx_ref]
  rfl

end Cert.Kernel6Ideal.InDx

end
-- ==== Proof.ScDx.Cases.lean ====
/- The gradient through the convolution mixer's input projection and the layer norm before it: what each case of the body leaves in its four
   outputs, as values, and those values read at an index. -/
module

public import proofs.«01_k».proof.Proof.Gen.Kernel7Ideal.Value
public import Idealize.ShloMosaic.Lib.Pipeline.Value
public import Idealize.ShloMosaic.Lib.Tactic
public import Idealize.ShloMosaic.Lib.Pointwise
public import proofs.«01_k».proof.Proof.Up.Row

@[expose] public section

set_option maxRecDepth 16384

noncomputable section

namespace Cert.Kernel7Ideal.InDx

open Cert.Kernel7Ideal Cert.Kernel7Ideal.Gen Idealize.ShloMosaic Idealize.ShloMosaic.TcCoe Idealize.SL.Sem
open Idealize.ShloMosaic.Pipeline (Dat)
open Cert.Kernel3Ideal.Up (ctr vare rstd nrm)

variable {F : FTy → Type} [FloatOps F]

theorem zero2 : (![0, 0] : Fin 2 → Nat) = fun _ => 0 := funext fun a => by fin_cases a <;> rfl

section cases

variable (c : Dev nD) (i : grid0.Coords)
  (a1 : Memref sig .tc .vmem S512x3072 .bf16) (h1 : a1.IsWhole)
  (a2 : Memref sig .tc .vmem S1024x3072 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S512x1024 .f32) (h6 : a6.IsWhole)
  (a7 : Memref sig .tc .vmem S512x1024 .bf16) (h7 : a7.IsWhole)
  (a8 : Memref sig .tc .vmem S1x1024 .f32) (h8 : a8.IsWhole)
  (a9 : Memref sig .tc .vmem S1x1024 .f32) (h9 : a9.IsWhole)
  (x0 : Vec F S512x3072 .bf16) (x1 : Vec F S1024x3072 .bf16) (x2 : Vec F S512x1024 .f32) (x3 : Vec F S512x1024 .f32) (x4 : Vec F S1x1024 .f32)
  (xs : Vec F S1x1024 .f32) (xb : Vec F S1x1024 .f32)

/-- The gradient of the normalized input, of one block. -/
abbrev blockDz : FVec F S512x1024 .f32 :=
  k0_pay1 (k0_pay9 x3) (k0_pay10 x3) (k0_pay11 x2 x0 x1 x4) (k0_pay12 x2 x0 x1 x4) (k0_pay13 x2 x0 x1 x3 x4)
/-- The same, rounded. -/
abbrev blockDzHalf : FVec F S512x1024 .bf16 :=
  k0_pay2 (k0_pay9 x3) (k0_pay10 x3) (k0_pay11 x2 x0 x1 x4) (k0_pay12 x2 x0 x1 x4) (k0_pay13 x2 x0 x1 x3 x4)

/-- The first block: the gradient of the normalized input, … -/
theorem out_A_5 (hc0 : cond0_0 i) :
    out0_A_5 c i a1 h1 a2 h2 a3 h3 a4 h4 a5 h5 a6 h6 a7 h7 a8 h8 a9 h9 hc0 x0 x1 x2 x3 x4 = blockDz x0 x1 x2 x3 x4 := by
  unfold out0_A_5
  rw [View.read_writes_eq_canon _ _ _ (cover0_A_5 c i a1 h1 a2 h2 a3 h3 a4 h4 a5 h5 a6 h6 a7 h7 a8 h8 a9 h9 hc0 x0 x1 x2 x3 x4)]
  unfold kernelRun0_A
  dsimp only
  sl_unfold_words
  rw [View.canon_unit_zero zero2]
  simp only [View.readAt_eq_ld, h1.read_unread, h2.read_unread, h3.read_unread, h4.read_unread, h5.read_unread, View.ld_unit_zero (S := S512x3072) zero2, View.ld_unit_zero (S := S1024x3072) zero2, View.ld_unit_zero (S := S512x1024) zero2, View.ld_unit_zero (S := S1x1024) zero2]

/-- … the same gradient rounded, … -/
theorem out_A_6 (hc0 : cond0_0 i) :
    out0_A_6 c i a1 h1 a2 h2 a3 h3 a4 h4 a5 h5 a6 h6 a7 h7 a8 h8 a9 h9 hc0 x0 x1 x2 x3 x4 = blockDzHalf x0 x1 x2 x3 x4 := by
  unfold out0_A_6
  rw [View.read_writes_eq_canon _ _ _ (cover0_A_6 c i a1 h1 a2 h2 a3 h3 a4 h4 a5 h5 a6 h6 a7 h7 a8 h8 a9 h9 hc0 x0 x1 x2 x3 x4)]
  unfold kernelRun0_A
  dsimp only
  sl_unfold_words
  rw [View.canon_unit_zero zero2]
  simp only [View.readAt_eq_ld, h1.read_unread, h2.read_unread, h3.read_unread, h4.read_unread, h5.read_unread, View.ld_unit_zero (S := S512x3072) zero2, View.ld_unit_zero (S := S1024x3072) zero2, View.ld_unit_zero (S := S512x1024) zero2, View.ld_unit_zero (S := S1x1024) zero2]

/-- … the scale's gradient, begun at zero, … -/
theorem out_A_7 (hc0 : cond0_0 i) :
    out0_A_7 c i a1 h1 a2 h2 a3 h3 a4 h4 a5 h5 a6 h6 a7 h7 a8 h8 a9 h9 hc0 x0 x1 x2 x3 x4 = k0_pay3 (k0_pay7 x2 x0 x1) (k0_pay10 x3) k0_pay5 := by
  unfold out0_A_7
  rw [View.read_writes_eq_canon _ _ _ (cover0_A_7 c i a1 h1 a2 h2 a3 h3 a4 h4 a5 h5 a6 h6 a7 h7 a8 h8 a9 h9 hc0 x0 x1 x2 x3 x4)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, h4.read_unread, h5.read_unread, View.ld_unit_zero (S := S512x3072) zero2, View.ld_unit_zero (S := S1024x3072) zero2, View.ld_unit_zero (S := S512x1024) zero2, View.ld_unit_zero (S := S1x1024) zero2]

/-- … and the shift's, begun at zero. -/
theorem out_A_8 (hc0 : cond0_0 i) :
    out0_A_8 c i a1 h1 a2 h2 a3 h3 a4 h4 a5 h5 a6 h6 a7 h7 a8 h8 a9 h9 hc0 x0 x1 x2 x3 x4 = k0_pay4 (k0_pay7 x2 x0 x1) k0_pay6 := by
  unfold out0_A_8
  rw [View.read_writes_eq_canon _ _ _ (cover0_A_8 c i a1 h1 a2 h2 a3 h3 a4 h4 a5 h5 a6 h6 a7 h7 a8 h8 a9 h9 hc0 x0 x1 x2 x3 x4)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, h4.read_unread, h5.read_unread, View.ld_unit_zero (S := S512x3072) zero2, View.ld_unit_zero (S := S1024x3072) zero2, View.ld_unit_zero (S := S512x1024) zero2, View.ld_unit_zero (S := S1x1024) zero2]

/-- A later block: the same two gradients, … -/
theorem out_B_5 (hc0 : ¬cond0_0 i) :
    out0_B_5 c i a1 h1 a2 h2 a3 h3 a4 h4 a5 h5 a6 h6 a7 h7 a8 h8 a9 h9 hc0 x0 x1 x2 x3 x4 xs xb = blockDz x0 x1 x2 x3 x4 := by
  unfold out0_B_5
  rw [View.read_writes_eq_canon _ _ _ (cover0_B_5 c i a1 h1 a2 h2 a3 h3 a4 h4 a5 h5 a6 h6 a7 h7 a8 h8 a9 h9 hc0 x0 x1 x2 x3 x4 xs xb)]
  unfold kernelRun0_B
  dsimp only
  sl_unfold_words
  rw [View.canon_unit_zero zero2]
  simp only [View.readAt_eq_ld, h1.read_unread, h2.read_unread, h3.read_unread, h4.read_unread, h5.read_unread, h8.read_unread, h9.read_unread, View.ld_unit_zero (S := S512x3072) zero2, View.ld_unit_zero (S := S1024x3072) zero2, View.ld_unit_zero (S := S512x1024) zero2, View.ld_unit_zero (S := S1x1024) zero2]

/-- … the rounded one, … -/
theorem out_B_6 (hc0 : ¬cond0_0 i) :
    out0_B_6 c i a1 h1 a2 h2 a3 h3 a4 h4 a5 h5 a6 h6 a7 h7 a8 h8 a9 h9 hc0 x0 x1 x2 x3 x4 xs xb = blockDzHalf x0 x1 x2 x3 x4 := by
  unfold out0_B_6
  rw [View.read_writes_eq_canon _ _ _ (cover0_B_6 c i a1 h1 a2 h2 a3 h3 a4 h4 a5 h5 a6 h6 a7 h7 a8 h8 a9 h9 hc0 x0 x1 x2 x3 x4 xs xb)]
  unfold kernelRun0_B
  dsimp only
  sl_unfold_words
  rw [View.canon_unit_zero zero2]
  simp only [View.readAt_eq_ld, h1.read_unread, h2.read_unread, h3.read_unread, h4.read_unread, h5.read_unread, h8.read_unread, h9.read_unread, View.ld_unit_zero (S := S512x3072) zero2, View.ld_unit_zero (S := S1024x3072) zero2, View.ld_unit_zero (S := S512x1024) zero2, View.ld_unit_zero (S := S1x1024) zero2]

/-- … the scale's gradient, added to what the blocks before left, … -/
theorem out_B_7 (hc0 : ¬cond0_0 i) :
    out0_B_7 c i a1 h1 a2 h2 a3 h3 a4 h4 a5 h5 a6 h6 a7 h7 a8 h8 a9 h9 hc0 x0 x1 x2 x3 x4 xs xb = k0_pay3 (k0_pay7 x2 x0 x1) (k0_pay10 x3) xs := by
  unfold out0_B_7
  rw [View.read_writes_eq_canon _ _ _ (cover0_B_7 c i a1 h1 a2 h2 a3 h3 a4 h4 a5 h5 a6 h6 a7 h7 a8 h8 a9 h9 hc0 x0 x1 x2 x3 x4 xs xb)]
  unfold kernelRun0_B
  dsimp only
  sl_unfold_words
  rw [View.canon_unit_zero zero2]
  simp only [View.readAt_eq_ld, h1.read_unread, h2.read_unread, h3.read_unread, h4.read_unread, h5.read_unread, h8.read_unread, h9.read_unread, View.ld_unit_zero (S := S512x3072) zero2, View.ld_unit_zero (S := S1024x3072) zero2, View.ld_unit_zero (S := S512x1024) zero2, View.ld_unit_zero (S := S1x1024) zero2]

/-- … and the shift's. -/
theorem out_B_8 (hc0 : ¬cond0_0 i) :
    out0_B_8 c i a1 h1 a2 h2 a3 h3 a4 h4 a5 h5 a6 h6 a7 h7 a8 h8 a9 h9 hc0 x0 x1 x2 x3 x4 xs xb = k0_pay4 (k0_pay7 x2 x0 x1) xb := by
  unfold out0_B_8
  rw [View.read_writes_eq_canon _ _ _ (cover0_B_8 c i a1 h1 a2 h2 a3 h3 a4 h4 a5 h5 a6 h6 a7 h7 a8 h8 a9 h9 hc0 x0 x1 x2 x3 x4 xs xb)]
  unfold kernelRun0_B
  dsimp only
  sl_unfold_words
  rw [View.canon_unit_zero zero2]
  simp only [View.readAt_eq_ld, h1.read_unread, h2.read_unread, h3.read_unread, h4.read_unread, h5.read_unread, h8.read_unread, h9.read_unread, View.ld_unit_zero (S := S512x3072) zero2, View.ld_unit_zero (S := S1024x3072) zero2, View.ld_unit_zero (S := S512x1024) zero2, View.ld_unit_zero (S := S1x1024) zero2]

end cases

/-! The values at an index, as extended reals. -/

theorem pay7_apply (r : Vec Ideal S512x1024 .f32) (x : Vec Ideal S512x3072 .bf16) (w : Vec Ideal S1024x3072 .bf16) (p : Fin 512) (j : Fin 1024) :
    k0_pay7 r x w (ix2 p j) = Ideal.ofBits .f32 0x3FD744FD#32 * r (ix2 p j) + ∑ k : Fin 3072, x (ix2 p k) * w (ix2 j k) := by
  unfold k0_pay7
  pointwise

theorem pay8_apply (z : Vec Ideal S512x1024 .f32) (p : Fin 512) (j : Fin 1024) :
    k0_pay8 z (ix2 p j) = ctr (fun k => z (ix2 p k)) j := by
  unfold k0_pay8 ctr
  pointwise

theorem pay9_apply (z : Vec Ideal S512x1024 .f32) (p : Fin 512) (j : Fin 1) :
    k0_pay9 z (ix2 p j) = rstd (fun k => z (ix2 p k)) := by
  unfold k0_pay9 rstd vare
  pointwise
  simp only [pay8_apply]

theorem pay10_apply (z : Vec Ideal S512x1024 .f32) (p : Fin 512) (j : Fin 1024) :
    k0_pay10 z (ix2 p j) = nrm (fun k => z (ix2 p k)) j := by
  unfold k0_pay10 nrm
  pointwise
  rw [pay8_apply, pay9_apply]

section products

variable (r : Vec Ideal S512x1024 .f32) (x : Vec Ideal S512x3072 .bf16) (w : Vec Ideal S1024x3072 .bf16) (z : Vec Ideal S512x1024 .f32) (g : Vec Ideal S1x1024 .f32) (p : Fin 512)

theorem pay11_apply (j : Fin 1024) : k0_pay11 r x w g (ix2 p j) = k0_pay7 r x w (ix2 p j) * g (ix2 0 j) := by
  unfold k0_pay11
  pointwise

theorem pay12_apply (j : Fin 1) :
    k0_pay12 r x w g (ix2 p j) = Ideal.div (∑ k, k0_pay11 r x w g (ix2 p k)) (Ideal.ofBits .f32 0x44800000#32) := by
  unfold k0_pay12
  pointwise

theorem pay13_apply :
    k0_pay13 r x w z g (ix1 p) = ∑ k, k0_pay11 r x w g (ix2 p k) * k0_pay10 z (ix2 p k) := by
  unfold k0_pay13
  pointwise

end products

theorem pay1_apply (s : FVec Ideal S512x1 .f32) (h d : FVec Ideal S512x1024 .f32) (mean : FVec Ideal S512x1 .f32) (part : FVec Ideal S512 .f32) (p : Fin 512) (j : Fin 1024) :
    k0_pay1 s h d mean part (ix2 p j) = s (ix2 p 0) * (d (ix2 p j) - mean (ix2 p 0)
      - h (ix2 p j) * Ideal.div (part (ix1 p)) (Ideal.ofBits .f32 0x44800000#32)) := by
  unfold k0_pay1
  pointwise

theorem pay2_apply (s : FVec Ideal S512x1 .f32) (h d : FVec Ideal S512x1024 .f32) (mean : FVec Ideal S512x1 .f32) (part : FVec Ideal S512 .f32) (y : S512x1024.Idx) :
    (k0_pay2 s h d mean part : FVec Ideal S512x1024 .bf16) y = (k0_pay1 s h d mean part : FVec Ideal S512x1024 .f32) y := by
  unfold k0_pay2
  pointwise

theorem pay3_apply (d h : FVec Ideal S512x1024 .f32) (acc : Vec Ideal S1x1024 .f32) (q : Fin 1) (j : Fin 1024) :
    k0_pay3 d h acc (ix2 q j) = acc (ix2 q j) + ∑ p : Fin 512, d (ix2 p j) * h (ix2 p j) := by
  unfold k0_pay3
  pointwise

theorem pay4_apply (d : FVec Ideal S512x1024 .f32) (acc : Vec Ideal S1x1024 .f32) (q : Fin 1) (j : Fin 1024) :
    k0_pay4 d acc (ix2 q j) = acc (ix2 q j) + ∑ p : Fin 512, d (ix2 p j) := by
  unfold k0_pay4
  pointwise

theorem pay5_apply (j : S1x1024.Idx) : (k0_pay5 : FVec Ideal S1x1024 .f32) j = 0 := by
  unfold k0_pay5
  pointwise

theorem pay6_apply (j : S1x1024.Idx) : (k0_pay6 : FVec Ideal S1x1024 .f32) j = 0 := by
  unfold k0_pay6
  pointwise

end Cert.Kernel7Ideal.InDx

end
-- ==== Proof.ScDx.Value.lean ====
/- The gradient through the convolution mixer's input projection and the layer norm before it: the four arrays the run leaves, as functions of the arguments. -/
module

public import proofs.«01_k».proof.Proof.ScDx.Cases

@[expose] public section

set_option maxRecDepth 16384

noncomputable section

namespace Cert.Kernel7Ideal.InDx

open Cert.Kernel7Ideal Cert.Kernel7Ideal.Gen Idealize.ShloMosaic Idealize.ShloMosaic.TcCoe Idealize.SL.Sem
open Idealize.ShloMosaic.Pipeline (Dat)
open Cert.Kernel3Ideal.Up (ctr vare rstd nrm grad)

variable (m : (ℓ : Loc nD τ sig) → Buf (Elt Ideal) ℓ) (ρ : Dev nD → PrngReg)

/-- The arguments: the gradient of the projection, the weight, the rest of the gradient, the norm's input and its scale. -/
abbrev fh (c : Dev nD) : Vec Ideal S8192x3072 .bf16 := m ((c : Thread nD τ).loc main_arg0)
abbrev fw (c : Dev nD) : Vec Ideal S1024x3072 .bf16 := m ((c : Thread nD τ).loc main_arg1)
abbrev fr (c : Dev nD) : Vec Ideal S8192x1024 .f32 := m ((c : Thread nD τ).loc main_arg2)
abbrev fz (c : Dev nD) : Vec Ideal S8192x1024 .f32 := m ((c : Thread nD τ).loc main_arg3)
abbrev fg (c : Dev nD) : Vec Ideal S1x1024 .f32 := m ((c : Thread nD τ).loc main_arg4)

/-- The gradient that reaches the norm, at a row and a column. -/
def dx (c : Dev nD) (r : Fin 8192) (j : Fin 1024) : EReal :=
  Ideal.ofBits .f32 0x3FD744FD#32 * fr m c (ix2 r j) + ∑ k : Fin 3072, fh m c (ix2 r k) * fw m c (ix2 j k)

/-- The norm's input along a row, and the gradient that reaches the normalized row. -/
def row (c : Dev nD) (r : Fin 8192) : Fin 1024 → EReal := fun k => fz m c (ix2 r k)
def dxh (c : Dev nD) (r : Fin 8192) : Fin 1024 → EReal := fun k => dx m c r k * fg m c (ix2 0 k)

/-- Where the blocks of point `t` lie. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

theorem index_out : ∀ t : Fin cfg0.N, win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The row of the arrays that row `p` of point `t`'s block is. -/
def at_ (t : Fin cfg0.N) (p : Fin 512) : Fin 8192 :=
  ⟨t.val * 512 + p.val, by have h : t.val < 16 := lt_of_lt_of_eq t.isLt N_0; have := p.isLt; omega⟩

theorem block_h (c : Dev nD) (t : Fin cfg0.N) (p : Fin 512) (k : Fin 3072) :
    (iblk m c 0 t : Vec Ideal S512x3072 .bf16) (ix2 p k) = fh m c (ix2 (at_ t p) k) := by
  obtain ⟨e0, e1, -⟩ := index_facts t
  show fh m c (((cfg0.win 0).blk t).view.emb (ix2 p k)) = _
  congr 1
  funext a
  match a with
  | ⟨0, _⟩ => exact Fin.ext (by show win0_0.index t (0 : Fin 2) * 512 + 1 * p.val = _; rw [e0, one_mul]; rfl)
  | ⟨1, _⟩ => exact Fin.ext (by show win0_0.index t (1 : Fin 2) * 3072 + 1 * k.val = _; rw [e1, one_mul, Nat.zero_mul, Nat.zero_add]; rfl)

theorem block_w (c : Dev nD) (t : Fin cfg0.N) (p : Fin 1024) (k : Fin 3072) :
    (iblk m c 1 t : Vec Ideal S1024x3072 .bf16) (ix2 p k) = fw m c (ix2 p k) := by
  obtain ⟨-, -, e0, e1, -⟩ := index_facts t
  show fw m c (((cfg0.win 1).blk t).view.emb (ix2 p k)) = _
  congr 1
  funext a
  match a with
  | ⟨0, _⟩ => exact Fin.ext (by show win0_1.index t (0 : Fin 2) * 1024 + 1 * p.val = _; rw [e0, one_mul, Nat.zero_mul, Nat.zero_add]; rfl)
  | ⟨1, _⟩ => exact Fin.ext (by show win0_1.index t (1 : Fin 2) * 3072 + 1 * k.val = _; rw [e1, one_mul, Nat.zero_mul, Nat.zero_add]; rfl)

theorem block_r (c : Dev nD) (t : Fin cfg0.N) (p : Fin 512) (k : Fin 1024) :
    (iblk m c 2 t : Vec Ideal S512x1024 .f32) (ix2 p k) = fr m c (ix2 (at_ t p) k) := by
  obtain ⟨-, -, -, -, e0, e1, -⟩ := index_facts t
  show fr m c (((cfg0.win 2).blk t).view.emb (ix2 p k)) = _
  congr 1
  funext a
  match a with
  | ⟨0, _⟩ => exact Fin.ext (by show win0_2.index t (0 : Fin 2) * 512 + 1 * p.val = _; rw [e0, one_mul]; rfl)
  | ⟨1, _⟩ => exact Fin.ext (by show win0_2.index t (1 : Fin 2) * 1024 + 1 * k.val = _; rw [e1, one_mul, Nat.zero_mul, Nat.zero_add]; rfl)

theorem block_z (c : Dev nD) (t : Fin cfg0.N) (p : Fin 512) (k : Fin 1024) :
    (iblk m c 3 t : Vec Ideal S512x1024 .f32) (ix2 p k) = fz m c (ix2 (at_ t p) k) := by
  obtain ⟨-, -, -, -, -, -, e0, e1, -⟩ := index_facts t
  show fz m c (((cfg0.win 3).blk t).view.emb (ix2 p k)) = _
  congr 1
  funext a
  match a with
  | ⟨0, _⟩ => exact Fin.ext (by show win0_3.index t (0 : Fin 2) * 512 + 1 * p.val = _; rw [e0, one_mul]; rfl)
  | ⟨1, _⟩ => exact Fin.ext (by show win0_3.index t (1 : Fin 2) * 1024 + 1 * k.val = _; rw [e1, one_mul, Nat.zero_mul, Nat.zero_add]; rfl)

theorem block_g (c : Dev nD) (t : Fin cfg0.N) (p : Fin 1) (k : Fin 1024) :
    (iblk m c 4 t : Vec Ideal S1x1024 .f32) (ix2 p k) = fg m c (ix2 p k) := by
  obtain ⟨-, -, -, -, -, -, -, -, e0, e1⟩ := index_facts t
  show fg m c (((cfg0.win 4).blk t).view.emb (ix2 p k)) = _
  congr 1
  funext a
  match a with
  | ⟨0, _⟩ => exact Fin.ext (by show win0_4.index t (0 : Fin 2) * 1 + 1 * p.val = _; rw [e0, one_mul, Nat.zero_mul, Nat.zero_add]; rfl)
  | ⟨1, _⟩ => exact Fin.ext (by show win0_4.index t (1 : Fin 2) * 1024 + 1 * k.val = _; rw [e1, one_mul, Nat.zero_mul, Nat.zero_add]; rfl)

/-! What one point computes, at an index. -/

abbrev pdx (c : Dev nD) (t : Fin cfg0.N) : FVec Ideal S512x1024 .f32 :=
  k0_pay7 (iblk m c 2 t) (iblk m c 0 t) (iblk m c 1 t)
abbrev pdxh (c : Dev nD) (t : Fin cfg0.N) : FVec Ideal S512x1024 .f32 :=
  k0_pay11 (iblk m c 2 t) (iblk m c 0 t) (iblk m c 1 t) (iblk m c 4 t)
abbrev pdz (c : Dev nD) (t : Fin cfg0.N) : FVec Ideal S512x1024 .f32 :=
  blockDz (iblk m c 0 t) (iblk m c 1 t) (iblk m c 2 t) (iblk m c 3 t) (iblk m c 4 t)

theorem point_dx (c : Dev nD) (t : Fin cfg0.N) (p : Fin 512) (j : Fin 1024) : pdx m c t (ix2 p j) = dx m c (at_ t p) j := by
  unfold dx
  refine (pay7_apply _ _ _ p j).trans ?_
  simp only [block_h, block_w, block_r]

theorem point_dxh (c : Dev nD) (t : Fin cfg0.N) (p : Fin 512) (j : Fin 1024) : pdxh m c t (ix2 p j) = dxh m c (at_ t p) j := by
  unfold dxh
  refine (pay11_apply _ _ _ _ p j).trans ?_
  rw [block_g]
  exact congrArg (· * _) (point_dx m c t p j)

theorem point_rstd (c : Dev nD) (t : Fin cfg0.N) (p : Fin 512) (j : Fin 1) :
    (k0_pay9 (iblk m c 3 t) : FVec Ideal S512x1 .f32) (ix2 p j) = rstd (row m c (at_ t p)) := by
  rw [pay9_apply]
  simp only [block_z]
  rfl

theorem point_nrm (c : Dev nD) (t : Fin cfg0.N) (p : Fin 512) (j : Fin 1024) :
    (k0_pay10 (iblk m c 3 t) : FVec Ideal S512x1024 .f32) (ix2 p j) = nrm (row m c (at_ t p)) j := by
  rw [pay10_apply]
  simp only [block_z]
  rfl

theorem point_dz (c : Dev nD) (t : Fin cfg0.N) (p : Fin 512) (j : Fin 1024) :
    pdz m c t (ix2 p j) = grad (row m c (at_ t p)) (dxh m c (at_ t p)) j := by
  refine (pay1_apply _ _ _ _ _ p j).trans ?_
  rw [pay12_apply, pay13_apply]
  simp only [point_rstd, point_nrm, point_dxh]
  rfl

/-- The terms of the two sums over the rows (nothing beyond the last row). -/
def termG (c : Dev nD) (j : Fin 1024) (r : ℕ) : EReal := if h : r < 8192 then dx m c ⟨r, h⟩ j * nrm (row m c ⟨r, h⟩) j else 0
def termB (c : Dev nD) (j : Fin 1024) (r : ℕ) : EReal := if h : r < 8192 then dx m c ⟨r, h⟩ j else 0

theorem point_dg (c : Dev nD) (t : Fin cfg0.N) (acc : Vec Ideal S1x1024 .f32) (q : Fin 1) (j : Fin 1024) :
    (k0_pay3 (pdx m c t) (k0_pay10 (iblk m c 3 t)) acc : FVec Ideal S1x1024 .f32) (ix2 q j)
      = acc (ix2 q j) + ∑ p ∈ Finset.range 512, termG m c j (t.val * 512 + p) := by
  rw [pay3_apply, Finset.sum_range]
  congr 1
  refine Finset.sum_congr rfl fun p _ => ?_
  rw [point_dx, point_nrm]
  unfold termG
  have h : t.val * 512 + p.val < 8192 := (at_ t p).isLt
  rw [dif_pos h]
  rfl

theorem point_db (c : Dev nD) (t : Fin cfg0.N) (acc : Vec Ideal S1x1024 .f32) (q : Fin 1) (j : Fin 1024) :
    (k0_pay4 (pdx m c t) acc : FVec Ideal S1x1024 .f32) (ix2 q j)
      = acc (ix2 q j) + ∑ p ∈ Finset.range 512, termB m c j (t.val * 512 + p) := by
  rw [pay4_apply, Finset.sum_range]
  congr 1
  refine Finset.sum_congr rfl fun p _ => ?_
  rw [point_dx]
  unfold termB
  have h : t.val * 512 + p.val < 8192 := (at_ t p).isLt
  rw [dif_pos h]
  rfl

/-! The arrays the run leaves. -/

def Gz (c : Dev nD) : Vec Ideal S8192x1024 .f32 := fun i => grad (row m c (i 0)) (dxh m c (i 0)) (i 1)
def Gh (c : Dev nD) : Vec Ideal S8192x1024 .bf16 := fun i => grad (row m c (i 0)) (dxh m c (i 0)) (i 1)
def Gg (c : Dev nD) : Vec Ideal S1x1024 .f32 := fun i => ∑ r ∈ Finset.range 8192, termG m c (i 1) r
def Gb (c : Dev nD) : Vec Ideal S1x1024 .f32 := fun i => ∑ r ∈ Finset.range 8192, termB m c (i 1) r

/-- What point `t` leaves in the outputs, at an index: the norm's gradient of its rows, … -/
theorem outs_dz (c : Dev nD) (t : Fin cfg0.N) :
    (outsAt0 m c t.val t.isLt).1 = pdz m c t := by
  by_cases h0 : t.val % 16 = 0
  · rw [outsAt0_A m c t h0]
    dsimp only
    rw [out_A_5]
  · rw [outsAt0_B m c t h0]
    dsimp only
    rw [out_B_5]

theorem outs_dz_half (c : Dev nD) (t : Fin cfg0.N) :
    (outsAt0 m c t.val t.isLt).2.1 = blockDzHalf (iblk m c 0 t) (iblk m c 1 t) (iblk m c 2 t) (iblk m c 3 t) (iblk m c 4 t) := by
  by_cases h0 : t.val % 16 = 0
  · rw [outsAt0_A m c t h0]
    dsimp only
    rw [out_A_6]
  · rw [outsAt0_B m c t h0]
    dsimp only
    rw [out_B_6]

/-- … and the two sums over the rows seen so far. -/
theorem sums_eq (c : Dev nD) : ∀ (n : ℕ) (hn : n < cfg0.N) (q : Fin 1) (j : Fin 1024),
    (outsAt0 m c n hn).2.2.1 (ix2 q j) = ∑ r ∈ Finset.range ((n + 1) * 512), termG m c j r
    ∧ (outsAt0 m c n hn).2.2.2 (ix2 q j) = ∑ r ∈ Finset.range ((n + 1) * 512), termB m c j r := by
  intro n
  induction n with
  | zero =>
    intro hn q j
    have e := outsAt0_A m c ⟨0, hn⟩ (Nat.zero_mod 16)
    rw [show outsAt0 m c 0 hn = _ from e]
    dsimp only
    rw [out_A_7, out_A_8, point_dg, point_db, pay5_apply, pay6_apply, zero_add]
    simp only [Nat.zero_mul, Nat.zero_add, Nat.one_mul, zero_add]
    exact ⟨trivial, trivial⟩
  | succ n ih =>
    intro hn q j
    have hN : n + 1 < 16 := lt_of_lt_of_eq hn N_0
    have h0 : ¬(n + 1) % 16 = 0 := by omega
    obtain ⟨i1, i2⟩ := ih (Nat.lt_of_succ_lt hn) q j
    have e := outsAt0_B m c ⟨n + 1, hn⟩ h0
    rw [show outsAt0 m c (n + 1) hn = _ from e]
    dsimp only
    rw [out_B_7, out_B_8, point_dg, point_db]
    rw [show (n + 1 + 1) * 512 = (n + 1) * 512 + 512 by omega, Finset.sum_range_add, Finset.sum_range_add, ← i1, ← i2]
    exact ⟨rfl, rfl⟩

theorem flushed_dz (c : Dev nD) (t : Fin cfg0.N) :
    (dats m 0 c).flushed 5 t = ((cfg0.win 5).blk t).view.read (Elt Ideal) (Gz m c) := by
  obtain ⟨e0, e1, -⟩ := index_out t
  rw [Value.flushed5 m c t, outs_dz]
  funext y
  obtain ⟨p, j, rfl⟩ : ∃ (p : Fin 512) (j : Fin 1024), y = ix2 p j := ⟨y 0, y 1, by funext a; fin_cases a <;> rfl⟩
  refine (point_dz m c t p j).trans ?_
  show _ = Gz m c (((cfg0.win 5).blk t).view.emb (ix2 p j))
  have q : ((cfg0.win 5).blk t).view.emb (ix2 p j) = ix2 (at_ t p) j := by
    funext a
    match a with
    | ⟨0, _⟩ => exact Fin.ext (by show win0_5.index t (0 : Fin 2) * 512 + 1 * p.val = _; rw [e0, one_mul]; rfl)
    | ⟨1, _⟩ => exact Fin.ext (by show win0_5.index t (1 : Fin 2) * 1024 + 1 * j.val = _; rw [e1, one_mul, Nat.zero_mul, Nat.zero_add]; rfl)
  rw [q]
  rfl

theorem flushed_dz_half (c : Dev nD) (t : Fin cfg0.N) :
    (dats m 0 c).flushed 6 t = ((cfg0.win 6).blk t).view.read (Elt Ideal) (Gh m c) := by
  obtain ⟨-, -, e0, e1, -⟩ := index_out t
  rw [Value.flushed6 m c t, outs_dz_half]
  funext y
  obtain ⟨p, j, rfl⟩ : ∃ (p : Fin 512) (j : Fin 1024), y = ix2 p j := ⟨y 0, y 1, by funext a; fin_cases a <;> rfl⟩
  refine (pay2_apply _ _ _ _ _ _).trans ((point_dz m c t p j).trans ?_)
  show _ = Gh m c (((cfg0.win 6).blk t).view.emb (ix2 p j))
  have q : ((cfg0.win 6).blk t).view.emb (ix2 p j) = ix2 (at_ t p) j := by
    funext a
    match a with
    | ⟨0, _⟩ => exact Fin.ext (by show win0_6.index t (0 : Fin 2) * 512 + 1 * p.val = _; rw [e0, one_mul]; rfl)
    | ⟨1, _⟩ => exact Fin.ext (by show win0_6.index t (1 : Fin 2) * 1024 + 1 * j.val = _; rw [e1, one_mul, Nat.zero_mul, Nat.zero_add]; rfl)
  rw [q]
  rfl

theorem flushed_dg (c : Dev nD) (t : Fin cfg0.N) (hf : (cfg0.win 7).flush t = true) :
    (dats m 0 c).flushed 7 t = ((cfg0.win 7).blk t).view.read (Elt Ideal) (Gg m c) := by
  have h15 : t.val % 16 = 15 := (flush0_7 t).mp hf
  have hN : t.val < 16 := lt_of_lt_of_eq t.isLt N_0
  obtain ⟨-, -, -, -, e0, e1, -⟩ := index_out t
  rw [Value.flushed7 m c t]
  funext y
  obtain ⟨q, j, rfl⟩ : ∃ (q : Fin 1) (j : Fin 1024), y = ix2 q j := ⟨y 0, y 1, by funext a; fin_cases a <;> rfl⟩
  refine ((sums_eq m c t.val t.isLt q j).1).trans ?_
  show _ = Gg m c (((cfg0.win 7).blk t).view.emb (ix2 q j))
  have e : ((cfg0.win 7).blk t).view.emb (ix2 q j) = ix2 q j := by
    funext a
    match a with
    | ⟨0, _⟩ => exact Fin.ext (by show win0_7.index t (0 : Fin 2) * 1 + 1 * q.val = _; rw [e0, one_mul, Nat.zero_mul, Nat.zero_add]; rfl)
    | ⟨1, _⟩ => exact Fin.ext (by show win0_7.index t (1 : Fin 2) * 1024 + 1 * j.val = _; rw [e1, one_mul, Nat.zero_mul, Nat.zero_add]; rfl)
  rw [e]
  unfold Gg
  rw [show (t.val + 1) * 512 = 8192 by omega]
  rfl

theorem flushed_db (c : Dev nD) (t : Fin cfg0.N) (hf : (cfg0.win 8).flush t = true) :
    (dats m 0 c).flushed 8 t = ((cfg0.win 8).blk t).view.read (Elt Ideal) (Gb m c) := by
  have h15 : t.val % 16 = 15 := (flush0_8 t).mp hf
  have hN : t.val < 16 := lt_of_lt_of_eq t.isLt N_0
  obtain ⟨-, -, -, -, -, -, e0, e1⟩ := index_out t
  rw [Value.flushed8 m c t]
  funext y
  obtain ⟨q, j, rfl⟩ : ∃ (q : Fin 1) (j : Fin 1024), y = ix2 q j := ⟨y 0, y 1, by funext a; fin_cases a <;> rfl⟩
  refine ((sums_eq m c t.val t.isLt q j).2).trans ?_
  show _ = Gb m c (((cfg0.win 8).blk t).view.emb (ix2 q j))
  have e : ((cfg0.win 8).blk t).view.emb (ix2 q j) = ix2 q j := by
    funext a
    match a with
    | ⟨0, _⟩ => exact Fin.ext (by show win0_8.index t (0 : Fin 2) * 1 + 1 * q.val = _; rw [e0, one_mul, Nat.zero_mul, Nat.zero_add]; rfl)
    | ⟨1, _⟩ => exact Fin.ext (by show win0_8.index t (1 : Fin 2) * 1024 + 1 * j.val = _; rw [e1, one_mul, Nat.zero_mul, Nat.zero_add]; rfl)
  rw [e]
  unfold Gb
  rw [show (t.val + 1) * 512 = 8192 by omega]
  rfl

/-! Every index lies in a block that is written back. -/

theorem covered5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  obtain ⟨t, ht⟩ : ∃ t : Fin cfg0.N, t.val = (i 0).val / 512 := ⟨⟨(i 0).val / 512, lt_of_lt_of_eq (by omega) N_0.symm⟩, rfl⟩
  obtain ⟨e0, e1, -⟩ := index_out t
  refine ⟨t, flush0_5 t, ?_⟩
  have e : ((cfg0.win 5).blk t).view.emb (ix2 (⟨(i 0).val % 512, by omega⟩ : Fin 512) (⟨(i 1).val, h1⟩ : Fin 1024)) = i := by
    funext a
    match a with
    | ⟨0, _⟩ => exact Fin.ext (by show win0_5.index t (0 : Fin 2) * 512 + 1 * ((i 0).val % 512) = (i 0).val; rw [e0, ht]; omega)
    | ⟨1, _⟩ => exact Fin.ext (by show win0_5.index t (1 : Fin 2) * 1024 + 1 * (i 1).val = (i 1).val; rw [e1]; omega)
  rw [← e]
  exact View.emb_mem_set _ _

theorem covered6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  obtain ⟨t, ht⟩ : ∃ t : Fin cfg0.N, t.val = (i 0).val / 512 := ⟨⟨(i 0).val / 512, lt_of_lt_of_eq (by omega) N_0.symm⟩, rfl⟩
  obtain ⟨-, -, e0, e1, -⟩ := index_out t
  refine ⟨t, flush0_6 t, ?_⟩
  have e : ((cfg0.win 6).blk t).view.emb (ix2 (⟨(i 0).val % 512, by omega⟩ : Fin 512) (⟨(i 1).val, h1⟩ : Fin 1024)) = i := by
    funext a
    match a with
    | ⟨0, _⟩ => exact Fin.ext (by show win0_6.index t (0 : Fin 2) * 512 + 1 * ((i 0).val % 512) = (i 0).val; rw [e0, ht]; omega)
    | ⟨1, _⟩ => exact Fin.ext (by show win0_6.index t (1 : Fin 2) * 1024 + 1 * (i 1).val = (i 1).val; rw [e1]; omega)
  rw [← e]
  exact View.emb_mem_set _ _

theorem covered7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  obtain ⟨t, ht⟩ : ∃ t : Fin cfg0.N, t.val = 15 := ⟨⟨15, lt_of_lt_of_eq (by omega) N_0.symm⟩, rfl⟩
  obtain ⟨-, -, -, -, e0, e1, -⟩ := index_out t
  refine ⟨t, (flush0_7 t).mpr (by omega), ?_⟩
  have e : ((cfg0.win 7).blk t).view.emb (ix2 (⟨(i 0).val, h0⟩ : Fin 1) (⟨(i 1).val, h1⟩ : Fin 1024)) = i := by
    funext a
    match a with
    | ⟨0, _⟩ => exact Fin.ext (by show win0_7.index t (0 : Fin 2) * 1 + 1 * (i 0).val = (i 0).val; rw [e0]; omega)
    | ⟨1, _⟩ => exact Fin.ext (by show win0_7.index t (1 : Fin 2) * 1024 + 1 * (i 1).val = (i 1).val; rw [e1]; omega)
  rw [← e]
  exact View.emb_mem_set _ _

theorem covered8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  obtain ⟨t, ht⟩ : ∃ t : Fin cfg0.N, t.val = 15 := ⟨⟨15, lt_of_lt_of_eq (by omega) N_0.symm⟩, rfl⟩
  obtain ⟨-, -, -, -, -, -, e0, e1⟩ := index_out t
  refine ⟨t, (flush0_8 t).mpr (by omega), ?_⟩
  have e : ((cfg0.win 8).blk t).view.emb (ix2 (⟨(i 0).val, h0⟩ : Fin 1) (⟨(i 1).val, h1⟩ : Fin 1024)) = i := by
    funext a
    match a with
    | ⟨0, _⟩ => exact Fin.ext (by show win0_8.index t (0 : Fin 2) * 1 + 1 * (i 0).val = (i 0).val; rw [e0]; omega)
    | ⟨1, _⟩ => exact Fin.ext (by show win0_8.index t (1 : Fin 2) * 1024 + 1 * (i 1).val = (i 1).val; rw [e1]; omega)
  rw [← e]
  exact View.emb_mem_set _ _

/-- The kernel's run: the four results, the arguments as launched. -/
theorem run : θ_run defs (onTc (τ := τ) (main (F := Ideal))) ⟨m, fun _ => 0, ρ⟩ fun r => ∀ c : Dev nD,
      r.2.mem ((c : Thread nD τ).loc main_v0_0) = Gz m c
      ∧ r.2.mem ((c : Thread nD τ).loc main_v0_1) = Gh m c
      ∧ r.2.mem ((c : Thread nD τ).loc main_v0_2) = Gg m c
      ∧ r.2.mem ((c : Thread nD τ).loc main_v0_3) = Gb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans ((dats m 0 c).arrAt_eq_of_cover 5 _ (fun t _ => flushed_dz m c t) covered5),
      (h c).2.1.trans ((dats m 0 c).arrAt_eq_of_cover 6 _ (fun t _ => flushed_dz_half m c t) covered6),
      (h c).2.2.1.trans ((dats m 0 c).arrAt_eq_of_cover 7 _ (fun t hf => flushed_dg m c t hf) covered7),
      (h c).2.2.2.1.trans ((dats m 0 c).arrAt_eq_of_cover 8 _ (fun t hf => flushed_db m c t hf) covered8),
      (h c).2.2.2.2⟩)
    (Value.run_blocks m ρ)

end Cert.Kernel7Ideal.InDx

end
-- ==== Proof.ScDx.Reference.lean ====
/- The gradient through the convolution mixer's input projection and the layer norm before it: the reference's four results at an index: the norm's gradient as the derivatives of its steps, and the two sums over the
   rows. -/
module

public import proofs.«01_k».proof.Proof.Up.Row
public import proofs.«01_k».proof.Proof.Gen.Reference7Ideal.Read

@[expose] public section

set_option maxRecDepth 16384

noncomputable section

namespace Cert.Reference7Ideal.Steps

open Cert.Reference7Ideal Cert.Reference7Ideal.Read Idealize.ShloMosaic
open Cert.Kernel3Ideal.Up (ctr vare rstd nrm through gradSteps)

variable (x0 : (⟨S8192x3072, .bf16⟩ : BufTy).Contents (Elt Ideal)) (x1 : (⟨S1024x3072, .bf16⟩ : BufTy).Contents (Elt Ideal)) (x2 x3 : (⟨S8192x1024, .f32⟩ : BufTy).Contents (Elt Ideal)) (x4 : (⟨S1x1024, .f32⟩ : BufTy).Contents (Elt Ideal))

/-- The gradient that reaches the norm, at a row and a column. -/
def dx (r : Fin 8192) (j : Fin 1024) : EReal :=
  Ideal.ofBits .f32 0x3FD744FD#32 * x2 (ix2 r j) + ∑ k : Fin 3072, x0 (ix2 r k) * x1 (ix2 j k)

theorem dx_eq (r : Fin 8192) (j : Fin 1024) : val_main_v40 (F := Ideal) x0 x1 x2 (ix2 r j) = dx x0 x1 x2 r j := by
  unfold dx
  unfold val_main_v40 val_main_v39 val_main_v38 val_main_v37 val_main_v1 val_main_v0
  pointwise [val_main_cst_8]

theorem ctr_eq (r : Fin 8192) (j : Fin 1024) : val_main_v10 (F := Ideal) x3 (ix2 r j) = ctr (fun k => x3 (ix2 r k)) j := by
  unfold ctr
  unfold val_main_v10 val_main_v9 val_main_v8 val_main_v7 val_main_v6 val_main_v5
  pointwise [val_main_cst_0, val_main_cst_1]

theorem ctr_eq' (r : Fin 8192) (j : Fin 1024) : val_main_v19 (F := Ideal) x3 (ix2 r j) = ctr (fun k => x3 (ix2 r k)) j := ctr_eq x3 r j

theorem vare_eq (r : Fin 8192) (j : Fin 1) : val_main_v21 (F := Ideal) x3 (ix2 r j) = vare (fun k => x3 (ix2 r k)) := by
  unfold vare
  unfold val_main_v21 val_main_v20 val_main_v17 val_main_v16 val_main_v15 val_main_v14 val_main_v11
  pointwise [val_main_cst_3, val_main_cst_4, val_main_cst_5]
  simp only [ctr_eq]

theorem rstd_eq (r : Fin 8192) (j : Fin 1) : val_main_v22 (F := Ideal) x3 (ix2 r j) = rstd (fun k => x3 (ix2 r k)) := by
  unfold rstd
  unfold val_main_v22
  pointwise
  rw [vare_eq]

theorem nrm_eq (r : Fin 8192) (j : Fin 1024) : val_main_v27 (F := Ideal) x3 (ix2 r j) = nrm (fun k => x3 (ix2 r k)) j := by
  unfold nrm
  unfold val_main_v27 val_main_v26
  pointwise
  rw [ctr_eq', rstd_eq]

/-- The gradient that reaches the normalized row. -/
theorem dxh_eq (r : Fin 8192) (j : Fin 1024) :
    val_main_v48 (F := Ideal) x0 x1 x2 x4 (ix2 r j) = dx x0 x1 x2 r j * x4 (ix2 0 j) := by
  unfold val_main_v48 val_main_v47 val_main_v28 val_main_v2
  pointwise
  rw [dx_eq]

theorem through_eq (r : Fin 8192) (j : Fin 1024) :
    val_main_v63 (F := Ideal) x0 x1 x2 x3 x4 (ix2 r j) = through (fun k => x3 (ix2 r k)) (fun k => dx x0 x1 x2 r k * x4 (ix2 0 k)) j := by
  unfold through
  unfold val_main_v63 val_main_v62 val_main_v61 val_main_v60 val_main_v59 val_main_v55 val_main_v52 val_main_v51 val_main_v50 val_main_v25 val_main_v24 val_main_v23 val_main_v13 val_main_v12
  pointwise [val_main_cst_2, val_main_cst_6, val_main_cst_13, val_main_cst_15, val_main_cst_16]
  simp only [ctr_eq, ctr_eq', vare_eq, rstd_eq, dxh_eq, Fin.sum_univ_one]

/-- The gradient of the norm's input, … -/
theorem dz_eq (r : Fin 8192) (j : Fin 1024) :
    val_main_v73 (F := Ideal) x0 x1 x2 x3 x4 (ix2 r j) = gradSteps (fun k => x3 (ix2 r k)) (fun k => dx x0 x1 x2 r k * x4 (ix2 0 k)) j := by
  unfold gradSteps
  unfold val_main_v73 val_main_v72 val_main_v71 val_main_v70 val_main_v69 val_main_v68 val_main_v67 val_main_v66 val_main_v65 val_main_v64 val_main_v58 val_main_v57 val_main_v56 val_main_v54 val_main_v53
  pointwise [val_main_cst_14, val_main_cst_17, val_main_cst_18, val_main_cst_19]
  simp only [through_eq, rstd_eq, dxh_eq, Fin.sum_univ_one]

/-- … the same rounded, … -/
theorem dz_half_eq (y : S8192x1024.Idx) :
    (val_main_v74 (F := Ideal) x0 x1 x2 x3 x4 : FVec Ideal S8192x1024 .bf16) y = (val_main_v73 (F := Ideal) x0 x1 x2 x3 x4 : FVec Ideal S8192x1024 .f32) y := by
  unfold val_main_v74
  pointwise

/-- … the scale's gradient, … -/
theorem dg_eq (q : Fin 1) (j : Fin 1024) :
    val_main_v75 (F := Ideal) x0 x1 x2 x3 (ix2 q j) = ∑ r : Fin 8192, nrm (fun k => x3 (ix2 r k)) j * dx x0 x1 x2 r j := by
  unfold val_main_v75 val_main_v49 val_main_v46 val_main_v45 val_main_v44
  pointwise [val_main_cst_11, val_main_cst_12]
  simp only [nrm_eq, dx_eq, Fin.sum_univ_one]

/-- … and the shift's. -/
theorem db_eq (q : Fin 1) (j : Fin 1024) :
    val_main_v76 (F := Ideal) x0 x1 x2 (ix2 q j) = ∑ r : Fin 8192, dx x0 x1 x2 r j := by
  unfold val_main_v76 val_main_v43 val_main_v42 val_main_v41
  pointwise [val_main_cst_9, val_main_cst_10]
  simp only [dx_eq, Fin.sum_univ_one]

end Cert.Reference7Ideal.Steps

end
-- ==== Proof.ScDx.Equation.lean ====
/- The gradient through the convolution mixer's input projection and the layer norm before it: when the arguments but the norm's input are real numbers the reference's
   four results are the arrays the kernel's run leaves. -/
module

public import proofs.«01_k».proof.Proof.ScDx.Value
public import proofs.«01_k».proof.Proof.ScDx.Reference
public import proofs.«01_k».proof.Proof.Up.Equation
public import proofs.«01_k».proof.Pre_sc_dx_finite

@[expose] public section

set_option maxRecDepth 16384

noncomputable section

namespace Cert.Kernel7Ideal.InDx

open Cert.Kernel7Ideal Cert.Kernel7Ideal.Gen Idealize.ShloMosaic Idealize.ShloMosaic.TcCoe Idealize.SL.Sem
open Cert.Kernel3Ideal.Up (ctr vare rstd nrm grad through gradSteps gradSteps_eq grad_zero IsReal IsReal.mul IsReal.add IsReal.sum isReal_of_lt ofBits_alpha)
open Cert.Reference7Ideal.Read

/-- The condition on the arguments, read: every entry of the four arrays it names is a real number. -/
theorem entries [Cert.Pre_sc_dx_finite.Facts] (x0 : FVec Ideal Cert.Pre_sc_dx_finite.S8192x3072 .bf16) (x1 : FVec Ideal Cert.Pre_sc_dx_finite.S1024x3072 .bf16) (x2 x3 : FVec Ideal Cert.Pre_sc_dx_finite.S8192x1024 .f32) (x4 : FVec Ideal Cert.Pre_sc_dx_finite.S1x1024 .f32)
    (j : Cert.Pre_sc_dx_finite.S_.Idx) (h : Cert.Pre_sc_dx_finite.fn (F := Ideal) x0 x1 x2 x3 x4 j = 1#1) :
    (∀ i, IsReal (x0 i)) ∧ (∀ i, IsReal (x1 i)) ∧ (∀ i, IsReal (x2 i)) ∧ (∀ i, IsReal (x4 i)) := by
  have : Subsingleton Cert.Pre_sc_dx_finite.S_.Idx := ⟨fun a b => funext fun k => k.elim0⟩
  unfold Cert.Pre_sc_dx_finite.fn Cert.Pre_sc_dx_finite.fn_part1 at h
  dsimp only at h
  simp only [andi_apply] at h
  obtain ⟨h, h4⟩ := IntOp.andi_eq_one.1 h
  obtain ⟨h, h2⟩ := IntOp.andi_eq_one.1 h
  obtain ⟨h0, h1⟩ := IntOp.andi_eq_one.1 h
  refine ⟨fun i => ?_, fun i => ?_, fun i => ?_, fun i => ?_⟩
  · exact isReal_of_lt _ (Host.reduce_andi_all _ _ _ _ j h0 i)
  · exact isReal_of_lt _ (Host.reduce_andi_all _ _ _ _ j h1 i)
  · exact isReal_of_lt _ (Host.reduce_andi_all _ _ _ _ j h2 i)
  · exact isReal_of_lt _ (Host.reduce_andi_all _ _ _ _ j h4 i)

/-- The shapes of that condition. -/
theorem facts : Cert.Pre_sc_dx_finite.Facts := by
  constructor <;> decide

variable (m : (ℓ : Loc nD τ sig) → Buf (Elt Ideal) ℓ)

/-- The entries of every argument but the norm's input are real numbers. -/
def AllReal (c : Dev nD) : Prop :=
  (∀ i, IsReal (fh m c i)) ∧ (∀ i, IsReal (fw m c i)) ∧ (∀ i, IsReal (fr m c i)) ∧ (∀ i, IsReal (fg m c i))

theorem dx_ref (c : Dev nD) (r : Fin 8192) (j : Fin 1024) :
    Cert.Reference7Ideal.Steps.dx (fh m c) (fw m c) (fr m c) r j = dx m c r j := rfl

theorem dx_real (c : Dev nD) (h : AllReal m c) (r : Fin 8192) (j : Fin 1024) : IsReal (dx m c r j) := by
  obtain ⟨h0, h1, h2, -⟩ := h
  unfold dx
  exact (IsReal.mul ofBits_alpha (h2 _)).add (IsReal.sum _ _ fun k => (h0 _).mul (h1 _))

/-- Whatever the norm's input, the steps' gradient is the closed form. -/
theorem grad_ref (c : Dev nD) (h : AllReal m c) (r : Fin 8192) (j : Fin 1024) :
    gradSteps (row m c r) (dxh m c r) j = grad (row m c r) (dxh m c r) j := by
  obtain ⟨d, hd⟩ : ∃ d : Fin 1024 → ℝ, ∀ k, dxh m c r k = (d k : EReal) :=
    Classical.axiom_of_choice fun k => (dx_real m c h r k).mul (h.2.2.2 (ix2 0 k))
  by_cases hz : ∀ k, IsReal (row m c r k)
  · obtain ⟨z, hz⟩ : ∃ z : Fin 1024 → ℝ, ∀ k, row m c r k = (z k : EReal) := Classical.axiom_of_choice hz
    rw [funext hz, funext hd]
    exact gradSteps_eq z d j
  · obtain ⟨k, hk⟩ := not_forall.1 hz
    exact grad_zero _ _ k hk j

theorem reference_dz (c : Dev nD) (h : AllReal m c) :
    val_main_v73 (F := Ideal) (fh m c) (fw m c) (fr m c) (fz m c) (fg m c) = Gz m c := by
  funext i
  obtain ⟨r, j, rfl⟩ : ∃ (r : Fin 8192) (j : Fin 1024), i = ix2 r j := ⟨i 0, i 1, by funext a; fin_cases a <;> rfl⟩
  refine (Cert.Reference7Ideal.Steps.dz_eq _ _ _ _ _ r j).trans ?_
  simp only [dx_ref]
  exact grad_ref m c h r j

theorem reference_dz_half (c : Dev nD) (h : AllReal m c) :
    val_main_v74 (F := Ideal) (fh m c) (fw m c) (fr m c) (fz m c) (fg m c) = Gh m c := by
  funext i
  exact (Cert.Reference7Ideal.Steps.dz_half_eq _ _ _ _ _ i).trans (congrFun (reference_dz m c h) i)

theorem reference_dg (c : Dev nD) :
    val_main_v75 (F := Ideal) (fh m c) (fw m c) (fr m c) (fz m c) = Gg m c := by
  funext i
  obtain ⟨q, j, rfl⟩ : ∃ (q : Fin 1) (j : Fin 1024), i = ix2 q j := ⟨i 0, i 1, by funext a; fin_cases a <;> rfl⟩
  refine (Cert.Reference7Ideal.Steps.dg_eq _ _ _ _ q j).trans ?_
  unfold Gg
  rw [Finset.sum_range]
  refine Finset.sum_congr rfl fun r _ => ?_
  unfold termG
  rw [dif_pos r.isLt, dx_ref]
  exact mul_comm _ _

theorem reference_db (c : Dev nD) :
    val_main_v76 (F := Ideal) (fh m c) (fw m c) (fr m c) = Gb m c := by
  funext i
  obtain ⟨q, j, rfl⟩ : ∃ (q : Fin 1) (j : Fin 1024), i = ix2 q j := ⟨i 0, i 1, by funext a; fin_cases a <;> rfl⟩
  refine (Cert.Reference7Ideal.Steps.db_eq _ _ _ q j).trans ?_
  unfold Gb
  rw [Finset.sum_range]
  refine Finset.sum_congr rfl fun r _ => ?_
  unfold termB
  rw [dif_pos r.isLt, dx_ref]
  rfl

end Cert.Kernel7Ideal.InDx

end
-- ==== Proof.Act.Cases.lean ====
/- The activation of the feed-forward block: what one point of the grid leaves in its five outputs, as values, and those values
   read at an index. -/
module

public import proofs.«01_k».proof.Proof.Gen.Kernel8Ideal.Value
public import Idealize.ShloMosaic.Lib.Pipeline.Value
public import Idealize.ShloMosaic.Lib.Tactic
public import Idealize.ShloMosaic.Lib.Pointwise

@[expose] public section

set_option maxRecDepth 16384

noncomputable section

namespace Cert.Kernel8Ideal.Act

open Cert.Kernel8Ideal Cert.Kernel8Ideal.Gen Idealize.ShloMosaic Idealize.ShloMosaic.TcCoe Idealize.SL.Sem

/-- A column moved down by `d` rows, zeros above. -/
def back (u : Fin 2048 → EReal) (d : ℕ) (p : Fin 2048) : EReal := if d ≤ p.val then u ⟨p.val - d, by omega⟩ else 0

/-- The convolution of a column with its three taps, the shift added after the first. -/
def conv (u : Fin 2048 → EReal) (k0 k1 k2 b : EReal) (p : Fin 2048) : EReal :=
  back u 2 p * k0 + b + back u 1 p * k1 + u p * k2

/-- The gated activation of two entries. -/
def act (g v : EReal) : EReal := g * Ideal.div 1 (1 + Ideal.exp (-g)) * v

theorem atLeast_two : ∀ p : Fin 2048, IntOp.cmpi .sge (BitVec.ofNat 32 p.val) 2#32 = if 2 ≤ p.val then 1#1 else 0#1 := by
  decide +kernel
theorem atLeast_one : ∀ p : Fin 2048, IntOp.cmpi .sge (BitVec.ofNat 32 p.val) 1#32 = if 1 ≤ p.val then 1#1 else 0#1 := by
  decide +kernel

/-- The rows below `d`, rotated by `d`, the others zero: the column moved down. -/
theorem back_two (x : FVec Ideal S2048x128 .f32) (p : Fin 2048) (j : Fin 128) :
    select (cmpi .sge (iota .tc S2048x128 32 [0] iota_S2048x128_d0_w32) (broadcast S2048x128 2#32))
      (dynamicRotate 0 2#32 none x rotates_S2048x128_d0) (broadcast S2048x128 (Scalar.ofBits .f32 0x00000000#32 : Ideal .f32)) (ix2 p j)
    = back (fun q => x (ix2 q j)) 2 p := by
  unfold back
  pointwise
  rw [atLeast_two]
  by_cases h : 2 ≤ p.val
  · have e : (p.val + 2048 - 2) % 2048 = p.val - 2 := by omega
    simp only [if_pos h, e]
    rfl
  · simp only [if_neg h]
    rfl

theorem back_one (x : FVec Ideal S2048x128 .f32) (p : Fin 2048) (j : Fin 128) :
    select (cmpi .sge (iota .tc S2048x128 32 [0] iota_S2048x128_d0_w32) (broadcast S2048x128 1#32))
      (dynamicRotate 0 1#32 none x rotates_S2048x128_d0) (broadcast S2048x128 (Scalar.ofBits .f32 0x00000000#32 : Ideal .f32)) (ix2 p j)
    = back (fun q => x (ix2 q j)) 1 p := by
  unfold back
  pointwise
  rw [atLeast_one]
  by_cases h : 1 ≤ p.val
  · have e : (p.val + 2048 - 1) % 2048 = p.val - 1 := by omega
    simp only [if_pos h, e]
    rfl
  · simp only [if_neg h]
    rfl

/-! The values at an index, as extended reals. -/

theorem pay3_apply (x : Vec Ideal S1x2048x1024 .bf16) (w : Vec Ideal S256x1024 .bf16) (p : Fin 2048) (j : Fin 256) :
    k0_pay3 x w (ix2 p j) = ∑ k : Fin 1024, x (ix3 0 p k) * w (ix2 j k) := by
  unfold k0_pay3 k0_pay2
  pointwise

theorem pay4_apply (x : Vec Ideal S1x2048x1024 .bf16) (w : Vec Ideal S256x1024 .bf16) (p : Fin 2048) (j : Fin 256) :
    k0_pay4 x w (ix2 p j) = ∑ k : Fin 1024, x (ix3 0 p k) * w (ix2 j k) := by
  unfold k0_pay4 k0_pay2
  pointwise

theorem pay5_apply (x : Vec Ideal S1x2048x1024 .bf16) (w : Vec Ideal S256x1024 .bf16) (q : Fin 1) (p : Fin 2048) (j : Fin 256) :
    k0_pay5 x w (ix3 q p j) = k0_pay3 x w (ix2 p j) := by
  unfold k0_pay5
  pointwise

theorem pay6_apply (x : Vec Ideal S1x2048x1024 .bf16) (w : Vec Ideal S256x1024 .bf16) (q : Fin 1) (p : Fin 2048) (j : Fin 256) :
    k0_pay6 x w (ix3 q p j) = k0_pay4 x w (ix2 p j) := by
  unfold k0_pay6
  pointwise

theorem pay7_apply (x : Vec Ideal S1x2048x1024 .bf16) (w : Vec Ideal S256x1024 .bf16) (p : Fin 2048) (j : Fin 128) :
    k0_pay7 x w (ix2 p j) = k0_pay3 x w (ix2 p ⟨j.val, by omega⟩) := by
  unfold k0_pay7
  pointwise

theorem pay15_apply (h : FVec Ideal S2048x256 .f32) (p : Fin 2048) (j : Fin 128) :
    k0_pay15 h (ix2 p j) = h (ix2 p ⟨128 + j.val, by omega⟩) := by
  unfold k0_pay15
  pointwise

section taps

variable (h : FVec Ideal S2048x256 .f32) (u : FVec Ideal S2048x128 .f32) (k : Vec Ideal S3x128 .f32) (b : Vec Ideal S1x128 .f32) (p : Fin 2048) (j : Fin 128)

theorem pay8_apply (x : Vec Ideal S1x2048x1024 .bf16) (w : Vec Ideal S256x1024 .bf16) :
    k0_pay8 x w k b (ix2 p j) = back (fun q => k0_pay7 x w (ix2 q j)) 2 p * k (ix2 0 j) + b (ix2 0 j) := by
  rw [← back_two]
  unfold k0_pay8
  pointwise

theorem pay10_apply (v : FVec Ideal S2048x128 .f32) :
    k0_pay10 u k v (iota .tc S2048x128 32 [0] iota_S2048x128_d0_w32) k0_pay9 (ix2 p j)
      = v (ix2 p j) + back (fun q => u (ix2 q j)) 1 p * k (ix2 1 j) + u (ix2 p j) * k (ix2 2 j) := by
  rw [← back_one]
  unfold k0_pay10 k0_pay9
  pointwise

theorem pay11_apply :
    k0_pay11 h k b (ix2 p j) = conv (fun q => h (ix2 q ⟨j.val, by omega⟩)) (k (ix2 0 j)) (k (ix2 1 j)) (k (ix2 2 j)) (b (ix2 0 j)) p := by
  have e : ∀ q, (extractStridedSlice S2048x128 ![0, 0] h slices_S2048x256_o0_0_S2048x128 : FVec Ideal S2048x128 .f32) (ix2 q j) = h (ix2 q ⟨j.val, by omega⟩) := fun q => by pointwise
  unfold conv
  simp only [← e]
  rw [← back_one, ← back_two]
  unfold k0_pay11
  pointwise

theorem pay16_apply :
    k0_pay16 h k b (ix2 p j) = back (fun q => k0_pay15 h (ix2 q j)) 2 p * k (ix2 0 j) + b (ix2 0 j) + back (fun q => k0_pay15 h (ix2 q j)) 1 p * k (ix2 1 j) := by
  rw [← back_one, ← back_two]
  unfold k0_pay16
  pointwise

theorem pay17_apply (v : FVec Ideal S2048x128 .f32) : k0_pay17 u k v (ix2 p j) = v (ix2 p j) + u (ix2 p j) * k (ix2 2 j) := by
  unfold k0_pay17
  pointwise

theorem pay18_apply :
    k0_pay18 h k b (ix2 p j) = conv (fun q => h (ix2 q ⟨128 + j.val, by omega⟩)) (k (ix2 0 j)) (k (ix2 1 j)) (k (ix2 2 j)) (b (ix2 0 j)) p := by
  have e : ∀ q, (extractStridedSlice S2048x128 ![0, 128] h slices_S2048x256_o0_128_S2048x128 : FVec Ideal S2048x128 .f32) (ix2 q j) = h (ix2 q ⟨128 + j.val, by omega⟩) := fun q => by pointwise
  unfold conv
  simp only [← e]
  rw [← back_one, ← back_two]
  unfold k0_pay18
  pointwise

end taps

theorem pay12_apply (u : FVec Ideal S2048x128 .f32) (k : Vec Ideal S3x128 .f32) (v : FVec Ideal S2048x128 .f32) (a b : IVec S2048x128 32) (q : Fin 1) (p : Fin 2048) (j : Fin 128) :
    k0_pay12 u k v a b (ix3 q p j) = k0_pay10 u k v a b (ix2 p j) := by
  unfold k0_pay12
  pointwise

theorem pay13_apply (u : FVec Ideal S2048x128 .f32) (q : Fin 1) (p : Fin 2048) (j : Fin 128) : k0_pay13 u (ix3 q p j) = u (ix2 p j) := by
  unfold k0_pay13
  pointwise

theorem pay19_apply (u : FVec Ideal S2048x128 .f32) (k : Vec Ideal S3x128 .f32) (v : FVec Ideal S2048x128 .f32) (q : Fin 1) (p : Fin 2048) (j : Fin 128) :
    k0_pay19 u k v (ix3 q p j) = k0_pay17 u k v (ix2 p j) := by
  unfold k0_pay19
  pointwise

theorem pay20_apply (h : FVec Ideal S2048x256 .f32) (k : Vec Ideal S3x128 .f32) (b : Vec Ideal S1x128 .f32) (q : Fin 1) (p : Fin 2048) (j : Fin 128) :
    k0_pay20 h k b (ix3 q p j) = k0_pay18 h k b (ix2 p j) := by
  unfold k0_pay20
  pointwise

theorem pay21_apply (u : FVec Ideal S2048x128 .f32) (k : Vec Ideal S3x128 .f32) (v : FVec Ideal S2048x128 .f32) (p : Fin 2048) (j : Fin 128) :
    k0_pay21 u k v (ix2 p j) = Ideal.exp (-k0_pay17 u k v (ix2 p j)) := by
  rw [← zero_sub]
  unfold k0_pay21
  pointwise

theorem pay14_apply (g v : FVec Ideal S2048x128 .f32) (q : Fin 1) (p : Fin 2048) (j : Fin 128) :
    (k0_pay14 g v : FVec Ideal S1x2048x128 .bf16) (ix3 q p j) = act (g (ix2 p j)) (v (ix2 p j)) := by
  unfold act
  rw [← zero_sub]
  unfold k0_pay14
  pointwise

theorem pay1_apply (g v e : FVec Ideal S2048x128 .f32) (q : Fin 1) (p : Fin 2048) (j : Fin 128) (he : e (ix2 p j) = Ideal.exp (-g (ix2 p j))) :
    (k0_pay1 g v e : FVec Ideal S1x2048x128 .bf16) (ix3 q p j) = act (g (ix2 p j)) (v (ix2 p j)) := by
  unfold act
  rw [← he]
  unfold k0_pay1
  pointwise

/-! What a point leaves in each output. -/

theorem zero2 : (![0, 0] : Fin 2 → Nat) = fun _ => 0 := funext fun a => by fin_cases a <;> rfl
theorem zero3 : (![0, 0, 0] : Fin 3 → Nat) = fun _ => 0 := funext fun a => by fin_cases a <;> rfl

/-- The rows of the weight this point's gate columns come from, and those its value columns come from. -/
def rowsG (i : grid0.Coords) (x1 : Vec Ideal S5632x1024 .bf16) : Vec Ideal S256x1024 .bf16 :=
  View.ld x1 (Rect.unit (s := S5632x1024) (k0_off1 i) S256x1024.size (k0_off1_inb i))
def rowsV (i : grid0.Coords) (x1 : Vec Ideal S5632x1024 .bf16) : Vec Ideal S256x1024 .bf16 :=
  View.ld x1 (Rect.unit (s := S5632x1024) (k0_off2 i) S256x1024.size (k0_off2_inb i))

/-- The block of a convolution: each column with its own taps and its own shift. -/
def convB (h : FVec Ideal S2048x256 .f32) (k : Vec Ideal S3x256 .f32) (b : Vec Ideal S1x256 .f32) : Vec Ideal S1x2048x256 .f32 :=
  fun y => conv (fun q => h (ix2 q (y 2))) (k (ix2 0 (y 2))) (k (ix2 1 (y 2))) (k (ix2 2 (y 2))) (b (ix2 0 (y 2))) (y 1)

/-! The two halves of a block's columns, each stored on its own. -/

/-- A column of the left half, and a column of the right half, in the block. -/
abbrev lo (j : Fin 128) : Fin 256 := ⟨j.val, by omega⟩
abbrev hi (j : Fin 128) : Fin 256 := ⟨128 + j.val, by omega⟩

abbrev R3lo : Rect S3x256 := Rect.unit (s := S3x256) ![0, 0] S3x128.size inb_S3x256_S3x128_0_0
abbrev R3hi : Rect S3x256 := Rect.unit (s := S3x256) ![0, 128] S3x128.size inb_S3x256_S3x128_0_128
abbrev R1lo : Rect S1x256 := Rect.unit (s := S1x256) ![0, 0] S1x128.size inb_S1x256_S1x128_0_0
abbrev R1hi : Rect S1x256 := Rect.unit (s := S1x256) ![0, 128] S1x128.size inb_S1x256_S1x128_0_128
abbrev Rlo : Rect S1x2048x256 := Rect.unit (s := S1x2048x256) ![0, 0, 0] S1x2048x128.size inb_S1x2048x256_S1x2048x128_0_0_0
abbrev Rhi : Rect S1x2048x256 := Rect.unit (s := S1x2048x256) ![0, 0, 128] S1x2048x128.size inb_S1x2048x256_S1x2048x128_0_0_128

theorem emb_lo (q : Fin 1) (p : Fin 2048) (j : Fin 128) : Rlo.emb (ix3 q p j) = ix3 q p (lo j) := by
  funext a; fin_cases a
  · exact Fin.ext (show 0 + 1 * q.val = q.val by omega)
  · exact Fin.ext (show 0 + 1 * p.val = p.val by omega)
  · exact Fin.ext (show 0 + 1 * j.val = j.val by omega)
theorem emb_hi (q : Fin 1) (p : Fin 2048) (j : Fin 128) : Rhi.emb (ix3 q p j) = ix3 q p (hi j) := by
  funext a; fin_cases a
  · exact Fin.ext (show 0 + 1 * q.val = q.val by omega)
  · exact Fin.ext (show 0 + 1 * p.val = p.val by omega)
  · exact Fin.ext (show 128 + 1 * j.val = 128 + j.val by omega)

theorem k_lo (k : Vec Ideal S3x256 .f32) (r : Fin 3) (j : Fin 128) : View.ld k R3lo (ix2 r j) = k (ix2 r (lo j)) :=
  congrArg k (funext fun a => by
    fin_cases a
    · exact Fin.ext (show 0 + 1 * r.val = r.val by omega)
    · exact Fin.ext (show 0 + 1 * j.val = j.val by omega))
theorem k_hi (k : Vec Ideal S3x256 .f32) (r : Fin 3) (j : Fin 128) : View.ld k R3hi (ix2 r j) = k (ix2 r (hi j)) :=
  congrArg k (funext fun a => by
    fin_cases a
    · exact Fin.ext (show 0 + 1 * r.val = r.val by omega)
    · exact Fin.ext (show 128 + 1 * j.val = 128 + j.val by omega))
theorem b_lo (b : Vec Ideal S1x256 .f32) (r : Fin 1) (j : Fin 128) : View.ld b R1lo (ix2 r j) = b (ix2 r (lo j)) :=
  congrArg b (funext fun a => by
    fin_cases a
    · exact Fin.ext (show 0 + 1 * r.val = r.val by omega)
    · exact Fin.ext (show 0 + 1 * j.val = j.val by omega))
theorem b_hi (b : Vec Ideal S1x256 .f32) (r : Fin 1) (j : Fin 128) : View.ld b R1hi (ix2 r j) = b (ix2 r (hi j)) :=
  congrArg b (funext fun a => by
    fin_cases a
    · exact Fin.ext (show 0 + 1 * r.val = r.val by omega)
    · exact Fin.ext (show 128 + 1 * j.val = 128 + j.val by omega))

/-- The block of the activation. -/
def actB (g v : Vec Ideal S1x2048x256 .f32) : Vec Ideal S1x2048x256 .bf16 := fun y => act (g y) (v y)

section pieces

variable (x : Vec Ideal S1x2048x1024 .bf16) (w w' : Vec Ideal S256x1024 .bf16) (h : FVec Ideal S2048x256 .f32)
  (k k' : Vec Ideal S3x256 .f32) (b b' : Vec Ideal S1x256 .f32) (p : Fin 2048) (j : Fin 128)

/-- The gate's left half … -/
theorem gate_lo (kk : Vec Ideal S3x128 .f32) (bb : Vec Ideal S1x128 .f32) (hk : ∀ r, kk (ix2 r j) = k (ix2 r (lo j))) (hb : ∀ r, bb (ix2 r j) = b (ix2 r (lo j))) :
    k0_pay10 (k0_pay7 x w) kk (k0_pay8 x w kk bb) (iota .tc S2048x128 32 [0] iota_S2048x128_d0_w32) k0_pay9 (ix2 p j)
    = convB (k0_pay3 x w) k b (ix3 0 p (lo j)) := by
  rw [pay10_apply, pay8_apply]
  simp only [pay7_apply, hk, hb]
  rfl
/-- … its right half … -/
theorem gate_hi (kk : Vec Ideal S3x128 .f32) (bb : Vec Ideal S1x128 .f32) (hk : ∀ r, kk (ix2 r j) = k (ix2 r (hi j))) (hb : ∀ r, bb (ix2 r j) = b (ix2 r (hi j))) :
    k0_pay17 (k0_pay15 h) kk (k0_pay16 h kk bb) (ix2 p j) = convB h k b (ix3 0 p (hi j)) := by
  rw [pay17_apply, pay16_apply]
  simp only [pay15_apply, hk, hb]
  rfl
/-- … and the value's two halves. -/
theorem value_lo (kk : Vec Ideal S3x128 .f32) (bb : Vec Ideal S1x128 .f32) (hk : ∀ r, kk (ix2 r j) = k (ix2 r (lo j))) (hb : ∀ r, bb (ix2 r j) = b (ix2 r (lo j))) :
    k0_pay11 h kk bb (ix2 p j) = convB h k b (ix3 0 p (lo j)) := by
  rw [pay11_apply]
  simp only [hk, hb]
  rfl
theorem value_hi (kk : Vec Ideal S3x128 .f32) (bb : Vec Ideal S1x128 .f32) (hk : ∀ r, kk (ix2 r j) = k (ix2 r (hi j))) (hb : ∀ r, bb (ix2 r j) = b (ix2 r (hi j))) :
    k0_pay18 h kk bb (ix2 p j) = convB h k b (ix3 0 p (hi j)) := by
  rw [pay18_apply]
  simp only [hk, hb]
  rfl

theorem piece8_lo (y : S1x2048x128.Idx) :
    k0_pay12 (k0_pay7 x w) (View.ld k R3lo) (k0_pay8 x w (View.ld k R3lo) (View.ld b R1lo)) (iota .tc S2048x128 32 [0] iota_S2048x128_d0_w32) k0_pay9 y
      = convB (k0_pay3 x w) k b (Rlo.emb y) := by
  obtain ⟨q, p, j, rfl⟩ : ∃ (q : Fin 1) (p : Fin 2048) (j : Fin 128), y = ix3 q p j := ⟨y 0, y 1, y 2, eq_ix3 y⟩
  rw [emb_lo, pay12_apply, gate_lo x w k b p j _ _ (fun r => k_lo k r j) (fun r => b_lo b r j)]
  rfl
theorem piece8_hi (y : S1x2048x128.Idx) :
    k0_pay19 (k0_pay15 h) (View.ld k R3hi) (k0_pay16 h (View.ld k R3hi) (View.ld b R1hi)) y = convB h k b (Rhi.emb y) := by
  obtain ⟨q, p, j, rfl⟩ : ∃ (q : Fin 1) (p : Fin 2048) (j : Fin 128), y = ix3 q p j := ⟨y 0, y 1, y 2, eq_ix3 y⟩
  rw [emb_hi, pay19_apply, gate_hi h k b p j _ _ (fun r => k_hi k r j) (fun r => b_hi b r j)]
  rfl
theorem piece9_lo (y : S1x2048x128.Idx) :
    k0_pay13 (k0_pay11 h (View.ld k R3lo) (View.ld b R1lo)) y = convB h k b (Rlo.emb y) := by
  obtain ⟨q, p, j, rfl⟩ : ∃ (q : Fin 1) (p : Fin 2048) (j : Fin 128), y = ix3 q p j := ⟨y 0, y 1, y 2, eq_ix3 y⟩
  rw [emb_lo, pay13_apply, value_lo h k b p j _ _ (fun r => k_lo k r j) (fun r => b_lo b r j)]
  rfl
theorem piece9_hi (y : S1x2048x128.Idx) :
    k0_pay20 h (View.ld k R3hi) (View.ld b R1hi) y = convB h k b (Rhi.emb y) := by
  obtain ⟨q, p, j, rfl⟩ : ∃ (q : Fin 1) (p : Fin 2048) (j : Fin 128), y = ix3 q p j := ⟨y 0, y 1, y 2, eq_ix3 y⟩
  rw [emb_hi, pay20_apply, value_hi h k b p j _ _ (fun r => k_hi k r j) (fun r => b_hi b r j)]
  rfl
theorem piece10_lo (y : S1x2048x128.Idx) :
    (k0_pay14 (k0_pay10 (k0_pay7 x w) (View.ld k R3lo) (k0_pay8 x w (View.ld k R3lo) (View.ld b R1lo)) (iota .tc S2048x128 32 [0] iota_S2048x128_d0_w32) k0_pay9)
        (k0_pay11 h (View.ld k' R3lo) (View.ld b' R1lo)) : FVec Ideal S1x2048x128 .bf16) y
      = actB (convB (k0_pay3 x w) k b) (convB h k' b') (Rlo.emb y) := by
  obtain ⟨q, p, j, rfl⟩ : ∃ (q : Fin 1) (p : Fin 2048) (j : Fin 128), y = ix3 q p j := ⟨y 0, y 1, y 2, eq_ix3 y⟩
  rw [emb_lo, pay14_apply, gate_lo x w k b p j _ _ (fun r => k_lo k r j) (fun r => b_lo b r j),
    value_lo h k' b' p j _ _ (fun r => k_lo k' r j) (fun r => b_lo b' r j)]
  rfl
theorem piece10_hi (h' : FVec Ideal S2048x256 .f32) (y : S1x2048x128.Idx) :
    (k0_pay1 (k0_pay17 (k0_pay15 h) (View.ld k R3hi) (k0_pay16 h (View.ld k R3hi) (View.ld b R1hi))) (k0_pay18 h' (View.ld k' R3hi) (View.ld b' R1hi))
        (k0_pay21 (k0_pay15 h) (View.ld k R3hi) (k0_pay16 h (View.ld k R3hi) (View.ld b R1hi))) : FVec Ideal S1x2048x128 .bf16) y
      = actB (convB h k b) (convB h' k' b') (Rhi.emb y) := by
  obtain ⟨q, p, j, rfl⟩ : ∃ (q : Fin 1) (p : Fin 2048) (j : Fin 128), y = ix3 q p j := ⟨y 0, y 1, y 2, eq_ix3 y⟩
  rw [emb_hi, pay1_apply _ _ _ _ _ _ (pay21_apply _ _ _ _ _), gate_hi h k b p j _ _ (fun r => k_hi k r j) (fun r => b_hi b r j),
    value_hi h' k' b' p j _ _ (fun r => k_hi k' r j) (fun r => b_hi b' r j)]
  rfl

end pieces

section point

variable (c : Dev nD) (i : grid0.Coords)
  (a2 : Memref sig .tc .vmem S1x2048x1024 .bf16) (h2 : a2.IsWhole) (a3 : Memref sig .tc .vmem S5632x1024 .bf16) (h3 : a3.IsWhole)
  (a4 : Memref sig .tc .vmem S3x256 .f32) (h4 : a4.IsWhole) (a5 : Memref sig .tc .vmem S3x256 .f32) (h5 : a5.IsWhole)
  (a6 : Memref sig .tc .vmem S1x256 .f32) (h6 : a6.IsWhole) (a7 : Memref sig .tc .vmem S1x256 .f32) (h7 : a7.IsWhole)
  (a8 : Memref sig .tc .vmem S1x2048x256 .f32) (h8 : a8.IsWhole) (a9 : Memref sig .tc .vmem S1x2048x256 .f32) (h9 : a9.IsWhole)
  (a10 : Memref sig .tc .vmem S1x2048x256 .f32) (h10 : a10.IsWhole) (a11 : Memref sig .tc .vmem S1x2048x256 .f32) (h11 : a11.IsWhole)
  (a12 : Memref sig .tc .vmem S1x2048x256 .bf16) (h12 : a12.IsWhole)
  (x0 : Vec Ideal S1x2048x1024 .bf16) (x1 : Vec Ideal S5632x1024 .bf16) (x2 x3 : Vec Ideal S3x256 .f32) (x4 x5 : Vec Ideal S1x256 .f32)

theorem out_6 : out0_A_6 c i a2 h2 a3 h3 a4 h4 a5 h5 a6 h6 a7 h7 a8 h8 a9 h9 a10 h10 a11 h11 a12 h12 x0 x1 x2 x3 x4 x5 = k0_pay5 x0 (rowsG i x1) := by
  unfold out0_A_6
  rw [View.read_writes_eq_canon _ _ _ (cover0_A_6 c i a2 h2 a3 h3 a4 h4 a5 h5 a6 h6 a7 h7 a8 h8 a9 h9 a10 h10 a11 h11 a12 h12 x0 x1 x2 x3 x4 x5)]
  unfold kernelRun0_A
  dsimp only
  sl_unfold_words
  rw [View.canon_unit_zero zero3]
  simp only [View.readAt_eq_ld, h2.read_unread, h3.read_unread, View.ld_unit_zero (S := S1x2048x1024) zero3]
  rfl

theorem out_7 : out0_A_7 c i a2 h2 a3 h3 a4 h4 a5 h5 a6 h6 a7 h7 a8 h8 a9 h9 a10 h10 a11 h11 a12 h12 x0 x1 x2 x3 x4 x5 = k0_pay6 x0 (rowsV i x1) := by
  unfold out0_A_7
  rw [View.read_writes_eq_canon _ _ _ (cover0_A_7 c i a2 h2 a3 h3 a4 h4 a5 h5 a6 h6 a7 h7 a8 h8 a9 h9 a10 h10 a11 h11 a12 h12 x0 x1 x2 x3 x4 x5)]
  unfold kernelRun0_A
  dsimp only
  sl_unfold_words
  rw [View.canon_unit_zero zero3]
  simp only [View.readAt_eq_ld, h2.read_unread, h3.read_unread, View.ld_unit_zero (S := S1x2048x1024) zero3]
  rfl

theorem out_8 : out0_A_8 c i a2 h2 a3 h3 a4 h4 a5 h5 a6 h6 a7 h7 a8 h8 a9 h9 a10 h10 a11 h11 a12 h12 x0 x1 x2 x3 x4 x5
    = convB (k0_pay3 x0 (rowsG i x1)) x2 x4 := by
  unfold out0_A_8
  rw [View.read_writes_eq_canon _ _ _ (cover0_A_8 c i a2 h2 a3 h3 a4 h4 a5 h5 a6 h6 a7 h7 a8 h8 a9 h9 a10 h10 a11 h11 a12 h12 x0 x1 x2 x3 x4 x5)]
  have hc := cover0_A_8 c i a2 h2 a3 h3 a4 h4 a5 h5 a6 h6 a7 h7 a8 h8 a9 h9 a10 h10 a11 h11 a12 h12 x0 x1 x2 x3 x4 x5
  funext y
  refine View.canon_apply_of_pieces _ _ ?_ y (hc y)
  unfold kernelRun0_A
  dsimp only
  sl_unfold_words
  simp only [View.readAt_eq_ld, h2.read_unread, h3.read_unread, h4.read_unread, h6.read_unread, View.ld_unit_zero (S := S1x2048x1024) zero3]
  intro p hp y'
  simp only [List.mem_cons, List.not_mem_nil, or_false] at hp
  rcases hp with rfl | rfl
  · exact piece8_hi (k0_pay3 x0 (rowsG i x1)) x2 x4 y'
  · exact piece8_lo x0 (rowsG i x1) x2 x4 y'

theorem out_9 : out0_A_9 c i a2 h2 a3 h3 a4 h4 a5 h5 a6 h6 a7 h7 a8 h8 a9 h9 a10 h10 a11 h11 a12 h12 x0 x1 x2 x3 x4 x5
    = convB (k0_pay4 x0 (rowsV i x1)) x3 x5 := by
  unfold out0_A_9
  rw [View.read_writes_eq_canon _ _ _ (cover0_A_9 c i a2 h2 a3 h3 a4 h4 a5 h5 a6 h6 a7 h7 a8 h8 a9 h9 a10 h10 a11 h11 a12 h12 x0 x1 x2 x3 x4 x5)]
  have hc := cover0_A_9 c i a2 h2 a3 h3 a4 h4 a5 h5 a6 h6 a7 h7 a8 h8 a9 h9 a10 h10 a11 h11 a12 h12 x0 x1 x2 x3 x4 x5
  funext y
  refine View.canon_apply_of_pieces _ _ ?_ y (hc y)
  unfold kernelRun0_A
  dsimp only
  sl_unfold_words
  simp only [View.readAt_eq_ld, h2.read_unread, h3.read_unread, h5.read_unread, h7.read_unread, View.ld_unit_zero (S := S1x2048x1024) zero3]
  intro p hp y'
  simp only [List.mem_cons, List.not_mem_nil, or_false] at hp
  rcases hp with rfl | rfl
  · exact piece9_hi (k0_pay4 x0 (rowsV i x1)) x3 x5 y'
  · exact piece9_lo (k0_pay4 x0 (rowsV i x1)) x3 x5 y'

theorem out_10 : out0_A_10 c i a2 h2 a3 h3 a4 h4 a5 h5 a6 h6 a7 h7 a8 h8 a9 h9 a10 h10 a11 h11 a12 h12 x0 x1 x2 x3 x4 x5
    = actB (convB (k0_pay3 x0 (rowsG i x1)) x2 x4) (convB (k0_pay4 x0 (rowsV i x1)) x3 x5) := by
  unfold out0_A_10
  rw [View.read_writes_eq_canon _ _ _ (cover0_A_10 c i a2 h2 a3 h3 a4 h4 a5 h5 a6 h6 a7 h7 a8 h8 a9 h9 a10 h10 a11 h11 a12 h12 x0 x1 x2 x3 x4 x5)]
  have hc := cover0_A_10 c i a2 h2 a3 h3 a4 h4 a5 h5 a6 h6 a7 h7 a8 h8 a9 h9 a10 h10 a11 h11 a12 h12 x0 x1 x2 x3 x4 x5
  funext y
  refine View.canon_apply_of_pieces _ _ ?_ y (hc y)
  unfold kernelRun0_A
  dsimp only
  sl_unfold_words
  simp only [View.readAt_eq_ld, h2.read_unread, h3.read_unread, h4.read_unread, h5.read_unread, h6.read_unread, h7.read_unread, View.ld_unit_zero (S := S1x2048x1024) zero3]
  intro p hp y'
  simp only [List.mem_cons, List.not_mem_nil, or_false] at hp
  rcases hp with rfl | rfl
  · exact piece10_hi (k0_pay3 x0 (rowsG i x1)) x2 x3 x4 x5 (k0_pay4 x0 (rowsV i x1)) y'
  · exact piece10_lo x0 (rowsG i x1) (k0_pay4 x0 (rowsV i x1)) x2 x3 x4 x5 y'

end point

end Cert.Kernel8Ideal.Act

end
-- ==== Proof.Act.Value.lean ====
/- The activation of the feed-forward block: the five arrays the run leaves, as functions of the arguments. -/
module

public import proofs.«01_k».proof.Proof.Act.Cases
public import Idealize.ShloMosaic.Lib.Pipeline.ValueKit.Tiles

@[expose] public section

set_option maxRecDepth 16384

noncomputable section

namespace Cert.Kernel8Ideal.Act

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments: the tokens, the weight, the taps and the shift. -/
abbrev fx (c : Dev nD) : Vec Ideal S4x2048x1024 .bf16 := m ((c : Thread nD τ).loc main_arg0)
abbrev fw (c : Dev nD) : Vec Ideal S5632x1024 .bf16 := m ((c : Thread nD τ).loc main_arg1)
abbrev fk (c : Dev nD) : Vec Ideal S3x5632 .f32 := m ((c : Thread nD τ).loc main_arg2)
abbrev fb (c : Dev nD) : Vec Ideal S1x5632 .f32 := m ((c : Thread nD τ).loc main_arg3)

/-- The product at a sequence, a token and a column of the weight, … -/
def prod (c : Dev nD) (b : Fin 4) (p : Fin 2048) (o : Fin 5632) : EReal := ∑ k : Fin 1024, fx m c (ix3 b p k) * fw m c (ix2 o k)
/-- … and its convolution along the tokens. -/
def cv (c : Dev nD) (b : Fin 4) (p : Fin 2048) (o : Fin 5632) : EReal :=
  conv (fun q => prod m c b q o) (fk m c (ix2 0 o)) (fk m c (ix2 1 o)) (fk m c (ix2 2 o)) (fb m c (ix2 0 o)) p

/-- A gate column and a value column among the columns of the weight. -/
def gc (j : Fin 2816) : Fin 5632 := ⟨j.val, by omega⟩
def vc (j : Fin 2816) : Fin 5632 := ⟨2816 + j.val, by omega⟩

/-- Where the blocks of point `t` lie. -/
theorem index_in : ∀ t : Fin cfg0.N, win0_0.index t (0 : Fin 3) = t.val / 11 ∧ win0_0.index t (1 : Fin 3) = 0 ∧ win0_0.index t (2 : Fin 3) = 0
    ∧ win0_1.index t (0 : Fin 2) = 0 ∧ win0_1.index t (1 : Fin 2) = 0
    ∧ k0_off1 (grid0.coords t) (0 : Fin 2) = t.val % 11 * 256 ∧ k0_off1 (grid0.coords t) (1 : Fin 2) = 0
    ∧ k0_off2 (grid0.coords t) (0 : Fin 2) = 2816 + t.val % 11 * 256 ∧ k0_off2 (grid0.coords t) (1 : Fin 2) = 0 :=
  (by decide +kernel : ∀ t : Fin grid0.N, _)

theorem index_taps : ∀ t : Fin cfg0.N, win0_2.index t (0 : Fin 2) = 0 ∧ win0_2.index t (1 : Fin 2) = t.val % 11
    ∧ win0_3.index t (0 : Fin 2) = 0 ∧ win0_3.index t (1 : Fin 2) = 11 + t.val % 11
    ∧ win0_4.index t (0 : Fin 2) = 0 ∧ win0_4.index t (1 : Fin 2) = t.val % 11
    ∧ win0_5.index t (0 : Fin 2) = 0 ∧ win0_5.index t (1 : Fin 2) = 11 + t.val % 11 :=
  (by decide +kernel : ∀ t : Fin grid0.N, _)

theorem index_6 : ∀ t : Fin cfg0.N, win0_6.index t (0 : Fin 3) = t.val / 11 ∧ win0_6.index t (1 : Fin 3) = 0 ∧ win0_6.index t (2 : Fin 3) = t.val % 11 :=
  (by decide +kernel : ∀ t : Fin grid0.N, _)
theorem index_7 : ∀ t : Fin cfg0.N, win0_7.index t (0 : Fin 3) = t.val / 11 ∧ win0_7.index t (1 : Fin 3) = 0 ∧ win0_7.index t (2 : Fin 3) = t.val % 11 :=
  (by decide +kernel : ∀ t : Fin grid0.N, _)
theorem index_8 : ∀ t : Fin cfg0.N, win0_8.index t (0 : Fin 3) = t.val / 11 ∧ win0_8.index t (1 : Fin 3) = 0 ∧ win0_8.index t (2 : Fin 3) = t.val % 11 :=
  (by decide +kernel : ∀ t : Fin grid0.N, _)
theorem index_9 : ∀ t : Fin cfg0.N, win0_9.index t (0 : Fin 3) = t.val / 11 ∧ win0_9.index t (1 : Fin 3) = 0 ∧ win0_9.index t (2 : Fin 3) = t.val % 11 :=
  (by decide +kernel : ∀ t : Fin grid0.N, _)
theorem index_10 : ∀ t : Fin cfg0.N, win0_10.index t (0 : Fin 3) = t.val / 11 ∧ win0_10.index t (1 : Fin 3) = 0 ∧ win0_10.index t (2 : Fin 3) = t.val % 11 :=
  (by decide +kernel : ∀ t : Fin grid0.N, _)

/-- The sequence of point `t`, and the column of the arrays that column `j` of its block is. -/
def bat (t : Fin cfg0.N) : Fin 4 := ⟨t.val / 11, by have h : t.val < 44 := lt_of_lt_of_eq t.isLt N_0; omega⟩
def col (t : Fin cfg0.N) (j : Fin 256) : Fin 2816 := ⟨t.val % 11 * 256 + j.val, by have := j.isLt; omega⟩

theorem block_x (c : Dev nD) (t : Fin cfg0.N) (q : Fin 1) (p : Fin 2048) (k : Fin 1024) :
    (iblk m c 0 t : Vec Ideal S1x2048x1024 .bf16) (ix3 q p k) = fx m c (ix3 (bat t) p k) := by
  obtain ⟨e0, e1, e2, -⟩ := index_in t
  show fx m c (((cfg0.win 0).blk t).view.emb (ix3 q p k)) = _
  congr 1
  funext a
  match a with
  | ⟨0, _⟩ => exact Fin.ext (by show win0_0.index t (0 : Fin 3) * 1 + 1 * q.val = t.val / 11; rw [e0]; omega)
  | ⟨1, _⟩ => exact Fin.ext (by show win0_0.index t (1 : Fin 3) * 2048 + 1 * p.val = p.val; rw [e1]; omega)
  | ⟨2, _⟩ => exact Fin.ext (by show win0_0.index t (2 : Fin 3) * 1024 + 1 * k.val = k.val; rw [e2]; omega)

theorem block_w (c : Dev nD) (t : Fin cfg0.N) (o : Fin 5632) (k : Fin 1024) :
    (iblk m c 1 t : Vec Ideal S5632x1024 .bf16) (ix2 o k) = fw m c (ix2 o k) := by
  obtain ⟨-, -, -, e0, e1, -⟩ := index_in t
  show fw m c (((cfg0.win 1).blk t).view.emb (ix2 o k)) = _
  congr 1
  funext a
  match a with
  | ⟨0, _⟩ => exact Fin.ext (by show win0_1.index t (0 : Fin 2) * 5632 + 1 * o.val = o.val; rw [e0]; omega)
  | ⟨1, _⟩ => exact Fin.ext (by show win0_1.index t (1 : Fin 2) * 1024 + 1 * k.val = k.val; rw [e1]; omega)

theorem rowsG_apply (c : Dev nD) (t : Fin cfg0.N) (j : Fin 256) (k : Fin 1024) :
    rowsG (grid0.coords t) (iblk m c 1 t) (ix2 j k) = fw m c (ix2 (gc (col t j)) k) := by
  obtain ⟨-, -, -, -, -, e0, e1, -⟩ := index_in t
  refine (View.ld_unit_apply_of _ _ _ _ _ (ix2 (gc (col t j)) k) fun a => ?_).trans (block_w m c t _ k)
  match a with
  | ⟨0, _⟩ => show t.val % 11 * 256 + j.val = k0_off1 (grid0.coords t) (0 : Fin 2) + j.val; rw [e0]
  | ⟨1, _⟩ => show k.val = k0_off1 (grid0.coords t) (1 : Fin 2) + k.val; rw [e1]; omega

theorem rowsV_apply (c : Dev nD) (t : Fin cfg0.N) (j : Fin 256) (k : Fin 1024) :
    rowsV (grid0.coords t) (iblk m c 1 t) (ix2 j k) = fw m c (ix2 (vc (col t j)) k) := by
  obtain ⟨-, -, -, -, -, -, -, e0, e1⟩ := index_in t
  refine (View.ld_unit_apply_of _ _ _ _ _ (ix2 (vc (col t j)) k) fun a => ?_).trans (block_w m c t _ k)
  match a with
  | ⟨0, _⟩ => show 2816 + (t.val % 11 * 256 + j.val) = k0_off2 (grid0.coords t) (0 : Fin 2) + j.val; rw [e0]; omega
  | ⟨1, _⟩ => show k.val = k0_off2 (grid0.coords t) (1 : Fin 2) + k.val; rw [e1]; omega

theorem block_kg (c : Dev nD) (t : Fin cfg0.N) (r : Fin 3) (j : Fin 256) :
    (iblk m c 2 t : Vec Ideal S3x256 .f32) (ix2 r j) = fk m c (ix2 r (gc (col t j))) := by
  obtain ⟨e0, e1, -⟩ := index_taps t
  show fk m c (((cfg0.win 2).blk t).view.emb (ix2 r j)) = _
  congr 1
  funext a
  match a with
  | ⟨0, _⟩ => exact Fin.ext (by show win0_2.index t (0 : Fin 2) * 3 + 1 * r.val = r.val; rw [e0]; omega)
  | ⟨1, _⟩ => exact Fin.ext (by show win0_2.index t (1 : Fin 2) * 256 + 1 * j.val = t.val % 11 * 256 + j.val; rw [e1]; omega)

theorem block_kv (c : Dev nD) (t : Fin cfg0.N) (r : Fin 3) (j : Fin 256) :
    (iblk m c 3 t : Vec Ideal S3x256 .f32) (ix2 r j) = fk m c (ix2 r (vc (col t j))) := by
  obtain ⟨-, -, e0, e1, -⟩ := index_taps t
  show fk m c (((cfg0.win 3).blk t).view.emb (ix2 r j)) = _
  congr 1
  funext a
  match a with
  | ⟨0, _⟩ => exact Fin.ext (by show win0_3.index t (0 : Fin 2) * 3 + 1 * r.val = r.val; rw [e0]; omega)
  | ⟨1, _⟩ => exact Fin.ext (by show win0_3.index t (1 : Fin 2) * 256 + 1 * j.val = 2816 + (t.val % 11 * 256 + j.val); rw [e1]; omega)

theorem block_bg (c : Dev nD) (t : Fin cfg0.N) (r : Fin 1) (j : Fin 256) :
    (iblk m c 4 t : Vec Ideal S1x256 .f32) (ix2 r j) = fb m c (ix2 r (gc (col t j))) := by
  obtain ⟨-, -, -, -, e0, e1, -⟩ := index_taps t
  show fb m c (((cfg0.win 4).blk t).view.emb (ix2 r j)) = _
  congr 1
  funext a
  match a with
  | ⟨0, _⟩ => exact Fin.ext (by show win0_4.index t (0 : Fin 2) * 1 + 1 * r.val = r.val; rw [e0]; omega)
  | ⟨1, _⟩ => exact Fin.ext (by show win0_4.index t (1 : Fin 2) * 256 + 1 * j.val = t.val % 11 * 256 + j.val; rw [e1]; omega)

theorem block_bv (c : Dev nD) (t : Fin cfg0.N) (r : Fin 1) (j : Fin 256) :
    (iblk m c 5 t : Vec Ideal S1x256 .f32) (ix2 r j) = fb m c (ix2 r (vc (col t j))) := by
  obtain ⟨-, -, -, -, -, -, e0, e1⟩ := index_taps t
  show fb m c (((cfg0.win 5).blk t).view.emb (ix2 r j)) = _
  congr 1
  funext a
  match a with
  | ⟨0, _⟩ => exact Fin.ext (by show win0_5.index t (0 : Fin 2) * 1 + 1 * r.val = r.val; rw [e0]; omega)
  | ⟨1, _⟩ => exact Fin.ext (by show win0_5.index t (1 : Fin 2) * 256 + 1 * j.val = 2816 + (t.val % 11 * 256 + j.val); rw [e1]; omega)

/-! What one point computes, at an index. -/

theorem prod_g (c : Dev nD) (t : Fin cfg0.N) (p : Fin 2048) (j : Fin 256) :
    k0_pay3 (iblk m c 0 t) (rowsG (grid0.coords t) (iblk m c 1 t)) (ix2 p j) = prod m c (bat t) p (gc (col t j)) := by
  unfold prod
  refine (pay3_apply _ _ p j).trans ?_
  simp only [block_x, rowsG_apply]

theorem prod_v (c : Dev nD) (t : Fin cfg0.N) (p : Fin 2048) (j : Fin 256) :
    k0_pay4 (iblk m c 0 t) (rowsV (grid0.coords t) (iblk m c 1 t)) (ix2 p j) = prod m c (bat t) p (vc (col t j)) := by
  unfold prod
  refine (pay4_apply _ _ p j).trans ?_
  simp only [block_x, rowsV_apply]

theorem conv_g (c : Dev nD) (t : Fin cfg0.N) (q : Fin 1) (p : Fin 2048) (j : Fin 256) :
    convB (k0_pay3 (iblk m c 0 t) (rowsG (grid0.coords t) (iblk m c 1 t))) (iblk m c 2 t) (iblk m c 4 t) (ix3 q p j) = cv m c (bat t) p (gc (col t j)) := by
  show conv (fun q => k0_pay3 (iblk m c 0 t) (rowsG (grid0.coords t) (iblk m c 1 t)) (ix2 q j)) ((iblk m c 2 t : Vec Ideal S3x256 .f32) (ix2 0 j))
    ((iblk m c 2 t : Vec Ideal S3x256 .f32) (ix2 1 j)) ((iblk m c 2 t : Vec Ideal S3x256 .f32) (ix2 2 j)) ((iblk m c 4 t : Vec Ideal S1x256 .f32) (ix2 0 j)) p = _
  unfold cv
  rw [block_kg, block_kg, block_kg, block_bg]
  simp only [prod_g]

theorem conv_v (c : Dev nD) (t : Fin cfg0.N) (q : Fin 1) (p : Fin 2048) (j : Fin 256) :
    convB (k0_pay4 (iblk m c 0 t) (rowsV (grid0.coords t) (iblk m c 1 t))) (iblk m c 3 t) (iblk m c 5 t) (ix3 q p j) = cv m c (bat t) p (vc (col t j)) := by
  show conv (fun q => k0_pay4 (iblk m c 0 t) (rowsV (grid0.coords t) (iblk m c 1 t)) (ix2 q j)) ((iblk m c 3 t : Vec Ideal S3x256 .f32) (ix2 0 j))
    ((iblk m c 3 t : Vec Ideal S3x256 .f32) (ix2 1 j)) ((iblk m c 3 t : Vec Ideal S3x256 .f32) (ix2 2 j)) ((iblk m c 5 t : Vec Ideal S1x256 .f32) (ix2 0 j)) p = _
  unfold cv
  rw [block_kv, block_kv, block_kv, block_bv]
  simp only [prod_v]

/-! The arrays the run leaves. -/

def Ghg (c : Dev nD) : Vec Ideal S4x2048x2816 .f32 := fun i => prod m c (i 0) (i 1) (gc (i 2))
def Ghv (c : Dev nD) : Vec Ideal S4x2048x2816 .f32 := fun i => prod m c (i 0) (i 1) (vc (i 2))
def Gg (c : Dev nD) : Vec Ideal S4x2048x2816 .f32 := fun i => cv m c (i 0) (i 1) (gc (i 2))
def Gv (c : Dev nD) : Vec Ideal S4x2048x2816 .f32 := fun i => cv m c (i 0) (i 1) (vc (i 2))
def Ga (c : Dev nD) : Vec Ideal S4x2048x2816 .bf16 := fun i => act (cv m c (i 0) (i 1) (gc (i 2))) (cv m c (i 0) (i 1) (vc (i 2)))

theorem flushed_6 (c : Dev nD) (t : Fin cfg0.N) :
    (dats m 0 c).flushed 6 t = ((cfg0.win 6).blk t).view.read (Elt Ideal) (Ghg m c) := by
  obtain ⟨e0, e1, e2⟩ := index_6 t
  rw [Value.flushed6_A m c t, out_6]
  funext y
  obtain ⟨q, p, j, rfl⟩ : ∃ (q : Fin 1) (p : Fin 2048) (j : Fin 256), y = ix3 q p j := ⟨y 0, y 1, y 2, by funext a; fin_cases a <;> rfl⟩
  refine ((pay5_apply _ _ q p j).trans (prod_g m c t p j)).trans ?_
  show _ = Ghg m c (((cfg0.win 6).blk t).view.emb (ix3 q p j))
  have e : ((cfg0.win 6).blk t).view.emb (ix3 q p j) = ix3 (bat t) p (col t j) := by
    funext a
    match a with
    | ⟨0, _⟩ => exact Fin.ext (by show win0_6.index t (0 : Fin 3) * 1 + 1 * q.val = t.val / 11; rw [e0]; omega)
    | ⟨1, _⟩ => exact Fin.ext (by show win0_6.index t (1 : Fin 3) * 2048 + 1 * p.val = p.val; rw [e1]; omega)
    | ⟨2, _⟩ => exact Fin.ext (by show win0_6.index t (2 : Fin 3) * 256 + 1 * j.val = t.val % 11 * 256 + j.val; rw [e2]; omega)
  rw [e]
  rfl

theorem covered_6 (i : S4x2048x2816.Idx) : ∃ t : Fin cfg0.N, (cfg0.win 6).flush t = true ∧ i ∈ ((cfg0.win 6).blk t).view.set := by
  have h0 : (i 0).val < 4 := (i 0).isLt
  have h1 : (i 1).val < 2048 := (i 1).isLt
  have h2 : (i 2).val < 2816 := (i 2).isLt
  obtain ⟨t, ht⟩ : ∃ t : Fin cfg0.N, t.val = (i 0).val * 11 + (i 2).val / 256 := ⟨⟨(i 0).val * 11 + (i 2).val / 256, lt_of_lt_of_eq (by omega) N_0.symm⟩, rfl⟩
  obtain ⟨e0, e1, e2⟩ := index_6 t
  refine ⟨t, flush0_6 t, ?_⟩
  have e : ((cfg0.win 6).blk t).view.emb (ix3 (0 : Fin 1) (⟨(i 1).val, h1⟩ : Fin 2048) (⟨(i 2).val % 256, by omega⟩ : Fin 256)) = i := by
    funext a
    match a with
    | ⟨0, _⟩ => exact Fin.ext (by show win0_6.index t (0 : Fin 3) * 1 + 1 * 0 = (i 0).val; rw [e0, ht]; omega)
    | ⟨1, _⟩ => exact Fin.ext (by show win0_6.index t (1 : Fin 3) * 2048 + 1 * (i 1).val = (i 1).val; rw [e1]; omega)
    | ⟨2, _⟩ => exact Fin.ext (by show win0_6.index t (2 : Fin 3) * 256 + 1 * ((i 2).val % 256) = (i 2).val; rw [e2, ht]; omega)
  rw [← e]
  exact View.emb_mem_set _ _

theorem flushed_7 (c : Dev nD) (t : Fin cfg0.N) :
    (dats m 0 c).flushed 7 t = ((cfg0.win 7).blk t).view.read (Elt Ideal) (Ghv m c) := by
  obtain ⟨e0, e1, e2⟩ := index_7 t
  rw [Value.flushed7_A m c t, out_7]
  funext y
  obtain ⟨q, p, j, rfl⟩ : ∃ (q : Fin 1) (p : Fin 2048) (j : Fin 256), y = ix3 q p j := ⟨y 0, y 1, y 2, by funext a; fin_cases a <;> rfl⟩
  refine ((pay6_apply _ _ q p j).trans (prod_v m c t p j)).trans ?_
  show _ = Ghv m c (((cfg0.win 7).blk t).view.emb (ix3 q p j))
  have e : ((cfg0.win 7).blk t).view.emb (ix3 q p j) = ix3 (bat t) p (col t j) := by
    funext a
    match a with
    | ⟨0, _⟩ => exact Fin.ext (by show win0_7.index t (0 : Fin 3) * 1 + 1 * q.val = t.val / 11; rw [e0]; omega)
    | ⟨1, _⟩ => exact Fin.ext (by show win0_7.index t (1 : Fin 3) * 2048 + 1 * p.val = p.val; rw [e1]; omega)
    | ⟨2, _⟩ => exact Fin.ext (by show win0_7.index t (2 : Fin 3) * 256 + 1 * j.val = t.val % 11 * 256 + j.val; rw [e2]; omega)
  rw [e]
  rfl

theorem covered_7 (i : S4x2048x2816.Idx) : ∃ t : Fin cfg0.N, (cfg0.win 7).flush t = true ∧ i ∈ ((cfg0.win 7).blk t).view.set := by
  have h0 : (i 0).val < 4 := (i 0).isLt
  have h1 : (i 1).val < 2048 := (i 1).isLt
  have h2 : (i 2).val < 2816 := (i 2).isLt
  obtain ⟨t, ht⟩ : ∃ t : Fin cfg0.N, t.val = (i 0).val * 11 + (i 2).val / 256 := ⟨⟨(i 0).val * 11 + (i 2).val / 256, lt_of_lt_of_eq (by omega) N_0.symm⟩, rfl⟩
  obtain ⟨e0, e1, e2⟩ := index_7 t
  refine ⟨t, flush0_7 t, ?_⟩
  have e : ((cfg0.win 7).blk t).view.emb (ix3 (0 : Fin 1) (⟨(i 1).val, h1⟩ : Fin 2048) (⟨(i 2).val % 256, by omega⟩ : Fin 256)) = i := by
    funext a
    match a with
    | ⟨0, _⟩ => exact Fin.ext (by show win0_7.index t (0 : Fin 3) * 1 + 1 * 0 = (i 0).val; rw [e0, ht]; omega)
    | ⟨1, _⟩ => exact Fin.ext (by show win0_7.index t (1 : Fin 3) * 2048 + 1 * (i 1).val = (i 1).val; rw [e1]; omega)
    | ⟨2, _⟩ => exact Fin.ext (by show win0_7.index t (2 : Fin 3) * 256 + 1 * ((i 2).val % 256) = (i 2).val; rw [e2, ht]; omega)
  rw [← e]
  exact View.emb_mem_set _ _

theorem flushed_8 (c : Dev nD) (t : Fin cfg0.N) :
    (dats m 0 c).flushed 8 t = ((cfg0.win 8).blk t).view.read (Elt Ideal) (Gg m c) := by
  obtain ⟨e0, e1, e2⟩ := index_8 t
  rw [Value.flushed8_A m c t, out_8]
  funext y
  obtain ⟨q, p, j, rfl⟩ : ∃ (q : Fin 1) (p : Fin 2048) (j : Fin 256), y = ix3 q p j := ⟨y 0, y 1, y 2, by funext a; fin_cases a <;> rfl⟩
  refine (conv_g m c t q p j).trans ?_
  show _ = Gg m c (((cfg0.win 8).blk t).view.emb (ix3 q p j))
  have e : ((cfg0.win 8).blk t).view.emb (ix3 q p j) = ix3 (bat t) p (col t j) := by
    funext a
    match a with
    | ⟨0, _⟩ => exact Fin.ext (by show win0_8.index t (0 : Fin 3) * 1 + 1 * q.val = t.val / 11; rw [e0]; omega)
    | ⟨1, _⟩ => exact Fin.ext (by show win0_8.index t (1 : Fin 3) * 2048 + 1 * p.val = p.val; rw [e1]; omega)
    | ⟨2, _⟩ => exact Fin.ext (by show win0_8.index t (2 : Fin 3) * 256 + 1 * j.val = t.val % 11 * 256 + j.val; rw [e2]; omega)
  rw [e]
  rfl

theorem covered_8 (i : S4x2048x2816.Idx) : ∃ t : Fin cfg0.N, (cfg0.win 8).flush t = true ∧ i ∈ ((cfg0.win 8).blk t).view.set := by
  have h0 : (i 0).val < 4 := (i 0).isLt
  have h1 : (i 1).val < 2048 := (i 1).isLt
  have h2 : (i 2).val < 2816 := (i 2).isLt
  obtain ⟨t, ht⟩ : ∃ t : Fin cfg0.N, t.val = (i 0).val * 11 + (i 2).val / 256 := ⟨⟨(i 0).val * 11 + (i 2).val / 256, lt_of_lt_of_eq (by omega) N_0.symm⟩, rfl⟩
  obtain ⟨e0, e1, e2⟩ := index_8 t
  refine ⟨t, flush0_8 t, ?_⟩
  have e : ((cfg0.win 8).blk t).view.emb (ix3 (0 : Fin 1) (⟨(i 1).val, h1⟩ : Fin 2048) (⟨(i 2).val % 256, by omega⟩ : Fin 256)) = i := by
    funext a
    match a with
    | ⟨0, _⟩ => exact Fin.ext (by show win0_8.index t (0 : Fin 3) * 1 + 1 * 0 = (i 0).val; rw [e0, ht]; omega)
    | ⟨1, _⟩ => exact Fin.ext (by show win0_8.index t (1 : Fin 3) * 2048 + 1 * (i 1).val = (i 1).val; rw [e1]; omega)
    | ⟨2, _⟩ => exact Fin.ext (by show win0_8.index t (2 : Fin 3) * 256 + 1 * ((i 2).val % 256) = (i 2).val; rw [e2, ht]; omega)
  rw [← e]
  exact View.emb_mem_set _ _

theorem flushed_9 (c : Dev nD) (t : Fin cfg0.N) :
    (dats m 0 c).flushed 9 t = ((cfg0.win 9).blk t).view.read (Elt Ideal) (Gv m c) := by
  obtain ⟨e0, e1, e2⟩ := index_9 t
  rw [Value.flushed9_A m c t, out_9]
  funext y
  obtain ⟨q, p, j, rfl⟩ : ∃ (q : Fin 1) (p : Fin 2048) (j : Fin 256), y = ix3 q p j := ⟨y 0, y 1, y 2, by funext a; fin_cases a <;> rfl⟩
  refine (conv_v m c t q p j).trans ?_
  show _ = Gv m c (((cfg0.win 9).blk t).view.emb (ix3 q p j))
  have e : ((cfg0.win 9).blk t).view.emb (ix3 q p j) = ix3 (bat t) p (col t j) := by
    funext a
    match a with
    | ⟨0, _⟩ => exact Fin.ext (by show win0_9.index t (0 : Fin 3) * 1 + 1 * q.val = t.val / 11; rw [e0]; omega)
    | ⟨1, _⟩ => exact Fin.ext (by show win0_9.index t (1 : Fin 3) * 2048 + 1 * p.val = p.val; rw [e1]; omega)
    | ⟨2, _⟩ => exact Fin.ext (by show win0_9.index t (2 : Fin 3) * 256 + 1 * j.val = t.val % 11 * 256 + j.val; rw [e2]; omega)
  rw [e]
  rfl

theorem covered_9 (i : S4x2048x2816.Idx) : ∃ t : Fin cfg0.N, (cfg0.win 9).flush t = true ∧ i ∈ ((cfg0.win 9).blk t).view.set := by
  have h0 : (i 0).val < 4 := (i 0).isLt
  have h1 : (i 1).val < 2048 := (i 1).isLt
  have h2 : (i 2).val < 2816 := (i 2).isLt
  obtain ⟨t, ht⟩ : ∃ t : Fin cfg0.N, t.val = (i 0).val * 11 + (i 2).val / 256 := ⟨⟨(i 0).val * 11 + (i 2).val / 256, lt_of_lt_of_eq (by omega) N_0.symm⟩, rfl⟩
  obtain ⟨e0, e1, e2⟩ := index_9 t
  refine ⟨t, flush0_9 t, ?_⟩
  have e : ((cfg0.win 9).blk t).view.emb (ix3 (0 : Fin 1) (⟨(i 1).val, h1⟩ : Fin 2048) (⟨(i 2).val % 256, by omega⟩ : Fin 256)) = i := by
    funext a
    match a with
    | ⟨0, _⟩ => exact Fin.ext (by show win0_9.index t (0 : Fin 3) * 1 + 1 * 0 = (i 0).val; rw [e0, ht]; omega)
    | ⟨1, _⟩ => exact Fin.ext (by show win0_9.index t (1 : Fin 3) * 2048 + 1 * (i 1).val = (i 1).val; rw [e1]; omega)
    | ⟨2, _⟩ => exact Fin.ext (by show win0_9.index t (2 : Fin 3) * 256 + 1 * ((i 2).val % 256) = (i 2).val; rw [e2, ht]; omega)
  rw [← e]
  exact View.emb_mem_set _ _

theorem flushed_10 (c : Dev nD) (t : Fin cfg0.N) :
    (dats m 0 c).flushed 10 t = ((cfg0.win 10).blk t).view.read (Elt Ideal) (Ga m c) := by
  obtain ⟨e0, e1, e2⟩ := index_10 t
  rw [Value.flushed10_A m c t, out_10]
  funext y
  obtain ⟨q, p, j, rfl⟩ : ∃ (q : Fin 1) (p : Fin 2048) (j : Fin 256), y = ix3 q p j := ⟨y 0, y 1, y 2, by funext a; fin_cases a <;> rfl⟩
  refine (congrArg₂ act (conv_g m c t q p j) (conv_v m c t q p j)).trans ?_
  show _ = Ga m c (((cfg0.win 10).blk t).view.emb (ix3 q p j))
  have e : ((cfg0.win 10).blk t).view.emb (ix3 q p j) = ix3 (bat t) p (col t j) := by
    funext a
    match a with
    | ⟨0, _⟩ => exact Fin.ext (by show win0_10.index t (0 : Fin 3) * 1 + 1 * q.val = t.val / 11; rw [e0]; omega)
    | ⟨1, _⟩ => exact Fin.ext (by show win0_10.index t (1 : Fin 3) * 2048 + 1 * p.val = p.val; rw [e1]; omega)
    | ⟨2, _⟩ => exact Fin.ext (by show win0_10.index t (2 : Fin 3) * 256 + 1 * j.val = t.val % 11 * 256 + j.val; rw [e2]; omega)
  rw [e]
  rfl

theorem covered_10 (i : S4x2048x2816.Idx) : ∃ t : Fin cfg0.N, (cfg0.win 10).flush t = true ∧ i ∈ ((cfg0.win 10).blk t).view.set := by
  have h0 : (i 0).val < 4 := (i 0).isLt
  have h1 : (i 1).val < 2048 := (i 1).isLt
  have h2 : (i 2).val < 2816 := (i 2).isLt
  obtain ⟨t, ht⟩ : ∃ t : Fin cfg0.N, t.val = (i 0).val * 11 + (i 2).val / 256 := ⟨⟨(i 0).val * 11 + (i 2).val / 256, lt_of_lt_of_eq (by omega) N_0.symm⟩, rfl⟩
  obtain ⟨e0, e1, e2⟩ := index_10 t
  refine ⟨t, flush0_10 t, ?_⟩
  have e : ((cfg0.win 10).blk t).view.emb (ix3 (0 : Fin 1) (⟨(i 1).val, h1⟩ : Fin 2048) (⟨(i 2).val % 256, by omega⟩ : Fin 256)) = i := by
    funext a
    match a with
    | ⟨0, _⟩ => exact Fin.ext (by show win0_10.index t (0 : Fin 3) * 1 + 1 * 0 = (i 0).val; rw [e0, ht]; omega)
    | ⟨1, _⟩ => exact Fin.ext (by show win0_10.index t (1 : Fin 3) * 2048 + 1 * (i 1).val = (i 1).val; rw [e1]; omega)
    | ⟨2, _⟩ => exact Fin.ext (by show win0_10.index t (2 : Fin 3) * 256 + 1 * ((i 2).val % 256) = (i 2).val; rw [e2, ht]; omega)
  rw [← e]
  exact View.emb_mem_set _ _

/-- The kernel's run: the five results, the arguments as launched. -/
theorem run : θ_run defs (onTc (τ := τ) (main (F := Ideal))) ⟨m, fun _ => 0, ρ⟩ fun r => ∀ c : Dev nD,
      r.2.mem ((c : Thread nD τ).loc main_v0_0) = Ghg m c
      ∧ r.2.mem ((c : Thread nD τ).loc main_v0_1) = Ghv m c
      ∧ r.2.mem ((c : Thread nD τ).loc main_v0_2) = Gg m c
      ∧ r.2.mem ((c : Thread nD τ).loc main_v0_3) = Gv m c
      ∧ r.2.mem ((c : Thread nD τ).loc main_v0_4) = Ga m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(h c).1.trans ((dats m 0 c).arrAt_eq_of_cover 6 _ (fun t _ => flushed_6 m c t) covered_6),
      (h c).2.1.trans ((dats m 0 c).arrAt_eq_of_cover 7 _ (fun t _ => flushed_7 m c t) covered_7),
      (h c).2.2.1.trans ((dats m 0 c).arrAt_eq_of_cover 8 _ (fun t _ => flushed_8 m c t) covered_8),
      (h c).2.2.2.1.trans ((dats m 0 c).arrAt_eq_of_cover 9 _ (fun t _ => flushed_9 m c t) covered_9),
      (h c).2.2.2.2.1.trans ((dats m 0 c).arrAt_eq_of_cover 10 _ (fun t _ => flushed_10 m c t) covered_10),
      (h c).2.2.2.2.2⟩)
    (Value.run_blocks m ρ)

end Cert.Kernel8Ideal.Act

end
-- ==== Proof.Act.Equation.lean ====
/- The activation of the feed-forward block: the reference's five results are the arrays the kernel's run leaves. -/
module

public import proofs.«01_k».proof.Proof.Act.Value
public import proofs.«01_k».proof.Proof.Gen.Reference8Ideal.Read

@[expose] public section

set_option maxRecDepth 16384

noncomputable section

namespace Cert.Kernel8Ideal.Act

open Cert.Kernel8Ideal Cert.Kernel8Ideal.Gen Idealize.ShloMosaic Idealize.ShloMosaic.TcCoe Idealize.SL.Sem
open Cert.Reference8Ideal.Read

section stages

open Cert.Reference8Ideal (S4x2048x1024 S5632x1024 S3x5632 S1x5632)

variable (x0 : (⟨S4x2048x1024, .bf16⟩ : BufTy).Contents (Elt Ideal)) (x1 : (⟨S5632x1024, .bf16⟩ : BufTy).Contents (Elt Ideal))
  (x2 : (⟨S3x5632, .f32⟩ : BufTy).Contents (Elt Ideal)) (x3 : (⟨S1x5632, .f32⟩ : BufTy).Contents (Elt Ideal))

theorem prod_eq (b : Fin 4) (p : Fin 2048) (o : Fin 5632) :
    val_main_v3 (F := Ideal) x0 x1 (ix3 b p o) = ∑ k : Fin 1024, x0 (ix3 b p k) * x1 (ix2 o k) := by
  unfold val_main_v3 val_main_v2 val_main_v1 val_main_v0
  pointwise

/-- The product with two rows of zeros above. -/
theorem padded_eq (b : Fin 4) (p : Fin 2050) (o : Fin 5632) :
    val_main_v6 (F := Ideal) x0 x1 (ix3 b p o) = if h : 2 ≤ p.val then val_main_v3 (F := Ideal) x0 x1 (ix3 b ⟨p.val - 2, by omega⟩ o) else 0 := by
  unfold val_main_v6 val_main_v5
  pointwise [val_main_cst]
  by_cases h : p.val < 2
  · rw [dif_pos h, dif_neg (by omega)]
  · rw [dif_neg h, dif_pos (by omega)]

theorem taps_0 (b : Fin 4) (p : Fin 2048) (o : Fin 5632) : val_main_v11 (F := Ideal) x2 (ix3 b p o) = x2 (ix2 0 o) := by
  unfold val_main_v11 val_main_v10 val_main_v9 val_main_v8
  pointwise
theorem taps_1 (b : Fin 4) (p : Fin 2048) (o : Fin 5632) : val_main_v20 (F := Ideal) x2 (ix3 b p o) = x2 (ix2 1 o) := by
  unfold val_main_v20 val_main_v19 val_main_v18 val_main_v17
  pointwise
theorem taps_2 (b : Fin 4) (p : Fin 2048) (o : Fin 5632) : val_main_v27 (F := Ideal) x2 (ix3 b p o) = x2 (ix2 2 o) := by
  unfold val_main_v27 val_main_v26 val_main_v25 val_main_v24
  pointwise
theorem shift_eq (b : Fin 4) (p : Fin 2048) (o : Fin 5632) : val_main_v14 (F := Ideal) x3 (ix3 b p o) = x3 (ix2 0 o) := by
  unfold val_main_v14 val_main_v13 val_main_v4
  pointwise

theorem from_0 (b : Fin 4) (p : Fin 2048) (o : Fin 5632) :
    val_main_v7 (F := Ideal) x0 x1 (ix3 b p o) = val_main_v6 (F := Ideal) x0 x1 (ix3 b ⟨p.val, by omega⟩ o) := by
  unfold val_main_v7
  pointwise
theorem from_1 (b : Fin 4) (p : Fin 2048) (o : Fin 5632) :
    val_main_v16 (F := Ideal) x0 x1 (ix3 b p o) = val_main_v6 (F := Ideal) x0 x1 (ix3 b ⟨1 + p.val, by omega⟩ o) := by
  unfold val_main_v16
  pointwise
theorem from_2 (b : Fin 4) (p : Fin 2048) (o : Fin 5632) :
    val_main_v23 (F := Ideal) x0 x1 (ix3 b p o) = val_main_v6 (F := Ideal) x0 x1 (ix3 b ⟨2 + p.val, by omega⟩ o) := by
  unfold val_main_v23
  pointwise

theorem conv_eq (b : Fin 4) (p : Fin 2048) (o : Fin 5632) :
    val_main_v29 (F := Ideal) x0 x1 x2 x3 (ix3 b p o)
      = conv (fun q => ∑ k : Fin 1024, x0 (ix3 b q k) * x1 (ix2 o k)) (x2 (ix2 0 o)) (x2 (ix2 1 o)) (x2 (ix2 2 o)) (x3 (ix2 0 o)) p := by
  have e0 : val_main_v7 (F := Ideal) x0 x1 (ix3 b p o) = back (fun q => ∑ k : Fin 1024, x0 (ix3 b q k) * x1 (ix2 o k)) 2 p := by
    rw [from_0, padded_eq]
    unfold back
    by_cases h : 2 ≤ p.val
    · rw [dif_pos h, if_pos h, prod_eq]
    · rw [dif_neg h, if_neg h]
  have e1 : val_main_v16 (F := Ideal) x0 x1 (ix3 b p o) = back (fun q => ∑ k : Fin 1024, x0 (ix3 b q k) * x1 (ix2 o k)) 1 p := by
    rw [from_1, padded_eq]
    unfold back
    by_cases h : 1 ≤ p.val
    · rw [dif_pos (show 2 ≤ 1 + p.val by omega), if_pos h, prod_eq]
      have e : (⟨1 + p.val - 2, by omega⟩ : Fin 2048) = ⟨p.val - 1, by omega⟩ := Fin.ext (show 1 + p.val - 2 = p.val - 1 by omega)
      simp only [e]
    · rw [dif_neg (show ¬2 ≤ 1 + p.val by omega), if_neg h]
  have e2 : val_main_v23 (F := Ideal) x0 x1 (ix3 b p o) = ∑ k : Fin 1024, x0 (ix3 b p k) * x1 (ix2 o k) := by
    rw [from_2, padded_eq, dif_pos (show 2 ≤ 2 + p.val by omega), prod_eq]
    have e : (⟨2 + p.val - 2, by omega⟩ : Fin 2048) = p := Fin.ext (show 2 + p.val - 2 = p.val by omega)
    simp only [e]
  unfold val_main_v29 val_main_v22 val_main_v15 val_main_v12 val_main_v21 val_main_v28 conv
  pointwise
  rw [e0, e1, e2, taps_0, taps_1, taps_2, shift_eq]

theorem act_eq (b : Fin 4) (p : Fin 2048) (j : Fin 2816) :
    (val_main_v36 (F := Ideal) x0 x1 x2 x3 : FVec Ideal S4x2048x2816 .bf16) (ix3 b p j)
      = act (val_main_v30 (F := Ideal) x0 x1 x2 x3 (ix3 b p j)) (val_main_v31 (F := Ideal) x0 x1 x2 x3 (ix3 b p j)) := by
  unfold act
  unfold val_main_v36 val_main_v35 val_main_v34 val_main_call0_v5 val_main_call0_v4 val_main_call0_v3 val_main_call0_v2 val_main_call0_v1 val_main_call0_v0
  pointwise [val_main_call0_cst, val_main_call0_cst_0]

theorem gate_product (b : Fin 4) (p : Fin 2048) (j : Fin 2816) :
    val_main_v32 (F := Ideal) x0 x1 (ix3 b p j) = val_main_v3 (F := Ideal) x0 x1 (ix3 b p (gc j)) := by
  unfold val_main_v32 gc
  pointwise
theorem value_product (b : Fin 4) (p : Fin 2048) (j : Fin 2816) :
    val_main_v33 (F := Ideal) x0 x1 (ix3 b p j) = val_main_v3 (F := Ideal) x0 x1 (ix3 b p (vc j)) := by
  unfold val_main_v33 vc
  pointwise
theorem gate_conv (b : Fin 4) (p : Fin 2048) (j : Fin 2816) :
    val_main_v30 (F := Ideal) x0 x1 x2 x3 (ix3 b p j) = val_main_v29 (F := Ideal) x0 x1 x2 x3 (ix3 b p (gc j)) := by
  unfold val_main_v30 gc
  pointwise
theorem value_conv (b : Fin 4) (p : Fin 2048) (j : Fin 2816) :
    val_main_v31 (F := Ideal) x0 x1 x2 x3 (ix3 b p j) = val_main_v29 (F := Ideal) x0 x1 x2 x3 (ix3 b p (vc j)) := by
  unfold val_main_v31 vc
  pointwise

end stages

variable (m : (ℓ : Loc nD τ sig) → Buf (Elt Ideal) ℓ)

theorem reference_hg (c : Dev nD) : val_main_v32 (F := Ideal) (fx m c) (fw m c) = Ghg m c := by
  funext i
  obtain ⟨b, p, j, rfl⟩ : ∃ (b : Fin 4) (p : Fin 2048) (j : Fin 2816), i = ix3 b p j := ⟨i 0, i 1, i 2, by funext a; fin_cases a <;> rfl⟩
  exact (gate_product _ _ b p j).trans (prod_eq _ _ b p _)

theorem reference_hv (c : Dev nD) : val_main_v33 (F := Ideal) (fx m c) (fw m c) = Ghv m c := by
  funext i
  obtain ⟨b, p, j, rfl⟩ : ∃ (b : Fin 4) (p : Fin 2048) (j : Fin 2816), i = ix3 b p j := ⟨i 0, i 1, i 2, by funext a; fin_cases a <;> rfl⟩
  exact (value_product _ _ b p j).trans (prod_eq _ _ b p _)

theorem reference_g (c : Dev nD) : val_main_v30 (F := Ideal) (fx m c) (fw m c) (fk m c) (fb m c) = Gg m c := by
  funext i
  obtain ⟨b, p, j, rfl⟩ : ∃ (b : Fin 4) (p : Fin 2048) (j : Fin 2816), i = ix3 b p j := ⟨i 0, i 1, i 2, by funext a; fin_cases a <;> rfl⟩
  exact (gate_conv _ _ _ _ b p j).trans (conv_eq _ _ _ _ b p _)

theorem reference_v (c : Dev nD) : val_main_v31 (F := Ideal) (fx m c) (fw m c) (fk m c) (fb m c) = Gv m c := by
  funext i
  obtain ⟨b, p, j, rfl⟩ : ∃ (b : Fin 4) (p : Fin 2048) (j : Fin 2816), i = ix3 b p j := ⟨i 0, i 1, i 2, by funext a; fin_cases a <;> rfl⟩
  exact (value_conv _ _ _ _ b p j).trans (conv_eq _ _ _ _ b p _)

theorem reference_a (c : Dev nD) : val_main_v36 (F := Ideal) (fx m c) (fw m c) (fk m c) (fb m c) = Ga m c := by
  funext i
  obtain ⟨b, p, j, rfl⟩ : ∃ (b : Fin 4) (p : Fin 2048) (j : Fin 2816), i = ix3 b p j := ⟨i 0, i 1, i 2, by funext a; fin_cases a <;> rfl⟩
  exact (act_eq _ _ _ _ b p j).trans (congrArg₂ act (congrFun (reference_g m c) _) (congrFun (reference_v m c) _))

end Cert.Kernel8Ideal.Act

end
-- ==== Proof.DownLn.Value.lean ====
/- The down-projection of the feed-forward block with the two layer norms around it: what one point of the grid leaves in its
   two outputs, and the arrays the run leaves, as functions of the arguments. -/
module

public import proofs.«01_k».proof.Proof.Gen.Kernel9Ideal.Value
public import Idealize.ShloMosaic.Lib.Pipeline.Value
public import Idealize.ShloMosaic.Lib.Tactic
public import Idealize.ShloMosaic.Lib.Pointwise
public import proofs.«01_k».proof.Proof.Up.Row

@[expose] public section

set_option maxRecDepth 16384

noncomputable section

namespace Cert.Kernel9Ideal.DownLn

open Cert.Kernel9Ideal Cert.Kernel9Ideal.Gen Idealize.ShloMosaic Idealize.ShloMosaic.TcCoe Idealize.SL.Sem
open Idealize.ShloMosaic.Pipeline (Dat)
open Cert.Kernel3Ideal.Up (ctr vare rstd nrm)

theorem zero2 : (![0, 0] : Fin 2 → Nat) = fun _ => 0 := funext fun a => by fin_cases a <;> rfl

section point

variable {F : FTy → Type} [FloatOps F]
variable (x0 : Vec F S1024x2816 .bf16) (x1 : Vec F S2816x1024 .bf16) (x2 : Vec F S1024x1024 .f32)
  (x3 x4 x5 x6 : Vec F S1x1024 .f32)

/-- The sum of the scaled norm and the product, … -/
theorem out_z : out0_7 x0 x1 x2 x3 x4 x5 x6 = k0_pay2 x2 x5 x6 x0 x1 := by
  unfold out0_7
  rw [View.canon_unit_zero zero2, View.ld_unit_zero (S := S1024x1024) zero2, View.ld_unit_zero (S := S1x1024) zero2, View.ld_unit_zero (S := S1x1024) zero2, View.ld_unit_zero (S := S1024x2816) zero2, View.ld_unit_zero (S := S2816x1024) zero2]

/-- … and its norm, rounded. -/
theorem out_h : out0_8 x0 x1 x2 x3 x4 x5 x6 = k0_pay1 (k0_pay2 x2 x5 x6 x0 x1) x3 x4 (k0_pay3 x2 x5 x6 x0 x1) := by
  unfold out0_8
  rw [View.canon_unit_zero zero2, View.ld_unit_zero (S := S1024x1024) zero2, View.ld_unit_zero (S := S1x1024) zero2, View.ld_unit_zero (S := S1x1024) zero2, View.ld_unit_zero (S := S1x1024) zero2, View.ld_unit_zero (S := S1x1024) zero2, View.ld_unit_zero (S := S1024x2816) zero2, View.ld_unit_zero (S := S2816x1024) zero2]

end point

/-! The values at an index, as extended reals. -/

theorem pay2_apply (r : Vec Ideal S1024x1024 .f32) (g b : Vec Ideal S1x1024 .f32) (x : Vec Ideal S1024x2816 .bf16) (w : Vec Ideal S2816x1024 .bf16) (p j : Fin 1024) :
    k0_pay2 r g b x w (ix2 p j) = Ideal.ofBits .f32 0x3FD744FD#32 * (nrm (fun k => r (ix2 p k)) j * g (ix2 0 j) + b (ix2 0 j))
      + ∑ k : Fin 2816, x (ix2 p k) * w (ix2 k j) := by
  unfold k0_pay2 nrm rstd vare ctr
  pointwise

theorem pay3_apply (r : Vec Ideal S1024x1024 .f32) (g b : Vec Ideal S1x1024 .f32) (x : Vec Ideal S1024x2816 .bf16) (w : Vec Ideal S2816x1024 .bf16) (p : Fin 1024) (q : Fin 1) :
    k0_pay3 r g b x w (ix2 p q) = ∑ k, k0_pay2 r g b x w (ix2 p k) := by
  unfold k0_pay3
  pointwise

theorem pay1_apply (z : FVec Ideal S1024x1024 .f32) (g b : Vec Ideal S1x1024 .f32) (s : FVec Ideal S1024x1 .f32) (p j : Fin 1024)
    (hs : s (ix2 p 0) = ∑ k, z (ix2 p k)) :
    (k0_pay1 z g b s : FVec Ideal S1024x1024 .bf16) (ix2 p j) = nrm (fun k => z (ix2 p k)) j * g (ix2 0 j) + b (ix2 0 j) := by
  unfold k0_pay1 nrm rstd vare ctr
  pointwise
  rw [hs]

variable (m : (ℓ : Loc nD τ sig) → Buf (Elt Ideal) ℓ) (ρ : Dev nD → PrngReg)

/-- The arguments: the activation, the weight, the residual before its norm, the scale and shift of the norm of the sum, and those of
    the norm of the residual. -/
abbrev fa (c : Dev nD) : Vec Ideal S8192x2816 .bf16 := m ((c : Thread nD τ).loc main_arg0)
abbrev fw (c : Dev nD) : Vec Ideal S2816x1024 .bf16 := m ((c : Thread nD τ).loc main_arg1)
abbrev fr (c : Dev nD) : Vec Ideal S8192x1024 .f32 := m ((c : Thread nD τ).loc main_arg2)
abbrev fg (c : Dev nD) : Vec Ideal S1x1024 .f32 := m ((c : Thread nD τ).loc main_arg3)
abbrev fb (c : Dev nD) : Vec Ideal S1x1024 .f32 := m ((c : Thread nD τ).loc main_arg4)
abbrev fgr (c : Dev nD) : Vec Ideal S1x1024 .f32 := m ((c : Thread nD τ).loc main_arg5)
abbrev fbr (c : Dev nD) : Vec Ideal S1x1024 .f32 := m ((c : Thread nD τ).loc main_arg6)

/-- The sum of the scaled norm of the residual and the product, at a row and a column, … -/
def z (c : Dev nD) (r : Fin 8192) (j : Fin 1024) : EReal :=
  Ideal.ofBits .f32 0x3FD744FD#32 * (nrm (fun k => fr m c (ix2 r k)) j * fgr m c (ix2 0 j) + fbr m c (ix2 0 j))
    + ∑ k : Fin 2816, fa m c (ix2 r k) * fw m c (ix2 k j)
/-- … and its norm. -/
def h (c : Dev nD) (r : Fin 8192) (j : Fin 1024) : EReal := nrm (z m c r) j * fg m c (ix2 0 j) + fb m c (ix2 0 j)

/-- Where the blocks of point `t` lie. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem index_rows : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The row of the arrays that row `p` of point `t`'s block is. -/
def at_ (t : Fin cfg0.N) (p : Fin 1024) : Fin 8192 :=
  ⟨t.val * 1024 + p.val, by have h : t.val < 8 := lt_of_lt_of_eq t.isLt N_0; have := p.isLt; omega⟩

theorem block_a (c : Dev nD) (t : Fin cfg0.N) (p : Fin 1024) (k : Fin 2816) :
    (iblk m c 0 t : Vec Ideal S1024x2816 .bf16) (ix2 p k) = fa m c (ix2 (at_ t p) k) := by
  obtain ⟨e0, e1, -⟩ := index_facts t
  show fa m c (((cfg0.win 0).blk t).view.emb (ix2 p k)) = _
  congr 1
  funext a
  match a with
  | ⟨0, _⟩ => exact Fin.ext (by show win0_0.index t (0 : Fin 2) * 1024 + 1 * p.val = _; rw [e0, one_mul]; rfl)
  | ⟨1, _⟩ => exact Fin.ext (by show win0_0.index t (1 : Fin 2) * 2816 + 1 * k.val = _; rw [e1, one_mul, Nat.zero_mul, Nat.zero_add]; rfl)

theorem block_w (c : Dev nD) (t : Fin cfg0.N) (p : Fin 2816) (k : Fin 1024) :
    (iblk m c 1 t : Vec Ideal S2816x1024 .bf16) (ix2 p k) = fw m c (ix2 p k) := by
  obtain ⟨-, -, e0, e1, -⟩ := index_facts t
  show fw m c (((cfg0.win 1).blk t).view.emb (ix2 p k)) = _
  congr 1
  funext a
  match a with
  | ⟨0, _⟩ => exact Fin.ext (by show win0_1.index t (0 : Fin 2) * 2816 + 1 * p.val = _; rw [e0, one_mul, Nat.zero_mul, Nat.zero_add]; rfl)
  | ⟨1, _⟩ => exact Fin.ext (by show win0_1.index t (1 : Fin 2) * 1024 + 1 * k.val = _; rw [e1, one_mul, Nat.zero_mul, Nat.zero_add]; rfl)

theorem block_r (c : Dev nD) (t : Fin cfg0.N) (p : Fin 1024) (k : Fin 1024) :
    (iblk m c 2 t : Vec Ideal S1024x1024 .f32) (ix2 p k) = fr m c (ix2 (at_ t p) k) := by
  obtain ⟨-, -, -, -, e0, e1, -⟩ := index_facts t
  show fr m c (((cfg0.win 2).blk t).view.emb (ix2 p k)) = _
  congr 1
  funext a
  match a with
  | ⟨0, _⟩ => exact Fin.ext (by show win0_2.index t (0 : Fin 2) * 1024 + 1 * p.val = _; rw [e0, one_mul]; rfl)
  | ⟨1, _⟩ => exact Fin.ext (by show win0_2.index t (1 : Fin 2) * 1024 + 1 * k.val = _; rw [e1, one_mul, Nat.zero_mul, Nat.zero_add]; rfl)

theorem block_g (c : Dev nD) (t : Fin cfg0.N) (p : Fin 1) (k : Fin 1024) :
    (iblk m c 3 t : Vec Ideal S1x1024 .f32) (ix2 p k) = fg m c (ix2 p k) := by
  obtain ⟨e0, e1, -⟩ := index_rows t
  show fg m c (((cfg0.win 3).blk t).view.emb (ix2 p k)) = _
  congr 1
  funext a
  match a with
  | ⟨0, _⟩ => exact Fin.ext (by show win0_3.index t (0 : Fin 2) * 1 + 1 * p.val = _; rw [e0, one_mul, Nat.zero_mul, Nat.zero_add]; rfl)
  | ⟨1, _⟩ => exact Fin.ext (by show win0_3.index t (1 : Fin 2) * 1024 + 1 * k.val = _; rw [e1, one_mul, Nat.zero_mul, Nat.zero_add]; rfl)

theorem block_b (c : Dev nD) (t : Fin cfg0.N) (p : Fin 1) (k : Fin 1024) :
    (iblk m c 4 t : Vec Ideal S1x1024 .f32) (ix2 p k) = fb m c (ix2 p k) := by
  obtain ⟨-, -, e0, e1, -⟩ := index_rows t
  show fb m c (((cfg0.win 4).blk t).view.emb (ix2 p k)) = _
  congr 1
  funext a
  match a with
  | ⟨0, _⟩ => exact Fin.ext (by show win0_4.index t (0 : Fin 2) * 1 + 1 * p.val = _; rw [e0, one_mul, Nat.zero_mul, Nat.zero_add]; rfl)
  | ⟨1, _⟩ => exact Fin.ext (by show win0_4.index t (1 : Fin 2) * 1024 + 1 * k.val = _; rw [e1, one_mul, Nat.zero_mul, Nat.zero_add]; rfl)

theorem block_gr (c : Dev nD) (t : Fin cfg0.N) (p : Fin 1) (k : Fin 1024) :
    (iblk m c 5 t : Vec Ideal S1x1024 .f32) (ix2 p k) = fgr m c (ix2 p k) := by
  obtain ⟨-, -, -, -, e0, e1, -⟩ := index_rows t
  show fgr m c (((cfg0.win 5).blk t).view.emb (ix2 p k)) = _
  congr 1
  funext a
  match a with
  | ⟨0, _⟩ => exact Fin.ext (by show win0_5.index t (0 : Fin 2) * 1 + 1 * p.val = _; rw [e0, one_mul, Nat.zero_mul, Nat.zero_add]; rfl)
  | ⟨1, _⟩ => exact Fin.ext (by show win0_5.index t (1 : Fin 2) * 1024 + 1 * k.val = _; rw [e1, one_mul, Nat.zero_mul, Nat.zero_add]; rfl)

theorem block_br (c : Dev nD) (t : Fin cfg0.N) (p : Fin 1) (k : Fin 1024) :
    (iblk m c 6 t : Vec Ideal S1x1024 .f32) (ix2 p k) = fbr m c (ix2 p k) := by
  obtain ⟨-, -, -, -, -, -, e0, e1⟩ := index_rows t
  show fbr m c (((cfg0.win 6).blk t).view.emb (ix2 p k)) = _
  congr 1
  funext a
  match a with
  | ⟨0, _⟩ => exact Fin.ext (by show win0_6.index t (0 : Fin 2) * 1 + 1 * p.val = _; rw [e0, one_mul, Nat.zero_mul, Nat.zero_add]; rfl)
  | ⟨1, _⟩ => exact Fin.ext (by show win0_6.index t (1 : Fin 2) * 1024 + 1 * k.val = _; rw [e1, one_mul, Nat.zero_mul, Nat.zero_add]; rfl)

/-! What one point computes, at an index. -/

abbrev pz (c : Dev nD) (t : Fin cfg0.N) : FVec Ideal S1024x1024 .f32 :=
  k0_pay2 (iblk m c 2 t) (iblk m c 5 t) (iblk m c 6 t) (iblk m c 0 t) (iblk m c 1 t)

theorem point_z (c : Dev nD) (t : Fin cfg0.N) (p j : Fin 1024) : pz m c t (ix2 p j) = z m c (at_ t p) j := by
  unfold z
  refine (pay2_apply _ _ _ _ _ p j).trans ?_
  simp only [block_a, block_w, block_r, block_gr, block_br]

theorem point_h (c : Dev nD) (t : Fin cfg0.N) (p j : Fin 1024) :
    (k0_pay1 (pz m c t) (iblk m c 3 t) (iblk m c 4 t) (k0_pay3 (iblk m c 2 t) (iblk m c 5 t) (iblk m c 6 t) (iblk m c 0 t) (iblk m c 1 t)) : FVec Ideal S1024x1024 .bf16) (ix2 p j)
      = h m c (at_ t p) j := by
  unfold h
  refine (pay1_apply _ _ _ _ p j (pay3_apply _ _ _ _ _ p 0)).trans ?_
  rw [block_g, block_b]
  simp only [point_z]

/-! The arrays the run leaves. -/

def Gz (c : Dev nD) : Vec Ideal S8192x1024 .f32 := fun i => z m c (i 0) (i 1)
def Gh (c : Dev nD) : Vec Ideal S8192x1024 .bf16 := fun i => h m c (i 0) (i 1)

theorem flushed_z (c : Dev nD) (t : Fin cfg0.N) :
    (dats m 0 c).flushed 7 t = ((cfg0.win 7).blk t).view.read (Elt Ideal) (Gz m c) := by
  obtain ⟨-, -, -, -, -, -, e0, e1, -⟩ := index_facts t
  rw [Value.flushed7 m c t, out_z]
  funext y
  obtain ⟨p, j, rfl⟩ : ∃ (p : Fin 1024) (j : Fin 1024), y = ix2 p j := ⟨y 0, y 1, by funext a; fin_cases a <;> rfl⟩
  refine (point_z m c t p j).trans ?_
  show _ = Gz m c (((cfg0.win 7).blk t).view.emb (ix2 p j))
  have q : ((cfg0.win 7).blk t).view.emb (ix2 p j) = ix2 (at_ t p) j := by
    funext a
    match a with
    | ⟨0, _⟩ => exact Fin.ext (by show win0_7.index t (0 : Fin 2) * 1024 + 1 * p.val = _; rw [e0, one_mul]; rfl)
    | ⟨1, _⟩ => exact Fin.ext (by show win0_7.index t (1 : Fin 2) * 1024 + 1 * j.val = _; rw [e1, one_mul, Nat.zero_mul, Nat.zero_add]; rfl)
  rw [q]
  rfl

theorem covered_z (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  obtain ⟨t, ht⟩ : ∃ t : Fin cfg0.N, t.val = (i 0).val / 1024 := ⟨⟨(i 0).val / 1024, lt_of_lt_of_eq (by omega) N_0.symm⟩, rfl⟩
  obtain ⟨-, -, -, -, -, -, e0, e1, -⟩ := index_facts t
  refine ⟨t, flush0_7 t, ?_⟩
  have e : ((cfg0.win 7).blk t).view.emb (ix2 (⟨(i 0).val % 1024, by omega⟩ : Fin 1024) (⟨(i 1).val, h1⟩ : Fin 1024)) = i := by
    funext a
    match a with
    | ⟨0, _⟩ => exact Fin.ext (by show win0_7.index t (0 : Fin 2) * 1024 + 1 * ((i 0).val % 1024) = (i 0).val; rw [e0, ht]; omega)
    | ⟨1, _⟩ => exact Fin.ext (by show win0_7.index t (1 : Fin 2) * 1024 + 1 * (i 1).val = (i 1).val; rw [e1]; omega)
  rw [← e]
  exact View.emb_mem_set _ _

theorem flushed_h (c : Dev nD) (t : Fin cfg0.N) :
    (dats m 0 c).flushed 8 t = ((cfg0.win 8).blk t).view.read (Elt Ideal) (Gh m c) := by
  obtain ⟨-, -, -, -, -, -, -, -, e0, e1⟩ := index_facts t
  rw [Value.flushed8 m c t, out_h]
  funext y
  obtain ⟨p, j, rfl⟩ : ∃ (p : Fin 1024) (j : Fin 1024), y = ix2 p j := ⟨y 0, y 1, by funext a; fin_cases a <;> rfl⟩
  refine (point_h m c t p j).trans ?_
  show _ = Gh m c (((cfg0.win 8).blk t).view.emb (ix2 p j))
  have q : ((cfg0.win 8).blk t).view.emb (ix2 p j) = ix2 (at_ t p) j := by
    funext a
    match a with
    | ⟨0, _⟩ => exact Fin.ext (by show win0_8.index t (0 : Fin 2) * 1024 + 1 * p.val = _; rw [e0, one_mul]; rfl)
    | ⟨1, _⟩ => exact Fin.ext (by show win0_8.index t (1 : Fin 2) * 1024 + 1 * j.val = _; rw [e1, one_mul, Nat.zero_mul, Nat.zero_add]; rfl)
  rw [q]
  rfl

theorem covered_h (i : S8192x1024.Idx) : ∃ t : Fin cfg0.N, (cfg0.win 8).flush t = true ∧ i ∈ ((cfg0.win 8).blk t).view.set := by
  have h0 : (i 0).val < 8192 := (i 0).isLt
  have h1 : (i 1).val < 1024 := (i 1).isLt
  obtain ⟨t, ht⟩ : ∃ t : Fin cfg0.N, t.val = (i 0).val / 1024 := ⟨⟨(i 0).val / 1024, lt_of_lt_of_eq (by omega) N_0.symm⟩, rfl⟩
  obtain ⟨-, -, -, -, -, -, -, -, e0, e1⟩ := index_facts t
  refine ⟨t, flush0_8 t, ?_⟩
  have e : ((cfg0.win 8).blk t).view.emb (ix2 (⟨(i 0).val % 1024, by omega⟩ : Fin 1024) (⟨(i 1).val, h1⟩ : Fin 1024)) = i := by
    funext a
    match a with
    | ⟨0, _⟩ => exact Fin.ext (by show win0_8.index t (0 : Fin 2) * 1024 + 1 * ((i 0).val % 1024) = (i 0).val; rw [e0, ht]; omega)
    | ⟨1, _⟩ => exact Fin.ext (by show win0_8.index t (1 : Fin 2) * 1024 + 1 * (i 1).val = (i 1).val; rw [e1]; omega)
  rw [← e]
  exact View.emb_mem_set _ _

/-- The kernel's run: the two results, the arguments as launched. -/
theorem run : θ_run defs (onTc (τ := τ) (main (F := Ideal))) ⟨m, fun _ => 0, ρ⟩ fun r => ∀ c : Dev nD,
      r.2.mem ((c : Thread nD τ).loc main_v0_0) = Gz m c
      ∧ r.2.mem ((c : Thread nD τ).loc main_v0_1) = Gh m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨(h c).1.trans ((dats m 0 c).arrAt_eq_of_cover 7 _ (fun t _ => flushed_z m c t) covered_z),
      (h c).2.1.trans ((dats m 0 c).arrAt_eq_of_cover 8 _ (fun t _ => flushed_h m c t) covered_h),
      (h c).2.2⟩)
    (Value.run_blocks m ρ)

end Cert.Kernel9Ideal.DownLn

end
-- ==== Proof.DownLn.Equation.lean ====
/- The down-projection with the two norms around it: the reference's two results are the arrays the kernel's run leaves. -/
module

public import proofs.«01_k».proof.Proof.DownLn.Value
public import proofs.«01_k».proof.Proof.Gen.Reference9Ideal.Read

@[expose] public section

set_option maxRecDepth 16384

noncomputable section

namespace Cert.Kernel9Ideal.DownLn

open Cert.Kernel9Ideal Cert.Kernel9Ideal.Gen Idealize.ShloMosaic Idealize.ShloMosaic.TcCoe Idealize.SL.Sem
open Cert.Kernel3Ideal.Up (ctr vare rstd nrm)
open Cert.Reference9Ideal.Read

section stages

open Cert.Reference9Ideal (S8192x2816 S2816x1024 S8192x1024 S1x1024)

variable (x0 : (⟨S8192x2816, .bf16⟩ : BufTy).Contents (Elt Ideal)) (x1 : (⟨S2816x1024, .bf16⟩ : BufTy).Contents (Elt Ideal))
  (x2 : (⟨S8192x1024, .f32⟩ : BufTy).Contents (Elt Ideal)) (x3 x4 x5 x6 : (⟨S1x1024, .f32⟩ : BufTy).Contents (Elt Ideal))

/-- The norm of the residual, … -/
theorem ctr_in (r : Fin 8192) (j : Fin 1024) : val_main_v7 (F := Ideal) x2 (ix2 r j) = ctr (fun k => x2 (ix2 r k)) j := by
  unfold ctr
  unfold val_main_v7 val_main_v6 val_main_v5 val_main_v4 val_main_v3 val_main_v2
  pointwise [val_main_cst, val_main_cst_0]

theorem ctr_in' (r : Fin 8192) (j : Fin 1024) : val_main_v14 (F := Ideal) x2 (ix2 r j) = ctr (fun k => x2 (ix2 r k)) j := ctr_in x2 r j

theorem rstd_in (r : Fin 8192) (j : Fin 1) : val_main_v17 (F := Ideal) x2 (ix2 r j) = rstd (fun k => x2 (ix2 r k)) := by
  unfold rstd vare
  unfold val_main_v17 val_main_v16 val_main_v15 val_main_v12 val_main_v11 val_main_v10 val_main_v9 val_main_v8
  pointwise [val_main_cst_1, val_main_cst_2, val_main_cst_3]
  simp only [ctr_in]

theorem norm_in (r : Fin 8192) (j : Fin 1024) :
    val_main_v25 (F := Ideal) x2 x5 x6 (ix2 r j) = nrm (fun k => x2 (ix2 r k)) j * x5 (ix2 0 j) + x6 (ix2 0 j) := by
  unfold nrm
  unfold val_main_v25 val_main_v24 val_main_v23 val_main_v22 val_main_v21 val_main_v20 val_main_v19 val_main_v18 val_main_v1 val_main_v0
  pointwise
  rw [ctr_in', rstd_in]

/-- … the sum, … -/
theorem sum_eq (r : Fin 8192) (j : Fin 1024) :
    val_main_v31 (F := Ideal) x0 x1 x2 x5 x6 (ix2 r j)
      = Ideal.ofBits .f32 0x3FD744FD#32 * (nrm (fun k => x2 (ix2 r k)) j * x5 (ix2 0 j) + x6 (ix2 0 j)) + ∑ k : Fin 2816, x0 (ix2 r k) * x1 (ix2 k j) := by
  unfold val_main_v31 val_main_v30 val_main_v29 val_main_v28 val_main_v27 val_main_v26
  pointwise [val_main_cst_4]
  rw [norm_in]

/-- … and its norm. -/
theorem ctr_out (r : Fin 8192) (j : Fin 1024) :
    val_main_v39 (F := Ideal) x0 x1 x2 x5 x6 (ix2 r j) = ctr (fun k => val_main_v31 (F := Ideal) x0 x1 x2 x5 x6 (ix2 r k)) j := by
  unfold ctr
  unfold val_main_v39 val_main_v38 val_main_v37 val_main_v36 val_main_v35 val_main_v34
  pointwise [val_main_cst_5, val_main_cst_6]

theorem ctr_out' (r : Fin 8192) (j : Fin 1024) :
    val_main_v46 (F := Ideal) x0 x1 x2 x5 x6 (ix2 r j) = ctr (fun k => val_main_v31 (F := Ideal) x0 x1 x2 x5 x6 (ix2 r k)) j := ctr_out x0 x1 x2 x5 x6 r j

theorem rstd_out (r : Fin 8192) (j : Fin 1) :
    val_main_v49 (F := Ideal) x0 x1 x2 x5 x6 (ix2 r j) = rstd (fun k => val_main_v31 (F := Ideal) x0 x1 x2 x5 x6 (ix2 r k)) := by
  unfold rstd vare
  unfold val_main_v49 val_main_v48 val_main_v47 val_main_v44 val_main_v43 val_main_v42 val_main_v41 val_main_v40
  pointwise [val_main_cst_7, val_main_cst_8, val_main_cst_9]
  simp only [ctr_out]

theorem norm_out (r : Fin 8192) (j : Fin 1024) :
    (val_main_v58 (F := Ideal) x0 x1 x2 x3 x4 x5 x6 : FVec Ideal S8192x1024 .bf16) (ix2 r j)
      = nrm (fun k => val_main_v31 (F := Ideal) x0 x1 x2 x5 x6 (ix2 r k)) j * x3 (ix2 0 j) + x4 (ix2 0 j) := by
  unfold nrm
  unfold val_main_v58 val_main_v57 val_main_v56 val_main_v55 val_main_v54 val_main_v53 val_main_v52 val_main_v51 val_main_v50 val_main_v33 val_main_v32
  pointwise
  rw [ctr_out', rstd_out]

end stages

variable (m : (ℓ : Loc nD τ sig) → Buf (Elt Ideal) ℓ)

theorem reference_z (c : Dev nD) : val_main_v31 (F := Ideal) (fa m c) (fw m c) (fr m c) (fgr m c) (fbr m c) = Gz m c := by
  funext i
  obtain ⟨r, j, rfl⟩ : ∃ (r : Fin 8192) (j : Fin 1024), i = ix2 r j := ⟨i 0, i 1, by funext a; fin_cases a <;> rfl⟩
  exact sum_eq _ _ _ _ _ r j

theorem reference_h (c : Dev nD) : val_main_v58 (F := Ideal) (fa m c) (fw m c) (fr m c) (fg m c) (fb m c) (fgr m c) (fbr m c) = Gh m c := by
  funext i
  obtain ⟨r, j, rfl⟩ : ∃ (r : Fin 8192) (j : Fin 1024), i = ix2 r j := ⟨i 0, i 1, by funext a; fin_cases a <;> rfl⟩
  refine (norm_out _ _ _ _ _ _ _ r j).trans ?_
  simp only [sum_eq]
  rfl

end Cert.Kernel9Ideal.DownLn

end
-- ==== Proof.ScInDw.Cases.lean ====
/- The gradient of the gated convolution's input projection, `xᵀ·dh`, summed block by block along the tokens: what each case of the body
   leaves in the accumulator and in the output, as values. -/
module

public import proofs.«01_k».proof.Proof.Gen.Kernel10Ideal.Value
public import Idealize.ShloMosaic.Lib.Pipeline.Value
public import Idealize.ShloMosaic.Lib.Tactic
public import Idealize.ShloMosaic.Lib.Pointwise

@[expose] public section

set_option maxRecDepth 16384

noncomputable section

namespace Cert.Kernel10Ideal.ScInDw

open Cert.Kernel10Ideal Cert.Kernel10Ideal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

section cases

variable (c : Dev nD) (i : grid0.Coords)
  (a3 : Memref sig .tc .vmem S2048x1024 .bf16) (h3 : a3.IsWhole) (a4 : Memref sig .tc .vmem S2048x1536 .bf16) (h4 : a4.IsWhole)
  (a5 : Memref sig .tc .vmem S1024x1536 .bf16) (h5 : a5.IsWhole) (a6 : Memref sig .tc .vmem S1024x1536 .f32) (h6 : a6.IsWhole)
  (x0 : Vec F S2048x1024 .bf16) (x1 : Vec F S2048x1536 .bf16) (acc : Vec F S1024x1536 .f32)

/-- The first block of a sweep: the accumulator is cleared, then the block's product is added. -/
theorem acc_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1536) zero2, View.readCov_unit_zero (S := S1024x1536) _ zero2]
  simp only [View.readAt_eq_ld, h3.read_unread, h4.read_unread, View.ld_unit_zero (S := S2048x1024) zero2, View.ld_unit_zero (S := S2048x1536) zero2]

/-- A block in the middle of a sweep: its product is added to the accumulator. -/
theorem acc_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero zero2]
  simp only [View.readAt_eq_ld, h3.read_unread, h4.read_unread, h6.read_unread, View.ld_unit_zero (S := S2048x1024) zero2, View.ld_unit_zero (S := S2048x1536) zero2, View.ld_unit_zero (S := S1024x1536) zero2]

/-- The last block of a sweep: its product is added to the accumulator … -/
theorem acc_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero zero2]
  simp only [View.readAt_eq_ld, h3.read_unread, h4.read_unread, h6.read_unread, View.ld_unit_zero (S := S2048x1024) zero2, View.ld_unit_zero (S := S2048x1536) zero2, View.ld_unit_zero (S := S1024x1536) zero2]

/-- … and the sum is what the output takes. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero zero2, View.readCov_unit_zero (S := S1024x1536) _ zero2]
  simp only [View.readAt_eq_ld, h3.read_unread, h4.read_unread, h6.read_unread, View.ld_unit_zero (S := S2048x1024) zero2, View.ld_unit_zero (S := S2048x1536) zero2, View.ld_unit_zero (S := S1024x1536) zero2]

end cases

/-- One block's product at an index: the sum over the block's tokens. -/
theorem pay2_apply (acc : Vec Ideal S1024x1536 .f32) (x0 : Vec Ideal S2048x1024 .bf16) (x1 : Vec Ideal S2048x1536 .bf16) (y : S1024x1536.Idx) :
    k0_pay2 acc x0 x1 y = acc y + ∑ k : Fin 2048, x0 (ix2 k (y 0)) * x1 (ix2 k (y 1)) := by
  unfold k0_pay2
  pointwise

theorem pay1_apply (y : S1024x1536.Idx) : (k0_pay1 : FVec Ideal S1024x1536 .f32) y = 0 := by
  unfold k0_pay1
  pointwise

theorem pay3_apply (acc : Vec Ideal S1024x1536 .f32) (y : S1024x1536.Idx) : k0_pay3 acc y = acc y := by
  unfold k0_pay3
  pointwise

end Cert.Kernel10Ideal.ScInDw

end
-- ==== Proof.ScInDw.Value.lean ====
/- The gradient of the gated convolution's input projection, `xᵀ·dh`: the accumulator is the running sum over the tokens seen so far, so the
   array ends holding the whole sum, which is the reference's product. -/
module

public import proofs.«01_k».proof.Proof.ScInDw.Cases
public import proofs.«01_k».proof.Proof.Gen.Reference10Ideal.Read

@[expose] public section

set_option maxRecDepth 16384

noncomputable section

namespace Cert.Kernel10Ideal.ScInDw

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The two factors: `x`, one row per token, and `dh`, one row per token. -/
abbrev fa (c : Dev nD) : Vec Ideal S8192x1024 .bf16 := m ((c : Thread nD τ).loc main_arg0)
abbrev fz (c : Dev nD) : Vec Ideal S8192x3072 .bf16 := m ((c : Thread nD τ).loc main_arg1)

/-- The product at a row of the result and a column, over one token (nothing beyond the last token). -/
def term (c : Dev nD) (p q : ℕ) (k : ℕ) : EReal :=
  if h : k < 8192 ∧ p < 1024 ∧ q < 3072 then fa m c (ix2 ⟨k, h.1⟩ ⟨p, h.2.1⟩) * fz m c (ix2 ⟨k, h.1⟩ ⟨q, h.2.2⟩) else 0

/-- Where the blocks of point `t` lie. -/
theorem index_facts : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4
    ∧ win0_2.index t (0 : Fin 2) = 0 ∧ win0_2.index t (1 : Fin 2) = t.val / 4 :=
  (by decide +kernel : ∀ t : Fin grid0.N, _)

theorem block_a (c : Dev nD) (t : Fin cfg0.N) (k : Fin 2048) (p : Fin 1024) (h0 : t.val % 4 * 2048 + k.val < 8192) :
    (iblk m c 0 t : Vec Ideal S2048x1024 .bf16) (ix2 k p) = fa m c (ix2 ⟨t.val % 4 * 2048 + k.val, h0⟩ p) := by
  obtain ⟨e0, e1, -⟩ := index_facts t
  show fa m c (((cfg0.win 0).blk t).view.emb (ix2 k p)) = _
  congr 1
  funext a
  match a with
  | ⟨0, _⟩ => exact Fin.ext (by show win0_0.index t (0 : Fin 2) * 2048 + 1 * k.val = _; rw [e0, one_mul]; rfl)
  | ⟨1, _⟩ => exact Fin.ext (by show win0_0.index t (1 : Fin 2) * 1024 + 1 * p.val = _; rw [e1, one_mul, Nat.zero_mul, Nat.zero_add]; rfl)

theorem block_z (c : Dev nD) (t : Fin cfg0.N) (k : Fin 2048) (q : Fin 1536) (h0 : t.val % 4 * 2048 + k.val < 8192)
    (h1 : t.val / 4 * 1536 + q.val < 3072) :
    (iblk m c 1 t : Vec Ideal S2048x1536 .bf16) (ix2 k q) = fz m c (ix2 ⟨t.val % 4 * 2048 + k.val, h0⟩ ⟨t.val / 4 * 1536 + q.val, h1⟩) := by
  obtain ⟨-, -, e0, e1, -⟩ := index_facts t
  show fz m c (((cfg0.win 1).blk t).view.emb (ix2 k q)) = _
  congr 1
  funext a
  match a with
  | ⟨0, _⟩ => exact Fin.ext (by show win0_1.index t (0 : Fin 2) * 2048 + 1 * k.val = _; rw [e0, one_mul]; rfl)
  | ⟨1, _⟩ => exact Fin.ext (by show win0_1.index t (1 : Fin 2) * 1536 + 1 * q.val = _; rw [e1, one_mul]; rfl)

/-- One point's product, as the sum over the tokens of its block. -/
theorem point_sum (c : Dev nD) (t : Fin cfg0.N) (acc : Vec Ideal S1024x1536 .f32) (y : S1024x1536.Idx) :
    k0_pay2 acc (iblk m c 0 t) (iblk m c 1 t) y
      = acc y + ∑ k ∈ Finset.range 2048, term m c (y 0).val (t.val / 4 * 1536 + (y 1).val) (t.val % 4 * 2048 + k) := by
  have hN : t.val < 8 := lt_of_lt_of_eq t.isLt N_0
  have hy0 : (y 0).val < 1024 := (y 0).isLt
  have hy1 : (y 1).val < 1536 := (y 1).isLt
  rw [pay2_apply, Finset.sum_range]
  congr 1
  refine Finset.sum_congr rfl fun k _ => ?_
  have hk := k.isLt
  rw [block_a m c t k (y 0) (by omega), block_z m c t k (y 1) (by omega) (by omega)]
  unfold term
  rw [dif_pos ⟨by omega, hy0, by omega⟩]
  rfl

/-- After point `n` the accumulator is the sum over the tokens its sweep has seen. -/
theorem acc_eq (c : Dev nD) : ∀ (n : ℕ) (hn : n < cfg0.N) (y : S1024x1536.Idx),
    (outsAt0 m c n hn).2 y = ∑ k ∈ Finset.range ((n % 4 + 1) * 2048), term m c (y 0).val (n / 4 * 1536 + (y 1).val) k := by
  intro n
  induction n with
  | zero =>
    intro hn y
    have e := outsAt0_A m c ⟨0, hn⟩ (Nat.zero_mod 4) (by show ¬(0 % 4 = 3); omega)
    rw [show outsAt0 m c 0 hn = _ from e]
    dsimp only
    rw [acc_A, point_sum, pay1_apply, zero_add]
    simp only [Nat.zero_mod, Nat.zero_mul, Nat.zero_add, Nat.one_mul]
  | succ n ih =>
    intro hn y
    have hN : n + 1 < 8 := lt_of_lt_of_eq hn N_0
    by_cases h0 : (n + 1) % 4 = 0
    · have h1 : ¬(n + 1) % 4 = 3 := by omega
      have e := outsAt0_A m c ⟨n + 1, hn⟩ h0 h1
      rw [show outsAt0 m c (n + 1) hn = _ from e]
      dsimp only
      rw [acc_A, point_sum, pay1_apply, zero_add]
      simp only [h0, Nat.zero_mul, Nat.zero_add, Nat.one_mul]
    · have step : (outsAt0 m c (n + 1) hn).2 = k0_pay2 (outsAt0 m c n (Nat.lt_of_succ_lt hn)).2 (iblk m c 0 ⟨n + 1, hn⟩) (iblk m c 1 ⟨n + 1, hn⟩) := by
        by_cases h1 : (n + 1) % 4 = 3
        · have e := outsAt0_C m c ⟨n + 1, hn⟩ h0 h1
          rw [show outsAt0 m c (n + 1) hn = _ from e]
          dsimp only
          rw [acc_C]
          rfl
        · have e := outsAt0_B m c ⟨n + 1, hn⟩ h0 h1
          rw [show outsAt0 m c (n + 1) hn = _ from e]
          dsimp only
          rw [acc_B]
          rfl
      rw [step, point_sum, ih]
      dsimp only
      have d : (n + 1) / 4 = n / 4 := by omega
      have r : (n + 1) % 4 = n % 4 + 1 := by omega
      rw [d, r, show (n % 4 + 1 + 1) * 2048 = (n % 4 + 1) * 2048 + 2048 by omega, Finset.sum_range_add]

/-- The array the run leaves: the whole sum over the tokens. -/
def G (c : Dev nD) : Vec Ideal S1024x3072 .bf16 := fun i => ∑ k ∈ Finset.range 8192, term m c (i 0).val (i 1).val k

theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  have h0 : ¬t.val % 4 = 0 := by omega
  have hN : t.val < 8 := lt_of_lt_of_eq t.isLt N_0
  obtain ⟨-, -, -, -, e0, e1⟩ := index_facts t
  rw [Value.flushed2_C m c t h0 h3, out_C]
  funext y
  show (k0_pay3 (F := Ideal) _ : Vec Ideal S1024x1536 .bf16) y = G m c (((cfg0.win 2).blk t).view.emb y)
  rw [pay3_apply, point_sum, acc_eq]
  have q0 : (((cfg0.win 2).blk t).view.emb y 0).val = (y 0).val := by
    show win0_2.index t (0 : Fin 2) * 1024 + 1 * (y 0).val = _
    rw [e0, one_mul, Nat.zero_mul, Nat.zero_add]
  have q1 : (((cfg0.win 2).blk t).view.emb y 1).val = t.val / 4 * 1536 + (y 1).val := by
    show win0_2.index t (1 : Fin 2) * 1536 + 1 * (y 1).val = _
    rw [e1, one_mul]
  have d : (t.val - 1) / 4 = t.val / 4 := by omega
  have r : (t.val - 1) % 4 + 1 = 3 := by omega
  unfold G
  rw [q0, q1, d, r, h3]
  exact (Finset.sum_range_add _ 6144 2048).symm

theorem final_eq (c : Dev nD) : (dats m 0 c).arrAt 2 cfg0.N = G m c :=
  (dats m 0 c).arrAt_eq_of_cover 2 _ (fun t hf => flushed_eq m c t hf) (fun i => (Value.covered_iff2 i).2 (by
    have h0 : (i 0).val < 1024 := (i 0).isLt
    have h1 : (i 1).val < 3072 := (i 1).isLt
    omega))

/-- The kernel's run: the result is the sum over all tokens, the arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq m c), (h c).2⟩) (Value.run_blocks m ρ)

/-- The reference's product at an index: the same sum. -/
theorem reference_eq (c : Dev nD) :
    Cert.Reference10Ideal.Read.val_main_v6 (F := Ideal) (fa m c) (fz m c) = G m c := by
  funext i
  have h0 : (i 0).val < 1024 := (i 0).isLt
  have h1 : (i 1).val < 3072 := (i 1).isLt
  unfold G
  rw [Finset.sum_range]
  unfold Cert.Reference10Ideal.Read.val_main_v6 Cert.Reference10Ideal.Read.val_main_v5 Cert.Reference10Ideal.Read.val_main_v4 Cert.Reference10Ideal.Read.val_main_v1 Cert.Reference10Ideal.Read.val_main_v0
  pointwise
  refine Finset.sum_congr rfl fun k _ => ?_
  unfold term
  rw [dif_pos ⟨k.isLt, h0, h1⟩]
  exact mul_comm _ _

end Cert.Kernel10Ideal.ScInDw

end
-- ==== Proof.LruInDw.Cases.lean ====
/- The gradient of the recurrence's input projection, `dhᵀ·x`, summed block by block along the tokens: what each case of the body
   leaves in the accumulator and in the output, as values. -/
module

public import proofs.«01_k».proof.Proof.Gen.Kernel11Ideal.Value
public import Idealize.ShloMosaic.Lib.Pipeline.Value
public import Idealize.ShloMosaic.Lib.Tactic
public import Idealize.ShloMosaic.Lib.Pointwise

@[expose] public section

set_option maxRecDepth 16384

noncomputable section

namespace Cert.Kernel11Ideal.LruInDw

open Cert.Kernel11Ideal Cert.Kernel11Ideal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

section cases

variable (c : Dev nD) (i : grid0.Coords)
  (a3 : Memref sig .tc .vmem S2048x1280 .bf16) (h3 : a3.IsWhole) (a4 : Memref sig .tc .vmem S2048x1024 .bf16) (h4 : a4.IsWhole)
  (a5 : Memref sig .tc .vmem S1280x1024 .bf16) (h5 : a5.IsWhole) (a6 : Memref sig .tc .vmem S1280x1024 .f32) (h6 : a6.IsWhole)
  (x0 : Vec F S2048x1280 .bf16) (x1 : Vec F S2048x1024 .bf16) (acc : Vec F S1280x1024 .f32)

/-- The first block of a sweep: the accumulator is cleared, then the block's product is added. -/
theorem acc_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1280x1024) zero2, View.readCov_unit_zero (S := S1280x1024) _ zero2]
  simp only [View.readAt_eq_ld, h3.read_unread, h4.read_unread, View.ld_unit_zero (S := S2048x1280) zero2, View.ld_unit_zero (S := S2048x1024) zero2]

/-- A block in the middle of a sweep: its product is added to the accumulator. -/
theorem acc_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero zero2]
  simp only [View.readAt_eq_ld, h3.read_unread, h4.read_unread, h6.read_unread, View.ld_unit_zero (S := S2048x1280) zero2, View.ld_unit_zero (S := S2048x1024) zero2, View.ld_unit_zero (S := S1280x1024) zero2]

/-- The last block of a sweep: its product is added to the accumulator … -/
theorem acc_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero zero2]
  simp only [View.readAt_eq_ld, h3.read_unread, h4.read_unread, h6.read_unread, View.ld_unit_zero (S := S2048x1280) zero2, View.ld_unit_zero (S := S2048x1024) zero2, View.ld_unit_zero (S := S1280x1024) zero2]

/-- … and the sum is what the output takes. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero zero2, View.readCov_unit_zero (S := S1280x1024) _ zero2]
  simp only [View.readAt_eq_ld, h3.read_unread, h4.read_unread, h6.read_unread, View.ld_unit_zero (S := S2048x1280) zero2, View.ld_unit_zero (S := S2048x1024) zero2, View.ld_unit_zero (S := S1280x1024) zero2]

end cases

/-- One block's product at an index: the sum over the block's tokens. -/
theorem pay2_apply (acc : Vec Ideal S1280x1024 .f32) (x0 : Vec Ideal S2048x1280 .bf16) (x1 : Vec Ideal S2048x1024 .bf16) (y : S1280x1024.Idx) :
    k0_pay2 acc x0 x1 y = acc y + ∑ k : Fin 2048, x0 (ix2 k (y 0)) * x1 (ix2 k (y 1)) := by
  unfold k0_pay2
  pointwise

theorem pay1_apply (y : S1280x1024.Idx) : (k0_pay1 : FVec Ideal S1280x1024 .f32) y = 0 := by
  unfold k0_pay1
  pointwise

theorem pay3_apply (acc : Vec Ideal S1280x1024 .f32) (y : S1280x1024.Idx) : k0_pay3 acc y = acc y := by
  unfold k0_pay3
  pointwise

end Cert.Kernel11Ideal.LruInDw

end
-- ==== Proof.LruInDw.Value.lean ====
/- The gradient of the recurrence's input projection, `dhᵀ·x`: the accumulator is the running sum over the tokens seen so far, so the
   array ends holding the whole sum, which is the reference's product. -/
module

public import proofs.«01_k».proof.Proof.LruInDw.Cases
public import proofs.«01_k».proof.Proof.Gen.Reference11Ideal.Read

@[expose] public section

set_option maxRecDepth 16384

noncomputable section

namespace Cert.Kernel11Ideal.LruInDw

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The two factors: `dh`, one row per token, and `x`, one row per token. -/
abbrev fa (c : Dev nD) : Vec Ideal S8192x2560 .bf16 := m ((c : Thread nD τ).loc main_arg0)
abbrev fz (c : Dev nD) : Vec Ideal S8192x1024 .bf16 := m ((c : Thread nD τ).loc main_arg1)

/-- The product at a row of the result and a column, over one token (nothing beyond the last token). -/
def term (c : Dev nD) (p q : ℕ) (k : ℕ) : EReal :=
  if h : k < 8192 ∧ p < 2560 ∧ q < 1024 then fa m c (ix2 ⟨k, h.1⟩ ⟨p, h.2.1⟩) * fz m c (ix2 ⟨k, h.1⟩ ⟨q, h.2.2⟩) else 0

/-- Where the blocks of point `t` lie. -/
theorem index_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

theorem block_a (c : Dev nD) (t : Fin cfg0.N) (k : Fin 2048) (p : Fin 1280) (h0 : t.val % 4 * 2048 + k.val < 8192)
    (h1 : t.val / 4 * 1280 + p.val < 2560) :
    (iblk m c 0 t : Vec Ideal S2048x1280 .bf16) (ix2 k p) = fa m c (ix2 ⟨t.val % 4 * 2048 + k.val, h0⟩ ⟨t.val / 4 * 1280 + p.val, h1⟩) := by
  obtain ⟨e0, e1, -⟩ := index_facts t
  show fa m c (((cfg0.win 0).blk t).view.emb (ix2 k p)) = _
  congr 1
  funext a
  match a with
  | ⟨0, _⟩ => exact Fin.ext (by show win0_0.index t (0 : Fin 2) * 2048 + 1 * k.val = _; rw [e0, one_mul]; rfl)
  | ⟨1, _⟩ => exact Fin.ext (by show win0_0.index t (1 : Fin 2) * 1280 + 1 * p.val = _; rw [e1, one_mul]; rfl)

theorem block_z (c : Dev nD) (t : Fin cfg0.N) (k : Fin 2048) (q : Fin 1024) (h0 : t.val % 4 * 2048 + k.val < 8192) :
    (iblk m c 1 t : Vec Ideal S2048x1024 .bf16) (ix2 k q) = fz m c (ix2 ⟨t.val % 4 * 2048 + k.val, h0⟩ q) := by
  obtain ⟨-, -, e0, e1, -⟩ := index_facts t
  show fz m c (((cfg0.win 1).blk t).view.emb (ix2 k q)) = _
  congr 1
  funext a
  match a with
  | ⟨0, _⟩ => exact Fin.ext (by show win0_1.index t (0 : Fin 2) * 2048 + 1 * k.val = _; rw [e0, one_mul]; rfl)
  | ⟨1, _⟩ => exact Fin.ext (by show win0_1.index t (1 : Fin 2) * 1024 + 1 * q.val = _; rw [e1, one_mul, Nat.zero_mul, Nat.zero_add]; rfl)

/-- One point's product, as the sum over the tokens of its block. -/
theorem point_sum (c : Dev nD) (t : Fin cfg0.N) (acc : Vec Ideal S1280x1024 .f32) (y : S1280x1024.Idx) :
    k0_pay2 acc (iblk m c 0 t) (iblk m c 1 t) y
      = acc y + ∑ k ∈ Finset.range 2048, term m c (t.val / 4 * 1280 + (y 0).val) (y 1).val (t.val % 4 * 2048 + k) := by
  have hN : t.val < 8 := lt_of_lt_of_eq t.isLt N_0
  have hy0 : (y 0).val < 1280 := (y 0).isLt
  have hy1 : (y 1).val < 1024 := (y 1).isLt
  rw [pay2_apply, Finset.sum_range]
  congr 1
  refine Finset.sum_congr rfl fun k _ => ?_
  have hk := k.isLt
  rw [block_a m c t k (y 0) (by omega) (by omega), block_z m c t k (y 1) (by omega)]
  unfold term
  rw [dif_pos ⟨by omega, by omega, hy1⟩]
  rfl

/-- After point `n` the accumulator is the sum over the tokens its sweep has seen. -/
theorem acc_eq (c : Dev nD) : ∀ (n : ℕ) (hn : n < cfg0.N) (y : S1280x1024.Idx),
    (outsAt0 m c n hn).2 y = ∑ k ∈ Finset.range ((n % 4 + 1) * 2048), term m c (n / 4 * 1280 + (y 0).val) (y 1).val k := by
  intro n
  induction n with
  | zero =>
    intro hn y
    have e := outsAt0_A m c ⟨0, hn⟩ (Nat.zero_mod 4) (by show ¬(0 % 4 = 3); omega)
    rw [show outsAt0 m c 0 hn = _ from e]
    dsimp only
    rw [acc_A, point_sum, pay1_apply, zero_add]
    simp only [Nat.zero_mod, Nat.zero_mul, Nat.zero_add, Nat.one_mul]
  | succ n ih =>
    intro hn y
    have hN : n + 1 < 8 := lt_of_lt_of_eq hn N_0
    by_cases h0 : (n + 1) % 4 = 0
    · have h1 : ¬(n + 1) % 4 = 3 := by omega
      have e := outsAt0_A m c ⟨n + 1, hn⟩ h0 h1
      rw [show outsAt0 m c (n + 1) hn = _ from e]
      dsimp only
      rw [acc_A, point_sum, pay1_apply, zero_add]
      simp only [h0, Nat.zero_mul, Nat.zero_add, Nat.one_mul]
    · have step : (outsAt0 m c (n + 1) hn).2 = k0_pay2 (outsAt0 m c n (Nat.lt_of_succ_lt hn)).2 (iblk m c 0 ⟨n + 1, hn⟩) (iblk m c 1 ⟨n + 1, hn⟩) := by
        by_cases h1 : (n + 1) % 4 = 3
        · have e := outsAt0_C m c ⟨n + 1, hn⟩ h0 h1
          rw [show outsAt0 m c (n + 1) hn = _ from e]
          dsimp only
          rw [acc_C]
          rfl
        · have e := outsAt0_B m c ⟨n + 1, hn⟩ h0 h1
          rw [show outsAt0 m c (n + 1) hn = _ from e]
          dsimp only
          rw [acc_B]
          rfl
      rw [step, point_sum, ih]
      dsimp only
      have d : (n + 1) / 4 = n / 4 := by omega
      have r : (n + 1) % 4 = n % 4 + 1 := by omega
      rw [d, r, show (n % 4 + 1 + 1) * 2048 = (n % 4 + 1) * 2048 + 2048 by omega, Finset.sum_range_add]

/-- The array the run leaves: the whole sum over the tokens. -/
def G (c : Dev nD) : Vec Ideal S2560x1024 .bf16 := fun i => ∑ k ∈ Finset.range 8192, term m c (i 0).val (i 1).val k

theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  have h0 : ¬t.val % 4 = 0 := by omega
  have hN : t.val < 8 := lt_of_lt_of_eq t.isLt N_0
  obtain ⟨-, -, -, -, e0, e1⟩ := index_facts t
  rw [Value.flushed2_C m c t h0 h3, out_C]
  funext y
  show (k0_pay3 (F := Ideal) _ : Vec Ideal S1280x1024 .bf16) y = G m c (((cfg0.win 2).blk t).view.emb y)
  rw [pay3_apply, point_sum, acc_eq]
  have q0 : (((cfg0.win 2).blk t).view.emb y 0).val = t.val / 4 * 1280 + (y 0).val := by
    show win0_2.index t (0 : Fin 2) * 1280 + 1 * (y 0).val = _
    rw [e0, one_mul]
  have q1 : (((cfg0.win 2).blk t).view.emb y 1).val = (y 1).val := by
    show win0_2.index t (1 : Fin 2) * 1024 + 1 * (y 1).val = _
    rw [e1, one_mul, Nat.zero_mul, Nat.zero_add]
  have d : (t.val - 1) / 4 = t.val / 4 := by omega
  have r : (t.val - 1) % 4 + 1 = 3 := by omega
  unfold G
  rw [q0, q1, d, r, h3]
  exact (Finset.sum_range_add _ 6144 2048).symm

theorem final_eq (c : Dev nD) : (dats m 0 c).arrAt 2 cfg0.N = G m c :=
  (dats m 0 c).arrAt_eq_of_cover 2 _ (fun t hf => flushed_eq m c t hf) (fun i => (Value.covered_iff2 i).2 (by
    have h0 : (i 0).val < 2560 := (i 0).isLt
    have h1 : (i 1).val < 1024 := (i 1).isLt
    omega))

/-- The kernel's run: the result is the sum over all tokens, the arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq m c), (h c).2⟩) (Value.run_blocks m ρ)

/-- The reference's product at an index: the same sum. -/
theorem reference_eq (c : Dev nD) :
    Cert.Reference11Ideal.Read.val_main_v7 (F := Ideal) (fa m c) (fz m c) = G m c := by
  funext i
  have h0 : (i 0).val < 2560 := (i 0).isLt
  have h1 : (i 1).val < 1024 := (i 1).isLt
  unfold G
  rw [Finset.sum_range]
  unfold Cert.Reference11Ideal.Read.val_main_v7 Cert.Reference11Ideal.Read.val_main_v6 Cert.Reference11Ideal.Read.val_main_v5 Cert.Reference11Ideal.Read.val_main_v4 Cert.Reference11Ideal.Read.val_main_v1 Cert.Reference11Ideal.Read.val_main_v0
  pointwise
  refine Finset.sum_congr rfl fun k _ => ?_
  unfold term
  rw [dif_pos ⟨k.isLt, h0, h1⟩]
  rfl

end Cert.Kernel11Ideal.LruInDw

end
-- ==== Proof.LruOutDw.Cases.lean ====
/- The gradient of the recurrence's output projection, `qᵀ·dz`, summed block by block along the tokens: what each case of the body
   leaves in the accumulator and in the output, as values. -/
module

public import proofs.«01_k».proof.Proof.Gen.Kernel12Ideal.Value
public import Idealize.ShloMosaic.Lib.Pipeline.Value
public import Idealize.ShloMosaic.Lib.Tactic
public import Idealize.ShloMosaic.Lib.Pointwise

@[expose] public section

set_option maxRecDepth 16384

noncomputable section

namespace Cert.Kernel12Ideal.LruOutDw

open Cert.Kernel12Ideal Cert.Kernel12Ideal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

section cases

variable (c : Dev nD) (i : grid0.Coords)
  (a3 : Memref sig .tc .vmem S2048x1280 .bf16) (h3 : a3.IsWhole) (a4 : Memref sig .tc .vmem S2048x1024 .bf16) (h4 : a4.IsWhole)
  (a5 : Memref sig .tc .vmem S1280x1024 .bf16) (h5 : a5.IsWhole) (a6 : Memref sig .tc .vmem S1280x1024 .f32) (h6 : a6.IsWhole)
  (x0 : Vec F S2048x1280 .bf16) (x1 : Vec F S2048x1024 .bf16) (acc : Vec F S1280x1024 .f32)

/-- The first block of a sweep: the accumulator is cleared, then the block's product is added. -/
theorem acc_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1280x1024) zero2, View.readCov_unit_zero (S := S1280x1024) _ zero2]
  simp only [View.readAt_eq_ld, h3.read_unread, h4.read_unread, View.ld_unit_zero (S := S2048x1280) zero2, View.ld_unit_zero (S := S2048x1024) zero2]

/-- A block in the middle of a sweep: its product is added to the accumulator. -/
theorem acc_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero zero2]
  simp only [View.readAt_eq_ld, h3.read_unread, h4.read_unread, h6.read_unread, View.ld_unit_zero (S := S2048x1280) zero2, View.ld_unit_zero (S := S2048x1024) zero2, View.ld_unit_zero (S := S1280x1024) zero2]

/-- The last block of a sweep: its product is added to the accumulator … -/
theorem acc_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero zero2]
  simp only [View.readAt_eq_ld, h3.read_unread, h4.read_unread, h6.read_unread, View.ld_unit_zero (S := S2048x1280) zero2, View.ld_unit_zero (S := S2048x1024) zero2, View.ld_unit_zero (S := S1280x1024) zero2]

/-- … and the sum is what the output takes. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero zero2, View.readCov_unit_zero (S := S1280x1024) _ zero2]
  simp only [View.readAt_eq_ld, h3.read_unread, h4.read_unread, h6.read_unread, View.ld_unit_zero (S := S2048x1280) zero2, View.ld_unit_zero (S := S2048x1024) zero2, View.ld_unit_zero (S := S1280x1024) zero2]

end cases

/-- One block's product at an index: the sum over the block's tokens. -/
theorem pay2_apply (acc : Vec Ideal S1280x1024 .f32) (x0 : Vec Ideal S2048x1280 .bf16) (x1 : Vec Ideal S2048x1024 .bf16) (y : S1280x1024.Idx) :
    k0_pay2 acc x0 x1 y = acc y + ∑ k : Fin 2048, x0 (ix2 k (y 0)) * x1 (ix2 k (y 1)) := by
  unfold k0_pay2
  pointwise

theorem pay1_apply (y : S1280x1024.Idx) : (k0_pay1 : FVec Ideal S1280x1024 .f32) y = 0 := by
  unfold k0_pay1
  pointwise

theorem pay3_apply (acc : Vec Ideal S1280x1024 .f32) (y : S1280x1024.Idx) : k0_pay3 acc y = acc y := by
  unfold k0_pay3
  pointwise

end Cert.Kernel12Ideal.LruOutDw

end
-- ==== Proof.LruOutDw.Value.lean ====
/- The gradient of the recurrence's output projection, `qᵀ·dz`: the accumulator is the running sum over the tokens seen so far, so the
   array ends holding the whole sum, which is the reference's product. -/
module

public import proofs.«01_k».proof.Proof.LruOutDw.Cases
public import proofs.«01_k».proof.Proof.Gen.Reference12Ideal.Read

@[expose] public section

set_option maxRecDepth 16384

noncomputable section

namespace Cert.Kernel12Ideal.LruOutDw

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The two factors: `q`, one row per token, and `dz`, one row per token. -/
abbrev fa (c : Dev nD) : Vec Ideal S8192x1280 .bf16 := m ((c : Thread nD τ).loc main_arg0)
abbrev fz (c : Dev nD) : Vec Ideal S8192x1024 .bf16 := m ((c : Thread nD τ).loc main_arg1)

/-- The product at a row of the result and a column, over one token (nothing beyond the last token). -/
def term (c : Dev nD) (p q : ℕ) (k : ℕ) : EReal :=
  if h : k < 8192 ∧ p < 1280 ∧ q < 1024 then fa m c (ix2 ⟨k, h.1⟩ ⟨p, h.2.1⟩) * fz m c (ix2 ⟨k, h.1⟩ ⟨q, h.2.2⟩) else 0

/-- Where the blocks of point `t` lie. -/
theorem index_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

theorem block_a (c : Dev nD) (t : Fin cfg0.N) (k : Fin 2048) (p : Fin 1280) (h0 : t.val % 4 * 2048 + k.val < 8192)
    (h1 : t.val / 4 * 1280 + p.val < 1280) :
    (iblk m c 0 t : Vec Ideal S2048x1280 .bf16) (ix2 k p) = fa m c (ix2 ⟨t.val % 4 * 2048 + k.val, h0⟩ ⟨t.val / 4 * 1280 + p.val, h1⟩) := by
  obtain ⟨e0, e1, -⟩ := index_facts t
  show fa m c (((cfg0.win 0).blk t).view.emb (ix2 k p)) = _
  congr 1
  funext a
  match a with
  | ⟨0, _⟩ => exact Fin.ext (by show win0_0.index t (0 : Fin 2) * 2048 + 1 * k.val = _; rw [e0, one_mul]; rfl)
  | ⟨1, _⟩ => exact Fin.ext (by show win0_0.index t (1 : Fin 2) * 1280 + 1 * p.val = _; rw [e1, one_mul]; rfl)

theorem block_z (c : Dev nD) (t : Fin cfg0.N) (k : Fin 2048) (q : Fin 1024) (h0 : t.val % 4 * 2048 + k.val < 8192) :
    (iblk m c 1 t : Vec Ideal S2048x1024 .bf16) (ix2 k q) = fz m c (ix2 ⟨t.val % 4 * 2048 + k.val, h0⟩ q) := by
  obtain ⟨-, -, e0, e1, -⟩ := index_facts t
  show fz m c (((cfg0.win 1).blk t).view.emb (ix2 k q)) = _
  congr 1
  funext a
  match a with
  | ⟨0, _⟩ => exact Fin.ext (by show win0_1.index t (0 : Fin 2) * 2048 + 1 * k.val = _; rw [e0, one_mul]; rfl)
  | ⟨1, _⟩ => exact Fin.ext (by show win0_1.index t (1 : Fin 2) * 1024 + 1 * q.val = _; rw [e1, one_mul, Nat.zero_mul, Nat.zero_add]; rfl)

/-- One point's product, as the sum over the tokens of its block. -/
theorem point_sum (c : Dev nD) (t : Fin cfg0.N) (acc : Vec Ideal S1280x1024 .f32) (y : S1280x1024.Idx) :
    k0_pay2 acc (iblk m c 0 t) (iblk m c 1 t) y
      = acc y + ∑ k ∈ Finset.range 2048, term m c (t.val / 4 * 1280 + (y 0).val) (y 1).val (t.val % 4 * 2048 + k) := by
  have hN : t.val < 4 := lt_of_lt_of_eq t.isLt N_0
  have hy0 : (y 0).val < 1280 := (y 0).isLt
  have hy1 : (y 1).val < 1024 := (y 1).isLt
  rw [pay2_apply, Finset.sum_range]
  congr 1
  refine Finset.sum_congr rfl fun k _ => ?_
  have hk := k.isLt
  rw [block_a m c t k (y 0) (by omega) (by omega), block_z m c t k (y 1) (by omega)]
  unfold term
  rw [dif_pos ⟨by omega, by omega, hy1⟩]
  rfl

/-- After point `n` the accumulator is the sum over the tokens its sweep has seen. -/
theorem acc_eq (c : Dev nD) : ∀ (n : ℕ) (hn : n < cfg0.N) (y : S1280x1024.Idx),
    (outsAt0 m c n hn).2 y = ∑ k ∈ Finset.range ((n % 4 + 1) * 2048), term m c (n / 4 * 1280 + (y 0).val) (y 1).val k := by
  intro n
  induction n with
  | zero =>
    intro hn y
    have e := outsAt0_A m c ⟨0, hn⟩ (Nat.zero_mod 4) (by show ¬(0 % 4 = 3); omega)
    rw [show outsAt0 m c 0 hn = _ from e]
    dsimp only
    rw [acc_A, point_sum, pay1_apply, zero_add]
    simp only [Nat.zero_mod, Nat.zero_mul, Nat.zero_add, Nat.one_mul]
  | succ n ih =>
    intro hn y
    have hN : n + 1 < 4 := lt_of_lt_of_eq hn N_0
    by_cases h0 : (n + 1) % 4 = 0
    · have h1 : ¬(n + 1) % 4 = 3 := by omega
      have e := outsAt0_A m c ⟨n + 1, hn⟩ h0 h1
      rw [show outsAt0 m c (n + 1) hn = _ from e]
      dsimp only
      rw [acc_A, point_sum, pay1_apply, zero_add]
      simp only [h0, Nat.zero_mul, Nat.zero_add, Nat.one_mul]
    · have step : (outsAt0 m c (n + 1) hn).2 = k0_pay2 (outsAt0 m c n (Nat.lt_of_succ_lt hn)).2 (iblk m c 0 ⟨n + 1, hn⟩) (iblk m c 1 ⟨n + 1, hn⟩) := by
        by_cases h1 : (n + 1) % 4 = 3
        · have e := outsAt0_C m c ⟨n + 1, hn⟩ h0 h1
          rw [show outsAt0 m c (n + 1) hn = _ from e]
          dsimp only
          rw [acc_C]
          rfl
        · have e := outsAt0_B m c ⟨n + 1, hn⟩ h0 h1
          rw [show outsAt0 m c (n + 1) hn = _ from e]
          dsimp only
          rw [acc_B]
          rfl
      rw [step, point_sum, ih]
      dsimp only
      have d : (n + 1) / 4 = n / 4 := by omega
      have r : (n + 1) % 4 = n % 4 + 1 := by omega
      rw [d, r, show (n % 4 + 1 + 1) * 2048 = (n % 4 + 1) * 2048 + 2048 by omega, Finset.sum_range_add]

/-- The array the run leaves: the whole sum over the tokens. -/
def G (c : Dev nD) : Vec Ideal S1280x1024 .bf16 := fun i => ∑ k ∈ Finset.range 8192, term m c (i 0).val (i 1).val k

theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  have h0 : ¬t.val % 4 = 0 := by omega
  have hN : t.val < 4 := lt_of_lt_of_eq t.isLt N_0
  obtain ⟨-, -, -, -, e0, e1⟩ := index_facts t
  rw [Value.flushed2_C m c t h0 h3, out_C]
  funext y
  show (k0_pay3 (F := Ideal) _ : Vec Ideal S1280x1024 .bf16) y = G m c (((cfg0.win 2).blk t).view.emb y)
  rw [pay3_apply, point_sum, acc_eq]
  have q0 : (((cfg0.win 2).blk t).view.emb y 0).val = t.val / 4 * 1280 + (y 0).val := by
    show win0_2.index t (0 : Fin 2) * 1280 + 1 * (y 0).val = _
    rw [e0, one_mul]
  have q1 : (((cfg0.win 2).blk t).view.emb y 1).val = (y 1).val := by
    show win0_2.index t (1 : Fin 2) * 1024 + 1 * (y 1).val = _
    rw [e1, one_mul, Nat.zero_mul, Nat.zero_add]
  have d : (t.val - 1) / 4 = t.val / 4 := by omega
  have r : (t.val - 1) % 4 + 1 = 3 := by omega
  unfold G
  rw [q0, q1, d, r, h3]
  exact (Finset.sum_range_add _ 6144 2048).symm

theorem final_eq (c : Dev nD) : (dats m 0 c).arrAt 2 cfg0.N = G m c :=
  (dats m 0 c).arrAt_eq_of_cover 2 _ (fun t hf => flushed_eq m c t hf) (fun i => (Value.covered_iff2 i).2 (by
    have h0 : (i 0).val < 1280 := (i 0).isLt
    have h1 : (i 1).val < 1024 := (i 1).isLt
    omega))

/-- The kernel's run: the result is the sum over all tokens, the arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq m c), (h c).2⟩) (Value.run_blocks m ρ)

/-- The reference's product at an index: the same sum. -/
theorem reference_eq (c : Dev nD) :
    Cert.Reference12Ideal.Read.val_main_v6 (F := Ideal) (fa m c) (fz m c) = G m c := by
  funext i
  have h0 : (i 0).val < 1280 := (i 0).isLt
  have h1 : (i 1).val < 1024 := (i 1).isLt
  unfold G
  rw [Finset.sum_range]
  unfold Cert.Reference12Ideal.Read.val_main_v6 Cert.Reference12Ideal.Read.val_main_v5 Cert.Reference12Ideal.Read.val_main_v4 Cert.Reference12Ideal.Read.val_main_v1 Cert.Reference12Ideal.Read.val_main_v0
  pointwise
  refine Finset.sum_congr rfl fun k _ => ?_
  unfold term
  rw [dif_pos ⟨k.isLt, h0, h1⟩]
  exact mul_comm _ _

end Cert.Kernel12Ideal.LruOutDw

end
-- ==== Proof.ScOutDw.Cases.lean ====
/- The gradient of the gated convolution's output projection, `qᵀ·dz`, summed block by block along the tokens: what each case of the body
   leaves in the accumulator and in the output, as values. -/
module

public import proofs.«01_k».proof.Proof.Gen.Kernel13Ideal.Value
public import Idealize.ShloMosaic.Lib.Pipeline.Value
public import Idealize.ShloMosaic.Lib.Tactic
public import Idealize.ShloMosaic.Lib.Pointwise

@[expose] public section

set_option maxRecDepth 16384

noncomputable section

namespace Cert.Kernel13Ideal.ScOutDw

open Cert.Kernel13Ideal Cert.Kernel13Ideal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

section cases

variable (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x0 : Vec F S2048x1024 .bf16) (x1 : Vec F S2048x1024 .bf16) (acc : Vec F S1024x1024 .f32)

/-- The first block of a sweep: the accumulator is cleared, then the block's product is added. -/
theorem acc_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S2048x1024) zero2, View.ld_unit_zero (S := S2048x1024) zero2]

/-- A block in the middle of a sweep: its product is added to the accumulator. -/
theorem acc_B (hc0 : ¬cond0_0 i) (hc1 : ¬cond0_1 i) :
    sout0_B_0 c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero zero2]
  simp only [View.readAt_eq_ld, h3.read_unread, h4.read_unread, h6.read_unread, View.ld_unit_zero (S := S2048x1024) zero2, View.ld_unit_zero (S := S2048x1024) zero2, View.ld_unit_zero (S := S1024x1024) zero2]

/-- The last block of a sweep: its product is added to the accumulator … -/
theorem acc_C (hc0 : ¬cond0_0 i) (hc1 : cond0_1 i) :
    sout0_C_0 c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero zero2]
  simp only [View.readAt_eq_ld, h3.read_unread, h4.read_unread, h6.read_unread, View.ld_unit_zero (S := S2048x1024) zero2, View.ld_unit_zero (S := S2048x1024) zero2, View.ld_unit_zero (S := S1024x1024) zero2]

/-- … and the sum is what the output takes. -/
theorem out_C (hc0 : ¬cond0_0 i) (hc1 : cond0_1 i) :
    out0_C_2 c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero zero2, View.readCov_unit_zero (S := S1024x1024) _ zero2]
  simp only [View.readAt_eq_ld, h3.read_unread, h4.read_unread, h6.read_unread, View.ld_unit_zero (S := S2048x1024) zero2, View.ld_unit_zero (S := S2048x1024) zero2, View.ld_unit_zero (S := S1024x1024) zero2]

end cases

/-- One block's product at an index: the sum over the block's tokens. -/
theorem pay2_apply (acc : Vec Ideal S1024x1024 .f32) (x0 : Vec Ideal S2048x1024 .bf16) (x1 : Vec Ideal S2048x1024 .bf16) (y : S1024x1024.Idx) :
    k0_pay2 acc x0 x1 y = acc y + ∑ k : Fin 2048, x0 (ix2 k (y 0)) * x1 (ix2 k (y 1)) := by
  unfold k0_pay2
  pointwise

theorem pay1_apply (y : S1024x1024.Idx) : (k0_pay1 : FVec Ideal S1024x1024 .f32) y = 0 := by
  unfold k0_pay1
  pointwise

theorem pay3_apply (acc : Vec Ideal S1024x1024 .f32) (y : S1024x1024.Idx) : k0_pay3 acc y = acc y := by
  unfold k0_pay3
  pointwise

end Cert.Kernel13Ideal.ScOutDw

end
-- ==== Proof.ScOutDw.Value.lean ====
/- The gradient of the gated convolution's output projection, `qᵀ·dz`: the accumulator is the running sum over the tokens seen so far, so the
   array ends holding the whole sum, which is the reference's product. -/
module

public import proofs.«01_k».proof.Proof.ScOutDw.Cases
public import proofs.«01_k».proof.Proof.Gen.Reference13Ideal.Read

@[expose] public section

set_option maxRecDepth 16384

noncomputable section

namespace Cert.Kernel13Ideal.ScOutDw

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The two factors: `q`, one row per token, and `dz`, one row per token. -/
abbrev fa (c : Dev nD) : Vec Ideal S8192x1024 .bf16 := m ((c : Thread nD τ).loc main_arg0)
abbrev fz (c : Dev nD) : Vec Ideal S8192x1024 .bf16 := m ((c : Thread nD τ).loc main_arg1)

/-- The product at a row of the result and a column, over one token (nothing beyond the last token). -/
def term (c : Dev nD) (p q : ℕ) (k : ℕ) : EReal :=
  if h : k < 8192 ∧ p < 1024 ∧ q < 1024 then fa m c (ix2 ⟨k, h.1⟩ ⟨p, h.2.1⟩) * fz m c (ix2 ⟨k, h.1⟩ ⟨q, h.2.2⟩) else 0

/-- Where the blocks of point `t` lie. -/
theorem index_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

theorem block_a (c : Dev nD) (t : Fin cfg0.N) (k : Fin 2048) (p : Fin 1024) (h0 : t.val % 4 * 2048 + k.val < 8192)
    (h1 : t.val / 4 * 1024 + p.val < 1024) :
    (iblk m c 0 t : Vec Ideal S2048x1024 .bf16) (ix2 k p) = fa m c (ix2 ⟨t.val % 4 * 2048 + k.val, h0⟩ ⟨t.val / 4 * 1024 + p.val, h1⟩) := by
  obtain ⟨e0, e1, -⟩ := index_facts t
  show fa m c (((cfg0.win 0).blk t).view.emb (ix2 k p)) = _
  congr 1
  funext a
  match a with
  | ⟨0, _⟩ => exact Fin.ext (by show win0_0.index t (0 : Fin 2) * 2048 + 1 * k.val = _; rw [e0, one_mul]; rfl)
  | ⟨1, _⟩ => exact Fin.ext (by show win0_0.index t (1 : Fin 2) * 1024 + 1 * p.val = _; rw [e1, one_mul]; rfl)

theorem block_z (c : Dev nD) (t : Fin cfg0.N) (k : Fin 2048) (q : Fin 1024) (h0 : t.val % 4 * 2048 + k.val < 8192) :
    (iblk m c 1 t : Vec Ideal S2048x1024 .bf16) (ix2 k q) = fz m c (ix2 ⟨t.val % 4 * 2048 + k.val, h0⟩ q) := by
  obtain ⟨-, -, e0, e1, -⟩ := index_facts t
  show fz m c (((cfg0.win 1).blk t).view.emb (ix2 k q)) = _
  congr 1
  funext a
  match a with
  | ⟨0, _⟩ => exact Fin.ext (by show win0_1.index t (0 : Fin 2) * 2048 + 1 * k.val = _; rw [e0, one_mul]; rfl)
  | ⟨1, _⟩ => exact Fin.ext (by show win0_1.index t (1 : Fin 2) * 1024 + 1 * q.val = _; rw [e1, one_mul, Nat.zero_mul, Nat.zero_add]; rfl)

/-- One point's product, as the sum over the tokens of its block. -/
theorem point_sum (c : Dev nD) (t : Fin cfg0.N) (acc : Vec Ideal S1024x1024 .f32) (y : S1024x1024.Idx) :
    k0_pay2 acc (iblk m c 0 t) (iblk m c 1 t) y
      = acc y + ∑ k ∈ Finset.range 2048, term m c (t.val / 4 * 1024 + (y 0).val) (y 1).val (t.val % 4 * 2048 + k) := by
  have hN : t.val < 4 := lt_of_lt_of_eq t.isLt N_0
  have hy0 : (y 0).val < 1024 := (y 0).isLt
  have hy1 : (y 1).val < 1024 := (y 1).isLt
  rw [pay2_apply, Finset.sum_range]
  congr 1
  refine Finset.sum_congr rfl fun k _ => ?_
  have hk := k.isLt
  rw [block_a m c t k (y 0) (by omega) (by omega), block_z m c t k (y 1) (by omega)]
  unfold term
  rw [dif_pos ⟨by omega, by omega, hy1⟩]
  rfl

/-- After point `n` the accumulator is the sum over the tokens its sweep has seen. -/
theorem acc_eq (c : Dev nD) : ∀ (n : ℕ) (hn : n < cfg0.N) (y : S1024x1024.Idx),
    (outsAt0 m c n hn).2 y = ∑ k ∈ Finset.range ((n % 4 + 1) * 2048), term m c (n / 4 * 1024 + (y 0).val) (y 1).val k := by
  intro n
  induction n with
  | zero =>
    intro hn y
    have e := outsAt0_A m c ⟨0, hn⟩ (Nat.zero_mod 4) (by show ¬(0 % 4 = 3); omega)
    rw [show outsAt0 m c 0 hn = _ from e]
    dsimp only
    rw [acc_A, point_sum, pay1_apply, zero_add]
    simp only [Nat.zero_mod, Nat.zero_mul, Nat.zero_add, Nat.one_mul]
  | succ n ih =>
    intro hn y
    have hN : n + 1 < 4 := lt_of_lt_of_eq hn N_0
    by_cases h0 : (n + 1) % 4 = 0
    · have h1 : ¬(n + 1) % 4 = 3 := by omega
      have e := outsAt0_A m c ⟨n + 1, hn⟩ h0 h1
      rw [show outsAt0 m c (n + 1) hn = _ from e]
      dsimp only
      rw [acc_A, point_sum, pay1_apply, zero_add]
      simp only [h0, Nat.zero_mul, Nat.zero_add, Nat.one_mul]
    · have step : (outsAt0 m c (n + 1) hn).2 = k0_pay2 (outsAt0 m c n (Nat.lt_of_succ_lt hn)).2 (iblk m c 0 ⟨n + 1, hn⟩) (iblk m c 1 ⟨n + 1, hn⟩) := by
        by_cases h1 : (n + 1) % 4 = 3
        · have e := outsAt0_C m c ⟨n + 1, hn⟩ h0 h1
          rw [show outsAt0 m c (n + 1) hn = _ from e]
          dsimp only
          rw [acc_C]
          rfl
        · have e := outsAt0_B m c ⟨n + 1, hn⟩ h0 h1
          rw [show outsAt0 m c (n + 1) hn = _ from e]
          dsimp only
          rw [acc_B]
          rfl
      rw [step, point_sum, ih]
      dsimp only
      have d : (n + 1) / 4 = n / 4 := by omega
      have r : (n + 1) % 4 = n % 4 + 1 := by omega
      rw [d, r, show (n % 4 + 1 + 1) * 2048 = (n % 4 + 1) * 2048 + 2048 by omega, Finset.sum_range_add]

/-- The array the run leaves: the whole sum over the tokens. -/
def G (c : Dev nD) : Vec Ideal S1024x1024 .bf16 := fun i => ∑ k ∈ Finset.range 8192, term m c (i 0).val (i 1).val k

theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  have h0 : ¬t.val % 4 = 0 := by omega
  have hN : t.val < 4 := lt_of_lt_of_eq t.isLt N_0
  obtain ⟨-, -, -, -, e0, e1⟩ := index_facts t
  rw [Value.flushed2_C m c t h0 h3, out_C]
  funext y
  show (k0_pay3 (F := Ideal) _ : Vec Ideal S1024x1024 .bf16) y = G m c (((cfg0.win 2).blk t).view.emb y)
  rw [pay3_apply, point_sum, acc_eq]
  have q0 : (((cfg0.win 2).blk t).view.emb y 0).val = t.val / 4 * 1024 + (y 0).val := by
    show win0_2.index t (0 : Fin 2) * 1024 + 1 * (y 0).val = _
    rw [e0, one_mul]
  have q1 : (((cfg0.win 2).blk t).view.emb y 1).val = (y 1).val := by
    show win0_2.index t (1 : Fin 2) * 1024 + 1 * (y 1).val = _
    rw [e1, one_mul, Nat.zero_mul, Nat.zero_add]
  have d : (t.val - 1) / 4 = t.val / 4 := by omega
  have r : (t.val - 1) % 4 + 1 = 3 := by omega
  unfold G
  rw [q0, q1, d, r, h3]
  exact (Finset.sum_range_add _ 6144 2048).symm

theorem final_eq (c : Dev nD) : (dats m 0 c).arrAt 2 cfg0.N = G m c :=
  (dats m 0 c).arrAt_eq_of_cover 2 _ (fun t hf => flushed_eq m c t hf) (fun i => (Value.covered_iff2 i).2 (by
    have h0 : (i 0).val < 1024 := (i 0).isLt
    have h1 : (i 1).val < 1024 := (i 1).isLt
    omega))

/-- The kernel's run: the result is the sum over all tokens, the arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq m c), (h c).2⟩) (Value.run_blocks m ρ)

/-- The reference's product at an index: the same sum. -/
theorem reference_eq (c : Dev nD) :
    Cert.Reference13Ideal.Read.val_main_v6 (F := Ideal) (fa m c) (fz m c) = G m c := by
  funext i
  have h0 : (i 0).val < 1024 := (i 0).isLt
  have h1 : (i 1).val < 1024 := (i 1).isLt
  unfold G
  rw [Finset.sum_range]
  unfold Cert.Reference13Ideal.Read.val_main_v6 Cert.Reference13Ideal.Read.val_main_v5 Cert.Reference13Ideal.Read.val_main_v4 Cert.Reference13Ideal.Read.val_main_v1 Cert.Reference13Ideal.Read.val_main_v0
  pointwise
  refine Finset.sum_congr rfl fun k _ => ?_
  unfold term
  rw [dif_pos ⟨k.isLt, h0, h1⟩]
  exact mul_comm _ _

end Cert.Kernel13Ideal.ScOutDw

end
-- ==== Proof.LruOutDx.Value.lean ====
/- The gradient of a product by its left factor, `dz·w_outᵀ`, for the recurrent mixer, block by block: the array the run leaves, and
   the reference's value of the same sums. -/
module

public import proofs.«01_k».proof.Proof.Gen.Kernel14Ideal.Value
public import proofs.«01_k».proof.Proof.Gen.Reference14Ideal.Read
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

namespace Cert.Kernel14Ideal.LruOutDx

open Cert.Kernel14Ideal Cert.Kernel14Ideal.Gen Idealize.ShloMosaic Idealize.ShloMosaic.TcCoe Idealize.SL.Sem
open Idealize.ShloMosaic.Pipeline (Dat)

theorem zero2 : (![0, 0] : Fin 2 → Nat) = fun _ => 0 := funext fun a => by fin_cases a <;> rfl

/-- The part of the weight this point's columns come from. -/
def part (i : grid0.Coords) (x1 : Vec Ideal S1280x1024 .bf16) : Vec Ideal S1280x1024 .bf16 :=
  View.ld x1 (Rect.unit (s := S1280x1024) (k0_off1 i) S1280x1024.size (k0_off1_inb i))

/-- The block a point stores, entry by entry. -/
theorem pay_apply (x0 : Vec Ideal S1024x1024 .bf16) (v : Vec Ideal S1280x1024 .bf16) (p : Fin 1024) (j : Fin 1280) :
    k0_pay1 (F := Ideal) x0 v (ix2 p j) = (∑ k : Fin 1024, x0 (ix2 p k) * v (ix2 j k)) := by
  unfold k0_pay1
  pointwise

/-- What the body leaves in the output's buffer. -/
theorem out_eq (c : Dev nD) (i : grid0.Coords) (a2 : Memref sig .tc .vmem S1024x1024 .bf16) (h2 : a2.IsWhole) (a3 : Memref sig .tc .vmem S1280x1024 .bf16) (h3 : a3.IsWhole)
  (a4 : Memref sig .tc .vmem S1024x1280 .f32) (h4 : a4.IsWhole)
  (x0 : Vec Ideal S1024x1024 .bf16) (x1 : Vec Ideal S1280x1024 .bf16) :
    out0_A_2 c i a2 h2 a3 h3 a4 h4 x0 x1 = k0_pay1 x0 (part i x1) := by
  unfold out0_A_2
  rw [View.read_writes_eq_canon _ _ _ (cover0_A_2 c i a2 h2 a3 h3 a4 h4 x0 x1)]
  unfold kernelRun0_A
  dsimp only
  sl_unfold_words
  rw [View.canon_unit_zero zero2]
  simp only [View.readAt_eq_ld, h2.read_unread, h3.read_unread, View.ld_unit_zero (S := S1024x1024) zero2]
  rfl

variable (m : (ℓ : Loc nD τ sig) → Buf (Elt Ideal) ℓ) (ρ : Dev nD → PrngReg)

/-- The arguments. -/
abbrev fx (c : Dev nD) : Vec Ideal S8192x1024 .bf16 := m ((c : Thread nD τ).loc main_arg0)
abbrev fw (c : Dev nD) : Vec Ideal S1280x1024 .bf16 := m ((c : Thread nD τ).loc main_arg1)

/-- Where the blocks of point `t` lie. -/
theorem index_facts : ∀ t : Fin cfg0.N, win0_0.index t (0 : Fin 2) = t.val / 1 ∧ win0_0.index t (1 : Fin 2) = 0
    ∧ win0_1.index t (0 : Fin 2) = 0 ∧ win0_1.index t (1 : Fin 2) = 0
    ∧ k0_off1 (grid0.coords t) (0 : Fin 2) = t.val % 1 * 1280 ∧ k0_off1 (grid0.coords t) (1 : Fin 2) = 0
    ∧ win0_2.index t (0 : Fin 2) = t.val / 1 ∧ win0_2.index t (1 : Fin 2) = t.val % 1 :=
  (by decide +kernel : ∀ t : Fin grid0.N, _)

/-- The row and the column of the arrays that row `p` and column `j` of a block are. -/
def row (t : Fin cfg0.N) (p : Fin 1024) : Fin 8192 := ⟨t.val / 1 * 1024 + p.val, by have h : t.val < 8 := lt_of_lt_of_eq t.isLt N_0; have := p.isLt; omega⟩
def col (t : Fin cfg0.N) (j : Fin 1280) : Fin 1280 := ⟨t.val % 1 * 1280 + j.val, by have := j.isLt; omega⟩

theorem block_x (c : Dev nD) (t : Fin cfg0.N) (p : Fin 1024) (k : Fin 1024) :
    (iblk m c 0 t : Vec Ideal S1024x1024 .bf16) (ix2 p k) = fx m c (ix2 (row t p) k) := by
  obtain ⟨e0, e1, -⟩ := index_facts t
  show fx m c (((cfg0.win 0).blk t).view.emb (ix2 p k)) = _
  congr 1
  funext a
  match a with
  | ⟨0, _⟩ => exact Fin.ext (by show win0_0.index t (0 : Fin 2) * 1024 + 1 * p.val = t.val / 1 * 1024 + p.val; rw [e0]; omega)
  | ⟨1, _⟩ => exact Fin.ext (by show win0_0.index t (1 : Fin 2) * 1024 + 1 * k.val = k.val; rw [e1]; omega)

theorem block_w (c : Dev nD) (t : Fin cfg0.N) (o : Fin 1280) (k : Fin 1024) :
    (iblk m c 1 t : Vec Ideal S1280x1024 .bf16) (ix2 o k) = fw m c (ix2 o k) := by
  obtain ⟨-, -, e0, e1, -⟩ := index_facts t
  show fw m c (((cfg0.win 1).blk t).view.emb (ix2 o k)) = _
  congr 1
  funext a
  match a with
  | ⟨0, _⟩ => exact Fin.ext (by show win0_1.index t (0 : Fin 2) * 1280 + 1 * o.val = o.val; rw [e0]; omega)
  | ⟨1, _⟩ => exact Fin.ext (by show win0_1.index t (1 : Fin 2) * 1024 + 1 * k.val = k.val; rw [e1]; omega)

theorem part_apply (c : Dev nD) (t : Fin cfg0.N) (j : Fin 1280) (k : Fin 1024) :
    part (grid0.coords t) (iblk m c 1 t) (ix2 j k) = fw m c (ix2 (col t j) k) := by
  obtain ⟨-, -, -, -, e0, e1, -⟩ := index_facts t
  refine (View.ld_unit_apply_of _ _ _ _ _ (ix2 (col t j) k) fun a => ?_).trans (block_w m c t _ k)
  match a with
  | ⟨0, _⟩ => show t.val % 1 * 1280 + j.val = k0_off1 (grid0.coords t) (0 : Fin 2) + j.val; rw [e0]; try omega
  | ⟨1, _⟩ => show k.val = k0_off1 (grid0.coords t) (1 : Fin 2) + k.val; rw [e1]; try omega

/-- The array the run leaves. -/
def G (c : Dev nD) : Vec Ideal S8192x1280 .f32 := fun i => (∑ k : Fin 1024, fx m c (ix2 (i 0) k) * fw m c (ix2 (i 1) k))

theorem flushed_eq (c : Dev nD) (t : Fin cfg0.N) :
    (dats m 0 c).flushed 2 t = ((cfg0.win 2).blk t).view.read (Elt Ideal) (G m c) := by
  obtain ⟨-, -, -, -, -, -, e0, e1⟩ := index_facts t
  rw [Value.flushed2_A m c t, out_eq]
  funext y
  obtain ⟨p, j, rfl⟩ : ∃ (p : Fin 1024) (j : Fin 1280), y = ix2 p j := ⟨y 0, y 1, by funext a; fin_cases a <;> rfl⟩
  have e : ((cfg0.win 2).blk t).view.emb (ix2 p j) = ix2 (row t p) (col t j) := by
    funext a
    match a with
    | ⟨0, _⟩ => exact Fin.ext (by show win0_2.index t (0 : Fin 2) * 1024 + 1 * p.val = t.val / 1 * 1024 + p.val; rw [e0]; omega)
    | ⟨1, _⟩ => exact Fin.ext (by show win0_2.index t (1 : Fin 2) * 1280 + 1 * j.val = t.val % 1 * 1280 + j.val; rw [e1]; omega)
  refine (pay_apply _ _ p j).trans ?_
  show _ = G m c (((cfg0.win 2).blk t).view.emb (ix2 p j))
  rw [e]
  exact Finset.sum_congr rfl fun k _ => congrArg₂ (· * ·) (block_x m c t p k) (part_apply m c t j k)

theorem covered (i : S8192x1280.Idx) : ∃ t : Fin cfg0.N, (cfg0.win 2).flush t = true ∧ i ∈ ((cfg0.win 2).blk t).view.set := by
  have h0 : (i 0).val < 8192 := (i 0).isLt
  have h1 : (i 1).val < 1280 := (i 1).isLt
  obtain ⟨t, ht⟩ : ∃ t : Fin cfg0.N, t.val = (i 0).val / 1024 * 1 + (i 1).val / 1280 := ⟨⟨(i 0).val / 1024 * 1 + (i 1).val / 1280, lt_of_lt_of_eq (by omega) N_0.symm⟩, rfl⟩
  obtain ⟨-, -, -, -, -, -, e0, e1⟩ := index_facts t
  refine ⟨t, flush0_2 t, ?_⟩
  have e : ((cfg0.win 2).blk t).view.emb (ix2 (⟨(i 0).val % 1024, by omega⟩ : Fin 1024) (⟨(i 1).val % 1280, by omega⟩ : Fin 1280)) = i := by
    funext a
    match a with
    | ⟨0, _⟩ => exact Fin.ext (by show win0_2.index t (0 : Fin 2) * 1024 + 1 * ((i 0).val % 1024) = (i 0).val; rw [e0, ht]; omega)
    | ⟨1, _⟩ => exact Fin.ext (by show win0_2.index t (1 : Fin 2) * 1280 + 1 * ((i 1).val % 1280) = (i 1).val; rw [e1, ht]; omega)
  rw [← e]
  exact View.emb_mem_set _ _

/-- The kernel's run: the result is that array, the arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed_eq m c t) covered), (h c).2⟩) (Value.run_blocks m ρ)

/-- The reference's value at an index: the same sum. -/
theorem reference_eq (c : Dev nD) :
    Cert.Reference14Ideal.Read.val_main_v4 (F := Ideal) (fx m c) (fw m c) = G m c := by
  funext i
  unfold Cert.Reference14Ideal.Read.val_main_v4 Cert.Reference14Ideal.Read.val_main_v1 Cert.Reference14Ideal.Read.val_main_v0 G
  pointwise

end Cert.Kernel14Ideal.LruOutDx

end
-- ==== Proof.ScOutDx.Value.lean ====
/- The gradient of a product by its left factor, `dz·w_outᵀ`, for the convolution mixer, block by block: the array the run leaves, and
   the reference's value of the same sums. -/
module

public import proofs.«01_k».proof.Proof.Gen.Kernel15Ideal.Value
public import proofs.«01_k».proof.Proof.Gen.Reference15Ideal.Read
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

namespace Cert.Kernel15Ideal.ScOutDx

open Cert.Kernel15Ideal Cert.Kernel15Ideal.Gen Idealize.ShloMosaic Idealize.ShloMosaic.TcCoe Idealize.SL.Sem
open Idealize.ShloMosaic.Pipeline (Dat)

theorem zero2 : (![0, 0] : Fin 2 → Nat) = fun _ => 0 := funext fun a => by fin_cases a <;> rfl

/-- The part of the weight this point's columns come from. -/
def part (i : grid0.Coords) (x1 : Vec Ideal S1024x1024 .bf16) : Vec Ideal S1024x1024 .bf16 :=
  View.ld x1 (Rect.unit (s := S1024x1024) (k0_off1 i) S1024x1024.size (k0_off1_inb i))

/-- The block a point stores, entry by entry. -/
theorem pay_apply (x0 : Vec Ideal S1024x1024 .bf16) (v : Vec Ideal S1024x1024 .bf16) (p : Fin 1024) (j : Fin 1024) :
    k0_pay1 (F := Ideal) x0 v (ix2 p j) = (∑ k : Fin 1024, x0 (ix2 p k) * v (ix2 j k)) := by
  unfold k0_pay1
  pointwise

/-- What the body leaves in the output's buffer. -/
theorem out_eq (c : Dev nD) (i : grid0.Coords) (a2 : Memref sig .tc .vmem S1024x1024 .bf16) (h2 : a2.IsWhole) (a3 : Memref sig .tc .vmem S1024x1024 .bf16) (h3 : a3.IsWhole)
  (a4 : Memref sig .tc .vmem S1024x1024 .f32) (h4 : a4.IsWhole)
  (x0 : Vec Ideal S1024x1024 .bf16) (x1 : Vec Ideal S1024x1024 .bf16) :
    out0_A_2 c i a2 h2 a3 h3 a4 h4 x0 x1 = k0_pay1 x0 (part i x1) := by
  unfold out0_A_2
  rw [View.read_writes_eq_canon _ _ _ (cover0_A_2 c i a2 h2 a3 h3 a4 h4 x0 x1)]
  unfold kernelRun0_A
  dsimp only
  sl_unfold_words
  rw [View.canon_unit_zero zero2]
  simp only [View.readAt_eq_ld, h2.read_unread, h3.read_unread, View.ld_unit_zero (S := S1024x1024) zero2]
  rfl

variable (m : (ℓ : Loc nD τ sig) → Buf (Elt Ideal) ℓ) (ρ : Dev nD → PrngReg)

/-- The arguments. -/
abbrev fx (c : Dev nD) : Vec Ideal S8192x1024 .bf16 := m ((c : Thread nD τ).loc main_arg0)
abbrev fw (c : Dev nD) : Vec Ideal S1024x1024 .bf16 := m ((c : Thread nD τ).loc main_arg1)

/-- Where the blocks of point `t` lie. -/
theorem index_facts : ∀ t : Fin cfg0.N, win0_0.index t (0 : Fin 2) = t.val / 1 ∧ win0_0.index t (1 : Fin 2) = 0
    ∧ win0_1.index t (0 : Fin 2) = 0 ∧ win0_1.index t (1 : Fin 2) = 0
    ∧ k0_off1 (grid0.coords t) (0 : Fin 2) = t.val % 1 * 1024 ∧ k0_off1 (grid0.coords t) (1 : Fin 2) = 0
    ∧ win0_2.index t (0 : Fin 2) = t.val / 1 ∧ win0_2.index t (1 : Fin 2) = t.val % 1 :=
  (by decide +kernel : ∀ t : Fin grid0.N, _)

/-- The row and the column of the arrays that row `p` and column `j` of a block are. -/
def row (t : Fin cfg0.N) (p : Fin 1024) : Fin 8192 := ⟨t.val / 1 * 1024 + p.val, by have h : t.val < 8 := lt_of_lt_of_eq t.isLt N_0; have := p.isLt; omega⟩
def col (t : Fin cfg0.N) (j : Fin 1024) : Fin 1024 := ⟨t.val % 1 * 1024 + j.val, by have := j.isLt; omega⟩

theorem block_x (c : Dev nD) (t : Fin cfg0.N) (p : Fin 1024) (k : Fin 1024) :
    (iblk m c 0 t : Vec Ideal S1024x1024 .bf16) (ix2 p k) = fx m c (ix2 (row t p) k) := by
  obtain ⟨e0, e1, -⟩ := index_facts t
  show fx m c (((cfg0.win 0).blk t).view.emb (ix2 p k)) = _
  congr 1
  funext a
  match a with
  | ⟨0, _⟩ => exact Fin.ext (by show win0_0.index t (0 : Fin 2) * 1024 + 1 * p.val = t.val / 1 * 1024 + p.val; rw [e0]; omega)
  | ⟨1, _⟩ => exact Fin.ext (by show win0_0.index t (1 : Fin 2) * 1024 + 1 * k.val = k.val; rw [e1]; omega)

theorem block_w (c : Dev nD) (t : Fin cfg0.N) (o : Fin 1024) (k : Fin 1024) :
    (iblk m c 1 t : Vec Ideal S1024x1024 .bf16) (ix2 o k) = fw m c (ix2 o k) := by
  obtain ⟨-, -, e0, e1, -⟩ := index_facts t
  show fw m c (((cfg0.win 1).blk t).view.emb (ix2 o k)) = _
  congr 1
  funext a
  match a with
  | ⟨0, _⟩ => exact Fin.ext (by show win0_1.index t (0 : Fin 2) * 1024 + 1 * o.val = o.val; rw [e0]; omega)
  | ⟨1, _⟩ => exact Fin.ext (by show win0_1.index t (1 : Fin 2) * 1024 + 1 * k.val = k.val; rw [e1]; omega)

theorem part_apply (c : Dev nD) (t : Fin cfg0.N) (j : Fin 1024) (k : Fin 1024) :
    part (grid0.coords t) (iblk m c 1 t) (ix2 j k) = fw m c (ix2 (col t j) k) := by
  obtain ⟨-, -, -, -, e0, e1, -⟩ := index_facts t
  refine (View.ld_unit_apply_of _ _ _ _ _ (ix2 (col t j) k) fun a => ?_).trans (block_w m c t _ k)
  match a with
  | ⟨0, _⟩ => show t.val % 1 * 1024 + j.val = k0_off1 (grid0.coords t) (0 : Fin 2) + j.val; rw [e0]; try omega
  | ⟨1, _⟩ => show k.val = k0_off1 (grid0.coords t) (1 : Fin 2) + k.val; rw [e1]; try omega

/-- The array the run leaves. -/
def G (c : Dev nD) : Vec Ideal S8192x1024 .f32 := fun i => (∑ k : Fin 1024, fx m c (ix2 (i 0) k) * fw m c (ix2 (i 1) k))

theorem flushed_eq (c : Dev nD) (t : Fin cfg0.N) :
    (dats m 0 c).flushed 2 t = ((cfg0.win 2).blk t).view.read (Elt Ideal) (G m c) := by
  obtain ⟨-, -, -, -, -, -, e0, e1⟩ := index_facts t
  rw [Value.flushed2_A m c t, out_eq]
  funext y
  obtain ⟨p, j, rfl⟩ : ∃ (p : Fin 1024) (j : Fin 1024), y = ix2 p j := ⟨y 0, y 1, by funext a; fin_cases a <;> rfl⟩
  have e : ((cfg0.win 2).blk t).view.emb (ix2 p j) = ix2 (row t p) (col t j) := by
    funext a
    match a with
    | ⟨0, _⟩ => exact Fin.ext (by show win0_2.index t (0 : Fin 2) * 1024 + 1 * p.val = t.val / 1 * 1024 + p.val; rw [e0]; omega)
    | ⟨1, _⟩ => exact Fin.ext (by show win0_2.index t (1 : Fin 2) * 1024 + 1 * j.val = t.val % 1 * 1024 + j.val; rw [e1]; omega)
  refine (pay_apply _ _ p j).trans ?_
  show _ = G m c (((cfg0.win 2).blk t).view.emb (ix2 p j))
  rw [e]
  exact Finset.sum_congr rfl fun k _ => congrArg₂ (· * ·) (block_x m c t p k) (part_apply m c t j k)

theorem covered (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  obtain ⟨t, ht⟩ : ∃ t : Fin cfg0.N, t.val = (i 0).val / 1024 * 1 + (i 1).val / 1024 := ⟨⟨(i 0).val / 1024 * 1 + (i 1).val / 1024, lt_of_lt_of_eq (by omega) N_0.symm⟩, rfl⟩
  obtain ⟨-, -, -, -, -, -, e0, e1⟩ := index_facts t
  refine ⟨t, flush0_2 t, ?_⟩
  have e : ((cfg0.win 2).blk t).view.emb (ix2 (⟨(i 0).val % 1024, by omega⟩ : Fin 1024) (⟨(i 1).val % 1024, by omega⟩ : Fin 1024)) = i := by
    funext a
    match a with
    | ⟨0, _⟩ => exact Fin.ext (by show win0_2.index t (0 : Fin 2) * 1024 + 1 * ((i 0).val % 1024) = (i 0).val; rw [e0, ht]; omega)
    | ⟨1, _⟩ => exact Fin.ext (by show win0_2.index t (1 : Fin 2) * 1024 + 1 * ((i 1).val % 1024) = (i 1).val; rw [e1, ht]; omega)
  rw [← e]
  exact View.emb_mem_set _ _

/-- The kernel's run: the result is that array, the arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed_eq m c t) covered), (h c).2⟩) (Value.run_blocks m ρ)

/-- The reference's value at an index: the same sum. -/
theorem reference_eq (c : Dev nD) :
    Cert.Reference15Ideal.Read.val_main_v4 (F := Ideal) (fx m c) (fw m c) = G m c := by
  funext i
  unfold Cert.Reference15Ideal.Read.val_main_v4 Cert.Reference15Ideal.Read.val_main_v1 Cert.Reference15Ideal.Read.val_main_v0 G
  pointwise

end Cert.Kernel15Ideal.ScOutDx

end
-- ==== Proof.FirstDx.Value.lean ====
/- The gradient of the first layer's input, `dh·w_inᵀ + α·dx`, block by block: the array the run leaves, and
   the reference's value of the same sums. -/
module

public import proofs.«01_k».proof.Proof.Gen.Kernel16Ideal.Value
public import proofs.«01_k».proof.Proof.Gen.Reference16Ideal.Read
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

namespace Cert.Kernel16Ideal.FirstDx

open Cert.Kernel16Ideal Cert.Kernel16Ideal.Gen Idealize.ShloMosaic Idealize.ShloMosaic.TcCoe Idealize.SL.Sem
open Idealize.ShloMosaic.Pipeline (Dat)

theorem zero2 : (![0, 0] : Fin 2 → Nat) = fun _ => 0 := funext fun a => by fin_cases a <;> rfl

/-- The part of the weight this point's columns come from. -/
def part (i : grid0.Coords) (x1 : Vec Ideal S1024x3072 .bf16) : Vec Ideal S1024x3072 .bf16 :=
  View.ld x1 (Rect.unit (s := S1024x3072) (k0_off1 i) S1024x3072.size (k0_off1_inb i))

/-- The block a point stores, entry by entry. -/
theorem pay_apply (x0 : Vec Ideal S1024x3072 .bf16) (v : Vec Ideal S1024x3072 .bf16) (x2 : Vec Ideal S1024x1024 .f32) (p : Fin 1024) (j : Fin 1024) :
    k0_pay1 (F := Ideal) x0 v x2 (ix2 p j) = (∑ k : Fin 3072, x0 (ix2 p k) * v (ix2 j k)) + Ideal.ofBits .f32 0x3FD744FD#32 * x2 (ix2 p j) := by
  unfold k0_pay1
  pointwise

/-- What the body leaves in the output's buffer. -/
theorem out_eq (c : Dev nD) (i : grid0.Coords) (a2 : Memref sig .tc .vmem S1024x3072 .bf16) (h2 : a2.IsWhole) (a3 : Memref sig .tc .vmem S1024x3072 .bf16) (h3 : a3.IsWhole)
  (a4 : Memref sig .tc .vmem S1024x1024 .f32) (h4 : a4.IsWhole) (a5 : Memref sig .tc .vmem S1024x1024 .f32) (h5 : a5.IsWhole)
  (x0 : Vec Ideal S1024x3072 .bf16) (x1 : Vec Ideal S1024x3072 .bf16) (x2 : Vec Ideal S1024x1024 .f32) :
    out0_A_3 c i a2 h2 a3 h3 a4 h4 a5 h5 x0 x1 x2 = k0_pay1 x0 (part i x1) x2 := by
  unfold out0_A_3
  rw [View.read_writes_eq_canon _ _ _ (cover0_A_3 c i a2 h2 a3 h3 a4 h4 a5 h5 x0 x1 x2)]
  unfold kernelRun0_A
  dsimp only
  sl_unfold_words
  rw [View.canon_unit_zero zero2]
  simp only [View.readAt_eq_ld, h2.read_unread, h3.read_unread, h4.read_unread, View.ld_unit_zero (S := S1024x3072) zero2, View.ld_unit_zero (S := S1024x1024) zero2]
  rfl

variable (m : (ℓ : Loc nD τ sig) → Buf (Elt Ideal) ℓ) (ρ : Dev nD → PrngReg)

/-- The arguments. -/
abbrev fx (c : Dev nD) : Vec Ideal S8192x3072 .bf16 := m ((c : Thread nD τ).loc main_arg0)
abbrev fw (c : Dev nD) : Vec Ideal S1024x3072 .bf16 := m ((c : Thread nD τ).loc main_arg1)
abbrev fr (c : Dev nD) : Vec Ideal S8192x1024 .f32 := m ((c : Thread nD τ).loc main_arg2)

/-- Where the blocks of point `t` lie. -/
theorem index_facts : ∀ t : Fin cfg0.N, win0_0.index t (0 : Fin 2) = t.val / 1 ∧ win0_0.index t (1 : Fin 2) = 0
    ∧ win0_1.index t (0 : Fin 2) = 0 ∧ win0_1.index t (1 : Fin 2) = 0
    ∧ k0_off1 (grid0.coords t) (0 : Fin 2) = t.val % 1 * 1024 ∧ k0_off1 (grid0.coords t) (1 : Fin 2) = 0
    ∧ win0_3.index t (0 : Fin 2) = t.val / 1 ∧ win0_3.index t (1 : Fin 2) = t.val % 1 :=
  (by decide +kernel : ∀ t : Fin grid0.N, _)

/-- The row and the column of the arrays that row `p` and column `j` of a block are. -/
def row (t : Fin cfg0.N) (p : Fin 1024) : Fin 8192 := ⟨t.val / 1 * 1024 + p.val, by have h : t.val < 8 := lt_of_lt_of_eq t.isLt N_0; have := p.isLt; omega⟩
def col (t : Fin cfg0.N) (j : Fin 1024) : Fin 1024 := ⟨t.val % 1 * 1024 + j.val, by have := j.isLt; omega⟩

theorem block_x (c : Dev nD) (t : Fin cfg0.N) (p : Fin 1024) (k : Fin 3072) :
    (iblk m c 0 t : Vec Ideal S1024x3072 .bf16) (ix2 p k) = fx m c (ix2 (row t p) k) := by
  obtain ⟨e0, e1, -⟩ := index_facts t
  show fx m c (((cfg0.win 0).blk t).view.emb (ix2 p k)) = _
  congr 1
  funext a
  match a with
  | ⟨0, _⟩ => exact Fin.ext (by show win0_0.index t (0 : Fin 2) * 1024 + 1 * p.val = t.val / 1 * 1024 + p.val; rw [e0]; omega)
  | ⟨1, _⟩ => exact Fin.ext (by show win0_0.index t (1 : Fin 2) * 3072 + 1 * k.val = k.val; rw [e1]; omega)

theorem block_w (c : Dev nD) (t : Fin cfg0.N) (o : Fin 1024) (k : Fin 3072) :
    (iblk m c 1 t : Vec Ideal S1024x3072 .bf16) (ix2 o k) = fw m c (ix2 o k) := by
  obtain ⟨-, -, e0, e1, -⟩ := index_facts t
  show fw m c (((cfg0.win 1).blk t).view.emb (ix2 o k)) = _
  congr 1
  funext a
  match a with
  | ⟨0, _⟩ => exact Fin.ext (by show win0_1.index t (0 : Fin 2) * 1024 + 1 * o.val = o.val; rw [e0]; omega)
  | ⟨1, _⟩ => exact Fin.ext (by show win0_1.index t (1 : Fin 2) * 3072 + 1 * k.val = k.val; rw [e1]; omega)

theorem part_apply (c : Dev nD) (t : Fin cfg0.N) (j : Fin 1024) (k : Fin 3072) :
    part (grid0.coords t) (iblk m c 1 t) (ix2 j k) = fw m c (ix2 (col t j) k) := by
  obtain ⟨-, -, -, -, e0, e1, -⟩ := index_facts t
  refine (View.ld_unit_apply_of _ _ _ _ _ (ix2 (col t j) k) fun a => ?_).trans (block_w m c t _ k)
  match a with
  | ⟨0, _⟩ => show t.val % 1 * 1024 + j.val = k0_off1 (grid0.coords t) (0 : Fin 2) + j.val; rw [e0]; try omega
  | ⟨1, _⟩ => show k.val = k0_off1 (grid0.coords t) (1 : Fin 2) + k.val; rw [e1]; try omega

theorem block_r (c : Dev nD) (t : Fin cfg0.N) (p : Fin 1024) (j : Fin 1024) :
    (iblk m c 2 t : Vec Ideal S1024x1024 .f32) (ix2 p j) = fr m c (ix2 (row t p) (col t j)) := by
  have e : win0_2.index t (0 : Fin 2) = t.val / 1 ∧ win0_2.index t (1 : Fin 2) = t.val % 1 :=
    (by decide +kernel : ∀ t : Fin grid0.N, win0_2.index t (0 : Fin 2) = t.val / 1 ∧ win0_2.index t (1 : Fin 2) = t.val % 1) t
  show fr m c (((cfg0.win 2).blk t).view.emb (ix2 p j)) = _
  congr 1
  funext a
  match a with
  | ⟨0, _⟩ => exact Fin.ext (by show win0_2.index t (0 : Fin 2) * 1024 + 1 * p.val = t.val / 1 * 1024 + p.val; rw [e.1]; omega)
  | ⟨1, _⟩ => exact Fin.ext (by show win0_2.index t (1 : Fin 2) * 1024 + 1 * j.val = t.val % 1 * 1024 + j.val; rw [e.2]; omega)

/-- The array the run leaves. -/
def G (c : Dev nD) : Vec Ideal S8192x1024 .f32 := fun i => (∑ k : Fin 3072, fx m c (ix2 (i 0) k) * fw m c (ix2 (i 1) k)) + Ideal.ofBits .f32 0x3FD744FD#32 * fr m c i

theorem flushed_eq (c : Dev nD) (t : Fin cfg0.N) :
    (dats m 0 c).flushed 3 t = ((cfg0.win 3).blk t).view.read (Elt Ideal) (G m c) := by
  obtain ⟨-, -, -, -, -, -, e0, e1⟩ := index_facts t
  rw [Value.flushed3_A m c t, out_eq]
  funext y
  obtain ⟨p, j, rfl⟩ : ∃ (p : Fin 1024) (j : Fin 1024), y = ix2 p j := ⟨y 0, y 1, by funext a; fin_cases a <;> rfl⟩
  have e : ((cfg0.win 3).blk t).view.emb (ix2 p j) = ix2 (row t p) (col t j) := by
    funext a
    match a with
    | ⟨0, _⟩ => exact Fin.ext (by show win0_3.index t (0 : Fin 2) * 1024 + 1 * p.val = t.val / 1 * 1024 + p.val; rw [e0]; omega)
    | ⟨1, _⟩ => exact Fin.ext (by show win0_3.index t (1 : Fin 2) * 1024 + 1 * j.val = t.val % 1 * 1024 + j.val; rw [e1]; omega)
  refine (pay_apply _ _ _ p j).trans ?_
  show _ = G m c (((cfg0.win 3).blk t).view.emb (ix2 p j))
  rw [e]
  exact congrArg₂ (· + ·) (Finset.sum_congr rfl fun k _ => congrArg₂ (· * ·) (block_x m c t p k) (part_apply m c t j k)) (congrArg (Ideal.ofBits .f32 0x3FD744FD#32 * ·) (block_r m c t p j))

theorem covered (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  obtain ⟨t, ht⟩ : ∃ t : Fin cfg0.N, t.val = (i 0).val / 1024 * 1 + (i 1).val / 1024 := ⟨⟨(i 0).val / 1024 * 1 + (i 1).val / 1024, lt_of_lt_of_eq (by omega) N_0.symm⟩, rfl⟩
  obtain ⟨-, -, -, -, -, -, e0, e1⟩ := index_facts t
  refine ⟨t, flush0_3 t, ?_⟩
  have e : ((cfg0.win 3).blk t).view.emb (ix2 (⟨(i 0).val % 1024, by omega⟩ : Fin 1024) (⟨(i 1).val % 1024, by omega⟩ : Fin 1024)) = i := by
    funext a
    match a with
    | ⟨0, _⟩ => exact Fin.ext (by show win0_3.index t (0 : Fin 2) * 1024 + 1 * ((i 0).val % 1024) = (i 0).val; rw [e0, ht]; omega)
    | ⟨1, _⟩ => exact Fin.ext (by show win0_3.index t (1 : Fin 2) * 1024 + 1 * ((i 1).val % 1024) = (i 1).val; rw [e1, ht]; omega)
  rw [← e]
  exact View.emb_mem_set _ _

/-- The kernel's run: the result is that array, the arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t _ => flushed_eq m c t) covered), (h c).2⟩) (Value.run_blocks m ρ)

/-- The reference's value at an index: the same sum. -/
theorem reference_eq (c : Dev nD) :
    Cert.Reference16Ideal.Read.val_main_v9 (F := Ideal) (fx m c) (fw m c) (fr m c) = G m c := by
  funext i
  obtain ⟨p, j, rfl⟩ : ∃ (p : Fin 8192) (j : Fin 1024), i = ix2 p j := ⟨i 0, i 1, by funext a; fin_cases a <;> rfl⟩
  unfold Cert.Reference16Ideal.Read.val_main_v9 Cert.Reference16Ideal.Read.val_main_v8 Cert.Reference16Ideal.Read.val_main_v7 Cert.Reference16Ideal.Read.val_main_v6 Cert.Reference16Ideal.Read.val_main_v5 Cert.Reference16Ideal.Read.val_main_v0 Cert.Reference16Ideal.Read.val_main_cst_1 G
  pointwise
  rw [add_comm]

end Cert.Kernel16Ideal.FirstDx

end
-- ==== Proof.ScIn.Value.lean ====
/- The product into the convolution mixer, `x·w_in`, block by block: the array the run leaves, and
   the reference's value of the same sums. -/
module

public import proofs.«01_k».proof.Proof.Gen.Kernel17Ideal.Value
public import proofs.«01_k».proof.Proof.Gen.Reference17Ideal.Read
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

namespace Cert.Kernel17Ideal.ScIn

open Cert.Kernel17Ideal Cert.Kernel17Ideal.Gen Idealize.ShloMosaic Idealize.ShloMosaic.TcCoe Idealize.SL.Sem
open Idealize.ShloMosaic.Pipeline (Dat)

theorem zero2 : (![0, 0] : Fin 2 → Nat) = fun _ => 0 := funext fun a => by fin_cases a <;> rfl

/-- The part of the weight this point's columns come from. -/
def part (i : grid0.Coords) (x1 : Vec Ideal S1024x3072 .bf16) : Vec Ideal S1024x1536 .bf16 :=
  View.ld x1 (Rect.unit (s := S1024x3072) (k0_off1 i) S1024x1536.size (k0_off1_inb i))

/-- The block a point stores, entry by entry. -/
theorem pay_apply (x0 : Vec Ideal S1024x1024 .bf16) (v : Vec Ideal S1024x1536 .bf16) (p : Fin 1024) (j : Fin 1536) :
    k0_pay1 (F := Ideal) x0 v (ix2 p j) = (∑ k : Fin 1024, x0 (ix2 p k) * v (ix2 k j)) := by
  unfold k0_pay1
  pointwise

/-- What the body leaves in the output's buffer. -/
theorem out_eq (c : Dev nD) (i : grid0.Coords) (a2 : Memref sig .tc .vmem S1024x1024 .bf16) (h2 : a2.IsWhole) (a3 : Memref sig .tc .vmem S1024x3072 .bf16) (h3 : a3.IsWhole)
  (a4 : Memref sig .tc .vmem S1024x1536 .f32) (h4 : a4.IsWhole)
  (x0 : Vec Ideal S1024x1024 .bf16) (x1 : Vec Ideal S1024x3072 .bf16) :
    out0_A_2 c i a2 h2 a3 h3 a4 h4 x0 x1 = k0_pay1 x0 (part i x1) := by
  unfold out0_A_2
  rw [View.read_writes_eq_canon _ _ _ (cover0_A_2 c i a2 h2 a3 h3 a4 h4 x0 x1)]
  unfold kernelRun0_A
  dsimp only
  sl_unfold_words
  rw [View.canon_unit_zero zero2]
  simp only [View.readAt_eq_ld, h2.read_unread, h3.read_unread, View.ld_unit_zero (S := S1024x1024) zero2]
  rfl

variable (m : (ℓ : Loc nD τ sig) → Buf (Elt Ideal) ℓ) (ρ : Dev nD → PrngReg)

/-- The arguments. -/
abbrev fx (c : Dev nD) : Vec Ideal S8192x1024 .bf16 := m ((c : Thread nD τ).loc main_arg0)
abbrev fw (c : Dev nD) : Vec Ideal S1024x3072 .bf16 := m ((c : Thread nD τ).loc main_arg1)

/-- Where the blocks of point `t` lie. -/
theorem index_facts : ∀ t : Fin cfg0.N, win0_0.index t (0 : Fin 2) = t.val / 2 ∧ win0_0.index t (1 : Fin 2) = 0
    ∧ win0_1.index t (0 : Fin 2) = 0 ∧ win0_1.index t (1 : Fin 2) = 0
    ∧ k0_off1 (grid0.coords t) (0 : Fin 2) = 0 ∧ k0_off1 (grid0.coords t) (1 : Fin 2) = t.val % 2 * 1536
    ∧ win0_2.index t (0 : Fin 2) = t.val / 2 ∧ win0_2.index t (1 : Fin 2) = t.val % 2 :=
  (by decide +kernel : ∀ t : Fin grid0.N, _)

/-- The row and the column of the arrays that row `p` and column `j` of a block are. -/
def row (t : Fin cfg0.N) (p : Fin 1024) : Fin 8192 := ⟨t.val / 2 * 1024 + p.val, by have h : t.val < 16 := lt_of_lt_of_eq t.isLt N_0; have := p.isLt; omega⟩
def col (t : Fin cfg0.N) (j : Fin 1536) : Fin 3072 := ⟨t.val % 2 * 1536 + j.val, by have := j.isLt; omega⟩

theorem block_x (c : Dev nD) (t : Fin cfg0.N) (p : Fin 1024) (k : Fin 1024) :
    (iblk m c 0 t : Vec Ideal S1024x1024 .bf16) (ix2 p k) = fx m c (ix2 (row t p) k) := by
  obtain ⟨e0, e1, -⟩ := index_facts t
  show fx m c (((cfg0.win 0).blk t).view.emb (ix2 p k)) = _
  congr 1
  funext a
  match a with
  | ⟨0, _⟩ => exact Fin.ext (by show win0_0.index t (0 : Fin 2) * 1024 + 1 * p.val = t.val / 2 * 1024 + p.val; rw [e0]; omega)
  | ⟨1, _⟩ => exact Fin.ext (by show win0_0.index t (1 : Fin 2) * 1024 + 1 * k.val = k.val; rw [e1]; omega)

theorem block_w (c : Dev nD) (t : Fin cfg0.N) (o : Fin 3072) (k : Fin 1024) :
    (iblk m c 1 t : Vec Ideal S1024x3072 .bf16) (ix2 k o) = fw m c (ix2 k o) := by
  obtain ⟨-, -, e0, e1, -⟩ := index_facts t
  show fw m c (((cfg0.win 1).blk t).view.emb (ix2 k o)) = _
  congr 1
  funext a
  match a with
  | ⟨0, _⟩ => exact Fin.ext (by show win0_1.index t (0 : Fin 2) * 1024 + 1 * k.val = k.val; rw [e0]; omega)
  | ⟨1, _⟩ => exact Fin.ext (by show win0_1.index t (1 : Fin 2) * 3072 + 1 * o.val = o.val; rw [e1]; omega)

theorem part_apply (c : Dev nD) (t : Fin cfg0.N) (j : Fin 1536) (k : Fin 1024) :
    part (grid0.coords t) (iblk m c 1 t) (ix2 k j) = fw m c (ix2 k (col t j)) := by
  obtain ⟨-, -, -, -, e0, e1, -⟩ := index_facts t
  refine (View.ld_unit_apply_of _ _ _ _ _ (ix2 k (col t j)) fun a => ?_).trans (block_w m c t _ k)
  match a with
  | ⟨0, _⟩ => show k.val = k0_off1 (grid0.coords t) (0 : Fin 2) + k.val; rw [e0]; try omega
  | ⟨1, _⟩ => show t.val % 2 * 1536 + j.val = k0_off1 (grid0.coords t) (1 : Fin 2) + j.val; rw [e1]; try omega

/-- The array the run leaves. -/
def G (c : Dev nD) : Vec Ideal S8192x3072 .f32 := fun i => (∑ k : Fin 1024, fx m c (ix2 (i 0) k) * fw m c (ix2 k (i 1)))

theorem flushed_eq (c : Dev nD) (t : Fin cfg0.N) :
    (dats m 0 c).flushed 2 t = ((cfg0.win 2).blk t).view.read (Elt Ideal) (G m c) := by
  obtain ⟨-, -, -, -, -, -, e0, e1⟩ := index_facts t
  rw [Value.flushed2_A m c t, out_eq]
  funext y
  obtain ⟨p, j, rfl⟩ : ∃ (p : Fin 1024) (j : Fin 1536), y = ix2 p j := ⟨y 0, y 1, by funext a; fin_cases a <;> rfl⟩
  have e : ((cfg0.win 2).blk t).view.emb (ix2 p j) = ix2 (row t p) (col t j) := by
    funext a
    match a with
    | ⟨0, _⟩ => exact Fin.ext (by show win0_2.index t (0 : Fin 2) * 1024 + 1 * p.val = t.val / 2 * 1024 + p.val; rw [e0]; omega)
    | ⟨1, _⟩ => exact Fin.ext (by show win0_2.index t (1 : Fin 2) * 1536 + 1 * j.val = t.val % 2 * 1536 + j.val; rw [e1]; omega)
  refine (pay_apply _ _ p j).trans ?_
  show _ = G m c (((cfg0.win 2).blk t).view.emb (ix2 p j))
  rw [e]
  exact Finset.sum_congr rfl fun k _ => congrArg₂ (· * ·) (block_x m c t p k) (part_apply m c t j k)

theorem covered (i : S8192x3072.Idx) : ∃ t : Fin cfg0.N, (cfg0.win 2).flush t = true ∧ i ∈ ((cfg0.win 2).blk t).view.set := by
  have h0 : (i 0).val < 8192 := (i 0).isLt
  have h1 : (i 1).val < 3072 := (i 1).isLt
  obtain ⟨t, ht⟩ : ∃ t : Fin cfg0.N, t.val = (i 0).val / 1024 * 2 + (i 1).val / 1536 := ⟨⟨(i 0).val / 1024 * 2 + (i 1).val / 1536, lt_of_lt_of_eq (by omega) N_0.symm⟩, rfl⟩
  obtain ⟨-, -, -, -, -, -, e0, e1⟩ := index_facts t
  refine ⟨t, flush0_2 t, ?_⟩
  have e : ((cfg0.win 2).blk t).view.emb (ix2 (⟨(i 0).val % 1024, by omega⟩ : Fin 1024) (⟨(i 1).val % 1536, by omega⟩ : Fin 1536)) = i := by
    funext a
    match a with
    | ⟨0, _⟩ => exact Fin.ext (by show win0_2.index t (0 : Fin 2) * 1024 + 1 * ((i 0).val % 1024) = (i 0).val; rw [e0, ht]; omega)
    | ⟨1, _⟩ => exact Fin.ext (by show win0_2.index t (1 : Fin 2) * 1536 + 1 * ((i 1).val % 1536) = (i 1).val; rw [e1, ht]; omega)
  rw [← e]
  exact View.emb_mem_set _ _

/-- The kernel's run: the result is that array, the arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed_eq m c t) covered), (h c).2⟩) (Value.run_blocks m ρ)

/-- The reference's value at an index: the same sum. -/
theorem reference_eq (c : Dev nD) :
    Cert.Reference17Ideal.Read.val_main_v2 (F := Ideal) (fx m c) (fw m c) = G m c := by
  funext i
  unfold Cert.Reference17Ideal.Read.val_main_v2 Cert.Reference17Ideal.Read.val_main_v1 Cert.Reference17Ideal.Read.val_main_v0 G
  pointwise

end Cert.Kernel17Ideal.ScIn

end
-- ==== Proof.LruIn.Value.lean ====
/- The product into the recurrent mixer, `x·w_inᵀ + b_in`, block by block: the array the run leaves, and
   the reference's value of the same sums. -/
module

public import proofs.«01_k».proof.Proof.Gen.Kernel18Ideal.Value
public import proofs.«01_k».proof.Proof.Gen.Reference18Ideal.Read
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

namespace Cert.Kernel18Ideal.LruIn

open Cert.Kernel18Ideal Cert.Kernel18Ideal.Gen Idealize.ShloMosaic Idealize.ShloMosaic.TcCoe Idealize.SL.Sem
open Idealize.ShloMosaic.Pipeline (Dat)

theorem zero2 : (![0, 0] : Fin 2 → Nat) = fun _ => 0 := funext fun a => by fin_cases a <;> rfl

/-- The part of the weight this point's columns come from. -/
def part (i : grid0.Coords) (x1 : Vec Ideal S2560x1024 .bf16) : Vec Ideal S1280x1024 .bf16 :=
  View.ld x1 (Rect.unit (s := S2560x1024) (k0_off1 i) S1280x1024.size (k0_off1_inb i))

/-- The block a point stores, entry by entry. -/
theorem pay_apply (x0 : Vec Ideal S1024x1024 .bf16) (v : Vec Ideal S1280x1024 .bf16) (x2 : Vec Ideal S1x1280 .f32) (p : Fin 1024) (j : Fin 1280) :
    k0_pay1 (F := Ideal) x0 v x2 (ix2 p j) = (∑ k : Fin 1024, x0 (ix2 p k) * v (ix2 j k)) + x2 (ix2 0 j) := by
  unfold k0_pay1
  pointwise

/-- What the body leaves in the output's buffer. -/
theorem out_eq (c : Dev nD) (i : grid0.Coords) (a2 : Memref sig .tc .vmem S1024x1024 .bf16) (h2 : a2.IsWhole) (a3 : Memref sig .tc .vmem S2560x1024 .bf16) (h3 : a3.IsWhole)
  (a4 : Memref sig .tc .vmem S1x1280 .f32) (h4 : a4.IsWhole) (a5 : Memref sig .tc .vmem S1024x1280 .f32) (h5 : a5.IsWhole)
  (x0 : Vec Ideal S1024x1024 .bf16) (x1 : Vec Ideal S2560x1024 .bf16) (x2 : Vec Ideal S1x1280 .f32) :
    out0_A_3 c i a2 h2 a3 h3 a4 h4 a5 h5 x0 x1 x2 = k0_pay1 x0 (part i x1) x2 := by
  unfold out0_A_3
  rw [View.read_writes_eq_canon _ _ _ (cover0_A_3 c i a2 h2 a3 h3 a4 h4 a5 h5 x0 x1 x2)]
  unfold kernelRun0_A
  dsimp only
  sl_unfold_words
  rw [View.canon_unit_zero zero2]
  simp only [View.readAt_eq_ld, h2.read_unread, h3.read_unread, h4.read_unread, View.ld_unit_zero (S := S1024x1024) zero2, View.ld_unit_zero (S := S1x1280) zero2]
  rfl

variable (m : (ℓ : Loc nD τ sig) → Buf (Elt Ideal) ℓ) (ρ : Dev nD → PrngReg)

/-- The arguments. -/
abbrev fx (c : Dev nD) : Vec Ideal S8192x1024 .bf16 := m ((c : Thread nD τ).loc main_arg0)
abbrev fw (c : Dev nD) : Vec Ideal S2560x1024 .bf16 := m ((c : Thread nD τ).loc main_arg1)
abbrev fb (c : Dev nD) : Vec Ideal S1x2560 .f32 := m ((c : Thread nD τ).loc main_arg2)

/-- Where the blocks of point `t` lie. -/
theorem index_facts : ∀ t : Fin cfg0.N, win0_0.index t (0 : Fin 2) = t.val / 2 ∧ win0_0.index t (1 : Fin 2) = 0
    ∧ win0_1.index t (0 : Fin 2) = 0 ∧ win0_1.index t (1 : Fin 2) = 0
    ∧ k0_off1 (grid0.coords t) (0 : Fin 2) = t.val % 2 * 1280 ∧ k0_off1 (grid0.coords t) (1 : Fin 2) = 0
    ∧ win0_3.index t (0 : Fin 2) = t.val / 2 ∧ win0_3.index t (1 : Fin 2) = t.val % 2 :=
  (by decide +kernel : ∀ t : Fin grid0.N, _)

/-- The row and the column of the arrays that row `p` and column `j` of a block are. -/
def row (t : Fin cfg0.N) (p : Fin 1024) : Fin 8192 := ⟨t.val / 2 * 1024 + p.val, by have h : t.val < 16 := lt_of_lt_of_eq t.isLt N_0; have := p.isLt; omega⟩
def col (t : Fin cfg0.N) (j : Fin 1280) : Fin 2560 := ⟨t.val % 2 * 1280 + j.val, by have := j.isLt; omega⟩

theorem block_x (c : Dev nD) (t : Fin cfg0.N) (p : Fin 1024) (k : Fin 1024) :
    (iblk m c 0 t : Vec Ideal S1024x1024 .bf16) (ix2 p k) = fx m c (ix2 (row t p) k) := by
  obtain ⟨e0, e1, -⟩ := index_facts t
  show fx m c (((cfg0.win 0).blk t).view.emb (ix2 p k)) = _
  congr 1
  funext a
  match a with
  | ⟨0, _⟩ => exact Fin.ext (by show win0_0.index t (0 : Fin 2) * 1024 + 1 * p.val = t.val / 2 * 1024 + p.val; rw [e0]; omega)
  | ⟨1, _⟩ => exact Fin.ext (by show win0_0.index t (1 : Fin 2) * 1024 + 1 * k.val = k.val; rw [e1]; omega)

theorem block_w (c : Dev nD) (t : Fin cfg0.N) (o : Fin 2560) (k : Fin 1024) :
    (iblk m c 1 t : Vec Ideal S2560x1024 .bf16) (ix2 o k) = fw m c (ix2 o k) := by
  obtain ⟨-, -, e0, e1, -⟩ := index_facts t
  show fw m c (((cfg0.win 1).blk t).view.emb (ix2 o k)) = _
  congr 1
  funext a
  match a with
  | ⟨0, _⟩ => exact Fin.ext (by show win0_1.index t (0 : Fin 2) * 2560 + 1 * o.val = o.val; rw [e0]; omega)
  | ⟨1, _⟩ => exact Fin.ext (by show win0_1.index t (1 : Fin 2) * 1024 + 1 * k.val = k.val; rw [e1]; omega)

theorem part_apply (c : Dev nD) (t : Fin cfg0.N) (j : Fin 1280) (k : Fin 1024) :
    part (grid0.coords t) (iblk m c 1 t) (ix2 j k) = fw m c (ix2 (col t j) k) := by
  obtain ⟨-, -, -, -, e0, e1, -⟩ := index_facts t
  refine (View.ld_unit_apply_of _ _ _ _ _ (ix2 (col t j) k) fun a => ?_).trans (block_w m c t _ k)
  match a with
  | ⟨0, _⟩ => show t.val % 2 * 1280 + j.val = k0_off1 (grid0.coords t) (0 : Fin 2) + j.val; rw [e0]; try omega
  | ⟨1, _⟩ => show k.val = k0_off1 (grid0.coords t) (1 : Fin 2) + k.val; rw [e1]; try omega

theorem block_b (c : Dev nD) (t : Fin cfg0.N) (j : Fin 1280) :
    (iblk m c 2 t : Vec Ideal S1x1280 .f32) (ix2 0 j) = fb m c (ix2 0 (col t j)) := by
  have e : win0_2.index t (0 : Fin 2) = 0 ∧ win0_2.index t (1 : Fin 2) = t.val % 2 :=
    (by decide +kernel : ∀ t : Fin grid0.N, win0_2.index t (0 : Fin 2) = 0 ∧ win0_2.index t (1 : Fin 2) = t.val % 2) t
  show fb m c (((cfg0.win 2).blk t).view.emb (ix2 0 j)) = _
  congr 1
  funext a
  match a with
  | ⟨0, _⟩ => exact Fin.ext (by show win0_2.index t (0 : Fin 2) * 1 + 1 * 0 = 0; rw [e.1])
  | ⟨1, _⟩ => exact Fin.ext (by show win0_2.index t (1 : Fin 2) * 1280 + 1 * j.val = t.val % 2 * 1280 + j.val; rw [e.2]; omega)

/-- The array the run leaves. -/
def G (c : Dev nD) : Vec Ideal S8192x2560 .f32 := fun i => (∑ k : Fin 1024, fx m c (ix2 (i 0) k) * fw m c (ix2 (i 1) k)) + fb m c (ix2 0 (i 1))

theorem flushed_eq (c : Dev nD) (t : Fin cfg0.N) :
    (dats m 0 c).flushed 3 t = ((cfg0.win 3).blk t).view.read (Elt Ideal) (G m c) := by
  obtain ⟨-, -, -, -, -, -, e0, e1⟩ := index_facts t
  rw [Value.flushed3_A m c t, out_eq]
  funext y
  obtain ⟨p, j, rfl⟩ : ∃ (p : Fin 1024) (j : Fin 1280), y = ix2 p j := ⟨y 0, y 1, by funext a; fin_cases a <;> rfl⟩
  have e : ((cfg0.win 3).blk t).view.emb (ix2 p j) = ix2 (row t p) (col t j) := by
    funext a
    match a with
    | ⟨0, _⟩ => exact Fin.ext (by show win0_3.index t (0 : Fin 2) * 1024 + 1 * p.val = t.val / 2 * 1024 + p.val; rw [e0]; omega)
    | ⟨1, _⟩ => exact Fin.ext (by show win0_3.index t (1 : Fin 2) * 1280 + 1 * j.val = t.val % 2 * 1280 + j.val; rw [e1]; omega)
  refine (pay_apply _ _ _ p j).trans ?_
  show _ = G m c (((cfg0.win 3).blk t).view.emb (ix2 p j))
  rw [e]
  exact congrArg₂ (· + ·) (Finset.sum_congr rfl fun k _ => congrArg₂ (· * ·) (block_x m c t p k) (part_apply m c t j k)) (block_b m c t j)

theorem covered (i : S8192x2560.Idx) : ∃ t : Fin cfg0.N, (cfg0.win 3).flush t = true ∧ i ∈ ((cfg0.win 3).blk t).view.set := by
  have h0 : (i 0).val < 8192 := (i 0).isLt
  have h1 : (i 1).val < 2560 := (i 1).isLt
  obtain ⟨t, ht⟩ : ∃ t : Fin cfg0.N, t.val = (i 0).val / 1024 * 2 + (i 1).val / 1280 := ⟨⟨(i 0).val / 1024 * 2 + (i 1).val / 1280, lt_of_lt_of_eq (by omega) N_0.symm⟩, rfl⟩
  obtain ⟨-, -, -, -, -, -, e0, e1⟩ := index_facts t
  refine ⟨t, flush0_3 t, ?_⟩
  have e : ((cfg0.win 3).blk t).view.emb (ix2 (⟨(i 0).val % 1024, by omega⟩ : Fin 1024) (⟨(i 1).val % 1280, by omega⟩ : Fin 1280)) = i := by
    funext a
    match a with
    | ⟨0, _⟩ => exact Fin.ext (by show win0_3.index t (0 : Fin 2) * 1024 + 1 * ((i 0).val % 1024) = (i 0).val; rw [e0, ht]; omega)
    | ⟨1, _⟩ => exact Fin.ext (by show win0_3.index t (1 : Fin 2) * 1280 + 1 * ((i 1).val % 1280) = (i 1).val; rw [e1, ht]; omega)
  rw [← e]
  exact View.emb_mem_set _ _

/-- The kernel's run: the result is that array, the arguments are as launched. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t _ => flushed_eq m c t) covered), (h c).2⟩) (Value.run_blocks m ρ)

/-- The reference's value at an index: the same sum. -/
theorem reference_eq (c : Dev nD) :
    Cert.Reference18Ideal.Read.val_main_v7 (F := Ideal) (fx m c) (fw m c) (fb m c) = G m c := by
  funext i
  obtain ⟨p, j, rfl⟩ : ∃ (p : Fin 8192) (j : Fin 2560), i = ix2 p j := ⟨i 0, i 1, by funext a; fin_cases a <;> rfl⟩
  unfold Cert.Reference18Ideal.Read.val_main_v7 Cert.Reference18Ideal.Read.val_main_v6 Cert.Reference18Ideal.Read.val_main_v5 Cert.Reference18Ideal.Read.val_main_v4 Cert.Reference18Ideal.Read.val_main_v3 Cert.Reference18Ideal.Read.val_main_v2 Cert.Reference18Ideal.Read.val_main_v1 Cert.Reference18Ideal.Read.val_main_v0 G
  pointwise

end Cert.Kernel18Ideal.LruIn

end
-- ==== Proof.LruOutLn.Value.lean ====
/- The recurrence's output projection with the two layer norms around it: what one point of the grid leaves in its
   two outputs, and the arrays the run leaves, as functions of the arguments. -/
module

public import proofs.«01_k».proof.Proof.Gen.Kernel19Ideal.Value
public import Idealize.ShloMosaic.Lib.Pipeline.Value
public import Idealize.ShloMosaic.Lib.Tactic
public import Idealize.ShloMosaic.Lib.Pointwise
public import proofs.«01_k».proof.Proof.Up.Row

@[expose] public section

set_option maxRecDepth 16384

noncomputable section

namespace Cert.Kernel19Ideal.LruOutLn

open Cert.Kernel19Ideal Cert.Kernel19Ideal.Gen Idealize.ShloMosaic Idealize.ShloMosaic.TcCoe Idealize.SL.Sem
open Idealize.ShloMosaic.Pipeline (Dat)
open Cert.Kernel3Ideal.Up (ctr vare rstd nrm)

theorem zero2 : (![0, 0] : Fin 2 → Nat) = fun _ => 0 := funext fun a => by fin_cases a <;> rfl

section point

variable {F : FTy → Type} [FloatOps F]
variable (x0 : Vec F S1024x1280 .bf16) (x1 : Vec F S1280x1024 .bf16) (x2 : Vec F S1024x1024 .f32)
  (x3 x4 x5 x6 : Vec F S1x1024 .f32)

/-- The sum of the scaled norm and the product, … -/
theorem out_z : out0_7 x0 x1 x2 x3 x4 x5 x6 = k0_pay2 x2 x5 x6 x0 x1 := by
  unfold out0_7
  rw [View.canon_unit_zero zero2, View.ld_unit_zero (S := S1024x1024) zero2, View.ld_unit_zero (S := S1x1024) zero2, View.ld_unit_zero (S := S1x1024) zero2, View.ld_unit_zero (S := S1024x1280) zero2, View.ld_unit_zero (S := S1280x1024) zero2]

/-- … and its norm, rounded. -/
theorem out_h : out0_8 x0 x1 x2 x3 x4 x5 x6 = k0_pay1 (k0_pay2 x2 x5 x6 x0 x1) x3 x4 (k0_pay3 x2 x5 x6 x0 x1) := by
  unfold out0_8
  rw [View.canon_unit_zero zero2, View.ld_unit_zero (S := S1024x1024) zero2, View.ld_unit_zero (S := S1x1024) zero2, View.ld_unit_zero (S := S1x1024) zero2, View.ld_unit_zero (S := S1x1024) zero2, View.ld_unit_zero (S := S1x1024) zero2, View.ld_unit_zero (S := S1024x1280) zero2, View.ld_unit_zero (S := S1280x1024) zero2]

end point

/-! The values at an index, as extended reals. -/

theorem pay2_apply (r : Vec Ideal S1024x1024 .f32) (g b : Vec Ideal S1x1024 .f32) (x : Vec Ideal S1024x1280 .bf16) (w : Vec Ideal S1280x1024 .bf16) (p j : Fin 1024) :
    k0_pay2 r g b x w (ix2 p j) = Ideal.ofBits .f32 0x3FD744FD#32 * (nrm (fun k => r (ix2 p k)) j * g (ix2 0 j) + b (ix2 0 j))
      + ∑ k : Fin 1280, x (ix2 p k) * w (ix2 k j) := by
  unfold k0_pay2 nrm rstd vare ctr
  pointwise

theorem pay3_apply (r : Vec Ideal S1024x1024 .f32) (g b : Vec Ideal S1x1024 .f32) (x : Vec Ideal S1024x1280 .bf16) (w : Vec Ideal S1280x1024 .bf16) (p : Fin 1024) (q : Fin 1) :
    k0_pay3 r g b x w (ix2 p q) = ∑ k, k0_pay2 r g b x w (ix2 p k) := by
  unfold k0_pay3
  pointwise

theorem pay1_apply (z : FVec Ideal S1024x1024 .f32) (g b : Vec Ideal S1x1024 .f32) (s : FVec Ideal S1024x1 .f32) (p j : Fin 1024)
    (hs : s (ix2 p 0) = ∑ k, z (ix2 p k)) :
    (k0_pay1 z g b s : FVec Ideal S1024x1024 .bf16) (ix2 p j) = nrm (fun k => z (ix2 p k)) j * g (ix2 0 j) + b (ix2 0 j) := by
  unfold k0_pay1 nrm rstd vare ctr
  pointwise
  rw [hs]

variable (m : (ℓ : Loc nD τ sig) → Buf (Elt Ideal) ℓ) (ρ : Dev nD → PrngReg)

/-- The arguments: the mixer's output, the weight, the residual before its norm, the scale and shift of the norm of the sum, and those of
    the norm of the residual. -/
abbrev fa (c : Dev nD) : Vec Ideal S8192x1280 .bf16 := m ((c : Thread nD τ).loc main_arg0)
abbrev fw (c : Dev nD) : Vec Ideal S1280x1024 .bf16 := m ((c : Thread nD τ).loc main_arg1)
abbrev fr (c : Dev nD) : Vec Ideal S8192x1024 .f32 := m ((c : Thread nD τ).loc main_arg2)
abbrev fg (c : Dev nD) : Vec Ideal S1x1024 .f32 := m ((c : Thread nD τ).loc main_arg3)
abbrev fb (c : Dev nD) : Vec Ideal S1x1024 .f32 := m ((c : Thread nD τ).loc main_arg4)
abbrev fgr (c : Dev nD) : Vec Ideal S1x1024 .f32 := m ((c : Thread nD τ).loc main_arg5)
abbrev fbr (c : Dev nD) : Vec Ideal S1x1024 .f32 := m ((c : Thread nD τ).loc main_arg6)

/-- The sum of the scaled norm of the residual and the product, at a row and a column, … -/
def z (c : Dev nD) (r : Fin 8192) (j : Fin 1024) : EReal :=
  Ideal.ofBits .f32 0x3FD744FD#32 * (nrm (fun k => fr m c (ix2 r k)) j * fgr m c (ix2 0 j) + fbr m c (ix2 0 j))
    + ∑ k : Fin 1280, fa m c (ix2 r k) * fw m c (ix2 k j)
/-- … and its norm. -/
def h (c : Dev nD) (r : Fin 8192) (j : Fin 1024) : EReal := nrm (z m c r) j * fg m c (ix2 0 j) + fb m c (ix2 0 j)

/-- Where the blocks of point `t` lie. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem index_rows : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The row of the arrays that row `p` of point `t`'s block is. -/
def at_ (t : Fin cfg0.N) (p : Fin 1024) : Fin 8192 :=
  ⟨t.val * 1024 + p.val, by have h : t.val < 8 := lt_of_lt_of_eq t.isLt N_0; have := p.isLt; omega⟩

theorem block_a (c : Dev nD) (t : Fin cfg0.N) (p : Fin 1024) (k : Fin 1280) :
    (iblk m c 0 t : Vec Ideal S1024x1280 .bf16) (ix2 p k) = fa m c (ix2 (at_ t p) k) := by
  obtain ⟨e0, e1, -⟩ := index_facts t
  show fa m c (((cfg0.win 0).blk t).view.emb (ix2 p k)) = _
  congr 1
  funext a
  match a with
  | ⟨0, _⟩ => exact Fin.ext (by show win0_0.index t (0 : Fin 2) * 1024 + 1 * p.val = _; rw [e0, one_mul]; rfl)
  | ⟨1, _⟩ => exact Fin.ext (by show win0_0.index t (1 : Fin 2) * 1280 + 1 * k.val = _; rw [e1, one_mul, Nat.zero_mul, Nat.zero_add]; rfl)

theorem block_w (c : Dev nD) (t : Fin cfg0.N) (p : Fin 1280) (k : Fin 1024) :
    (iblk m c 1 t : Vec Ideal S1280x1024 .bf16) (ix2 p k) = fw m c (ix2 p k) := by
  obtain ⟨-, -, e0, e1, -⟩ := index_facts t
  show fw m c (((cfg0.win 1).blk t).view.emb (ix2 p k)) = _
  congr 1
  funext a
  match a with
  | ⟨0, _⟩ => exact Fin.ext (by show win0_1.index t (0 : Fin 2) * 1280 + 1 * p.val = _; rw [e0, one_mul, Nat.zero_mul, Nat.zero_add]; rfl)
  | ⟨1, _⟩ => exact Fin.ext (by show win0_1.index t (1 : Fin 2) * 1024 + 1 * k.val = _; rw [e1, one_mul, Nat.zero_mul, Nat.zero_add]; rfl)

theorem block_r (c : Dev nD) (t : Fin cfg0.N) (p : Fin 1024) (k : Fin 1024) :
    (iblk m c 2 t : Vec Ideal S1024x1024 .f32) (ix2 p k) = fr m c (ix2 (at_ t p) k) := by
  obtain ⟨-, -, -, -, e0, e1, -⟩ := index_facts t
  show fr m c (((cfg0.win 2).blk t).view.emb (ix2 p k)) = _
  congr 1
  funext a
  match a with
  | ⟨0, _⟩ => exact Fin.ext (by show win0_2.index t (0 : Fin 2) * 1024 + 1 * p.val = _; rw [e0, one_mul]; rfl)
  | ⟨1, _⟩ => exact Fin.ext (by show win0_2.index t (1 : Fin 2) * 1024 + 1 * k.val = _; rw [e1, one_mul, Nat.zero_mul, Nat.zero_add]; rfl)

theorem block_g (c : Dev nD) (t : Fin cfg0.N) (p : Fin 1) (k : Fin 1024) :
    (iblk m c 3 t : Vec Ideal S1x1024 .f32) (ix2 p k) = fg m c (ix2 p k) := by
  obtain ⟨e0, e1, -⟩ := index_rows t
  show fg m c (((cfg0.win 3).blk t).view.emb (ix2 p k)) = _
  congr 1
  funext a
  match a with
  | ⟨0, _⟩ => exact Fin.ext (by show win0_3.index t (0 : Fin 2) * 1 + 1 * p.val = _; rw [e0, one_mul, Nat.zero_mul, Nat.zero_add]; rfl)
  | ⟨1, _⟩ => exact Fin.ext (by show win0_3.index t (1 : Fin 2) * 1024 + 1 * k.val = _; rw [e1, one_mul, Nat.zero_mul, Nat.zero_add]; rfl)

theorem block_b (c : Dev nD) (t : Fin cfg0.N) (p : Fin 1) (k : Fin 1024) :
    (iblk m c 4 t : Vec Ideal S1x1024 .f32) (ix2 p k) = fb m c (ix2 p k) := by
  obtain ⟨-, -, e0, e1, -⟩ := index_rows t
  show fb m c (((cfg0.win 4).blk t).view.emb (ix2 p k)) = _
  congr 1
  funext a
  match a with
  | ⟨0, _⟩ => exact Fin.ext (by show win0_4.index t (0 : Fin 2) * 1 + 1 * p.val = _; rw [e0, one_mul, Nat.zero_mul, Nat.zero_add]; rfl)
  | ⟨1, _⟩ => exact Fin.ext (by show win0_4.index t (1 : Fin 2) * 1024 + 1 * k.val = _; rw [e1, one_mul, Nat.zero_mul, Nat.zero_add]; rfl)

theorem block_gr (c : Dev nD) (t : Fin cfg0.N) (p : Fin 1) (k : Fin 1024) :
    (iblk m c 5 t : Vec Ideal S1x1024 .f32) (ix2 p k) = fgr m c (ix2 p k) := by
  obtain ⟨-, -, -, -, e0, e1, -⟩ := index_rows t
  show fgr m c (((cfg0.win 5).blk t).view.emb (ix2 p k)) = _
  congr 1
  funext a
  match a with
  | ⟨0, _⟩ => exact Fin.ext (by show win0_5.index t (0 : Fin 2) * 1 + 1 * p.val = _; rw [e0, one_mul, Nat.zero_mul, Nat.zero_add]; rfl)
  | ⟨1, _⟩ => exact Fin.ext (by show win0_5.index t (1 : Fin 2) * 1024 + 1 * k.val = _; rw [e1, one_mul, Nat.zero_mul, Nat.zero_add]; rfl)

theorem block_br (c : Dev nD) (t : Fin cfg0.N) (p : Fin 1) (k : Fin 1024) :
    (iblk m c 6 t : Vec Ideal S1x1024 .f32) (ix2 p k) = fbr m c (ix2 p k) := by
  obtain ⟨-, -, -, -, -, -, e0, e1⟩ := index_rows t
  show fbr m c (((cfg0.win 6).blk t).view.emb (ix2 p k)) = _
  congr 1
  funext a
  match a with
  | ⟨0, _⟩ => exact Fin.ext (by show win0_6.index t (0 : Fin 2) * 1 + 1 * p.val = _; rw [e0, one_mul, Nat.zero_mul, Nat.zero_add]; rfl)
  | ⟨1, _⟩ => exact Fin.ext (by show win0_6.index t (1 : Fin 2) * 1024 + 1 * k.val = _; rw [e1, one_mul, Nat.zero_mul, Nat.zero_add]; rfl)

/-! What one point computes, at an index. -/

abbrev pz (c : Dev nD) (t : Fin cfg0.N) : FVec Ideal S1024x1024 .f32 :=
  k0_pay2 (iblk m c 2 t) (iblk m c 5 t) (iblk m c 6 t) (iblk m c 0 t) (iblk m c 1 t)

theorem point_z (c : Dev nD) (t : Fin cfg0.N) (p j : Fin 1024) : pz m c t (ix2 p j) = z m c (at_ t p) j := by
  unfold z
  refine (pay2_apply _ _ _ _ _ p j).trans ?_
  simp only [block_a, block_w, block_r, block_gr, block_br]

theorem point_h (c : Dev nD) (t : Fin cfg0.N) (p j : Fin 1024) :
    (k0_pay1 (pz m c t) (iblk m c 3 t) (iblk m c 4 t) (k0_pay3 (iblk m c 2 t) (iblk m c 5 t) (iblk m c 6 t) (iblk m c 0 t) (iblk m c 1 t)) : FVec Ideal S1024x1024 .bf16) (ix2 p j)
      = h m c (at_ t p) j := by
  unfold h
  refine (pay1_apply _ _ _ _ p j (pay3_apply _ _ _ _ _ p 0)).trans ?_
  rw [block_g, block_b]
  simp only [point_z]

/-! The arrays the run leaves. -/

def Gz (c : Dev nD) : Vec Ideal S8192x1024 .f32 := fun i => z m c (i 0) (i 1)
def Gh (c : Dev nD) : Vec Ideal S8192x1024 .bf16 := fun i => h m c (i 0) (i 1)

theorem flushed_z (c : Dev nD) (t : Fin cfg0.N) :
    (dats m 0 c).flushed 7 t = ((cfg0.win 7).blk t).view.read (Elt Ideal) (Gz m c) := by
  obtain ⟨-, -, -, -, -, -, e0, e1, -⟩ := index_facts t
  rw [Value.flushed7 m c t, out_z]
  funext y
  obtain ⟨p, j, rfl⟩ : ∃ (p : Fin 1024) (j : Fin 1024), y = ix2 p j := ⟨y 0, y 1, by funext a; fin_cases a <;> rfl⟩
  refine (point_z m c t p j).trans ?_
  show _ = Gz m c (((cfg0.win 7).blk t).view.emb (ix2 p j))
  have q : ((cfg0.win 7).blk t).view.emb (ix2 p j) = ix2 (at_ t p) j := by
    funext a
    match a with
    | ⟨0, _⟩ => exact Fin.ext (by show win0_7.index t (0 : Fin 2) * 1024 + 1 * p.val = _; rw [e0, one_mul]; rfl)
    | ⟨1, _⟩ => exact Fin.ext (by show win0_7.index t (1 : Fin 2) * 1024 + 1 * j.val = _; rw [e1, one_mul, Nat.zero_mul, Nat.zero_add]; rfl)
  rw [q]
  rfl

theorem covered_z (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  obtain ⟨t, ht⟩ : ∃ t : Fin cfg0.N, t.val = (i 0).val / 1024 := ⟨⟨(i 0).val / 1024, lt_of_lt_of_eq (by omega) N_0.symm⟩, rfl⟩
  obtain ⟨-, -, -, -, -, -, e0, e1, -⟩ := index_facts t
  refine ⟨t, flush0_7 t, ?_⟩
  have e : ((cfg0.win 7).blk t).view.emb (ix2 (⟨(i 0).val % 1024, by omega⟩ : Fin 1024) (⟨(i 1).val, h1⟩ : Fin 1024)) = i := by
    funext a
    match a with
    | ⟨0, _⟩ => exact Fin.ext (by show win0_7.index t (0 : Fin 2) * 1024 + 1 * ((i 0).val % 1024) = (i 0).val; rw [e0, ht]; omega)
    | ⟨1, _⟩ => exact Fin.ext (by show win0_7.index t (1 : Fin 2) * 1024 + 1 * (i 1).val = (i 1).val; rw [e1]; omega)
  rw [← e]
  exact View.emb_mem_set _ _

theorem flushed_h (c : Dev nD) (t : Fin cfg0.N) :
    (dats m 0 c).flushed 8 t = ((cfg0.win 8).blk t).view.read (Elt Ideal) (Gh m c) := by
  obtain ⟨-, -, -, -, -, -, -, -, e0, e1⟩ := index_facts t
  rw [Value.flushed8 m c t, out_h]
  funext y
  obtain ⟨p, j, rfl⟩ : ∃ (p : Fin 1024) (j : Fin 1024), y = ix2 p j := ⟨y 0, y 1, by funext a; fin_cases a <;> rfl⟩
  refine (point_h m c t p j).trans ?_
  show _ = Gh m c (((cfg0.win 8).blk t).view.emb (ix2 p j))
  have q : ((cfg0.win 8).blk t).view.emb (ix2 p j) = ix2 (at_ t p) j := by
    funext a
    match a with
    | ⟨0, _⟩ => exact Fin.ext (by show win0_8.index t (0 : Fin 2) * 1024 + 1 * p.val = _; rw [e0, one_mul]; rfl)
    | ⟨1, _⟩ => exact Fin.ext (by show win0_8.index t (1 : Fin 2) * 1024 + 1 * j.val = _; rw [e1, one_mul, Nat.zero_mul, Nat.zero_add]; rfl)
  rw [q]
  rfl

theorem covered_h (i : S8192x1024.Idx) : ∃ t : Fin cfg0.N, (cfg0.win 8).flush t = true ∧ i ∈ ((cfg0.win 8).blk t).view.set := by
  have h0 : (i 0).val < 8192 := (i 0).isLt
  have h1 : (i 1).val < 1024 := (i 1).isLt
  obtain ⟨t, ht⟩ : ∃ t : Fin cfg0.N, t.val = (i 0).val / 1024 := ⟨⟨(i 0).val / 1024, lt_of_lt_of_eq (by omega) N_0.symm⟩, rfl⟩
  obtain ⟨-, -, -, -, -, -, -, -, e0, e1⟩ := index_facts t
  refine ⟨t, flush0_8 t, ?_⟩
  have e : ((cfg0.win 8).blk t).view.emb (ix2 (⟨(i 0).val % 1024, by omega⟩ : Fin 1024) (⟨(i 1).val, h1⟩ : Fin 1024)) = i := by
    funext a
    match a with
    | ⟨0, _⟩ => exact Fin.ext (by show win0_8.index t (0 : Fin 2) * 1024 + 1 * ((i 0).val % 1024) = (i 0).val; rw [e0, ht]; omega)
    | ⟨1, _⟩ => exact Fin.ext (by show win0_8.index t (1 : Fin 2) * 1024 + 1 * (i 1).val = (i 1).val; rw [e1]; omega)
  rw [← e]
  exact View.emb_mem_set _ _

/-- The kernel's run: the two results, the arguments as launched. -/
theorem run : θ_run defs (onTc (τ := τ) (main (F := Ideal))) ⟨m, fun _ => 0, ρ⟩ fun r => ∀ c : Dev nD,
      r.2.mem ((c : Thread nD τ).loc main_v0_0) = Gz m c
      ∧ r.2.mem ((c : Thread nD τ).loc main_v0_1) = Gh m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨(h c).1.trans ((dats m 0 c).arrAt_eq_of_cover 7 _ (fun t _ => flushed_z m c t) covered_z),
      (h c).2.1.trans ((dats m 0 c).arrAt_eq_of_cover 8 _ (fun t _ => flushed_h m c t) covered_h),
      (h c).2.2⟩)
    (Value.run_blocks m ρ)

end Cert.Kernel19Ideal.LruOutLn

end
-- ==== Proof.LruOutLn.Equation.lean ====
/- The recurrence's output projection with the two norms around it: the reference's two results are the arrays the kernel's run leaves. -/
module

public import proofs.«01_k».proof.Proof.LruOutLn.Value
public import proofs.«01_k».proof.Proof.Gen.Reference19Ideal.Read

@[expose] public section

set_option maxRecDepth 16384

noncomputable section

namespace Cert.Kernel19Ideal.LruOutLn

open Cert.Kernel19Ideal Cert.Kernel19Ideal.Gen Idealize.ShloMosaic Idealize.ShloMosaic.TcCoe Idealize.SL.Sem
open Cert.Kernel3Ideal.Up (ctr vare rstd nrm)
open Cert.Reference19Ideal.Read

section stages

open Cert.Reference19Ideal (S8192x1280 S1280x1024 S8192x1024 S1x1024)

variable (x0 : (⟨S8192x1280, .bf16⟩ : BufTy).Contents (Elt Ideal)) (x1 : (⟨S1280x1024, .bf16⟩ : BufTy).Contents (Elt Ideal))
  (x2 : (⟨S8192x1024, .f32⟩ : BufTy).Contents (Elt Ideal)) (x3 x4 x5 x6 : (⟨S1x1024, .f32⟩ : BufTy).Contents (Elt Ideal))

/-- The norm of the residual, … -/
theorem ctr_in (r : Fin 8192) (j : Fin 1024) : val_main_v7 (F := Ideal) x2 (ix2 r j) = ctr (fun k => x2 (ix2 r k)) j := by
  unfold ctr
  unfold val_main_v7 val_main_v6 val_main_v5 val_main_v4 val_main_v3 val_main_v2
  pointwise [val_main_cst, val_main_cst_0]

theorem ctr_in' (r : Fin 8192) (j : Fin 1024) : val_main_v14 (F := Ideal) x2 (ix2 r j) = ctr (fun k => x2 (ix2 r k)) j := ctr_in x2 r j

theorem rstd_in (r : Fin 8192) (j : Fin 1) : val_main_v17 (F := Ideal) x2 (ix2 r j) = rstd (fun k => x2 (ix2 r k)) := by
  unfold rstd vare
  unfold val_main_v17 val_main_v16 val_main_v15 val_main_v12 val_main_v11 val_main_v10 val_main_v9 val_main_v8
  pointwise [val_main_cst_1, val_main_cst_2, val_main_cst_3]
  simp only [ctr_in]

theorem norm_in (r : Fin 8192) (j : Fin 1024) :
    val_main_v25 (F := Ideal) x2 x5 x6 (ix2 r j) = nrm (fun k => x2 (ix2 r k)) j * x5 (ix2 0 j) + x6 (ix2 0 j) := by
  unfold nrm
  unfold val_main_v25 val_main_v24 val_main_v23 val_main_v22 val_main_v21 val_main_v20 val_main_v19 val_main_v18 val_main_v1 val_main_v0
  pointwise
  rw [ctr_in', rstd_in]

/-- … the sum, … -/
theorem sum_eq (r : Fin 8192) (j : Fin 1024) :
    val_main_v31 (F := Ideal) x0 x1 x2 x5 x6 (ix2 r j)
      = Ideal.ofBits .f32 0x3FD744FD#32 * (nrm (fun k => x2 (ix2 r k)) j * x5 (ix2 0 j) + x6 (ix2 0 j)) + ∑ k : Fin 1280, x0 (ix2 r k) * x1 (ix2 k j) := by
  unfold val_main_v31 val_main_v30 val_main_v29 val_main_v28 val_main_v27 val_main_v26
  pointwise [val_main_cst_4]
  rw [norm_in]

/-- … and its norm. -/
theorem ctr_out (r : Fin 8192) (j : Fin 1024) :
    val_main_v39 (F := Ideal) x0 x1 x2 x5 x6 (ix2 r j) = ctr (fun k => val_main_v31 (F := Ideal) x0 x1 x2 x5 x6 (ix2 r k)) j := by
  unfold ctr
  unfold val_main_v39 val_main_v38 val_main_v37 val_main_v36 val_main_v35 val_main_v34
  pointwise [val_main_cst_5, val_main_cst_6]

theorem ctr_out' (r : Fin 8192) (j : Fin 1024) :
    val_main_v46 (F := Ideal) x0 x1 x2 x5 x6 (ix2 r j) = ctr (fun k => val_main_v31 (F := Ideal) x0 x1 x2 x5 x6 (ix2 r k)) j := ctr_out x0 x1 x2 x5 x6 r j

theorem rstd_out (r : Fin 8192) (j : Fin 1) :
    val_main_v49 (F := Ideal) x0 x1 x2 x5 x6 (ix2 r j) = rstd (fun k => val_main_v31 (F := Ideal) x0 x1 x2 x5 x6 (ix2 r k)) := by
  unfold rstd vare
  unfold val_main_v49 val_main_v48 val_main_v47 val_main_v44 val_main_v43 val_main_v42 val_main_v41 val_main_v40
  pointwise [val_main_cst_7, val_main_cst_8, val_main_cst_9]
  simp only [ctr_out]

theorem norm_out (r : Fin 8192) (j : Fin 1024) :
    (val_main_v58 (F := Ideal) x0 x1 x2 x3 x4 x5 x6 : FVec Ideal S8192x1024 .bf16) (ix2 r j)
      = nrm (fun k => val_main_v31 (F := Ideal) x0 x1 x2 x5 x6 (ix2 r k)) j * x3 (ix2 0 j) + x4 (ix2 0 j) := by
  unfold nrm
  unfold val_main_v58 val_main_v57 val_main_v56 val_main_v55 val_main_v54 val_main_v53 val_main_v52 val_main_v51 val_main_v50 val_main_v33 val_main_v32
  pointwise
  rw [ctr_out', rstd_out]

end stages

variable (m : (ℓ : Loc nD τ sig) → Buf (Elt Ideal) ℓ)

theorem reference_z (c : Dev nD) : val_main_v31 (F := Ideal) (fa m c) (fw m c) (fr m c) (fgr m c) (fbr m c) = Gz m c := by
  funext i
  obtain ⟨r, j, rfl⟩ : ∃ (r : Fin 8192) (j : Fin 1024), i = ix2 r j := ⟨i 0, i 1, by funext a; fin_cases a <;> rfl⟩
  exact sum_eq _ _ _ _ _ r j

theorem reference_h (c : Dev nD) : val_main_v58 (F := Ideal) (fa m c) (fw m c) (fr m c) (fg m c) (fb m c) (fgr m c) (fbr m c) = Gh m c := by
  funext i
  obtain ⟨r, j, rfl⟩ : ∃ (r : Fin 8192) (j : Fin 1024), i = ix2 r j := ⟨i 0, i 1, by funext a; fin_cases a <;> rfl⟩
  refine (norm_out _ _ _ _ _ _ _ r j).trans ?_
  simp only [sum_eq]
  rfl

end Cert.Kernel19Ideal.LruOutLn

end
-- ==== Proof.ScOutLn.Value.lean ====
/- The gated convolution's output projection with the two layer norms around it: what one point of the grid leaves in its
   two outputs, and the arrays the run leaves, as functions of the arguments. -/
module

public import proofs.«01_k».proof.Proof.Gen.Kernel20Ideal.Value
public import Idealize.ShloMosaic.Lib.Pipeline.Value
public import Idealize.ShloMosaic.Lib.Tactic
public import Idealize.ShloMosaic.Lib.Pointwise
public import proofs.«01_k».proof.Proof.Up.Row

@[expose] public section

set_option maxRecDepth 16384

noncomputable section

namespace Cert.Kernel20Ideal.ScOutLn

open Cert.Kernel20Ideal Cert.Kernel20Ideal.Gen Idealize.ShloMosaic Idealize.ShloMosaic.TcCoe Idealize.SL.Sem
open Idealize.ShloMosaic.Pipeline (Dat)
open Cert.Kernel3Ideal.Up (ctr vare rstd nrm)

theorem zero2 : (![0, 0] : Fin 2 → Nat) = fun _ => 0 := funext fun a => by fin_cases a <;> rfl

section point

variable {F : FTy → Type} [FloatOps F]
variable (x0 : Vec F S1024x1024 .bf16) (x1 : Vec F S1024x1024 .bf16) (x2 : Vec F S1024x1024 .f32)
  (x3 x4 x5 x6 : Vec F S1x1024 .f32)

/-- The sum of the scaled norm and the product, … -/
theorem out_z : out0_7 x0 x1 x2 x3 x4 x5 x6 = k0_pay2 x2 x5 x6 x0 x1 := by
  unfold out0_7
  rw [View.canon_unit_zero zero2, View.ld_unit_zero (S := S1024x1024) zero2, View.ld_unit_zero (S := S1x1024) zero2, View.ld_unit_zero (S := S1x1024) zero2, View.ld_unit_zero (S := S1024x1024) zero2, View.ld_unit_zero (S := S1024x1024) zero2]

/-- … and its norm, rounded. -/
theorem out_h : out0_8 x0 x1 x2 x3 x4 x5 x6 = k0_pay1 (k0_pay2 x2 x5 x6 x0 x1) x3 x4 (k0_pay3 x2 x5 x6 x0 x1) := by
  unfold out0_8
  rw [View.canon_unit_zero zero2, View.ld_unit_zero (S := S1024x1024) zero2, View.ld_unit_zero (S := S1x1024) zero2, View.ld_unit_zero (S := S1x1024) zero2, View.ld_unit_zero (S := S1x1024) zero2, View.ld_unit_zero (S := S1x1024) zero2, View.ld_unit_zero (S := S1024x1024) zero2, View.ld_unit_zero (S := S1024x1024) zero2]

end point

/-! The values at an index, as extended reals. -/

theorem pay2_apply (r : Vec Ideal S1024x1024 .f32) (g b : Vec Ideal S1x1024 .f32) (x : Vec Ideal S1024x1024 .bf16) (w : Vec Ideal S1024x1024 .bf16) (p j : Fin 1024) :
    k0_pay2 r g b x w (ix2 p j) = Ideal.ofBits .f32 0x3FD744FD#32 * (nrm (fun k => r (ix2 p k)) j * g (ix2 0 j) + b (ix2 0 j))
      + ∑ k : Fin 1024, x (ix2 p k) * w (ix2 k j) := by
  unfold k0_pay2 nrm rstd vare ctr
  pointwise

theorem pay3_apply (r : Vec Ideal S1024x1024 .f32) (g b : Vec Ideal S1x1024 .f32) (x : Vec Ideal S1024x1024 .bf16) (w : Vec Ideal S1024x1024 .bf16) (p : Fin 1024) (q : Fin 1) :
    k0_pay3 r g b x w (ix2 p q) = ∑ k, k0_pay2 r g b x w (ix2 p k) := by
  unfold k0_pay3
  pointwise

theorem pay1_apply (z : FVec Ideal S1024x1024 .f32) (g b : Vec Ideal S1x1024 .f32) (s : FVec Ideal S1024x1 .f32) (p j : Fin 1024)
    (hs : s (ix2 p 0) = ∑ k, z (ix2 p k)) :
    (k0_pay1 z g b s : FVec Ideal S1024x1024 .bf16) (ix2 p j) = nrm (fun k => z (ix2 p k)) j * g (ix2 0 j) + b (ix2 0 j) := by
  unfold k0_pay1 nrm rstd vare ctr
  pointwise
  rw [hs]

variable (m : (ℓ : Loc nD τ sig) → Buf (Elt Ideal) ℓ) (ρ : Dev nD → PrngReg)

/-- The arguments: the mixer's output, the weight, the residual before its norm, the scale and shift of the norm of the sum, and those of
    the norm of the residual. -/
abbrev fa (c : Dev nD) : Vec Ideal S8192x1024 .bf16 := m ((c : Thread nD τ).loc main_arg0)
abbrev fw (c : Dev nD) : Vec Ideal S1024x1024 .bf16 := m ((c : Thread nD τ).loc main_arg1)
abbrev fr (c : Dev nD) : Vec Ideal S8192x1024 .f32 := m ((c : Thread nD τ).loc main_arg2)
abbrev fg (c : Dev nD) : Vec Ideal S1x1024 .f32 := m ((c : Thread nD τ).loc main_arg3)
abbrev fb (c : Dev nD) : Vec Ideal S1x1024 .f32 := m ((c : Thread nD τ).loc main_arg4)
abbrev fgr (c : Dev nD) : Vec Ideal S1x1024 .f32 := m ((c : Thread nD τ).loc main_arg5)
abbrev fbr (c : Dev nD) : Vec Ideal S1x1024 .f32 := m ((c : Thread nD τ).loc main_arg6)

/-- The sum of the scaled norm of the residual and the product, at a row and a column, … -/
def z (c : Dev nD) (r : Fin 8192) (j : Fin 1024) : EReal :=
  Ideal.ofBits .f32 0x3FD744FD#32 * (nrm (fun k => fr m c (ix2 r k)) j * fgr m c (ix2 0 j) + fbr m c (ix2 0 j))
    + ∑ k : Fin 1024, fa m c (ix2 r k) * fw m c (ix2 k j)
/-- … and its norm. -/
def h (c : Dev nD) (r : Fin 8192) (j : Fin 1024) : EReal := nrm (z m c r) j * fg m c (ix2 0 j) + fb m c (ix2 0 j)

/-- Where the blocks of point `t` lie. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem index_rows : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The row of the arrays that row `p` of point `t`'s block is. -/
def at_ (t : Fin cfg0.N) (p : Fin 1024) : Fin 8192 :=
  ⟨t.val * 1024 + p.val, by have h : t.val < 8 := lt_of_lt_of_eq t.isLt N_0; have := p.isLt; omega⟩

theorem block_a (c : Dev nD) (t : Fin cfg0.N) (p : Fin 1024) (k : Fin 1024) :
    (iblk m c 0 t : Vec Ideal S1024x1024 .bf16) (ix2 p k) = fa m c (ix2 (at_ t p) k) := by
  obtain ⟨e0, e1, -⟩ := index_facts t
  show fa m c (((cfg0.win 0).blk t).view.emb (ix2 p k)) = _
  congr 1
  funext a
  match a with
  | ⟨0, _⟩ => exact Fin.ext (by show win0_0.index t (0 : Fin 2) * 1024 + 1 * p.val = _; rw [e0, one_mul]; rfl)
  | ⟨1, _⟩ => exact Fin.ext (by show win0_0.index t (1 : Fin 2) * 1024 + 1 * k.val = _; rw [e1, one_mul, Nat.zero_mul, Nat.zero_add]; rfl)

theorem block_w (c : Dev nD) (t : Fin cfg0.N) (p : Fin 1024) (k : Fin 1024) :
    (iblk m c 1 t : Vec Ideal S1024x1024 .bf16) (ix2 p k) = fw m c (ix2 p k) := by
  obtain ⟨-, -, e0, e1, -⟩ := index_facts t
  show fw m c (((cfg0.win 1).blk t).view.emb (ix2 p k)) = _
  congr 1
  funext a
  match a with
  | ⟨0, _⟩ => exact Fin.ext (by show win0_1.index t (0 : Fin 2) * 1024 + 1 * p.val = _; rw [e0, one_mul, Nat.zero_mul, Nat.zero_add]; rfl)
  | ⟨1, _⟩ => exact Fin.ext (by show win0_1.index t (1 : Fin 2) * 1024 + 1 * k.val = _; rw [e1, one_mul, Nat.zero_mul, Nat.zero_add]; rfl)

theorem block_r (c : Dev nD) (t : Fin cfg0.N) (p : Fin 1024) (k : Fin 1024) :
    (iblk m c 2 t : Vec Ideal S1024x1024 .f32) (ix2 p k) = fr m c (ix2 (at_ t p) k) := by
  obtain ⟨-, -, -, -, e0, e1, -⟩ := index_facts t
  show fr m c (((cfg0.win 2).blk t).view.emb (ix2 p k)) = _
  congr 1
  funext a
  match a with
  | ⟨0, _⟩ => exact Fin.ext (by show win0_2.index t (0 : Fin 2) * 1024 + 1 * p.val = _; rw [e0, one_mul]; rfl)
  | ⟨1, _⟩ => exact Fin.ext (by show win0_2.index t (1 : Fin 2) * 1024 + 1 * k.val = _; rw [e1, one_mul, Nat.zero_mul, Nat.zero_add]; rfl)

theorem block_g (c : Dev nD) (t : Fin cfg0.N) (p : Fin 1) (k : Fin 1024) :
    (iblk m c 3 t : Vec Ideal S1x1024 .f32) (ix2 p k) = fg m c (ix2 p k) := by
  obtain ⟨e0, e1, -⟩ := index_rows t
  show fg m c (((cfg0.win 3).blk t).view.emb (ix2 p k)) = _
  congr 1
  funext a
  match a with
  | ⟨0, _⟩ => exact Fin.ext (by show win0_3.index t (0 : Fin 2) * 1 + 1 * p.val = _; rw [e0, one_mul, Nat.zero_mul, Nat.zero_add]; rfl)
  | ⟨1, _⟩ => exact Fin.ext (by show win0_3.index t (1 : Fin 2) * 1024 + 1 * k.val = _; rw [e1, one_mul, Nat.zero_mul, Nat.zero_add]; rfl)

theorem block_b (c : Dev nD) (t : Fin cfg0.N) (p : Fin 1) (k : Fin 1024) :
    (iblk m c 4 t : Vec Ideal S1x1024 .f32) (ix2 p k) = fb m c (ix2 p k) := by
  obtain ⟨-, -, e0, e1, -⟩ := index_rows t
  show fb m c (((cfg0.win 4).blk t).view.emb (ix2 p k)) = _
  congr 1
  funext a
  match a with
  | ⟨0, _⟩ => exact Fin.ext (by show win0_4.index t (0 : Fin 2) * 1 + 1 * p.val = _; rw [e0, one_mul, Nat.zero_mul, Nat.zero_add]; rfl)
  | ⟨1, _⟩ => exact Fin.ext (by show win0_4.index t (1 : Fin 2) * 1024 + 1 * k.val = _; rw [e1, one_mul, Nat.zero_mul, Nat.zero_add]; rfl)

theorem block_gr (c : Dev nD) (t : Fin cfg0.N) (p : Fin 1) (k : Fin 1024) :
    (iblk m c 5 t : Vec Ideal S1x1024 .f32) (ix2 p k) = fgr m c (ix2 p k) := by
  obtain ⟨-, -, -, -, e0, e1, -⟩ := index_rows t
  show fgr m c (((cfg0.win 5).blk t).view.emb (ix2 p k)) = _
  congr 1
  funext a
  match a with
  | ⟨0, _⟩ => exact Fin.ext (by show win0_5.index t (0 : Fin 2) * 1 + 1 * p.val = _; rw [e0, one_mul, Nat.zero_mul, Nat.zero_add]; rfl)
  | ⟨1, _⟩ => exact Fin.ext (by show win0_5.index t (1 : Fin 2) * 1024 + 1 * k.val = _; rw [e1, one_mul, Nat.zero_mul, Nat.zero_add]; rfl)

theorem block_br (c : Dev nD) (t : Fin cfg0.N) (p : Fin 1) (k : Fin 1024) :
    (iblk m c 6 t : Vec Ideal S1x1024 .f32) (ix2 p k) = fbr m c (ix2 p k) := by
  obtain ⟨-, -, -, -, -, -, e0, e1⟩ := index_rows t
  show fbr m c (((cfg0.win 6).blk t).view.emb (ix2 p k)) = _
  congr 1
  funext a
  match a with
  | ⟨0, _⟩ => exact Fin.ext (by show win0_6.index t (0 : Fin 2) * 1 + 1 * p.val = _; rw [e0, one_mul, Nat.zero_mul, Nat.zero_add]; rfl)
  | ⟨1, _⟩ => exact Fin.ext (by show win0_6.index t (1 : Fin 2) * 1024 + 1 * k.val = _; rw [e1, one_mul, Nat.zero_mul, Nat.zero_add]; rfl)

/-! What one point computes, at an index. -/

abbrev pz (c : Dev nD) (t : Fin cfg0.N) : FVec Ideal S1024x1024 .f32 :=
  k0_pay2 (iblk m c 2 t) (iblk m c 5 t) (iblk m c 6 t) (iblk m c 0 t) (iblk m c 1 t)

theorem point_z (c : Dev nD) (t : Fin cfg0.N) (p j : Fin 1024) : pz m c t (ix2 p j) = z m c (at_ t p) j := by
  unfold z
  refine (pay2_apply _ _ _ _ _ p j).trans ?_
  simp only [block_a, block_w, block_r, block_gr, block_br]

theorem point_h (c : Dev nD) (t : Fin cfg0.N) (p j : Fin 1024) :
    (k0_pay1 (pz m c t) (iblk m c 3 t) (iblk m c 4 t) (k0_pay3 (iblk m c 2 t) (iblk m c 5 t) (iblk m c 6 t) (iblk m c 0 t) (iblk m c 1 t)) : FVec Ideal S1024x1024 .bf16) (ix2 p j)
      = h m c (at_ t p) j := by
  unfold h
  refine (pay1_apply _ _ _ _ p j (pay3_apply _ _ _ _ _ p 0)).trans ?_
  rw [block_g, block_b]
  simp only [point_z]

/-! The arrays the run leaves. -/

def Gz (c : Dev nD) : Vec Ideal S8192x1024 .f32 := fun i => z m c (i 0) (i 1)
def Gh (c : Dev nD) : Vec Ideal S8192x1024 .bf16 := fun i => h m c (i 0) (i 1)

theorem flushed_z (c : Dev nD) (t : Fin cfg0.N) :
    (dats m 0 c).flushed 7 t = ((cfg0.win 7).blk t).view.read (Elt Ideal) (Gz m c) := by
  obtain ⟨-, -, -, -, -, -, e0, e1, -⟩ := index_facts t
  rw [Value.flushed7 m c t, out_z]
  funext y
  obtain ⟨p, j, rfl⟩ : ∃ (p : Fin 1024) (j : Fin 1024), y = ix2 p j := ⟨y 0, y 1, by funext a; fin_cases a <;> rfl⟩
  refine (point_z m c t p j).trans ?_
  show _ = Gz m c (((cfg0.win 7).blk t).view.emb (ix2 p j))
  have q : ((cfg0.win 7).blk t).view.emb (ix2 p j) = ix2 (at_ t p) j := by
    funext a
    match a with
    | ⟨0, _⟩ => exact Fin.ext (by show win0_7.index t (0 : Fin 2) * 1024 + 1 * p.val = _; rw [e0, one_mul]; rfl)
    | ⟨1, _⟩ => exact Fin.ext (by show win0_7.index t (1 : Fin 2) * 1024 + 1 * j.val = _; rw [e1, one_mul, Nat.zero_mul, Nat.zero_add]; rfl)
  rw [q]
  rfl

theorem covered_z (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  obtain ⟨t, ht⟩ : ∃ t : Fin cfg0.N, t.val = (i 0).val / 1024 := ⟨⟨(i 0).val / 1024, lt_of_lt_of_eq (by omega) N_0.symm⟩, rfl⟩
  obtain ⟨-, -, -, -, -, -, e0, e1, -⟩ := index_facts t
  refine ⟨t, flush0_7 t, ?_⟩
  have e : ((cfg0.win 7).blk t).view.emb (ix2 (⟨(i 0).val % 1024, by omega⟩ : Fin 1024) (⟨(i 1).val, h1⟩ : Fin 1024)) = i := by
    funext a
    match a with
    | ⟨0, _⟩ => exact Fin.ext (by show win0_7.index t (0 : Fin 2) * 1024 + 1 * ((i 0).val % 1024) = (i 0).val; rw [e0, ht]; omega)
    | ⟨1, _⟩ => exact Fin.ext (by show win0_7.index t (1 : Fin 2) * 1024 + 1 * (i 1).val = (i 1).val; rw [e1]; omega)
  rw [← e]
  exact View.emb_mem_set _ _

theorem flushed_h (c : Dev nD) (t : Fin cfg0.N) :
    (dats m 0 c).flushed 8 t = ((cfg0.win 8).blk t).view.read (Elt Ideal) (Gh m c) := by
  obtain ⟨-, -, -, -, -, -, -, -, e0, e1⟩ := index_facts t
  rw [Value.flushed8 m c t, out_h]
  funext y
  obtain ⟨p, j, rfl⟩ : ∃ (p : Fin 1024) (j : Fin 1024), y = ix2 p j := ⟨y 0, y 1, by funext a; fin_cases a <;> rfl⟩
  refine (point_h m c t p j).trans ?_
  show _ = Gh m c (((cfg0.win 8).blk t).view.emb (ix2 p j))
  have q : ((cfg0.win 8).blk t).view.emb (ix2 p j) = ix2 (at_ t p) j := by
    funext a
    match a with
    | ⟨0, _⟩ => exact Fin.ext (by show win0_8.index t (0 : Fin 2) * 1024 + 1 * p.val = _; rw [e0, one_mul]; rfl)
    | ⟨1, _⟩ => exact Fin.ext (by show win0_8.index t (1 : Fin 2) * 1024 + 1 * j.val = _; rw [e1, one_mul, Nat.zero_mul, Nat.zero_add]; rfl)
  rw [q]
  rfl

theorem covered_h (i : S8192x1024.Idx) : ∃ t : Fin cfg0.N, (cfg0.win 8).flush t = true ∧ i ∈ ((cfg0.win 8).blk t).view.set := by
  have h0 : (i 0).val < 8192 := (i 0).isLt
  have h1 : (i 1).val < 1024 := (i 1).isLt
  obtain ⟨t, ht⟩ : ∃ t : Fin cfg0.N, t.val = (i 0).val / 1024 := ⟨⟨(i 0).val / 1024, lt_of_lt_of_eq (by omega) N_0.symm⟩, rfl⟩
  obtain ⟨-, -, -, -, -, -, -, -, e0, e1⟩ := index_facts t
  refine ⟨t, flush0_8 t, ?_⟩
  have e : ((cfg0.win 8).blk t).view.emb (ix2 (⟨(i 0).val % 1024, by omega⟩ : Fin 1024) (⟨(i 1).val, h1⟩ : Fin 1024)) = i := by
    funext a
    match a with
    | ⟨0, _⟩ => exact Fin.ext (by show win0_8.index t (0 : Fin 2) * 1024 + 1 * ((i 0).val % 1024) = (i 0).val; rw [e0, ht]; omega)
    | ⟨1, _⟩ => exact Fin.ext (by show win0_8.index t (1 : Fin 2) * 1024 + 1 * (i 1).val = (i 1).val; rw [e1]; omega)
  rw [← e]
  exact View.emb_mem_set _ _

/-- The kernel's run: the two results, the arguments as launched. -/
theorem run : θ_run defs (onTc (τ := τ) (main (F := Ideal))) ⟨m, fun _ => 0, ρ⟩ fun r => ∀ c : Dev nD,
      r.2.mem ((c : Thread nD τ).loc main_v0_0) = Gz m c
      ∧ r.2.mem ((c : Thread nD τ).loc main_v0_1) = Gh m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨(h c).1.trans ((dats m 0 c).arrAt_eq_of_cover 7 _ (fun t _ => flushed_z m c t) covered_z),
      (h c).2.1.trans ((dats m 0 c).arrAt_eq_of_cover 8 _ (fun t _ => flushed_h m c t) covered_h),
      (h c).2.2⟩)
    (Value.run_blocks m ρ)

end Cert.Kernel20Ideal.ScOutLn

end
-- ==== Proof.ScOutLn.Equation.lean ====
/- The gated convolution's output projection with the two norms around it: the reference's two results are the arrays the kernel's run leaves. -/
module

public import proofs.«01_k».proof.Proof.ScOutLn.Value
public import proofs.«01_k».proof.Proof.Gen.Reference20Ideal.Read

@[expose] public section

set_option maxRecDepth 16384

noncomputable section

namespace Cert.Kernel20Ideal.ScOutLn

open Cert.Kernel20Ideal Cert.Kernel20Ideal.Gen Idealize.ShloMosaic Idealize.ShloMosaic.TcCoe Idealize.SL.Sem
open Cert.Kernel3Ideal.Up (ctr vare rstd nrm)
open Cert.Reference20Ideal.Read

section stages

open Cert.Reference20Ideal (S8192x1024 S1024x1024 S1x1024)

variable (x0 : (⟨S8192x1024, .bf16⟩ : BufTy).Contents (Elt Ideal)) (x1 : (⟨S1024x1024, .bf16⟩ : BufTy).Contents (Elt Ideal))
  (x2 : (⟨S8192x1024, .f32⟩ : BufTy).Contents (Elt Ideal)) (x3 x4 x5 x6 : (⟨S1x1024, .f32⟩ : BufTy).Contents (Elt Ideal))

/-- The norm of the residual, … -/
theorem ctr_in (r : Fin 8192) (j : Fin 1024) : val_main_v7 (F := Ideal) x2 (ix2 r j) = ctr (fun k => x2 (ix2 r k)) j := by
  unfold ctr
  unfold val_main_v7 val_main_v6 val_main_v5 val_main_v4 val_main_v3 val_main_v2
  pointwise [val_main_cst, val_main_cst_0]

theorem ctr_in' (r : Fin 8192) (j : Fin 1024) : val_main_v14 (F := Ideal) x2 (ix2 r j) = ctr (fun k => x2 (ix2 r k)) j := ctr_in x2 r j

theorem rstd_in (r : Fin 8192) (j : Fin 1) : val_main_v17 (F := Ideal) x2 (ix2 r j) = rstd (fun k => x2 (ix2 r k)) := by
  unfold rstd vare
  unfold val_main_v17 val_main_v16 val_main_v15 val_main_v12 val_main_v11 val_main_v10 val_main_v9 val_main_v8
  pointwise [val_main_cst_1, val_main_cst_2, val_main_cst_3]
  simp only [ctr_in]

theorem norm_in (r : Fin 8192) (j : Fin 1024) :
    val_main_v25 (F := Ideal) x2 x5 x6 (ix2 r j) = nrm (fun k => x2 (ix2 r k)) j * x5 (ix2 0 j) + x6 (ix2 0 j) := by
  unfold nrm
  unfold val_main_v25 val_main_v24 val_main_v23 val_main_v22 val_main_v21 val_main_v20 val_main_v19 val_main_v18 val_main_v1 val_main_v0
  pointwise
  rw [ctr_in', rstd_in]

/-- … the sum, … -/
theorem sum_eq (r : Fin 8192) (j : Fin 1024) :
    val_main_v31 (F := Ideal) x0 x1 x2 x5 x6 (ix2 r j)
      = Ideal.ofBits .f32 0x3FD744FD#32 * (nrm (fun k => x2 (ix2 r k)) j * x5 (ix2 0 j) + x6 (ix2 0 j)) + ∑ k : Fin 1024, x0 (ix2 r k) * x1 (ix2 k j) := by
  unfold val_main_v31 val_main_v30 val_main_v29 val_main_v28 val_main_v27 val_main_v26
  pointwise [val_main_cst_4]
  rw [norm_in]

/-- … and its norm. -/
theorem ctr_out (r : Fin 8192) (j : Fin 1024) :
    val_main_v39 (F := Ideal) x0 x1 x2 x5 x6 (ix2 r j) = ctr (fun k => val_main_v31 (F := Ideal) x0 x1 x2 x5 x6 (ix2 r k)) j := by
  unfold ctr
  unfold val_main_v39 val_main_v38 val_main_v37 val_main_v36 val_main_v35 val_main_v34
  pointwise [val_main_cst_5, val_main_cst_6]

theorem ctr_out' (r : Fin 8192) (j : Fin 1024) :
    val_main_v46 (F := Ideal) x0 x1 x2 x5 x6 (ix2 r j) = ctr (fun k => val_main_v31 (F := Ideal) x0 x1 x2 x5 x6 (ix2 r k)) j := ctr_out x0 x1 x2 x5 x6 r j

theorem rstd_out (r : Fin 8192) (j : Fin 1) :
    val_main_v49 (F := Ideal) x0 x1 x2 x5 x6 (ix2 r j) = rstd (fun k => val_main_v31 (F := Ideal) x0 x1 x2 x5 x6 (ix2 r k)) := by
  unfold rstd vare
  unfold val_main_v49 val_main_v48 val_main_v47 val_main_v44 val_main_v43 val_main_v42 val_main_v41 val_main_v40
  pointwise [val_main_cst_7, val_main_cst_8, val_main_cst_9]
  simp only [ctr_out]

theorem norm_out (r : Fin 8192) (j : Fin 1024) :
    (val_main_v58 (F := Ideal) x0 x1 x2 x3 x4 x5 x6 : FVec Ideal S8192x1024 .bf16) (ix2 r j)
      = nrm (fun k => val_main_v31 (F := Ideal) x0 x1 x2 x5 x6 (ix2 r k)) j * x3 (ix2 0 j) + x4 (ix2 0 j) := by
  unfold nrm
  unfold val_main_v58 val_main_v57 val_main_v56 val_main_v55 val_main_v54 val_main_v53 val_main_v52 val_main_v51 val_main_v50 val_main_v33 val_main_v32
  pointwise
  rw [ctr_out', rstd_out]

end stages

variable (m : (ℓ : Loc nD τ sig) → Buf (Elt Ideal) ℓ)

theorem reference_z (c : Dev nD) : val_main_v31 (F := Ideal) (fa m c) (fw m c) (fr m c) (fgr m c) (fbr m c) = Gz m c := by
  funext i
  obtain ⟨r, j, rfl⟩ : ∃ (r : Fin 8192) (j : Fin 1024), i = ix2 r j := ⟨i 0, i 1, by funext a; fin_cases a <;> rfl⟩
  exact sum_eq _ _ _ _ _ r j

theorem reference_h (c : Dev nD) : val_main_v58 (F := Ideal) (fa m c) (fw m c) (fr m c) (fg m c) (fb m c) (fgr m c) (fbr m c) = Gh m c := by
  funext i
  obtain ⟨r, j, rfl⟩ : ∃ (r : Fin 8192) (j : Fin 1024), i = ix2 r j := ⟨i 0, i 1, by funext a; fin_cases a <;> rfl⟩
  refine (norm_out _ _ _ _ _ _ _ r j).trans ?_
  simp only [sum_eq]
  rfl

end Cert.Kernel20Ideal.ScOutLn

end
-- ==== Proof.FirstLn.Value.lean ====
/- The output product of the first layer's mixer, the scaled input added, with the norm after it: what one point of the grid
   leaves in its two outputs, and the arrays the run leaves, as functions of the arguments. -/
module

public import proofs.«01_k».proof.Proof.Gen.Kernel21Ideal.Value
public import Idealize.ShloMosaic.Lib.Pipeline.Value
public import Idealize.ShloMosaic.Lib.Tactic
public import Idealize.ShloMosaic.Lib.Pointwise
public import proofs.«01_k».proof.Proof.Up.Row

@[expose] public section

set_option maxRecDepth 16384

noncomputable section

namespace Cert.Kernel21Ideal.FirstLn

open Cert.Kernel21Ideal Cert.Kernel21Ideal.Gen Idealize.ShloMosaic Idealize.ShloMosaic.TcCoe Idealize.SL.Sem
open Idealize.ShloMosaic.Pipeline (Dat)
open Cert.Kernel3Ideal.Up (ctr vare rstd nrm)

theorem zero2 : (![0, 0] : Fin 2 → Nat) = fun _ => 0 := funext fun a => by fin_cases a <;> rfl

section point

variable {F : FTy → Type} [FloatOps F]
variable (x0 : Vec F S1024x1024 .bf16) (x1 : Vec F S1024x1024 .bf16) (x2 : Vec F S1024x1024 .f32)
  (x3 x4 : Vec F S1x1024 .f32)

/-- The scaled input and the product, added, … -/
theorem out_z : out0_5 x0 x1 x2 x3 x4 = k0_pay1 x2 x0 x1 := by
  unfold out0_5
  rw [View.canon_unit_zero zero2]
  simp only [View.ld_unit_zero (S := S1024x1024) zero2]

/-- … and the norm of the sum, rounded. -/
theorem out_h : out0_6 x0 x1 x2 x3 x4 = k0_pay2 x2 x0 x1 x3 x4 := by
  unfold out0_6
  rw [View.canon_unit_zero zero2]
  simp only [View.ld_unit_zero (S := S1024x1024) zero2, View.ld_unit_zero (S := S1x1024) zero2]

end point

/-! The values at an index, as extended reals. -/

theorem pay1_apply (r : Vec Ideal S1024x1024 .f32) (x : Vec Ideal S1024x1024 .bf16) (w : Vec Ideal S1024x1024 .bf16) (p j : Fin 1024) :
    k0_pay1 r x w (ix2 p j) = Ideal.ofBits .f32 0x3FD744FD#32 * r (ix2 p j) + ∑ k : Fin 1024, x (ix2 p k) * w (ix2 k j) := by
  unfold k0_pay1
  pointwise

theorem pay2_apply (r : Vec Ideal S1024x1024 .f32) (x : Vec Ideal S1024x1024 .bf16) (w : Vec Ideal S1024x1024 .bf16) (g b : Vec Ideal S1x1024 .f32) (p j : Fin 1024) :
    (k0_pay2 r x w g b : FVec Ideal S1024x1024 .bf16) (ix2 p j) = nrm (fun k => k0_pay1 r x w (ix2 p k)) j * g (ix2 0 j) + b (ix2 0 j) := by
  unfold k0_pay2 nrm rstd vare ctr
  pointwise

variable (m : (ℓ : Loc nD τ sig) → Buf (Elt Ideal) ℓ) (ρ : Dev nD → PrngReg)

/-- The arguments: the mixer's output, the weight, the layer's input, and the scale and shift of the norm. -/
abbrev fa (c : Dev nD) : Vec Ideal S8192x1024 .bf16 := m ((c : Thread nD τ).loc main_arg0)
abbrev fw (c : Dev nD) : Vec Ideal S1024x1024 .bf16 := m ((c : Thread nD τ).loc main_arg1)
abbrev fr (c : Dev nD) : Vec Ideal S8192x1024 .f32 := m ((c : Thread nD τ).loc main_arg2)
abbrev fg (c : Dev nD) : Vec Ideal S1x1024 .f32 := m ((c : Thread nD τ).loc main_arg3)
abbrev fb (c : Dev nD) : Vec Ideal S1x1024 .f32 := m ((c : Thread nD τ).loc main_arg4)

/-- The scaled input and the product, added, at a row and a column, … -/
def z (c : Dev nD) (r : Fin 8192) (j : Fin 1024) : EReal :=
  Ideal.ofBits .f32 0x3FD744FD#32 * fr m c (ix2 r j) + ∑ k : Fin 1024, fa m c (ix2 r k) * fw m c (ix2 k j)
/-- … and its norm. -/
def h (c : Dev nD) (r : Fin 8192) (j : Fin 1024) : EReal := nrm (z m c r) j * fg m c (ix2 0 j) + fb m c (ix2 0 j)

/-- Where the blocks of point `t` lie. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem index_rows : ∀ t : Fin cfg0.N, win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The row of the arrays that row `p` of point `t`'s block is. -/
def at_ (t : Fin cfg0.N) (p : Fin 1024) : Fin 8192 :=
  ⟨t.val * 1024 + p.val, by have h : t.val < 8 := lt_of_lt_of_eq t.isLt N_0; have := p.isLt; omega⟩

theorem block_a (c : Dev nD) (t : Fin cfg0.N) (p : Fin 1024) (k : Fin 1024) :
    (iblk m c 0 t : Vec Ideal S1024x1024 .bf16) (ix2 p k) = fa m c (ix2 (at_ t p) k) := by
  obtain ⟨e0, e1, -⟩ := index_facts t
  show fa m c (((cfg0.win 0).blk t).view.emb (ix2 p k)) = _
  congr 1
  funext a
  match a with
  | ⟨0, _⟩ => exact Fin.ext (by show win0_0.index t (0 : Fin 2) * 1024 + 1 * p.val = _; rw [e0, one_mul]; rfl)
  | ⟨1, _⟩ => exact Fin.ext (by show win0_0.index t (1 : Fin 2) * 1024 + 1 * k.val = _; rw [e1, one_mul, Nat.zero_mul, Nat.zero_add]; rfl)

theorem block_w (c : Dev nD) (t : Fin cfg0.N) (p : Fin 1024) (k : Fin 1024) :
    (iblk m c 1 t : Vec Ideal S1024x1024 .bf16) (ix2 p k) = fw m c (ix2 p k) := by
  obtain ⟨-, -, e0, e1, -⟩ := index_facts t
  show fw m c (((cfg0.win 1).blk t).view.emb (ix2 p k)) = _
  congr 1
  funext a
  match a with
  | ⟨0, _⟩ => exact Fin.ext (by show win0_1.index t (0 : Fin 2) * 1024 + 1 * p.val = _; rw [e0, one_mul, Nat.zero_mul, Nat.zero_add]; rfl)
  | ⟨1, _⟩ => exact Fin.ext (by show win0_1.index t (1 : Fin 2) * 1024 + 1 * k.val = _; rw [e1, one_mul, Nat.zero_mul, Nat.zero_add]; rfl)

theorem block_r (c : Dev nD) (t : Fin cfg0.N) (p : Fin 1024) (k : Fin 1024) :
    (iblk m c 2 t : Vec Ideal S1024x1024 .f32) (ix2 p k) = fr m c (ix2 (at_ t p) k) := by
  obtain ⟨-, -, -, -, e0, e1, -⟩ := index_facts t
  show fr m c (((cfg0.win 2).blk t).view.emb (ix2 p k)) = _
  congr 1
  funext a
  match a with
  | ⟨0, _⟩ => exact Fin.ext (by show win0_2.index t (0 : Fin 2) * 1024 + 1 * p.val = _; rw [e0, one_mul]; rfl)
  | ⟨1, _⟩ => exact Fin.ext (by show win0_2.index t (1 : Fin 2) * 1024 + 1 * k.val = _; rw [e1, one_mul, Nat.zero_mul, Nat.zero_add]; rfl)

theorem block_g (c : Dev nD) (t : Fin cfg0.N) (p : Fin 1) (k : Fin 1024) :
    (iblk m c 3 t : Vec Ideal S1x1024 .f32) (ix2 p k) = fg m c (ix2 p k) := by
  obtain ⟨e0, e1, -⟩ := index_rows t
  show fg m c (((cfg0.win 3).blk t).view.emb (ix2 p k)) = _
  congr 1
  funext a
  match a with
  | ⟨0, _⟩ => exact Fin.ext (by show win0_3.index t (0 : Fin 2) * 1 + 1 * p.val = _; rw [e0, one_mul, Nat.zero_mul, Nat.zero_add]; rfl)
  | ⟨1, _⟩ => exact Fin.ext (by show win0_3.index t (1 : Fin 2) * 1024 + 1 * k.val = _; rw [e1, one_mul, Nat.zero_mul, Nat.zero_add]; rfl)

theorem block_b (c : Dev nD) (t : Fin cfg0.N) (p : Fin 1) (k : Fin 1024) :
    (iblk m c 4 t : Vec Ideal S1x1024 .f32) (ix2 p k) = fb m c (ix2 p k) := by
  obtain ⟨-, -, e0, e1⟩ := index_rows t
  show fb m c (((cfg0.win 4).blk t).view.emb (ix2 p k)) = _
  congr 1
  funext a
  match a with
  | ⟨0, _⟩ => exact Fin.ext (by show win0_4.index t (0 : Fin 2) * 1 + 1 * p.val = _; rw [e0, one_mul, Nat.zero_mul, Nat.zero_add]; rfl)
  | ⟨1, _⟩ => exact Fin.ext (by show win0_4.index t (1 : Fin 2) * 1024 + 1 * k.val = _; rw [e1, one_mul, Nat.zero_mul, Nat.zero_add]; rfl)

/-! What one point computes, at an index. -/

theorem point_z (c : Dev nD) (t : Fin cfg0.N) (p j : Fin 1024) :
    k0_pay1 (iblk m c 2 t) (iblk m c 0 t) (iblk m c 1 t) (ix2 p j) = z m c (at_ t p) j := by
  unfold z
  refine (pay1_apply _ _ _ p j).trans ?_
  simp only [block_a, block_w, block_r]

theorem point_h (c : Dev nD) (t : Fin cfg0.N) (p j : Fin 1024) :
    (k0_pay2 (iblk m c 2 t) (iblk m c 0 t) (iblk m c 1 t) (iblk m c 3 t) (iblk m c 4 t) : FVec Ideal S1024x1024 .bf16) (ix2 p j)
      = h m c (at_ t p) j := by
  unfold h
  refine (pay2_apply _ _ _ _ _ p j).trans ?_
  rw [block_g, block_b]
  simp only [point_z]

/-! The arrays the run leaves. -/

def Gz (c : Dev nD) : Vec Ideal S8192x1024 .f32 := fun i => z m c (i 0) (i 1)
def Gh (c : Dev nD) : Vec Ideal S8192x1024 .bf16 := fun i => h m c (i 0) (i 1)

theorem flushed_z (c : Dev nD) (t : Fin cfg0.N) :
    (dats m 0 c).flushed 5 t = ((cfg0.win 5).blk t).view.read (Elt Ideal) (Gz m c) := by
  obtain ⟨-, -, -, -, -, -, e0, e1, -⟩ := index_facts t
  rw [Value.flushed5 m c t, out_z]
  funext y
  obtain ⟨p, j, rfl⟩ : ∃ (p : Fin 1024) (j : Fin 1024), y = ix2 p j := ⟨y 0, y 1, by funext a; fin_cases a <;> rfl⟩
  refine (point_z m c t p j).trans ?_
  show _ = Gz m c (((cfg0.win 5).blk t).view.emb (ix2 p j))
  have q : ((cfg0.win 5).blk t).view.emb (ix2 p j) = ix2 (at_ t p) j := by
    funext a
    match a with
    | ⟨0, _⟩ => exact Fin.ext (by show win0_5.index t (0 : Fin 2) * 1024 + 1 * p.val = _; rw [e0, one_mul]; rfl)
    | ⟨1, _⟩ => exact Fin.ext (by show win0_5.index t (1 : Fin 2) * 1024 + 1 * j.val = _; rw [e1, one_mul, Nat.zero_mul, Nat.zero_add]; rfl)
  rw [q]
  rfl

theorem covered_z (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  obtain ⟨t, ht⟩ : ∃ t : Fin cfg0.N, t.val = (i 0).val / 1024 := ⟨⟨(i 0).val / 1024, lt_of_lt_of_eq (by omega) N_0.symm⟩, rfl⟩
  obtain ⟨-, -, -, -, -, -, e0, e1, -⟩ := index_facts t
  refine ⟨t, flush0_5 t, ?_⟩
  have e : ((cfg0.win 5).blk t).view.emb (ix2 (⟨(i 0).val % 1024, by omega⟩ : Fin 1024) (⟨(i 1).val, h1⟩ : Fin 1024)) = i := by
    funext a
    match a with
    | ⟨0, _⟩ => exact Fin.ext (by show win0_5.index t (0 : Fin 2) * 1024 + 1 * ((i 0).val % 1024) = (i 0).val; rw [e0, ht]; omega)
    | ⟨1, _⟩ => exact Fin.ext (by show win0_5.index t (1 : Fin 2) * 1024 + 1 * (i 1).val = (i 1).val; rw [e1]; omega)
  rw [← e]
  exact View.emb_mem_set _ _

theorem flushed_h (c : Dev nD) (t : Fin cfg0.N) :
    (dats m 0 c).flushed 6 t = ((cfg0.win 6).blk t).view.read (Elt Ideal) (Gh m c) := by
  obtain ⟨-, -, -, -, -, -, -, -, e0, e1⟩ := index_facts t
  rw [Value.flushed6 m c t, out_h]
  funext y
  obtain ⟨p, j, rfl⟩ : ∃ (p : Fin 1024) (j : Fin 1024), y = ix2 p j := ⟨y 0, y 1, by funext a; fin_cases a <;> rfl⟩
  refine (point_h m c t p j).trans ?_
  show _ = Gh m c (((cfg0.win 6).blk t).view.emb (ix2 p j))
  have q : ((cfg0.win 6).blk t).view.emb (ix2 p j) = ix2 (at_ t p) j := by
    funext a
    match a with
    | ⟨0, _⟩ => exact Fin.ext (by show win0_6.index t (0 : Fin 2) * 1024 + 1 * p.val = _; rw [e0, one_mul]; rfl)
    | ⟨1, _⟩ => exact Fin.ext (by show win0_6.index t (1 : Fin 2) * 1024 + 1 * j.val = _; rw [e1, one_mul, Nat.zero_mul, Nat.zero_add]; rfl)
  rw [q]
  rfl

theorem covered_h (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  obtain ⟨t, ht⟩ : ∃ t : Fin cfg0.N, t.val = (i 0).val / 1024 := ⟨⟨(i 0).val / 1024, lt_of_lt_of_eq (by omega) N_0.symm⟩, rfl⟩
  obtain ⟨-, -, -, -, -, -, -, -, e0, e1⟩ := index_facts t
  refine ⟨t, flush0_6 t, ?_⟩
  have e : ((cfg0.win 6).blk t).view.emb (ix2 (⟨(i 0).val % 1024, by omega⟩ : Fin 1024) (⟨(i 1).val, h1⟩ : Fin 1024)) = i := by
    funext a
    match a with
    | ⟨0, _⟩ => exact Fin.ext (by show win0_6.index t (0 : Fin 2) * 1024 + 1 * ((i 0).val % 1024) = (i 0).val; rw [e0, ht]; omega)
    | ⟨1, _⟩ => exact Fin.ext (by show win0_6.index t (1 : Fin 2) * 1024 + 1 * (i 1).val = (i 1).val; rw [e1]; omega)
  rw [← e]
  exact View.emb_mem_set _ _

/-- The kernel's run: the two results, the arguments as launched. -/
theorem run : θ_run defs (onTc (τ := τ) (main (F := Ideal))) ⟨m, fun _ => 0, ρ⟩ fun r => ∀ c : Dev nD,
      r.2.mem ((c : Thread nD τ).loc main_v0_0) = Gz m c
      ∧ r.2.mem ((c : Thread nD τ).loc main_v0_1) = Gh m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans ((dats m 0 c).arrAt_eq_of_cover 5 _ (fun t _ => flushed_z m c t) covered_z),
      (h c).2.1.trans ((dats m 0 c).arrAt_eq_of_cover 6 _ (fun t _ => flushed_h m c t) covered_h),
      (h c).2.2⟩)
    (Value.run_blocks m ρ)

end Cert.Kernel21Ideal.FirstLn

end
-- ==== Proof.FirstLn.Equation.lean ====
/- The output product of the first layer's mixer with the norm after it: the reference's two results are the arrays the kernel's run leaves. -/
module

public import proofs.«01_k».proof.Proof.FirstLn.Value
public import proofs.«01_k».proof.Proof.Gen.Reference21Ideal.Read

@[expose] public section

set_option maxRecDepth 16384

noncomputable section

namespace Cert.Kernel21Ideal.FirstLn

open Cert.Kernel21Ideal Cert.Kernel21Ideal.Gen Idealize.ShloMosaic Idealize.ShloMosaic.TcCoe Idealize.SL.Sem
open Cert.Kernel3Ideal.Up (ctr vare rstd nrm)
open Cert.Reference21Ideal.Read

section stages

open Cert.Reference21Ideal (S8192x1024 S1024x1024 S1x1024)

variable (x0 : (⟨S8192x1024, .bf16⟩ : BufTy).Contents (Elt Ideal)) (x1 : (⟨S1024x1024, .bf16⟩ : BufTy).Contents (Elt Ideal))
  (x2 : (⟨S8192x1024, .f32⟩ : BufTy).Contents (Elt Ideal)) (x3 x4 : (⟨S1x1024, .f32⟩ : BufTy).Contents (Elt Ideal))

/-- The sum, … -/
theorem sum_eq (r : Fin 8192) (j : Fin 1024) :
    val_main_v5 (F := Ideal) x0 x1 x2 (ix2 r j) = Ideal.ofBits .f32 0x3FD744FD#32 * x2 (ix2 r j) + ∑ k : Fin 1024, x0 (ix2 r k) * x1 (ix2 k j) := by
  unfold val_main_v5 val_main_v4 val_main_v3 val_main_v2 val_main_v1 val_main_v0
  pointwise [val_main_cst]

/-- … and its norm. -/
theorem ctr_out (r : Fin 8192) (j : Fin 1024) :
    val_main_v13 (F := Ideal) x0 x1 x2 (ix2 r j) = ctr (fun k => val_main_v5 (F := Ideal) x0 x1 x2 (ix2 r k)) j := by
  unfold ctr
  unfold val_main_v13 val_main_v12 val_main_v11 val_main_v10 val_main_v9 val_main_v8
  pointwise [val_main_cst_0, val_main_cst_1]

theorem ctr_out' (r : Fin 8192) (j : Fin 1024) :
    val_main_v20 (F := Ideal) x0 x1 x2 (ix2 r j) = ctr (fun k => val_main_v5 (F := Ideal) x0 x1 x2 (ix2 r k)) j := ctr_out x0 x1 x2 r j

theorem rstd_out (r : Fin 8192) (j : Fin 1) :
    val_main_v23 (F := Ideal) x0 x1 x2 (ix2 r j) = rstd (fun k => val_main_v5 (F := Ideal) x0 x1 x2 (ix2 r k)) := by
  unfold rstd vare
  unfold val_main_v23 val_main_v22 val_main_v21 val_main_v18 val_main_v17 val_main_v16 val_main_v15 val_main_v14
  pointwise [val_main_cst_2, val_main_cst_3, val_main_cst_4]
  simp only [ctr_out]

theorem norm_out (r : Fin 8192) (j : Fin 1024) :
    (val_main_v32 (F := Ideal) x0 x1 x2 x3 x4 : FVec Ideal S8192x1024 .bf16) (ix2 r j)
      = nrm (fun k => val_main_v5 (F := Ideal) x0 x1 x2 (ix2 r k)) j * x3 (ix2 0 j) + x4 (ix2 0 j) := by
  unfold nrm
  unfold val_main_v32 val_main_v31 val_main_v30 val_main_v29 val_main_v28 val_main_v27 val_main_v26 val_main_v25 val_main_v24 val_main_v7 val_main_v6
  pointwise
  rw [ctr_out', rstd_out]

end stages

variable (m : (ℓ : Loc nD τ sig) → Buf (Elt Ideal) ℓ)

theorem reference_z (c : Dev nD) : val_main_v5 (F := Ideal) (fa m c) (fw m c) (fr m c) = Gz m c := by
  funext i
  obtain ⟨r, j, rfl⟩ : ∃ (r : Fin 8192) (j : Fin 1024), i = ix2 r j := ⟨i 0, i 1, by funext a; fin_cases a <;> rfl⟩
  exact sum_eq _ _ _ r j

theorem reference_h (c : Dev nD) : val_main_v32 (F := Ideal) (fa m c) (fw m c) (fr m c) (fg m c) (fb m c) = Gh m c := by
  funext i
  obtain ⟨r, j, rfl⟩ : ∃ (r : Fin 8192) (j : Fin 1024), i = ix2 r j := ⟨i 0, i 1, by funext a; fin_cases a <;> rfl⟩
  refine (norm_out _ _ _ _ _ r j).trans ?_
  simp only [sum_eq]
  rfl

end Cert.Kernel21Ideal.FirstLn

end
-- ==== Proof.lean ====
module

public import proofs.«01_k».proof.Defs
public import proofs.«01_k».proof.Proof.Gen.Kernel
public import proofs.«01_k».proof.Proof.Gen.KernelIdeal
public import proofs.«01_k».proof.Proof.Reals.Frame
public import proofs.«01_k».proof.Proof.ActBwd.Equation
public import proofs.«01_k».proof.Proof.Same.Frames
public import proofs.«01_k».proof.Proof.Down.Value
public import proofs.«01_k».proof.Proof.Ref.Frame
public import proofs.«01_k».proof.Proof.Up.Equation
public import proofs.«01_k».proof.Proof.GateDw.Value
public import proofs.«01_k».proof.Proof.ValueDw.Value
public import proofs.«01_k».proof.Proof.LruDx.Equation
public import proofs.«01_k».proof.Proof.ScDx.Equation
public import proofs.«01_k».proof.Proof.Act.Equation
public import proofs.«01_k».proof.Proof.DownLn.Equation
public import proofs.«01_k».proof.Proof.ScInDw.Value
public import proofs.«01_k».proof.Proof.LruInDw.Value
public import proofs.«01_k».proof.Proof.LruOutDw.Value
public import proofs.«01_k».proof.Proof.ScOutDw.Value
public import proofs.«01_k».proof.Proof.LruOutDx.Value
public import proofs.«01_k».proof.Proof.ScOutDx.Value
public import proofs.«01_k».proof.Proof.FirstDx.Value
public import proofs.«01_k».proof.Proof.ScIn.Value
public import proofs.«01_k».proof.Proof.LruIn.Value
public import proofs.«01_k».proof.Proof.LruOutLn.Equation
public import proofs.«01_k».proof.Proof.ScOutLn.Equation
public import proofs.«01_k».proof.Proof.FirstLn.Equation
public import proofs.«01_k».proof.Proof.Gen.Kernel3
public import proofs.«01_k».proof.Proof.Gen.Kernel3Ideal
public import proofs.«01_k».proof.Proof.Gen.Reference3Ideal
public import proofs.«01_k».proof.Proof.Gen.Kernel3Ideal.Value
public import proofs.«01_k».proof.Proof.Gen.Kernel3.Frame
public import proofs.«01_k».proof.Proof.Gen.Reference3Ideal.Run
public import proofs.«01_k».proof.Proof.Gen.Reference3Ideal.Read
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Kernel22.Launch
public import proofs.«01_k».proof.Proof.Gen.Kernel22.Skeleton
public import proofs.«01_k».proof.Proof.Gen.Kernel22.Points
public import proofs.«01_k».proof.Proof.Gen.Kernel22Ideal.Launch
public import proofs.«01_k».proof.Proof.Gen.Kernel22Ideal.Skeleton
public import proofs.«01_k».proof.Proof.Gen.Kernel22Ideal.Points
public import proofs.«01_k».proof.Proof.Gen.Reference22Ideal
public import proofs.«01_k».proof.Proof.Gen.Reference22Ideal.Run
public import proofs.«01_k».proof.Proof.Gen.Reference22Ideal.Read
public import Idealize.ShloMosaic.Adequacy
public import Idealize.ShloMosaic.Init

@[expose] public section

noncomputable section

namespace Cert.Proof

open Idealize.ShloMosaic Idealize.SL.Sem

/-- The gradient of the FFN's second weight: the kernel's launch and the reference's run end with the same array. -/
theorem ffn_down_dw [Cert.Kernel2Ideal.Facts] [Cert.Reference2Ideal.Facts] : Cert.algebraic_Kernel2Ideal_Reference2Ideal := by
  intro m g m' g' _ hagree
  refine ⟨fun c => Cert.Kernel2Ideal.Down.G m c, ?_, ?_⟩
  · exact Cert.Kernel2Ideal.Down.run m g
  · refine (θ_run Cert.Reference2Ideal.defs _ _).mono (fun r h c => ?_) (Cert.Reference2Ideal.Value.run m' g')
    refine ⟨(h c).1.trans ?_, (h c).2⟩
    rw [(hagree c).1, (hagree c).2]
    exact (Cert.Reference2Ideal.Read.val_main_v6_eq _ _).trans (Cert.Kernel2Ideal.Down.reference_eq m c)

/-- The gradient through the up-projections and the norm: the kernel's launch and the reference's run end with the same four
    arrays. -/
theorem ffn_up_dx [Cert.Kernel3Ideal.Facts] [Cert.Reference3Ideal.Facts] [Cert.Pre_up_dx_finite.Facts] :
    Cert.algebraic_Kernel3Ideal_Reference3Ideal_pre_up_dx_finite := by
  intro m g m' g' hpre hagree
  have real : ∀ c, Cert.Kernel3Ideal.Up.AllReal m c := fun c =>
    Cert.Kernel3Ideal.Up.entries _ _ _ _ _ _ (fun a => a.elim0) (congrFun (hpre c) _)
  refine ⟨fun c => Cert.Kernel3Ideal.Up.Gz m c, fun c => Cert.Kernel3Ideal.Up.Gh m c, fun c => Cert.Kernel3Ideal.Up.Gg m c,
    fun c => Cert.Kernel3Ideal.Up.Gb m c, Cert.Kernel3Ideal.Up.run m g, ?_⟩
  refine (θ_run Cert.Reference3Ideal.defs _ _).mono (fun r h c => ?_) (Cert.Reference3Ideal.Value.run m' g')
  obtain ⟨h0, h1, h2, h3, h4, h5⟩ := hagree c
  refine ⟨(h c).1.trans ?_, (h c).2.1.trans ?_, (h c).2.2.1.trans ?_, (h c).2.2.2.1.trans ?_, (h c).2.2.2.2⟩
  · refine (Cert.Reference3Ideal.Read.val_main_v81_eq m' c).trans ?_
    rw [h0, h1, h2, h3, h4, h5]
    exact Cert.Kernel3Ideal.Up.reference_dz m c (real c)
  · refine (Cert.Reference3Ideal.Read.val_main_v82_eq m' c).trans ?_
    rw [h0, h1, h2, h3, h4, h5]
    exact Cert.Kernel3Ideal.Up.reference_dz_half m c (real c)
  · refine (Cert.Reference3Ideal.Read.val_main_v83_eq _ _ _ _ _).trans ?_
    rw [h0, h1, h2, h3, h4]
    exact Cert.Kernel3Ideal.Up.reference_dg m c
  · refine (Cert.Reference3Ideal.Read.val_main_v84_eq _ _ _ _).trans ?_
    rw [h0, h1, h2, h3]
    exact Cert.Kernel3Ideal.Up.reference_db m c

/-- The gradient of the FFN's gate weight. -/
theorem ffn_gate_dw [Cert.Kernel4Ideal.Facts] [Cert.Reference4Ideal.Facts] : Cert.algebraic_Kernel4Ideal_Reference4Ideal := by
  intro m g m' g' _ hagree
  refine ⟨fun c => Cert.Kernel4Ideal.GateDw.G m c, Cert.Kernel4Ideal.GateDw.run m g, ?_⟩
  refine (θ_run Cert.Reference4Ideal.defs _ _).mono (fun r h c => ?_) (Cert.Reference4Ideal.Value.run m' g')
  refine ⟨(h c).1.trans ?_, (h c).2⟩
  rw [(hagree c).1, (hagree c).2]
  exact (Cert.Reference4Ideal.Read.val_main_v7_eq _ _).trans (Cert.Kernel4Ideal.GateDw.reference_eq m c)

/-- The gradient of the FFN's value weight, written into the array the gate's lies in. -/
theorem ffn_value_dw [Cert.Kernel5Ideal.Facts] [Cert.Reference5Ideal.Facts] : Cert.algebraic_Kernel5Ideal_Reference5Ideal := by
  intro m g m' g' _ hagree
  refine ⟨fun c => Cert.Kernel5Ideal.ValueDw.G m c, Cert.Kernel5Ideal.ValueDw.run m g, ?_⟩
  refine (θ_run Cert.Reference5Ideal.defs _ _).mono (fun r h c => ?_) (Cert.Reference5Ideal.Value.run m' g')
  obtain ⟨h0, h1, h2⟩ := hagree c
  refine ⟨(h c).1.trans ?_, (h c).2⟩
  rw [h0, h1, h2]
  exact (Cert.Reference5Ideal.Read.val_main_v9_eq _ _ _).trans (Cert.Kernel5Ideal.ValueDw.reference_eq m c)

/-- The gradient through the recurrence's input projection and the norm before it. -/
theorem lru_in_dx [Cert.Kernel6Ideal.Facts] [Cert.Reference6Ideal.Facts] [Cert.Pre_in_dx_finite.Facts] :
    Cert.algebraic_Kernel6Ideal_Reference6Ideal_pre_in_dx_finite := by
  intro m g m' g' hpre hagree
  have real : ∀ c, Cert.Kernel6Ideal.InDx.AllReal m c := fun c =>
    Cert.Kernel6Ideal.InDx.entries _ _ _ _ _ (fun a => a.elim0) (congrFun (hpre c) _)
  refine ⟨fun c => Cert.Kernel6Ideal.InDx.Gz m c, fun c => Cert.Kernel6Ideal.InDx.Gh m c, fun c => Cert.Kernel6Ideal.InDx.Gg m c,
    fun c => Cert.Kernel6Ideal.InDx.Gb m c, Cert.Kernel6Ideal.InDx.run m g, ?_⟩
  refine (θ_run Cert.Reference6Ideal.defs _ _).mono (fun r h c => ?_) (Cert.Reference6Ideal.Value.run m' g')
  obtain ⟨h0, h1, h2, h3, h4⟩ := hagree c
  refine ⟨(h c).1.trans ?_, (h c).2.1.trans ?_, (h c).2.2.1.trans ?_, (h c).2.2.2.1.trans ?_, (h c).2.2.2.2⟩
  · refine (Cert.Reference6Ideal.Read.val_main_v74_eq m' c).trans ?_
    rw [h0, h1, h2, h3, h4]
    exact Cert.Kernel6Ideal.InDx.reference_dz m c (real c)
  · refine (Cert.Reference6Ideal.Read.val_main_v75_eq m' c).trans ?_
    rw [h0, h1, h2, h3, h4]
    exact Cert.Kernel6Ideal.InDx.reference_dz_half m c (real c)
  · refine (Cert.Reference6Ideal.Read.val_main_v76_eq _ _ _ _).trans ?_
    rw [h0, h1, h2, h3]
    exact Cert.Kernel6Ideal.InDx.reference_dg m c
  · refine (Cert.Reference6Ideal.Read.val_main_v77_eq _ _ _).trans ?_
    rw [h0, h1, h2]
    exact Cert.Kernel6Ideal.InDx.reference_db m c

/-- The gradient through the gated convolution's input projection and the norm before it. -/
theorem sc_in_dx [Cert.Kernel7Ideal.Facts] [Cert.Reference7Ideal.Facts] [Cert.Pre_sc_dx_finite.Facts] :
    Cert.algebraic_Kernel7Ideal_Reference7Ideal_pre_sc_dx_finite := by
  intro m g m' g' hpre hagree
  have real : ∀ c, Cert.Kernel7Ideal.InDx.AllReal m c := fun c =>
    Cert.Kernel7Ideal.InDx.entries _ _ _ _ _ (fun a => a.elim0) (congrFun (hpre c) _)
  refine ⟨fun c => Cert.Kernel7Ideal.InDx.Gz m c, fun c => Cert.Kernel7Ideal.InDx.Gh m c, fun c => Cert.Kernel7Ideal.InDx.Gg m c,
    fun c => Cert.Kernel7Ideal.InDx.Gb m c, Cert.Kernel7Ideal.InDx.run m g, ?_⟩
  refine (θ_run Cert.Reference7Ideal.defs _ _).mono (fun r h c => ?_) (Cert.Reference7Ideal.Value.run m' g')
  obtain ⟨h0, h1, h2, h3, h4⟩ := hagree c
  refine ⟨(h c).1.trans ?_, (h c).2.1.trans ?_, (h c).2.2.1.trans ?_, (h c).2.2.2.1.trans ?_, (h c).2.2.2.2⟩
  · refine (Cert.Reference7Ideal.Read.val_main_v73_eq m' c).trans ?_
    rw [h0, h1, h2, h3, h4]
    exact Cert.Kernel7Ideal.InDx.reference_dz m c (real c)
  · refine (Cert.Reference7Ideal.Read.val_main_v74_eq m' c).trans ?_
    rw [h0, h1, h2, h3, h4]
    exact Cert.Kernel7Ideal.InDx.reference_dz_half m c (real c)
  · refine (Cert.Reference7Ideal.Read.val_main_v75_eq _ _ _ _).trans ?_
    rw [h0, h1, h2, h3]
    exact Cert.Kernel7Ideal.InDx.reference_dg m c
  · refine (Cert.Reference7Ideal.Read.val_main_v76_eq _ _ _).trans ?_
    rw [h0, h1, h2]
    exact Cert.Kernel7Ideal.InDx.reference_db m c

/-- The FFN's two up-projections, their convolutions and the gated activation. -/
theorem ffn_act [Cert.Kernel8Ideal.Facts] [Cert.Reference8Ideal.Facts] : Cert.algebraic_Kernel8Ideal_Reference8Ideal := by
  intro m g m' g' _ hagree
  refine ⟨fun c => Cert.Kernel8Ideal.Act.Ghg m c, fun c => Cert.Kernel8Ideal.Act.Ghv m c, fun c => Cert.Kernel8Ideal.Act.Gg m c,
    fun c => Cert.Kernel8Ideal.Act.Gv m c, fun c => Cert.Kernel8Ideal.Act.Ga m c, Cert.Kernel8Ideal.Act.run m g, ?_⟩
  refine (θ_run Cert.Reference8Ideal.defs _ _).mono (fun r h c => ?_) (Cert.Reference8Ideal.Value.run m' g')
  obtain ⟨h0, h1, h2, h3⟩ := hagree c
  refine ⟨(h c).1.trans ?_, (h c).2.1.trans ?_, (h c).2.2.1.trans ?_, (h c).2.2.2.1.trans ?_, (h c).2.2.2.2.1.trans ?_, (h c).2.2.2.2.2⟩
  · refine (Cert.Reference8Ideal.Read.val_main_v32_eq _ _).trans ?_
    rw [h0, h1]
    exact Cert.Kernel8Ideal.Act.reference_hg m c
  · refine (Cert.Reference8Ideal.Read.val_main_v33_eq _ _).trans ?_
    rw [h0, h1]
    exact Cert.Kernel8Ideal.Act.reference_hv m c
  · refine (Cert.Reference8Ideal.Read.val_main_v30_eq _ _ _ _).trans ?_
    rw [h0, h1, h2, h3]
    exact Cert.Kernel8Ideal.Act.reference_g m c
  · refine (Cert.Reference8Ideal.Read.val_main_v31_eq _ _ _ _).trans ?_
    rw [h0, h1, h2, h3]
    exact Cert.Kernel8Ideal.Act.reference_v m c
  · refine (Cert.Reference8Ideal.Read.val_main_v36_eq m' c).trans ?_
    rw [h0, h1, h2, h3]
    exact Cert.Kernel8Ideal.Act.reference_a m c

/-- The FFN's down-projection with the norms around it. -/
theorem ffn_down_ln [Cert.Kernel9Ideal.Facts] [Cert.Reference9Ideal.Facts] : Cert.algebraic_Kernel9Ideal_Reference9Ideal := by
  intro m g m' g' _ hagree
  refine ⟨fun c => Cert.Kernel9Ideal.DownLn.Gz m c, fun c => Cert.Kernel9Ideal.DownLn.Gh m c, Cert.Kernel9Ideal.DownLn.run m g, ?_⟩
  refine (θ_run Cert.Reference9Ideal.defs _ _).mono (fun r h c => ?_) (Cert.Reference9Ideal.Value.run m' g')
  obtain ⟨h0, h1, h2, h3, h4, h5, h6⟩ := hagree c
  refine ⟨(h c).1.trans ?_, (h c).2.1.trans ?_, (h c).2.2⟩
  · refine (Cert.Reference9Ideal.Read.val_main_v31_eq _ _ _ _ _).trans ?_
    rw [h0, h1, h2, h5, h6]
    exact Cert.Kernel9Ideal.DownLn.reference_z m c
  · refine (Cert.Reference9Ideal.Read.val_main_v58_eq m' c).trans ?_
    rw [h0, h1, h2, h3, h4, h5, h6]
    exact Cert.Kernel9Ideal.DownLn.reference_h m c

theorem sc_in_dw [Cert.Kernel10Ideal.Facts] [Cert.Reference10Ideal.Facts] : Cert.algebraic_Kernel10Ideal_Reference10Ideal := by
  intro m g m' g' _ hagree
  refine ⟨fun c => Cert.Kernel10Ideal.ScInDw.G m c, Cert.Kernel10Ideal.ScInDw.run m g, ?_⟩
  refine (θ_run Cert.Reference10Ideal.defs _ _).mono (fun r h c => ?_) (Cert.Reference10Ideal.Value.run m' g')
  refine ⟨(h c).1.trans ?_, (h c).2⟩
  rw [(hagree c).1, (hagree c).2]
  exact (Cert.Reference10Ideal.Read.val_main_v6_eq _ _).trans (Cert.Kernel10Ideal.ScInDw.reference_eq m c)

theorem lru_in_dw [Cert.Kernel11Ideal.Facts] [Cert.Reference11Ideal.Facts] : Cert.algebraic_Kernel11Ideal_Reference11Ideal := by
  intro m g m' g' _ hagree
  refine ⟨fun c => Cert.Kernel11Ideal.LruInDw.G m c, Cert.Kernel11Ideal.LruInDw.run m g, ?_⟩
  refine (θ_run Cert.Reference11Ideal.defs _ _).mono (fun r h c => ?_) (Cert.Reference11Ideal.Value.run m' g')
  refine ⟨(h c).1.trans ?_, (h c).2⟩
  rw [(hagree c).1, (hagree c).2]
  exact (Cert.Reference11Ideal.Read.val_main_v7_eq _ _).trans (Cert.Kernel11Ideal.LruInDw.reference_eq m c)

theorem lru_out_dw [Cert.Kernel12Ideal.Facts] [Cert.Reference12Ideal.Facts] : Cert.algebraic_Kernel12Ideal_Reference12Ideal := by
  intro m g m' g' _ hagree
  refine ⟨fun c => Cert.Kernel12Ideal.LruOutDw.G m c, Cert.Kernel12Ideal.LruOutDw.run m g, ?_⟩
  refine (θ_run Cert.Reference12Ideal.defs _ _).mono (fun r h c => ?_) (Cert.Reference12Ideal.Value.run m' g')
  refine ⟨(h c).1.trans ?_, (h c).2⟩
  rw [(hagree c).1, (hagree c).2]
  exact (Cert.Reference12Ideal.Read.val_main_v6_eq _ _).trans (Cert.Kernel12Ideal.LruOutDw.reference_eq m c)

theorem sc_out_dw [Cert.Kernel13Ideal.Facts] [Cert.Reference13Ideal.Facts] : Cert.algebraic_Kernel13Ideal_Reference13Ideal := by
  intro m g m' g' _ hagree
  refine ⟨fun c => Cert.Kernel13Ideal.ScOutDw.G m c, Cert.Kernel13Ideal.ScOutDw.run m g, ?_⟩
  refine (θ_run Cert.Reference13Ideal.defs _ _).mono (fun r h c => ?_) (Cert.Reference13Ideal.Value.run m' g')
  refine ⟨(h c).1.trans ?_, (h c).2⟩
  rw [(hagree c).1, (hagree c).2]
  exact (Cert.Reference13Ideal.Read.val_main_v6_eq _ _).trans (Cert.Kernel13Ideal.ScOutDw.reference_eq m c)

theorem lru_out_dx [Cert.Kernel14Ideal.Facts] [Cert.Reference14Ideal.Facts] : Cert.algebraic_Kernel14Ideal_Reference14Ideal := by
  intro m g m' g' _ hagree
  refine ⟨fun c => Cert.Kernel14Ideal.LruOutDx.G m c, Cert.Kernel14Ideal.LruOutDx.run m g, ?_⟩
  refine (θ_run Cert.Reference14Ideal.defs _ _).mono (fun r h c => ?_) (Cert.Reference14Ideal.Value.run m' g')
  refine ⟨(h c).1.trans ?_, (h c).2⟩
  rw [(hagree c).1, (hagree c).2]
  exact (Cert.Reference14Ideal.Read.val_main_v4_eq _ _).trans (Cert.Kernel14Ideal.LruOutDx.reference_eq m c)

theorem sc_out_dx [Cert.Kernel15Ideal.Facts] [Cert.Reference15Ideal.Facts] : Cert.algebraic_Kernel15Ideal_Reference15Ideal := by
  intro m g m' g' _ hagree
  refine ⟨fun c => Cert.Kernel15Ideal.ScOutDx.G m c, Cert.Kernel15Ideal.ScOutDx.run m g, ?_⟩
  refine (θ_run Cert.Reference15Ideal.defs _ _).mono (fun r h c => ?_) (Cert.Reference15Ideal.Value.run m' g')
  refine ⟨(h c).1.trans ?_, (h c).2⟩
  rw [(hagree c).1, (hagree c).2]
  exact (Cert.Reference15Ideal.Read.val_main_v4_eq _ _).trans (Cert.Kernel15Ideal.ScOutDx.reference_eq m c)

theorem first_in_dx [Cert.Kernel16Ideal.Facts] [Cert.Reference16Ideal.Facts] : Cert.algebraic_Kernel16Ideal_Reference16Ideal := by
  intro m g m' g' _ hagree
  refine ⟨fun c => Cert.Kernel16Ideal.FirstDx.G m c, Cert.Kernel16Ideal.FirstDx.run m g, ?_⟩
  refine (θ_run Cert.Reference16Ideal.defs _ _).mono (fun r h c => ?_) (Cert.Reference16Ideal.Value.run m' g')
  refine ⟨(h c).1.trans ?_, (h c).2⟩
  rw [(hagree c).1, (hagree c).2.1, (hagree c).2.2]
  exact (Cert.Reference16Ideal.Read.val_main_v9_eq _ _ _).trans (Cert.Kernel16Ideal.FirstDx.reference_eq m c)

theorem sc_in [Cert.Kernel17Ideal.Facts] [Cert.Reference17Ideal.Facts] : Cert.algebraic_Kernel17Ideal_Reference17Ideal := by
  intro m g m' g' _ hagree
  refine ⟨fun c => Cert.Kernel17Ideal.ScIn.G m c, Cert.Kernel17Ideal.ScIn.run m g, ?_⟩
  refine (θ_run Cert.Reference17Ideal.defs _ _).mono (fun r h c => ?_) (Cert.Reference17Ideal.Value.run m' g')
  refine ⟨(h c).1.trans ?_, (h c).2⟩
  rw [(hagree c).1, (hagree c).2]
  exact (Cert.Reference17Ideal.Read.val_main_v2_eq _ _).trans (Cert.Kernel17Ideal.ScIn.reference_eq m c)

theorem lru_in [Cert.Kernel18Ideal.Facts] [Cert.Reference18Ideal.Facts] : Cert.algebraic_Kernel18Ideal_Reference18Ideal := by
  intro m g m' g' _ hagree
  refine ⟨fun c => Cert.Kernel18Ideal.LruIn.G m c, Cert.Kernel18Ideal.LruIn.run m g, ?_⟩
  refine (θ_run Cert.Reference18Ideal.defs _ _).mono (fun r h c => ?_) (Cert.Reference18Ideal.Value.run m' g')
  refine ⟨(h c).1.trans ?_, (h c).2⟩
  rw [(hagree c).1, (hagree c).2.1, (hagree c).2.2]
  exact (Cert.Reference18Ideal.Read.val_main_v7_eq _ _ _).trans (Cert.Kernel18Ideal.LruIn.reference_eq m c)

theorem lru_out_ln [Cert.Kernel19Ideal.Facts] [Cert.Reference19Ideal.Facts] : Cert.algebraic_Kernel19Ideal_Reference19Ideal := by
  intro m g m' g' _ hagree
  refine ⟨fun c => Cert.Kernel19Ideal.LruOutLn.Gz m c, fun c => Cert.Kernel19Ideal.LruOutLn.Gh m c, Cert.Kernel19Ideal.LruOutLn.run m g, ?_⟩
  refine (θ_run Cert.Reference19Ideal.defs _ _).mono (fun r h c => ?_) (Cert.Reference19Ideal.Value.run m' g')
  obtain ⟨h0, h1, h2, h3, h4, h5, h6⟩ := hagree c
  refine ⟨(h c).1.trans ?_, (h c).2.1.trans ?_, (h c).2.2⟩
  · refine (Cert.Reference19Ideal.Read.val_main_v31_eq _ _ _ _ _).trans ?_
    rw [h0, h1, h2, h5, h6]
    exact Cert.Kernel19Ideal.LruOutLn.reference_z m c
  · refine (Cert.Reference19Ideal.Read.val_main_v58_eq m' c).trans ?_
    rw [h0, h1, h2, h3, h4, h5, h6]
    exact Cert.Kernel19Ideal.LruOutLn.reference_h m c

theorem sc_out_ln [Cert.Kernel20Ideal.Facts] [Cert.Reference20Ideal.Facts] : Cert.algebraic_Kernel20Ideal_Reference20Ideal := by
  intro m g m' g' _ hagree
  refine ⟨fun c => Cert.Kernel20Ideal.ScOutLn.Gz m c, fun c => Cert.Kernel20Ideal.ScOutLn.Gh m c, Cert.Kernel20Ideal.ScOutLn.run m g, ?_⟩
  refine (θ_run Cert.Reference20Ideal.defs _ _).mono (fun r h c => ?_) (Cert.Reference20Ideal.Value.run m' g')
  obtain ⟨h0, h1, h2, h3, h4, h5, h6⟩ := hagree c
  refine ⟨(h c).1.trans ?_, (h c).2.1.trans ?_, (h c).2.2⟩
  · refine (Cert.Reference20Ideal.Read.val_main_v31_eq _ _ _ _ _).trans ?_
    rw [h0, h1, h2, h5, h6]
    exact Cert.Kernel20Ideal.ScOutLn.reference_z m c
  · refine (Cert.Reference20Ideal.Read.val_main_v58_eq m' c).trans ?_
    rw [h0, h1, h2, h3, h4, h5, h6]
    exact Cert.Kernel20Ideal.ScOutLn.reference_h m c

theorem first_out_ln [Cert.Kernel21Ideal.Facts] [Cert.Reference21Ideal.Facts] : Cert.algebraic_Kernel21Ideal_Reference21Ideal := by
  intro m g m' g' _ hagree
  refine ⟨fun c => Cert.Kernel21Ideal.FirstLn.Gz m c, fun c => Cert.Kernel21Ideal.FirstLn.Gh m c, Cert.Kernel21Ideal.FirstLn.run m g, ?_⟩
  refine (θ_run Cert.Reference21Ideal.defs _ _).mono (fun r h c => ?_) (Cert.Reference21Ideal.Value.run m' g')
  obtain ⟨h0, h1, h2, h3, h4⟩ := hagree c
  refine ⟨(h c).1.trans ?_, (h c).2.1.trans ?_, (h c).2.2⟩
  · refine (Cert.Reference21Ideal.Read.val_main_v5_eq _ _ _).trans ?_
    rw [h0, h1, h2]
    exact Cert.Kernel21Ideal.FirstLn.reference_z m c
  · refine (Cert.Reference21Ideal.Read.val_main_v32_eq _ _ _ _ _).trans ?_
    rw [h0, h1, h2, h3, h4]
    exact Cert.Kernel21Ideal.FirstLn.reference_h m c

/-- The gradient of the FFN's activation and of the convolution before it: the kernel's launch and the reference's run end with
    the same two arrays. -/
theorem ffn_act_bwd [Cert.Kernel22Ideal.Facts] [Cert.Reference22Ideal.Facts] [Cert.Pre_act_bwd_finite.Facts] :
    Cert.algebraic_Kernel22Ideal_Reference22Ideal_pre_act_bwd_finite := by
  intro m g m' g' hpre hagree
  have real : ∀ c, Cert.Kernel22Ideal.ActBwd.AllReal m c := fun c =>
    Cert.Kernel22Ideal.ActBwd.entries _ _ _ _ _ _ _ (fun a => a.elim0) (congrFun (hpre c) _)
  refine ⟨fun c => Cert.Kernel22Ideal.ActBwd.Ghg m c, fun c => Cert.Kernel22Ideal.ActBwd.Ghv m c,
    Cert.Kernel22Ideal.ActBwd.run m g, ?_⟩
  refine (θ_run Cert.Reference22Ideal.defs _ _).mono (fun r h c => ?_) (Cert.Reference22Ideal.Value.run m' g')
  obtain ⟨h0, h1, h2, h3, h4, h5, h6⟩ := hagree c
  refine ⟨(h c).1.trans ?_, (h c).2.1.trans ?_, (h c).2.2⟩
  · refine (Cert.Reference22Ideal.Read.val_main_v91_eq m' c).trans ?_
    rw [h2, h3, h4, h5, h6]
    exact Cert.Kernel22Ideal.ActBwd.reference_dhg m c (real c)
  · refine (Cert.Reference22Ideal.Read.val_main_v92_eq _ _ _ _).trans ?_
    rw [h2, h4, h5, h6]
    exact Cert.Kernel22Ideal.ActBwd.reference_dhv m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel3Ideal.Up.facts, Cert.Kernel6Ideal.InDx.facts, Cert.Kernel7Ideal.InDx.facts, Cert.Kernel22Ideal.ActBwd.facts,
  kernel_frame, fun m ρ _ => Cert.KernelIdeal.Reals.frame m ρ,
  fun m ρ _ => Cert.ReferenceIdeal.Unchanged.frame m ρ,
  fun m ρ _ => Cert.Kernel2.Gen.frame m ρ, fun m ρ _ => Cert.Kernel2Ideal.Gen.frame m ρ,
  Cert.Reference2Ideal.Unchanged.frame,
  fun m ρ _ => Cert.Kernel3.Gen.frame m ρ, fun m ρ _ => Cert.Kernel3Ideal.Gen.frame m ρ, fun m ρ _ => Cert.Kernel3Ideal.Gen.frame m ρ,
  Cert.Reference3Ideal.Unchanged.frame, fun m ρ _ => Cert.Reference3Ideal.Unchanged.frame m ρ trivial,
  fun m ρ _ => Cert.Kernel4.Gen.frame m ρ, fun m ρ _ => Cert.Kernel4Ideal.Gen.frame m ρ,
  Cert.Reference4Ideal.Unchanged.frame,
  fun m ρ _ => Cert.Kernel5.Gen.frame m ρ, fun m ρ _ => Cert.Kernel5Ideal.Gen.frame m ρ,
  Cert.Reference5Ideal.Unchanged.frame,
  fun m ρ _ => Cert.Kernel6.Gen.frame m ρ, fun m ρ _ => Cert.Kernel6Ideal.Gen.frame m ρ, fun m ρ _ => Cert.Kernel6Ideal.Gen.frame m ρ,
  Cert.Reference6Ideal.Unchanged.frame, fun m ρ _ => Cert.Reference6Ideal.Unchanged.frame m ρ trivial,
  fun m ρ _ => Cert.Kernel7.Gen.frame m ρ, fun m ρ _ => Cert.Kernel7Ideal.Gen.frame m ρ, fun m ρ _ => Cert.Kernel7Ideal.Gen.frame m ρ,
  Cert.Reference7Ideal.Unchanged.frame, fun m ρ _ => Cert.Reference7Ideal.Unchanged.frame m ρ trivial,
  fun m ρ _ => Cert.Kernel8.Gen.frame m ρ, fun m ρ _ => Cert.Kernel8Ideal.Gen.frame m ρ,
  Cert.Reference8Ideal.Unchanged.frame,
  fun m ρ _ => Cert.Kernel9.Gen.frame m ρ, fun m ρ _ => Cert.Kernel9Ideal.Gen.frame m ρ,
  Cert.Reference9Ideal.Unchanged.frame,
  fun m ρ _ => Cert.Kernel10.Gen.frame m ρ, fun m ρ _ => Cert.Kernel10Ideal.Gen.frame m ρ,
  Cert.Reference10Ideal.Unchanged.frame,
  fun m ρ _ => Cert.Kernel11.Gen.frame m ρ, fun m ρ _ => Cert.Kernel11Ideal.Gen.frame m ρ,
  Cert.Reference11Ideal.Unchanged.frame,
  fun m ρ _ => Cert.Kernel12.Gen.frame m ρ, fun m ρ _ => Cert.Kernel12Ideal.Gen.frame m ρ,
  Cert.Reference12Ideal.Unchanged.frame,
  fun m ρ _ => Cert.Kernel13.Gen.frame m ρ, fun m ρ _ => Cert.Kernel13Ideal.Gen.frame m ρ,
  Cert.Reference13Ideal.Unchanged.frame,
  fun m ρ _ => Cert.Kernel14.Gen.frame m ρ, fun m ρ _ => Cert.Kernel14Ideal.Gen.frame m ρ,
  Cert.Reference14Ideal.Unchanged.frame,
  fun m ρ _ => Cert.Kernel15.Gen.frame m ρ, fun m ρ _ => Cert.Kernel15Ideal.Gen.frame m ρ,
  Cert.Reference15Ideal.Unchanged.frame,
  fun m ρ _ => Cert.Kernel16.Gen.frame m ρ, fun m ρ _ => Cert.Kernel16Ideal.Gen.frame m ρ,
  Cert.Reference16Ideal.Unchanged.frame,
  fun m ρ _ => Cert.Kernel17.Gen.frame m ρ, fun m ρ _ => Cert.Kernel17Ideal.Gen.frame m ρ,
  Cert.Reference17Ideal.Unchanged.frame,
  fun m ρ _ => Cert.Kernel18.Gen.frame m ρ, fun m ρ _ => Cert.Kernel18Ideal.Gen.frame m ρ,
  Cert.Reference18Ideal.Unchanged.frame,
  fun m ρ _ => Cert.Kernel19.Gen.frame m ρ, fun m ρ _ => Cert.Kernel19Ideal.Gen.frame m ρ,
  Cert.Reference19Ideal.Unchanged.frame,
  fun m ρ _ => Cert.Kernel20.Gen.frame m ρ, fun m ρ _ => Cert.Kernel20Ideal.Gen.frame m ρ,
  Cert.Reference20Ideal.Unchanged.frame,
  fun m ρ _ => Cert.Kernel21.Gen.frame m ρ, fun m ρ _ => Cert.Kernel21Ideal.Gen.frame m ρ,
  Cert.Reference21Ideal.Unchanged.frame,
  act_bwd_kernel_frame, act_bwd_frame, fun m ρ _ => act_bwd_frame m ρ trivial,
  Cert.Reference22Ideal.Unchanged.frame, fun m ρ _ => Cert.Reference22Ideal.Unchanged.frame m ρ trivial,
  trivial, trivial, ffn_down_dw, trivial,
  @ffn_up_dx Cert.Kernel3Ideal.Gen.facts Cert.Reference3Ideal.Gen.facts Cert.Kernel3Ideal.Up.facts,
  trivial, ffn_gate_dw, trivial, ffn_value_dw, trivial,
  @lru_in_dx Cert.Kernel6Ideal.Gen.facts Cert.Reference6Ideal.Gen.facts Cert.Kernel6Ideal.InDx.facts, trivial,
  @sc_in_dx Cert.Kernel7Ideal.Gen.facts Cert.Reference7Ideal.Gen.facts Cert.Kernel7Ideal.InDx.facts,
  trivial, ffn_act, trivial, ffn_down_ln, trivial, sc_in_dw, trivial, lru_in_dw, trivial, lru_out_dw, trivial, sc_out_dw,
  trivial, lru_out_dx, trivial, sc_out_dx, trivial, first_in_dx, trivial, sc_in, trivial, lru_in, trivial, lru_out_ln, trivial, sc_out_ln, trivial, first_out_ln,
  trivial, @ffn_act_bwd Cert.Kernel22Ideal.Gen.facts Cert.Reference22Ideal.Gen.facts Cert.Kernel22Ideal.ActBwd.facts⟩

end Cert.Proof

end
